-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnDwd (m : (ℓ : Loc Cert.FfnDwd.nD Cert.FfnDwd.τ Cert.FfnDwd.sig) → Buf (Elt Bits) ℓ) : Prop :=
  True

def Pre_FfnDwdIdeal (m : (ℓ : Loc Cert.FfnDwdIdeal.nD Cert.FfnDwdIdeal.τ Cert.FfnDwdIdeal.sig) → Buf (Elt Ideal) ℓ) : Prop :=
  True

def Pre_FfnDwdRefIdeal (m : (ℓ : Loc Cert.FfnDwdRefIdeal.nD Cert.FfnDwdRefIdeal.τ Cert.FfnDwdRefIdeal.sig) → Buf (Elt Ideal) ℓ) : Prop :=
  True

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_FfnDs (m : (ℓ : Loc Cert.FfnDs.nD Cert.FfnDs.τ Cert.FfnDs.sig) → Buf (Elt Bits) ℓ) : Prop :=
  True

def Pre_FfnDsIdeal (m : (ℓ : Loc Cert.FfnDsIdeal.nD Cert.FfnDsIdeal.τ Cert.FfnDsIdeal.sig) → Buf (Elt Ideal) ℓ) : Prop :=
  True

def Pre_FfnDsIdeal_finite [hPre_finite : Cert.Pre_finite.Facts] (m : (ℓ : Loc Cert.FfnDsIdeal.nD Cert.FfnDsIdeal.τ Cert.FfnDsIdeal.sig) → Buf (Elt Ideal) ℓ) : Prop :=
  ∀ c : Dev Cert.FfnDsIdeal.nD,
    (Cert.Pre_finite.fn (F := Ideal) (m ((c.tc : Thread Cert.FfnDsIdeal.nD Cert.FfnDsIdeal.τ).loc Cert.FfnDsIdeal.main_arg0)) (m ((c.tc : Thread Cert.FfnDsIdeal.nD Cert.FfnDsIdeal.τ).loc Cert.FfnDsIdeal.main_arg1)) (m ((c.tc : Thread Cert.FfnDsIdeal.nD Cert.FfnDsIdeal.τ).loc Cert.FfnDsIdeal.main_arg2)) (m ((c.tc : Thread Cert.FfnDsIdeal.nD Cert.FfnDsIdeal.τ).loc Cert.FfnDsIdeal.main_arg3))).1 = (fun _ => 1#1)
    ∧ (Cert.Pre_finite.fn (F := Ideal) (m ((c.tc : Thread Cert.FfnDsIdeal.nD Cert.FfnDsIdeal.τ).loc Cert.FfnDsIdeal.main_arg0)) (m ((c.tc : Thread Cert.FfnDsIdeal.nD Cert.FfnDsIdeal.τ).loc Cert.FfnDsIdeal.main_arg1)) (m ((c.tc : Thread Cert.FfnDsIdeal.nD Cert.FfnDsIdeal.τ).loc Cert.FfnDsIdeal.main_arg2)) (m ((c.tc : Thread Cert.FfnDsIdeal.nD Cert.FfnDsIdeal.τ).loc Cert.FfnDsIdeal.main_arg3))).2.1 = (fun _ => 1#1)
    ∧ (Cert.Pre_finite.fn (F := Ideal) (m ((c.tc : Thread Cert.FfnDsIdeal.nD Cert.FfnDsIdeal.τ).loc Cert.FfnDsIdeal.main_arg0)) (m ((c.tc : Thread Cert.FfnDsIdeal.nD Cert.FfnDsIdeal.τ).loc Cert.FfnDsIdeal.main_arg1)) (m ((c.tc : Thread Cert.FfnDsIdeal.nD Cert.FfnDsIdeal.τ).loc Cert.FfnDsIdeal.main_arg2)) (m ((c.tc : Thread Cert.FfnDsIdeal.nD Cert.FfnDsIdeal.τ).loc Cert.FfnDsIdeal.main_arg3))).2.2 = (fun _ => 1#1)

def Pre_FfnDsRefIdeal (m : (ℓ : Loc Cert.FfnDsRefIdeal.nD Cert.FfnDsRefIdeal.τ Cert.FfnDsRefIdeal.sig) → Buf (Elt Ideal) ℓ) : Prop :=
  True

def Pre_FfnDsRefIdeal_finite [hPre_finite : Cert.Pre_finite.Facts] (m : (ℓ : Loc Cert.FfnDsRefIdeal.nD Cert.FfnDsRefIdeal.τ Cert.FfnDsRefIdeal.sig) → Buf (Elt Ideal) ℓ) : Prop :=
  ∀ c : Dev Cert.FfnDsRefIdeal.nD,
    (Cert.Pre_finite.fn (F := Ideal) (m ((c.tc : Thread Cert.FfnDsRefIdeal.nD Cert.FfnDsRefIdeal.τ).loc Cert.FfnDsRefIdeal.main_arg0)) (m ((c.tc : Thread Cert.FfnDsRefIdeal.nD Cert.FfnDsRefIdeal.τ).loc Cert.FfnDsRefIdeal.main_arg1)) (m ((c.tc : Thread Cert.FfnDsRefIdeal.nD Cert.FfnDsRefIdeal.τ).loc Cert.FfnDsRefIdeal.main_arg2)) (m ((c.tc : Thread Cert.FfnDsRefIdeal.nD Cert.FfnDsRefIdeal.τ).loc Cert.FfnDsRefIdeal.main_arg3))).1 = (fun _ => 1#1)
    ∧ (Cert.Pre_finite.fn (F := Ideal) (m ((c.tc : Thread Cert.FfnDsRefIdeal.nD Cert.FfnDsRefIdeal.τ).loc Cert.FfnDsRefIdeal.main_arg0)) (m ((c.tc : Thread Cert.FfnDsRefIdeal.nD Cert.FfnDsRefIdeal.τ).loc Cert.FfnDsRefIdeal.main_arg1)) (m ((c.tc : Thread Cert.FfnDsRefIdeal.nD Cert.FfnDsRefIdeal.τ).loc Cert.FfnDsRefIdeal.main_arg2)) (m ((c.tc : Thread Cert.FfnDsRefIdeal.nD Cert.FfnDsRefIdeal.τ).loc Cert.FfnDsRefIdeal.main_arg3))).2.1 = (fun _ => 1#1)
    ∧ (Cert.Pre_finite.fn (F := Ideal) (m ((c.tc : Thread Cert.FfnDsRefIdeal.nD Cert.FfnDsRefIdeal.τ).loc Cert.FfnDsRefIdeal.main_arg0)) (m ((c.tc : Thread Cert.FfnDsRefIdeal.nD Cert.FfnDsRefIdeal.τ).loc Cert.FfnDsRefIdeal.main_arg1)) (m ((c.tc : Thread Cert.FfnDsRefIdeal.nD Cert.FfnDsRefIdeal.τ).loc Cert.FfnDsRefIdeal.main_arg2)) (m ((c.tc : Thread Cert.FfnDsRefIdeal.nD Cert.FfnDsRefIdeal.τ).loc Cert.FfnDsRefIdeal.main_arg3))).2.2 = (fun _ => 1#1)

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateRefIdeal (m : (ℓ : Loc Cert.FfnGateRefIdeal.nD Cert.FfnGateRefIdeal.τ Cert.FfnGateRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_XaDo (m : (ℓ : Loc Cert.XaDo.nD Cert.XaDo.τ Cert.XaDo.sig) → Buf (Elt Bits) ℓ) : Prop :=
  True

def Pre_XaDoIdeal (m : (ℓ : Loc Cert.XaDoIdeal.nD Cert.XaDoIdeal.τ Cert.XaDoIdeal.sig) → Buf (Elt Ideal) ℓ) : Prop :=
  True

def Pre_XaDoRefIdeal (m : (ℓ : Loc Cert.XaDoRefIdeal.nD Cert.XaDoRefIdeal.τ Cert.XaDoRefIdeal.sig) → Buf (Elt Ideal) ℓ) : Prop :=
  True

def Pre_XaDhq (m : (ℓ : Loc Cert.XaDhq.nD Cert.XaDhq.τ Cert.XaDhq.sig) → Buf (Elt Bits) ℓ) : Prop :=
  True

def Pre_XaDhqIdeal (m : (ℓ : Loc Cert.XaDhqIdeal.nD Cert.XaDhqIdeal.τ Cert.XaDhqIdeal.sig) → Buf (Elt Ideal) ℓ) : Prop :=
  True

def Pre_XaDhqRefIdeal (m : (ℓ : Loc Cert.XaDhqRefIdeal.nD Cert.XaDhqRefIdeal.τ Cert.XaDhqRefIdeal.sig) → Buf (Elt Ideal) ℓ) : Prop :=
  True

def Pre_XaDmn (m : (ℓ : Loc Cert.XaDmn.nD Cert.XaDmn.τ Cert.XaDmn.sig) → Buf (Elt Bits) ℓ) : Prop :=
  True

def Pre_XaDmnIdeal (m : (ℓ : Loc Cert.XaDmnIdeal.nD Cert.XaDmnIdeal.τ Cert.XaDmnIdeal.sig) → Buf (Elt Ideal) ℓ) : Prop :=
  True

def Pre_XaDmnRefIdeal (m : (ℓ : Loc Cert.XaDmnRefIdeal.nD Cert.XaDmnRefIdeal.τ Cert.XaDmnRefIdeal.sig) → Buf (Elt Ideal) ℓ) : Prop :=
  True

def Pre_XaDw (m : (ℓ : Loc Cert.XaDw.nD Cert.XaDw.τ Cert.XaDw.sig) → Buf (Elt Bits) ℓ) : Prop :=
  True

def Pre_XaDwIdeal (m : (ℓ : Loc Cert.XaDwIdeal.nD Cert.XaDwIdeal.τ Cert.XaDwIdeal.sig) → Buf (Elt Ideal) ℓ) : Prop :=
  True

def Pre_XaDwRefIdeal (m : (ℓ : Loc Cert.XaDwRefIdeal.nD Cert.XaDwRefIdeal.τ Cert.XaDwRefIdeal.sig) → Buf (Elt Ideal) ℓ) : Prop :=
  True

def Pre_XaDwkv (m : (ℓ : Loc Cert.XaDwkv.nD Cert.XaDwkv.τ Cert.XaDwkv.sig) → Buf (Elt Bits) ℓ) : Prop :=
  True

def Pre_XaDwkvIdeal (m : (ℓ : Loc Cert.XaDwkvIdeal.nD Cert.XaDwkvIdeal.τ Cert.XaDwkvIdeal.sig) → Buf (Elt Ideal) ℓ) : Prop :=
  True

def Pre_XaDwkvRefIdeal (m : (ℓ : Loc Cert.XaDwkvRefIdeal.nD Cert.XaDwkvRefIdeal.τ Cert.XaDwkvRefIdeal.sig) → Buf (Elt Ideal) ℓ) : Prop :=
  True

def Pre_XaBwd (m : (ℓ : Loc Cert.XaBwd.nD Cert.XaBwd.τ Cert.XaBwd.sig) → Buf (Elt Bits) ℓ) : Prop :=
  True

def Pre_XaBwdIdeal (m : (ℓ : Loc Cert.XaBwdIdeal.nD Cert.XaBwdIdeal.τ Cert.XaBwdIdeal.sig) → Buf (Elt Ideal) ℓ) : Prop :=
  True

def Pre_XaBwdIdeal_finite_scores [hPre_finite_scores : Cert.Pre_finite_scores.Facts] (m : (ℓ : Loc Cert.XaBwdIdeal.nD Cert.XaBwdIdeal.τ Cert.XaBwdIdeal.sig) → Buf (Elt Ideal) ℓ) : Prop :=
  ∀ c : Dev Cert.XaBwdIdeal.nD,
    (Cert.Pre_finite_scores.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2)) (m ((c.tc : Thread Cert.XaBwdIdeal.nD Cert.XaBwdIdeal.τ).loc Cert.XaBwdIdeal.main_arg3))).1 = (fun _ => 1#1)
    ∧ (Cert.Pre_finite_scores.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2)) (m ((c.tc : Thread Cert.XaBwdIdeal.nD Cert.XaBwdIdeal.τ).loc Cert.XaBwdIdeal.main_arg3))).2 = (fun _ => 1#1)

def Pre_XaRefIdeal (m : (ℓ : Loc Cert.XaRefIdeal.nD Cert.XaRefIdeal.τ Cert.XaRefIdeal.sig) → Buf (Elt Ideal) ℓ) : Prop :=
  True

def Pre_XaRefIdeal_finite_scores [hPre_finite_scores : Cert.Pre_finite_scores.Facts] (m : (ℓ : Loc Cert.XaRefIdeal.nD Cert.XaRefIdeal.τ Cert.XaRefIdeal.sig) → Buf (Elt Ideal) ℓ) : Prop :=
  ∀ c : Dev Cert.XaRefIdeal.nD,
    (Cert.Pre_finite_scores.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3))).1 = (fun _ => 1#1)
    ∧ (Cert.Pre_finite_scores.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3))).2 = (fun _ => 1#1)

def Pre_MixDwin (m : (ℓ : Loc Cert.MixDwin.nD Cert.MixDwin.τ Cert.MixDwin.sig) → Buf (Elt Bits) ℓ) : Prop :=
  True

def Pre_MixDwinIdeal (m : (ℓ : Loc Cert.MixDwinIdeal.nD Cert.MixDwinIdeal.τ Cert.MixDwinIdeal.sig) → Buf (Elt Ideal) ℓ) : Prop :=
  True

def Pre_MixDwinRefIdeal (m : (ℓ : Loc Cert.MixDwinRefIdeal.nD Cert.MixDwinRefIdeal.τ Cert.MixDwinRefIdeal.sig) → Buf (Elt Ideal) ℓ) : Prop :=
  True

def Pre_MixDh (m : (ℓ : Loc Cert.MixDh.nD Cert.MixDh.τ Cert.MixDh.sig) → Buf (Elt Bits) ℓ) : Prop :=
  True

def Pre_MixDhIdeal (m : (ℓ : Loc Cert.MixDhIdeal.nD Cert.MixDhIdeal.τ Cert.MixDhIdeal.sig) → Buf (Elt Ideal) ℓ) : Prop :=
  True

def Pre_MixDhRefIdeal (m : (ℓ : Loc Cert.MixDhRefIdeal.nD Cert.MixDhRefIdeal.τ Cert.MixDhRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_XaQ (m : (ℓ : Loc Cert.XaQ.nD Cert.XaQ.τ Cert.XaQ.sig) → Buf (Elt Bits) ℓ) : Prop :=
  True

def Pre_XaQIdeal (m : (ℓ : Loc Cert.XaQIdeal.nD Cert.XaQIdeal.τ Cert.XaQIdeal.sig) → Buf (Elt Ideal) ℓ) : Prop :=
  True

def Pre_XaQRefIdeal (m : (ℓ : Loc Cert.XaQRefIdeal.nD Cert.XaQRefIdeal.τ Cert.XaQRefIdeal.sig) → Buf (Elt Ideal) ℓ) : Prop :=
  True

def Pre_XaKv (m : (ℓ : Loc Cert.XaKv.nD Cert.XaKv.τ Cert.XaKv.sig) → Buf (Elt Bits) ℓ) : Prop :=
  True

def Pre_XaKvIdeal (m : (ℓ : Loc Cert.XaKvIdeal.nD Cert.XaKvIdeal.τ Cert.XaKvIdeal.sig) → Buf (Elt Ideal) ℓ) : Prop :=
  True

def Pre_XaKvRefIdeal (m : (ℓ : Loc Cert.XaKvRefIdeal.nD Cert.XaKvRefIdeal.τ Cert.XaKvRefIdeal.sig) → Buf (Elt Ideal) ℓ) : Prop :=
  True

def Pre_XaO (m : (ℓ : Loc Cert.XaO.nD Cert.XaO.τ Cert.XaO.sig) → Buf (Elt Bits) ℓ) : Prop :=
  True

def Pre_XaOIdeal (m : (ℓ : Loc Cert.XaOIdeal.nD Cert.XaOIdeal.τ Cert.XaOIdeal.sig) → Buf (Elt Ideal) ℓ) : Prop :=
  True

def Pre_XaORefIdeal (m : (ℓ : Loc Cert.XaORefIdeal.nD Cert.XaORefIdeal.τ Cert.XaORefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_XaAttn (m : (ℓ : Loc Cert.XaAttn.nD Cert.XaAttn.τ Cert.XaAttn.sig) → Buf (Elt Bits) ℓ) : Prop :=
  True

def Pre_XaAttnIdeal (m : (ℓ : Loc Cert.XaAttnIdeal.nD Cert.XaAttnIdeal.τ Cert.XaAttnIdeal.sig) → Buf (Elt Ideal) ℓ) : Prop :=
  True

def Pre_XaAttnRefIdeal (m : (ℓ : Loc Cert.XaAttnRefIdeal.nD Cert.XaAttnRefIdeal.τ Cert.XaAttnRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_NormKv (m : (ℓ : Loc Cert.NormKv.nD Cert.NormKv.τ Cert.NormKv.sig) → Buf (Elt Bits) ℓ) : Prop :=
  True

def Pre_NormKvIdeal (m : (ℓ : Loc Cert.NormKvIdeal.nD Cert.NormKvIdeal.τ Cert.NormKvIdeal.sig) → Buf (Elt Ideal) ℓ) : Prop :=
  True

def Pre_NormKvRefIdeal (m : (ℓ : Loc Cert.NormKvRefIdeal.nD Cert.NormKvRefIdeal.τ Cert.NormKvRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_PoolBwd1 (m : (ℓ : Loc Cert.PoolBwd1.nD Cert.PoolBwd1.τ Cert.PoolBwd1.sig) → Buf (Elt Bits) ℓ) : Prop :=
  True

def Pre_PoolBwd1Ideal (m : (ℓ : Loc Cert.PoolBwd1Ideal.nD Cert.PoolBwd1Ideal.τ Cert.PoolBwd1Ideal.sig) → Buf (Elt Ideal) ℓ) : Prop :=
  True

def Pre_PoolBwd1RefIdeal (m : (ℓ : Loc Cert.PoolBwd1RefIdeal.nD Cert.PoolBwd1RefIdeal.τ Cert.PoolBwd1RefIdeal.sig) → Buf (Elt Ideal) ℓ) : Prop :=
  True

def Pre_PoolDd (m : (ℓ : Loc Cert.PoolDd.nD Cert.PoolDd.τ Cert.PoolDd.sig) → Buf (Elt Bits) ℓ) : Prop :=
  True

def Pre_PoolDdIdeal (m : (ℓ : Loc Cert.PoolDdIdeal.nD Cert.PoolDdIdeal.τ Cert.PoolDdIdeal.sig) → Buf (Elt Ideal) ℓ) : Prop :=
  True

def Pre_PoolDdRefIdeal (m : (ℓ : Loc Cert.PoolDdRefIdeal.nD Cert.PoolDdRefIdeal.τ Cert.PoolDdRefIdeal.sig) → Buf (Elt Ideal) ℓ) : Prop :=
  True

def Pre_PoolDw (m : (ℓ : Loc Cert.PoolDw.nD Cert.PoolDw.τ Cert.PoolDw.sig) → Buf (Elt Bits) ℓ) : Prop :=
  True

def Pre_PoolDwIdeal (m : (ℓ : Loc Cert.PoolDwIdeal.nD Cert.PoolDwIdeal.τ Cert.PoolDwIdeal.sig) → Buf (Elt Ideal) ℓ) : Prop :=
  True

def Pre_PoolDwRefIdeal (m : (ℓ : Loc Cert.PoolDwRefIdeal.nD Cert.PoolDwRefIdeal.τ Cert.PoolDwRefIdeal.sig) → Buf (Elt Ideal) ℓ) : Prop :=
  True

def Pre_PoolMm (m : (ℓ : Loc Cert.PoolMm.nD Cert.PoolMm.τ Cert.PoolMm.sig) → Buf (Elt Bits) ℓ) : Prop :=
  True

def Pre_PoolMmIdeal (m : (ℓ : Loc Cert.PoolMmIdeal.nD Cert.PoolMmIdeal.τ Cert.PoolMmIdeal.sig) → Buf (Elt Ideal) ℓ) : Prop :=
  True

def Pre_PoolMmRefIdeal (m : (ℓ : Loc Cert.PoolMmRefIdeal.nD Cert.PoolMmRefIdeal.τ Cert.PoolMmRefIdeal.sig) → Buf (Elt Ideal) ℓ) : Prop :=
  True

def Pre_AdamEarly (m : (ℓ : Loc Cert.AdamEarly.nD Cert.AdamEarly.τ Cert.AdamEarly.sig) → Buf (Elt Bits) ℓ) : Prop :=
  True

def Pre_AdamEarlyIdeal (m : (ℓ : Loc Cert.AdamEarlyIdeal.nD Cert.AdamEarlyIdeal.τ Cert.AdamEarlyIdeal.sig) → Buf (Elt Ideal) ℓ) : Prop :=
  True

def Pre_AdamEarlyRefIdeal (m : (ℓ : Loc Cert.AdamEarlyRefIdeal.nD Cert.AdamEarlyRefIdeal.τ Cert.AdamEarlyRefIdeal.sig) → Buf (Elt Ideal) ℓ) : Prop :=
  True

def Pre_AdamLate (m : (ℓ : Loc Cert.AdamLate.nD Cert.AdamLate.τ Cert.AdamLate.sig) → Buf (Elt Bits) ℓ) : Prop :=
  True

def Pre_AdamLateIdeal (m : (ℓ : Loc Cert.AdamLateIdeal.nD Cert.AdamLateIdeal.τ Cert.AdamLateIdeal.sig) → Buf (Elt Ideal) ℓ) : Prop :=
  True

def Pre_AdamLateRefIdeal (m : (ℓ : Loc Cert.AdamLateRefIdeal.nD Cert.AdamLateRefIdeal.τ Cert.AdamLateRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_FfnDwd [hFfnDwd : Cert.FfnDwd.Facts] : Prop :=
  ∀ (m : (ℓ : Loc Cert.FfnDwd.nD Cert.FfnDwd.τ Cert.FfnDwd.sig) → Buf (Elt Bits) ℓ) (g : Dev Cert.FfnDwd.nD → PrngReg), Pre_FfnDwd m →
    θ_run (Cert.FfnDwd.defs (F := Bits)) (onTc (τ := Cert.FfnDwd.τ) (Cert.FfnDwd.main (F := Bits))) ⟨m, fun _ => 0, g⟩ (fun r => (∀ c : Dev Cert.FfnDwd.nD,
      r.2.mem ((c.tc : Thread Cert.FfnDwd.nD Cert.FfnDwd.τ).loc Cert.FfnDwd.main_arg0) = m ((c.tc : Thread Cert.FfnDwd.nD Cert.FfnDwd.τ).loc Cert.FfnDwd.main_arg0)
      ∧ r.2.mem ((c.tc : Thread Cert.FfnDwd.nD Cert.FfnDwd.τ).loc Cert.FfnDwd.main_arg1) = m ((c.tc : Thread Cert.FfnDwd.nD Cert.FfnDwd.τ).loc Cert.FfnDwd.main_arg1))
      ∧ r.2.sem = fun _ => 0)

def quiescent_FfnDwdIdeal [hFfnDwdIdeal : Cert.FfnDwdIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg), Pre_FfnDwdIdeal m →
    θ_run (Cert.FfnDwdIdeal.defs (F := Ideal)) (onTc (τ := Cert.FfnDwdIdeal.τ) (Cert.FfnDwdIdeal.main (F := Ideal))) ⟨m, fun _ => 0, g⟩ (fun r => (∀ c : Dev Cert.FfnDwdIdeal.nD,
      r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
      ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ r.2.sem = fun _ => 0)

def quiescent_FfnDwdRefIdeal [hFfnDwdRefIdeal : Cert.FfnDwdRefIdeal.Facts] : Prop :=
  ∀ (m : (ℓ : Loc Cert.FfnDwdRefIdeal.nD Cert.FfnDwdRefIdeal.τ Cert.FfnDwdRefIdeal.sig) → Buf (Elt Ideal) ℓ) (g : Dev Cert.FfnDwdRefIdeal.nD → PrngReg), Pre_FfnDwdRefIdeal m →
    θ_run (Cert.FfnDwdRefIdeal.defs (F := Ideal)) (onTc (τ := Cert.FfnDwdRefIdeal.τ) (Cert.FfnDwdRefIdeal.main (F := Ideal))) ⟨m, fun _ => 0, g⟩ (fun r => (∀ c : Dev Cert.FfnDwdRefIdeal.nD,
      r.2.mem ((c.tc : Thread Cert.FfnDwdRefIdeal.nD Cert.FfnDwdRefIdeal.τ).loc Cert.FfnDwdRefIdeal.main_arg0) = m ((c.tc : Thread Cert.FfnDwdRefIdeal.nD Cert.FfnDwdRefIdeal.τ).loc Cert.FfnDwdRefIdeal.main_arg0)
      ∧ r.2.mem ((c.tc : Thread Cert.FfnDwdRefIdeal.nD Cert.FfnDwdRefIdeal.τ).loc Cert.FfnDwdRefIdeal.main_arg1) = m ((c.tc : Thread Cert.FfnDwdRefIdeal.nD Cert.FfnDwdRefIdeal.τ).loc Cert.FfnDwdRefIdeal.main_arg1))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3))
      ∧ r.2.sem = fun _ => 0)

def quiescent_FfnDs [hFfnDs : Cert.FfnDs.Facts] : Prop :=
  ∀ (m : (ℓ : Loc Cert.FfnDs.nD Cert.FfnDs.τ Cert.FfnDs.sig) → Buf (Elt Bits) ℓ) (g : Dev Cert.FfnDs.nD → PrngReg), Pre_FfnDs m →
    θ_run (Cert.FfnDs.defs (F := Bits)) (onTc (τ := Cert.FfnDs.τ) (Cert.FfnDs.main (F := Bits))) ⟨m, fun _ => 0, g⟩ (fun r => (∀ c : Dev Cert.FfnDs.nD,
      r.2.mem ((c.tc : Thread Cert.FfnDs.nD Cert.FfnDs.τ).loc Cert.FfnDs.main_arg0) = m ((c.tc : Thread Cert.FfnDs.nD Cert.FfnDs.τ).loc Cert.FfnDs.main_arg0)
      ∧ r.2.mem ((c.tc : Thread Cert.FfnDs.nD Cert.FfnDs.τ).loc Cert.FfnDs.main_arg1) = m ((c.tc : Thread Cert.FfnDs.nD Cert.FfnDs.τ).loc Cert.FfnDs.main_arg1)
      ∧ r.2.mem ((c.tc : Thread Cert.FfnDs.nD Cert.FfnDs.τ).loc Cert.FfnDs.main_arg2) = m ((c.tc : Thread Cert.FfnDs.nD Cert.FfnDs.τ).loc Cert.FfnDs.main_arg2)
      ∧ r.2.mem ((c.tc : Thread Cert.FfnDs.nD Cert.FfnDs.τ).loc Cert.FfnDs.main_arg3) = m ((c.tc : Thread Cert.FfnDs.nD Cert.FfnDs.τ).loc Cert.FfnDs.main_arg3))
      ∧ r.2.sem = fun _ => 0)

def quiescent_FfnDsIdeal [hFfnDsIdeal : Cert.FfnDsIdeal.Facts] : Prop :=
  ∀ (m : (ℓ : Loc Cert.FfnDsIdeal.nD Cert.FfnDsIdeal.τ Cert.FfnDsIdeal.sig) → Buf (Elt Ideal) ℓ) (g : Dev Cert.FfnDsIdeal.nD → PrngReg), Pre_FfnDsIdeal m →
    θ_run (Cert.FfnDsIdeal.defs (F := Ideal)) (onTc (τ := Cert.FfnDsIdeal.τ) (Cert.FfnDsIdeal.main (F := Ideal))) ⟨m, fun _ => 0, g⟩ (fun r => (∀ c : Dev Cert.FfnDsIdeal.nD,
      r.2.mem ((c.tc : Thread Cert.FfnDsIdeal.nD Cert.FfnDsIdeal.τ).loc Cert.FfnDsIdeal.main_arg0) = m ((c.tc : Thread Cert.FfnDsIdeal.nD Cert.FfnDsIdeal.τ).loc Cert.FfnDsIdeal.main_arg0)
      ∧ r.2.mem ((c.tc : Thread Cert.FfnDsIdeal.nD Cert.FfnDsIdeal.τ).loc Cert.FfnDsIdeal.main_arg1) = m ((c.tc : Thread Cert.FfnDsIdeal.nD Cert.FfnDsIdeal.τ).loc Cert.FfnDsIdeal.main_arg1)
      ∧ r.2.mem ((c.tc : Thread Cert.FfnDsIdeal.nD Cert.FfnDsIdeal.τ).loc Cert.FfnDsIdeal.main_arg2) = m ((c.tc : Thread Cert.FfnDsIdeal.nD Cert.FfnDsIdeal.τ).loc Cert.FfnDsIdeal.main_arg2)
      ∧ r.2.mem ((c.tc : Thread Cert.FfnDsIdeal.nD Cert.FfnDsIdeal.τ).loc Cert.FfnDsIdeal.main_arg3) = m ((c.tc : Thread Cert.FfnDsIdeal.nD Cert.FfnDsIdeal.τ).loc Cert.FfnDsIdeal.main_arg3))
      ∧ r.2.sem = fun _ => 0)

def quiescent_FfnDsIdeal_pre_finite [hFfnDsIdeal : Cert.FfnDsIdeal.Facts] [hPre_finite : Cert.Pre_finite.Facts] : Prop :=
  ∀ (m : (ℓ : Loc Cert.FfnDsIdeal.nD Cert.FfnDsIdeal.τ Cert.FfnDsIdeal.sig) → Buf (Elt Ideal) ℓ) (g : Dev Cert.FfnDsIdeal.nD → PrngReg), Pre_FfnDsIdeal_finite m →
    θ_run (Cert.FfnDsIdeal.defs (F := Ideal)) (onTc (τ := Cert.FfnDsIdeal.τ) (Cert.FfnDsIdeal.main (F := Ideal))) ⟨m, fun _ => 0, g⟩ (fun r => (∀ c : Dev Cert.FfnDsIdeal.nD,
      r.2.mem ((c.tc : Thread Cert.FfnDsIdeal.nD Cert.FfnDsIdeal.τ).loc Cert.FfnDsIdeal.main_arg0) = m ((c.tc : Thread Cert.FfnDsIdeal.nD Cert.FfnDsIdeal.τ).loc Cert.FfnDsIdeal.main_arg0)
      ∧ r.2.mem ((c.tc : Thread Cert.FfnDsIdeal.nD Cert.FfnDsIdeal.τ).loc Cert.FfnDsIdeal.main_arg1) = m ((c.tc : Thread Cert.FfnDsIdeal.nD Cert.FfnDsIdeal.τ).loc Cert.FfnDsIdeal.main_arg1)
      ∧ r.2.mem ((c.tc : Thread Cert.FfnDsIdeal.nD Cert.FfnDsIdeal.τ).loc Cert.FfnDsIdeal.main_arg2) = m ((c.tc : Thread Cert.FfnDsIdeal.nD Cert.FfnDsIdeal.τ).loc Cert.FfnDsIdeal.main_arg2)
      ∧ r.2.mem ((c.tc : Thread Cert.FfnDsIdeal.nD Cert.FfnDsIdeal.τ).loc Cert.FfnDsIdeal.main_arg3) = m ((c.tc : Thread Cert.FfnDsIdeal.nD Cert.FfnDsIdeal.τ).loc Cert.FfnDsIdeal.main_arg3))
      ∧ r.2.sem = fun _ => 0)

def quiescent_FfnDsRefIdeal [hFfnDsRefIdeal : Cert.FfnDsRefIdeal.Facts] : Prop :=
  ∀ (m : (ℓ : Loc Cert.FfnDsRefIdeal.nD Cert.FfnDsRefIdeal.τ Cert.FfnDsRefIdeal.sig) → Buf (Elt Ideal) ℓ) (g : Dev Cert.FfnDsRefIdeal.nD → PrngReg), Pre_FfnDsRefIdeal m →
    θ_run (Cert.FfnDsRefIdeal.defs (F := Ideal)) (onTc (τ := Cert.FfnDsRefIdeal.τ) (Cert.FfnDsRefIdeal.main (F := Ideal))) ⟨m, fun _ => 0, g⟩ (fun r => (∀ c : Dev Cert.FfnDsRefIdeal.nD,
      r.2.mem ((c.tc : Thread Cert.FfnDsRefIdeal.nD Cert.FfnDsRefIdeal.τ).loc Cert.FfnDsRefIdeal.main_arg0) = m ((c.tc : Thread Cert.FfnDsRefIdeal.nD Cert.FfnDsRefIdeal.τ).loc Cert.FfnDsRefIdeal.main_arg0)
      ∧ r.2.mem ((c.tc : Thread Cert.FfnDsRefIdeal.nD Cert.FfnDsRefIdeal.τ).loc Cert.FfnDsRefIdeal.main_arg1) = m ((c.tc : Thread Cert.FfnDsRefIdeal.nD Cert.FfnDsRefIdeal.τ).loc Cert.FfnDsRefIdeal.main_arg1)
      ∧ r.2.mem ((c.tc : Thread Cert.FfnDsRefIdeal.nD Cert.FfnDsRefIdeal.τ).loc Cert.FfnDsRefIdeal.main_arg2) = m ((c.tc : Thread Cert.FfnDsRefIdeal.nD Cert.FfnDsRefIdeal.τ).loc Cert.FfnDsRefIdeal.main_arg2)
      ∧ r.2.mem ((c.tc : Thread Cert.FfnDsRefIdeal.nD Cert.FfnDsRefIdeal.τ).loc Cert.FfnDsRefIdeal.main_arg3) = m ((c.tc : Thread Cert.FfnDsRefIdeal.nD Cert.FfnDsRefIdeal.τ).loc Cert.FfnDsRefIdeal.main_arg3))
      ∧ r.2.sem = fun _ => 0)

def quiescent_FfnDsRefIdeal_pre_finite [hFfnDsRefIdeal : Cert.FfnDsRefIdeal.Facts] [hPre_finite : Cert.Pre_finite.Facts] : Prop :=
  ∀ (m : (ℓ : Loc Cert.FfnDsRefIdeal.nD Cert.FfnDsRefIdeal.τ Cert.FfnDsRefIdeal.sig) → Buf (Elt Ideal) ℓ) (g : Dev Cert.FfnDsRefIdeal.nD → PrngReg), Pre_FfnDsRefIdeal_finite m →
    θ_run (Cert.FfnDsRefIdeal.defs (F := Ideal)) (onTc (τ := Cert.FfnDsRefIdeal.τ) (Cert.FfnDsRefIdeal.main (F := Ideal))) ⟨m, fun _ => 0, g⟩ (fun r => (∀ c : Dev Cert.FfnDsRefIdeal.nD,
      r.2.mem ((c.tc : Thread Cert.FfnDsRefIdeal.nD Cert.FfnDsRefIdeal.τ).loc Cert.FfnDsRefIdeal.main_arg0) = m ((c.tc : Thread Cert.FfnDsRefIdeal.nD Cert.FfnDsRefIdeal.τ).loc Cert.FfnDsRefIdeal.main_arg0)
      ∧ r.2.mem ((c.tc : Thread Cert.FfnDsRefIdeal.nD Cert.FfnDsRefIdeal.τ).loc Cert.FfnDsRefIdeal.main_arg1) = m ((c.tc : Thread Cert.FfnDsRefIdeal.nD Cert.FfnDsRefIdeal.τ).loc Cert.FfnDsRefIdeal.main_arg1)
      ∧ r.2.mem ((c.tc : Thread Cert.FfnDsRefIdeal.nD Cert.FfnDsRefIdeal.τ).loc Cert.FfnDsRefIdeal.main_arg2) = m ((c.tc : Thread Cert.FfnDsRefIdeal.nD Cert.FfnDsRefIdeal.τ).loc Cert.FfnDsRefIdeal.main_arg2)
      ∧ r.2.mem ((c.tc : Thread Cert.FfnDsRefIdeal.nD Cert.FfnDsRefIdeal.τ).loc Cert.FfnDsRefIdeal.main_arg3) = m ((c.tc : Thread Cert.FfnDsRefIdeal.nD Cert.FfnDsRefIdeal.τ).loc Cert.FfnDsRefIdeal.main_arg3))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_XaDo [hXaDo : Cert.XaDo.Facts] : Prop :=
  ∀ (m : (ℓ : Loc Cert.XaDo.nD Cert.XaDo.τ Cert.XaDo.sig) → Buf (Elt Bits) ℓ) (g : Dev Cert.XaDo.nD → PrngReg), Pre_XaDo m →
    θ_run (Cert.XaDo.defs (F := Bits)) (onTc (τ := Cert.XaDo.τ) (Cert.XaDo.main (F := Bits))) ⟨m, fun _ => 0, g⟩ (fun r => (∀ c : Dev Cert.XaDo.nD,
      r.2.mem ((c.tc : Thread Cert.XaDo.nD Cert.XaDo.τ).loc Cert.XaDo.main_arg0) = m ((c.tc : Thread Cert.XaDo.nD Cert.XaDo.τ).loc Cert.XaDo.main_arg0)
      ∧ r.2.mem ((c.tc : Thread Cert.XaDo.nD Cert.XaDo.τ).loc Cert.XaDo.main_arg1) = m ((c.tc : Thread Cert.XaDo.nD Cert.XaDo.τ).loc Cert.XaDo.main_arg1))
      ∧ r.2.sem = fun _ => 0)

def quiescent_XaDoIdeal [hXaDoIdeal : Cert.XaDoIdeal.Facts] : Prop :=
  ∀ (m : (ℓ : Loc Cert.XaDoIdeal.nD Cert.XaDoIdeal.τ Cert.XaDoIdeal.sig) → Buf (Elt Ideal) ℓ) (g : Dev Cert.XaDoIdeal.nD → PrngReg), Pre_XaDoIdeal m →
    θ_run (Cert.XaDoIdeal.defs (F := Ideal)) (onTc (τ := Cert.XaDoIdeal.τ) (Cert.XaDoIdeal.main (F := Ideal))) ⟨m, fun _ => 0, g⟩ (fun r => (∀ c : Dev Cert.XaDoIdeal.nD,
      r.2.mem ((c.tc : Thread Cert.XaDoIdeal.nD Cert.XaDoIdeal.τ).loc Cert.XaDoIdeal.main_arg0) = m ((c.tc : Thread Cert.XaDoIdeal.nD Cert.XaDoIdeal.τ).loc Cert.XaDoIdeal.main_arg0)
      ∧ r.2.mem ((c.tc : Thread Cert.XaDoIdeal.nD Cert.XaDoIdeal.τ).loc Cert.XaDoIdeal.main_arg1) = m ((c.tc : Thread Cert.XaDoIdeal.nD Cert.XaDoIdeal.τ).loc Cert.XaDoIdeal.main_arg1))
      ∧ r.2.sem = fun _ => 0)

def quiescent_XaDoRefIdeal [hXaDoRefIdeal : Cert.XaDoRefIdeal.Facts] : Prop :=
  ∀ (m : (ℓ : Loc Cert.XaDoRefIdeal.nD Cert.XaDoRefIdeal.τ Cert.XaDoRefIdeal.sig) → Buf (Elt Ideal) ℓ) (g : Dev Cert.XaDoRefIdeal.nD → PrngReg), Pre_XaDoRefIdeal m →
    θ_run (Cert.XaDoRefIdeal.defs (F := Ideal)) (onTc (τ := Cert.XaDoRefIdeal.τ) (Cert.XaDoRefIdeal.main (F := Ideal))) ⟨m, fun _ => 0, g⟩ (fun r => (∀ c : Dev Cert.XaDoRefIdeal.nD,
      r.2.mem ((c.tc : Thread Cert.XaDoRefIdeal.nD Cert.XaDoRefIdeal.τ).loc Cert.XaDoRefIdeal.main_arg0) = m ((c.tc : Thread Cert.XaDoRefIdeal.nD Cert.XaDoRefIdeal.τ).loc Cert.XaDoRefIdeal.main_arg0)
      ∧ r.2.mem ((c.tc : Thread Cert.XaDoRefIdeal.nD Cert.XaDoRefIdeal.τ).loc Cert.XaDoRefIdeal.main_arg1) = m ((c.tc : Thread Cert.XaDoRefIdeal.nD Cert.XaDoRefIdeal.τ).loc Cert.XaDoRefIdeal.main_arg1))
      ∧ r.2.sem = fun _ => 0)

def quiescent_XaDhq [hXaDhq : Cert.XaDhq.Facts] : Prop :=
  ∀ (m : (ℓ : Loc Cert.XaDhq.nD Cert.XaDhq.τ Cert.XaDhq.sig) → Buf (Elt Bits) ℓ) (g : Dev Cert.XaDhq.nD → PrngReg), Pre_XaDhq m →
    θ_run (Cert.XaDhq.defs (F := Bits)) (onTc (τ := Cert.XaDhq.τ) (Cert.XaDhq.main (F := Bits))) ⟨m, fun _ => 0, g⟩ (fun r => (∀ c : Dev Cert.XaDhq.nD,
      r.2.mem ((c.tc : Thread Cert.XaDhq.nD Cert.XaDhq.τ).loc Cert.XaDhq.main_arg0) = m ((c.tc : Thread Cert.XaDhq.nD Cert.XaDhq.τ).loc Cert.XaDhq.main_arg0)
      ∧ r.2.mem ((c.tc : Thread Cert.XaDhq.nD Cert.XaDhq.τ).loc Cert.XaDhq.main_arg1) = m ((c.tc : Thread Cert.XaDhq.nD Cert.XaDhq.τ).loc Cert.XaDhq.main_arg1))
      ∧ r.2.sem = fun _ => 0)

def quiescent_XaDhqIdeal [hXaDhqIdeal : Cert.XaDhqIdeal.Facts] : Prop :=
  ∀ (m : (ℓ : Loc Cert.XaDhqIdeal.nD Cert.XaDhqIdeal.τ Cert.XaDhqIdeal.sig) → Buf (Elt Ideal) ℓ) (g : Dev Cert.XaDhqIdeal.nD → PrngReg), Pre_XaDhqIdeal m →
    θ_run (Cert.XaDhqIdeal.defs (F := Ideal)) (onTc (τ := Cert.XaDhqIdeal.τ) (Cert.XaDhqIdeal.main (F := Ideal))) ⟨m, fun _ => 0, g⟩ (fun r => (∀ c : Dev Cert.XaDhqIdeal.nD,
      r.2.mem ((c.tc : Thread Cert.XaDhqIdeal.nD Cert.XaDhqIdeal.τ).loc Cert.XaDhqIdeal.main_arg0) = m ((c.tc : Thread Cert.XaDhqIdeal.nD Cert.XaDhqIdeal.τ).loc Cert.XaDhqIdeal.main_arg0)
      ∧ r.2.mem ((c.tc : Thread Cert.XaDhqIdeal.nD Cert.XaDhqIdeal.τ).loc Cert.XaDhqIdeal.main_arg1) = m ((c.tc : Thread Cert.XaDhqIdeal.nD Cert.XaDhqIdeal.τ).loc Cert.XaDhqIdeal.main_arg1))
      ∧ r.2.sem = fun _ => 0)

def quiescent_XaDhqRefIdeal [hXaDhqRefIdeal : Cert.XaDhqRefIdeal.Facts] : Prop :=
  ∀ (m : (ℓ : Loc Cert.XaDhqRefIdeal.nD Cert.XaDhqRefIdeal.τ Cert.XaDhqRefIdeal.sig) → Buf (Elt Ideal) ℓ) (g : Dev Cert.XaDhqRefIdeal.nD → PrngReg), Pre_XaDhqRefIdeal m →
    θ_run (Cert.XaDhqRefIdeal.defs (F := Ideal)) (onTc (τ := Cert.XaDhqRefIdeal.τ) (Cert.XaDhqRefIdeal.main (F := Ideal))) ⟨m, fun _ => 0, g⟩ (fun r => (∀ c : Dev Cert.XaDhqRefIdeal.nD,
      r.2.mem ((c.tc : Thread Cert.XaDhqRefIdeal.nD Cert.XaDhqRefIdeal.τ).loc Cert.XaDhqRefIdeal.main_arg0) = m ((c.tc : Thread Cert.XaDhqRefIdeal.nD Cert.XaDhqRefIdeal.τ).loc Cert.XaDhqRefIdeal.main_arg0)
      ∧ r.2.mem ((c.tc : Thread Cert.XaDhqRefIdeal.nD Cert.XaDhqRefIdeal.τ).loc Cert.XaDhqRefIdeal.main_arg1) = m ((c.tc : Thread Cert.XaDhqRefIdeal.nD Cert.XaDhqRefIdeal.τ).loc Cert.XaDhqRefIdeal.main_arg1))
      ∧ r.2.sem = fun _ => 0)

def quiescent_XaDmn [hXaDmn : Cert.XaDmn.Facts] : Prop :=
  ∀ (m : (ℓ : Loc Cert.XaDmn.nD Cert.XaDmn.τ Cert.XaDmn.sig) → Buf (Elt Bits) ℓ) (g : Dev Cert.XaDmn.nD → PrngReg), Pre_XaDmn m →
    θ_run (Cert.XaDmn.defs (F := Bits)) (onTc (τ := Cert.XaDmn.τ) (Cert.XaDmn.main (F := Bits))) ⟨m, fun _ => 0, g⟩ (fun r => (∀ c : Dev Cert.XaDmn.nD,
      r.2.mem ((c.tc : Thread Cert.XaDmn.nD Cert.XaDmn.τ).loc Cert.XaDmn.main_arg0) = m ((c.tc : Thread Cert.XaDmn.nD Cert.XaDmn.τ).loc Cert.XaDmn.main_arg0)
      ∧ r.2.mem ((c.tc : Thread Cert.XaDmn.nD Cert.XaDmn.τ).loc Cert.XaDmn.main_arg1) = m ((c.tc : Thread Cert.XaDmn.nD Cert.XaDmn.τ).loc Cert.XaDmn.main_arg1)
      ∧ r.2.mem ((c.tc : Thread Cert.XaDmn.nD Cert.XaDmn.τ).loc Cert.XaDmn.main_arg2) = m ((c.tc : Thread Cert.XaDmn.nD Cert.XaDmn.τ).loc Cert.XaDmn.main_arg2)
      ∧ r.2.mem ((c.tc : Thread Cert.XaDmn.nD Cert.XaDmn.τ).loc Cert.XaDmn.main_arg3) = m ((c.tc : Thread Cert.XaDmn.nD Cert.XaDmn.τ).loc Cert.XaDmn.main_arg3))
      ∧ r.2.sem = fun _ => 0)

def quiescent_XaDmnIdeal [hXaDmnIdeal : Cert.XaDmnIdeal.Facts] : Prop :=
  ∀ (m : (ℓ : Loc Cert.XaDmnIdeal.nD Cert.XaDmnIdeal.τ Cert.XaDmnIdeal.sig) → Buf (Elt Ideal) ℓ) (g : Dev Cert.XaDmnIdeal.nD → PrngReg), Pre_XaDmnIdeal m →
    θ_run (Cert.XaDmnIdeal.defs (F := Ideal)) (onTc (τ := Cert.XaDmnIdeal.τ) (Cert.XaDmnIdeal.main (F := Ideal))) ⟨m, fun _ => 0, g⟩ (fun r => (∀ c : Dev Cert.XaDmnIdeal.nD,
      r.2.mem ((c.tc : Thread Cert.XaDmnIdeal.nD Cert.XaDmnIdeal.τ).loc Cert.XaDmnIdeal.main_arg0) = m ((c.tc : Thread Cert.XaDmnIdeal.nD Cert.XaDmnIdeal.τ).loc Cert.XaDmnIdeal.main_arg0)
      ∧ r.2.mem ((c.tc : Thread Cert.XaDmnIdeal.nD Cert.XaDmnIdeal.τ).loc Cert.XaDmnIdeal.main_arg1) = m ((c.tc : Thread Cert.XaDmnIdeal.nD Cert.XaDmnIdeal.τ).loc Cert.XaDmnIdeal.main_arg1)
      ∧ r.2.mem ((c.tc : Thread Cert.XaDmnIdeal.nD Cert.XaDmnIdeal.τ).loc Cert.XaDmnIdeal.main_arg2) = m ((c.tc : Thread Cert.XaDmnIdeal.nD Cert.XaDmnIdeal.τ).loc Cert.XaDmnIdeal.main_arg2)
      ∧ r.2.mem ((c.tc : Thread Cert.XaDmnIdeal.nD Cert.XaDmnIdeal.τ).loc Cert.XaDmnIdeal.main_arg3) = m ((c.tc : Thread Cert.XaDmnIdeal.nD Cert.XaDmnIdeal.τ).loc Cert.XaDmnIdeal.main_arg3))
      ∧ r.2.sem = fun _ => 0)

def quiescent_XaDmnRefIdeal [hXaDmnRefIdeal : Cert.XaDmnRefIdeal.Facts] : Prop :=
  ∀ (m : (ℓ : Loc Cert.XaDmnRefIdeal.nD Cert.XaDmnRefIdeal.τ Cert.XaDmnRefIdeal.sig) → Buf (Elt Ideal) ℓ) (g : Dev Cert.XaDmnRefIdeal.nD → PrngReg), Pre_XaDmnRefIdeal m →
    θ_run (Cert.XaDmnRefIdeal.defs (F := Ideal)) (onTc (τ := Cert.XaDmnRefIdeal.τ) (Cert.XaDmnRefIdeal.main (F := Ideal))) ⟨m, fun _ => 0, g⟩ (fun r => (∀ c : Dev Cert.XaDmnRefIdeal.nD,
      r.2.mem ((c.tc : Thread Cert.XaDmnRefIdeal.nD Cert.XaDmnRefIdeal.τ).loc Cert.XaDmnRefIdeal.main_arg0) = m ((c.tc : Thread Cert.XaDmnRefIdeal.nD Cert.XaDmnRefIdeal.τ).loc Cert.XaDmnRefIdeal.main_arg0)
      ∧ r.2.mem ((c.tc : Thread Cert.XaDmnRefIdeal.nD Cert.XaDmnRefIdeal.τ).loc Cert.XaDmnRefIdeal.main_arg1) = m ((c.tc : Thread Cert.XaDmnRefIdeal.nD Cert.XaDmnRefIdeal.τ).loc Cert.XaDmnRefIdeal.main_arg1)
      ∧ r.2.mem ((c.tc : Thread Cert.XaDmnRefIdeal.nD Cert.XaDmnRefIdeal.τ).loc Cert.XaDmnRefIdeal.main_arg2) = m ((c.tc : Thread Cert.XaDmnRefIdeal.nD Cert.XaDmnRefIdeal.τ).loc Cert.XaDmnRefIdeal.main_arg2)
      ∧ r.2.mem ((c.tc : Thread Cert.XaDmnRefIdeal.nD Cert.XaDmnRefIdeal.τ).loc Cert.XaDmnRefIdeal.main_arg3) = m ((c.tc : Thread Cert.XaDmnRefIdeal.nD Cert.XaDmnRefIdeal.τ).loc Cert.XaDmnRefIdeal.main_arg3))
      ∧ r.2.sem = fun _ => 0)

def quiescent_XaDw [hXaDw : Cert.XaDw.Facts] : Prop :=
  ∀ (m : (ℓ : Loc Cert.XaDw.nD Cert.XaDw.τ Cert.XaDw.sig) → Buf (Elt Bits) ℓ) (g : Dev Cert.XaDw.nD → PrngReg), Pre_XaDw m →
    θ_run (Cert.XaDw.defs (F := Bits)) (onTc (τ := Cert.XaDw.τ) (Cert.XaDw.main (F := Bits))) ⟨m, fun _ => 0, g⟩ (fun r => (∀ c : Dev Cert.XaDw.nD,
      r.2.mem ((c.tc : Thread Cert.XaDw.nD Cert.XaDw.τ).loc Cert.XaDw.main_arg0) = m ((c.tc : Thread Cert.XaDw.nD Cert.XaDw.τ).loc Cert.XaDw.main_arg0)
      ∧ r.2.mem ((c.tc : Thread Cert.XaDw.nD Cert.XaDw.τ).loc Cert.XaDw.main_arg1) = m ((c.tc : Thread Cert.XaDw.nD Cert.XaDw.τ).loc Cert.XaDw.main_arg1))
      ∧ r.2.sem = fun _ => 0)

def quiescent_XaDwIdeal [hXaDwIdeal : Cert.XaDwIdeal.Facts] : Prop :=
  ∀ (m : (ℓ : Loc Cert.XaDwIdeal.nD Cert.XaDwIdeal.τ Cert.XaDwIdeal.sig) → Buf (Elt Ideal) ℓ) (g : Dev Cert.XaDwIdeal.nD → PrngReg), Pre_XaDwIdeal m →
    θ_run (Cert.XaDwIdeal.defs (F := Ideal)) (onTc (τ := Cert.XaDwIdeal.τ) (Cert.XaDwIdeal.main (F := Ideal))) ⟨m, fun _ => 0, g⟩ (fun r => (∀ c : Dev Cert.XaDwIdeal.nD,
      r.2.mem ((c.tc : Thread Cert.XaDwIdeal.nD Cert.XaDwIdeal.τ).loc Cert.XaDwIdeal.main_arg0) = m ((c.tc : Thread Cert.XaDwIdeal.nD Cert.XaDwIdeal.τ).loc Cert.XaDwIdeal.main_arg0)
      ∧ r.2.mem ((c.tc : Thread Cert.XaDwIdeal.nD Cert.XaDwIdeal.τ).loc Cert.XaDwIdeal.main_arg1) = m ((c.tc : Thread Cert.XaDwIdeal.nD Cert.XaDwIdeal.τ).loc Cert.XaDwIdeal.main_arg1))
      ∧ r.2.sem = fun _ => 0)

def quiescent_XaDwRefIdeal [hXaDwRefIdeal : Cert.XaDwRefIdeal.Facts] : Prop :=
  ∀ (m : (ℓ : Loc Cert.XaDwRefIdeal.nD Cert.XaDwRefIdeal.τ Cert.XaDwRefIdeal.sig) → Buf (Elt Ideal) ℓ) (g : Dev Cert.XaDwRefIdeal.nD → PrngReg), Pre_XaDwRefIdeal m →
    θ_run (Cert.XaDwRefIdeal.defs (F := Ideal)) (onTc (τ := Cert.XaDwRefIdeal.τ) (Cert.XaDwRefIdeal.main (F := Ideal))) ⟨m, fun _ => 0, g⟩ (fun r => (∀ c : Dev Cert.XaDwRefIdeal.nD,
      r.2.mem ((c.tc : Thread Cert.XaDwRefIdeal.nD Cert.XaDwRefIdeal.τ).loc Cert.XaDwRefIdeal.main_arg0) = m ((c.tc : Thread Cert.XaDwRefIdeal.nD Cert.XaDwRefIdeal.τ).loc Cert.XaDwRefIdeal.main_arg0)
      ∧ r.2.mem ((c.tc : Thread Cert.XaDwRefIdeal.nD Cert.XaDwRefIdeal.τ).loc Cert.XaDwRefIdeal.main_arg1) = m ((c.tc : Thread Cert.XaDwRefIdeal.nD Cert.XaDwRefIdeal.τ).loc Cert.XaDwRefIdeal.main_arg1))
      ∧ r.2.sem = fun _ => 0)

def quiescent_XaDwkv [hXaDwkv : Cert.XaDwkv.Facts] : Prop :=
  ∀ (m : (ℓ : Loc Cert.XaDwkv.nD Cert.XaDwkv.τ Cert.XaDwkv.sig) → Buf (Elt Bits) ℓ) (g : Dev Cert.XaDwkv.nD → PrngReg), Pre_XaDwkv m →
    θ_run (Cert.XaDwkv.defs (F := Bits)) (onTc (τ := Cert.XaDwkv.τ) (Cert.XaDwkv.main (F := Bits))) ⟨m, fun _ => 0, g⟩ (fun r => (∀ c : Dev Cert.XaDwkv.nD,
      r.2.mem ((c.tc : Thread Cert.XaDwkv.nD Cert.XaDwkv.τ).loc Cert.XaDwkv.main_arg0) = m ((c.tc : Thread Cert.XaDwkv.nD Cert.XaDwkv.τ).loc Cert.XaDwkv.main_arg0)
      ∧ r.2.mem ((c.tc : Thread Cert.XaDwkv.nD Cert.XaDwkv.τ).loc Cert.XaDwkv.main_arg1) = m ((c.tc : Thread Cert.XaDwkv.nD Cert.XaDwkv.τ).loc Cert.XaDwkv.main_arg1)
      ∧ r.2.mem ((c.tc : Thread Cert.XaDwkv.nD Cert.XaDwkv.τ).loc Cert.XaDwkv.main_arg2) = m ((c.tc : Thread Cert.XaDwkv.nD Cert.XaDwkv.τ).loc Cert.XaDwkv.main_arg2))
      ∧ r.2.sem = fun _ => 0)

def quiescent_XaDwkvIdeal [hXaDwkvIdeal : Cert.XaDwkvIdeal.Facts] : Prop :=
  ∀ (m : (ℓ : Loc Cert.XaDwkvIdeal.nD Cert.XaDwkvIdeal.τ Cert.XaDwkvIdeal.sig) → Buf (Elt Ideal) ℓ) (g : Dev Cert.XaDwkvIdeal.nD → PrngReg), Pre_XaDwkvIdeal m →
    θ_run (Cert.XaDwkvIdeal.defs (F := Ideal)) (onTc (τ := Cert.XaDwkvIdeal.τ) (Cert.XaDwkvIdeal.main (F := Ideal))) ⟨m, fun _ => 0, g⟩ (fun r => (∀ c : Dev Cert.XaDwkvIdeal.nD,
      r.2.mem ((c.tc : Thread Cert.XaDwkvIdeal.nD Cert.XaDwkvIdeal.τ).loc Cert.XaDwkvIdeal.main_arg0) = m ((c.tc : Thread Cert.XaDwkvIdeal.nD Cert.XaDwkvIdeal.τ).loc Cert.XaDwkvIdeal.main_arg0)
      ∧ r.2.mem ((c.tc : Thread Cert.XaDwkvIdeal.nD Cert.XaDwkvIdeal.τ).loc Cert.XaDwkvIdeal.main_arg1) = m ((c.tc : Thread Cert.XaDwkvIdeal.nD Cert.XaDwkvIdeal.τ).loc Cert.XaDwkvIdeal.main_arg1)
      ∧ r.2.mem ((c.tc : Thread Cert.XaDwkvIdeal.nD Cert.XaDwkvIdeal.τ).loc Cert.XaDwkvIdeal.main_arg2) = m ((c.tc : Thread Cert.XaDwkvIdeal.nD Cert.XaDwkvIdeal.τ).loc Cert.XaDwkvIdeal.main_arg2))
      ∧ r.2.sem = fun _ => 0)

def quiescent_XaDwkvRefIdeal [hXaDwkvRefIdeal : Cert.XaDwkvRefIdeal.Facts] : Prop :=
  ∀ (m : (ℓ : Loc Cert.XaDwkvRefIdeal.nD Cert.XaDwkvRefIdeal.τ Cert.XaDwkvRefIdeal.sig) → Buf (Elt Ideal) ℓ) (g : Dev Cert.XaDwkvRefIdeal.nD → PrngReg), Pre_XaDwkvRefIdeal m →
    θ_run (Cert.XaDwkvRefIdeal.defs (F := Ideal)) (onTc (τ := Cert.XaDwkvRefIdeal.τ) (Cert.XaDwkvRefIdeal.main (F := Ideal))) ⟨m, fun _ => 0, g⟩ (fun r => (∀ c : Dev Cert.XaDwkvRefIdeal.nD,
      r.2.mem ((c.tc : Thread Cert.XaDwkvRefIdeal.nD Cert.XaDwkvRefIdeal.τ).loc Cert.XaDwkvRefIdeal.main_arg0) = m ((c.tc : Thread Cert.XaDwkvRefIdeal.nD Cert.XaDwkvRefIdeal.τ).loc Cert.XaDwkvRefIdeal.main_arg0)
      ∧ r.2.mem ((c.tc : Thread Cert.XaDwkvRefIdeal.nD Cert.XaDwkvRefIdeal.τ).loc Cert.XaDwkvRefIdeal.main_arg1) = m ((c.tc : Thread Cert.XaDwkvRefIdeal.nD Cert.XaDwkvRefIdeal.τ).loc Cert.XaDwkvRefIdeal.main_arg1)
      ∧ r.2.mem ((c.tc : Thread Cert.XaDwkvRefIdeal.nD Cert.XaDwkvRefIdeal.τ).loc Cert.XaDwkvRefIdeal.main_arg2) = m ((c.tc : Thread Cert.XaDwkvRefIdeal.nD Cert.XaDwkvRefIdeal.τ).loc Cert.XaDwkvRefIdeal.main_arg2))
      ∧ r.2.sem = fun _ => 0)

def quiescent_XaBwd [hXaBwd : Cert.XaBwd.Facts] : Prop :=
  ∀ (m : (ℓ : Loc Cert.XaBwd.nD Cert.XaBwd.τ Cert.XaBwd.sig) → Buf (Elt Bits) ℓ) (g : Dev Cert.XaBwd.nD → PrngReg), Pre_XaBwd m →
    θ_run (Cert.XaBwd.defs (F := Bits)) (onTc (τ := Cert.XaBwd.τ) (Cert.XaBwd.main (F := Bits))) ⟨m, fun _ => 0, g⟩ (fun r => (∀ c : Dev Cert.XaBwd.nD,
      r.2.mem ((c.tc : Thread Cert.XaBwd.nD Cert.XaBwd.τ).loc Cert.XaBwd.main_arg0) = m ((c.tc : Thread Cert.XaBwd.nD Cert.XaBwd.τ).loc Cert.XaBwd.main_arg0)
      ∧ r.2.mem ((c.tc : Thread Cert.XaBwd.nD Cert.XaBwd.τ).loc Cert.XaBwd.main_arg1) = m ((c.tc : Thread Cert.XaBwd.nD Cert.XaBwd.τ).loc Cert.XaBwd.main_arg1)
      ∧ r.2.mem ((c.tc : Thread Cert.XaBwd.nD Cert.XaBwd.τ).loc Cert.XaBwd.main_arg2) = m ((c.tc : Thread Cert.XaBwd.nD Cert.XaBwd.τ).loc Cert.XaBwd.main_arg2)
      ∧ r.2.mem ((c.tc : Thread Cert.XaBwd.nD Cert.XaBwd.τ).loc Cert.XaBwd.main_arg3) = m ((c.tc : Thread Cert.XaBwd.nD Cert.XaBwd.τ).loc Cert.XaBwd.main_arg3))
      ∧ r.2.sem = fun _ => 0)

def quiescent_XaBwdIdeal [hXaBwdIdeal : Cert.XaBwdIdeal.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
      ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3))
      ∧ r.2.sem = fun _ => 0)

def quiescent_XaBwdIdeal_pre_finite_scores [hXaBwdIdeal : Cert.XaBwdIdeal.Facts] [hPre_finite_scores : Cert.Pre_finite_scores.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal_finite_scores m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
      ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3))
      ∧ r.2.sem = fun _ => 0)

def quiescent_XaRefIdeal [hXaRefIdeal : Cert.XaRefIdeal.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3))
      ∧ r.2.sem = fun _ => 0)

def quiescent_XaRefIdeal_pre_finite_scores [hXaRefIdeal : Cert.XaRefIdeal.Facts] [hPre_finite_scores : Cert.Pre_finite_scores.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal_finite_scores m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3))
      ∧ r.2.sem = fun _ => 0)

def quiescent_MixDwin [hMixDwin : Cert.MixDwin.Facts] : Prop :=
  ∀ (m : (ℓ : Loc Cert.MixDwin.nD Cert.MixDwin.τ Cert.MixDwin.sig) → Buf (Elt Bits) ℓ) (g : Dev Cert.MixDwin.nD → PrngReg), Pre_MixDwin m →
    θ_run (Cert.MixDwin.defs (F := Bits)) (onTc (τ := Cert.MixDwin.τ) (Cert.MixDwin.main (F := Bits))) ⟨m, fun _ => 0, g⟩ (fun r => (∀ c : Dev Cert.MixDwin.nD,
      r.2.mem ((c.tc : Thread Cert.MixDwin.nD Cert.MixDwin.τ).loc Cert.MixDwin.main_arg0) = m ((c.tc : Thread Cert.MixDwin.nD Cert.MixDwin.τ).loc Cert.MixDwin.main_arg0)
      ∧ r.2.mem ((c.tc : Thread Cert.MixDwin.nD Cert.MixDwin.τ).loc Cert.MixDwin.main_arg1) = m ((c.tc : Thread Cert.MixDwin.nD Cert.MixDwin.τ).loc Cert.MixDwin.main_arg1))
      ∧ r.2.sem = fun _ => 0)

def quiescent_MixDwinIdeal [hMixDwinIdeal : Cert.MixDwinIdeal.Facts] : Prop :=
  ∀ (m : (ℓ : Loc Cert.MixDwinIdeal.nD Cert.MixDwinIdeal.τ Cert.MixDwinIdeal.sig) → Buf (Elt Ideal) ℓ) (g : Dev Cert.MixDwinIdeal.nD → PrngReg), Pre_MixDwinIdeal m →
    θ_run (Cert.MixDwinIdeal.defs (F := Ideal)) (onTc (τ := Cert.MixDwinIdeal.τ) (Cert.MixDwinIdeal.main (F := Ideal))) ⟨m, fun _ => 0, g⟩ (fun r => (∀ c : Dev Cert.MixDwinIdeal.nD,
      r.2.mem ((c.tc : Thread Cert.MixDwinIdeal.nD Cert.MixDwinIdeal.τ).loc Cert.MixDwinIdeal.main_arg0) = m ((c.tc : Thread Cert.MixDwinIdeal.nD Cert.MixDwinIdeal.τ).loc Cert.MixDwinIdeal.main_arg0)
      ∧ r.2.mem ((c.tc : Thread Cert.MixDwinIdeal.nD Cert.MixDwinIdeal.τ).loc Cert.MixDwinIdeal.main_arg1) = m ((c.tc : Thread Cert.MixDwinIdeal.nD Cert.MixDwinIdeal.τ).loc Cert.MixDwinIdeal.main_arg1))
      ∧ r.2.sem = fun _ => 0)

def quiescent_MixDwinRefIdeal [hMixDwinRefIdeal : Cert.MixDwinRefIdeal.Facts] : Prop :=
  ∀ (m : (ℓ : Loc Cert.MixDwinRefIdeal.nD Cert.MixDwinRefIdeal.τ Cert.MixDwinRefIdeal.sig) → Buf (Elt Ideal) ℓ) (g : Dev Cert.MixDwinRefIdeal.nD → PrngReg), Pre_MixDwinRefIdeal m →
    θ_run (Cert.MixDwinRefIdeal.defs (F := Ideal)) (onTc (τ := Cert.MixDwinRefIdeal.τ) (Cert.MixDwinRefIdeal.main (F := Ideal))) ⟨m, fun _ => 0, g⟩ (fun r => (∀ c : Dev Cert.MixDwinRefIdeal.nD,
      r.2.mem ((c.tc : Thread Cert.MixDwinRefIdeal.nD Cert.MixDwinRefIdeal.τ).loc Cert.MixDwinRefIdeal.main_arg0) = m ((c.tc : Thread Cert.MixDwinRefIdeal.nD Cert.MixDwinRefIdeal.τ).loc Cert.MixDwinRefIdeal.main_arg0)
      ∧ r.2.mem ((c.tc : Thread Cert.MixDwinRefIdeal.nD Cert.MixDwinRefIdeal.τ).loc Cert.MixDwinRefIdeal.main_arg1) = m ((c.tc : Thread Cert.MixDwinRefIdeal.nD Cert.MixDwinRefIdeal.τ).loc Cert.MixDwinRefIdeal.main_arg1))
      ∧ r.2.sem = fun _ => 0)

def quiescent_MixDh [hMixDh : Cert.MixDh.Facts] : Prop :=
  ∀ (m : (ℓ : Loc Cert.MixDh.nD Cert.MixDh.τ Cert.MixDh.sig) → Buf (Elt Bits) ℓ) (g : Dev Cert.MixDh.nD → PrngReg), Pre_MixDh m →
    θ_run (Cert.MixDh.defs (F := Bits)) (onTc (τ := Cert.MixDh.τ) (Cert.MixDh.main (F := Bits))) ⟨m, fun _ => 0, g⟩ (fun r => (∀ c : Dev Cert.MixDh.nD,
      r.2.mem ((c.tc : Thread Cert.MixDh.nD Cert.MixDh.τ).loc Cert.MixDh.main_arg0) = m ((c.tc : Thread Cert.MixDh.nD Cert.MixDh.τ).loc Cert.MixDh.main_arg0)
      ∧ r.2.mem ((c.tc : Thread Cert.MixDh.nD Cert.MixDh.τ).loc Cert.MixDh.main_arg1) = m ((c.tc : Thread Cert.MixDh.nD Cert.MixDh.τ).loc Cert.MixDh.main_arg1))
      ∧ r.2.sem = fun _ => 0)

def quiescent_MixDhIdeal [hMixDhIdeal : Cert.MixDhIdeal.Facts] : Prop :=
  ∀ (m : (ℓ : Loc Cert.MixDhIdeal.nD Cert.MixDhIdeal.τ Cert.MixDhIdeal.sig) → Buf (Elt Ideal) ℓ) (g : Dev Cert.MixDhIdeal.nD → PrngReg), Pre_MixDhIdeal m →
    θ_run (Cert.MixDhIdeal.defs (F := Ideal)) (onTc (τ := Cert.MixDhIdeal.τ) (Cert.MixDhIdeal.main (F := Ideal))) ⟨m, fun _ => 0, g⟩ (fun r => (∀ c : Dev Cert.MixDhIdeal.nD,
      r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
      ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1))
      ∧ r.2.sem = fun _ => 0)

def quiescent_MixDhRefIdeal [hMixDhRefIdeal : Cert.MixDhRefIdeal.Facts] : Prop :=
  ∀ (m : (ℓ : Loc Cert.MixDhRefIdeal.nD Cert.MixDhRefIdeal.τ Cert.MixDhRefIdeal.sig) → Buf (Elt Ideal) ℓ) (g : Dev Cert.MixDhRefIdeal.nD → PrngReg), Pre_MixDhRefIdeal m →
    θ_run (Cert.MixDhRefIdeal.defs (F := Ideal)) (onTc (τ := Cert.MixDhRefIdeal.τ) (Cert.MixDhRefIdeal.main (F := Ideal))) ⟨m, fun _ => 0, g⟩ (fun r => (∀ c : Dev Cert.MixDhRefIdeal.nD,
      r.2.mem ((c.tc : Thread Cert.MixDhRefIdeal.nD Cert.MixDhRefIdeal.τ).loc Cert.MixDhRefIdeal.main_arg0) = m ((c.tc : Thread Cert.MixDhRefIdeal.nD Cert.MixDhRefIdeal.τ).loc Cert.MixDhRefIdeal.main_arg0)
      ∧ r.2.mem ((c.tc : Thread Cert.MixDhRefIdeal.nD Cert.MixDhRefIdeal.τ).loc Cert.MixDhRefIdeal.main_arg1) = m ((c.tc : Thread Cert.MixDhRefIdeal.nD Cert.MixDhRefIdeal.τ).loc Cert.MixDhRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_XaQ [hXaQ : Cert.XaQ.Facts] : Prop :=
  ∀ (m : (ℓ : Loc Cert.XaQ.nD Cert.XaQ.τ Cert.XaQ.sig) → Buf (Elt Bits) ℓ) (g : Dev Cert.XaQ.nD → PrngReg), Pre_XaQ m →
    θ_run (Cert.XaQ.defs (F := Bits)) (onTc (τ := Cert.XaQ.τ) (Cert.XaQ.main (F := Bits))) ⟨m, fun _ => 0, g⟩ (fun r => (∀ c : Dev Cert.XaQ.nD,
      r.2.mem ((c.tc : Thread Cert.XaQ.nD Cert.XaQ.τ).loc Cert.XaQ.main_arg0) = m ((c.tc : Thread Cert.XaQ.nD Cert.XaQ.τ).loc Cert.XaQ.main_arg0)
      ∧ r.2.mem ((c.tc : Thread Cert.XaQ.nD Cert.XaQ.τ).loc Cert.XaQ.main_arg1) = m ((c.tc : Thread Cert.XaQ.nD Cert.XaQ.τ).loc Cert.XaQ.main_arg1))
      ∧ r.2.sem = fun _ => 0)

def quiescent_XaQIdeal [hXaQIdeal : Cert.XaQIdeal.Facts] : Prop :=
  ∀ (m : (ℓ : Loc Cert.XaQIdeal.nD Cert.XaQIdeal.τ Cert.XaQIdeal.sig) → Buf (Elt Ideal) ℓ) (g : Dev Cert.XaQIdeal.nD → PrngReg), Pre_XaQIdeal m →
    θ_run (Cert.XaQIdeal.defs (F := Ideal)) (onTc (τ := Cert.XaQIdeal.τ) (Cert.XaQIdeal.main (F := Ideal))) ⟨m, fun _ => 0, g⟩ (fun r => (∀ c : Dev Cert.XaQIdeal.nD,
      r.2.mem ((c.tc : Thread Cert.XaQIdeal.nD Cert.XaQIdeal.τ).loc Cert.XaQIdeal.main_arg0) = m ((c.tc : Thread Cert.XaQIdeal.nD Cert.XaQIdeal.τ).loc Cert.XaQIdeal.main_arg0)
      ∧ r.2.mem ((c.tc : Thread Cert.XaQIdeal.nD Cert.XaQIdeal.τ).loc Cert.XaQIdeal.main_arg1) = m ((c.tc : Thread Cert.XaQIdeal.nD Cert.XaQIdeal.τ).loc Cert.XaQIdeal.main_arg1))
      ∧ r.2.sem = fun _ => 0)

def quiescent_XaQRefIdeal [hXaQRefIdeal : Cert.XaQRefIdeal.Facts] : Prop :=
  ∀ (m : (ℓ : Loc Cert.XaQRefIdeal.nD Cert.XaQRefIdeal.τ Cert.XaQRefIdeal.sig) → Buf (Elt Ideal) ℓ) (g : Dev Cert.XaQRefIdeal.nD → PrngReg), Pre_XaQRefIdeal m →
    θ_run (Cert.XaQRefIdeal.defs (F := Ideal)) (onTc (τ := Cert.XaQRefIdeal.τ) (Cert.XaQRefIdeal.main (F := Ideal))) ⟨m, fun _ => 0, g⟩ (fun r => (∀ c : Dev Cert.XaQRefIdeal.nD,
      r.2.mem ((c.tc : Thread Cert.XaQRefIdeal.nD Cert.XaQRefIdeal.τ).loc Cert.XaQRefIdeal.main_arg0) = m ((c.tc : Thread Cert.XaQRefIdeal.nD Cert.XaQRefIdeal.τ).loc Cert.XaQRefIdeal.main_arg0)
      ∧ r.2.mem ((c.tc : Thread Cert.XaQRefIdeal.nD Cert.XaQRefIdeal.τ).loc Cert.XaQRefIdeal.main_arg1) = m ((c.tc : Thread Cert.XaQRefIdeal.nD Cert.XaQRefIdeal.τ).loc Cert.XaQRefIdeal.main_arg1))
      ∧ r.2.sem = fun _ => 0)

def quiescent_XaKv [hXaKv : Cert.XaKv.Facts] : Prop :=
  ∀ (m : (ℓ : Loc Cert.XaKv.nD Cert.XaKv.τ Cert.XaKv.sig) → Buf (Elt Bits) ℓ) (g : Dev Cert.XaKv.nD → PrngReg), Pre_XaKv m →
    θ_run (Cert.XaKv.defs (F := Bits)) (onTc (τ := Cert.XaKv.τ) (Cert.XaKv.main (F := Bits))) ⟨m, fun _ => 0, g⟩ (fun r => (∀ c : Dev Cert.XaKv.nD,
      r.2.mem ((c.tc : Thread Cert.XaKv.nD Cert.XaKv.τ).loc Cert.XaKv.main_arg0) = m ((c.tc : Thread Cert.XaKv.nD Cert.XaKv.τ).loc Cert.XaKv.main_arg0)
      ∧ r.2.mem ((c.tc : Thread Cert.XaKv.nD Cert.XaKv.τ).loc Cert.XaKv.main_arg1) = m ((c.tc : Thread Cert.XaKv.nD Cert.XaKv.τ).loc Cert.XaKv.main_arg1))
      ∧ r.2.sem = fun _ => 0)

def quiescent_XaKvIdeal [hXaKvIdeal : Cert.XaKvIdeal.Facts] : Prop :=
  ∀ (m : (ℓ : Loc Cert.XaKvIdeal.nD Cert.XaKvIdeal.τ Cert.XaKvIdeal.sig) → Buf (Elt Ideal) ℓ) (g : Dev Cert.XaKvIdeal.nD → PrngReg), Pre_XaKvIdeal m →
    θ_run (Cert.XaKvIdeal.defs (F := Ideal)) (onTc (τ := Cert.XaKvIdeal.τ) (Cert.XaKvIdeal.main (F := Ideal))) ⟨m, fun _ => 0, g⟩ (fun r => (∀ c : Dev Cert.XaKvIdeal.nD,
      r.2.mem ((c.tc : Thread Cert.XaKvIdeal.nD Cert.XaKvIdeal.τ).loc Cert.XaKvIdeal.main_arg0) = m ((c.tc : Thread Cert.XaKvIdeal.nD Cert.XaKvIdeal.τ).loc Cert.XaKvIdeal.main_arg0)
      ∧ r.2.mem ((c.tc : Thread Cert.XaKvIdeal.nD Cert.XaKvIdeal.τ).loc Cert.XaKvIdeal.main_arg1) = m ((c.tc : Thread Cert.XaKvIdeal.nD Cert.XaKvIdeal.τ).loc Cert.XaKvIdeal.main_arg1))
      ∧ r.2.sem = fun _ => 0)

def quiescent_XaKvRefIdeal [hXaKvRefIdeal : Cert.XaKvRefIdeal.Facts] : Prop :=
  ∀ (m : (ℓ : Loc Cert.XaKvRefIdeal.nD Cert.XaKvRefIdeal.τ Cert.XaKvRefIdeal.sig) → Buf (Elt Ideal) ℓ) (g : Dev Cert.XaKvRefIdeal.nD → PrngReg), Pre_XaKvRefIdeal m →
    θ_run (Cert.XaKvRefIdeal.defs (F := Ideal)) (onTc (τ := Cert.XaKvRefIdeal.τ) (Cert.XaKvRefIdeal.main (F := Ideal))) ⟨m, fun _ => 0, g⟩ (fun r => (∀ c : Dev Cert.XaKvRefIdeal.nD,
      r.2.mem ((c.tc : Thread Cert.XaKvRefIdeal.nD Cert.XaKvRefIdeal.τ).loc Cert.XaKvRefIdeal.main_arg0) = m ((c.tc : Thread Cert.XaKvRefIdeal.nD Cert.XaKvRefIdeal.τ).loc Cert.XaKvRefIdeal.main_arg0)
      ∧ r.2.mem ((c.tc : Thread Cert.XaKvRefIdeal.nD Cert.XaKvRefIdeal.τ).loc Cert.XaKvRefIdeal.main_arg1) = m ((c.tc : Thread Cert.XaKvRefIdeal.nD Cert.XaKvRefIdeal.τ).loc Cert.XaKvRefIdeal.main_arg1))
      ∧ r.2.sem = fun _ => 0)

def quiescent_XaO [hXaO : Cert.XaO.Facts] : Prop :=
  ∀ (m : (ℓ : Loc Cert.XaO.nD Cert.XaO.τ Cert.XaO.sig) → Buf (Elt Bits) ℓ) (g : Dev Cert.XaO.nD → PrngReg), Pre_XaO m →
    θ_run (Cert.XaO.defs (F := Bits)) (onTc (τ := Cert.XaO.τ) (Cert.XaO.main (F := Bits))) ⟨m, fun _ => 0, g⟩ (fun r => (∀ c : Dev Cert.XaO.nD,
      r.2.mem ((c.tc : Thread Cert.XaO.nD Cert.XaO.τ).loc Cert.XaO.main_arg0) = m ((c.tc : Thread Cert.XaO.nD Cert.XaO.τ).loc Cert.XaO.main_arg0)
      ∧ r.2.mem ((c.tc : Thread Cert.XaO.nD Cert.XaO.τ).loc Cert.XaO.main_arg1) = m ((c.tc : Thread Cert.XaO.nD Cert.XaO.τ).loc Cert.XaO.main_arg1)
      ∧ r.2.mem ((c.tc : Thread Cert.XaO.nD Cert.XaO.τ).loc Cert.XaO.main_arg2) = m ((c.tc : Thread Cert.XaO.nD Cert.XaO.τ).loc Cert.XaO.main_arg2))
      ∧ r.2.sem = fun _ => 0)

def quiescent_XaOIdeal [hXaOIdeal : Cert.XaOIdeal.Facts] : Prop :=
  ∀ (m : (ℓ : Loc Cert.XaOIdeal.nD Cert.XaOIdeal.τ Cert.XaOIdeal.sig) → Buf (Elt Ideal) ℓ) (g : Dev Cert.XaOIdeal.nD → PrngReg), Pre_XaOIdeal m →
    θ_run (Cert.XaOIdeal.defs (F := Ideal)) (onTc (τ := Cert.XaOIdeal.τ) (Cert.XaOIdeal.main (F := Ideal))) ⟨m, fun _ => 0, g⟩ (fun r => (∀ c : Dev Cert.XaOIdeal.nD,
      r.2.mem ((c.tc : Thread Cert.XaOIdeal.nD Cert.XaOIdeal.τ).loc Cert.XaOIdeal.main_arg0) = m ((c.tc : Thread Cert.XaOIdeal.nD Cert.XaOIdeal.τ).loc Cert.XaOIdeal.main_arg0)
      ∧ r.2.mem ((c.tc : Thread Cert.XaOIdeal.nD Cert.XaOIdeal.τ).loc Cert.XaOIdeal.main_arg1) = m ((c.tc : Thread Cert.XaOIdeal.nD Cert.XaOIdeal.τ).loc Cert.XaOIdeal.main_arg1)
      ∧ r.2.mem ((c.tc : Thread Cert.XaOIdeal.nD Cert.XaOIdeal.τ).loc Cert.XaOIdeal.main_arg2) = m ((c.tc : Thread Cert.XaOIdeal.nD Cert.XaOIdeal.τ).loc Cert.XaOIdeal.main_arg2))
      ∧ r.2.sem = fun _ => 0)

def quiescent_XaORefIdeal [hXaORefIdeal : Cert.XaORefIdeal.Facts] : Prop :=
  ∀ (m : (ℓ : Loc Cert.XaORefIdeal.nD Cert.XaORefIdeal.τ Cert.XaORefIdeal.sig) → Buf (Elt Ideal) ℓ) (g : Dev Cert.XaORefIdeal.nD → PrngReg), Pre_XaORefIdeal m →
    θ_run (Cert.XaORefIdeal.defs (F := Ideal)) (onTc (τ := Cert.XaORefIdeal.τ) (Cert.XaORefIdeal.main (F := Ideal))) ⟨m, fun _ => 0, g⟩ (fun r => (∀ c : Dev Cert.XaORefIdeal.nD,
      r.2.mem ((c.tc : Thread Cert.XaORefIdeal.nD Cert.XaORefIdeal.τ).loc Cert.XaORefIdeal.main_arg0) = m ((c.tc : Thread Cert.XaORefIdeal.nD Cert.XaORefIdeal.τ).loc Cert.XaORefIdeal.main_arg0)
      ∧ r.2.mem ((c.tc : Thread Cert.XaORefIdeal.nD Cert.XaORefIdeal.τ).loc Cert.XaORefIdeal.main_arg1) = m ((c.tc : Thread Cert.XaORefIdeal.nD Cert.XaORefIdeal.τ).loc Cert.XaORefIdeal.main_arg1)
      ∧ r.2.mem ((c.tc : Thread Cert.XaORefIdeal.nD Cert.XaORefIdeal.τ).loc Cert.XaORefIdeal.main_arg2) = m ((c.tc : Thread Cert.XaORefIdeal.nD Cert.XaORefIdeal.τ).loc Cert.XaORefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_XaAttn [hXaAttn : Cert.XaAttn.Facts] : Prop :=
  ∀ (m : (ℓ : Loc Cert.XaAttn.nD Cert.XaAttn.τ Cert.XaAttn.sig) → Buf (Elt Bits) ℓ) (g : Dev Cert.XaAttn.nD → PrngReg), Pre_XaAttn m →
    θ_run (Cert.XaAttn.defs (F := Bits)) (onTc (τ := Cert.XaAttn.τ) (Cert.XaAttn.main (F := Bits))) ⟨m, fun _ => 0, g⟩ (fun r => (∀ c : Dev Cert.XaAttn.nD,
      r.2.mem ((c.tc : Thread Cert.XaAttn.nD Cert.XaAttn.τ).loc Cert.XaAttn.main_arg0) = m ((c.tc : Thread Cert.XaAttn.nD Cert.XaAttn.τ).loc Cert.XaAttn.main_arg0)
      ∧ r.2.mem ((c.tc : Thread Cert.XaAttn.nD Cert.XaAttn.τ).loc Cert.XaAttn.main_arg1) = m ((c.tc : Thread Cert.XaAttn.nD Cert.XaAttn.τ).loc Cert.XaAttn.main_arg1)
      ∧ r.2.mem ((c.tc : Thread Cert.XaAttn.nD Cert.XaAttn.τ).loc Cert.XaAttn.main_arg2) = m ((c.tc : Thread Cert.XaAttn.nD Cert.XaAttn.τ).loc Cert.XaAttn.main_arg2))
      ∧ r.2.sem = fun _ => 0)

def quiescent_XaAttnIdeal [hXaAttnIdeal : Cert.XaAttnIdeal.Facts] : Prop :=
  ∀ (m : (ℓ : Loc Cert.XaAttnIdeal.nD Cert.XaAttnIdeal.τ Cert.XaAttnIdeal.sig) → Buf (Elt Ideal) ℓ) (g : Dev Cert.XaAttnIdeal.nD → PrngReg), Pre_XaAttnIdeal m →
    θ_run (Cert.XaAttnIdeal.defs (F := Ideal)) (onTc (τ := Cert.XaAttnIdeal.τ) (Cert.XaAttnIdeal.main (F := Ideal))) ⟨m, fun _ => 0, g⟩ (fun r => (∀ c : Dev Cert.XaAttnIdeal.nD,
      r.2.mem ((c.tc : Thread Cert.XaAttnIdeal.nD Cert.XaAttnIdeal.τ).loc Cert.XaAttnIdeal.main_arg0) = m ((c.tc : Thread Cert.XaAttnIdeal.nD Cert.XaAttnIdeal.τ).loc Cert.XaAttnIdeal.main_arg0)
      ∧ r.2.mem ((c.tc : Thread Cert.XaAttnIdeal.nD Cert.XaAttnIdeal.τ).loc Cert.XaAttnIdeal.main_arg1) = m ((c.tc : Thread Cert.XaAttnIdeal.nD Cert.XaAttnIdeal.τ).loc Cert.XaAttnIdeal.main_arg1)
      ∧ r.2.mem ((c.tc : Thread Cert.XaAttnIdeal.nD Cert.XaAttnIdeal.τ).loc Cert.XaAttnIdeal.main_arg2) = m ((c.tc : Thread Cert.XaAttnIdeal.nD Cert.XaAttnIdeal.τ).loc Cert.XaAttnIdeal.main_arg2))
      ∧ r.2.sem = fun _ => 0)

def quiescent_XaAttnRefIdeal [hXaAttnRefIdeal : Cert.XaAttnRefIdeal.Facts] : Prop :=
  ∀ (m : (ℓ : Loc Cert.XaAttnRefIdeal.nD Cert.XaAttnRefIdeal.τ Cert.XaAttnRefIdeal.sig) → Buf (Elt Ideal) ℓ) (g : Dev Cert.XaAttnRefIdeal.nD → PrngReg), Pre_XaAttnRefIdeal m →
    θ_run (Cert.XaAttnRefIdeal.defs (F := Ideal)) (onTc (τ := Cert.XaAttnRefIdeal.τ) (Cert.XaAttnRefIdeal.main (F := Ideal))) ⟨m, fun _ => 0, g⟩ (fun r => (∀ c : Dev Cert.XaAttnRefIdeal.nD,
      r.2.mem ((c.tc : Thread Cert.XaAttnRefIdeal.nD Cert.XaAttnRefIdeal.τ).loc Cert.XaAttnRefIdeal.main_arg0) = m ((c.tc : Thread Cert.XaAttnRefIdeal.nD Cert.XaAttnRefIdeal.τ).loc Cert.XaAttnRefIdeal.main_arg0)
      ∧ r.2.mem ((c.tc : Thread Cert.XaAttnRefIdeal.nD Cert.XaAttnRefIdeal.τ).loc Cert.XaAttnRefIdeal.main_arg1) = m ((c.tc : Thread Cert.XaAttnRefIdeal.nD Cert.XaAttnRefIdeal.τ).loc Cert.XaAttnRefIdeal.main_arg1)
      ∧ r.2.mem ((c.tc : Thread Cert.XaAttnRefIdeal.nD Cert.XaAttnRefIdeal.τ).loc Cert.XaAttnRefIdeal.main_arg2) = m ((c.tc : Thread Cert.XaAttnRefIdeal.nD Cert.XaAttnRefIdeal.τ).loc Cert.XaAttnRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_NormKv [hNormKv : Cert.NormKv.Facts] : Prop :=
  ∀ (m : (ℓ : Loc Cert.NormKv.nD Cert.NormKv.τ Cert.NormKv.sig) → Buf (Elt Bits) ℓ) (g : Dev Cert.NormKv.nD → PrngReg), Pre_NormKv m →
    θ_run (Cert.NormKv.defs (F := Bits)) (onTc (τ := Cert.NormKv.τ) (Cert.NormKv.main (F := Bits))) ⟨m, fun _ => 0, g⟩ (fun r => (∀ c : Dev Cert.NormKv.nD,
      r.2.mem ((c.tc : Thread Cert.NormKv.nD Cert.NormKv.τ).loc Cert.NormKv.main_arg0) = m ((c.tc : Thread Cert.NormKv.nD Cert.NormKv.τ).loc Cert.NormKv.main_arg0)
      ∧ r.2.mem ((c.tc : Thread Cert.NormKv.nD Cert.NormKv.τ).loc Cert.NormKv.main_arg1) = m ((c.tc : Thread Cert.NormKv.nD Cert.NormKv.τ).loc Cert.NormKv.main_arg1)
      ∧ r.2.mem ((c.tc : Thread Cert.NormKv.nD Cert.NormKv.τ).loc Cert.NormKv.main_arg2) = m ((c.tc : Thread Cert.NormKv.nD Cert.NormKv.τ).loc Cert.NormKv.main_arg2))
      ∧ r.2.sem = fun _ => 0)

def quiescent_NormKvIdeal [hNormKvIdeal : Cert.NormKvIdeal.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
      ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ r.2.sem = fun _ => 0)

def quiescent_NormKvRefIdeal [hNormKvRefIdeal : Cert.NormKvRefIdeal.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1)
      ∧ r.2.mem ((c.tc : Thread Cert.NormKvRefIdeal.nD Cert.NormKvRefIdeal.τ).loc Cert.NormKvRefIdeal.main_arg2) = m ((c.tc : Thread Cert.NormKvRefIdeal.nD Cert.NormKvRefIdeal.τ).loc Cert.NormKvRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3)
      ∧ r.2.mem ((c.tc : Thread Cert.AdamPoolRefIdeal.nD Cert.AdamPoolRefIdeal.τ).loc Cert.AdamPoolRefIdeal.main_arg4) = m ((c.tc : Thread Cert.AdamPoolRefIdeal.nD Cert.AdamPoolRefIdeal.τ).loc Cert.AdamPoolRefIdeal.main_arg4))
      ∧ r.2.sem = fun _ => 0)

def quiescent_PoolBwd1 [hPoolBwd1 : Cert.PoolBwd1.Facts] : Prop :=
  ∀ (m : (ℓ : Loc Cert.PoolBwd1.nD Cert.PoolBwd1.τ Cert.PoolBwd1.sig) → Buf (Elt Bits) ℓ) (g : Dev Cert.PoolBwd1.nD → PrngReg), Pre_PoolBwd1 m →
    θ_run (Cert.PoolBwd1.defs (F := Bits)) (onTc (τ := Cert.PoolBwd1.τ) (Cert.PoolBwd1.main (F := Bits))) ⟨m, fun _ => 0, g⟩ (fun r => (∀ c : Dev Cert.PoolBwd1.nD,
      r.2.mem ((c.tc : Thread Cert.PoolBwd1.nD Cert.PoolBwd1.τ).loc Cert.PoolBwd1.main_arg0) = m ((c.tc : Thread Cert.PoolBwd1.nD Cert.PoolBwd1.τ).loc Cert.PoolBwd1.main_arg0)
      ∧ r.2.mem ((c.tc : Thread Cert.PoolBwd1.nD Cert.PoolBwd1.τ).loc Cert.PoolBwd1.main_arg1) = m ((c.tc : Thread Cert.PoolBwd1.nD Cert.PoolBwd1.τ).loc Cert.PoolBwd1.main_arg1)
      ∧ r.2.mem ((c.tc : Thread Cert.PoolBwd1.nD Cert.PoolBwd1.τ).loc Cert.PoolBwd1.main_arg2) = m ((c.tc : Thread Cert.PoolBwd1.nD Cert.PoolBwd1.τ).loc Cert.PoolBwd1.main_arg2))
      ∧ r.2.sem = fun _ => 0)

def quiescent_PoolBwd1Ideal [hPoolBwd1Ideal : Cert.PoolBwd1Ideal.Facts] : Prop :=
  ∀ (m : (ℓ : Loc Cert.PoolBwd1Ideal.nD Cert.PoolBwd1Ideal.τ Cert.PoolBwd1Ideal.sig) → Buf (Elt Ideal) ℓ) (g : Dev Cert.PoolBwd1Ideal.nD → PrngReg), Pre_PoolBwd1Ideal m →
    θ_run (Cert.PoolBwd1Ideal.defs (F := Ideal)) (onTc (τ := Cert.PoolBwd1Ideal.τ) (Cert.PoolBwd1Ideal.main (F := Ideal))) ⟨m, fun _ => 0, g⟩ (fun r => (∀ c : Dev Cert.PoolBwd1Ideal.nD,
      r.2.mem ((c.tc : Thread Cert.PoolBwd1Ideal.nD Cert.PoolBwd1Ideal.τ).loc Cert.PoolBwd1Ideal.main_arg0) = m ((c.tc : Thread Cert.PoolBwd1Ideal.nD Cert.PoolBwd1Ideal.τ).loc Cert.PoolBwd1Ideal.main_arg0)
      ∧ r.2.mem ((c.tc : Thread Cert.PoolBwd1Ideal.nD Cert.PoolBwd1Ideal.τ).loc Cert.PoolBwd1Ideal.main_arg1) = m ((c.tc : Thread Cert.PoolBwd1Ideal.nD Cert.PoolBwd1Ideal.τ).loc Cert.PoolBwd1Ideal.main_arg1)
      ∧ r.2.mem ((c.tc : Thread Cert.PoolBwd1Ideal.nD Cert.PoolBwd1Ideal.τ).loc Cert.PoolBwd1Ideal.main_arg2) = m ((c.tc : Thread Cert.PoolBwd1Ideal.nD Cert.PoolBwd1Ideal.τ).loc Cert.PoolBwd1Ideal.main_arg2))
      ∧ r.2.sem = fun _ => 0)

def quiescent_PoolBwd1RefIdeal [hPoolBwd1RefIdeal : Cert.PoolBwd1RefIdeal.Facts] : Prop :=
  ∀ (m : (ℓ : Loc Cert.PoolBwd1RefIdeal.nD Cert.PoolBwd1RefIdeal.τ Cert.PoolBwd1RefIdeal.sig) → Buf (Elt Ideal) ℓ) (g : Dev Cert.PoolBwd1RefIdeal.nD → PrngReg), Pre_PoolBwd1RefIdeal m →
    θ_run (Cert.PoolBwd1RefIdeal.defs (F := Ideal)) (onTc (τ := Cert.PoolBwd1RefIdeal.τ) (Cert.PoolBwd1RefIdeal.main (F := Ideal))) ⟨m, fun _ => 0, g⟩ (fun r => (∀ c : Dev Cert.PoolBwd1RefIdeal.nD,
      r.2.mem ((c.tc : Thread Cert.PoolBwd1RefIdeal.nD Cert.PoolBwd1RefIdeal.τ).loc Cert.PoolBwd1RefIdeal.main_arg0) = m ((c.tc : Thread Cert.PoolBwd1RefIdeal.nD Cert.PoolBwd1RefIdeal.τ).loc Cert.PoolBwd1RefIdeal.main_arg0)
      ∧ r.2.mem ((c.tc : Thread Cert.PoolBwd1RefIdeal.nD Cert.PoolBwd1RefIdeal.τ).loc Cert.PoolBwd1RefIdeal.main_arg1) = m ((c.tc : Thread Cert.PoolBwd1RefIdeal.nD Cert.PoolBwd1RefIdeal.τ).loc Cert.PoolBwd1RefIdeal.main_arg1)
      ∧ r.2.mem ((c.tc : Thread Cert.PoolBwd1RefIdeal.nD Cert.PoolBwd1RefIdeal.τ).loc Cert.PoolBwd1RefIdeal.main_arg2) = m ((c.tc : Thread Cert.PoolBwd1RefIdeal.nD Cert.PoolBwd1RefIdeal.τ).loc Cert.PoolBwd1RefIdeal.main_arg2))
      ∧ r.2.sem = fun _ => 0)

def quiescent_PoolDd [hPoolDd : Cert.PoolDd.Facts] : Prop :=
  ∀ (m : (ℓ : Loc Cert.PoolDd.nD Cert.PoolDd.τ Cert.PoolDd.sig) → Buf (Elt Bits) ℓ) (g : Dev Cert.PoolDd.nD → PrngReg), Pre_PoolDd m →
    θ_run (Cert.PoolDd.defs (F := Bits)) (onTc (τ := Cert.PoolDd.τ) (Cert.PoolDd.main (F := Bits))) ⟨m, fun _ => 0, g⟩ (fun r => (∀ c : Dev Cert.PoolDd.nD,
      r.2.mem ((c.tc : Thread Cert.PoolDd.nD Cert.PoolDd.τ).loc Cert.PoolDd.main_arg0) = m ((c.tc : Thread Cert.PoolDd.nD Cert.PoolDd.τ).loc Cert.PoolDd.main_arg0)
      ∧ r.2.mem ((c.tc : Thread Cert.PoolDd.nD Cert.PoolDd.τ).loc Cert.PoolDd.main_arg1) = m ((c.tc : Thread Cert.PoolDd.nD Cert.PoolDd.τ).loc Cert.PoolDd.main_arg1))
      ∧ r.2.sem = fun _ => 0)

def quiescent_PoolDdIdeal [hPoolDdIdeal : Cert.PoolDdIdeal.Facts] : Prop :=
  ∀ (m : (ℓ : Loc Cert.PoolDdIdeal.nD Cert.PoolDdIdeal.τ Cert.PoolDdIdeal.sig) → Buf (Elt Ideal) ℓ) (g : Dev Cert.PoolDdIdeal.nD → PrngReg), Pre_PoolDdIdeal m →
    θ_run (Cert.PoolDdIdeal.defs (F := Ideal)) (onTc (τ := Cert.PoolDdIdeal.τ) (Cert.PoolDdIdeal.main (F := Ideal))) ⟨m, fun _ => 0, g⟩ (fun r => (∀ c : Dev Cert.PoolDdIdeal.nD,
      r.2.mem ((c.tc : Thread Cert.PoolDdIdeal.nD Cert.PoolDdIdeal.τ).loc Cert.PoolDdIdeal.main_arg0) = m ((c.tc : Thread Cert.PoolDdIdeal.nD Cert.PoolDdIdeal.τ).loc Cert.PoolDdIdeal.main_arg0)
      ∧ r.2.mem ((c.tc : Thread Cert.PoolDdIdeal.nD Cert.PoolDdIdeal.τ).loc Cert.PoolDdIdeal.main_arg1) = m ((c.tc : Thread Cert.PoolDdIdeal.nD Cert.PoolDdIdeal.τ).loc Cert.PoolDdIdeal.main_arg1))
      ∧ r.2.sem = fun _ => 0)

def quiescent_PoolDdRefIdeal [hPoolDdRefIdeal : Cert.PoolDdRefIdeal.Facts] : Prop :=
  ∀ (m : (ℓ : Loc Cert.PoolDdRefIdeal.nD Cert.PoolDdRefIdeal.τ Cert.PoolDdRefIdeal.sig) → Buf (Elt Ideal) ℓ) (g : Dev Cert.PoolDdRefIdeal.nD → PrngReg), Pre_PoolDdRefIdeal m →
    θ_run (Cert.PoolDdRefIdeal.defs (F := Ideal)) (onTc (τ := Cert.PoolDdRefIdeal.τ) (Cert.PoolDdRefIdeal.main (F := Ideal))) ⟨m, fun _ => 0, g⟩ (fun r => (∀ c : Dev Cert.PoolDdRefIdeal.nD,
      r.2.mem ((c.tc : Thread Cert.PoolDdRefIdeal.nD Cert.PoolDdRefIdeal.τ).loc Cert.PoolDdRefIdeal.main_arg0) = m ((c.tc : Thread Cert.PoolDdRefIdeal.nD Cert.PoolDdRefIdeal.τ).loc Cert.PoolDdRefIdeal.main_arg0)
      ∧ r.2.mem ((c.tc : Thread Cert.PoolDdRefIdeal.nD Cert.PoolDdRefIdeal.τ).loc Cert.PoolDdRefIdeal.main_arg1) = m ((c.tc : Thread Cert.PoolDdRefIdeal.nD Cert.PoolDdRefIdeal.τ).loc Cert.PoolDdRefIdeal.main_arg1))
      ∧ r.2.sem = fun _ => 0)

def quiescent_PoolDw [hPoolDw : Cert.PoolDw.Facts] : Prop :=
  ∀ (m : (ℓ : Loc Cert.PoolDw.nD Cert.PoolDw.τ Cert.PoolDw.sig) → Buf (Elt Bits) ℓ) (g : Dev Cert.PoolDw.nD → PrngReg), Pre_PoolDw m →
    θ_run (Cert.PoolDw.defs (F := Bits)) (onTc (τ := Cert.PoolDw.τ) (Cert.PoolDw.main (F := Bits))) ⟨m, fun _ => 0, g⟩ (fun r => (∀ c : Dev Cert.PoolDw.nD,
      r.2.mem ((c.tc : Thread Cert.PoolDw.nD Cert.PoolDw.τ).loc Cert.PoolDw.main_arg0) = m ((c.tc : Thread Cert.PoolDw.nD Cert.PoolDw.τ).loc Cert.PoolDw.main_arg0)
      ∧ r.2.mem ((c.tc : Thread Cert.PoolDw.nD Cert.PoolDw.τ).loc Cert.PoolDw.main_arg1) = m ((c.tc : Thread Cert.PoolDw.nD Cert.PoolDw.τ).loc Cert.PoolDw.main_arg1))
      ∧ r.2.sem = fun _ => 0)

def quiescent_PoolDwIdeal [hPoolDwIdeal : Cert.PoolDwIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ r.2.sem = fun _ => 0)

def quiescent_PoolDwRefIdeal [hPoolDwRefIdeal : Cert.PoolDwRefIdeal.Facts] : Prop :=
  ∀ (m : (ℓ : Loc Cert.PoolDwRefIdeal.nD Cert.PoolDwRefIdeal.τ Cert.PoolDwRefIdeal.sig) → Buf (Elt Ideal) ℓ) (g : Dev Cert.PoolDwRefIdeal.nD → PrngReg), Pre_PoolDwRefIdeal m →
    θ_run (Cert.PoolDwRefIdeal.defs (F := Ideal)) (onTc (τ := Cert.PoolDwRefIdeal.τ) (Cert.PoolDwRefIdeal.main (F := Ideal))) ⟨m, fun _ => 0, g⟩ (fun r => (∀ c : Dev Cert.PoolDwRefIdeal.nD,
      r.2.mem ((c.tc : Thread Cert.PoolDwRefIdeal.nD Cert.PoolDwRefIdeal.τ).loc Cert.PoolDwRefIdeal.main_arg0) = m ((c.tc : Thread Cert.PoolDwRefIdeal.nD Cert.PoolDwRefIdeal.τ).loc Cert.PoolDwRefIdeal.main_arg0)
      ∧ r.2.mem ((c.tc : Thread Cert.PoolDwRefIdeal.nD Cert.PoolDwRefIdeal.τ).loc Cert.PoolDwRefIdeal.main_arg1) = m ((c.tc : Thread Cert.PoolDwRefIdeal.nD Cert.PoolDwRefIdeal.τ).loc Cert.PoolDwRefIdeal.main_arg1))
      ∧ r.2.sem = fun _ => 0)

def quiescent_PoolMm [hPoolMm : Cert.PoolMm.Facts] : Prop :=
  ∀ (m : (ℓ : Loc Cert.PoolMm.nD Cert.PoolMm.τ Cert.PoolMm.sig) → Buf (Elt Bits) ℓ) (g : Dev Cert.PoolMm.nD → PrngReg), Pre_PoolMm m →
    θ_run (Cert.PoolMm.defs (F := Bits)) (onTc (τ := Cert.PoolMm.τ) (Cert.PoolMm.main (F := Bits))) ⟨m, fun _ => 0, g⟩ (fun r => (∀ c : Dev Cert.PoolMm.nD,
      r.2.mem ((c.tc : Thread Cert.PoolMm.nD Cert.PoolMm.τ).loc Cert.PoolMm.main_arg0) = m ((c.tc : Thread Cert.PoolMm.nD Cert.PoolMm.τ).loc Cert.PoolMm.main_arg0)
      ∧ r.2.mem ((c.tc : Thread Cert.PoolMm.nD Cert.PoolMm.τ).loc Cert.PoolMm.main_arg1) = m ((c.tc : Thread Cert.PoolMm.nD Cert.PoolMm.τ).loc Cert.PoolMm.main_arg1)
      ∧ r.2.mem ((c.tc : Thread Cert.PoolMm.nD Cert.PoolMm.τ).loc Cert.PoolMm.main_arg2) = m ((c.tc : Thread Cert.PoolMm.nD Cert.PoolMm.τ).loc Cert.PoolMm.main_arg2)
      ∧ r.2.mem ((c.tc : Thread Cert.PoolMm.nD Cert.PoolMm.τ).loc Cert.PoolMm.main_arg3) = m ((c.tc : Thread Cert.PoolMm.nD Cert.PoolMm.τ).loc Cert.PoolMm.main_arg3)
      ∧ r.2.mem ((c.tc : Thread Cert.PoolMm.nD Cert.PoolMm.τ).loc Cert.PoolMm.main_arg4) = m ((c.tc : Thread Cert.PoolMm.nD Cert.PoolMm.τ).loc Cert.PoolMm.main_arg4))
      ∧ r.2.sem = fun _ => 0)

def quiescent_PoolMmIdeal [hPoolMmIdeal : Cert.PoolMmIdeal.Facts] : Prop :=
  ∀ (m : (ℓ : Loc Cert.PoolMmIdeal.nD Cert.PoolMmIdeal.τ Cert.PoolMmIdeal.sig) → Buf (Elt Ideal) ℓ) (g : Dev Cert.PoolMmIdeal.nD → PrngReg), Pre_PoolMmIdeal m →
    θ_run (Cert.PoolMmIdeal.defs (F := Ideal)) (onTc (τ := Cert.PoolMmIdeal.τ) (Cert.PoolMmIdeal.main (F := Ideal))) ⟨m, fun _ => 0, g⟩ (fun r => (∀ c : Dev Cert.PoolMmIdeal.nD,
      r.2.mem ((c.tc : Thread Cert.PoolMmIdeal.nD Cert.PoolMmIdeal.τ).loc Cert.PoolMmIdeal.main_arg0) = m ((c.tc : Thread Cert.PoolMmIdeal.nD Cert.PoolMmIdeal.τ).loc Cert.PoolMmIdeal.main_arg0)
      ∧ r.2.mem ((c.tc : Thread Cert.PoolMmIdeal.nD Cert.PoolMmIdeal.τ).loc Cert.PoolMmIdeal.main_arg1) = m ((c.tc : Thread Cert.PoolMmIdeal.nD Cert.PoolMmIdeal.τ).loc Cert.PoolMmIdeal.main_arg1)
      ∧ r.2.mem ((c.tc : Thread Cert.PoolMmIdeal.nD Cert.PoolMmIdeal.τ).loc Cert.PoolMmIdeal.main_arg2) = m ((c.tc : Thread Cert.PoolMmIdeal.nD Cert.PoolMmIdeal.τ).loc Cert.PoolMmIdeal.main_arg2)
      ∧ r.2.mem ((c.tc : Thread Cert.PoolMmIdeal.nD Cert.PoolMmIdeal.τ).loc Cert.PoolMmIdeal.main_arg3) = m ((c.tc : Thread Cert.PoolMmIdeal.nD Cert.PoolMmIdeal.τ).loc Cert.PoolMmIdeal.main_arg3)
      ∧ r.2.mem ((c.tc : Thread Cert.PoolMmIdeal.nD Cert.PoolMmIdeal.τ).loc Cert.PoolMmIdeal.main_arg4) = m ((c.tc : Thread Cert.PoolMmIdeal.nD Cert.PoolMmIdeal.τ).loc Cert.PoolMmIdeal.main_arg4))
      ∧ r.2.sem = fun _ => 0)

def quiescent_PoolMmRefIdeal [hPoolMmRefIdeal : Cert.PoolMmRefIdeal.Facts] : Prop :=
  ∀ (m : (ℓ : Loc Cert.PoolMmRefIdeal.nD Cert.PoolMmRefIdeal.τ Cert.PoolMmRefIdeal.sig) → Buf (Elt Ideal) ℓ) (g : Dev Cert.PoolMmRefIdeal.nD → PrngReg), Pre_PoolMmRefIdeal m →
    θ_run (Cert.PoolMmRefIdeal.defs (F := Ideal)) (onTc (τ := Cert.PoolMmRefIdeal.τ) (Cert.PoolMmRefIdeal.main (F := Ideal))) ⟨m, fun _ => 0, g⟩ (fun r => (∀ c : Dev Cert.PoolMmRefIdeal.nD,
      r.2.mem ((c.tc : Thread Cert.PoolMmRefIdeal.nD Cert.PoolMmRefIdeal.τ).loc Cert.PoolMmRefIdeal.main_arg0) = m ((c.tc : Thread Cert.PoolMmRefIdeal.nD Cert.PoolMmRefIdeal.τ).loc Cert.PoolMmRefIdeal.main_arg0)
      ∧ r.2.mem ((c.tc : Thread Cert.PoolMmRefIdeal.nD Cert.PoolMmRefIdeal.τ).loc Cert.PoolMmRefIdeal.main_arg1) = m ((c.tc : Thread Cert.PoolMmRefIdeal.nD Cert.PoolMmRefIdeal.τ).loc Cert.PoolMmRefIdeal.main_arg1)
      ∧ r.2.mem ((c.tc : Thread Cert.PoolMmRefIdeal.nD Cert.PoolMmRefIdeal.τ).loc Cert.PoolMmRefIdeal.main_arg2) = m ((c.tc : Thread Cert.PoolMmRefIdeal.nD Cert.PoolMmRefIdeal.τ).loc Cert.PoolMmRefIdeal.main_arg2)
      ∧ r.2.mem ((c.tc : Thread Cert.PoolMmRefIdeal.nD Cert.PoolMmRefIdeal.τ).loc Cert.PoolMmRefIdeal.main_arg3) = m ((c.tc : Thread Cert.PoolMmRefIdeal.nD Cert.PoolMmRefIdeal.τ).loc Cert.PoolMmRefIdeal.main_arg3)
      ∧ r.2.mem ((c.tc : Thread Cert.PoolMmRefIdeal.nD Cert.PoolMmRefIdeal.τ).loc Cert.PoolMmRefIdeal.main_arg4) = m ((c.tc : Thread Cert.PoolMmRefIdeal.nD Cert.PoolMmRefIdeal.τ).loc Cert.PoolMmRefIdeal.main_arg4))
      ∧ r.2.sem = fun _ => 0)

def quiescent_AdamEarly [hAdamEarly : Cert.AdamEarly.Facts] : Prop :=
  ∀ (m : (ℓ : Loc Cert.AdamEarly.nD Cert.AdamEarly.τ Cert.AdamEarly.sig) → Buf (Elt Bits) ℓ) (g : Dev Cert.AdamEarly.nD → PrngReg), Pre_AdamEarly m →
    θ_run (Cert.AdamEarly.defs (F := Bits)) (onTc (τ := Cert.AdamEarly.τ) (Cert.AdamEarly.main (F := Bits))) ⟨m, fun _ => 0, g⟩ (fun r => (∀ c : Dev Cert.AdamEarly.nD,
      r.2.mem ((c.tc : Thread Cert.AdamEarly.nD Cert.AdamEarly.τ).loc Cert.AdamEarly.main_arg0) = m ((c.tc : Thread Cert.AdamEarly.nD Cert.AdamEarly.τ).loc Cert.AdamEarly.main_arg0)
      ∧ r.2.mem ((c.tc : Thread Cert.AdamEarly.nD Cert.AdamEarly.τ).loc Cert.AdamEarly.main_arg1) = m ((c.tc : Thread Cert.AdamEarly.nD Cert.AdamEarly.τ).loc Cert.AdamEarly.main_arg1)
      ∧ r.2.mem ((c.tc : Thread Cert.AdamEarly.nD Cert.AdamEarly.τ).loc Cert.AdamEarly.main_arg2) = m ((c.tc : Thread Cert.AdamEarly.nD Cert.AdamEarly.τ).loc Cert.AdamEarly.main_arg2)
      ∧ r.2.mem ((c.tc : Thread Cert.AdamEarly.nD Cert.AdamEarly.τ).loc Cert.AdamEarly.main_arg3) = m ((c.tc : Thread Cert.AdamEarly.nD Cert.AdamEarly.τ).loc Cert.AdamEarly.main_arg3)
      ∧ r.2.mem ((c.tc : Thread Cert.AdamEarly.nD Cert.AdamEarly.τ).loc Cert.AdamEarly.main_arg4) = m ((c.tc : Thread Cert.AdamEarly.nD Cert.AdamEarly.τ).loc Cert.AdamEarly.main_arg4))
      ∧ r.2.sem = fun _ => 0)

def quiescent_AdamEarlyIdeal [hAdamEarlyIdeal : Cert.AdamEarlyIdeal.Facts] : Prop :=
  ∀ (m : (ℓ : Loc Cert.AdamEarlyIdeal.nD Cert.AdamEarlyIdeal.τ Cert.AdamEarlyIdeal.sig) → Buf (Elt Ideal) ℓ) (g : Dev Cert.AdamEarlyIdeal.nD → PrngReg), Pre_AdamEarlyIdeal m →
    θ_run (Cert.AdamEarlyIdeal.defs (F := Ideal)) (onTc (τ := Cert.AdamEarlyIdeal.τ) (Cert.AdamEarlyIdeal.main (F := Ideal))) ⟨m, fun _ => 0, g⟩ (fun r => (∀ c : Dev Cert.AdamEarlyIdeal.nD,
      r.2.mem ((c.tc : Thread Cert.AdamEarlyIdeal.nD Cert.AdamEarlyIdeal.τ).loc Cert.AdamEarlyIdeal.main_arg0) = m ((c.tc : Thread Cert.AdamEarlyIdeal.nD Cert.AdamEarlyIdeal.τ).loc Cert.AdamEarlyIdeal.main_arg0)
      ∧ r.2.mem ((c.tc : Thread Cert.AdamEarlyIdeal.nD Cert.AdamEarlyIdeal.τ).loc Cert.AdamEarlyIdeal.main_arg1) = m ((c.tc : Thread Cert.AdamEarlyIdeal.nD Cert.AdamEarlyIdeal.τ).loc Cert.AdamEarlyIdeal.main_arg1)
      ∧ r.2.mem ((c.tc : Thread Cert.AdamEarlyIdeal.nD Cert.AdamEarlyIdeal.τ).loc Cert.AdamEarlyIdeal.main_arg2) = m ((c.tc : Thread Cert.AdamEarlyIdeal.nD Cert.AdamEarlyIdeal.τ).loc Cert.AdamEarlyIdeal.main_arg2)
      ∧ r.2.mem ((c.tc : Thread Cert.AdamEarlyIdeal.nD Cert.AdamEarlyIdeal.τ).loc Cert.AdamEarlyIdeal.main_arg3) = m ((c.tc : Thread Cert.AdamEarlyIdeal.nD Cert.AdamEarlyIdeal.τ).loc Cert.AdamEarlyIdeal.main_arg3)
      ∧ r.2.mem ((c.tc : Thread Cert.AdamEarlyIdeal.nD Cert.AdamEarlyIdeal.τ).loc Cert.AdamEarlyIdeal.main_arg4) = m ((c.tc : Thread Cert.AdamEarlyIdeal.nD Cert.AdamEarlyIdeal.τ).loc Cert.AdamEarlyIdeal.main_arg4))
      ∧ r.2.sem = fun _ => 0)

def quiescent_AdamEarlyRefIdeal [hAdamEarlyRefIdeal : Cert.AdamEarlyRefIdeal.Facts] : Prop :=
  ∀ (m : (ℓ : Loc Cert.AdamEarlyRefIdeal.nD Cert.AdamEarlyRefIdeal.τ Cert.AdamEarlyRefIdeal.sig) → Buf (Elt Ideal) ℓ) (g : Dev Cert.AdamEarlyRefIdeal.nD → PrngReg), Pre_AdamEarlyRefIdeal m →
    θ_run (Cert.AdamEarlyRefIdeal.defs (F := Ideal)) (onTc (τ := Cert.AdamEarlyRefIdeal.τ) (Cert.AdamEarlyRefIdeal.main (F := Ideal))) ⟨m, fun _ => 0, g⟩ (fun r => (∀ c : Dev Cert.AdamEarlyRefIdeal.nD,
      r.2.mem ((c.tc : Thread Cert.AdamEarlyRefIdeal.nD Cert.AdamEarlyRefIdeal.τ).loc Cert.AdamEarlyRefIdeal.main_arg0) = m ((c.tc : Thread Cert.AdamEarlyRefIdeal.nD Cert.AdamEarlyRefIdeal.τ).loc Cert.AdamEarlyRefIdeal.main_arg0)
      ∧ r.2.mem ((c.tc : Thread Cert.AdamEarlyRefIdeal.nD Cert.AdamEarlyRefIdeal.τ).loc Cert.AdamEarlyRefIdeal.main_arg1) = m ((c.tc : Thread Cert.AdamEarlyRefIdeal.nD Cert.AdamEarlyRefIdeal.τ).loc Cert.AdamEarlyRefIdeal.main_arg1)
      ∧ r.2.mem ((c.tc : Thread Cert.AdamEarlyRefIdeal.nD Cert.AdamEarlyRefIdeal.τ).loc Cert.AdamEarlyRefIdeal.main_arg2) = m ((c.tc : Thread Cert.AdamEarlyRefIdeal.nD Cert.AdamEarlyRefIdeal.τ).loc Cert.AdamEarlyRefIdeal.main_arg2)
      ∧ r.2.mem ((c.tc : Thread Cert.AdamEarlyRefIdeal.nD Cert.AdamEarlyRefIdeal.τ).loc Cert.AdamEarlyRefIdeal.main_arg3) = m ((c.tc : Thread Cert.AdamEarlyRefIdeal.nD Cert.AdamEarlyRefIdeal.τ).loc Cert.AdamEarlyRefIdeal.main_arg3)
      ∧ r.2.mem ((c.tc : Thread Cert.AdamEarlyRefIdeal.nD Cert.AdamEarlyRefIdeal.τ).loc Cert.AdamEarlyRefIdeal.main_arg4) = m ((c.tc : Thread Cert.AdamEarlyRefIdeal.nD Cert.AdamEarlyRefIdeal.τ).loc Cert.AdamEarlyRefIdeal.main_arg4))
      ∧ r.2.sem = fun _ => 0)

def quiescent_AdamLate [hAdamLate : Cert.AdamLate.Facts] : Prop :=
  ∀ (m : (ℓ : Loc Cert.AdamLate.nD Cert.AdamLate.τ Cert.AdamLate.sig) → Buf (Elt Bits) ℓ) (g : Dev Cert.AdamLate.nD → PrngReg), Pre_AdamLate m →
    θ_run (Cert.AdamLate.defs (F := Bits)) (onTc (τ := Cert.AdamLate.τ) (Cert.AdamLate.main (F := Bits))) ⟨m, fun _ => 0, g⟩ (fun r => (∀ c : Dev Cert.AdamLate.nD,
      r.2.mem ((c.tc : Thread Cert.AdamLate.nD Cert.AdamLate.τ).loc Cert.AdamLate.main_arg0) = m ((c.tc : Thread Cert.AdamLate.nD Cert.AdamLate.τ).loc Cert.AdamLate.main_arg0)
      ∧ r.2.mem ((c.tc : Thread Cert.AdamLate.nD Cert.AdamLate.τ).loc Cert.AdamLate.main_arg1) = m ((c.tc : Thread Cert.AdamLate.nD Cert.AdamLate.τ).loc Cert.AdamLate.main_arg1)
      ∧ r.2.mem ((c.tc : Thread Cert.AdamLate.nD Cert.AdamLate.τ).loc Cert.AdamLate.main_arg2) = m ((c.tc : Thread Cert.AdamLate.nD Cert.AdamLate.τ).loc Cert.AdamLate.main_arg2)
      ∧ r.2.mem ((c.tc : Thread Cert.AdamLate.nD Cert.AdamLate.τ).loc Cert.AdamLate.main_arg3) = m ((c.tc : Thread Cert.AdamLate.nD Cert.AdamLate.τ).loc Cert.AdamLate.main_arg3)
      ∧ r.2.mem ((c.tc : Thread Cert.AdamLate.nD Cert.AdamLate.τ).loc Cert.AdamLate.main_arg4) = m ((c.tc : Thread Cert.AdamLate.nD Cert.AdamLate.τ).loc Cert.AdamLate.main_arg4)
      ∧ r.2.mem ((c.tc : Thread Cert.AdamLate.nD Cert.AdamLate.τ).loc Cert.AdamLate.main_arg5) = m ((c.tc : Thread Cert.AdamLate.nD Cert.AdamLate.τ).loc Cert.AdamLate.main_arg5)
      ∧ r.2.mem ((c.tc : Thread Cert.AdamLate.nD Cert.AdamLate.τ).loc Cert.AdamLate.main_arg6) = m ((c.tc : Thread Cert.AdamLate.nD Cert.AdamLate.τ).loc Cert.AdamLate.main_arg6)
      ∧ r.2.mem ((c.tc : Thread Cert.AdamLate.nD Cert.AdamLate.τ).loc Cert.AdamLate.main_arg7) = m ((c.tc : Thread Cert.AdamLate.nD Cert.AdamLate.τ).loc Cert.AdamLate.main_arg7))
      ∧ r.2.sem = fun _ => 0)

def quiescent_AdamLateIdeal [hAdamLateIdeal : Cert.AdamLateIdeal.Facts] : Prop :=
  ∀ (m : (ℓ : Loc Cert.AdamLateIdeal.nD Cert.AdamLateIdeal.τ Cert.AdamLateIdeal.sig) → Buf (Elt Ideal) ℓ) (g : Dev Cert.AdamLateIdeal.nD → PrngReg), Pre_AdamLateIdeal m →
    θ_run (Cert.AdamLateIdeal.defs (F := Ideal)) (onTc (τ := Cert.AdamLateIdeal.τ) (Cert.AdamLateIdeal.main (F := Ideal))) ⟨m, fun _ => 0, g⟩ (fun r => (∀ c : Dev Cert.AdamLateIdeal.nD,
      r.2.mem ((c.tc : Thread Cert.AdamLateIdeal.nD Cert.AdamLateIdeal.τ).loc Cert.AdamLateIdeal.main_arg0) = m ((c.tc : Thread Cert.AdamLateIdeal.nD Cert.AdamLateIdeal.τ).loc Cert.AdamLateIdeal.main_arg0)
      ∧ r.2.mem ((c.tc : Thread Cert.AdamLateIdeal.nD Cert.AdamLateIdeal.τ).loc Cert.AdamLateIdeal.main_arg1) = m ((c.tc : Thread Cert.AdamLateIdeal.nD Cert.AdamLateIdeal.τ).loc Cert.AdamLateIdeal.main_arg1)
      ∧ r.2.mem ((c.tc : Thread Cert.AdamLateIdeal.nD Cert.AdamLateIdeal.τ).loc Cert.AdamLateIdeal.main_arg2) = m ((c.tc : Thread Cert.AdamLateIdeal.nD Cert.AdamLateIdeal.τ).loc Cert.AdamLateIdeal.main_arg2)
      ∧ r.2.mem ((c.tc : Thread Cert.AdamLateIdeal.nD Cert.AdamLateIdeal.τ).loc Cert.AdamLateIdeal.main_arg3) = m ((c.tc : Thread Cert.AdamLateIdeal.nD Cert.AdamLateIdeal.τ).loc Cert.AdamLateIdeal.main_arg3)
      ∧ r.2.mem ((c.tc : Thread Cert.AdamLateIdeal.nD Cert.AdamLateIdeal.τ).loc Cert.AdamLateIdeal.main_arg4) = m ((c.tc : Thread Cert.AdamLateIdeal.nD Cert.AdamLateIdeal.τ).loc Cert.AdamLateIdeal.main_arg4)
      ∧ r.2.mem ((c.tc : Thread Cert.AdamLateIdeal.nD Cert.AdamLateIdeal.τ).loc Cert.AdamLateIdeal.main_arg5) = m ((c.tc : Thread Cert.AdamLateIdeal.nD Cert.AdamLateIdeal.τ).loc Cert.AdamLateIdeal.main_arg5)
      ∧ r.2.mem ((c.tc : Thread Cert.AdamLateIdeal.nD Cert.AdamLateIdeal.τ).loc Cert.AdamLateIdeal.main_arg6) = m ((c.tc : Thread Cert.AdamLateIdeal.nD Cert.AdamLateIdeal.τ).loc Cert.AdamLateIdeal.main_arg6)
      ∧ r.2.mem ((c.tc : Thread Cert.AdamLateIdeal.nD Cert.AdamLateIdeal.τ).loc Cert.AdamLateIdeal.main_arg7) = m ((c.tc : Thread Cert.AdamLateIdeal.nD Cert.AdamLateIdeal.τ).loc Cert.AdamLateIdeal.main_arg7))
      ∧ r.2.sem = fun _ => 0)

def quiescent_AdamLateRefIdeal [hAdamLateRefIdeal : Cert.AdamLateRefIdeal.Facts] : Prop :=
  ∀ (m : (ℓ : Loc Cert.AdamLateRefIdeal.nD Cert.AdamLateRefIdeal.τ Cert.AdamLateRefIdeal.sig) → Buf (Elt Ideal) ℓ) (g : Dev Cert.AdamLateRefIdeal.nD → PrngReg), Pre_AdamLateRefIdeal m →
    θ_run (Cert.AdamLateRefIdeal.defs (F := Ideal)) (onTc (τ := Cert.AdamLateRefIdeal.τ) (Cert.AdamLateRefIdeal.main (F := Ideal))) ⟨m, fun _ => 0, g⟩ (fun r => (∀ c : Dev Cert.AdamLateRefIdeal.nD,
      r.2.mem ((c.tc : Thread Cert.AdamLateRefIdeal.nD Cert.AdamLateRefIdeal.τ).loc Cert.AdamLateRefIdeal.main_arg0) = m ((c.tc : Thread Cert.AdamLateRefIdeal.nD Cert.AdamLateRefIdeal.τ).loc Cert.AdamLateRefIdeal.main_arg0)
      ∧ r.2.mem ((c.tc : Thread Cert.AdamLateRefIdeal.nD Cert.AdamLateRefIdeal.τ).loc Cert.AdamLateRefIdeal.main_arg1) = m ((c.tc : Thread Cert.AdamLateRefIdeal.nD Cert.AdamLateRefIdeal.τ).loc Cert.AdamLateRefIdeal.main_arg1)
      ∧ r.2.mem ((c.tc : Thread Cert.AdamLateRefIdeal.nD Cert.AdamLateRefIdeal.τ).loc Cert.AdamLateRefIdeal.main_arg2) = m ((c.tc : Thread Cert.AdamLateRefIdeal.nD Cert.AdamLateRefIdeal.τ).loc Cert.AdamLateRefIdeal.main_arg2)
      ∧ r.2.mem ((c.tc : Thread Cert.AdamLateRefIdeal.nD Cert.AdamLateRefIdeal.τ).loc Cert.AdamLateRefIdeal.main_arg3) = m ((c.tc : Thread Cert.AdamLateRefIdeal.nD Cert.AdamLateRefIdeal.τ).loc Cert.AdamLateRefIdeal.main_arg3)
      ∧ r.2.mem ((c.tc : Thread Cert.AdamLateRefIdeal.nD Cert.AdamLateRefIdeal.τ).loc Cert.AdamLateRefIdeal.main_arg4) = m ((c.tc : Thread Cert.AdamLateRefIdeal.nD Cert.AdamLateRefIdeal.τ).loc Cert.AdamLateRefIdeal.main_arg4)
      ∧ r.2.mem ((c.tc : Thread Cert.AdamLateRefIdeal.nD Cert.AdamLateRefIdeal.τ).loc Cert.AdamLateRefIdeal.main_arg5) = m ((c.tc : Thread Cert.AdamLateRefIdeal.nD Cert.AdamLateRefIdeal.τ).loc Cert.AdamLateRefIdeal.main_arg5)
      ∧ r.2.mem ((c.tc : Thread Cert.AdamLateRefIdeal.nD Cert.AdamLateRefIdeal.τ).loc Cert.AdamLateRefIdeal.main_arg6) = m ((c.tc : Thread Cert.AdamLateRefIdeal.nD Cert.AdamLateRefIdeal.τ).loc Cert.AdamLateRefIdeal.main_arg6)
      ∧ r.2.mem ((c.tc : Thread Cert.AdamLateRefIdeal.nD Cert.AdamLateRefIdeal.τ).loc Cert.AdamLateRefIdeal.main_arg7) = m ((c.tc : Thread Cert.AdamLateRefIdeal.nD Cert.AdamLateRefIdeal.τ).loc Cert.AdamLateRefIdeal.main_arg7))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v2_0)) (v1 : (c : Dev Cert.ConvBwdIdeal.nD) → Buf (Elt Ideal) ((c.tc : Thread Cert.ConvBwdIdeal.nD Cert.ConvBwdIdeal.τ).loc Cert.ConvBwdIdeal.main_v2_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v2_0) = v0 c
          ∧ r.2.mem ((c.tc : Thread Cert.ConvBwdIdeal.nD Cert.ConvBwdIdeal.τ).loc Cert.ConvBwdIdeal.main_v2_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v343) = v0 c
          ∧ r.2.mem ((c.tc : Thread Cert.ConvRefIdeal.nD Cert.ConvRefIdeal.τ).loc Cert.ConvRefIdeal.main_v342) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_FfnDwd_FfnDwdIdeal : Prop :=
  True

def algebraic_FfnDwdIdeal_FfnDwdRefIdeal [hFfnDwdIdeal : Cert.FfnDwdIdeal.Facts] [hFfnDwdRefIdeal : Cert.FfnDwdRefIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg)
    (m' : (ℓ : Loc Cert.FfnDwdRefIdeal.nD Cert.FfnDwdRefIdeal.τ Cert.FfnDwdRefIdeal.sig) → Buf (Elt Ideal) ℓ) (g' : Dev Cert.FfnDwdRefIdeal.nD → PrngReg), Pre_FfnDwdIdeal m →
    (∀ c : Dev Cert.FfnDwdIdeal.nD,
      m' ((c.tc : Thread Cert.FfnDwdRefIdeal.nD Cert.FfnDwdRefIdeal.τ).loc Cert.FfnDwdRefIdeal.main_arg0) = m ((c.tc : Thread Cert.FfnDwdIdeal.nD Cert.FfnDwdIdeal.τ).loc Cert.FfnDwdIdeal.main_arg0)
      ∧ m' ((c.tc : Thread Cert.FfnDwdRefIdeal.nD Cert.FfnDwdRefIdeal.τ).loc Cert.FfnDwdRefIdeal.main_arg1) = m ((c.tc : Thread Cert.FfnDwdIdeal.nD Cert.FfnDwdIdeal.τ).loc Cert.FfnDwdIdeal.main_arg1)) →
    ∃ (v0 : (c : Dev Cert.FfnDwdIdeal.nD) → Buf (Elt Ideal) ((c.tc : Thread Cert.FfnDwdIdeal.nD Cert.FfnDwdIdeal.τ).loc Cert.FfnDwdIdeal.main_v0)),
      θ_run (Cert.FfnDwdIdeal.defs (F := Ideal)) (onTc (τ := Cert.FfnDwdIdeal.τ) (Cert.FfnDwdIdeal.main (F := Ideal))) ⟨m, fun _ => 0, g⟩ (fun r => ∀ c : Dev Cert.FfnDwdIdeal.nD,
          r.2.mem ((c.tc : Thread Cert.FfnDwdIdeal.nD Cert.FfnDwdIdeal.τ).loc Cert.FfnDwdIdeal.main_v0) = v0 c
          ∧ r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
          ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ θ_run (Cert.FfnDwdRefIdeal.defs (F := Ideal)) (onTc (τ := Cert.FfnDwdRefIdeal.τ) (Cert.FfnDwdRefIdeal.main (F := Ideal))) ⟨m', fun _ => 0, g'⟩ (fun r => ∀ c : Dev Cert.FfnDwdRefIdeal.nD,
          r.2.mem ((c.tc : Thread Cert.FfnDwdRefIdeal.nD Cert.FfnDwdRefIdeal.τ).loc Cert.FfnDwdRefIdeal.main_v14) = v0 c
          ∧ r.2.mem ((c.tc : Thread Cert.FfnDwdRefIdeal.nD Cert.FfnDwdRefIdeal.τ).loc Cert.FfnDwdRefIdeal.main_arg0) = m' ((c.tc : Thread Cert.FfnDwdRefIdeal.nD Cert.FfnDwdRefIdeal.τ).loc Cert.FfnDwdRefIdeal.main_arg0)
          ∧ r.2.mem ((c.tc : Thread Cert.FfnDwdRefIdeal.nD Cert.FfnDwdRefIdeal.τ).loc Cert.FfnDwdRefIdeal.main_arg1) = m' ((c.tc : Thread Cert.FfnDwdRefIdeal.nD Cert.FfnDwdRefIdeal.τ).loc Cert.FfnDwdRefIdeal.main_arg1))

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)) →
    ∃ (v0 : (c : Dev Cert.FfnDwIdeal.nD) → Buf (Elt Ideal) ((c.tc : Thread Cert.FfnDwIdeal.nD Cert.FfnDwIdeal.τ).loc Cert.FfnDwIdeal.main_v0)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v0) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v10) = v0 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)) →
    ∃ (v0 : (c : Dev Cert.FfnDhIdeal.nD) → Buf (Elt Ideal) ((c.tc : Thread Cert.FfnDhIdeal.nD Cert.FfnDhIdeal.τ).loc Cert.FfnDhIdeal.main_v0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v13) = v0 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3))

def preserves_FfnDs_FfnDsIdeal : Prop :=
  True

def algebraic_FfnDsIdeal_FfnDsRefIdeal_pre_finite [hFfnDsIdeal : Cert.FfnDsIdeal.Facts] [hFfnDsRefIdeal : Cert.FfnDsRefIdeal.Facts] [hPre_finite : Cert.Pre_finite.Facts] : Prop :=
  ∀ (m : (ℓ : Loc Cert.FfnDsIdeal.nD Cert.FfnDsIdeal.τ Cert.FfnDsIdeal.sig) → Buf (Elt Ideal) ℓ) (g : Dev Cert.FfnDsIdeal.nD → PrngReg)
    (m' : (ℓ : Loc Cert.FfnDsRefIdeal.nD Cert.FfnDsRefIdeal.τ Cert.FfnDsRefIdeal.sig) → Buf (Elt Ideal) ℓ) (g' : Dev Cert.FfnDsRefIdeal.nD → PrngReg), Pre_FfnDsIdeal_finite m →
    (∀ c : Dev Cert.FfnDsIdeal.nD,
      m' ((c.tc : Thread Cert.FfnDsRefIdeal.nD Cert.FfnDsRefIdeal.τ).loc Cert.FfnDsRefIdeal.main_arg0) = m ((c.tc : Thread Cert.FfnDsIdeal.nD Cert.FfnDsIdeal.τ).loc Cert.FfnDsIdeal.main_arg0)
      ∧ m' ((c.tc : Thread Cert.FfnDsRefIdeal.nD Cert.FfnDsRefIdeal.τ).loc Cert.FfnDsRefIdeal.main_arg1) = m ((c.tc : Thread Cert.FfnDsIdeal.nD Cert.FfnDsIdeal.τ).loc Cert.FfnDsIdeal.main_arg1)
      ∧ m' ((c.tc : Thread Cert.FfnDsRefIdeal.nD Cert.FfnDsRefIdeal.τ).loc Cert.FfnDsRefIdeal.main_arg2) = m ((c.tc : Thread Cert.FfnDsIdeal.nD Cert.FfnDsIdeal.τ).loc Cert.FfnDsIdeal.main_arg2)
      ∧ m' ((c.tc : Thread Cert.FfnDsRefIdeal.nD Cert.FfnDsRefIdeal.τ).loc Cert.FfnDsRefIdeal.main_arg3) = m ((c.tc : Thread Cert.FfnDsIdeal.nD Cert.FfnDsIdeal.τ).loc Cert.FfnDsIdeal.main_arg3)) →
    ∃ (v0 : (c : Dev Cert.FfnDsIdeal.nD) → Buf (Elt Ideal) ((c.tc : Thread Cert.FfnDsIdeal.nD Cert.FfnDsIdeal.τ).loc Cert.FfnDsIdeal.main_v0_0)) (v1 : (c : Dev Cert.FfnDsIdeal.nD) → Buf (Elt Ideal) ((c.tc : Thread Cert.FfnDsIdeal.nD Cert.FfnDsIdeal.τ).loc Cert.FfnDsIdeal.main_v0_1)),
      θ_run (Cert.FfnDsIdeal.defs (F := Ideal)) (onTc (τ := Cert.FfnDsIdeal.τ) (Cert.FfnDsIdeal.main (F := Ideal))) ⟨m, fun _ => 0, g⟩ (fun r => ∀ c : Dev Cert.FfnDsIdeal.nD,
          r.2.mem ((c.tc : Thread Cert.FfnDsIdeal.nD Cert.FfnDsIdeal.τ).loc Cert.FfnDsIdeal.main_v0_0) = v0 c
          ∧ r.2.mem ((c.tc : Thread Cert.FfnDsIdeal.nD Cert.FfnDsIdeal.τ).loc Cert.FfnDsIdeal.main_v0_1) = v1 c
          ∧ r.2.mem ((c.tc : Thread Cert.FfnDsIdeal.nD Cert.FfnDsIdeal.τ).loc Cert.FfnDsIdeal.main_arg0) = m ((c.tc : Thread Cert.FfnDsIdeal.nD Cert.FfnDsIdeal.τ).loc Cert.FfnDsIdeal.main_arg0)
          ∧ r.2.mem ((c.tc : Thread Cert.FfnDsIdeal.nD Cert.FfnDsIdeal.τ).loc Cert.FfnDsIdeal.main_arg1) = m ((c.tc : Thread Cert.FfnDsIdeal.nD Cert.FfnDsIdeal.τ).loc Cert.FfnDsIdeal.main_arg1)
          ∧ r.2.mem ((c.tc : Thread Cert.FfnDsIdeal.nD Cert.FfnDsIdeal.τ).loc Cert.FfnDsIdeal.main_arg2) = m ((c.tc : Thread Cert.FfnDsIdeal.nD Cert.FfnDsIdeal.τ).loc Cert.FfnDsIdeal.main_arg2)
          ∧ r.2.mem ((c.tc : Thread Cert.FfnDsIdeal.nD Cert.FfnDsIdeal.τ).loc Cert.FfnDsIdeal.main_arg3) = m ((c.tc : Thread Cert.FfnDsIdeal.nD Cert.FfnDsIdeal.τ).loc Cert.FfnDsIdeal.main_arg3))
      ∧ θ_run (Cert.FfnDsRefIdeal.defs (F := Ideal)) (onTc (τ := Cert.FfnDsRefIdeal.τ) (Cert.FfnDsRefIdeal.main (F := Ideal))) ⟨m', fun _ => 0, g'⟩ (fun r => ∀ c : Dev Cert.FfnDsRefIdeal.nD,
          r.2.mem ((c.tc : Thread Cert.FfnDsRefIdeal.nD Cert.FfnDsRefIdeal.τ).loc Cert.FfnDsRefIdeal.main_v18) = v0 c
          ∧ r.2.mem ((c.tc : Thread Cert.FfnDsRefIdeal.nD Cert.FfnDsRefIdeal.τ).loc Cert.FfnDsRefIdeal.main_v19) = v1 c
          ∧ r.2.mem ((c.tc : Thread Cert.FfnDsRefIdeal.nD Cert.FfnDsRefIdeal.τ).loc Cert.FfnDsRefIdeal.main_arg0) = m' ((c.tc : Thread Cert.FfnDsRefIdeal.nD Cert.FfnDsRefIdeal.τ).loc Cert.FfnDsRefIdeal.main_arg0)
          ∧ r.2.mem ((c.tc : Thread Cert.FfnDsRefIdeal.nD Cert.FfnDsRefIdeal.τ).loc Cert.FfnDsRefIdeal.main_arg1) = m' ((c.tc : Thread Cert.FfnDsRefIdeal.nD Cert.FfnDsRefIdeal.τ).loc Cert.FfnDsRefIdeal.main_arg1)
          ∧ r.2.mem ((c.tc : Thread Cert.FfnDsRefIdeal.nD Cert.FfnDsRefIdeal.τ).loc Cert.FfnDsRefIdeal.main_arg2) = m' ((c.tc : Thread Cert.FfnDsRefIdeal.nD Cert.FfnDsRefIdeal.τ).loc Cert.FfnDsRefIdeal.main_arg2)
          ∧ r.2.mem ((c.tc : Thread Cert.FfnDsRefIdeal.nD Cert.FfnDsRefIdeal.τ).loc Cert.FfnDsRefIdeal.main_arg3) = m' ((c.tc : Thread Cert.FfnDsRefIdeal.nD Cert.FfnDsRefIdeal.τ).loc Cert.FfnDsRefIdeal.main_arg3))

def preserves_FfnGate_FfnGateIdeal : Prop :=
  True

def algebraic_FfnGateIdeal_FfnGateRefIdeal [hFfnGateIdeal : Cert.FfnGateIdeal.Facts] [hFfnGateRefIdeal : Cert.FfnGateRefIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)
      ∧ m' ((c.tc : Thread Cert.FfnGateRefIdeal.nD Cert.FfnGateRefIdeal.τ).loc Cert.FfnGateRefIdeal.main_arg1) = m ((c.tc : Thread Cert.FfnGateIdeal.nD Cert.FfnGateIdeal.τ).loc Cert.FfnGateIdeal.main_arg1)) →
    ∃ (v0 : (c : Dev Cert.FfnGateIdeal.nD) → Buf (Elt Ideal) ((c.tc : Thread Cert.FfnGateIdeal.nD Cert.FfnGateIdeal.τ).loc Cert.FfnGateIdeal.main_v0)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v0) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v5) = v0 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0)
          ∧ r.2.mem ((c.tc : Thread Cert.FfnGateRefIdeal.nD Cert.FfnGateRefIdeal.τ).loc Cert.FfnGateRefIdeal.main_arg1) = m' ((c.tc : Thread Cert.FfnGateRefIdeal.nD Cert.FfnGateRefIdeal.τ).loc Cert.FfnGateRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_v9) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v6) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_XaDo_XaDoIdeal : Prop :=
  True

def algebraic_XaDoIdeal_XaDoRefIdeal [hXaDoIdeal : Cert.XaDoIdeal.Facts] [hXaDoRefIdeal : Cert.XaDoRefIdeal.Facts] : Prop :=
  ∀ (m : (ℓ : Loc Cert.XaDoIdeal.nD Cert.XaDoIdeal.τ Cert.XaDoIdeal.sig) → Buf (Elt Ideal) ℓ) (g : Dev Cert.XaDoIdeal.nD → PrngReg)
    (m' : (ℓ : Loc Cert.XaDoRefIdeal.nD Cert.XaDoRefIdeal.τ Cert.XaDoRefIdeal.sig) → Buf (Elt Ideal) ℓ) (g' : Dev Cert.XaDoRefIdeal.nD → PrngReg), Pre_XaDoIdeal m →
    (∀ c : Dev Cert.XaDoIdeal.nD,
      m' ((c.tc : Thread Cert.XaDoRefIdeal.nD Cert.XaDoRefIdeal.τ).loc Cert.XaDoRefIdeal.main_arg0) = m ((c.tc : Thread Cert.XaDoIdeal.nD Cert.XaDoIdeal.τ).loc Cert.XaDoIdeal.main_arg0)
      ∧ m' ((c.tc : Thread Cert.XaDoRefIdeal.nD Cert.XaDoRefIdeal.τ).loc Cert.XaDoRefIdeal.main_arg1) = m ((c.tc : Thread Cert.XaDoIdeal.nD Cert.XaDoIdeal.τ).loc Cert.XaDoIdeal.main_arg1)) →
    ∃ (v0 : (c : Dev Cert.XaDoIdeal.nD) → Buf (Elt Ideal) ((c.tc : Thread Cert.XaDoIdeal.nD Cert.XaDoIdeal.τ).loc Cert.XaDoIdeal.main_v0)),
      θ_run (Cert.XaDoIdeal.defs (F := Ideal)) (onTc (τ := Cert.XaDoIdeal.τ) (Cert.XaDoIdeal.main (F := Ideal))) ⟨m, fun _ => 0, g⟩ (fun r => ∀ c : Dev Cert.XaDoIdeal.nD,
          r.2.mem ((c.tc : Thread Cert.XaDoIdeal.nD Cert.XaDoIdeal.τ).loc Cert.XaDoIdeal.main_v0) = v0 c
          ∧ r.2.mem ((c.tc : Thread Cert.XaDoIdeal.nD Cert.XaDoIdeal.τ).loc Cert.XaDoIdeal.main_arg0) = m ((c.tc : Thread Cert.XaDoIdeal.nD Cert.XaDoIdeal.τ).loc Cert.XaDoIdeal.main_arg0)
          ∧ r.2.mem ((c.tc : Thread Cert.XaDoIdeal.nD Cert.XaDoIdeal.τ).loc Cert.XaDoIdeal.main_arg1) = m ((c.tc : Thread Cert.XaDoIdeal.nD Cert.XaDoIdeal.τ).loc Cert.XaDoIdeal.main_arg1))
      ∧ θ_run (Cert.XaDoRefIdeal.defs (F := Ideal)) (onTc (τ := Cert.XaDoRefIdeal.τ) (Cert.XaDoRefIdeal.main (F := Ideal))) ⟨m', fun _ => 0, g'⟩ (fun r => ∀ c : Dev Cert.XaDoRefIdeal.nD,
          r.2.mem ((c.tc : Thread Cert.XaDoRefIdeal.nD Cert.XaDoRefIdeal.τ).loc Cert.XaDoRefIdeal.main_v6) = v0 c
          ∧ r.2.mem ((c.tc : Thread Cert.XaDoRefIdeal.nD Cert.XaDoRefIdeal.τ).loc Cert.XaDoRefIdeal.main_arg0) = m' ((c.tc : Thread Cert.XaDoRefIdeal.nD Cert.XaDoRefIdeal.τ).loc Cert.XaDoRefIdeal.main_arg0)
          ∧ r.2.mem ((c.tc : Thread Cert.XaDoRefIdeal.nD Cert.XaDoRefIdeal.τ).loc Cert.XaDoRefIdeal.main_arg1) = m' ((c.tc : Thread Cert.XaDoRefIdeal.nD Cert.XaDoRefIdeal.τ).loc Cert.XaDoRefIdeal.main_arg1))

def preserves_XaDhq_XaDhqIdeal : Prop :=
  True

def algebraic_XaDhqIdeal_XaDhqRefIdeal [hXaDhqIdeal : Cert.XaDhqIdeal.Facts] [hXaDhqRefIdeal : Cert.XaDhqRefIdeal.Facts] : Prop :=
  ∀ (m : (ℓ : Loc Cert.XaDhqIdeal.nD Cert.XaDhqIdeal.τ Cert.XaDhqIdeal.sig) → Buf (Elt Ideal) ℓ) (g : Dev Cert.XaDhqIdeal.nD → PrngReg)
    (m' : (ℓ : Loc Cert.XaDhqRefIdeal.nD Cert.XaDhqRefIdeal.τ Cert.XaDhqRefIdeal.sig) → Buf (Elt Ideal) ℓ) (g' : Dev Cert.XaDhqRefIdeal.nD → PrngReg), Pre_XaDhqIdeal m →
    (∀ c : Dev Cert.XaDhqIdeal.nD,
      m' ((c.tc : Thread Cert.XaDhqRefIdeal.nD Cert.XaDhqRefIdeal.τ).loc Cert.XaDhqRefIdeal.main_arg0) = m ((c.tc : Thread Cert.XaDhqIdeal.nD Cert.XaDhqIdeal.τ).loc Cert.XaDhqIdeal.main_arg0)
      ∧ m' ((c.tc : Thread Cert.XaDhqRefIdeal.nD Cert.XaDhqRefIdeal.τ).loc Cert.XaDhqRefIdeal.main_arg1) = m ((c.tc : Thread Cert.XaDhqIdeal.nD Cert.XaDhqIdeal.τ).loc Cert.XaDhqIdeal.main_arg1)) →
    ∃ (v0 : (c : Dev Cert.XaDhqIdeal.nD) → Buf (Elt Ideal) ((c.tc : Thread Cert.XaDhqIdeal.nD Cert.XaDhqIdeal.τ).loc Cert.XaDhqIdeal.main_v0)),
      θ_run (Cert.XaDhqIdeal.defs (F := Ideal)) (onTc (τ := Cert.XaDhqIdeal.τ) (Cert.XaDhqIdeal.main (F := Ideal))) ⟨m, fun _ => 0, g⟩ (fun r => ∀ c : Dev Cert.XaDhqIdeal.nD,
          r.2.mem ((c.tc : Thread Cert.XaDhqIdeal.nD Cert.XaDhqIdeal.τ).loc Cert.XaDhqIdeal.main_v0) = v0 c
          ∧ r.2.mem ((c.tc : Thread Cert.XaDhqIdeal.nD Cert.XaDhqIdeal.τ).loc Cert.XaDhqIdeal.main_arg0) = m ((c.tc : Thread Cert.XaDhqIdeal.nD Cert.XaDhqIdeal.τ).loc Cert.XaDhqIdeal.main_arg0)
          ∧ r.2.mem ((c.tc : Thread Cert.XaDhqIdeal.nD Cert.XaDhqIdeal.τ).loc Cert.XaDhqIdeal.main_arg1) = m ((c.tc : Thread Cert.XaDhqIdeal.nD Cert.XaDhqIdeal.τ).loc Cert.XaDhqIdeal.main_arg1))
      ∧ θ_run (Cert.XaDhqRefIdeal.defs (F := Ideal)) (onTc (τ := Cert.XaDhqRefIdeal.τ) (Cert.XaDhqRefIdeal.main (F := Ideal))) ⟨m', fun _ => 0, g'⟩ (fun r => ∀ c : Dev Cert.XaDhqRefIdeal.nD,
          r.2.mem ((c.tc : Thread Cert.XaDhqRefIdeal.nD Cert.XaDhqRefIdeal.τ).loc Cert.XaDhqRefIdeal.main_v5) = v0 c
          ∧ r.2.mem ((c.tc : Thread Cert.XaDhqRefIdeal.nD Cert.XaDhqRefIdeal.τ).loc Cert.XaDhqRefIdeal.main_arg0) = m' ((c.tc : Thread Cert.XaDhqRefIdeal.nD Cert.XaDhqRefIdeal.τ).loc Cert.XaDhqRefIdeal.main_arg0)
          ∧ r.2.mem ((c.tc : Thread Cert.XaDhqRefIdeal.nD Cert.XaDhqRefIdeal.τ).loc Cert.XaDhqRefIdeal.main_arg1) = m' ((c.tc : Thread Cert.XaDhqRefIdeal.nD Cert.XaDhqRefIdeal.τ).loc Cert.XaDhqRefIdeal.main_arg1))

def preserves_XaDmn_XaDmnIdeal : Prop :=
  True

def algebraic_XaDmnIdeal_XaDmnRefIdeal [hXaDmnIdeal : Cert.XaDmnIdeal.Facts] [hXaDmnRefIdeal : Cert.XaDmnRefIdeal.Facts] : Prop :=
  ∀ (m : (ℓ : Loc Cert.XaDmnIdeal.nD Cert.XaDmnIdeal.τ Cert.XaDmnIdeal.sig) → Buf (Elt Ideal) ℓ) (g : Dev Cert.XaDmnIdeal.nD → PrngReg)
    (m' : (ℓ : Loc Cert.XaDmnRefIdeal.nD Cert.XaDmnRefIdeal.τ Cert.XaDmnRefIdeal.sig) → Buf (Elt Ideal) ℓ) (g' : Dev Cert.XaDmnRefIdeal.nD → PrngReg), Pre_XaDmnIdeal m →
    (∀ c : Dev Cert.XaDmnIdeal.nD,
      m' ((c.tc : Thread Cert.XaDmnRefIdeal.nD Cert.XaDmnRefIdeal.τ).loc Cert.XaDmnRefIdeal.main_arg0) = m ((c.tc : Thread Cert.XaDmnIdeal.nD Cert.XaDmnIdeal.τ).loc Cert.XaDmnIdeal.main_arg0)
      ∧ m' ((c.tc : Thread Cert.XaDmnRefIdeal.nD Cert.XaDmnRefIdeal.τ).loc Cert.XaDmnRefIdeal.main_arg1) = m ((c.tc : Thread Cert.XaDmnIdeal.nD Cert.XaDmnIdeal.τ).loc Cert.XaDmnIdeal.main_arg1)
      ∧ m' ((c.tc : Thread Cert.XaDmnRefIdeal.nD Cert.XaDmnRefIdeal.τ).loc Cert.XaDmnRefIdeal.main_arg2) = m ((c.tc : Thread Cert.XaDmnIdeal.nD Cert.XaDmnIdeal.τ).loc Cert.XaDmnIdeal.main_arg2)
      ∧ m' ((c.tc : Thread Cert.XaDmnRefIdeal.nD Cert.XaDmnRefIdeal.τ).loc Cert.XaDmnRefIdeal.main_arg3) = m ((c.tc : Thread Cert.XaDmnIdeal.nD Cert.XaDmnIdeal.τ).loc Cert.XaDmnIdeal.main_arg3)) →
    ∃ (v0 : (c : Dev Cert.XaDmnIdeal.nD) → Buf (Elt Ideal) ((c.tc : Thread Cert.XaDmnIdeal.nD Cert.XaDmnIdeal.τ).loc Cert.XaDmnIdeal.main_v0)),
      θ_run (Cert.XaDmnIdeal.defs (F := Ideal)) (onTc (τ := Cert.XaDmnIdeal.τ) (Cert.XaDmnIdeal.main (F := Ideal))) ⟨m, fun _ => 0, g⟩ (fun r => ∀ c : Dev Cert.XaDmnIdeal.nD,
          r.2.mem ((c.tc : Thread Cert.XaDmnIdeal.nD Cert.XaDmnIdeal.τ).loc Cert.XaDmnIdeal.main_v0) = v0 c
          ∧ r.2.mem ((c.tc : Thread Cert.XaDmnIdeal.nD Cert.XaDmnIdeal.τ).loc Cert.XaDmnIdeal.main_arg0) = m ((c.tc : Thread Cert.XaDmnIdeal.nD Cert.XaDmnIdeal.τ).loc Cert.XaDmnIdeal.main_arg0)
          ∧ r.2.mem ((c.tc : Thread Cert.XaDmnIdeal.nD Cert.XaDmnIdeal.τ).loc Cert.XaDmnIdeal.main_arg1) = m ((c.tc : Thread Cert.XaDmnIdeal.nD Cert.XaDmnIdeal.τ).loc Cert.XaDmnIdeal.main_arg1)
          ∧ r.2.mem ((c.tc : Thread Cert.XaDmnIdeal.nD Cert.XaDmnIdeal.τ).loc Cert.XaDmnIdeal.main_arg2) = m ((c.tc : Thread Cert.XaDmnIdeal.nD Cert.XaDmnIdeal.τ).loc Cert.XaDmnIdeal.main_arg2)
          ∧ r.2.mem ((c.tc : Thread Cert.XaDmnIdeal.nD Cert.XaDmnIdeal.τ).loc Cert.XaDmnIdeal.main_arg3) = m ((c.tc : Thread Cert.XaDmnIdeal.nD Cert.XaDmnIdeal.τ).loc Cert.XaDmnIdeal.main_arg3))
      ∧ θ_run (Cert.XaDmnRefIdeal.defs (F := Ideal)) (onTc (τ := Cert.XaDmnRefIdeal.τ) (Cert.XaDmnRefIdeal.main (F := Ideal))) ⟨m', fun _ => 0, g'⟩ (fun r => ∀ c : Dev Cert.XaDmnRefIdeal.nD,
          r.2.mem ((c.tc : Thread Cert.XaDmnRefIdeal.nD Cert.XaDmnRefIdeal.τ).loc Cert.XaDmnRefIdeal.main_v9) = v0 c
          ∧ r.2.mem ((c.tc : Thread Cert.XaDmnRefIdeal.nD Cert.XaDmnRefIdeal.τ).loc Cert.XaDmnRefIdeal.main_arg0) = m' ((c.tc : Thread Cert.XaDmnRefIdeal.nD Cert.XaDmnRefIdeal.τ).loc Cert.XaDmnRefIdeal.main_arg0)
          ∧ r.2.mem ((c.tc : Thread Cert.XaDmnRefIdeal.nD Cert.XaDmnRefIdeal.τ).loc Cert.XaDmnRefIdeal.main_arg1) = m' ((c.tc : Thread Cert.XaDmnRefIdeal.nD Cert.XaDmnRefIdeal.τ).loc Cert.XaDmnRefIdeal.main_arg1)
          ∧ r.2.mem ((c.tc : Thread Cert.XaDmnRefIdeal.nD Cert.XaDmnRefIdeal.τ).loc Cert.XaDmnRefIdeal.main_arg2) = m' ((c.tc : Thread Cert.XaDmnRefIdeal.nD Cert.XaDmnRefIdeal.τ).loc Cert.XaDmnRefIdeal.main_arg2)
          ∧ r.2.mem ((c.tc : Thread Cert.XaDmnRefIdeal.nD Cert.XaDmnRefIdeal.τ).loc Cert.XaDmnRefIdeal.main_arg3) = m' ((c.tc : Thread Cert.XaDmnRefIdeal.nD Cert.XaDmnRefIdeal.τ).loc Cert.XaDmnRefIdeal.main_arg3))

def preserves_XaDw_XaDwIdeal : Prop :=
  True

def algebraic_XaDwIdeal_XaDwRefIdeal [hXaDwIdeal : Cert.XaDwIdeal.Facts] [hXaDwRefIdeal : Cert.XaDwRefIdeal.Facts] : Prop :=
  ∀ (m : (ℓ : Loc Cert.XaDwIdeal.nD Cert.XaDwIdeal.τ Cert.XaDwIdeal.sig) → Buf (Elt Ideal) ℓ) (g : Dev Cert.XaDwIdeal.nD → PrngReg)
    (m' : (ℓ : Loc Cert.XaDwRefIdeal.nD Cert.XaDwRefIdeal.τ Cert.XaDwRefIdeal.sig) → Buf (Elt Ideal) ℓ) (g' : Dev Cert.XaDwRefIdeal.nD → PrngReg), Pre_XaDwIdeal m →
    (∀ c : Dev Cert.XaDwIdeal.nD,
      m' ((c.tc : Thread Cert.XaDwRefIdeal.nD Cert.XaDwRefIdeal.τ).loc Cert.XaDwRefIdeal.main_arg0) = m ((c.tc : Thread Cert.XaDwIdeal.nD Cert.XaDwIdeal.τ).loc Cert.XaDwIdeal.main_arg0)
      ∧ m' ((c.tc : Thread Cert.XaDwRefIdeal.nD Cert.XaDwRefIdeal.τ).loc Cert.XaDwRefIdeal.main_arg1) = m ((c.tc : Thread Cert.XaDwIdeal.nD Cert.XaDwIdeal.τ).loc Cert.XaDwIdeal.main_arg1)) →
    ∃ (v0 : (c : Dev Cert.XaDwIdeal.nD) → Buf (Elt Ideal) ((c.tc : Thread Cert.XaDwIdeal.nD Cert.XaDwIdeal.τ).loc Cert.XaDwIdeal.main_v0)),
      θ_run (Cert.XaDwIdeal.defs (F := Ideal)) (onTc (τ := Cert.XaDwIdeal.τ) (Cert.XaDwIdeal.main (F := Ideal))) ⟨m, fun _ => 0, g⟩ (fun r => ∀ c : Dev Cert.XaDwIdeal.nD,
          r.2.mem ((c.tc : Thread Cert.XaDwIdeal.nD Cert.XaDwIdeal.τ).loc Cert.XaDwIdeal.main_v0) = v0 c
          ∧ r.2.mem ((c.tc : Thread Cert.XaDwIdeal.nD Cert.XaDwIdeal.τ).loc Cert.XaDwIdeal.main_arg0) = m ((c.tc : Thread Cert.XaDwIdeal.nD Cert.XaDwIdeal.τ).loc Cert.XaDwIdeal.main_arg0)
          ∧ r.2.mem ((c.tc : Thread Cert.XaDwIdeal.nD Cert.XaDwIdeal.τ).loc Cert.XaDwIdeal.main_arg1) = m ((c.tc : Thread Cert.XaDwIdeal.nD Cert.XaDwIdeal.τ).loc Cert.XaDwIdeal.main_arg1))
      ∧ θ_run (Cert.XaDwRefIdeal.defs (F := Ideal)) (onTc (τ := Cert.XaDwRefIdeal.τ) (Cert.XaDwRefIdeal.main (F := Ideal))) ⟨m', fun _ => 0, g'⟩ (fun r => ∀ c : Dev Cert.XaDwRefIdeal.nD,
          r.2.mem ((c.tc : Thread Cert.XaDwRefIdeal.nD Cert.XaDwRefIdeal.τ).loc Cert.XaDwRefIdeal.main_v8) = v0 c
          ∧ r.2.mem ((c.tc : Thread Cert.XaDwRefIdeal.nD Cert.XaDwRefIdeal.τ).loc Cert.XaDwRefIdeal.main_arg0) = m' ((c.tc : Thread Cert.XaDwRefIdeal.nD Cert.XaDwRefIdeal.τ).loc Cert.XaDwRefIdeal.main_arg0)
          ∧ r.2.mem ((c.tc : Thread Cert.XaDwRefIdeal.nD Cert.XaDwRefIdeal.τ).loc Cert.XaDwRefIdeal.main_arg1) = m' ((c.tc : Thread Cert.XaDwRefIdeal.nD Cert.XaDwRefIdeal.τ).loc Cert.XaDwRefIdeal.main_arg1))

def preserves_XaDwkv_XaDwkvIdeal : Prop :=
  True

def algebraic_XaDwkvIdeal_XaDwkvRefIdeal [hXaDwkvIdeal : Cert.XaDwkvIdeal.Facts] [hXaDwkvRefIdeal : Cert.XaDwkvRefIdeal.Facts] : Prop :=
  ∀ (m : (ℓ : Loc Cert.XaDwkvIdeal.nD Cert.XaDwkvIdeal.τ Cert.XaDwkvIdeal.sig) → Buf (Elt Ideal) ℓ) (g : Dev Cert.XaDwkvIdeal.nD → PrngReg)
    (m' : (ℓ : Loc Cert.XaDwkvRefIdeal.nD Cert.XaDwkvRefIdeal.τ Cert.XaDwkvRefIdeal.sig) → Buf (Elt Ideal) ℓ) (g' : Dev Cert.XaDwkvRefIdeal.nD → PrngReg), Pre_XaDwkvIdeal m →
    (∀ c : Dev Cert.XaDwkvIdeal.nD,
      m' ((c.tc : Thread Cert.XaDwkvRefIdeal.nD Cert.XaDwkvRefIdeal.τ).loc Cert.XaDwkvRefIdeal.main_arg0) = m ((c.tc : Thread Cert.XaDwkvIdeal.nD Cert.XaDwkvIdeal.τ).loc Cert.XaDwkvIdeal.main_arg0)
      ∧ m' ((c.tc : Thread Cert.XaDwkvRefIdeal.nD Cert.XaDwkvRefIdeal.τ).loc Cert.XaDwkvRefIdeal.main_arg1) = m ((c.tc : Thread Cert.XaDwkvIdeal.nD Cert.XaDwkvIdeal.τ).loc Cert.XaDwkvIdeal.main_arg1)
      ∧ m' ((c.tc : Thread Cert.XaDwkvRefIdeal.nD Cert.XaDwkvRefIdeal.τ).loc Cert.XaDwkvRefIdeal.main_arg2) = m ((c.tc : Thread Cert.XaDwkvIdeal.nD Cert.XaDwkvIdeal.τ).loc Cert.XaDwkvIdeal.main_arg2)) →
    ∃ (v0 : (c : Dev Cert.XaDwkvIdeal.nD) → Buf (Elt Ideal) ((c.tc : Thread Cert.XaDwkvIdeal.nD Cert.XaDwkvIdeal.τ).loc Cert.XaDwkvIdeal.main_v0_0)) (v1 : (c : Dev Cert.XaDwkvIdeal.nD) → Buf (Elt Ideal) ((c.tc : Thread Cert.XaDwkvIdeal.nD Cert.XaDwkvIdeal.τ).loc Cert.XaDwkvIdeal.main_v0_1)),
      θ_run (Cert.XaDwkvIdeal.defs (F := Ideal)) (onTc (τ := Cert.XaDwkvIdeal.τ) (Cert.XaDwkvIdeal.main (F := Ideal))) ⟨m, fun _ => 0, g⟩ (fun r => ∀ c : Dev Cert.XaDwkvIdeal.nD,
          r.2.mem ((c.tc : Thread Cert.XaDwkvIdeal.nD Cert.XaDwkvIdeal.τ).loc Cert.XaDwkvIdeal.main_v0_0) = v0 c
          ∧ r.2.mem ((c.tc : Thread Cert.XaDwkvIdeal.nD Cert.XaDwkvIdeal.τ).loc Cert.XaDwkvIdeal.main_v0_1) = v1 c
          ∧ r.2.mem ((c.tc : Thread Cert.XaDwkvIdeal.nD Cert.XaDwkvIdeal.τ).loc Cert.XaDwkvIdeal.main_arg0) = m ((c.tc : Thread Cert.XaDwkvIdeal.nD Cert.XaDwkvIdeal.τ).loc Cert.XaDwkvIdeal.main_arg0)
          ∧ r.2.mem ((c.tc : Thread Cert.XaDwkvIdeal.nD Cert.XaDwkvIdeal.τ).loc Cert.XaDwkvIdeal.main_arg1) = m ((c.tc : Thread Cert.XaDwkvIdeal.nD Cert.XaDwkvIdeal.τ).loc Cert.XaDwkvIdeal.main_arg1)
          ∧ r.2.mem ((c.tc : Thread Cert.XaDwkvIdeal.nD Cert.XaDwkvIdeal.τ).loc Cert.XaDwkvIdeal.main_arg2) = m ((c.tc : Thread Cert.XaDwkvIdeal.nD Cert.XaDwkvIdeal.τ).loc Cert.XaDwkvIdeal.main_arg2))
      ∧ θ_run (Cert.XaDwkvRefIdeal.defs (F := Ideal)) (onTc (τ := Cert.XaDwkvRefIdeal.τ) (Cert.XaDwkvRefIdeal.main (F := Ideal))) ⟨m', fun _ => 0, g'⟩ (fun r => ∀ c : Dev Cert.XaDwkvRefIdeal.nD,
          r.2.mem ((c.tc : Thread Cert.XaDwkvRefIdeal.nD Cert.XaDwkvRefIdeal.τ).loc Cert.XaDwkvRefIdeal.main_v12) = v0 c
          ∧ r.2.mem ((c.tc : Thread Cert.XaDwkvRefIdeal.nD Cert.XaDwkvRefIdeal.τ).loc Cert.XaDwkvRefIdeal.main_v13) = v1 c
          ∧ r.2.mem ((c.tc : Thread Cert.XaDwkvRefIdeal.nD Cert.XaDwkvRefIdeal.τ).loc Cert.XaDwkvRefIdeal.main_arg0) = m' ((c.tc : Thread Cert.XaDwkvRefIdeal.nD Cert.XaDwkvRefIdeal.τ).loc Cert.XaDwkvRefIdeal.main_arg0)
          ∧ r.2.mem ((c.tc : Thread Cert.XaDwkvRefIdeal.nD Cert.XaDwkvRefIdeal.τ).loc Cert.XaDwkvRefIdeal.main_arg1) = m' ((c.tc : Thread Cert.XaDwkvRefIdeal.nD Cert.XaDwkvRefIdeal.τ).loc Cert.XaDwkvRefIdeal.main_arg1)
          ∧ r.2.mem ((c.tc : Thread Cert.XaDwkvRefIdeal.nD Cert.XaDwkvRefIdeal.τ).loc Cert.XaDwkvRefIdeal.main_arg2) = m' ((c.tc : Thread Cert.XaDwkvRefIdeal.nD Cert.XaDwkvRefIdeal.τ).loc Cert.XaDwkvRefIdeal.main_arg2))

def preserves_XaBwd_XaBwdIdeal : Prop :=
  True

def algebraic_XaBwdIdeal_XaRefIdeal_pre_finite_scores [hXaBwdIdeal : Cert.XaBwdIdeal.Facts] [hXaRefIdeal : Cert.XaRefIdeal.Facts] [hPre_finite_scores : Cert.Pre_finite_scores.Facts] : Prop :=
  ∀ (m : (ℓ : Loc Cert.XaBwdIdeal.nD Cert.XaBwdIdeal.τ Cert.XaBwdIdeal.sig) → Buf (Elt Ideal) ℓ) (g : Dev Cert.XaBwdIdeal.nD → PrngReg)
    (m' : (ℓ : Loc Cert.XaRefIdeal.nD Cert.XaRefIdeal.τ Cert.XaRefIdeal.sig) → Buf (Elt Ideal) ℓ) (g' : Dev Cert.XaRefIdeal.nD → PrngReg), Pre_XaBwdIdeal_finite_scores m →
    (∀ c : Dev Cert.XaBwdIdeal.nD,
      m' ((c.tc : Thread Cert.XaRefIdeal.nD Cert.XaRefIdeal.τ).loc Cert.XaRefIdeal.main_arg0) = m ((c.tc : Thread Cert.XaBwdIdeal.nD Cert.XaBwdIdeal.τ).loc Cert.XaBwdIdeal.main_arg0)
      ∧ m' ((c.tc : Thread Cert.XaRefIdeal.nD Cert.XaRefIdeal.τ).loc Cert.XaRefIdeal.main_arg1) = m ((c.tc : Thread Cert.XaBwdIdeal.nD Cert.XaBwdIdeal.τ).loc Cert.XaBwdIdeal.main_arg1)
      ∧ m' ((c.tc : Thread Cert.XaRefIdeal.nD Cert.XaRefIdeal.τ).loc Cert.XaRefIdeal.main_arg2) = m ((c.tc : Thread Cert.XaBwdIdeal.nD Cert.XaBwdIdeal.τ).loc Cert.XaBwdIdeal.main_arg2)
      ∧ m' ((c.tc : Thread Cert.XaRefIdeal.nD Cert.XaRefIdeal.τ).loc Cert.XaRefIdeal.main_arg3) = m ((c.tc : Thread Cert.XaBwdIdeal.nD Cert.XaBwdIdeal.τ).loc Cert.XaBwdIdeal.main_arg3)) →
    ∃ (v0 : (c : Dev Cert.XaBwdIdeal.nD) → Buf (Elt Ideal) ((c.tc : Thread Cert.XaBwdIdeal.nD Cert.XaBwdIdeal.τ).loc Cert.XaBwdIdeal.main_v0_0)) (v1 : (c : Dev Cert.XaBwdIdeal.nD) → Buf (Elt Ideal) ((c.tc : Thread Cert.XaBwdIdeal.nD Cert.XaBwdIdeal.τ).loc Cert.XaBwdIdeal.main_v0_1)) (v2 : (c : Dev Cert.XaBwdIdeal.nD) → Buf (Elt Ideal) ((c.tc : Thread Cert.XaBwdIdeal.nD Cert.XaBwdIdeal.τ).loc Cert.XaBwdIdeal.main_v0_2)),
      θ_run (Cert.XaBwdIdeal.defs (F := Ideal)) (onTc (τ := Cert.XaBwdIdeal.τ) (Cert.XaBwdIdeal.main (F := Ideal))) ⟨m, fun _ => 0, g⟩ (fun r => ∀ c : Dev Cert.XaBwdIdeal.nD,
          r.2.mem ((c.tc : Thread Cert.XaBwdIdeal.nD Cert.XaBwdIdeal.τ).loc Cert.XaBwdIdeal.main_v0_0) = v0 c
          ∧ r.2.mem ((c.tc : Thread Cert.XaBwdIdeal.nD Cert.XaBwdIdeal.τ).loc Cert.XaBwdIdeal.main_v0_1) = v1 c
          ∧ r.2.mem ((c.tc : Thread Cert.XaBwdIdeal.nD Cert.XaBwdIdeal.τ).loc Cert.XaBwdIdeal.main_v0_2) = v2 c
          ∧ r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
          ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
          ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
          ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3))
      ∧ θ_run (Cert.XaRefIdeal.defs (F := Ideal)) (onTc (τ := Cert.XaRefIdeal.τ) (Cert.XaRefIdeal.main (F := Ideal))) ⟨m', fun _ => 0, g'⟩ (fun r => ∀ c : Dev Cert.XaRefIdeal.nD,
          r.2.mem ((c.tc : Thread Cert.XaRefIdeal.nD Cert.XaRefIdeal.τ).loc Cert.XaRefIdeal.main_v67) = v0 c
          ∧ r.2.mem ((c.tc : Thread Cert.XaRefIdeal.nD Cert.XaRefIdeal.τ).loc Cert.XaRefIdeal.main_v65) = v1 c
          ∧ r.2.mem ((c.tc : Thread Cert.XaRefIdeal.nD Cert.XaRefIdeal.τ).loc Cert.XaRefIdeal.main_v64) = v2 c
          ∧ r.2.mem ((c.tc : Thread Cert.XaRefIdeal.nD Cert.XaRefIdeal.τ).loc Cert.XaRefIdeal.main_arg0) = m' ((c.tc : Thread Cert.XaRefIdeal.nD Cert.XaRefIdeal.τ).loc Cert.XaRefIdeal.main_arg0)
          ∧ r.2.mem ((c.tc : Thread Cert.XaRefIdeal.nD Cert.XaRefIdeal.τ).loc Cert.XaRefIdeal.main_arg1) = m' ((c.tc : Thread Cert.XaRefIdeal.nD Cert.XaRefIdeal.τ).loc Cert.XaRefIdeal.main_arg1)
          ∧ r.2.mem ((c.tc : Thread Cert.XaRefIdeal.nD Cert.XaRefIdeal.τ).loc Cert.XaRefIdeal.main_arg2) = m' ((c.tc : Thread Cert.XaRefIdeal.nD Cert.XaRefIdeal.τ).loc Cert.XaRefIdeal.main_arg2)
          ∧ r.2.mem ((c.tc : Thread Cert.XaRefIdeal.nD Cert.XaRefIdeal.τ).loc Cert.XaRefIdeal.main_arg3) = m' ((c.tc : Thread Cert.XaRefIdeal.nD Cert.XaRefIdeal.τ).loc Cert.XaRefIdeal.main_arg3))

def preserves_MixDwin_MixDwinIdeal : Prop :=
  True

def algebraic_MixDwinIdeal_MixDwinRefIdeal [hMixDwinIdeal : Cert.MixDwinIdeal.Facts] [hMixDwinRefIdeal : Cert.MixDwinRefIdeal.Facts] : Prop :=
  ∀ (m : (ℓ : Loc Cert.MixDwinIdeal.nD Cert.MixDwinIdeal.τ Cert.MixDwinIdeal.sig) → Buf (Elt Ideal) ℓ) (g : Dev Cert.MixDwinIdeal.nD → PrngReg)
    (m' : (ℓ : Loc Cert.MixDwinRefIdeal.nD Cert.MixDwinRefIdeal.τ Cert.MixDwinRefIdeal.sig) → Buf (Elt Ideal) ℓ) (g' : Dev Cert.MixDwinRefIdeal.nD → PrngReg), Pre_MixDwinIdeal m →
    (∀ c : Dev Cert.MixDwinIdeal.nD,
      m' ((c.tc : Thread Cert.MixDwinRefIdeal.nD Cert.MixDwinRefIdeal.τ).loc Cert.MixDwinRefIdeal.main_arg0) = m ((c.tc : Thread Cert.MixDwinIdeal.nD Cert.MixDwinIdeal.τ).loc Cert.MixDwinIdeal.main_arg0)
      ∧ m' ((c.tc : Thread Cert.MixDwinRefIdeal.nD Cert.MixDwinRefIdeal.τ).loc Cert.MixDwinRefIdeal.main_arg1) = m ((c.tc : Thread Cert.MixDwinIdeal.nD Cert.MixDwinIdeal.τ).loc Cert.MixDwinIdeal.main_arg1)) →
    ∃ (v0 : (c : Dev Cert.MixDwinIdeal.nD) → Buf (Elt Ideal) ((c.tc : Thread Cert.MixDwinIdeal.nD Cert.MixDwinIdeal.τ).loc Cert.MixDwinIdeal.main_v0)),
      θ_run (Cert.MixDwinIdeal.defs (F := Ideal)) (onTc (τ := Cert.MixDwinIdeal.τ) (Cert.MixDwinIdeal.main (F := Ideal))) ⟨m, fun _ => 0, g⟩ (fun r => ∀ c : Dev Cert.MixDwinIdeal.nD,
          r.2.mem ((c.tc : Thread Cert.MixDwinIdeal.nD Cert.MixDwinIdeal.τ).loc Cert.MixDwinIdeal.main_v0) = v0 c
          ∧ r.2.mem ((c.tc : Thread Cert.MixDwinIdeal.nD Cert.MixDwinIdeal.τ).loc Cert.MixDwinIdeal.main_arg0) = m ((c.tc : Thread Cert.MixDwinIdeal.nD Cert.MixDwinIdeal.τ).loc Cert.MixDwinIdeal.main_arg0)
          ∧ r.2.mem ((c.tc : Thread Cert.MixDwinIdeal.nD Cert.MixDwinIdeal.τ).loc Cert.MixDwinIdeal.main_arg1) = m ((c.tc : Thread Cert.MixDwinIdeal.nD Cert.MixDwinIdeal.τ).loc Cert.MixDwinIdeal.main_arg1))
      ∧ θ_run (Cert.MixDwinRefIdeal.defs (F := Ideal)) (onTc (τ := Cert.MixDwinRefIdeal.τ) (Cert.MixDwinRefIdeal.main (F := Ideal))) ⟨m', fun _ => 0, g'⟩ (fun r => ∀ c : Dev Cert.MixDwinRefIdeal.nD,
          r.2.mem ((c.tc : Thread Cert.MixDwinRefIdeal.nD Cert.MixDwinRefIdeal.τ).loc Cert.MixDwinRefIdeal.main_v10) = v0 c
          ∧ r.2.mem ((c.tc : Thread Cert.MixDwinRefIdeal.nD Cert.MixDwinRefIdeal.τ).loc Cert.MixDwinRefIdeal.main_arg0) = m' ((c.tc : Thread Cert.MixDwinRefIdeal.nD Cert.MixDwinRefIdeal.τ).loc Cert.MixDwinRefIdeal.main_arg0)
          ∧ r.2.mem ((c.tc : Thread Cert.MixDwinRefIdeal.nD Cert.MixDwinRefIdeal.τ).loc Cert.MixDwinRefIdeal.main_arg1) = m' ((c.tc : Thread Cert.MixDwinRefIdeal.nD Cert.MixDwinRefIdeal.τ).loc Cert.MixDwinRefIdeal.main_arg1))

def preserves_MixDh_MixDhIdeal : Prop :=
  True

def algebraic_MixDhIdeal_MixDhRefIdeal [hMixDhIdeal : Cert.MixDhIdeal.Facts] [hMixDhRefIdeal : Cert.MixDhRefIdeal.Facts] : Prop :=
  ∀ (m : (ℓ : Loc Cert.MixDhIdeal.nD Cert.MixDhIdeal.τ Cert.MixDhIdeal.sig) → Buf (Elt Ideal) ℓ) (g : Dev Cert.MixDhIdeal.nD → PrngReg)
    (m' : (ℓ : Loc Cert.MixDhRefIdeal.nD Cert.MixDhRefIdeal.τ Cert.MixDhRefIdeal.sig) → Buf (Elt Ideal) ℓ) (g' : Dev Cert.MixDhRefIdeal.nD → PrngReg), Pre_MixDhIdeal m →
    (∀ c : Dev Cert.MixDhIdeal.nD,
      m' ((c.tc : Thread Cert.MixDhRefIdeal.nD Cert.MixDhRefIdeal.τ).loc Cert.MixDhRefIdeal.main_arg0) = m ((c.tc : Thread Cert.MixDhIdeal.nD Cert.MixDhIdeal.τ).loc Cert.MixDhIdeal.main_arg0)
      ∧ m' ((c.tc : Thread Cert.MixDhRefIdeal.nD Cert.MixDhRefIdeal.τ).loc Cert.MixDhRefIdeal.main_arg1) = m ((c.tc : Thread Cert.MixDhIdeal.nD Cert.MixDhIdeal.τ).loc Cert.MixDhIdeal.main_arg1)) →
    ∃ (v0 : (c : Dev Cert.MixDhIdeal.nD) → Buf (Elt Ideal) ((c.tc : Thread Cert.MixDhIdeal.nD Cert.MixDhIdeal.τ).loc Cert.MixDhIdeal.main_v0)),
      θ_run (Cert.MixDhIdeal.defs (F := Ideal)) (onTc (τ := Cert.MixDhIdeal.τ) (Cert.MixDhIdeal.main (F := Ideal))) ⟨m, fun _ => 0, g⟩ (fun r => ∀ c : Dev Cert.MixDhIdeal.nD,
          r.2.mem ((c.tc : Thread Cert.MixDhIdeal.nD Cert.MixDhIdeal.τ).loc Cert.MixDhIdeal.main_v0) = v0 c
          ∧ r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
          ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1))
      ∧ θ_run (Cert.MixDhRefIdeal.defs (F := Ideal)) (onTc (τ := Cert.MixDhRefIdeal.τ) (Cert.MixDhRefIdeal.main (F := Ideal))) ⟨m', fun _ => 0, g'⟩ (fun r => ∀ c : Dev Cert.MixDhRefIdeal.nD,
          r.2.mem ((c.tc : Thread Cert.MixDhRefIdeal.nD Cert.MixDhRefIdeal.τ).loc Cert.MixDhRefIdeal.main_v6) = v0 c
          ∧ r.2.mem ((c.tc : Thread Cert.MixDhRefIdeal.nD Cert.MixDhRefIdeal.τ).loc Cert.MixDhRefIdeal.main_arg0) = m' ((c.tc : Thread Cert.MixDhRefIdeal.nD Cert.MixDhRefIdeal.τ).loc Cert.MixDhRefIdeal.main_arg0)
          ∧ r.2.mem ((c.tc : Thread Cert.MixDhRefIdeal.nD Cert.MixDhRefIdeal.τ).loc Cert.MixDhRefIdeal.main_arg1) = m' ((c.tc : Thread Cert.MixDhRefIdeal.nD Cert.MixDhRefIdeal.τ).loc Cert.MixDhRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v35) = v1 c
          ∧ r.2.mem ((c.tc : Thread Cert.NormBwdRefIdeal.nD Cert.NormBwdRefIdeal.τ).loc Cert.NormBwdRefIdeal.main_v17) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_XaQ_XaQIdeal : Prop :=
  True

def algebraic_XaQIdeal_XaQRefIdeal [hXaQIdeal : Cert.XaQIdeal.Facts] [hXaQRefIdeal : Cert.XaQRefIdeal.Facts] : Prop :=
  ∀ (m : (ℓ : Loc Cert.XaQIdeal.nD Cert.XaQIdeal.τ Cert.XaQIdeal.sig) → Buf (Elt Ideal) ℓ) (g : Dev Cert.XaQIdeal.nD → PrngReg)
    (m' : (ℓ : Loc Cert.XaQRefIdeal.nD Cert.XaQRefIdeal.τ Cert.XaQRefIdeal.sig) → Buf (Elt Ideal) ℓ) (g' : Dev Cert.XaQRefIdeal.nD → PrngReg), Pre_XaQIdeal m →
    (∀ c : Dev Cert.XaQIdeal.nD,
      m' ((c.tc : Thread Cert.XaQRefIdeal.nD Cert.XaQRefIdeal.τ).loc Cert.XaQRefIdeal.main_arg0) = m ((c.tc : Thread Cert.XaQIdeal.nD Cert.XaQIdeal.τ).loc Cert.XaQIdeal.main_arg0)
      ∧ m' ((c.tc : Thread Cert.XaQRefIdeal.nD Cert.XaQRefIdeal.τ).loc Cert.XaQRefIdeal.main_arg1) = m ((c.tc : Thread Cert.XaQIdeal.nD Cert.XaQIdeal.τ).loc Cert.XaQIdeal.main_arg1)) →
    ∃ (v0 : (c : Dev Cert.XaQIdeal.nD) → Buf (Elt Ideal) ((c.tc : Thread Cert.XaQIdeal.nD Cert.XaQIdeal.τ).loc Cert.XaQIdeal.main_v0)),
      θ_run (Cert.XaQIdeal.defs (F := Ideal)) (onTc (τ := Cert.XaQIdeal.τ) (Cert.XaQIdeal.main (F := Ideal))) ⟨m, fun _ => 0, g⟩ (fun r => ∀ c : Dev Cert.XaQIdeal.nD,
          r.2.mem ((c.tc : Thread Cert.XaQIdeal.nD Cert.XaQIdeal.τ).loc Cert.XaQIdeal.main_v0) = v0 c
          ∧ r.2.mem ((c.tc : Thread Cert.XaQIdeal.nD Cert.XaQIdeal.τ).loc Cert.XaQIdeal.main_arg0) = m ((c.tc : Thread Cert.XaQIdeal.nD Cert.XaQIdeal.τ).loc Cert.XaQIdeal.main_arg0)
          ∧ r.2.mem ((c.tc : Thread Cert.XaQIdeal.nD Cert.XaQIdeal.τ).loc Cert.XaQIdeal.main_arg1) = m ((c.tc : Thread Cert.XaQIdeal.nD Cert.XaQIdeal.τ).loc Cert.XaQIdeal.main_arg1))
      ∧ θ_run (Cert.XaQRefIdeal.defs (F := Ideal)) (onTc (τ := Cert.XaQRefIdeal.τ) (Cert.XaQRefIdeal.main (F := Ideal))) ⟨m', fun _ => 0, g'⟩ (fun r => ∀ c : Dev Cert.XaQRefIdeal.nD,
          r.2.mem ((c.tc : Thread Cert.XaQRefIdeal.nD Cert.XaQRefIdeal.τ).loc Cert.XaQRefIdeal.main_v4) = v0 c
          ∧ r.2.mem ((c.tc : Thread Cert.XaQRefIdeal.nD Cert.XaQRefIdeal.τ).loc Cert.XaQRefIdeal.main_arg0) = m' ((c.tc : Thread Cert.XaQRefIdeal.nD Cert.XaQRefIdeal.τ).loc Cert.XaQRefIdeal.main_arg0)
          ∧ r.2.mem ((c.tc : Thread Cert.XaQRefIdeal.nD Cert.XaQRefIdeal.τ).loc Cert.XaQRefIdeal.main_arg1) = m' ((c.tc : Thread Cert.XaQRefIdeal.nD Cert.XaQRefIdeal.τ).loc Cert.XaQRefIdeal.main_arg1))

def preserves_XaKv_XaKvIdeal : Prop :=
  True

def algebraic_XaKvIdeal_XaKvRefIdeal [hXaKvIdeal : Cert.XaKvIdeal.Facts] [hXaKvRefIdeal : Cert.XaKvRefIdeal.Facts] : Prop :=
  ∀ (m : (ℓ : Loc Cert.XaKvIdeal.nD Cert.XaKvIdeal.τ Cert.XaKvIdeal.sig) → Buf (Elt Ideal) ℓ) (g : Dev Cert.XaKvIdeal.nD → PrngReg)
    (m' : (ℓ : Loc Cert.XaKvRefIdeal.nD Cert.XaKvRefIdeal.τ Cert.XaKvRefIdeal.sig) → Buf (Elt Ideal) ℓ) (g' : Dev Cert.XaKvRefIdeal.nD → PrngReg), Pre_XaKvIdeal m →
    (∀ c : Dev Cert.XaKvIdeal.nD,
      m' ((c.tc : Thread Cert.XaKvRefIdeal.nD Cert.XaKvRefIdeal.τ).loc Cert.XaKvRefIdeal.main_arg0) = m ((c.tc : Thread Cert.XaKvIdeal.nD Cert.XaKvIdeal.τ).loc Cert.XaKvIdeal.main_arg0)
      ∧ m' ((c.tc : Thread Cert.XaKvRefIdeal.nD Cert.XaKvRefIdeal.τ).loc Cert.XaKvRefIdeal.main_arg1) = m ((c.tc : Thread Cert.XaKvIdeal.nD Cert.XaKvIdeal.τ).loc Cert.XaKvIdeal.main_arg1)) →
    ∃ (v0 : (c : Dev Cert.XaKvIdeal.nD) → Buf (Elt Ideal) ((c.tc : Thread Cert.XaKvIdeal.nD Cert.XaKvIdeal.τ).loc Cert.XaKvIdeal.main_v0)),
      θ_run (Cert.XaKvIdeal.defs (F := Ideal)) (onTc (τ := Cert.XaKvIdeal.τ) (Cert.XaKvIdeal.main (F := Ideal))) ⟨m, fun _ => 0, g⟩ (fun r => ∀ c : Dev Cert.XaKvIdeal.nD,
          r.2.mem ((c.tc : Thread Cert.XaKvIdeal.nD Cert.XaKvIdeal.τ).loc Cert.XaKvIdeal.main_v0) = v0 c
          ∧ r.2.mem ((c.tc : Thread Cert.XaKvIdeal.nD Cert.XaKvIdeal.τ).loc Cert.XaKvIdeal.main_arg0) = m ((c.tc : Thread Cert.XaKvIdeal.nD Cert.XaKvIdeal.τ).loc Cert.XaKvIdeal.main_arg0)
          ∧ r.2.mem ((c.tc : Thread Cert.XaKvIdeal.nD Cert.XaKvIdeal.τ).loc Cert.XaKvIdeal.main_arg1) = m ((c.tc : Thread Cert.XaKvIdeal.nD Cert.XaKvIdeal.τ).loc Cert.XaKvIdeal.main_arg1))
      ∧ θ_run (Cert.XaKvRefIdeal.defs (F := Ideal)) (onTc (τ := Cert.XaKvRefIdeal.τ) (Cert.XaKvRefIdeal.main (F := Ideal))) ⟨m', fun _ => 0, g'⟩ (fun r => ∀ c : Dev Cert.XaKvRefIdeal.nD,
          r.2.mem ((c.tc : Thread Cert.XaKvRefIdeal.nD Cert.XaKvRefIdeal.τ).loc Cert.XaKvRefIdeal.main_v4) = v0 c
          ∧ r.2.mem ((c.tc : Thread Cert.XaKvRefIdeal.nD Cert.XaKvRefIdeal.τ).loc Cert.XaKvRefIdeal.main_arg0) = m' ((c.tc : Thread Cert.XaKvRefIdeal.nD Cert.XaKvRefIdeal.τ).loc Cert.XaKvRefIdeal.main_arg0)
          ∧ r.2.mem ((c.tc : Thread Cert.XaKvRefIdeal.nD Cert.XaKvRefIdeal.τ).loc Cert.XaKvRefIdeal.main_arg1) = m' ((c.tc : Thread Cert.XaKvRefIdeal.nD Cert.XaKvRefIdeal.τ).loc Cert.XaKvRefIdeal.main_arg1))

def preserves_XaO_XaOIdeal : Prop :=
  True

def algebraic_XaOIdeal_XaORefIdeal [hXaOIdeal : Cert.XaOIdeal.Facts] [hXaORefIdeal : Cert.XaORefIdeal.Facts] : Prop :=
  ∀ (m : (ℓ : Loc Cert.XaOIdeal.nD Cert.XaOIdeal.τ Cert.XaOIdeal.sig) → Buf (Elt Ideal) ℓ) (g : Dev Cert.XaOIdeal.nD → PrngReg)
    (m' : (ℓ : Loc Cert.XaORefIdeal.nD Cert.XaORefIdeal.τ Cert.XaORefIdeal.sig) → Buf (Elt Ideal) ℓ) (g' : Dev Cert.XaORefIdeal.nD → PrngReg), Pre_XaOIdeal m →
    (∀ c : Dev Cert.XaOIdeal.nD,
      m' ((c.tc : Thread Cert.XaORefIdeal.nD Cert.XaORefIdeal.τ).loc Cert.XaORefIdeal.main_arg0) = m ((c.tc : Thread Cert.XaOIdeal.nD Cert.XaOIdeal.τ).loc Cert.XaOIdeal.main_arg0)
      ∧ m' ((c.tc : Thread Cert.XaORefIdeal.nD Cert.XaORefIdeal.τ).loc Cert.XaORefIdeal.main_arg1) = m ((c.tc : Thread Cert.XaOIdeal.nD Cert.XaOIdeal.τ).loc Cert.XaOIdeal.main_arg1)
      ∧ m' ((c.tc : Thread Cert.XaORefIdeal.nD Cert.XaORefIdeal.τ).loc Cert.XaORefIdeal.main_arg2) = m ((c.tc : Thread Cert.XaOIdeal.nD Cert.XaOIdeal.τ).loc Cert.XaOIdeal.main_arg2)) →
    ∃ (v0 : (c : Dev Cert.XaOIdeal.nD) → Buf (Elt Ideal) ((c.tc : Thread Cert.XaOIdeal.nD Cert.XaOIdeal.τ).loc Cert.XaOIdeal.main_v0)),
      θ_run (Cert.XaOIdeal.defs (F := Ideal)) (onTc (τ := Cert.XaOIdeal.τ) (Cert.XaOIdeal.main (F := Ideal))) ⟨m, fun _ => 0, g⟩ (fun r => ∀ c : Dev Cert.XaOIdeal.nD,
          r.2.mem ((c.tc : Thread Cert.XaOIdeal.nD Cert.XaOIdeal.τ).loc Cert.XaOIdeal.main_v0) = v0 c
          ∧ r.2.mem ((c.tc : Thread Cert.XaOIdeal.nD Cert.XaOIdeal.τ).loc Cert.XaOIdeal.main_arg0) = m ((c.tc : Thread Cert.XaOIdeal.nD Cert.XaOIdeal.τ).loc Cert.XaOIdeal.main_arg0)
          ∧ r.2.mem ((c.tc : Thread Cert.XaOIdeal.nD Cert.XaOIdeal.τ).loc Cert.XaOIdeal.main_arg1) = m ((c.tc : Thread Cert.XaOIdeal.nD Cert.XaOIdeal.τ).loc Cert.XaOIdeal.main_arg1)
          ∧ r.2.mem ((c.tc : Thread Cert.XaOIdeal.nD Cert.XaOIdeal.τ).loc Cert.XaOIdeal.main_arg2) = m ((c.tc : Thread Cert.XaOIdeal.nD Cert.XaOIdeal.τ).loc Cert.XaOIdeal.main_arg2))
      ∧ θ_run (Cert.XaORefIdeal.defs (F := Ideal)) (onTc (τ := Cert.XaORefIdeal.τ) (Cert.XaORefIdeal.main (F := Ideal))) ⟨m', fun _ => 0, g'⟩ (fun r => ∀ c : Dev Cert.XaORefIdeal.nD,
          r.2.mem ((c.tc : Thread Cert.XaORefIdeal.nD Cert.XaORefIdeal.τ).loc Cert.XaORefIdeal.main_v4) = v0 c
          ∧ r.2.mem ((c.tc : Thread Cert.XaORefIdeal.nD Cert.XaORefIdeal.τ).loc Cert.XaORefIdeal.main_arg0) = m' ((c.tc : Thread Cert.XaORefIdeal.nD Cert.XaORefIdeal.τ).loc Cert.XaORefIdeal.main_arg0)
          ∧ r.2.mem ((c.tc : Thread Cert.XaORefIdeal.nD Cert.XaORefIdeal.τ).loc Cert.XaORefIdeal.main_arg1) = m' ((c.tc : Thread Cert.XaORefIdeal.nD Cert.XaORefIdeal.τ).loc Cert.XaORefIdeal.main_arg1)
          ∧ r.2.mem ((c.tc : Thread Cert.XaORefIdeal.nD Cert.XaORefIdeal.τ).loc Cert.XaORefIdeal.main_arg2) = m' ((c.tc : Thread Cert.XaORefIdeal.nD Cert.XaORefIdeal.τ).loc Cert.XaORefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v6) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v6) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_XaAttn_XaAttnIdeal : Prop :=
  True

def algebraic_XaAttnIdeal_XaAttnRefIdeal [hXaAttnIdeal : Cert.XaAttnIdeal.Facts] [hXaAttnRefIdeal : Cert.XaAttnRefIdeal.Facts] : Prop :=
  ∀ (m : (ℓ : Loc Cert.XaAttnIdeal.nD Cert.XaAttnIdeal.τ Cert.XaAttnIdeal.sig) → Buf (Elt Ideal) ℓ) (g : Dev Cert.XaAttnIdeal.nD → PrngReg)
    (m' : (ℓ : Loc Cert.XaAttnRefIdeal.nD Cert.XaAttnRefIdeal.τ Cert.XaAttnRefIdeal.sig) → Buf (Elt Ideal) ℓ) (g' : Dev Cert.XaAttnRefIdeal.nD → PrngReg), Pre_XaAttnIdeal m →
    (∀ c : Dev Cert.XaAttnIdeal.nD,
      m' ((c.tc : Thread Cert.XaAttnRefIdeal.nD Cert.XaAttnRefIdeal.τ).loc Cert.XaAttnRefIdeal.main_arg0) = m ((c.tc : Thread Cert.XaAttnIdeal.nD Cert.XaAttnIdeal.τ).loc Cert.XaAttnIdeal.main_arg0)
      ∧ m' ((c.tc : Thread Cert.XaAttnRefIdeal.nD Cert.XaAttnRefIdeal.τ).loc Cert.XaAttnRefIdeal.main_arg1) = m ((c.tc : Thread Cert.XaAttnIdeal.nD Cert.XaAttnIdeal.τ).loc Cert.XaAttnIdeal.main_arg1)
      ∧ m' ((c.tc : Thread Cert.XaAttnRefIdeal.nD Cert.XaAttnRefIdeal.τ).loc Cert.XaAttnRefIdeal.main_arg2) = m ((c.tc : Thread Cert.XaAttnIdeal.nD Cert.XaAttnIdeal.τ).loc Cert.XaAttnIdeal.main_arg2)) →
    ∃ (v0 : (c : Dev Cert.XaAttnIdeal.nD) → Buf (Elt Ideal) ((c.tc : Thread Cert.XaAttnIdeal.nD Cert.XaAttnIdeal.τ).loc Cert.XaAttnIdeal.main_v0)),
      θ_run (Cert.XaAttnIdeal.defs (F := Ideal)) (onTc (τ := Cert.XaAttnIdeal.τ) (Cert.XaAttnIdeal.main (F := Ideal))) ⟨m, fun _ => 0, g⟩ (fun r => ∀ c : Dev Cert.XaAttnIdeal.nD,
          r.2.mem ((c.tc : Thread Cert.XaAttnIdeal.nD Cert.XaAttnIdeal.τ).loc Cert.XaAttnIdeal.main_v0) = v0 c
          ∧ r.2.mem ((c.tc : Thread Cert.XaAttnIdeal.nD Cert.XaAttnIdeal.τ).loc Cert.XaAttnIdeal.main_arg0) = m ((c.tc : Thread Cert.XaAttnIdeal.nD Cert.XaAttnIdeal.τ).loc Cert.XaAttnIdeal.main_arg0)
          ∧ r.2.mem ((c.tc : Thread Cert.XaAttnIdeal.nD Cert.XaAttnIdeal.τ).loc Cert.XaAttnIdeal.main_arg1) = m ((c.tc : Thread Cert.XaAttnIdeal.nD Cert.XaAttnIdeal.τ).loc Cert.XaAttnIdeal.main_arg1)
          ∧ r.2.mem ((c.tc : Thread Cert.XaAttnIdeal.nD Cert.XaAttnIdeal.τ).loc Cert.XaAttnIdeal.main_arg2) = m ((c.tc : Thread Cert.XaAttnIdeal.nD Cert.XaAttnIdeal.τ).loc Cert.XaAttnIdeal.main_arg2))
      ∧ θ_run (Cert.XaAttnRefIdeal.defs (F := Ideal)) (onTc (τ := Cert.XaAttnRefIdeal.τ) (Cert.XaAttnRefIdeal.main (F := Ideal))) ⟨m', fun _ => 0, g'⟩ (fun r => ∀ c : Dev Cert.XaAttnRefIdeal.nD,
          r.2.mem ((c.tc : Thread Cert.XaAttnRefIdeal.nD Cert.XaAttnRefIdeal.τ).loc Cert.XaAttnRefIdeal.main_v23) = v0 c
          ∧ r.2.mem ((c.tc : Thread Cert.XaAttnRefIdeal.nD Cert.XaAttnRefIdeal.τ).loc Cert.XaAttnRefIdeal.main_arg0) = m' ((c.tc : Thread Cert.XaAttnRefIdeal.nD Cert.XaAttnRefIdeal.τ).loc Cert.XaAttnRefIdeal.main_arg0)
          ∧ r.2.mem ((c.tc : Thread Cert.XaAttnRefIdeal.nD Cert.XaAttnRefIdeal.τ).loc Cert.XaAttnRefIdeal.main_arg1) = m' ((c.tc : Thread Cert.XaAttnRefIdeal.nD Cert.XaAttnRefIdeal.τ).loc Cert.XaAttnRefIdeal.main_arg1)
          ∧ r.2.mem ((c.tc : Thread Cert.XaAttnRefIdeal.nD Cert.XaAttnRefIdeal.τ).loc Cert.XaAttnRefIdeal.main_arg2) = m' ((c.tc : Thread Cert.XaAttnRefIdeal.nD Cert.XaAttnRefIdeal.τ).loc Cert.XaAttnRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_NormKv_NormKvIdeal : Prop :=
  True

def algebraic_NormKvIdeal_NormKvRefIdeal [hNormKvIdeal : Cert.NormKvIdeal.Facts] [hNormKvRefIdeal : Cert.NormKvRefIdeal.Facts] : Prop :=
  ∀ (m : (ℓ : Loc Cert.NormKvIdeal.nD Cert.NormKvIdeal.τ Cert.NormKvIdeal.sig) → Buf (Elt Ideal) ℓ) (g : Dev Cert.NormKvIdeal.nD → PrngReg)
    (m' : (ℓ : Loc Cert.NormKvRefIdeal.nD Cert.NormKvRefIdeal.τ Cert.NormKvRefIdeal.sig) → Buf (Elt Ideal) ℓ) (g' : Dev Cert.NormKvRefIdeal.nD → PrngReg), Pre_NormKvIdeal m →
    (∀ c : Dev Cert.NormKvIdeal.nD,
      m' ((c.tc : Thread Cert.NormKvRefIdeal.nD Cert.NormKvRefIdeal.τ).loc Cert.NormKvRefIdeal.main_arg0) = m ((c.tc : Thread Cert.NormKvIdeal.nD Cert.NormKvIdeal.τ).loc Cert.NormKvIdeal.main_arg0)
      ∧ m' ((c.tc : Thread Cert.NormKvRefIdeal.nD Cert.NormKvRefIdeal.τ).loc Cert.NormKvRefIdeal.main_arg1) = m ((c.tc : Thread Cert.NormKvIdeal.nD Cert.NormKvIdeal.τ).loc Cert.NormKvIdeal.main_arg1)
      ∧ m' ((c.tc : Thread Cert.NormKvRefIdeal.nD Cert.NormKvRefIdeal.τ).loc Cert.NormKvRefIdeal.main_arg2) = m ((c.tc : Thread Cert.NormKvIdeal.nD Cert.NormKvIdeal.τ).loc Cert.NormKvIdeal.main_arg2)) →
    ∃ (v0 : (c : Dev Cert.NormKvIdeal.nD) → Buf (Elt Ideal) ((c.tc : Thread Cert.NormKvIdeal.nD Cert.NormKvIdeal.τ).loc Cert.NormKvIdeal.main_v0)),
      θ_run (Cert.NormKvIdeal.defs (F := Ideal)) (onTc (τ := Cert.NormKvIdeal.τ) (Cert.NormKvIdeal.main (F := Ideal))) ⟨m, fun _ => 0, g⟩ (fun r => ∀ c : Dev Cert.NormKvIdeal.nD,
          r.2.mem ((c.tc : Thread Cert.NormKvIdeal.nD Cert.NormKvIdeal.τ).loc Cert.NormKvIdeal.main_v0) = v0 c
          ∧ r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
          ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
          ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ θ_run (Cert.NormKvRefIdeal.defs (F := Ideal)) (onTc (τ := Cert.NormKvRefIdeal.τ) (Cert.NormKvRefIdeal.main (F := Ideal))) ⟨m', fun _ => 0, g'⟩ (fun r => ∀ c : Dev Cert.NormKvRefIdeal.nD,
          r.2.mem ((c.tc : Thread Cert.NormKvRefIdeal.nD Cert.NormKvRefIdeal.τ).loc Cert.NormKvRefIdeal.main_v14) = v0 c
          ∧ r.2.mem ((c.tc : Thread Cert.NormKvRefIdeal.nD Cert.NormKvRefIdeal.τ).loc Cert.NormKvRefIdeal.main_arg0) = m' ((c.tc : Thread Cert.NormKvRefIdeal.nD Cert.NormKvRefIdeal.τ).loc Cert.NormKvRefIdeal.main_arg0)
          ∧ r.2.mem ((c.tc : Thread Cert.NormKvRefIdeal.nD Cert.NormKvRefIdeal.τ).loc Cert.NormKvRefIdeal.main_arg1) = m' ((c.tc : Thread Cert.NormKvRefIdeal.nD Cert.NormKvRefIdeal.τ).loc Cert.NormKvRefIdeal.main_arg1)
          ∧ r.2.mem ((c.tc : Thread Cert.NormKvRefIdeal.nD Cert.NormKvRefIdeal.τ).loc Cert.NormKvRefIdeal.main_arg2) = m' ((c.tc : Thread Cert.NormKvRefIdeal.nD Cert.NormKvRefIdeal.τ).loc Cert.NormKvRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)) (v3 : (c : Dev Cert.FinalIdeal.nD) → Buf (Elt Ideal) ((c.tc : Thread Cert.FinalIdeal.nD Cert.FinalIdeal.τ).loc Cert.FinalIdeal.main_v0_3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_v0_3) = v3 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v48) = v0 c
          ∧ r.2.mem ((c.tc : Thread Cert.FinalRefIdeal.nD Cert.FinalRefIdeal.τ).loc Cert.FinalRefIdeal.main_v49) = v1 c
          ∧ r.2.mem ((c.tc : Thread Cert.FinalRefIdeal.nD Cert.FinalRefIdeal.τ).loc Cert.FinalRefIdeal.main_v32) = v2 c
          ∧ r.2.mem ((c.tc : Thread Cert.FinalRefIdeal.nD Cert.FinalRefIdeal.τ).loc Cert.FinalRefIdeal.main_v50) = v3 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)
      ∧ m' ((c.tc : Thread Cert.AdamPoolRefIdeal.nD Cert.AdamPoolRefIdeal.τ).loc Cert.AdamPoolRefIdeal.main_arg4) = m ((c.tc : Thread Cert.AdamPoolIdeal.nD Cert.AdamPoolIdeal.τ).loc Cert.AdamPoolIdeal.main_arg4)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_arg1) = v0 c
          ∧ r.2.mem ((c.tc : Thread Cert.AdamPoolRefIdeal.nD Cert.AdamPoolRefIdeal.τ).loc Cert.AdamPoolRefIdeal.main_v23) = v1 c
          ∧ r.2.mem ((c.tc : Thread Cert.AdamPoolRefIdeal.nD Cert.AdamPoolRefIdeal.τ).loc Cert.AdamPoolRefIdeal.main_v4) = v2 c
          ∧ r.2.mem ((c.tc : Thread Cert.AdamPoolRefIdeal.nD Cert.AdamPoolRefIdeal.τ).loc Cert.AdamPoolRefIdeal.main_v10) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3)
          ∧ r.2.mem ((c.tc : Thread Cert.AdamPoolRefIdeal.nD Cert.AdamPoolRefIdeal.τ).loc Cert.AdamPoolRefIdeal.main_arg4) = m' ((c.tc : Thread Cert.AdamPoolRefIdeal.nD Cert.AdamPoolRefIdeal.τ).loc Cert.AdamPoolRefIdeal.main_arg4))

def preserves_PoolBwd1_PoolBwd1Ideal : Prop :=
  True

def algebraic_PoolBwd1Ideal_PoolBwd1RefIdeal [hPoolBwd1Ideal : Cert.PoolBwd1Ideal.Facts] [hPoolBwd1RefIdeal : Cert.PoolBwd1RefIdeal.Facts] : Prop :=
  ∀ (m : (ℓ : Loc Cert.PoolBwd1Ideal.nD Cert.PoolBwd1Ideal.τ Cert.PoolBwd1Ideal.sig) → Buf (Elt Ideal) ℓ) (g : Dev Cert.PoolBwd1Ideal.nD → PrngReg)
    (m' : (ℓ : Loc Cert.PoolBwd1RefIdeal.nD Cert.PoolBwd1RefIdeal.τ Cert.PoolBwd1RefIdeal.sig) → Buf (Elt Ideal) ℓ) (g' : Dev Cert.PoolBwd1RefIdeal.nD → PrngReg), Pre_PoolBwd1Ideal m →
    (∀ c : Dev Cert.PoolBwd1Ideal.nD,
      m' ((c.tc : Thread Cert.PoolBwd1RefIdeal.nD Cert.PoolBwd1RefIdeal.τ).loc Cert.PoolBwd1RefIdeal.main_arg0) = m ((c.tc : Thread Cert.PoolBwd1Ideal.nD Cert.PoolBwd1Ideal.τ).loc Cert.PoolBwd1Ideal.main_arg0)
      ∧ m' ((c.tc : Thread Cert.PoolBwd1RefIdeal.nD Cert.PoolBwd1RefIdeal.τ).loc Cert.PoolBwd1RefIdeal.main_arg1) = m ((c.tc : Thread Cert.PoolBwd1Ideal.nD Cert.PoolBwd1Ideal.τ).loc Cert.PoolBwd1Ideal.main_arg1)
      ∧ m' ((c.tc : Thread Cert.PoolBwd1RefIdeal.nD Cert.PoolBwd1RefIdeal.τ).loc Cert.PoolBwd1RefIdeal.main_arg2) = m ((c.tc : Thread Cert.PoolBwd1Ideal.nD Cert.PoolBwd1Ideal.τ).loc Cert.PoolBwd1Ideal.main_arg2)) →
    ∃ (v0 : (c : Dev Cert.PoolBwd1Ideal.nD) → Buf (Elt Ideal) ((c.tc : Thread Cert.PoolBwd1Ideal.nD Cert.PoolBwd1Ideal.τ).loc Cert.PoolBwd1Ideal.main_v0_0)) (v1 : (c : Dev Cert.PoolBwd1Ideal.nD) → Buf (Elt Ideal) ((c.tc : Thread Cert.PoolBwd1Ideal.nD Cert.PoolBwd1Ideal.τ).loc Cert.PoolBwd1Ideal.main_v0_1)) (v2 : (c : Dev Cert.PoolBwd1Ideal.nD) → Buf (Elt Ideal) ((c.tc : Thread Cert.PoolBwd1Ideal.nD Cert.PoolBwd1Ideal.τ).loc Cert.PoolBwd1Ideal.main_v0_2)),
      θ_run (Cert.PoolBwd1Ideal.defs (F := Ideal)) (onTc (τ := Cert.PoolBwd1Ideal.τ) (Cert.PoolBwd1Ideal.main (F := Ideal))) ⟨m, fun _ => 0, g⟩ (fun r => ∀ c : Dev Cert.PoolBwd1Ideal.nD,
          r.2.mem ((c.tc : Thread Cert.PoolBwd1Ideal.nD Cert.PoolBwd1Ideal.τ).loc Cert.PoolBwd1Ideal.main_v0_0) = v0 c
          ∧ r.2.mem ((c.tc : Thread Cert.PoolBwd1Ideal.nD Cert.PoolBwd1Ideal.τ).loc Cert.PoolBwd1Ideal.main_v0_1) = v1 c
          ∧ r.2.mem ((c.tc : Thread Cert.PoolBwd1Ideal.nD Cert.PoolBwd1Ideal.τ).loc Cert.PoolBwd1Ideal.main_v0_2) = v2 c
          ∧ r.2.mem ((c.tc : Thread Cert.PoolBwd1Ideal.nD Cert.PoolBwd1Ideal.τ).loc Cert.PoolBwd1Ideal.main_arg0) = m ((c.tc : Thread Cert.PoolBwd1Ideal.nD Cert.PoolBwd1Ideal.τ).loc Cert.PoolBwd1Ideal.main_arg0)
          ∧ r.2.mem ((c.tc : Thread Cert.PoolBwd1Ideal.nD Cert.PoolBwd1Ideal.τ).loc Cert.PoolBwd1Ideal.main_arg1) = m ((c.tc : Thread Cert.PoolBwd1Ideal.nD Cert.PoolBwd1Ideal.τ).loc Cert.PoolBwd1Ideal.main_arg1)
          ∧ r.2.mem ((c.tc : Thread Cert.PoolBwd1Ideal.nD Cert.PoolBwd1Ideal.τ).loc Cert.PoolBwd1Ideal.main_arg2) = m ((c.tc : Thread Cert.PoolBwd1Ideal.nD Cert.PoolBwd1Ideal.τ).loc Cert.PoolBwd1Ideal.main_arg2))
      ∧ θ_run (Cert.PoolBwd1RefIdeal.defs (F := Ideal)) (onTc (τ := Cert.PoolBwd1RefIdeal.τ) (Cert.PoolBwd1RefIdeal.main (F := Ideal))) ⟨m', fun _ => 0, g'⟩ (fun r => ∀ c : Dev Cert.PoolBwd1RefIdeal.nD,
          r.2.mem ((c.tc : Thread Cert.PoolBwd1RefIdeal.nD Cert.PoolBwd1RefIdeal.τ).loc Cert.PoolBwd1RefIdeal.main_v12) = v0 c
          ∧ r.2.mem ((c.tc : Thread Cert.PoolBwd1RefIdeal.nD Cert.PoolBwd1RefIdeal.τ).loc Cert.PoolBwd1RefIdeal.main_v7) = v1 c
          ∧ r.2.mem ((c.tc : Thread Cert.PoolBwd1RefIdeal.nD Cert.PoolBwd1RefIdeal.τ).loc Cert.PoolBwd1RefIdeal.main_v11) = v2 c
          ∧ r.2.mem ((c.tc : Thread Cert.PoolBwd1RefIdeal.nD Cert.PoolBwd1RefIdeal.τ).loc Cert.PoolBwd1RefIdeal.main_arg0) = m' ((c.tc : Thread Cert.PoolBwd1RefIdeal.nD Cert.PoolBwd1RefIdeal.τ).loc Cert.PoolBwd1RefIdeal.main_arg0)
          ∧ r.2.mem ((c.tc : Thread Cert.PoolBwd1RefIdeal.nD Cert.PoolBwd1RefIdeal.τ).loc Cert.PoolBwd1RefIdeal.main_arg1) = m' ((c.tc : Thread Cert.PoolBwd1RefIdeal.nD Cert.PoolBwd1RefIdeal.τ).loc Cert.PoolBwd1RefIdeal.main_arg1)
          ∧ r.2.mem ((c.tc : Thread Cert.PoolBwd1RefIdeal.nD Cert.PoolBwd1RefIdeal.τ).loc Cert.PoolBwd1RefIdeal.main_arg2) = m' ((c.tc : Thread Cert.PoolBwd1RefIdeal.nD Cert.PoolBwd1RefIdeal.τ).loc Cert.PoolBwd1RefIdeal.main_arg2))

def preserves_PoolDd_PoolDdIdeal : Prop :=
  True

def algebraic_PoolDdIdeal_PoolDdRefIdeal [hPoolDdIdeal : Cert.PoolDdIdeal.Facts] [hPoolDdRefIdeal : Cert.PoolDdRefIdeal.Facts] : Prop :=
  ∀ (m : (ℓ : Loc Cert.PoolDdIdeal.nD Cert.PoolDdIdeal.τ Cert.PoolDdIdeal.sig) → Buf (Elt Ideal) ℓ) (g : Dev Cert.PoolDdIdeal.nD → PrngReg)
    (m' : (ℓ : Loc Cert.PoolDdRefIdeal.nD Cert.PoolDdRefIdeal.τ Cert.PoolDdRefIdeal.sig) → Buf (Elt Ideal) ℓ) (g' : Dev Cert.PoolDdRefIdeal.nD → PrngReg), Pre_PoolDdIdeal m →
    (∀ c : Dev Cert.PoolDdIdeal.nD,
      m' ((c.tc : Thread Cert.PoolDdRefIdeal.nD Cert.PoolDdRefIdeal.τ).loc Cert.PoolDdRefIdeal.main_arg0) = m ((c.tc : Thread Cert.PoolDdIdeal.nD Cert.PoolDdIdeal.τ).loc Cert.PoolDdIdeal.main_arg0)
      ∧ m' ((c.tc : Thread Cert.PoolDdRefIdeal.nD Cert.PoolDdRefIdeal.τ).loc Cert.PoolDdRefIdeal.main_arg1) = m ((c.tc : Thread Cert.PoolDdIdeal.nD Cert.PoolDdIdeal.τ).loc Cert.PoolDdIdeal.main_arg1)) →
    ∃ (v0 : (c : Dev Cert.PoolDdIdeal.nD) → Buf (Elt Ideal) ((c.tc : Thread Cert.PoolDdIdeal.nD Cert.PoolDdIdeal.τ).loc Cert.PoolDdIdeal.main_v0)),
      θ_run (Cert.PoolDdIdeal.defs (F := Ideal)) (onTc (τ := Cert.PoolDdIdeal.τ) (Cert.PoolDdIdeal.main (F := Ideal))) ⟨m, fun _ => 0, g⟩ (fun r => ∀ c : Dev Cert.PoolDdIdeal.nD,
          r.2.mem ((c.tc : Thread Cert.PoolDdIdeal.nD Cert.PoolDdIdeal.τ).loc Cert.PoolDdIdeal.main_v0) = v0 c
          ∧ r.2.mem ((c.tc : Thread Cert.PoolDdIdeal.nD Cert.PoolDdIdeal.τ).loc Cert.PoolDdIdeal.main_arg0) = m ((c.tc : Thread Cert.PoolDdIdeal.nD Cert.PoolDdIdeal.τ).loc Cert.PoolDdIdeal.main_arg0)
          ∧ r.2.mem ((c.tc : Thread Cert.PoolDdIdeal.nD Cert.PoolDdIdeal.τ).loc Cert.PoolDdIdeal.main_arg1) = m ((c.tc : Thread Cert.PoolDdIdeal.nD Cert.PoolDdIdeal.τ).loc Cert.PoolDdIdeal.main_arg1))
      ∧ θ_run (Cert.PoolDdRefIdeal.defs (F := Ideal)) (onTc (τ := Cert.PoolDdRefIdeal.τ) (Cert.PoolDdRefIdeal.main (F := Ideal))) ⟨m', fun _ => 0, g'⟩ (fun r => ∀ c : Dev Cert.PoolDdRefIdeal.nD,
          r.2.mem ((c.tc : Thread Cert.PoolDdRefIdeal.nD Cert.PoolDdRefIdeal.τ).loc Cert.PoolDdRefIdeal.main_v14) = v0 c
          ∧ r.2.mem ((c.tc : Thread Cert.PoolDdRefIdeal.nD Cert.PoolDdRefIdeal.τ).loc Cert.PoolDdRefIdeal.main_arg0) = m' ((c.tc : Thread Cert.PoolDdRefIdeal.nD Cert.PoolDdRefIdeal.τ).loc Cert.PoolDdRefIdeal.main_arg0)
          ∧ r.2.mem ((c.tc : Thread Cert.PoolDdRefIdeal.nD Cert.PoolDdRefIdeal.τ).loc Cert.PoolDdRefIdeal.main_arg1) = m' ((c.tc : Thread Cert.PoolDdRefIdeal.nD Cert.PoolDdRefIdeal.τ).loc Cert.PoolDdRefIdeal.main_arg1))

def preserves_PoolDw_PoolDwIdeal : Prop :=
  True

def algebraic_PoolDwIdeal_PoolDwRefIdeal [hPoolDwIdeal : Cert.PoolDwIdeal.Facts] [hPoolDwRefIdeal : Cert.PoolDwRefIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg)
    (m' : (ℓ : Loc Cert.PoolDwRefIdeal.nD Cert.PoolDwRefIdeal.τ Cert.PoolDwRefIdeal.sig) → Buf (Elt Ideal) ℓ) (g' : Dev Cert.PoolDwRefIdeal.nD → PrngReg), Pre_PoolDwIdeal m →
    (∀ c : Dev Cert.PoolDwIdeal.nD,
      m' ((c.tc : Thread Cert.PoolDwRefIdeal.nD Cert.PoolDwRefIdeal.τ).loc Cert.PoolDwRefIdeal.main_arg0) = m ((c.tc : Thread Cert.PoolDwIdeal.nD Cert.PoolDwIdeal.τ).loc Cert.PoolDwIdeal.main_arg0)
      ∧ m' ((c.tc : Thread Cert.PoolDwRefIdeal.nD Cert.PoolDwRefIdeal.τ).loc Cert.PoolDwRefIdeal.main_arg1) = m ((c.tc : Thread Cert.PoolDwIdeal.nD Cert.PoolDwIdeal.τ).loc Cert.PoolDwIdeal.main_arg1)) →
    ∃ (v0 : (c : Dev Cert.PoolDwIdeal.nD) → Buf (Elt Ideal) ((c.tc : Thread Cert.PoolDwIdeal.nD Cert.PoolDwIdeal.τ).loc Cert.PoolDwIdeal.main_v0)),
      θ_run (Cert.PoolDwIdeal.defs (F := Ideal)) (onTc (τ := Cert.PoolDwIdeal.τ) (Cert.PoolDwIdeal.main (F := Ideal))) ⟨m, fun _ => 0, g⟩ (fun r => ∀ c : Dev Cert.PoolDwIdeal.nD,
          r.2.mem ((c.tc : Thread Cert.PoolDwIdeal.nD Cert.PoolDwIdeal.τ).loc Cert.PoolDwIdeal.main_v0) = v0 c
          ∧ r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
          ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ θ_run (Cert.PoolDwRefIdeal.defs (F := Ideal)) (onTc (τ := Cert.PoolDwRefIdeal.τ) (Cert.PoolDwRefIdeal.main (F := Ideal))) ⟨m', fun _ => 0, g'⟩ (fun r => ∀ c : Dev Cert.PoolDwRefIdeal.nD,
          r.2.mem ((c.tc : Thread Cert.PoolDwRefIdeal.nD Cert.PoolDwRefIdeal.τ).loc Cert.PoolDwRefIdeal.main_v17) = v0 c
          ∧ r.2.mem ((c.tc : Thread Cert.PoolDwRefIdeal.nD Cert.PoolDwRefIdeal.τ).loc Cert.PoolDwRefIdeal.main_arg0) = m' ((c.tc : Thread Cert.PoolDwRefIdeal.nD Cert.PoolDwRefIdeal.τ).loc Cert.PoolDwRefIdeal.main_arg0)
          ∧ r.2.mem ((c.tc : Thread Cert.PoolDwRefIdeal.nD Cert.PoolDwRefIdeal.τ).loc Cert.PoolDwRefIdeal.main_arg1) = m' ((c.tc : Thread Cert.PoolDwRefIdeal.nD Cert.PoolDwRefIdeal.τ).loc Cert.PoolDwRefIdeal.main_arg1))

def preserves_PoolMm_PoolMmIdeal : Prop :=
  True

def algebraic_PoolMmIdeal_PoolMmRefIdeal [hPoolMmIdeal : Cert.PoolMmIdeal.Facts] [hPoolMmRefIdeal : Cert.PoolMmRefIdeal.Facts] : Prop :=
  ∀ (m : (ℓ : Loc Cert.PoolMmIdeal.nD Cert.PoolMmIdeal.τ Cert.PoolMmIdeal.sig) → Buf (Elt Ideal) ℓ) (g : Dev Cert.PoolMmIdeal.nD → PrngReg)
    (m' : (ℓ : Loc Cert.PoolMmRefIdeal.nD Cert.PoolMmRefIdeal.τ Cert.PoolMmRefIdeal.sig) → Buf (Elt Ideal) ℓ) (g' : Dev Cert.PoolMmRefIdeal.nD → PrngReg), Pre_PoolMmIdeal m →
    (∀ c : Dev Cert.PoolMmIdeal.nD,
      m' ((c.tc : Thread Cert.PoolMmRefIdeal.nD Cert.PoolMmRefIdeal.τ).loc Cert.PoolMmRefIdeal.main_arg0) = m ((c.tc : Thread Cert.PoolMmIdeal.nD Cert.PoolMmIdeal.τ).loc Cert.PoolMmIdeal.main_arg0)
      ∧ m' ((c.tc : Thread Cert.PoolMmRefIdeal.nD Cert.PoolMmRefIdeal.τ).loc Cert.PoolMmRefIdeal.main_arg1) = m ((c.tc : Thread Cert.PoolMmIdeal.nD Cert.PoolMmIdeal.τ).loc Cert.PoolMmIdeal.main_arg1)
      ∧ m' ((c.tc : Thread Cert.PoolMmRefIdeal.nD Cert.PoolMmRefIdeal.τ).loc Cert.PoolMmRefIdeal.main_arg2) = m ((c.tc : Thread Cert.PoolMmIdeal.nD Cert.PoolMmIdeal.τ).loc Cert.PoolMmIdeal.main_arg2)
      ∧ m' ((c.tc : Thread Cert.PoolMmRefIdeal.nD Cert.PoolMmRefIdeal.τ).loc Cert.PoolMmRefIdeal.main_arg3) = m ((c.tc : Thread Cert.PoolMmIdeal.nD Cert.PoolMmIdeal.τ).loc Cert.PoolMmIdeal.main_arg3)
      ∧ m' ((c.tc : Thread Cert.PoolMmRefIdeal.nD Cert.PoolMmRefIdeal.τ).loc Cert.PoolMmRefIdeal.main_arg4) = m ((c.tc : Thread Cert.PoolMmIdeal.nD Cert.PoolMmIdeal.τ).loc Cert.PoolMmIdeal.main_arg4)) →
    ∃ (v0 : (c : Dev Cert.PoolMmIdeal.nD) → Buf (Elt Ideal) ((c.tc : Thread Cert.PoolMmIdeal.nD Cert.PoolMmIdeal.τ).loc Cert.PoolMmIdeal.main_v0_0)) (v1 : (c : Dev Cert.PoolMmIdeal.nD) → Buf (Elt Ideal) ((c.tc : Thread Cert.PoolMmIdeal.nD Cert.PoolMmIdeal.τ).loc Cert.PoolMmIdeal.main_v0_1)),
      θ_run (Cert.PoolMmIdeal.defs (F := Ideal)) (onTc (τ := Cert.PoolMmIdeal.τ) (Cert.PoolMmIdeal.main (F := Ideal))) ⟨m, fun _ => 0, g⟩ (fun r => ∀ c : Dev Cert.PoolMmIdeal.nD,
          r.2.mem ((c.tc : Thread Cert.PoolMmIdeal.nD Cert.PoolMmIdeal.τ).loc Cert.PoolMmIdeal.main_v0_0) = v0 c
          ∧ r.2.mem ((c.tc : Thread Cert.PoolMmIdeal.nD Cert.PoolMmIdeal.τ).loc Cert.PoolMmIdeal.main_v0_1) = v1 c
          ∧ r.2.mem ((c.tc : Thread Cert.PoolMmIdeal.nD Cert.PoolMmIdeal.τ).loc Cert.PoolMmIdeal.main_arg0) = m ((c.tc : Thread Cert.PoolMmIdeal.nD Cert.PoolMmIdeal.τ).loc Cert.PoolMmIdeal.main_arg0)
          ∧ r.2.mem ((c.tc : Thread Cert.PoolMmIdeal.nD Cert.PoolMmIdeal.τ).loc Cert.PoolMmIdeal.main_arg1) = m ((c.tc : Thread Cert.PoolMmIdeal.nD Cert.PoolMmIdeal.τ).loc Cert.PoolMmIdeal.main_arg1)
          ∧ r.2.mem ((c.tc : Thread Cert.PoolMmIdeal.nD Cert.PoolMmIdeal.τ).loc Cert.PoolMmIdeal.main_arg2) = m ((c.tc : Thread Cert.PoolMmIdeal.nD Cert.PoolMmIdeal.τ).loc Cert.PoolMmIdeal.main_arg2)
          ∧ r.2.mem ((c.tc : Thread Cert.PoolMmIdeal.nD Cert.PoolMmIdeal.τ).loc Cert.PoolMmIdeal.main_arg3) = m ((c.tc : Thread Cert.PoolMmIdeal.nD Cert.PoolMmIdeal.τ).loc Cert.PoolMmIdeal.main_arg3)
          ∧ r.2.mem ((c.tc : Thread Cert.PoolMmIdeal.nD Cert.PoolMmIdeal.τ).loc Cert.PoolMmIdeal.main_arg4) = m ((c.tc : Thread Cert.PoolMmIdeal.nD Cert.PoolMmIdeal.τ).loc Cert.PoolMmIdeal.main_arg4))
      ∧ θ_run (Cert.PoolMmRefIdeal.defs (F := Ideal)) (onTc (τ := Cert.PoolMmRefIdeal.τ) (Cert.PoolMmRefIdeal.main (F := Ideal))) ⟨m', fun _ => 0, g'⟩ (fun r => ∀ c : Dev Cert.PoolMmRefIdeal.nD,
          r.2.mem ((c.tc : Thread Cert.PoolMmRefIdeal.nD Cert.PoolMmRefIdeal.τ).loc Cert.PoolMmRefIdeal.main_v13) = v0 c
          ∧ r.2.mem ((c.tc : Thread Cert.PoolMmRefIdeal.nD Cert.PoolMmRefIdeal.τ).loc Cert.PoolMmRefIdeal.main_v10) = v1 c
          ∧ r.2.mem ((c.tc : Thread Cert.PoolMmRefIdeal.nD Cert.PoolMmRefIdeal.τ).loc Cert.PoolMmRefIdeal.main_arg0) = m' ((c.tc : Thread Cert.PoolMmRefIdeal.nD Cert.PoolMmRefIdeal.τ).loc Cert.PoolMmRefIdeal.main_arg0)
          ∧ r.2.mem ((c.tc : Thread Cert.PoolMmRefIdeal.nD Cert.PoolMmRefIdeal.τ).loc Cert.PoolMmRefIdeal.main_arg1) = m' ((c.tc : Thread Cert.PoolMmRefIdeal.nD Cert.PoolMmRefIdeal.τ).loc Cert.PoolMmRefIdeal.main_arg1)
          ∧ r.2.mem ((c.tc : Thread Cert.PoolMmRefIdeal.nD Cert.PoolMmRefIdeal.τ).loc Cert.PoolMmRefIdeal.main_arg2) = m' ((c.tc : Thread Cert.PoolMmRefIdeal.nD Cert.PoolMmRefIdeal.τ).loc Cert.PoolMmRefIdeal.main_arg2)
          ∧ r.2.mem ((c.tc : Thread Cert.PoolMmRefIdeal.nD Cert.PoolMmRefIdeal.τ).loc Cert.PoolMmRefIdeal.main_arg3) = m' ((c.tc : Thread Cert.PoolMmRefIdeal.nD Cert.PoolMmRefIdeal.τ).loc Cert.PoolMmRefIdeal.main_arg3)
          ∧ r.2.mem ((c.tc : Thread Cert.PoolMmRefIdeal.nD Cert.PoolMmRefIdeal.τ).loc Cert.PoolMmRefIdeal.main_arg4) = m' ((c.tc : Thread Cert.PoolMmRefIdeal.nD Cert.PoolMmRefIdeal.τ).loc Cert.PoolMmRefIdeal.main_arg4))

def preserves_AdamEarly_AdamEarlyIdeal : Prop :=
  True

def algebraic_AdamEarlyIdeal_AdamEarlyRefIdeal [hAdamEarlyIdeal : Cert.AdamEarlyIdeal.Facts] [hAdamEarlyRefIdeal : Cert.AdamEarlyRefIdeal.Facts] : Prop :=
  ∀ (m : (ℓ : Loc Cert.AdamEarlyIdeal.nD Cert.AdamEarlyIdeal.τ Cert.AdamEarlyIdeal.sig) → Buf (Elt Ideal) ℓ) (g : Dev Cert.AdamEarlyIdeal.nD → PrngReg)
    (m' : (ℓ : Loc Cert.AdamEarlyRefIdeal.nD Cert.AdamEarlyRefIdeal.τ Cert.AdamEarlyRefIdeal.sig) → Buf (Elt Ideal) ℓ) (g' : Dev Cert.AdamEarlyRefIdeal.nD → PrngReg), Pre_AdamEarlyIdeal m →
    (∀ c : Dev Cert.AdamEarlyIdeal.nD,
      m' ((c.tc : Thread Cert.AdamEarlyRefIdeal.nD Cert.AdamEarlyRefIdeal.τ).loc Cert.AdamEarlyRefIdeal.main_arg0) = m ((c.tc : Thread Cert.AdamEarlyIdeal.nD Cert.AdamEarlyIdeal.τ).loc Cert.AdamEarlyIdeal.main_arg0)
      ∧ m' ((c.tc : Thread Cert.AdamEarlyRefIdeal.nD Cert.AdamEarlyRefIdeal.τ).loc Cert.AdamEarlyRefIdeal.main_arg1) = m ((c.tc : Thread Cert.AdamEarlyIdeal.nD Cert.AdamEarlyIdeal.τ).loc Cert.AdamEarlyIdeal.main_arg1)
      ∧ m' ((c.tc : Thread Cert.AdamEarlyRefIdeal.nD Cert.AdamEarlyRefIdeal.τ).loc Cert.AdamEarlyRefIdeal.main_arg2) = m ((c.tc : Thread Cert.AdamEarlyIdeal.nD Cert.AdamEarlyIdeal.τ).loc Cert.AdamEarlyIdeal.main_arg2)
      ∧ m' ((c.tc : Thread Cert.AdamEarlyRefIdeal.nD Cert.AdamEarlyRefIdeal.τ).loc Cert.AdamEarlyRefIdeal.main_arg3) = m ((c.tc : Thread Cert.AdamEarlyIdeal.nD Cert.AdamEarlyIdeal.τ).loc Cert.AdamEarlyIdeal.main_arg3)
      ∧ m' ((c.tc : Thread Cert.AdamEarlyRefIdeal.nD Cert.AdamEarlyRefIdeal.τ).loc Cert.AdamEarlyRefIdeal.main_arg4) = m ((c.tc : Thread Cert.AdamEarlyIdeal.nD Cert.AdamEarlyIdeal.τ).loc Cert.AdamEarlyIdeal.main_arg4)) →
    ∃ (v0 : (c : Dev Cert.AdamEarlyIdeal.nD) → Buf (Elt Ideal) ((c.tc : Thread Cert.AdamEarlyIdeal.nD Cert.AdamEarlyIdeal.τ).loc Cert.AdamEarlyIdeal.main_v1)) (v1 : (c : Dev Cert.AdamEarlyIdeal.nD) → Buf (Elt Ideal) ((c.tc : Thread Cert.AdamEarlyIdeal.nD Cert.AdamEarlyIdeal.τ).loc Cert.AdamEarlyIdeal.main_v2)) (v2 : (c : Dev Cert.AdamEarlyIdeal.nD) → Buf (Elt Ideal) ((c.tc : Thread Cert.AdamEarlyIdeal.nD Cert.AdamEarlyIdeal.τ).loc Cert.AdamEarlyIdeal.main_v3)) (v3 : (c : Dev Cert.AdamEarlyIdeal.nD) → Buf (Elt Ideal) ((c.tc : Thread Cert.AdamEarlyIdeal.nD Cert.AdamEarlyIdeal.τ).loc Cert.AdamEarlyIdeal.main_v4)),
      θ_run (Cert.AdamEarlyIdeal.defs (F := Ideal)) (onTc (τ := Cert.AdamEarlyIdeal.τ) (Cert.AdamEarlyIdeal.main (F := Ideal))) ⟨m, fun _ => 0, g⟩ (fun r => ∀ c : Dev Cert.AdamEarlyIdeal.nD,
          r.2.mem ((c.tc : Thread Cert.AdamEarlyIdeal.nD Cert.AdamEarlyIdeal.τ).loc Cert.AdamEarlyIdeal.main_v1) = v0 c
          ∧ r.2.mem ((c.tc : Thread Cert.AdamEarlyIdeal.nD Cert.AdamEarlyIdeal.τ).loc Cert.AdamEarlyIdeal.main_v2) = v1 c
          ∧ r.2.mem ((c.tc : Thread Cert.AdamEarlyIdeal.nD Cert.AdamEarlyIdeal.τ).loc Cert.AdamEarlyIdeal.main_v3) = v2 c
          ∧ r.2.mem ((c.tc : Thread Cert.AdamEarlyIdeal.nD Cert.AdamEarlyIdeal.τ).loc Cert.AdamEarlyIdeal.main_v4) = v3 c
          ∧ r.2.mem ((c.tc : Thread Cert.AdamEarlyIdeal.nD Cert.AdamEarlyIdeal.τ).loc Cert.AdamEarlyIdeal.main_arg0) = m ((c.tc : Thread Cert.AdamEarlyIdeal.nD Cert.AdamEarlyIdeal.τ).loc Cert.AdamEarlyIdeal.main_arg0)
          ∧ r.2.mem ((c.tc : Thread Cert.AdamEarlyIdeal.nD Cert.AdamEarlyIdeal.τ).loc Cert.AdamEarlyIdeal.main_arg1) = m ((c.tc : Thread Cert.AdamEarlyIdeal.nD Cert.AdamEarlyIdeal.τ).loc Cert.AdamEarlyIdeal.main_arg1)
          ∧ r.2.mem ((c.tc : Thread Cert.AdamEarlyIdeal.nD Cert.AdamEarlyIdeal.τ).loc Cert.AdamEarlyIdeal.main_arg2) = m ((c.tc : Thread Cert.AdamEarlyIdeal.nD Cert.AdamEarlyIdeal.τ).loc Cert.AdamEarlyIdeal.main_arg2)
          ∧ r.2.mem ((c.tc : Thread Cert.AdamEarlyIdeal.nD Cert.AdamEarlyIdeal.τ).loc Cert.AdamEarlyIdeal.main_arg3) = m ((c.tc : Thread Cert.AdamEarlyIdeal.nD Cert.AdamEarlyIdeal.τ).loc Cert.AdamEarlyIdeal.main_arg3)
          ∧ r.2.mem ((c.tc : Thread Cert.AdamEarlyIdeal.nD Cert.AdamEarlyIdeal.τ).loc Cert.AdamEarlyIdeal.main_arg4) = m ((c.tc : Thread Cert.AdamEarlyIdeal.nD Cert.AdamEarlyIdeal.τ).loc Cert.AdamEarlyIdeal.main_arg4))
      ∧ θ_run (Cert.AdamEarlyRefIdeal.defs (F := Ideal)) (onTc (τ := Cert.AdamEarlyRefIdeal.τ) (Cert.AdamEarlyRefIdeal.main (F := Ideal))) ⟨m', fun _ => 0, g'⟩ (fun r => ∀ c : Dev Cert.AdamEarlyRefIdeal.nD,
          r.2.mem ((c.tc : Thread Cert.AdamEarlyRefIdeal.nD Cert.AdamEarlyRefIdeal.τ).loc Cert.AdamEarlyRefIdeal.main_v1) = v0 c
          ∧ r.2.mem ((c.tc : Thread Cert.AdamEarlyRefIdeal.nD Cert.AdamEarlyRefIdeal.τ).loc Cert.AdamEarlyRefIdeal.main_v27) = v1 c
          ∧ r.2.mem ((c.tc : Thread Cert.AdamEarlyRefIdeal.nD Cert.AdamEarlyRefIdeal.τ).loc Cert.AdamEarlyRefIdeal.main_v8) = v2 c
          ∧ r.2.mem ((c.tc : Thread Cert.AdamEarlyRefIdeal.nD Cert.AdamEarlyRefIdeal.τ).loc Cert.AdamEarlyRefIdeal.main_v14) = v3 c
          ∧ r.2.mem ((c.tc : Thread Cert.AdamEarlyRefIdeal.nD Cert.AdamEarlyRefIdeal.τ).loc Cert.AdamEarlyRefIdeal.main_arg0) = m' ((c.tc : Thread Cert.AdamEarlyRefIdeal.nD Cert.AdamEarlyRefIdeal.τ).loc Cert.AdamEarlyRefIdeal.main_arg0)
          ∧ r.2.mem ((c.tc : Thread Cert.AdamEarlyRefIdeal.nD Cert.AdamEarlyRefIdeal.τ).loc Cert.AdamEarlyRefIdeal.main_arg1) = m' ((c.tc : Thread Cert.AdamEarlyRefIdeal.nD Cert.AdamEarlyRefIdeal.τ).loc Cert.AdamEarlyRefIdeal.main_arg1)
          ∧ r.2.mem ((c.tc : Thread Cert.AdamEarlyRefIdeal.nD Cert.AdamEarlyRefIdeal.τ).loc Cert.AdamEarlyRefIdeal.main_arg2) = m' ((c.tc : Thread Cert.AdamEarlyRefIdeal.nD Cert.AdamEarlyRefIdeal.τ).loc Cert.AdamEarlyRefIdeal.main_arg2)
          ∧ r.2.mem ((c.tc : Thread Cert.AdamEarlyRefIdeal.nD Cert.AdamEarlyRefIdeal.τ).loc Cert.AdamEarlyRefIdeal.main_arg3) = m' ((c.tc : Thread Cert.AdamEarlyRefIdeal.nD Cert.AdamEarlyRefIdeal.τ).loc Cert.AdamEarlyRefIdeal.main_arg3)
          ∧ r.2.mem ((c.tc : Thread Cert.AdamEarlyRefIdeal.nD Cert.AdamEarlyRefIdeal.τ).loc Cert.AdamEarlyRefIdeal.main_arg4) = m' ((c.tc : Thread Cert.AdamEarlyRefIdeal.nD Cert.AdamEarlyRefIdeal.τ).loc Cert.AdamEarlyRefIdeal.main_arg4))

def preserves_AdamLate_AdamLateIdeal : Prop :=
  True

def algebraic_AdamLateIdeal_AdamLateRefIdeal [hAdamLateIdeal : Cert.AdamLateIdeal.Facts] [hAdamLateRefIdeal : Cert.AdamLateRefIdeal.Facts] : Prop :=
  ∀ (m : (ℓ : Loc Cert.AdamLateIdeal.nD Cert.AdamLateIdeal.τ Cert.AdamLateIdeal.sig) → Buf (Elt Ideal) ℓ) (g : Dev Cert.AdamLateIdeal.nD → PrngReg)
    (m' : (ℓ : Loc Cert.AdamLateRefIdeal.nD Cert.AdamLateRefIdeal.τ Cert.AdamLateRefIdeal.sig) → Buf (Elt Ideal) ℓ) (g' : Dev Cert.AdamLateRefIdeal.nD → PrngReg), Pre_AdamLateIdeal m →
    (∀ c : Dev Cert.AdamLateIdeal.nD,
      m' ((c.tc : Thread Cert.AdamLateRefIdeal.nD Cert.AdamLateRefIdeal.τ).loc Cert.AdamLateRefIdeal.main_arg0) = m ((c.tc : Thread Cert.AdamLateIdeal.nD Cert.AdamLateIdeal.τ).loc Cert.AdamLateIdeal.main_arg0)
      ∧ m' ((c.tc : Thread Cert.AdamLateRefIdeal.nD Cert.AdamLateRefIdeal.τ).loc Cert.AdamLateRefIdeal.main_arg1) = m ((c.tc : Thread Cert.AdamLateIdeal.nD Cert.AdamLateIdeal.τ).loc Cert.AdamLateIdeal.main_arg1)
      ∧ m' ((c.tc : Thread Cert.AdamLateRefIdeal.nD Cert.AdamLateRefIdeal.τ).loc Cert.AdamLateRefIdeal.main_arg2) = m ((c.tc : Thread Cert.AdamLateIdeal.nD Cert.AdamLateIdeal.τ).loc Cert.AdamLateIdeal.main_arg2)
      ∧ m' ((c.tc : Thread Cert.AdamLateRefIdeal.nD Cert.AdamLateRefIdeal.τ).loc Cert.AdamLateRefIdeal.main_arg3) = m ((c.tc : Thread Cert.AdamLateIdeal.nD Cert.AdamLateIdeal.τ).loc Cert.AdamLateIdeal.main_arg3)
      ∧ m' ((c.tc : Thread Cert.AdamLateRefIdeal.nD Cert.AdamLateRefIdeal.τ).loc Cert.AdamLateRefIdeal.main_arg4) = m ((c.tc : Thread Cert.AdamLateIdeal.nD Cert.AdamLateIdeal.τ).loc Cert.AdamLateIdeal.main_arg4)
      ∧ m' ((c.tc : Thread Cert.AdamLateRefIdeal.nD Cert.AdamLateRefIdeal.τ).loc Cert.AdamLateRefIdeal.main_arg5) = m ((c.tc : Thread Cert.AdamLateIdeal.nD Cert.AdamLateIdeal.τ).loc Cert.AdamLateIdeal.main_arg5)
      ∧ m' ((c.tc : Thread Cert.AdamLateRefIdeal.nD Cert.AdamLateRefIdeal.τ).loc Cert.AdamLateRefIdeal.main_arg6) = m ((c.tc : Thread Cert.AdamLateIdeal.nD Cert.AdamLateIdeal.τ).loc Cert.AdamLateIdeal.main_arg6)
      ∧ m' ((c.tc : Thread Cert.AdamLateRefIdeal.nD Cert.AdamLateRefIdeal.τ).loc Cert.AdamLateRefIdeal.main_arg7) = m ((c.tc : Thread Cert.AdamLateIdeal.nD Cert.AdamLateIdeal.τ).loc Cert.AdamLateIdeal.main_arg7)) →
    ∃ (v0 : (c : Dev Cert.AdamLateIdeal.nD) → Buf (Elt Ideal) ((c.tc : Thread Cert.AdamLateIdeal.nD Cert.AdamLateIdeal.τ).loc Cert.AdamLateIdeal.main_v0_0)) (v1 : (c : Dev Cert.AdamLateIdeal.nD) → Buf (Elt Ideal) ((c.tc : Thread Cert.AdamLateIdeal.nD Cert.AdamLateIdeal.τ).loc Cert.AdamLateIdeal.main_v0_1)) (v2 : (c : Dev Cert.AdamLateIdeal.nD) → Buf (Elt Ideal) ((c.tc : Thread Cert.AdamLateIdeal.nD Cert.AdamLateIdeal.τ).loc Cert.AdamLateIdeal.main_v0_2)) (v3 : (c : Dev Cert.AdamLateIdeal.nD) → Buf (Elt Ideal) ((c.tc : Thread Cert.AdamLateIdeal.nD Cert.AdamLateIdeal.τ).loc Cert.AdamLateIdeal.main_v0_3)),
      θ_run (Cert.AdamLateIdeal.defs (F := Ideal)) (onTc (τ := Cert.AdamLateIdeal.τ) (Cert.AdamLateIdeal.main (F := Ideal))) ⟨m, fun _ => 0, g⟩ (fun r => ∀ c : Dev Cert.AdamLateIdeal.nD,
          r.2.mem ((c.tc : Thread Cert.AdamLateIdeal.nD Cert.AdamLateIdeal.τ).loc Cert.AdamLateIdeal.main_v0_0) = v0 c
          ∧ r.2.mem ((c.tc : Thread Cert.AdamLateIdeal.nD Cert.AdamLateIdeal.τ).loc Cert.AdamLateIdeal.main_v0_1) = v1 c
          ∧ r.2.mem ((c.tc : Thread Cert.AdamLateIdeal.nD Cert.AdamLateIdeal.τ).loc Cert.AdamLateIdeal.main_v0_2) = v2 c
          ∧ r.2.mem ((c.tc : Thread Cert.AdamLateIdeal.nD Cert.AdamLateIdeal.τ).loc Cert.AdamLateIdeal.main_v0_3) = v3 c
          ∧ r.2.mem ((c.tc : Thread Cert.AdamLateIdeal.nD Cert.AdamLateIdeal.τ).loc Cert.AdamLateIdeal.main_arg0) = m ((c.tc : Thread Cert.AdamLateIdeal.nD Cert.AdamLateIdeal.τ).loc Cert.AdamLateIdeal.main_arg0)
          ∧ r.2.mem ((c.tc : Thread Cert.AdamLateIdeal.nD Cert.AdamLateIdeal.τ).loc Cert.AdamLateIdeal.main_arg1) = m ((c.tc : Thread Cert.AdamLateIdeal.nD Cert.AdamLateIdeal.τ).loc Cert.AdamLateIdeal.main_arg1)
          ∧ r.2.mem ((c.tc : Thread Cert.AdamLateIdeal.nD Cert.AdamLateIdeal.τ).loc Cert.AdamLateIdeal.main_arg2) = m ((c.tc : Thread Cert.AdamLateIdeal.nD Cert.AdamLateIdeal.τ).loc Cert.AdamLateIdeal.main_arg2)
          ∧ r.2.mem ((c.tc : Thread Cert.AdamLateIdeal.nD Cert.AdamLateIdeal.τ).loc Cert.AdamLateIdeal.main_arg3) = m ((c.tc : Thread Cert.AdamLateIdeal.nD Cert.AdamLateIdeal.τ).loc Cert.AdamLateIdeal.main_arg3)
          ∧ r.2.mem ((c.tc : Thread Cert.AdamLateIdeal.nD Cert.AdamLateIdeal.τ).loc Cert.AdamLateIdeal.main_arg4) = m ((c.tc : Thread Cert.AdamLateIdeal.nD Cert.AdamLateIdeal.τ).loc Cert.AdamLateIdeal.main_arg4)
          ∧ r.2.mem ((c.tc : Thread Cert.AdamLateIdeal.nD Cert.AdamLateIdeal.τ).loc Cert.AdamLateIdeal.main_arg5) = m ((c.tc : Thread Cert.AdamLateIdeal.nD Cert.AdamLateIdeal.τ).loc Cert.AdamLateIdeal.main_arg5)
          ∧ r.2.mem ((c.tc : Thread Cert.AdamLateIdeal.nD Cert.AdamLateIdeal.τ).loc Cert.AdamLateIdeal.main_arg6) = m ((c.tc : Thread Cert.AdamLateIdeal.nD Cert.AdamLateIdeal.τ).loc Cert.AdamLateIdeal.main_arg6)
          ∧ r.2.mem ((c.tc : Thread Cert.AdamLateIdeal.nD Cert.AdamLateIdeal.τ).loc Cert.AdamLateIdeal.main_arg7) = m ((c.tc : Thread Cert.AdamLateIdeal.nD Cert.AdamLateIdeal.τ).loc Cert.AdamLateIdeal.main_arg7))
      ∧ θ_run (Cert.AdamLateRefIdeal.defs (F := Ideal)) (onTc (τ := Cert.AdamLateRefIdeal.τ) (Cert.AdamLateRefIdeal.main (F := Ideal))) ⟨m', fun _ => 0, g'⟩ (fun r => ∀ c : Dev Cert.AdamLateRefIdeal.nD,
          r.2.mem ((c.tc : Thread Cert.AdamLateRefIdeal.nD Cert.AdamLateRefIdeal.τ).loc Cert.AdamLateRefIdeal.main_v29) = v0 c
          ∧ r.2.mem ((c.tc : Thread Cert.AdamLateRefIdeal.nD Cert.AdamLateRefIdeal.τ).loc Cert.AdamLateRefIdeal.main_v31) = v1 c
          ∧ r.2.mem ((c.tc : Thread Cert.AdamLateRefIdeal.nD Cert.AdamLateRefIdeal.τ).loc Cert.AdamLateRefIdeal.main_v33) = v2 c
          ∧ r.2.mem ((c.tc : Thread Cert.AdamLateRefIdeal.nD Cert.AdamLateRefIdeal.τ).loc Cert.AdamLateRefIdeal.main_v35) = v3 c
          ∧ r.2.mem ((c.tc : Thread Cert.AdamLateRefIdeal.nD Cert.AdamLateRefIdeal.τ).loc Cert.AdamLateRefIdeal.main_arg0) = m' ((c.tc : Thread Cert.AdamLateRefIdeal.nD Cert.AdamLateRefIdeal.τ).loc Cert.AdamLateRefIdeal.main_arg0)
          ∧ r.2.mem ((c.tc : Thread Cert.AdamLateRefIdeal.nD Cert.AdamLateRefIdeal.τ).loc Cert.AdamLateRefIdeal.main_arg1) = m' ((c.tc : Thread Cert.AdamLateRefIdeal.nD Cert.AdamLateRefIdeal.τ).loc Cert.AdamLateRefIdeal.main_arg1)
          ∧ r.2.mem ((c.tc : Thread Cert.AdamLateRefIdeal.nD Cert.AdamLateRefIdeal.τ).loc Cert.AdamLateRefIdeal.main_arg2) = m' ((c.tc : Thread Cert.AdamLateRefIdeal.nD Cert.AdamLateRefIdeal.τ).loc Cert.AdamLateRefIdeal.main_arg2)
          ∧ r.2.mem ((c.tc : Thread Cert.AdamLateRefIdeal.nD Cert.AdamLateRefIdeal.τ).loc Cert.AdamLateRefIdeal.main_arg3) = m' ((c.tc : Thread Cert.AdamLateRefIdeal.nD Cert.AdamLateRefIdeal.τ).loc Cert.AdamLateRefIdeal.main_arg3)
          ∧ r.2.mem ((c.tc : Thread Cert.AdamLateRefIdeal.nD Cert.AdamLateRefIdeal.τ).loc Cert.AdamLateRefIdeal.main_arg4) = m' ((c.tc : Thread Cert.AdamLateRefIdeal.nD Cert.AdamLateRefIdeal.τ).loc Cert.AdamLateRefIdeal.main_arg4)
          ∧ r.2.mem ((c.tc : Thread Cert.AdamLateRefIdeal.nD Cert.AdamLateRefIdeal.τ).loc Cert.AdamLateRefIdeal.main_arg5) = m' ((c.tc : Thread Cert.AdamLateRefIdeal.nD Cert.AdamLateRefIdeal.τ).loc Cert.AdamLateRefIdeal.main_arg5)
          ∧ r.2.mem ((c.tc : Thread Cert.AdamLateRefIdeal.nD Cert.AdamLateRefIdeal.τ).loc Cert.AdamLateRefIdeal.main_arg6) = m' ((c.tc : Thread Cert.AdamLateRefIdeal.nD Cert.AdamLateRefIdeal.τ).loc Cert.AdamLateRefIdeal.main_arg6)
          ∧ r.2.mem ((c.tc : Thread Cert.AdamLateRefIdeal.nD Cert.AdamLateRefIdeal.τ).loc Cert.AdamLateRefIdeal.main_arg7) = m' ((c.tc : Thread Cert.AdamLateRefIdeal.nD Cert.AdamLateRefIdeal.τ).loc Cert.AdamLateRefIdeal.main_arg7))

def Claim : Prop :=
  ∃ (hConvBwd : Cert.ConvBwd.Facts) (hConvBwdIdeal : Cert.ConvBwdIdeal.Facts) (hConvRefIdeal : Cert.ConvRefIdeal.Facts) (hFfnDwd : Cert.FfnDwd.Facts) (hFfnDwdIdeal : Cert.FfnDwdIdeal.Facts) (hFfnDwdRefIdeal : Cert.FfnDwdRefIdeal.Facts) (hFfnDw : Cert.FfnDw.Facts) (hFfnDwIdeal : Cert.FfnDwIdeal.Facts) (hFfnDwRefIdeal : Cert.FfnDwRefIdeal.Facts) (hFfnDh : Cert.FfnDh.Facts) (hFfnDhIdeal : Cert.FfnDhIdeal.Facts) (hFfnDhRefIdeal : Cert.FfnDhRefIdeal.Facts) (hFfnDs : Cert.FfnDs.Facts) (hFfnDsIdeal : Cert.FfnDsIdeal.Facts) (hFfnDsRefIdeal : Cert.FfnDsRefIdeal.Facts) (hFfnGate : Cert.FfnGate.Facts) (hFfnGateIdeal : Cert.FfnGateIdeal.Facts) (hFfnGateRefIdeal : Cert.FfnGateRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hXaDo : Cert.XaDo.Facts) (hXaDoIdeal : Cert.XaDoIdeal.Facts) (hXaDoRefIdeal : Cert.XaDoRefIdeal.Facts) (hXaDhq : Cert.XaDhq.Facts) (hXaDhqIdeal : Cert.XaDhqIdeal.Facts) (hXaDhqRefIdeal : Cert.XaDhqRefIdeal.Facts) (hXaDmn : Cert.XaDmn.Facts) (hXaDmnIdeal : Cert.XaDmnIdeal.Facts) (hXaDmnRefIdeal : Cert.XaDmnRefIdeal.Facts) (hXaDw : Cert.XaDw.Facts) (hXaDwIdeal : Cert.XaDwIdeal.Facts) (hXaDwRefIdeal : Cert.XaDwRefIdeal.Facts) (hXaDwkv : Cert.XaDwkv.Facts) (hXaDwkvIdeal : Cert.XaDwkvIdeal.Facts) (hXaDwkvRefIdeal : Cert.XaDwkvRefIdeal.Facts) (hXaBwd : Cert.XaBwd.Facts) (hXaBwdIdeal : Cert.XaBwdIdeal.Facts) (hXaRefIdeal : Cert.XaRefIdeal.Facts) (hMixDwin : Cert.MixDwin.Facts) (hMixDwinIdeal : Cert.MixDwinIdeal.Facts) (hMixDwinRefIdeal : Cert.MixDwinRefIdeal.Facts) (hMixDh : Cert.MixDh.Facts) (hMixDhIdeal : Cert.MixDhIdeal.Facts) (hMixDhRefIdeal : Cert.MixDhRefIdeal.Facts) (hNormBwd : Cert.NormBwd.Facts) (hNormBwdIdeal : Cert.NormBwdIdeal.Facts) (hNormBwdRefIdeal : Cert.NormBwdRefIdeal.Facts) (hXaQ : Cert.XaQ.Facts) (hXaQIdeal : Cert.XaQIdeal.Facts) (hXaQRefIdeal : Cert.XaQRefIdeal.Facts) (hXaKv : Cert.XaKv.Facts) (hXaKvIdeal : Cert.XaKvIdeal.Facts) (hXaKvRefIdeal : Cert.XaKvRefIdeal.Facts) (hXaO : Cert.XaO.Facts) (hXaOIdeal : Cert.XaOIdeal.Facts) (hXaORefIdeal : Cert.XaORefIdeal.Facts) (hMixOut : Cert.MixOut.Facts) (hMixOutIdeal : Cert.MixOutIdeal.Facts) (hMixOutRefIdeal : Cert.MixOutRefIdeal.Facts) (hMixIn : Cert.MixIn.Facts) (hMixInIdeal : Cert.MixInIdeal.Facts) (hMixInRefIdeal : Cert.MixInRefIdeal.Facts) (hXaAttn : Cert.XaAttn.Facts) (hXaAttnIdeal : Cert.XaAttnIdeal.Facts) (hXaAttnRefIdeal : Cert.XaAttnRefIdeal.Facts) (hNormFwd : Cert.NormFwd.Facts) (hNormFwdIdeal : Cert.NormFwdIdeal.Facts) (hNormFwdRefIdeal : Cert.NormFwdRefIdeal.Facts) (hNormKv : Cert.NormKv.Facts) (hNormKvIdeal : Cert.NormKvIdeal.Facts) (hNormKvRefIdeal : Cert.NormKvRefIdeal.Facts) (hFinal : Cert.Final.Facts) (hFinalIdeal : Cert.FinalIdeal.Facts) (hFinalRefIdeal : Cert.FinalRefIdeal.Facts) (hAdamSmall : Cert.AdamSmall.Facts) (hAdamSmallIdeal : Cert.AdamSmallIdeal.Facts) (hAdamSmallRefIdeal : Cert.AdamSmallRefIdeal.Facts) (hAdamPool : Cert.AdamPool.Facts) (hAdamPoolIdeal : Cert.AdamPoolIdeal.Facts) (hAdamPoolRefIdeal : Cert.AdamPoolRefIdeal.Facts) (hPoolBwd1 : Cert.PoolBwd1.Facts) (hPoolBwd1Ideal : Cert.PoolBwd1Ideal.Facts) (hPoolBwd1RefIdeal : Cert.PoolBwd1RefIdeal.Facts) (hPoolDd : Cert.PoolDd.Facts) (hPoolDdIdeal : Cert.PoolDdIdeal.Facts) (hPoolDdRefIdeal : Cert.PoolDdRefIdeal.Facts) (hPoolDw : Cert.PoolDw.Facts) (hPoolDwIdeal : Cert.PoolDwIdeal.Facts) (hPoolDwRefIdeal : Cert.PoolDwRefIdeal.Facts) (hPoolMm : Cert.PoolMm.Facts) (hPoolMmIdeal : Cert.PoolMmIdeal.Facts) (hPoolMmRefIdeal : Cert.PoolMmRefIdeal.Facts) (hAdamEarly : Cert.AdamEarly.Facts) (hAdamEarlyIdeal : Cert.AdamEarlyIdeal.Facts) (hAdamEarlyRefIdeal : Cert.AdamEarlyRefIdeal.Facts) (hAdamLate : Cert.AdamLate.Facts) (hAdamLateIdeal : Cert.AdamLateIdeal.Facts) (hAdamLateRefIdeal : Cert.AdamLateRefIdeal.Facts) (hPre_finite : Cert.Pre_finite.Facts) (hPre_finite_scores : Cert.Pre_finite_scores.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_FfnDwd (hFfnDwd := hFfnDwd)
    ∧ quiescent_FfnDwdIdeal (hFfnDwdIdeal := hFfnDwdIdeal)
    ∧ quiescent_FfnDwdRefIdeal (hFfnDwdRefIdeal := hFfnDwdRefIdeal)
    ∧ quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_FfnDs (hFfnDs := hFfnDs)
    ∧ quiescent_FfnDsIdeal (hFfnDsIdeal := hFfnDsIdeal)
    ∧ quiescent_FfnDsIdeal_pre_finite (hFfnDsIdeal := hFfnDsIdeal) (hPre_finite := hPre_finite)
    ∧ quiescent_FfnDsRefIdeal (hFfnDsRefIdeal := hFfnDsRefIdeal)
    ∧ quiescent_FfnDsRefIdeal_pre_finite (hFfnDsRefIdeal := hFfnDsRefIdeal) (hPre_finite := hPre_finite)
    ∧ quiescent_FfnGate (hFfnGate := hFfnGate)
    ∧ quiescent_FfnGateIdeal (hFfnGateIdeal := hFfnGateIdeal)
    ∧ quiescent_FfnGateRefIdeal (hFfnGateRefIdeal := hFfnGateRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_XaDo (hXaDo := hXaDo)
    ∧ quiescent_XaDoIdeal (hXaDoIdeal := hXaDoIdeal)
    ∧ quiescent_XaDoRefIdeal (hXaDoRefIdeal := hXaDoRefIdeal)
    ∧ quiescent_XaDhq (hXaDhq := hXaDhq)
    ∧ quiescent_XaDhqIdeal (hXaDhqIdeal := hXaDhqIdeal)
    ∧ quiescent_XaDhqRefIdeal (hXaDhqRefIdeal := hXaDhqRefIdeal)
    ∧ quiescent_XaDmn (hXaDmn := hXaDmn)
    ∧ quiescent_XaDmnIdeal (hXaDmnIdeal := hXaDmnIdeal)
    ∧ quiescent_XaDmnRefIdeal (hXaDmnRefIdeal := hXaDmnRefIdeal)
    ∧ quiescent_XaDw (hXaDw := hXaDw)
    ∧ quiescent_XaDwIdeal (hXaDwIdeal := hXaDwIdeal)
    ∧ quiescent_XaDwRefIdeal (hXaDwRefIdeal := hXaDwRefIdeal)
    ∧ quiescent_XaDwkv (hXaDwkv := hXaDwkv)
    ∧ quiescent_XaDwkvIdeal (hXaDwkvIdeal := hXaDwkvIdeal)
    ∧ quiescent_XaDwkvRefIdeal (hXaDwkvRefIdeal := hXaDwkvRefIdeal)
    ∧ quiescent_XaBwd (hXaBwd := hXaBwd)
    ∧ quiescent_XaBwdIdeal (hXaBwdIdeal := hXaBwdIdeal)
    ∧ quiescent_XaBwdIdeal_pre_finite_scores (hXaBwdIdeal := hXaBwdIdeal) (hPre_finite_scores := hPre_finite_scores)
    ∧ quiescent_XaRefIdeal (hXaRefIdeal := hXaRefIdeal)
    ∧ quiescent_XaRefIdeal_pre_finite_scores (hXaRefIdeal := hXaRefIdeal) (hPre_finite_scores := hPre_finite_scores)
    ∧ quiescent_MixDwin (hMixDwin := hMixDwin)
    ∧ quiescent_MixDwinIdeal (hMixDwinIdeal := hMixDwinIdeal)
    ∧ quiescent_MixDwinRefIdeal (hMixDwinRefIdeal := hMixDwinRefIdeal)
    ∧ quiescent_MixDh (hMixDh := hMixDh)
    ∧ quiescent_MixDhIdeal (hMixDhIdeal := hMixDhIdeal)
    ∧ quiescent_MixDhRefIdeal (hMixDhRefIdeal := hMixDhRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_XaQ (hXaQ := hXaQ)
    ∧ quiescent_XaQIdeal (hXaQIdeal := hXaQIdeal)
    ∧ quiescent_XaQRefIdeal (hXaQRefIdeal := hXaQRefIdeal)
    ∧ quiescent_XaKv (hXaKv := hXaKv)
    ∧ quiescent_XaKvIdeal (hXaKvIdeal := hXaKvIdeal)
    ∧ quiescent_XaKvRefIdeal (hXaKvRefIdeal := hXaKvRefIdeal)
    ∧ quiescent_XaO (hXaO := hXaO)
    ∧ quiescent_XaOIdeal (hXaOIdeal := hXaOIdeal)
    ∧ quiescent_XaORefIdeal (hXaORefIdeal := hXaORefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_XaAttn (hXaAttn := hXaAttn)
    ∧ quiescent_XaAttnIdeal (hXaAttnIdeal := hXaAttnIdeal)
    ∧ quiescent_XaAttnRefIdeal (hXaAttnRefIdeal := hXaAttnRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_NormKv (hNormKv := hNormKv)
    ∧ quiescent_NormKvIdeal (hNormKvIdeal := hNormKvIdeal)
    ∧ quiescent_NormKvRefIdeal (hNormKvRefIdeal := hNormKvRefIdeal)
    ∧ quiescent_Final (hFinal := hFinal)
    ∧ quiescent_FinalIdeal (hFinalIdeal := hFinalIdeal)
    ∧ quiescent_FinalRefIdeal (hFinalRefIdeal := hFinalRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_PoolBwd1 (hPoolBwd1 := hPoolBwd1)
    ∧ quiescent_PoolBwd1Ideal (hPoolBwd1Ideal := hPoolBwd1Ideal)
    ∧ quiescent_PoolBwd1RefIdeal (hPoolBwd1RefIdeal := hPoolBwd1RefIdeal)
    ∧ quiescent_PoolDd (hPoolDd := hPoolDd)
    ∧ quiescent_PoolDdIdeal (hPoolDdIdeal := hPoolDdIdeal)
    ∧ quiescent_PoolDdRefIdeal (hPoolDdRefIdeal := hPoolDdRefIdeal)
    ∧ quiescent_PoolDw (hPoolDw := hPoolDw)
    ∧ quiescent_PoolDwIdeal (hPoolDwIdeal := hPoolDwIdeal)
    ∧ quiescent_PoolDwRefIdeal (hPoolDwRefIdeal := hPoolDwRefIdeal)
    ∧ quiescent_PoolMm (hPoolMm := hPoolMm)
    ∧ quiescent_PoolMmIdeal (hPoolMmIdeal := hPoolMmIdeal)
    ∧ quiescent_PoolMmRefIdeal (hPoolMmRefIdeal := hPoolMmRefIdeal)
    ∧ quiescent_AdamEarly (hAdamEarly := hAdamEarly)
    ∧ quiescent_AdamEarlyIdeal (hAdamEarlyIdeal := hAdamEarlyIdeal)
    ∧ quiescent_AdamEarlyRefIdeal (hAdamEarlyRefIdeal := hAdamEarlyRefIdeal)
    ∧ quiescent_AdamLate (hAdamLate := hAdamLate)
    ∧ quiescent_AdamLateIdeal (hAdamLateIdeal := hAdamLateIdeal)
    ∧ quiescent_AdamLateRefIdeal (hAdamLateRefIdeal := hAdamLateRefIdeal)
    ∧ preserves_ConvBwd_ConvBwdIdeal
    ∧ algebraic_ConvBwdIdeal_ConvRefIdeal (hConvBwdIdeal := hConvBwdIdeal) (hConvRefIdeal := hConvRefIdeal)
    ∧ preserves_FfnDwd_FfnDwdIdeal
    ∧ algebraic_FfnDwdIdeal_FfnDwdRefIdeal (hFfnDwdIdeal := hFfnDwdIdeal) (hFfnDwdRefIdeal := hFfnDwdRefIdeal)
    ∧ preserves_FfnDw_FfnDwIdeal
    ∧ algebraic_FfnDwIdeal_FfnDwRefIdeal (hFfnDwIdeal := hFfnDwIdeal) (hFfnDwRefIdeal := hFfnDwRefIdeal)
    ∧ preserves_FfnDh_FfnDhIdeal
    ∧ algebraic_FfnDhIdeal_FfnDhRefIdeal (hFfnDhIdeal := hFfnDhIdeal) (hFfnDhRefIdeal := hFfnDhRefIdeal)
    ∧ preserves_FfnDs_FfnDsIdeal
    ∧ algebraic_FfnDsIdeal_FfnDsRefIdeal_pre_finite (hFfnDsIdeal := hFfnDsIdeal) (hFfnDsRefIdeal := hFfnDsRefIdeal) (hPre_finite := hPre_finite)
    ∧ preserves_FfnGate_FfnGateIdeal
    ∧ algebraic_FfnGateIdeal_FfnGateRefIdeal (hFfnGateIdeal := hFfnGateIdeal) (hFfnGateRefIdeal := hFfnGateRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_XaDo_XaDoIdeal
    ∧ algebraic_XaDoIdeal_XaDoRefIdeal (hXaDoIdeal := hXaDoIdeal) (hXaDoRefIdeal := hXaDoRefIdeal)
    ∧ preserves_XaDhq_XaDhqIdeal
    ∧ algebraic_XaDhqIdeal_XaDhqRefIdeal (hXaDhqIdeal := hXaDhqIdeal) (hXaDhqRefIdeal := hXaDhqRefIdeal)
    ∧ preserves_XaDmn_XaDmnIdeal
    ∧ algebraic_XaDmnIdeal_XaDmnRefIdeal (hXaDmnIdeal := hXaDmnIdeal) (hXaDmnRefIdeal := hXaDmnRefIdeal)
    ∧ preserves_XaDw_XaDwIdeal
    ∧ algebraic_XaDwIdeal_XaDwRefIdeal (hXaDwIdeal := hXaDwIdeal) (hXaDwRefIdeal := hXaDwRefIdeal)
    ∧ preserves_XaDwkv_XaDwkvIdeal
    ∧ algebraic_XaDwkvIdeal_XaDwkvRefIdeal (hXaDwkvIdeal := hXaDwkvIdeal) (hXaDwkvRefIdeal := hXaDwkvRefIdeal)
    ∧ preserves_XaBwd_XaBwdIdeal
    ∧ algebraic_XaBwdIdeal_XaRefIdeal_pre_finite_scores (hXaBwdIdeal := hXaBwdIdeal) (hXaRefIdeal := hXaRefIdeal) (hPre_finite_scores := hPre_finite_scores)
    ∧ preserves_MixDwin_MixDwinIdeal
    ∧ algebraic_MixDwinIdeal_MixDwinRefIdeal (hMixDwinIdeal := hMixDwinIdeal) (hMixDwinRefIdeal := hMixDwinRefIdeal)
    ∧ preserves_MixDh_MixDhIdeal
    ∧ algebraic_MixDhIdeal_MixDhRefIdeal (hMixDhIdeal := hMixDhIdeal) (hMixDhRefIdeal := hMixDhRefIdeal)
    ∧ preserves_NormBwd_NormBwdIdeal
    ∧ algebraic_NormBwdIdeal_NormBwdRefIdeal (hNormBwdIdeal := hNormBwdIdeal) (hNormBwdRefIdeal := hNormBwdRefIdeal)
    ∧ preserves_XaQ_XaQIdeal
    ∧ algebraic_XaQIdeal_XaQRefIdeal (hXaQIdeal := hXaQIdeal) (hXaQRefIdeal := hXaQRefIdeal)
    ∧ preserves_XaKv_XaKvIdeal
    ∧ algebraic_XaKvIdeal_XaKvRefIdeal (hXaKvIdeal := hXaKvIdeal) (hXaKvRefIdeal := hXaKvRefIdeal)
    ∧ preserves_XaO_XaOIdeal
    ∧ algebraic_XaOIdeal_XaORefIdeal (hXaOIdeal := hXaOIdeal) (hXaORefIdeal := hXaORefIdeal)
    ∧ preserves_MixOut_MixOutIdeal
    ∧ algebraic_MixOutIdeal_MixOutRefIdeal (hMixOutIdeal := hMixOutIdeal) (hMixOutRefIdeal := hMixOutRefIdeal)
    ∧ preserves_MixIn_MixInIdeal
    ∧ algebraic_MixInIdeal_MixInRefIdeal (hMixInIdeal := hMixInIdeal) (hMixInRefIdeal := hMixInRefIdeal)
    ∧ preserves_XaAttn_XaAttnIdeal
    ∧ algebraic_XaAttnIdeal_XaAttnRefIdeal (hXaAttnIdeal := hXaAttnIdeal) (hXaAttnRefIdeal := hXaAttnRefIdeal)
    ∧ preserves_NormFwd_NormFwdIdeal
    ∧ algebraic_NormFwdIdeal_NormFwdRefIdeal (hNormFwdIdeal := hNormFwdIdeal) (hNormFwdRefIdeal := hNormFwdRefIdeal)
    ∧ preserves_NormKv_NormKvIdeal
    ∧ algebraic_NormKvIdeal_NormKvRefIdeal (hNormKvIdeal := hNormKvIdeal) (hNormKvRefIdeal := hNormKvRefIdeal)
    ∧ preserves_Final_FinalIdeal
    ∧ algebraic_FinalIdeal_FinalRefIdeal (hFinalIdeal := hFinalIdeal) (hFinalRefIdeal := hFinalRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_PoolBwd1_PoolBwd1Ideal
    ∧ algebraic_PoolBwd1Ideal_PoolBwd1RefIdeal (hPoolBwd1Ideal := hPoolBwd1Ideal) (hPoolBwd1RefIdeal := hPoolBwd1RefIdeal)
    ∧ preserves_PoolDd_PoolDdIdeal
    ∧ algebraic_PoolDdIdeal_PoolDdRefIdeal (hPoolDdIdeal := hPoolDdIdeal) (hPoolDdRefIdeal := hPoolDdRefIdeal)
    ∧ preserves_PoolDw_PoolDwIdeal
    ∧ algebraic_PoolDwIdeal_PoolDwRefIdeal (hPoolDwIdeal := hPoolDwIdeal) (hPoolDwRefIdeal := hPoolDwRefIdeal)
    ∧ preserves_PoolMm_PoolMmIdeal
    ∧ algebraic_PoolMmIdeal_PoolMmRefIdeal (hPoolMmIdeal := hPoolMmIdeal) (hPoolMmRefIdeal := hPoolMmRefIdeal)
    ∧ preserves_AdamEarly_AdamEarlyIdeal
    ∧ algebraic_AdamEarlyIdeal_AdamEarlyRefIdeal (hAdamEarlyIdeal := hAdamEarlyIdeal) (hAdamEarlyRefIdeal := hAdamEarlyRefIdeal)
    ∧ preserves_AdamLate_AdamLateIdeal
    ∧ algebraic_AdamLateIdeal_AdamLateRefIdeal (hAdamLateIdeal := hAdamLateIdeal) (hAdamLateRefIdeal := hAdamLateRefIdeal)
-- ==== Pre_finite.lean ====
abbrev S2048x2048 : Shape := ⟨2, ![2048, 2048]⟩
abbrev S4x1408x2048 : Shape := ⟨3, ![4, 1408, 2048]⟩
abbrev S2048x5632 : Shape := ⟨2, ![2048, 5632]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S4x1408x2048 : S_.BroadcastsInDim S4x1408x2048 (![] : Fin 0 → Fin S4x1408x2048.rank)
  bcast_S_S2048x5632 : S_.BroadcastsInDim S2048x5632 (![] : Fin 0 → Fin S2048x5632.rank)

variable [Facts]

def fn {F : FTy → Type} [FloatOps F] (main_arg0 : FVec F S2048x2048 .bf16) (main_arg1 : FVec F S4x1408x2048 .bf16) (main_arg2 : FVec F S2048x5632 .bf16) (main_arg3 : FVec F S2048x5632 .bf16) : IVec S2048x2048 1 × IVec S4x1408x2048 1 × IVec S2048x5632 1 :=
  let main_v0 : FVec F S2048x2048 .f32 := (extf .f32 · bitsLt_bf16_f32) main_arg0
  let main_v1 : FVec F S4x1408x2048 .f32 := (extf .f32 · bitsLt_bf16_f32) main_arg1
  let main_v2 : FVec F S2048x5632 .f32 := (extf .f32 · bitsLt_bf16_f32) main_arg3
  let main_v3 : FVec F S2048x2048 .f32 := Host.absf main_v0
  let main_cst : FVec F S_ .f32 := constant S_ .f32 0x7F800000#32
  let main_v4 : FVec F S2048x2048 .f32 := broadcastInDim S2048x2048 ![] bcast_S_S2048x2048 main_cst
  let main_v5 : IVec S2048x2048 1 := cmpf .olt main_v3 main_v4
  let main_v6 : FVec F S4x1408x2048 .f32 := Host.absf main_v1
  let main_cst_0 : FVec F S_ .f32 := constant S_ .f32 0x7F800000#32
  let main_v7 : FVec F S4x1408x2048 .f32 := broadcastInDim S4x1408x2048 ![] bcast_S_S4x1408x2048 main_cst_0
  let main_v8 : IVec S4x1408x2048 1 := cmpf .olt main_v6 main_v7
  let main_v9 : FVec F S2048x5632 .f32 := Host.absf main_v2
  let main_cst_1 : FVec F S_ .f32 := constant S_ .f32 0x7F800000#32
  let main_v10 : FVec F S2048x5632 .f32 := broadcastInDim S2048x5632 ![] bcast_S_S2048x5632 main_cst_1
  let main_v11 : IVec S2048x5632 1 := cmpf .olt main_v9 main_v10
  (main_v5, main_v8, main_v11)
-- ==== Pre_finite_scores.lean ====
abbrev S2048x2048 : Shape := ⟨2, ![2048, 2048]⟩
abbrev S256x2048 : Shape := ⟨2, ![256, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S256x2048 : S_.BroadcastsInDim S256x2048 (![] : Fin 0 → Fin S256x2048.rank)

variable [Facts]

def fn {F : FTy → Type} [FloatOps F] (main_arg0 : FVec F S2048x2048 .bf16) (main_arg1 : FVec F S2048x2048 .bf16) (main_arg2 : FVec F S256x2048 .bf16) (main_arg3 : FVec F S256x2048 .bf16) : IVec S2048x2048 1 × IVec S256x2048 1 :=
  let main_v0 : FVec F S2048x2048 .f32 := (extf .f32 · bitsLt_bf16_f32) main_arg0
  let main_v1 : FVec F S256x2048 .f32 := (extf .f32 · bitsLt_bf16_f32) main_arg2
  let main_v2 : FVec F S2048x2048 .f32 := Host.absf main_v0
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_v5 : FVec F S256x2048 .f32 := Host.absf main_v1
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  (main_v4, main_v7)
-- ==== ConvBwd.lean ====
abbrev S2048x4096 : Shape := ⟨2, ![2048, 4096]⟩
abbrev S2048x2048 : Shape := ⟨2, ![2048, 2048]⟩
abbrev S2048x1024 : Shape := ⟨2, ![2048, 1024]⟩
abbrev S31x1x1024 : Shape := ⟨3, ![31, 1, 1024]⟩
abbrev S31x1024 : Shape := ⟨2, ![31, 1024]⟩
abbrev S_ : Shape := ⟨0, ![]⟩
abbrev S32x1024 : Shape := ⟨2, ![32, 1024]⟩
abbrev S1x4096 : Shape := ⟨2, ![1, 4096]⟩
abbrev S256x4096 : Shape := ⟨2, ![256, 4096]⟩
abbrev S256x2048 : Shape := ⟨2, ![256, 2048]⟩
abbrev S256x1024 : Shape := ⟨2, ![256, 1024]⟩
abbrev S288x1024 : Shape := ⟨2, ![288, 1024]⟩
abbrev S1x1024 : Shape := ⟨2, ![1, 1024]⟩
abbrev S4096 : Shape := ⟨1, ![4096]⟩

abbrev nBuf : Space → Nat
  | .hbm => 10
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x1024, .f32⟩
  | .hbm, ⟨3, _⟩ => ⟨S31x1x1024, .f32⟩
  | .hbm, ⟨4, _⟩ => ⟨S31x1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S2048x4096, .bf16⟩
  | .hbm, ⟨9, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S256x4096, .bf16⟩
  | .local _ .vmem, ⟨10, _⟩ => ⟨S256x4096, .bf16⟩
  | .local _ .vmem, ⟨11, _⟩ => ⟨S1x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v239 : BitVec 1 := Scalar.cmpi .eq arg0 c0_i32
  let v240 : BitVec 32 := Scalar.extui v239
  let c0_i32_44 : BitVec 32 := 0#32
  let v241 : BitVec 1 := Scalar.cmpi .ne v240 c0_i32_44
  v241

def k0_cond2 (i : grid0.Coords) : BitVec 1 :=
  let arg0 : BitVec 32 := BitVec.ofNat 32 (i 0).val
  let c0_i32_45 : BitVec 32 := 0#32
  let v242 : BitVec 1 := Scalar.cmpi .sgt arg0 c0_i32_45
  let v243 : BitVec 32 := Scalar.extui v242
  let c0_i32_46 : BitVec 32 := 0#32
  let v244 : BitVec 1 := Scalar.cmpi .ne v243 c0_i32_46
  v244

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvRefIdeal.lean ====
abbrev S2048x4096 : Shape := ⟨2, ![2048, 4096]⟩
abbrev S2048x2048 : Shape := ⟨2, ![2048, 2048]⟩
abbrev S2048x1024 : Shape := ⟨2, ![2048, 1024]⟩
abbrev S31x1x1024 : Shape := ⟨3, ![31, 1, 1024]⟩
abbrev S_ : Shape := ⟨0, ![]⟩
abbrev S1x4096 : Shape := ⟨2, ![1, 4096]⟩
abbrev S30x1024 : Shape := ⟨2, ![30, 1024]⟩
abbrev S2078x1024 : Shape := ⟨2, ![2078, 1024]⟩
abbrev S1x1x1024 : Shape := ⟨3, ![1, 1, 1024]⟩
abbrev S1x1024 : Shape := ⟨2, ![1, 1024]⟩
abbrev S4096 : Shape := ⟨1, ![4096]⟩

abbrev nBuf : Space → Nat
  | .hbm => 390
  | .vmem => 0
  | .smem => 0
  | _ => 0

abbrev hbmTy0_0 (i : Nat) : BufTy := match i % 128 with
  | 0 => ⟨S2048x4096, .f32⟩
  | 1 => ⟨S2048x2048, .f32⟩
  | 2 => ⟨S2048x1024, .f32⟩
  | 3 => ⟨S31x1x1024, .f32⟩
  | 4 => ⟨S_, .f32⟩
  | 5 => ⟨S1x4096, .f32⟩
  | 6 => ⟨S2048x4096, .f32⟩
  | 7 => ⟨S2048x4096, .f32⟩
  | 8 => ⟨S2048x1024, .f32⟩
  | 9 => ⟨S2048x1024, .f32⟩
  | 10 => ⟨S2048x1024, .f32⟩
  | 11 => ⟨S2048x1024, .f32⟩
  | 12 => ⟨S_, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S2048x1024, .f32⟩
  | 22 => ⟨S2048x1024, .f32⟩
  | 23 => ⟨S_, .f32⟩
  | 24 => ⟨S30x1024, .f32⟩
  | 25 => ⟨S2078x1024, .f32⟩
  | 26 => ⟨S_, .f32⟩
  | 27 => ⟨S30x1024, .f32⟩
  | 28 => ⟨S2048x1024, .f32⟩
  | 29 => ⟨S1x1x1024, .f32⟩
  | 30 => ⟨S1x1024, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S1x1x1024, .f32⟩
  | 38 => ⟨S1x1024, .f32⟩
  | 39 => ⟨S2048x1024, .f32⟩
  | 40 => ⟨S2048x1024, .f32⟩
  | 41 => ⟨S2048x1024, .f32⟩
  | 42 => ⟨S2048x1024, .f32⟩
  | 43 => ⟨S1x1x1024, .f32⟩
  | 44 => ⟨S1x1024, .f32⟩
  | 45 => ⟨S2048x1024, .f32⟩
  | 46 => ⟨S2048x1024, .f32⟩
  | 47 => ⟨S2048x1024, .f32⟩
  | 48 => ⟨S2048x1024, .f32⟩
  | 49 => ⟨S1x1x1024, .f32⟩
  | 50 => ⟨S1x1024, .f32⟩
  | 51 => ⟨S2048x1024, .f32⟩
  | 52 => ⟨S2048x1024, .f32⟩
  | 53 => ⟨S2048x1024, .f32⟩
  | 54 => ⟨S2048x1024, .f32⟩
  | 55 => ⟨S1x1x1024, .f32⟩
  | 56 => ⟨S1x1024, .f32⟩
  | 57 => ⟨S2048x1024, .f32⟩
  | 58 => ⟨S2048x1024, .f32⟩
  | 59 => ⟨S2048x1024, .f32⟩
  | 60 => ⟨S2048x1024, .f32⟩
  | 61 => ⟨S1x1x1024, .f32⟩
  | 62 => ⟨S1x1024, .f32⟩
  | 63 => ⟨S2048x1024, .f32⟩
  | 64 => ⟨S2048x1024, .f32⟩
  | 65 => ⟨S2048x1024, .f32⟩
  | 66 => ⟨S2048x1024, .f32⟩
  | 67 => ⟨S1x1x1024, .f32⟩
  | 68 => ⟨S1x1024, .f32⟩
  | 69 => ⟨S2048x1024, .f32⟩
  | 70 => ⟨S2048x1024, .f32⟩
  | 71 => ⟨S2048x1024, .f32⟩
  | 72 => ⟨S2048x1024, .f32⟩
  | 73 => ⟨S1x1x1024, .f32⟩
  | 74 => ⟨S1x1024, .f32⟩
  | 75 => ⟨S2048x1024, .f32⟩
  | 76 => ⟨S2048x1024, .f32⟩
  | 77 => ⟨S2048x1024, .f32⟩
  | 78 => ⟨S2048x1024, .f32⟩
  | 79 => ⟨S1x1x1024, .f32⟩
  | 80 => ⟨S1x1024, .f32⟩
  | 81 => ⟨S2048x1024, .f32⟩
  | 82 => ⟨S2048x1024, .f32⟩
  | 83 => ⟨S2048x1024, .f32⟩
  | 84 => ⟨S2048x1024, .f32⟩
  | 85 => ⟨S1x1x1024, .f32⟩
  | 86 => ⟨S1x1024, .f32⟩
  | 87 => ⟨S2048x1024, .f32⟩
  | 88 => ⟨S2048x1024, .f32⟩
  | 89 => ⟨S2048x1024, .f32⟩
  | 90 => ⟨S2048x1024, .f32⟩
  | 91 => ⟨S1x1x1024, .f32⟩
  | 92 => ⟨S1x1024, .f32⟩
  | 93 => ⟨S2048x1024, .f32⟩
  | 94 => ⟨S2048x1024, .f32⟩
  | 95 => ⟨S2048x1024, .f32⟩
  | 96 => ⟨S2048x1024, .f32⟩
  | 97 => ⟨S1x1x1024, .f32⟩
  | 98 => ⟨S1x1024, .f32⟩
  | 99 => ⟨S2048x1024, .f32⟩
  | 100 => ⟨S2048x1024, .f32⟩
  | 101 => ⟨S2048x1024, .f32⟩
  | 102 => ⟨S2048x1024, .f32⟩
  | 103 => ⟨S1x1x1024, .f32⟩
  | 104 => ⟨S1x1024, .f32⟩
  | 105 => ⟨S2048x1024, .f32⟩
  | 106 => ⟨S2048x1024, .f32⟩
  | 107 => ⟨S2048x1024, .f32⟩
  | 108 => ⟨S2048x1024, .f32⟩
  | 109 => ⟨S1x1x1024, .f32⟩
  | 110 => ⟨S1x1024, .f32⟩
  | 111 => ⟨S2048x1024, .f32⟩
  | 112 => ⟨S2048x1024, .f32⟩
  | 113 => ⟨S2048x1024, .f32⟩
  | 114 => ⟨S2048x1024, .f32⟩
  | 115 => ⟨S1x1x1024, .f32⟩
  | 116 => ⟨S1x1024, .f32⟩
  | 117 => ⟨S2048x1024, .f32⟩
  | 118 => ⟨S2048x1024, .f32⟩
  | 119 => ⟨S2048x1024, .f32⟩
  | 120 => ⟨S2048x1024, .f32⟩
  | 121 => ⟨S1x1x1024, .f32⟩
  | 122 => ⟨S1x1024, .f32⟩
  | 123 => ⟨S2048x1024, .f32⟩
  | 124 => ⟨S2048x1024, .f32⟩
  | 125 => ⟨S2048x1024, .f32⟩
  | 126 => ⟨S2048x1024, .f32⟩
  | 127 => ⟨S1x1x1024, .f32⟩
  | _ => ⟨S2048x4096, .f32⟩

abbrev hbmTy0_1 (i : Nat) : BufTy := match i % 128 with
  | 0 => ⟨S1x1024, .f32⟩
  | 1 => ⟨S2048x1024, .f32⟩
  | 2 => ⟨S2048x1024, .f32⟩
  | 3 => ⟨S2048x1024, .f32⟩
  | 4 => ⟨S2048x1024, .f32⟩
  | 5 => ⟨S1x1x1024, .f32⟩
  | 6 => ⟨S1x1024, .f32⟩
  | 7 => ⟨S2048x1024, .f32⟩
  | 8 => ⟨S2048x1024, .f32⟩
  | 9 => ⟨S2048x1024, .f32⟩
  | 10 => ⟨S2048x1024, .f32⟩
  | 11 => ⟨S1x1x1024, .f32⟩
  | 12 => ⟨S1x1024, .f32⟩
  | 13 => ⟨S2048x1024, .f32⟩
  | 14 => ⟨S2048x1024, .f32⟩
  | 15 => ⟨S2048x1024, .f32⟩
  | 16 => ⟨S2048x1024, .f32⟩
  | 17 => ⟨S1x1x1024, .f32⟩
  | 18 => ⟨S1x1024, .f32⟩
  | 19 => ⟨S2048x1024, .f32⟩
  | 20 => ⟨S2048x1024, .f32⟩
  | 21 => ⟨S2048x1024, .f32⟩
  | 22 => ⟨S2048x1024, .f32⟩
  | 23 => ⟨S1x1x1024, .f32⟩
  | 24 => ⟨S1x1024, .f32⟩
  | 25 => ⟨S2048x1024, .f32⟩
  | 26 => ⟨S2048x1024, .f32⟩
  | 27 => ⟨S2048x1024, .f32⟩
  | 28 => ⟨S2048x1024, .f32⟩
  | 29 => ⟨S1x1x1024, .f32⟩
  | 30 => ⟨S1x1024, .f32⟩
  | 31 => ⟨S2048x1024, .f32⟩
  | 32 => ⟨S2048x1024, .f32⟩
  | 33 => ⟨S2048x1024, .f32⟩
  | 34 => ⟨S2048x1024, .f32⟩
  | 35 => ⟨S1x1x1024, .f32⟩
  | 36 => ⟨S1x1024, .f32⟩
  | 37 => ⟨S2048x1024, .f32⟩
  | 38 => ⟨S2048x1024, .f32⟩
  | 39 => ⟨S2048x1024, .f32⟩
  | 40 => ⟨S2048x1024, .f32⟩
  | 41 => ⟨S1x1x1024, .f32⟩
  | 42 => ⟨S1x1024, .f32⟩
  | 43 => ⟨S2048x1024, .f32⟩
  | 44 => ⟨S2048x1024, .f32⟩
  | 45 => ⟨S2048x1024, .f32⟩
  | 46 => ⟨S2048x1024, .f32⟩
  | 47 => ⟨S1x1x1024, .f32⟩
  | 48 => ⟨S1x1024, .f32⟩
  | 49 => ⟨S2048x1024, .f32⟩
  | 50 => ⟨S2048x1024, .f32⟩
  | 51 => ⟨S2048x1024, .f32⟩
  | 52 => ⟨S2048x1024, .f32⟩
  | 53 => ⟨S1x1x1024, .f32⟩
  | 54 => ⟨S1x1024, .f32⟩
  | 55 => ⟨S2048x1024, .f32⟩
  | 56 => ⟨S2048x1024, .f32⟩
  | 57 => ⟨S2048x1024, .f32⟩
  | 58 => ⟨S2048x1024, .f32⟩
  | 59 => ⟨S1x1x1024, .f32⟩
  | 60 => ⟨S1x1024, .f32⟩
  | 61 => ⟨S2048x1024, .f32⟩
  | 62 => ⟨S2048x1024, .f32⟩
  | 63 => ⟨S2048x1024, .f32⟩
  | 64 => ⟨S2048x1024, .f32⟩
  | 65 => ⟨S1x1x1024, .f32⟩
  | 66 => ⟨S1x1024, .f32⟩
  | 67 => ⟨S2048x1024, .f32⟩
  | 68 => ⟨S2048x1024, .f32⟩
  | 69 => ⟨S2048x1024, .f32⟩
  | 70 => ⟨S2048x1024, .f32⟩
  | 71 => ⟨S1x1x1024, .f32⟩
  | 72 => ⟨S1x1024, .f32⟩
  | 73 => ⟨S2048x1024, .f32⟩
  | 74 => ⟨S2048x1024, .f32⟩
  | 75 => ⟨S2048x1024, .f32⟩
  | 76 => ⟨S2048x1024, .f32⟩
  | 77 => ⟨S1x1x1024, .f32⟩
  | 78 => ⟨S1x1024, .f32⟩
  | 79 => ⟨S2048x1024, .f32⟩
  | 80 => ⟨S2048x1024, .f32⟩
  | 81 => ⟨S2048x1024, .f32⟩
  | 82 => ⟨S2048x1024, .f32⟩
  | 83 => ⟨S1x1x1024, .f32⟩
  | 84 => ⟨S1x1024, .f32⟩
  | 85 => ⟨S2048x1024, .f32⟩
  | 86 => ⟨S2048x1024, .f32⟩
  | 87 => ⟨S2048x1024, .f32⟩
  | 88 => ⟨S2048x2048, .f32⟩
  | 89 => ⟨S_, .f32⟩
  | 90 => ⟨S2048x4096, .f32⟩
  | 91 => ⟨S2048x1024, .f32⟩
  | 92 => ⟨S2048x1024, .f32⟩
  | 93 => ⟨S2048x1024, .f32⟩
  | 94 => ⟨S2048x1024, .f32⟩
  | 95 => ⟨S_, .f32⟩
  | 96 => ⟨S2078x1024, .f32⟩
  | 97 => ⟨S2048x1024, .f32⟩
  | 98 => ⟨S2048x1024, .f32⟩
  | 99 => ⟨S_, .f32⟩
  | 100 => ⟨S2078x1024, .f32⟩
  | 101 => ⟨S2078x1024, .f32⟩
  | 102 => ⟨S2048x1024, .f32⟩
  | 103 => ⟨S2048x1024, .f32⟩
  | 104 => ⟨S_, .f32⟩
  | 105 => ⟨S2078x1024, .f32⟩
  | 106 => ⟨S2078x1024, .f32⟩
  | 107 => ⟨S2048x1024, .f32⟩
  | 108 => ⟨S2048x1024, .f32⟩
  | 109 => ⟨S_, .f32⟩
  | 110 => ⟨S2078x1024, .f32⟩
  | 111 => ⟨S2078x1024, .f32⟩
  | 112 => ⟨S2048x1024, .f32⟩
  | 113 => ⟨S2048x1024, .f32⟩
  | 114 => ⟨S_, .f32⟩
  | 115 => ⟨S2078x1024, .f32⟩
  | 116 => ⟨S2078x1024, .f32⟩
  | 117 => ⟨S2048x1024, .f32⟩
  | 118 => ⟨S2048x1024, .f32⟩
  | 119 => ⟨S_, .f32⟩
  | 120 => ⟨S2078x1024, .f32⟩
  | 121 => ⟨S2078x1024, .f32⟩
  | 122 => ⟨S2048x1024, .f32⟩
  | 123 => ⟨S2048x1024, .f32⟩
  | 124 => ⟨S_, .f32⟩
  | 125 => ⟨S2078x1024, .f32⟩
  | 126 => ⟨S2078x1024, .f32⟩
  | 127 => ⟨S2048x1024, .f32⟩
  | _ => ⟨S2048x4096, .f32⟩

abbrev hbmTy0_2 (i : Nat) : BufTy := match i % 128 with
  | 0 => ⟨S2048x1024, .f32⟩
  | 1 => ⟨S_, .f32⟩
  | 2 => ⟨S2078x1024, .f32⟩
  | 3 => ⟨S2078x1024, .f32⟩
  | 4 => ⟨S2048x1024, .f32⟩
  | 5 => ⟨S2048x1024, .f32⟩
  | 6 => ⟨S_, .f32⟩
  | 7 => ⟨S2078x1024, .f32⟩
  | 8 => ⟨S2078x1024, .f32⟩
  | 9 => ⟨S2048x1024, .f32⟩
  | 10 => ⟨S2048x1024, .f32⟩
  | 11 => ⟨S_, .f32⟩
  | 12 => ⟨S2078x1024, .f32⟩
  | 13 => ⟨S2078x1024, .f32⟩
  | 14 => ⟨S2048x1024, .f32⟩
  | 15 => ⟨S2048x1024, .f32⟩
  | 16 => ⟨S_, .f32⟩
  | 17 => ⟨S2078x1024, .f32⟩
  | 18 => ⟨S2078x1024, .f32⟩
  | 19 => ⟨S2048x1024, .f32⟩
  | 20 => ⟨S2048x1024, .f32⟩
  | 21 => ⟨S_, .f32⟩
  | 22 => ⟨S2078x1024, .f32⟩
  | 23 => ⟨S2078x1024, .f32⟩
  | 24 => ⟨S2048x1024, .f32⟩
  | 25 => ⟨S2048x1024, .f32⟩
  | 26 => ⟨S_, .f32⟩
  | 27 => ⟨S2078x1024, .f32⟩
  | 28 => ⟨S2078x1024, .f32⟩
  | 29 => ⟨S2048x1024, .f32⟩
  | 30 => ⟨S2048x1024, .f32⟩
  | 31 => ⟨S_, .f32⟩
  | 32 => ⟨S2078x1024, .f32⟩
  | 33 => ⟨S2078x1024, .f32⟩
  | 34 => ⟨S2048x1024, .f32⟩
  | 35 => ⟨S2048x1024, .f32⟩
  | 36 => ⟨S_, .f32⟩
  | 37 => ⟨S2078x1024, .f32⟩
  | 38 => ⟨S2078x1024, .f32⟩
  | 39 => ⟨S2048x1024, .f32⟩
  | 40 => ⟨S2048x1024, .f32⟩
  | 41 => ⟨S_, .f32⟩
  | 42 => ⟨S2078x1024, .f32⟩
  | 43 => ⟨S2078x1024, .f32⟩
  | 44 => ⟨S2048x1024, .f32⟩
  | 45 => ⟨S2048x1024, .f32⟩
  | 46 => ⟨S_, .f32⟩
  | 47 => ⟨S2078x1024, .f32⟩
  | 48 => ⟨S2078x1024, .f32⟩
  | 49 => ⟨S2048x1024, .f32⟩
  | 50 => ⟨S2048x1024, .f32⟩
  | 51 => ⟨S_, .f32⟩
  | 52 => ⟨S2078x1024, .f32⟩
  | 53 => ⟨S2078x1024, .f32⟩
  | 54 => ⟨S2048x1024, .f32⟩
  | 55 => ⟨S2048x1024, .f32⟩
  | 56 => ⟨S_, .f32⟩
  | 57 => ⟨S2078x1024, .f32⟩
  | 58 => ⟨S2078x1024, .f32⟩
  | 59 => ⟨S2048x1024, .f32⟩
  | 60 => ⟨S2048x1024, .f32⟩
  | 61 => ⟨S_, .f32⟩
  | 62 => ⟨S2078x1024, .f32⟩
  | 63 => ⟨S2078x1024, .f32⟩
  | 64 => ⟨S2048x1024, .f32⟩
  | 65 => ⟨S2048x1024, .f32⟩
  | 66 => ⟨S_, .f32⟩
  | 67 => ⟨S2078x1024, .f32⟩
  | 68 => ⟨S2078x1024, .f32⟩
  | 69 => ⟨S2048x1024, .f32⟩
  | 70 => ⟨S2048x1024, .f32⟩
  | 71 => ⟨S_, .f32⟩
  | 72 => ⟨S2078x1024, .f32⟩
  | 73 => ⟨S2078x1024, .f32⟩
  | 74 => ⟨S2048x1024, .f32⟩
  | 75 => ⟨S2048x1024, .f32⟩
  | 76 => ⟨S_, .f32⟩
  | 77 => ⟨S2078x1024, .f32⟩
  | 78 => ⟨S2078x1024, .f32⟩
  | 79 => ⟨S2048x1024, .f32⟩
  | 80 => ⟨S2048x1024, .f32⟩
  | 81 => ⟨S_, .f32⟩
  | 82 => ⟨S2078x1024, .f32⟩
  | 83 => ⟨S2078x1024, .f32⟩
  | 84 => ⟨S2048x1024, .f32⟩
  | 85 => ⟨S2048x1024, .f32⟩
  | 86 => ⟨S_, .f32⟩
  | 87 => ⟨S2078x1024, .f32⟩
  | 88 => ⟨S2078x1024, .f32⟩
  | 89 => ⟨S2048x1024, .f32⟩
  | 90 => ⟨S2048x1024, .f32⟩
  | 91 => ⟨S_, .f32⟩
  | 92 => ⟨S2078x1024, .f32⟩
  | 93 => ⟨S2078x1024, .f32⟩
  | 94 => ⟨S2048x1024, .f32⟩
  | 95 => ⟨S2048x1024, .f32⟩
  | 96 => ⟨S_, .f32⟩
  | 97 => ⟨S2078x1024, .f32⟩
  | 98 => ⟨S2078x1024, .f32⟩
  | 99 => ⟨S2048x1024, .f32⟩
  | 100 => ⟨S2048x1024, .f32⟩
  | 101 => ⟨S_, .f32⟩
  | 102 => ⟨S2078x1024, .f32⟩
  | 103 => ⟨S2078x1024, .f32⟩
  | 104 => ⟨S2048x1024, .f32⟩
  | 105 => ⟨S2048x1024, .f32⟩
  | 106 => ⟨S_, .f32⟩
  | 107 => ⟨S2078x1024, .f32⟩
  | 108 => ⟨S2078x1024, .f32⟩
  | 109 => ⟨S2048x1024, .f32⟩
  | 110 => ⟨S2048x1024, .f32⟩
  | 111 => ⟨S_, .f32⟩
  | 112 => ⟨S2078x1024, .f32⟩
  | 113 => ⟨S2078x1024, .f32⟩
  | 114 => ⟨S2048x1024, .f32⟩
  | 115 => ⟨S2048x1024, .f32⟩
  | 116 => ⟨S_, .f32⟩
  | 117 => ⟨S2078x1024, .f32⟩
  | 118 => ⟨S2078x1024, .f32⟩
  | 119 => ⟨S30x1024, .f32⟩
  | 120 => ⟨S2048x1024, .f32⟩
  | 121 => ⟨S2048x1024, .f32⟩
  | 122 => ⟨S2048x1024, .f32⟩
  | 123 => ⟨S2048x1024, .f32⟩
  | 124 => ⟨S_, .f32⟩
  | 125 => ⟨S2048x4096, .f32⟩
  | 126 => ⟨S2048x4096, .f32⟩
  | 127 => ⟨S_, .f32⟩
  | _ => ⟨S2048x4096, .f32⟩

abbrev hbmTy0_3 (i : Nat) : BufTy := match i % 128 with
  | 0 => ⟨S2048x4096, .f32⟩
  | 1 => ⟨S2048x4096, .f32⟩
  | 2 => ⟨S_, .f32⟩
  | 3 => ⟨S4096, .f32⟩
  | 4 => ⟨S1x4096, .f32⟩
  | 5 => ⟨S2048x4096, .bf16⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_cst_6 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_cst_7 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_cst_8 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_cst_9 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_cst_10 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_cst_11 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_cst_12 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_cst_13 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_cst_14 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_cst_15 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_cst_16 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_cst_17 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_cst_18 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_cst_19 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_cst_20 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_cst_21 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_cst_22 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_cst_23 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_cst_24 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_cst_25 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_cst_26 : Ref sig .tc := ⟨.hbm, 317, rfl⟩
abbrev main_v286 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_cst_27 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_cst_28 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_cst_29 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_cst_30 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_cst_31 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_cst_32 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_cst_33 : Ref sig .tc := ⟨.hbm, 352, rfl⟩
abbrev main_v314 : Ref sig .tc := ⟨.hbm, 353, rfl⟩
abbrev main_v315 : Ref sig .tc := ⟨.hbm, 354, rfl⟩
abbrev main_v316 : Ref sig .tc := ⟨.hbm, 355, rfl⟩
abbrev main_v317 : Ref sig .tc := ⟨.hbm, 356, rfl⟩
abbrev main_cst_34 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_cst_35 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_cst_36 : Ref sig .tc := ⟨.hbm, 367, rfl⟩
abbrev main_v326 : Ref sig .tc := ⟨.hbm, 368, rfl⟩
abbrev main_v327 : Ref sig .tc := ⟨.hbm, 369, rfl⟩
abbrev main_v328 : Ref sig .tc := ⟨.hbm, 370, rfl⟩
abbrev main_v329 : Ref sig .tc := ⟨.hbm, 371, rfl⟩
abbrev main_cst_37 : Ref sig .tc := ⟨.hbm, 372, rfl⟩
abbrev main_v330 : Ref sig .tc := ⟨.hbm, 373, rfl⟩
abbrev main_v331 : Ref sig .tc := ⟨.hbm, 374, rfl⟩
abbrev main_v332 : Ref sig .tc := ⟨.hbm, 375, rfl⟩
abbrev main_v333 : Ref sig .tc := ⟨.hbm, 376, rfl⟩
abbrev main_v334 : Ref sig .tc := ⟨.hbm, 377, rfl⟩
abbrev main_v335 : Ref sig .tc := ⟨.hbm, 378, rfl⟩
abbrev main_v336 : Ref sig .tc := ⟨.hbm, 379, rfl⟩
abbrev main_cst_38 : Ref sig .tc := ⟨.hbm, 380, rfl⟩
abbrev main_v337 : Ref sig .tc := ⟨.hbm, 381, rfl⟩
abbrev main_v338 : Ref sig .tc := ⟨.hbm, 382, rfl⟩
abbrev main_cst_39 : Ref sig .tc := ⟨.hbm, 383, rfl⟩
abbrev main_v339 : Ref sig .tc := ⟨.hbm, 384, rfl⟩
abbrev main_v340 : Ref sig .tc := ⟨.hbm, 385, rfl⟩
abbrev main_cst_40 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩

abbrev nD : Nat := 1
abbrev τ : Topo := Topo.v7x

variable {F : FTy → Type} [FloatOps F]
-- ==== FfnDwd.lean ====
abbrev S2048x5632 : Shape := ⟨2, ![2048, 5632]⟩
abbrev S2048x2048 : Shape := ⟨2, ![2048, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDwdRefIdeal.lean ====
abbrev S2048x5632 : Shape := ⟨2, ![2048, 5632]⟩
abbrev S2048x2048 : Shape := ⟨2, ![2048, 2048]⟩
abbrev S_ : Shape := ⟨0, ![]⟩
abbrev S4x1408x2048 : Shape := ⟨3, ![4, 1408, 2048]⟩
abbrev S5632x2048 : Shape := ⟨2, ![5632, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S_, .f32⟩
  | .hbm, ⟨7, _⟩ => ⟨S4x1408x2048, .f32⟩
  | .hbm, ⟨8, _⟩ => ⟨S5632x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x5632, .f32⟩
  | .hbm, ⟨18, _⟩ => ⟨S5632x2048, .f32⟩
  | .hbm, ⟨19, _⟩ => ⟨S4x1408x2048, .f32⟩
  | .hbm, ⟨20, _⟩ => ⟨S4x1408x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== FfnDw.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDwRefIdeal.lean ====
abbrev S2048x2048 : Shape := ⟨2, ![2048, 2048]⟩
abbrev S2048x5632 : Shape := ⟨2, ![2048, 5632]⟩
abbrev S_ : Shape := ⟨0, ![]⟩
abbrev S4x2048x1408 : Shape := ⟨3, ![4, 2048, 1408]⟩
abbrev S2048x4x1408 : Shape := ⟨3, ![2048, 4, 1408]⟩
abbrev S5632x2048 : Shape := ⟨2, ![5632, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x2048, .f32⟩
  | .hbm, ⟨3, _⟩ => ⟨S2048x5632, .f32⟩
  | .hbm, ⟨4, _⟩ => ⟨S_, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S2048x4x1408, .f32⟩
  | .hbm, ⟨12, _⟩ => ⟨S4x2048x1408, .f32⟩
  | .hbm, ⟨13, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== FfnDh.lean ====
abbrev S2048x5632 : Shape := ⟨2, ![2048, 5632]⟩
abbrev S4x2048x1408 : Shape := ⟨3, ![4, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x1408, .bf16⟩
  | .hbm, ⟨3, _⟩ => ⟨S4x2048x1408, .bf16⟩
  | .hbm, ⟨4, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnDhRefIdeal.lean ====
abbrev S2048x5632 : Shape := ⟨2, ![2048, 5632]⟩
abbrev S4x2048x1408 : Shape := ⟨3, ![4, 2048, 1408]⟩
abbrev S_ : Shape := ⟨0, ![]⟩
abbrev S2048x2048 : Shape := ⟨2, ![2048, 2048]⟩
abbrev S2048x4x1408 : Shape := ⟨3, ![2048, 4, 1408]⟩

abbrev nBuf : Space → Nat
  | .hbm => 19
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x1408, .bf16⟩
  | .hbm, ⟨3, _⟩ => ⟨S4x2048x1408, .bf16⟩
  | .hbm, ⟨4, _⟩ => ⟨S2048x5632, .f32⟩
  | .hbm, ⟨5, _⟩ => ⟨S2048x5632, .f32⟩
  | .hbm, ⟨6, _⟩ => ⟨S4x2048x1408, .f32⟩
  | .hbm, ⟨7, _⟩ => ⟨S4x2048x1408, .f32⟩
  | .hbm, ⟨8, _⟩ => ⟨S_, .f32⟩
  | .hbm, ⟨9, _⟩ => ⟨S2048x2048, .f32⟩
  | .hbm, ⟨10, _⟩ => ⟨S2048x4x1408, .f32⟩
  | .hbm, ⟨11, _⟩ => ⟨S2048x5632, .f32⟩
  | .hbm, ⟨12, _⟩ => ⟨S2048x5632, .f32⟩
  | .hbm, ⟨13, _⟩ => ⟨S2048x4x1408, .f32⟩
  | .hbm, ⟨14, _⟩ => ⟨S2048x5632, .f32⟩
  | .hbm, ⟨15, _⟩ => ⟨S2048x5632, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FfnDs.lean ====
abbrev S2048x2048 : Shape := ⟨2, ![2048, 2048]⟩
abbrev S4x1408x2048 : Shape := ⟨3, ![4, 1408, 2048]⟩
abbrev S2048x5632 : Shape := ⟨2, ![2048, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩
abbrev S256x1408 : Shape := ⟨2, ![256, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S4x1408x2048, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDsRefIdeal.lean ====
abbrev S2048x2048 : Shape := ⟨2, ![2048, 2048]⟩
abbrev S4x1408x2048 : Shape := ⟨3, ![4, 1408, 2048]⟩
abbrev S2048x5632 : Shape := ⟨2, ![2048, 5632]⟩
abbrev S_ : Shape := ⟨0, ![]⟩
abbrev S5632x2048 : Shape := ⟨2, ![5632, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1408x2048, .bf16⟩
  | .hbm, ⟨2, _⟩ => ⟨S2048x5632, .bf16⟩
  | .hbm, ⟨3, _⟩ => ⟨S2048x5632, .bf16⟩
  | .hbm, ⟨4, _⟩ => ⟨S2048x2048, .f32⟩
  | .hbm, ⟨5, _⟩ => ⟨S4x1408x2048, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x2048, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S2048x5632, .f32⟩
  | .hbm, ⟨40, _⟩ => ⟨S2048x5632, .bf16⟩
  | .hbm, ⟨41, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩

abbrev nD : Nat := 1
abbrev τ : Topo := Topo.v7x

variable {F : FTy → Type} [FloatOps F]
-- ==== FfnGate.lean ====
abbrev S2048x2048 : Shape := ⟨2, ![2048, 2048]⟩
abbrev S4x2048x1408 : Shape := ⟨3, ![4, 2048, 1408]⟩
abbrev S2048x5632 : Shape := ⟨2, ![2048, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnGateRefIdeal.lean ====
abbrev S2048x2048 : Shape := ⟨2, ![2048, 2048]⟩
abbrev S4x2048x1408 : Shape := ⟨3, ![4, 2048, 1408]⟩
abbrev S2048x4x1408 : Shape := ⟨3, ![2048, 4, 1408]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x2048, .f32⟩
  | .hbm, ⟨3, _⟩ => ⟨S4x2048x1408, .f32⟩
  | .hbm, ⟨4, _⟩ => ⟨S2048x4x1408, .f32⟩
  | .hbm, ⟨5, _⟩ => ⟨S2048x5632, .f32⟩
  | .hbm, ⟨6, _⟩ => ⟨S2048x5632, .f32⟩
  | .hbm, ⟨7, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnUp.lean ====
abbrev S2048x2048 : Shape := ⟨2, ![2048, 2048]⟩
abbrev S4x2048x1408 : Shape := ⟨3, ![4, 2048, 1408]⟩
abbrev S2048x5632 : Shape := ⟨2, ![2048, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩
abbrev S256x1408 : Shape := ⟨2, ![256, 1408]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpRefIdeal.lean ====
abbrev S2048x2048 : Shape := ⟨2, ![2048, 2048]⟩
abbrev S4x2048x1408 : Shape := ⟨3, ![4, 2048, 1408]⟩
abbrev S2048x5632 : Shape := ⟨2, ![2048, 5632]⟩
abbrev S2048x4x1408 : Shape := ⟨3, ![2048, 4, 1408]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x5632, .bf16⟩
  | .hbm, ⟨3, _⟩ => ⟨S2048x2048, .f32⟩
  | .hbm, ⟨4, _⟩ => ⟨S4x2048x1408, .f32⟩
  | .hbm, ⟨5, _⟩ => ⟨S2048x5632, .f32⟩
  | .hbm, ⟨6, _⟩ => ⟨S2048x4x1408, .f32⟩
  | .hbm, ⟨7, _⟩ => ⟨S2048x5632, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDown.lean ====
abbrev S2048x5632 : Shape := ⟨2, ![2048, 5632]⟩
abbrev S4x1408x2048 : Shape := ⟨3, ![4, 1408, 2048]⟩
abbrev S2048x2048 : Shape := ⟨2, ![2048, 2048]⟩
abbrev S1024x5632 : Shape := ⟨2, ![1024, 5632]⟩
abbrev S4x1408x256 : Shape := ⟨3, ![4, 1408, 256]⟩
abbrev S1024x256 : Shape := ⟨2, ![1024, 256]⟩
abbrev S5632x256 : Shape := ⟨2, ![5632, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S4x1408x2048, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S4x1408x256, .bf16⟩
  | .local _ .vmem, ⟨3, _⟩ => ⟨S4x1408x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1408x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S2048x5632 : Shape := ⟨2, ![2048, 5632]⟩
abbrev S4x1408x2048 : Shape := ⟨3, ![4, 1408, 2048]⟩
abbrev S2048x2048 : Shape := ⟨2, ![2048, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x1408x2048, .bf16⟩
  | .hbm, ⟨2, _⟩ => ⟨S2048x2048, .f32⟩
  | .hbm, ⟨3, _⟩ => ⟨S2048x5632, .f32⟩
  | .hbm, ⟨4, _⟩ => ⟨S4x1408x2048, .f32⟩
  | .hbm, ⟨5, _⟩ => ⟨S5632x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== XaDo.lean ====
abbrev S2048x2048 : Shape := ⟨2, ![2048, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XaDoRefIdeal.lean ====
abbrev S2048x2048 : Shape := ⟨2, ![2048, 2048]⟩
abbrev S4x512x2048 : Shape := ⟨3, ![4, 512, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S4x512x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== XaDhq.lean ====
abbrev S2048x2048 : Shape := ⟨2, ![2048, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XaDhqRefIdeal.lean ====
abbrev S2048x2048 : Shape := ⟨2, ![2048, 2048]⟩
abbrev S4x512x2048 : Shape := ⟨3, ![4, 512, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S4x512x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XaDmn.lean ====
abbrev S256x2048 : Shape := ⟨2, ![256, 2048]⟩
abbrev S4x512x2048 : Shape := ⟨3, ![4, 512, 2048]⟩
abbrev S1x512x2048 : Shape := ⟨3, ![1, 512, 2048]⟩
abbrev S256x512 : Shape := ⟨2, ![256, 512]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S4x512x2048, .bf16⟩
  | .hbm, ⟨2, _⟩ => ⟨S256x2048, .f32⟩
  | .hbm, ⟨3, _⟩ => ⟨S4x512x2048, .bf16⟩
  | .hbm, ⟨4, _⟩ => ⟨S256x2048, .f32⟩
  | .local _ .vmem, ⟨0, _⟩ => ⟨S256x2048, .f32⟩
  | .local _ .vmem, ⟨1, _⟩ => ⟨S1x512x2048, .bf16⟩
  | .local _ .vmem, ⟨2, _⟩ => ⟨S1x512x2048, .bf16⟩
  | .local _ .vmem, ⟨3, _⟩ => ⟨S256x2048, .f32⟩
  | .local _ .vmem, ⟨4, _⟩ => ⟨S1x512x2048, .bf16⟩
  | .local _ .vmem, ⟨5, _⟩ => ⟨S1x512x2048, .bf16⟩
  | .local _ .vmem, ⟨6, _⟩ => ⟨S256x512, .f32⟩
  | .local _ .vmem, ⟨7, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== XaDmnRefIdeal.lean ====
abbrev S256x2048 : Shape := ⟨2, ![256, 2048]⟩
abbrev S4x512x2048 : Shape := ⟨3, ![4, 512, 2048]⟩
abbrev S_ : Shape := ⟨0, ![]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x512x2048, .bf16⟩
  | .hbm, ⟨2, _⟩ => ⟨S256x2048, .f32⟩
  | .hbm, ⟨3, _⟩ => ⟨S4x512x2048, .bf16⟩
  | .hbm, ⟨4, _⟩ => ⟨S4x512x2048, .f32⟩
  | .hbm, ⟨5, _⟩ => ⟨S4x512x2048, .f32⟩
  | .hbm, ⟨6, _⟩ => ⟨S_, .f32⟩
  | .hbm, ⟨7, _⟩ => ⟨S256x2048, .f32⟩
  | .hbm, ⟨8, _⟩ => ⟨S2048x2048, .f32⟩
  | .hbm, ⟨9, _⟩ => ⟨S256x2048, .f32⟩
  | .hbm, ⟨10, _⟩ => ⟨S2048x2048, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== XaDw.lean ====
abbrev S2048x2048 : Shape := ⟨2, ![2048, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XaDwRefIdeal.lean ====
abbrev S2048x2048 : Shape := ⟨2, ![2048, 2048]⟩
abbrev S_ : Shape := ⟨0, ![]⟩
abbrev S4x512x2048 : Shape := ⟨3, ![4, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S4x512x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S4x512x2048, .f32⟩
  | .hbm, ⟨11, _⟩ => ⟨S4x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== XaDwkv.lean ====
abbrev S256x2048 : Shape := ⟨2, ![256, 2048]⟩
abbrev S4x512x2048 : Shape := ⟨3, ![4, 512, 2048]⟩
abbrev S256x512 : Shape := ⟨2, ![256, 512]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S4x512x2048, .bf16⟩
  | .hbm, ⟨4, _⟩ => ⟨S4x512x2048, .bf16⟩
  | .local _ .vmem, ⟨0, _⟩ => ⟨S256x512, .bf16⟩
  | .local _ .vmem, ⟨1, _⟩ => ⟨S256x512, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== XaDwkvRefIdeal.lean ====
abbrev S256x2048 : Shape := ⟨2, ![256, 2048]⟩
abbrev S_ : Shape := ⟨0, ![]⟩
abbrev S4x512x2048 : Shape := ⟨3, ![4, 512, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S4x512x2048, .f32⟩
  | .hbm, ⟨6, _⟩ => ⟨S2048x2048, .f32⟩
  | .hbm, ⟨7, _⟩ => ⟨S256x2048, .f32⟩
  | .hbm, ⟨8, _⟩ => ⟨S2048x2048, .f32⟩
  | .hbm, ⟨9, _⟩ => ⟨S256x2048, .f32⟩
  | .hbm, ⟨10, _⟩ => ⟨S2048x2048, .f32⟩
  | .hbm, ⟨11, _⟩ => ⟨S2048x2048, .f32⟩
  | .hbm, ⟨12, _⟩ => ⟨S4x512x2048, .f32⟩
  | .hbm, ⟨13, _⟩ => ⟨S2048x2048, .f32⟩
  | .hbm, ⟨14, _⟩ => ⟨S2048x2048, .f32⟩
  | .hbm, ⟨15, _⟩ => ⟨S4x512x2048, .f32⟩
  | .hbm, ⟨16, _⟩ => ⟨S4x512x2048, .bf16⟩
  | .hbm, ⟨17, _⟩ => ⟨S4x512x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== XaBwd.lean ====
abbrev S2048x2048 : Shape := ⟨2, ![2048, 2048]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S256x2048, .bf16⟩
  | .hbm, ⟨3, _⟩ => ⟨S256x2048, .bf16⟩
  | .hbm, ⟨4, _⟩ => ⟨S2048x2048, .bf16⟩
  | .hbm, ⟨5, _⟩ => ⟨S256x2048, .f32⟩
  | .hbm, ⟨6, _⟩ => ⟨S256x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v129 : BitVec 1 := Scalar.cmpi .eq arg0 c0_i32
  let v130 : BitVec 32 := Scalar.extui v129
  let c0_i32_48 : BitVec 32 := 0#32
  let v131 : BitVec 1 := Scalar.cmpi .ne v130 c0_i32_48
  v131

def k0_cond2 (i : grid0.Coords) : BitVec 1 :=
  let arg0 : BitVec 32 := BitVec.ofNat 32 (i 0).val
  let c0_i32_49 : BitVec 32 := 0#32
  let v132 : BitVec 1 := Scalar.cmpi .sgt arg0 c0_i32_49
  let v133 : BitVec 32 := Scalar.extui v132
  let c0_i32_50 : BitVec 32 := 0#32
  let v134 : BitVec 1 := Scalar.cmpi .ne v133 c0_i32_50
  v134

def k0_cond3 (i : grid0.Coords) : BitVec 1 :=
  let arg0 : BitVec 32 := BitVec.ofNat 32 (i 0).val
  let c0_i32_51 : BitVec 32 := 0#32
  let v135 : BitVec 1 := Scalar.cmpi .eq arg0 c0_i32_51
  let v136 : BitVec 32 := Scalar.extui v135
  let c0_i32_52 : BitVec 32 := 0#32
  let v137 : BitVec 1 := Scalar.cmpi .ne v136 c0_i32_52
  v137

def k0_cond4 (i : grid0.Coords) : BitVec 1 :=
  let arg0 : BitVec 32 := BitVec.ofNat 32 (i 0).val
  let c0_i32_53 : BitVec 32 := 0#32
  let v138 : BitVec 1 := Scalar.cmpi .sgt arg0 c0_i32_53
  let v139 : BitVec 32 := Scalar.extui v138
  let c0_i32_54 : BitVec 32 := 0#32
  let v140 : BitVec 1 := Scalar.cmpi .ne v139 c0_i32_54
  v140

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== XaRefIdeal.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩
abbrev S4x512x256 : Shape := ⟨3, ![4, 512, 256]⟩
abbrev S4x256x512 : Shape := ⟨3, ![4, 256, 512]⟩
abbrev S4x2048x512 : Shape := ⟨3, ![4, 2048, 512]⟩

abbrev nBuf : Space → Nat
  | .hbm => 86
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S256x2048, .bf16⟩
  | .hbm, ⟨3, _⟩ => ⟨S256x2048, .bf16⟩
  | .hbm, ⟨4, _⟩ => ⟨S2048x2048, .f32⟩
  | .hbm, ⟨5, _⟩ => ⟨S2048x2048, .f32⟩
  | .hbm, ⟨6, _⟩ => ⟨S256x2048, .f32⟩
  | .hbm, ⟨7, _⟩ => ⟨S256x2048, .f32⟩
  | .hbm, ⟨8, _⟩ => ⟨S2048x4x512, .f32⟩
  | .hbm, ⟨9, _⟩ => ⟨S256x4x512, .f32⟩
  | .hbm, ⟨10, _⟩ => ⟨S256x4x512, .f32⟩
  | .hbm, ⟨11, _⟩ => ⟨S4x2048x256, .f32⟩
  | .hbm, ⟨12, _⟩ => ⟨S_, .f32⟩
  | .hbm, ⟨13, _⟩ => ⟨S4x2048x256, .f32⟩
  | .hbm, ⟨14, _⟩ => ⟨S4x2048x256, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S4x2048x256, .f32⟩
  | .hbm, ⟨19, _⟩ => ⟨S4x2048x256, .i1⟩
  | .hbm, ⟨20, _⟩ => ⟨S4x2048x256, .f32⟩
  | .hbm, ⟨21, _⟩ => ⟨S_, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .i1⟩
  | .hbm, ⟨29, _⟩ => ⟨S_, .f32⟩
  | .hbm, ⟨30, _⟩ => ⟨S4x2048, .f32⟩
  | .hbm, ⟨31, _⟩ => ⟨S4x2048, .i1⟩
  | .hbm, ⟨32, _⟩ => ⟨S_, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | .hbm, ⟨39, _⟩ => ⟨S4x2048, .f32⟩
  | .hbm, ⟨40, _⟩ => ⟨S4x2048x1, .f32⟩
  | .hbm, ⟨41, _⟩ => ⟨S4x2048x256, .f32⟩
  | .hbm, ⟨42, _⟩ => ⟨S4x2048x256, .f32⟩
  | .hbm, ⟨43, _⟩ => ⟨S4x2048x256, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S4x2048x256, .f32⟩
  | .hbm, ⟨48, _⟩ => ⟨S4x2048x256, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x512x2048, .f32⟩
  | .hbm, ⟨54, _⟩ => ⟨S2048x4x512, .f32⟩
  | .hbm, ⟨55, _⟩ => ⟨S2048x2048, .f32⟩
  | .hbm, ⟨56, _⟩ => ⟨S2048x4x512, .f32⟩
  | .hbm, ⟨57, _⟩ => ⟨S4x512x2048, .f32⟩
  | .hbm, ⟨58, _⟩ => ⟨S4x2048x256, .f32⟩
  | .hbm, ⟨59, _⟩ => ⟨S4x512x256, .f32⟩
  | .hbm, ⟨60, _⟩ => ⟨S256x4x512, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S_, .f32⟩
  | .hbm, ⟨76, _⟩ => ⟨S4x2048x256, .f32⟩
  | .hbm, ⟨77, _⟩ => ⟨S4x2048x256, .f32⟩
  | .hbm, ⟨78, _⟩ => ⟨S4x256x512, .f32⟩
  | .hbm, ⟨79, _⟩ => ⟨S256x4x512, .f32⟩
  | .hbm, ⟨80, _⟩ => ⟨S4x2048x512, .f32⟩
  | .hbm, ⟨81, _⟩ => ⟨S2048x4x512, .f32⟩
  | .hbm, ⟨82, _⟩ => ⟨S256x2048, .f32⟩
  | .hbm, ⟨83, _⟩ => ⟨S256x2048, .f32⟩
  | .hbm, ⟨84, _⟩ => ⟨S2048x2048, .f32⟩
  | .hbm, ⟨85, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== MixDwin.lean ====
abbrev S2048x2048 : Shape := ⟨2, ![2048, 2048]⟩
abbrev S2048x4096 : Shape := ⟨2, ![2048, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixDwinRefIdeal.lean ====
abbrev S2048x2048 : Shape := ⟨2, ![2048, 2048]⟩
abbrev S2048x4096 : Shape := ⟨2, ![2048, 4096]⟩
abbrev S_ : Shape := ⟨0, ![]⟩
abbrev S4x2048x1024 : Shape := ⟨3, ![4, 2048, 1024]⟩
abbrev S2048x4x1024 : Shape := ⟨3, ![2048, 4, 1024]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x2048, .f32⟩
  | .hbm, ⟨3, _⟩ => ⟨S2048x4096, .f32⟩
  | .hbm, ⟨4, _⟩ => ⟨S_, .f32⟩
  | .hbm, ⟨5, _⟩ => ⟨S4x2048x1024, .f32⟩
  | .hbm, ⟨6, _⟩ => ⟨S2048x4x1024, .f32⟩
  | .hbm, ⟨7, _⟩ => ⟨S2048x4096, .f32⟩
  | .hbm, ⟨8, _⟩ => ⟨S2048x4096, .f32⟩
  | .hbm, ⟨9, _⟩ => ⟨S4096x2048, .f32⟩
  | .hbm, ⟨10, _⟩ => ⟨S2048x4096, .f32⟩
  | .hbm, ⟨11, _⟩ => ⟨S2048x4x1024, .f32⟩
  | .hbm, ⟨12, _⟩ => ⟨S4x2048x1024, .f32⟩
  | .hbm, ⟨13, _⟩ => ⟨S4x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== MixDh.lean ====
abbrev S2048x4096 : Shape := ⟨2, ![2048, 4096]⟩
abbrev S4x2048x1024 : Shape := ⟨3, ![4, 2048, 1024]⟩
abbrev S2048x2048 : Shape := ⟨2, ![2048, 2048]⟩
abbrev S512x4096 : Shape := ⟨2, ![512, 4096]⟩
abbrev S4x256x1024 : Shape := ⟨3, ![4, 256, 1024]⟩
abbrev S512x256 : Shape := ⟨2, ![512, 256]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4x2048x1024, .bf16⟩
  | .hbm, ⟨2, _⟩ => ⟨S2048x2048, .f32⟩
  | .local _ .vmem, ⟨0, _⟩ => ⟨S512x4096, .bf16⟩
  | .local _ .vmem, ⟨1, _⟩ => ⟨S512x4096, .bf16⟩
  | .local _ .vmem, ⟨2, _⟩ => ⟨S4x256x1024, .bf16⟩
  | .local _ .vmem, ⟨3, _⟩ => ⟨S4x256x1024, .bf16⟩
  | .local _ .vmem, ⟨4, _⟩ => ⟨S512x256, .f32⟩
  | .local _ .vmem, ⟨5, _⟩ => ⟨S512x256, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixDhRefIdeal.lean ====
abbrev S2048x4096 : Shape := ⟨2, ![2048, 4096]⟩
abbrev S4x2048x1024 : Shape := ⟨3, ![4, 2048, 1024]⟩
abbrev S_ : Shape := ⟨0, ![]⟩
abbrev S2048x2048 : Shape := ⟨2, ![2048, 2048]⟩
abbrev S2048x4x1024 : Shape := ⟨3, ![2048, 4, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x2048x1024, .bf16⟩
  | .hbm, ⟨2, _⟩ => ⟨S2048x4096, .f32⟩
  | .hbm, ⟨3, _⟩ => ⟨S4x2048x1024, .f32⟩
  | .hbm, ⟨4, _⟩ => ⟨S_, .f32⟩
  | .hbm, ⟨5, _⟩ => ⟨S2048x2048, .f32⟩
  | .hbm, ⟨6, _⟩ => ⟨S2048x4x1024, .f32⟩
  | .hbm, ⟨7, _⟩ => ⟨S2048x4096, .f32⟩
  | .hbm, ⟨8, _⟩ => ⟨S2048x4096, .f32⟩
  | .hbm, ⟨9, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== NormBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32_19 : BitVec 32 := 0#32
  let v45 : BitVec 1 := Scalar.cmpi .sgt arg0 c0_i32_19
  let v46 : BitVec 32 := Scalar.extui v45
  let c0_i32_20 : BitVec 32 := 0#32
  let v47 : BitVec 1 := Scalar.cmpi .ne v46 c0_i32_20
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== XaQ.lean ====
abbrev S2048x2048 : Shape := ⟨2, ![2048, 2048]⟩
abbrev S4x512x2048 : Shape := ⟨3, ![4, 512, 2048]⟩
abbrev S1024x2048 : Shape := ⟨2, ![1024, 2048]⟩
abbrev S4x512x512 : Shape := ⟨3, ![4, 512, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S4x512x512, .bf16⟩
  | .local _ .vmem, ⟨3, _⟩ => ⟨S4x512x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XaQRefIdeal.lean ====
abbrev S2048x2048 : Shape := ⟨2, ![2048, 2048]⟩
abbrev S4x512x2048 : Shape := ⟨3, ![4, 512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== XaKv.lean ====
abbrev S256x2048 : Shape := ⟨2, ![256, 2048]⟩
abbrev S4x512x2048 : Shape := ⟨3, ![4, 512, 2048]⟩
abbrev S4x512x512 : Shape := ⟨3, ![4, 512, 512]⟩
abbrev S256x512 : Shape := ⟨2, ![256, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S4x512x2048, .bf16⟩
  | .hbm, ⟨2, _⟩ => ⟨S256x2048, .bf16⟩
  | .local _ .vmem, ⟨0, _⟩ => ⟨S256x2048, .bf16⟩
  | .local _ .vmem, ⟨1, _⟩ => ⟨S4x512x512, .bf16⟩
  | .local _ .vmem, ⟨2, _⟩ => ⟨S4x512x512, .bf16⟩
  | .local _ .vmem, ⟨3, _⟩ => ⟨S256x512, .bf16⟩
  | .local _ .vmem, ⟨4, _⟩ => ⟨S256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XaKvRefIdeal.lean ====
abbrev S256x2048 : Shape := ⟨2, ![256, 2048]⟩
abbrev S4x512x2048 : Shape := ⟨3, ![4, 512, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x512x2048, .bf16⟩
  | .hbm, ⟨2, _⟩ => ⟨S256x2048, .f32⟩
  | .hbm, ⟨3, _⟩ => ⟨S4x512x2048, .f32⟩
  | .hbm, ⟨4, _⟩ => ⟨S2048x2048, .f32⟩
  | .hbm, ⟨5, _⟩ => ⟨S256x2048, .f32⟩
  | .hbm, ⟨6, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== XaO.lean ====
abbrev S2048x2048 : Shape := ⟨2, ![2048, 2048]⟩
abbrev S4x512x2048 : Shape := ⟨3, ![4, 512, 2048]⟩
abbrev S1024x2048 : Shape := ⟨2, ![1024, 2048]⟩
abbrev S4x512x512 : Shape := ⟨3, ![4, 512, 512]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x512x512, .bf16⟩
  | .local _ .vmem, ⟨3, _⟩ => ⟨S4x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XaORefIdeal.lean ====
abbrev S2048x2048 : Shape := ⟨2, ![2048, 2048]⟩
abbrev S4x512x2048 : Shape := ⟨3, ![4, 512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S2048x2048, .f32⟩
  | .hbm, ⟨4, _⟩ => ⟨S4x512x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOut.lean ====
abbrev S2048x2048 : Shape := ⟨2, ![2048, 2048]⟩
abbrev S4x512x2048 : Shape := ⟨3, ![4, 512, 2048]⟩
abbrev S1x2048 : Shape := ⟨2, ![1, 2048]⟩
abbrev S1024x2048 : Shape := ⟨2, ![1024, 2048]⟩
abbrev S4x512x512 : Shape := ⟨3, ![4, 512, 512]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x512x512, .bf16⟩
  | .local _ .vmem, ⟨3, _⟩ => ⟨S4x512x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixOutRefIdeal.lean ====
abbrev S2048x2048 : Shape := ⟨2, ![2048, 2048]⟩
abbrev S4x512x2048 : Shape := ⟨3, ![4, 512, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S4x512x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MixIn.lean ====
abbrev S2048x2048 : Shape := ⟨2, ![2048, 2048]⟩
abbrev S4x2048x1024 : Shape := ⟨3, ![4, 2048, 1024]⟩
abbrev S1x4096 : Shape := ⟨2, ![1, 4096]⟩
abbrev S2048x4096 : Shape := ⟨2, ![2048, 4096]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S1x4096, .f32⟩
  | .hbm, ⟨3, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixInRefIdeal.lean ====
abbrev S2048x2048 : Shape := ⟨2, ![2048, 2048]⟩
abbrev S4x2048x1024 : Shape := ⟨3, ![4, 2048, 1024]⟩
abbrev S1x4096 : Shape := ⟨2, ![1, 4096]⟩
abbrev S2048x4x1024 : Shape := ⟨3, ![2048, 4, 1024]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S1x4096, .f32⟩
  | .hbm, ⟨3, _⟩ => ⟨S2048x2048, .f32⟩
  | .hbm, ⟨4, _⟩ => ⟨S4x2048x1024, .f32⟩
  | .hbm, ⟨5, _⟩ => ⟨S2048x4x1024, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== XaAttn.lean ====
abbrev S2048x2048 : Shape := ⟨2, ![2048, 2048]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XaAttnRefIdeal.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S2048x4x512, .f32⟩
  | .hbm, ⟨7, _⟩ => ⟨S256x4x512, .f32⟩
  | .hbm, ⟨8, _⟩ => ⟨S256x4x512, .f32⟩
  | .hbm, ⟨9, _⟩ => ⟨S4x2048x256, .f32⟩
  | .hbm, ⟨10, _⟩ => ⟨S_, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x256, .f32⟩
  | .hbm, ⟨20, _⟩ => ⟨S4x2048x256, .f32⟩
  | .hbm, ⟨21, _⟩ => ⟨S4x2048x256, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x256, .f32⟩
  | .hbm, ⟨26, _⟩ => ⟨S4x2048x256, .f32⟩
  | .hbm, ⟨27, _⟩ => ⟨S4x512x2048, .f32⟩
  | .hbm, ⟨28, _⟩ => ⟨S2048x4x512, .f32⟩
  | .hbm, ⟨29, _⟩ => ⟨S2048x2048, .f32⟩
  | .hbm, ⟨30, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== NormFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormKv.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NormKvRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S2048, .f32⟩
  | .hbm, ⟨21, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Final.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_21 : BitVec 32 := 0#32
  let v57 : BitVec 1 := Scalar.cmpi .ne v56 c0_i32_21
  v57

def k0_cond2 (i : grid0.Coords) : BitVec 1 :=
  let arg0 : BitVec 32 := BitVec.ofNat 32 (i 0).val
  let c0_i32_22 : BitVec 32 := 0#32
  let v58 : BitVec 1 := Scalar.cmpi .sgt arg0 c0_i32_22
  let v59 : BitVec 32 := Scalar.extui v58
  let c0_i32_23 : BitVec 32 := 0#32
  let v60 : BitVec 1 := Scalar.cmpi .ne v59 c0_i32_23
  v60

def k0_cond3 (i : grid0.Coords) : BitVec 1 :=
  let arg0 : BitVec 32 := BitVec.ofNat 32 (i 0).val
  let c0_i32_24 : BitVec 32 := 0#32
  let v61 : BitVec 1 := Scalar.cmpi .eq arg0 c0_i32_24
  let v62 : BitVec 32 := Scalar.extui v61
  let c0_i32_25 : BitVec 32 := 0#32
  let v63 : BitVec 1 := Scalar.cmpi .ne v62 c0_i32_25
  v63

def k0_cond4 (i : grid0.Coords) : BitVec 1 :=
  let arg0 : BitVec 32 := BitVec.ofNat 32 (i 0).val
  let c0_i32_26 : BitVec 32 := 0#32
  let v64 : BitVec 1 := Scalar.cmpi .sgt arg0 c0_i32_26
  let v65 : BitVec 32 := Scalar.extui v64
  let c0_i32_27 : BitVec 32 := 0#32
  let v66 : BitVec 1 := Scalar.cmpi .ne v65 c0_i32_27
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinalRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .bf16⟩
  | .hbm, ⟨69, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== AdamSmall.lean ====
abbrev S3072x128 : Shape := ⟨2, ![3072, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S3072x128, .f32⟩
  | .hbm, ⟨5, _⟩ => ⟨S3072x128, .f32⟩
  | .hbm, ⟨6, _⟩ => ⟨S3072x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S3072x128 : Shape := ⟨2, ![3072, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S_, .f32⟩
  | .hbm, ⟨5, _⟩ => ⟨S3072x128, .f32⟩
  | .hbm, ⟨6, _⟩ => ⟨S3072x128, .f32⟩
  | .hbm, ⟨7, _⟩ => ⟨S_, .f32⟩
  | .hbm, ⟨8, _⟩ => ⟨S3072x128, .f32⟩
  | .hbm, ⟨9, _⟩ => ⟨S3072x128, .f32⟩
  | .hbm, ⟨10, _⟩ => ⟨S3072x128, .f32⟩
  | .hbm, ⟨11, _⟩ => ⟨S_, .f32⟩
  | .hbm, ⟨12, _⟩ => ⟨S3072x128, .f32⟩
  | .hbm, ⟨13, _⟩ => ⟨S3072x128, .f32⟩
  | .hbm, ⟨14, _⟩ => ⟨S3072x128, .f32⟩
  | .hbm, ⟨15, _⟩ => ⟨S_, .f32⟩
  | .hbm, ⟨16, _⟩ => ⟨S3072x128, .f32⟩
  | .hbm, ⟨17, _⟩ => ⟨S3072x128, .f32⟩
  | .hbm, ⟨18, _⟩ => ⟨S3072x128, .f32⟩
  | .hbm, ⟨19, _⟩ => ⟨S_, .f32⟩
  | .hbm, ⟨20, _⟩ => ⟨S3072x128, .f32⟩
  | .hbm, ⟨21, _⟩ => ⟨S3072x128, .f32⟩
  | .hbm, ⟨22, _⟩ => ⟨S_, .f32⟩
  | .hbm, ⟨23, _⟩ => ⟨S3072x128, .f32⟩
  | .hbm, ⟨24, _⟩ => ⟨S3072x128, .f32⟩
  | .hbm, ⟨25, _⟩ => ⟨S3072x128, .f32⟩
  | .hbm, ⟨26, _⟩ => ⟨S_, .f32⟩
  | .hbm, ⟨27, _⟩ => ⟨S3072x128, .f32⟩
  | .hbm, ⟨28, _⟩ => ⟨S3072x128, .f32⟩
  | .hbm, ⟨29, _⟩ => ⟨S3072x128, .f32⟩
  | .hbm, ⟨30, _⟩ => ⟨S_, .f32⟩
  | .hbm, ⟨31, _⟩ => ⟨S3072x128, .f32⟩
  | .hbm, ⟨32, _⟩ => ⟨S3072x128, .f32⟩
  | .hbm, ⟨33, _⟩ => ⟨S3072x128, .f32⟩
  | .hbm, ⟨34, _⟩ => ⟨S_, .f32⟩
  | .hbm, ⟨35, _⟩ => ⟨S3072x128, .f32⟩
  | .hbm, ⟨36, _⟩ => ⟨S3072x128, .f32⟩
  | _, _ => ⟨S3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPool.lean ====
abbrev S1024x512 : Shape := ⟨2, ![1024, 512]⟩
abbrev S8x128 : Shape := ⟨2, ![8, 128]⟩
abbrev S256x512 : Shape := ⟨2, ![256, 512]⟩

abbrev nBuf : Space → Nat
  | .hbm => 9
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x128, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPoolRefIdeal.lean ====
abbrev S1024x512 : Shape := ⟨2, ![1024, 512]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x128, .f32⟩
  | .hbm, ⟨5, _⟩ => ⟨S_, .f32⟩
  | .hbm, ⟨6, _⟩ => ⟨S1024x512, .f32⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== PoolBwd1.lean ====
abbrev S2048x2048 : Shape := ⟨2, ![2048, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S1x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_8 : BitVec 32 := 0#32
  let v16 : BitVec 1 := Scalar.cmpi .ne v15 c0_i32_8
  v16

def k0_cond2 (i : grid0.Coords) : BitVec 1 :=
  let arg0 : BitVec 32 := BitVec.ofNat 32 (i 0).val
  let c0_i32_9 : BitVec 32 := 0#32
  let v17 : BitVec 1 := Scalar.cmpi .sgt arg0 c0_i32_9
  let v18 : BitVec 32 := Scalar.extui v17
  let c0_i32_10 : BitVec 32 := 0#32
  let v19 : BitVec 1 := Scalar.cmpi .ne v18 c0_i32_10
  v19

def k0_cond3 (i : grid0.Coords) : BitVec 1 :=
  let arg0 : BitVec 32 := BitVec.ofNat 32 (i 0).val
  let c0_i32_11 : BitVec 32 := 0#32
  let v20 : BitVec 1 := Scalar.cmpi .eq arg0 c0_i32_11
  let v21 : BitVec 32 := Scalar.extui v20
  let c0_i32_12 : BitVec 32 := 0#32
  let v22 : BitVec 1 := Scalar.cmpi .ne v21 c0_i32_12
  v22

def k0_cond4 (i : grid0.Coords) : BitVec 1 :=
  let arg0 : BitVec 32 := BitVec.ofNat 32 (i 0).val
  let c0_i32_13 : BitVec 32 := 0#32
  let v23 : BitVec 1 := Scalar.cmpi .sgt arg0 c0_i32_13
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PoolBwd1RefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S1x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== PoolDd.lean ====
abbrev S2048x2048 : Shape := ⟨2, ![2048, 2048]⟩
abbrev S4x512x512 : Shape := ⟨3, ![4, 512, 512]⟩
abbrev S512x512 : Shape := ⟨2, ![512, 512]⟩
abbrev S1x128x512 : Shape := ⟨3, ![1, 128, 512]⟩
abbrev S512x128 : Shape := ⟨2, ![512, 128]⟩
abbrev S128x512 : Shape := ⟨2, ![128, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S2048x2048, .f32⟩
  | .local _ .vmem, ⟨0, _⟩ => ⟨S512x512, .bf16⟩
  | .local _ .vmem, ⟨1, _⟩ => ⟨S512x512, .bf16⟩
  | .local _ .vmem, ⟨2, _⟩ => ⟨S1x128x512, .bf16⟩
  | .local _ .vmem, ⟨3, _⟩ => ⟨S1x128x512, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolDdRefIdeal.lean ====
abbrev S2048x2048 : Shape := ⟨2, ![2048, 2048]⟩
abbrev S4x512x512 : Shape := ⟨3, ![4, 512, 512]⟩
abbrev S_ : Shape := ⟨0, ![]⟩
abbrev S4x4x128x512 : Shape := ⟨4, ![4, 4, 128, 512]⟩
abbrev S2048x4x512 : Shape := ⟨3, ![2048, 4, 512]⟩
abbrev S4x512x2048 : Shape := ⟨3, ![4, 512, 2048]⟩
abbrev S4x2048x512 : Shape := ⟨3, ![4, 2048, 512]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S2048x2048, .f32⟩
  | .hbm, ⟨3, _⟩ => ⟨S4x512x512, .f32⟩
  | .hbm, ⟨4, _⟩ => ⟨S_, .f32⟩
  | .hbm, ⟨5, _⟩ => ⟨S2048x2048, .f32⟩
  | .hbm, ⟨6, _⟩ => ⟨S4x4x128x512, .f32⟩
  | .hbm, ⟨7, _⟩ => ⟨S4x4x128x512, .f32⟩
  | .hbm, ⟨8, _⟩ => ⟨S4x512x512, .f32⟩
  | .hbm, ⟨9, _⟩ => ⟨S2048x4x512, .f32⟩
  | .hbm, ⟨10, _⟩ => ⟨S4x512x2048, .f32⟩
  | .hbm, ⟨11, _⟩ => ⟨S2048x4x512, .f32⟩
  | .hbm, ⟨12, _⟩ => ⟨S2048x2048, .f32⟩
  | .hbm, ⟨13, _⟩ => ⟨S2048x4x512, .f32⟩
  | .hbm, ⟨14, _⟩ => ⟨S4x512x2048, .f32⟩
  | .hbm, ⟨15, _⟩ => ⟨S4x2048x512, .f32⟩
  | .hbm, ⟨16, _⟩ => ⟨S2048x4x512, .f32⟩
  | .hbm, ⟨17, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== PoolDw.lean ====
abbrev S2048x2048 : Shape := ⟨2, ![2048, 2048]⟩
abbrev S4x512x512 : Shape := ⟨3, ![4, 512, 512]⟩
abbrev S512x128 : Shape := ⟨2, ![512, 128]⟩
abbrev S512x512 : Shape := ⟨2, ![512, 512]⟩
abbrev S1x128x512 : Shape := ⟨3, ![1, 128, 512]⟩
abbrev S128x512 : Shape := ⟨2, ![128, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x512, .bf16⟩
  | .local _ .vmem, ⟨0, _⟩ => ⟨S512x128, .bf16⟩
  | .local _ .vmem, ⟨1, _⟩ => ⟨S512x128, .bf16⟩
  | .local _ .vmem, ⟨2, _⟩ => ⟨S512x512, .bf16⟩
  | .local _ .vmem, ⟨3, _⟩ => ⟨S512x512, .bf16⟩
  | .local _ .vmem, ⟨4, _⟩ => ⟨S1x128x512, .bf16⟩
  | .local _ .vmem, ⟨5, _⟩ => ⟨S1x128x512, .bf16⟩
  | .local _ .vmem, ⟨6, _⟩ => ⟨S128x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== PoolDwRefIdeal.lean ====
abbrev S2048x2048 : Shape := ⟨2, ![2048, 2048]⟩
abbrev S_ : Shape := ⟨0, ![]⟩
abbrev S4x512x512 : Shape := ⟨3, ![4, 512, 512]⟩
abbrev S4x4x128x512 : Shape := ⟨4, ![4, 4, 128, 512]⟩
abbrev S2048x4x512 : Shape := ⟨3, ![2048, 4, 512]⟩
abbrev S4x512x2048 : Shape := ⟨3, ![4, 512, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S4x512x512, .f32⟩
  | .hbm, ⟨6, _⟩ => ⟨S4x4x128x512, .f32⟩
  | .hbm, ⟨7, _⟩ => ⟨S4x4x128x512, .f32⟩
  | .hbm, ⟨8, _⟩ => ⟨S4x512x512, .f32⟩
  | .hbm, ⟨9, _⟩ => ⟨S2048x4x512, .f32⟩
  | .hbm, ⟨10, _⟩ => ⟨S4x512x2048, .f32⟩
  | .hbm, ⟨11, _⟩ => ⟨S2048x4x512, .f32⟩
  | .hbm, ⟨12, _⟩ => ⟨S2048x2048, .f32⟩
  | .hbm, ⟨13, _⟩ => ⟨S2048x4x512, .f32⟩
  | .hbm, ⟨14, _⟩ => ⟨S4x512x2048, .f32⟩
  | .hbm, ⟨15, _⟩ => ⟨S4x512x512, .f32⟩
  | .hbm, ⟨16, _⟩ => ⟨S4x512x512, .f32⟩
  | .hbm, ⟨17, _⟩ => ⟨S4x4x128x512, .f32⟩
  | .hbm, ⟨18, _⟩ => ⟨S4x4x128x512, .f32⟩
  | .hbm, ⟨19, _⟩ => ⟨S4x512x512, .f32⟩
  | .hbm, ⟨20, _⟩ => ⟨S4x512x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== PoolMm.lean ====
abbrev S2048x2048 : Shape := ⟨2, ![2048, 2048]⟩
abbrev S4x512x512 : Shape := ⟨3, ![4, 512, 512]⟩
abbrev S1x2048 : Shape := ⟨2, ![1, 2048]⟩
abbrev S512x128 : Shape := ⟨2, ![512, 128]⟩
abbrev S1x128x512 : Shape := ⟨3, ![1, 128, 512]⟩
abbrev S1x512 : Shape := ⟨2, ![1, 512]⟩
abbrev S512x512 : Shape := ⟨2, ![512, 512]⟩
abbrev S128x512 : Shape := ⟨2, ![128, 512]⟩

abbrev nBuf : Space → Nat
  | .hbm => 7
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S512x128, .bf16⟩
  | .local _ .vmem, ⟨1, _⟩ => ⟨S512x128, .bf16⟩
  | .local _ .vmem, ⟨2, _⟩ => ⟨S1x128x512, .bf16⟩
  | .local _ .vmem, ⟨3, _⟩ => ⟨S1x128x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== PoolMmRefIdeal.lean ====
abbrev S2048x2048 : Shape := ⟨2, ![2048, 2048]⟩
abbrev S4x512x512 : Shape := ⟨3, ![4, 512, 512]⟩
abbrev S1x2048 : Shape := ⟨2, ![1, 2048]⟩
abbrev S4x4x128x512 : Shape := ⟨4, ![4, 4, 128, 512]⟩
abbrev S2048x4x512 : Shape := ⟨3, ![2048, 4, 512]⟩
abbrev S4x512x2048 : Shape := ⟨3, ![4, 512, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S4x512x512, .f32⟩
  | .hbm, ⟨7, _⟩ => ⟨S4x4x128x512, .f32⟩
  | .hbm, ⟨8, _⟩ => ⟨S4x4x128x512, .f32⟩
  | .hbm, ⟨9, _⟩ => ⟨S4x512x512, .f32⟩
  | .hbm, ⟨10, _⟩ => ⟨S2048x4x512, .f32⟩
  | .hbm, ⟨11, _⟩ => ⟨S4x512x2048, .f32⟩
  | .hbm, ⟨12, _⟩ => ⟨S2048x4x512, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AdamEarly.lean ====
abbrev S2048x2048 : Shape := ⟨2, ![2048, 2048]⟩
abbrev S8x128 : Shape := ⟨2, ![8, 128]⟩
abbrev S256x2048 : Shape := ⟨2, ![256, 2048]⟩
abbrev S1536x2048 : Shape := ⟨2, ![1536, 2048]⟩

abbrev nBuf : Space → Nat
  | .hbm => 13
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S8x128, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S1536x2048, .f32⟩
  | .hbm, ⟨10, _⟩ => ⟨S1536x2048, .f32⟩
  | .hbm, ⟨11, _⟩ => ⟨S1536x2048, .f32⟩
  | .hbm, ⟨12, _⟩ => ⟨S1536x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamEarlyRefIdeal.lean ====
abbrev S2048x2048 : Shape := ⟨2, ![2048, 2048]⟩
abbrev S8x128 : Shape := ⟨2, ![8, 128]⟩
abbrev S1536x2048 : Shape := ⟨2, ![1536, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S8x128, .f32⟩
  | .hbm, ⟨5, _⟩ => ⟨S1536x2048, .f32⟩
  | .hbm, ⟨6, _⟩ => ⟨S1536x2048, .f32⟩
  | .hbm, ⟨7, _⟩ => ⟨S1536x2048, .f32⟩
  | .hbm, ⟨8, _⟩ => ⟨S1536x2048, .f32⟩
  | .hbm, ⟨9, _⟩ => ⟨S_, .f32⟩
  | .hbm, ⟨10, _⟩ => ⟨S1536x2048, .f32⟩
  | .hbm, ⟨11, _⟩ => ⟨S1536x2048, .f32⟩
  | .hbm, ⟨12, _⟩ => ⟨S_, .f32⟩
  | .hbm, ⟨13, _⟩ => ⟨S1536x2048, .f32⟩
  | .hbm, ⟨14, _⟩ => ⟨S1536x2048, .f32⟩
  | .hbm, ⟨15, _⟩ => ⟨S1536x2048, .f32⟩
  | .hbm, ⟨16, _⟩ => ⟨S_, .f32⟩
  | .hbm, ⟨17, _⟩ => ⟨S1536x2048, .f32⟩
  | .hbm, ⟨18, _⟩ => ⟨S1536x2048, .f32⟩
  | .hbm, ⟨19, _⟩ => ⟨S1536x2048, .f32⟩
  | .hbm, ⟨20, _⟩ => ⟨S_, .f32⟩
  | .hbm, ⟨21, _⟩ => ⟨S1536x2048, .f32⟩
  | .hbm, ⟨22, _⟩ => ⟨S1536x2048, .f32⟩
  | .hbm, ⟨23, _⟩ => ⟨S1536x2048, .f32⟩
  | .hbm, ⟨24, _⟩ => ⟨S_, .f32⟩
  | .hbm, ⟨25, _⟩ => ⟨S1536x2048, .f32⟩
  | .hbm, ⟨26, _⟩ => ⟨S1536x2048, .f32⟩
  | .hbm, ⟨27, _⟩ => ⟨S_, .f32⟩
  | .hbm, ⟨28, _⟩ => ⟨S1536x2048, .f32⟩
  | .hbm, ⟨29, _⟩ => ⟨S1536x2048, .f32⟩
  | .hbm, ⟨30, _⟩ => ⟨S1536x2048, .f32⟩
  | .hbm, ⟨31, _⟩ => ⟨S_, .f32⟩
  | .hbm, ⟨32, _⟩ => ⟨S1536x2048, .f32⟩
  | .hbm, ⟨33, _⟩ => ⟨S1536x2048, .f32⟩
  | .hbm, ⟨34, _⟩ => ⟨S1536x2048, .f32⟩
  | .hbm, ⟨35, _⟩ => ⟨S_, .f32⟩
  | .hbm, ⟨36, _⟩ => ⟨S1536x2048, .f32⟩
  | .hbm, ⟨37, _⟩ => ⟨S1536x2048, .f32⟩
  | .hbm, ⟨38, _⟩ => ⟨S1536x2048, .f32⟩
  | .hbm, ⟨39, _⟩ => ⟨S_, .f32⟩
  | .hbm, ⟨40, _⟩ => ⟨S1536x2048, .f32⟩
  | .hbm, ⟨41, _⟩ => ⟨S1536x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamLate.lean ====
abbrev S2048x2048 : Shape := ⟨2, ![2048, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamLateRefIdeal.lean ====
abbrev S2048x2048 : Shape := ⟨2, ![2048, 2048]⟩
abbrev S512x2048 : Shape := ⟨2, ![512, 2048]⟩
abbrev S_ : Shape := ⟨0, ![]⟩
abbrev S1536x2048 : Shape := ⟨2, ![1536, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | .hbm, ⟨45, _⟩ => ⟨S1536x2048, .f32⟩
  | .hbm, ⟨46, _⟩ => ⟨S2048x2048, .f32⟩
  | .hbm, ⟨47, _⟩ => ⟨S1536x2048, .f32⟩
  | .hbm, ⟨48, _⟩ => ⟨S2048x2048, .f32⟩
  | .hbm, ⟨49, _⟩ => ⟨S1536x2048, .f32⟩
  | .hbm, ⟨50, _⟩ => ⟨S2048x2048, .f32⟩
  | .hbm, ⟨51, _⟩ => ⟨S1536x2048, .f32⟩
  | .hbm, ⟨52, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Proof.ConvKernel.lean ====
module

public import proofs.«01_k».proof.Proof.Gen.ConvBwdIdeal.Frame
public import Idealize.ShloMosaic.Lib.Pipeline.ValueKit
public import Idealize.ShloMosaic.Lib.Pointwise

/-! The kernel of the convolution's gradient, one tile of 256 rows: what its body stores, read at an index. -/

@[expose] public section

set_option maxRecDepth 16384

noncomputable section

namespace Cert.ConvBwdIdeal.Tile

open Cert.ConvBwdIdeal Cert.ConvBwdIdeal.Gen Idealize.ShloMosaic Idealize.ShloMosaic.TcCoe Idealize.SL.Sem
open Idealize.ShloMosaic.Pipeline (Dat)

/-- A row read through a rotation by `s` of the 288 rows, when the read does not wrap around. -/
theorem rot (r : Fin 256) (s : ℕ) (h : 258 ≤ s) (h' : s ≤ 288) : (r.val + 288 - s) % 288 = r.val + (288 - s) := by omega

/-- The tile's rows followed by the 32 rows after it, which count as zero in the last tile. -/
theorem pay1_apply (i : grid0.Coords) (v2 : Vec Ideal S256x1024 .f32) (v3 : Vec Ideal S32x1024 .f32) (r : Fin 288) (l : Fin 1024) :
    k0_pay1 i v2 v3 (ix2 r l) = if h : r.val < 256 then v2 (ix2 ⟨r.val, h⟩ l)
      else if (i 0).val < 7 then v3 (ix2 ⟨r.val - 256, by omega⟩ l) else 0 := by
  pointwise [k0_pay1]
  congr 1
  funext _
  fin_vals (i 0) with hk <;> (rw [hk]; rfl)

theorem pay2_apply (i : grid0.Coords) (v2 : Vec Ideal S256x1024 .f32) (v3 : Vec Ideal S32x1024 .f32) (a b c : Vec Ideal S1x1024 .f32)
    (r : Fin 256) (l : Fin 1024) :
    k0_pay2 i v2 v3 a b c (ix2 r l)
      = k0_pay1 i v2 v3 (ix2 ⟨r.val + 30, by omega⟩ l) * a (ix2 0 l) + k0_pay1 i v2 v3 (ix2 ⟨r.val + 29, by omega⟩ l) * b (ix2 0 l)
        + k0_pay1 i v2 v3 (ix2 ⟨r.val + 28, by omega⟩ l) * c (ix2 0 l) := by
  pointwise [k0_pay2]
  simp (disch := omega) only [rot]

theorem pay3_apply (i : grid0.Coords) (v2 : Vec Ideal S256x1024 .f32) (v3 : Vec Ideal S32x1024 .f32) (a : Vec Ideal S1x1024 .f32)
    (r : Fin 256) (l : Fin 1024) :
    k0_pay3 i v2 v3 a (ix2 r l) = k0_pay1 i v2 v3 (ix2 ⟨r.val + 27, by omega⟩ l) * a (ix2 0 l) := by
  pointwise [k0_pay3]
  simp (disch := omega) only [rot]

theorem pay4_apply (v7 : FVec Ideal S288x1024 .f32) (s p : FVec Ideal S256x1024 .f32) (a b c d e : Vec Ideal S1x1024 .f32)
    (r : Fin 256) (l : Fin 1024) :
    k0_pay4 v7 s p a b c d e (ix2 r l)
      = s (ix2 r l) + p (ix2 r l) + v7 (ix2 ⟨r.val + 26, by omega⟩ l) * a (ix2 0 l) + v7 (ix2 ⟨r.val + 25, by omega⟩ l) * b (ix2 0 l) + v7 (ix2 ⟨r.val + 24, by omega⟩ l) * c (ix2 0 l) + v7 (ix2 ⟨r.val + 23, by omega⟩ l) * d (ix2 0 l) + v7 (ix2 ⟨r.val + 22, by omega⟩ l) * e (ix2 0 l) := by
  pointwise [k0_pay4]
  simp (disch := omega) only [rot]

theorem pay6_apply (v7 : FVec Ideal S288x1024 .f32) (s p : FVec Ideal S256x1024 .f32) (a b c d e : Vec Ideal S1x1024 .f32)
    (r : Fin 256) (l : Fin 1024) :
    k0_pay6 v7 s p a b c d e (ix2 r l)
      = s (ix2 r l) + p (ix2 r l) + v7 (ix2 ⟨r.val + 20, by omega⟩ l) * a (ix2 0 l) + v7 (ix2 ⟨r.val + 19, by omega⟩ l) * b (ix2 0 l) + v7 (ix2 ⟨r.val + 18, by omega⟩ l) * c (ix2 0 l) + v7 (ix2 ⟨r.val + 17, by omega⟩ l) * d (ix2 0 l) + v7 (ix2 ⟨r.val + 16, by omega⟩ l) * e (ix2 0 l) := by
  pointwise [k0_pay6]
  simp (disch := omega) only [rot]

theorem pay8_apply (v7 : FVec Ideal S288x1024 .f32) (s p : FVec Ideal S256x1024 .f32) (a b c d e : Vec Ideal S1x1024 .f32)
    (r : Fin 256) (l : Fin 1024) :
    k0_pay8 v7 s p a b c d e (ix2 r l)
      = s (ix2 r l) + p (ix2 r l) + v7 (ix2 ⟨r.val + 14, by omega⟩ l) * a (ix2 0 l) + v7 (ix2 ⟨r.val + 13, by omega⟩ l) * b (ix2 0 l) + v7 (ix2 ⟨r.val + 12, by omega⟩ l) * c (ix2 0 l) + v7 (ix2 ⟨r.val + 11, by omega⟩ l) * d (ix2 0 l) + v7 (ix2 ⟨r.val + 10, by omega⟩ l) * e (ix2 0 l) := by
  pointwise [k0_pay8]
  simp (disch := omega) only [rot]

theorem pay10_apply (v7 : FVec Ideal S288x1024 .f32) (s p : FVec Ideal S256x1024 .f32) (a b c d e : Vec Ideal S1x1024 .f32)
    (r : Fin 256) (l : Fin 1024) :
    k0_pay10 v7 s p a b c d e (ix2 r l)
      = s (ix2 r l) + p (ix2 r l) + v7 (ix2 ⟨r.val + 8, by omega⟩ l) * a (ix2 0 l) + v7 (ix2 ⟨r.val + 7, by omega⟩ l) * b (ix2 0 l) + v7 (ix2 ⟨r.val + 6, by omega⟩ l) * c (ix2 0 l) + v7 (ix2 ⟨r.val + 5, by omega⟩ l) * d (ix2 0 l) + v7 (ix2 ⟨r.val + 4, by omega⟩ l) * e (ix2 0 l) := by
  pointwise [k0_pay10]
  simp (disch := omega) only [rot]

theorem pay5_apply (v7 : FVec Ideal S288x1024 .f32) (a : Vec Ideal S1x1024 .f32) (r : Fin 256) (l : Fin 1024) :
    k0_pay5 v7 a (ix2 r l) = v7 (ix2 ⟨r.val + 21, by omega⟩ l) * a (ix2 0 l) := by
  pointwise [k0_pay5]
  simp (disch := omega) only [rot]

theorem pay7_apply (v7 : FVec Ideal S288x1024 .f32) (a : Vec Ideal S1x1024 .f32) (r : Fin 256) (l : Fin 1024) :
    k0_pay7 v7 a (ix2 r l) = v7 (ix2 ⟨r.val + 15, by omega⟩ l) * a (ix2 0 l) := by
  pointwise [k0_pay7]
  simp (disch := omega) only [rot]

theorem pay9_apply (v7 : FVec Ideal S288x1024 .f32) (a : Vec Ideal S1x1024 .f32) (r : Fin 256) (l : Fin 1024) :
    k0_pay9 v7 a (ix2 r l) = v7 (ix2 ⟨r.val + 9, by omega⟩ l) * a (ix2 0 l) := by
  pointwise [k0_pay9]
  simp (disch := omega) only [rot]

theorem pay11_apply (v7 : FVec Ideal S288x1024 .f32) (a : Vec Ideal S1x1024 .f32) (r : Fin 256) (l : Fin 1024) :
    k0_pay11 v7 a (ix2 r l) = v7 (ix2 ⟨r.val + 3, by omega⟩ l) * a (ix2 0 l) := by
  pointwise [k0_pay11]
  simp (disch := omega) only [rot]

/-- One tap at row `r` of the tile: row `r + 30 - k` of the extended tile times weight `k`. -/
def tap (v7 : FVec Ideal S288x1024 .f32) (x4 : Vec Ideal S32x1024 .f32) (r : Fin 256) (l : Fin 1024) (k : ℕ) : EReal :=
  if h : k < 31 then v7 (ix2 ⟨r.val + (30 - k), by omega⟩ l) * x4 (ix2 ⟨k, by omega⟩ l) else 0

/-- The gradient of the gated input at row `r` of the tile: the sum over the taps. -/
def dh (v7 : FVec Ideal S288x1024 .f32) (x4 : Vec Ideal S32x1024 .f32) (r : Fin 256) (l : Fin 1024) : EReal :=
  ∑ k ∈ Finset.range 31, tap v7 x4 r l k

/-- The gradient of the projected row `r` of the tile, from the gradient `q` of its gated input. -/
def dz (x0 : Vec Ideal S256x4096 .f32) (x1 : Vec Ideal S256x2048 .f32) (q : Fin 1024 → EReal) (r : Fin 256) (l : Fin 4096) : EReal :=
  if h : l.val < 2048 then x1 (ix2 r ⟨l.val, h⟩)
  else if h : l.val - 2048 < 1024 then
    q ⟨l.val - 2048, h⟩ * Ideal.logistic (x0 (ix2 r ⟨3072 + (l.val - 2048), by omega⟩))
  else
    x0 (ix2 r ⟨2048 + (l.val - 2048 - 1024), by omega⟩) * q ⟨l.val - 2048 - 1024, by omega⟩
      * (Ideal.logistic (x0 (ix2 r ⟨3072 + (l.val - 2048 - 1024), by omega⟩))
        * (1 - Ideal.logistic (x0 (ix2 r ⟨3072 + (l.val - 2048 - 1024), by omega⟩))))

/-- The chain of the body's products and sums is the sum over the taps. -/
theorem dh_apply (i : grid0.Coords) (x2 : Vec Ideal S256x1024 .f32) (x3 x4 : Vec Ideal S32x1024 .f32) (r : Fin 256) (l : Fin 1024) :
    (k0_pay10 (k0_pay1 i x2 x3) (k0_pay8 (k0_pay1 i x2 x3) (k0_pay6 (k0_pay1 i x2 x3) (k0_pay4 (k0_pay1 i x2 x3) (k0_pay2 i x2 x3 (View.ld x4 (Rect.unit ![0, 0] ![1, 1024] inb_S32x1024_S1x1024_0_0)) (View.ld x4 (Rect.unit ![1, 0] ![1, 1024] inb_S32x1024_S1x1024_1_0)) (View.ld x4 (Rect.unit ![2, 0] ![1, 1024] inb_S32x1024_S1x1024_2_0))) (k0_pay3 i x2 x3 (View.ld x4 (Rect.unit ![3, 0] ![1, 1024] inb_S32x1024_S1x1024_3_0)))
        (View.ld x4 (Rect.unit ![4, 0] ![1, 1024] inb_S32x1024_S1x1024_4_0)) (View.ld x4 (Rect.unit ![5, 0] ![1, 1024] inb_S32x1024_S1x1024_5_0)) (View.ld x4 (Rect.unit ![6, 0] ![1, 1024] inb_S32x1024_S1x1024_6_0)) (View.ld x4 (Rect.unit ![7, 0] ![1, 1024] inb_S32x1024_S1x1024_7_0)) (View.ld x4 (Rect.unit ![8, 0] ![1, 1024] inb_S32x1024_S1x1024_8_0))) (k0_pay5 (k0_pay1 i x2 x3) (View.ld x4 (Rect.unit ![9, 0] ![1, 1024] inb_S32x1024_S1x1024_9_0)))
        (View.ld x4 (Rect.unit ![10, 0] ![1, 1024] inb_S32x1024_S1x1024_10_0)) (View.ld x4 (Rect.unit ![11, 0] ![1, 1024] inb_S32x1024_S1x1024_11_0)) (View.ld x4 (Rect.unit ![12, 0] ![1, 1024] inb_S32x1024_S1x1024_12_0)) (View.ld x4 (Rect.unit ![13, 0] ![1, 1024] inb_S32x1024_S1x1024_13_0)) (View.ld x4 (Rect.unit ![14, 0] ![1, 1024] inb_S32x1024_S1x1024_14_0))) (k0_pay7 (k0_pay1 i x2 x3) (View.ld x4 (Rect.unit ![15, 0] ![1, 1024] inb_S32x1024_S1x1024_15_0)))
        (View.ld x4 (Rect.unit ![16, 0] ![1, 1024] inb_S32x1024_S1x1024_16_0)) (View.ld x4 (Rect.unit ![17, 0] ![1, 1024] inb_S32x1024_S1x1024_17_0)) (View.ld x4 (Rect.unit ![18, 0] ![1, 1024] inb_S32x1024_S1x1024_18_0)) (View.ld x4 (Rect.unit ![19, 0] ![1, 1024] inb_S32x1024_S1x1024_19_0)) (View.ld x4 (Rect.unit ![20, 0] ![1, 1024] inb_S32x1024_S1x1024_20_0))) (k0_pay9 (k0_pay1 i x2 x3) (View.ld x4 (Rect.unit ![21, 0] ![1, 1024] inb_S32x1024_S1x1024_21_0)))
        (View.ld x4 (Rect.unit ![22, 0] ![1, 1024] inb_S32x1024_S1x1024_22_0)) (View.ld x4 (Rect.unit ![23, 0] ![1, 1024] inb_S32x1024_S1x1024_23_0)) (View.ld x4 (Rect.unit ![24, 0] ![1, 1024] inb_S32x1024_S1x1024_24_0)) (View.ld x4 (Rect.unit ![25, 0] ![1, 1024] inb_S32x1024_S1x1024_25_0)) (View.ld x4 (Rect.unit ![26, 0] ![1, 1024] inb_S32x1024_S1x1024_26_0))) (ix2 r l) + k0_pay11 (k0_pay1 i x2 x3) (View.ld x4 (Rect.unit ![27, 0] ![1, 1024] inb_S32x1024_S1x1024_27_0)) (ix2 r l)
      + (k0_pay1 i x2 x3) (ix2 ⟨r.val + 2, by omega⟩ l) * (View.ld x4 (Rect.unit ![28, 0] ![1, 1024] inb_S32x1024_S1x1024_28_0)) (ix2 0 l)
      + (k0_pay1 i x2 x3) (ix2 ⟨r.val + 1, by omega⟩ l) * (View.ld x4 (Rect.unit ![29, 0] ![1, 1024] inb_S32x1024_S1x1024_29_0)) (ix2 0 l)
      + (k0_pay1 i x2 x3) (ix2 ⟨r.val, by omega⟩ l) * (View.ld x4 (Rect.unit ![30, 0] ![1, 1024] inb_S32x1024_S1x1024_30_0)) (ix2 0 l) = dh (k0_pay1 i x2 x3) x4 r l := by
  simp (disch := omega) only [pay2_apply, pay3_apply, pay4_apply, pay5_apply, pay6_apply, pay7_apply, pay8_apply, pay9_apply,
    pay10_apply, pay11_apply]
  simp only [dh, tap, Finset.sum_range_succ, Finset.sum_range_zero, Nat.reduceLT, ↓reduceDIte, Nat.reduceSub, Nat.add_zero, zero_add]
  pointwise

theorem pay12_apply (x0 : Vec Ideal S256x4096 .f32) (x1 : Vec Ideal S256x2048 .f32) (v7 : FVec Ideal S288x1024 .f32)
    (s p : FVec Ideal S256x1024 .f32) (a b c : Vec Ideal S1x1024 .f32) (r : Fin 256) (l : Fin 4096) (q : Fin 1024 → EReal)
    (hq : ∀ l, s (ix2 r l) + p (ix2 r l) + v7 (ix2 ⟨r.val + 2, by omega⟩ l) * a (ix2 0 l)
      + v7 (ix2 ⟨r.val + 1, by omega⟩ l) * b (ix2 0 l) + v7 (ix2 ⟨r.val, by omega⟩ l) * c (ix2 0 l) = q l) :
    k0_pay12 x0 x1 v7 s p a b c (ix2 r l) = dz x0 x1 q r l := by
  pointwise [k0_pay12]
  simp (disch := omega) only [rot]
  simp only [Nat.reduceSub, hq]
  rfl

/-- The gradient rows that the body stores are those of `dz`. -/
theorem rows_apply (i : grid0.Coords) (x0 : Vec Ideal S256x4096 .f32) (x1 : Vec Ideal S256x2048 .f32) (x2 : Vec Ideal S256x1024 .f32)
    (x3 x4 : Vec Ideal S32x1024 .f32) (r : Fin 256) (l : Fin 4096) :
    k0_pay12 x0 x1 (k0_pay1 i x2 x3) (k0_pay10 (k0_pay1 i x2 x3) (k0_pay8 (k0_pay1 i x2 x3) (k0_pay6 (k0_pay1 i x2 x3) (k0_pay4 (k0_pay1 i x2 x3) (k0_pay2 i x2 x3 (View.ld x4 (Rect.unit ![0, 0] ![1, 1024] inb_S32x1024_S1x1024_0_0)) (View.ld x4 (Rect.unit ![1, 0] ![1, 1024] inb_S32x1024_S1x1024_1_0)) (View.ld x4 (Rect.unit ![2, 0] ![1, 1024] inb_S32x1024_S1x1024_2_0))) (k0_pay3 i x2 x3 (View.ld x4 (Rect.unit ![3, 0] ![1, 1024] inb_S32x1024_S1x1024_3_0)))
        (View.ld x4 (Rect.unit ![4, 0] ![1, 1024] inb_S32x1024_S1x1024_4_0)) (View.ld x4 (Rect.unit ![5, 0] ![1, 1024] inb_S32x1024_S1x1024_5_0)) (View.ld x4 (Rect.unit ![6, 0] ![1, 1024] inb_S32x1024_S1x1024_6_0)) (View.ld x4 (Rect.unit ![7, 0] ![1, 1024] inb_S32x1024_S1x1024_7_0)) (View.ld x4 (Rect.unit ![8, 0] ![1, 1024] inb_S32x1024_S1x1024_8_0))) (k0_pay5 (k0_pay1 i x2 x3) (View.ld x4 (Rect.unit ![9, 0] ![1, 1024] inb_S32x1024_S1x1024_9_0)))
        (View.ld x4 (Rect.unit ![10, 0] ![1, 1024] inb_S32x1024_S1x1024_10_0)) (View.ld x4 (Rect.unit ![11, 0] ![1, 1024] inb_S32x1024_S1x1024_11_0)) (View.ld x4 (Rect.unit ![12, 0] ![1, 1024] inb_S32x1024_S1x1024_12_0)) (View.ld x4 (Rect.unit ![13, 0] ![1, 1024] inb_S32x1024_S1x1024_13_0)) (View.ld x4 (Rect.unit ![14, 0] ![1, 1024] inb_S32x1024_S1x1024_14_0))) (k0_pay7 (k0_pay1 i x2 x3) (View.ld x4 (Rect.unit ![15, 0] ![1, 1024] inb_S32x1024_S1x1024_15_0)))
        (View.ld x4 (Rect.unit ![16, 0] ![1, 1024] inb_S32x1024_S1x1024_16_0)) (View.ld x4 (Rect.unit ![17, 0] ![1, 1024] inb_S32x1024_S1x1024_17_0)) (View.ld x4 (Rect.unit ![18, 0] ![1, 1024] inb_S32x1024_S1x1024_18_0)) (View.ld x4 (Rect.unit ![19, 0] ![1, 1024] inb_S32x1024_S1x1024_19_0)) (View.ld x4 (Rect.unit ![20, 0] ![1, 1024] inb_S32x1024_S1x1024_20_0))) (k0_pay9 (k0_pay1 i x2 x3) (View.ld x4 (Rect.unit ![21, 0] ![1, 1024] inb_S32x1024_S1x1024_21_0)))
        (View.ld x4 (Rect.unit ![22, 0] ![1, 1024] inb_S32x1024_S1x1024_22_0)) (View.ld x4 (Rect.unit ![23, 0] ![1, 1024] inb_S32x1024_S1x1024_23_0)) (View.ld x4 (Rect.unit ![24, 0] ![1, 1024] inb_S32x1024_S1x1024_24_0)) (View.ld x4 (Rect.unit ![25, 0] ![1, 1024] inb_S32x1024_S1x1024_25_0)) (View.ld x4 (Rect.unit ![26, 0] ![1, 1024] inb_S32x1024_S1x1024_26_0))) (k0_pay11 (k0_pay1 i x2 x3) (View.ld x4 (Rect.unit ![27, 0] ![1, 1024] inb_S32x1024_S1x1024_27_0))) (View.ld x4 (Rect.unit ![28, 0] ![1, 1024] inb_S32x1024_S1x1024_28_0)) (View.ld x4 (Rect.unit ![29, 0] ![1, 1024] inb_S32x1024_S1x1024_29_0)) (View.ld x4 (Rect.unit ![30, 0] ![1, 1024] inb_S32x1024_S1x1024_30_0)) (ix2 r l) = dz x0 x1 (dh (k0_pay1 i x2 x3) x4 r) r l :=
  pay12_apply x0 x1 _ _ _ _ _ _ r l _ fun l => dh_apply i x2 x3 x4 r l

end Cert.ConvBwdIdeal.Tile

end
-- ==== Proof.ConvReference.lean ====
module

public import proofs.«01_k».proof.Proof.Gen.ConvRefIdeal.Read
public import Idealize.ShloMosaic.Lib.Pointwise

/-! The reference of the convolution's gradient, read at an index: the gradient of the gated input is a sum of 31 shifted
    products, and the gradient of the projected row is its concatenation with the gate's two factors. -/

@[expose] public section

set_option maxRecDepth 16384

noncomputable section

namespace Cert.ConvRefIdeal.Spec

open Cert.ConvRefIdeal Cert.ConvRefIdeal.Read Cert.ConvRefIdeal.Gen Idealize.ShloMosaic Idealize.ShloMosaic.TcCoe Idealize.SL.Sem

/-- One tap of the transposed convolution at padded row `R`: the output gradient at row `R - k` times weight `k`, and zero
    where that row does not exist. -/
def tap (x2 : FVec Ideal S2048x1024 .f32) (x3 : FVec Ideal S31x1x1024 .f32) (R : ℕ) (l : Fin 1024) (k : ℕ) : EReal :=
  if h : k < 31 ∧ k ≤ R ∧ R - k < 2048 then x2 (ix2 ⟨R - k, h.2.2⟩ l) * x3 (ix3 ⟨k, h.1⟩ 0 l) else 0

/-- The gradient of the gated input at padded row `R`: the sum over the taps. -/
def dh (x2 : FVec Ideal S2048x1024 .f32) (x3 : FVec Ideal S31x1x1024 .f32) (R : ℕ) (l : Fin 1024) : EReal :=
  ∑ k ∈ Finset.range 31, tap x2 x3 R l k

set_option maxHeartbeats 4000000 in
/-- The reference adds the taps from the last to the first. -/
theorem dh_apply (x2 : FVec Ideal S2048x1024 .f32) (x3 : FVec Ideal S31x1x1024 .f32) (R : Fin 2078) (l : Fin 1024) :
    val_main_v331 (F := Ideal) x2 x3 (ix2 R l) = dh x2 x3 R.val l := by
  rw [dh, ← Finset.sum_range_reflect]
  pointwise [val_main_v331, val_main_v327, val_main_v323, val_main_v319, val_main_v315, val_main_v311, val_main_v307,
    val_main_v303, val_main_v299, val_main_v295, val_main_v291, val_main_v287, val_main_v283, val_main_v279,
    val_main_v275, val_main_v271, val_main_v267, val_main_v263, val_main_v259, val_main_v255, val_main_v251,
    val_main_v247, val_main_v243, val_main_v239, val_main_v235, val_main_v231, val_main_v227, val_main_v223,
    val_main_v219, val_main_v215, val_main_v211, val_main_v210, val_main_v208, val_main_v209, val_main_v201,
    val_main_v200, val_main_cst_7, val_main_v214, val_main_v213, val_main_v207, val_main_v212, val_main_v195,
    val_main_v194, val_main_cst_8, val_main_v218, val_main_v217, val_main_v216, val_main_v189, val_main_v188,
    val_main_cst_9, val_main_v222, val_main_v221, val_main_v220, val_main_v183, val_main_v182, val_main_cst_10,
    val_main_v226, val_main_v225, val_main_v224, val_main_v177, val_main_v176, val_main_cst_11, val_main_v230,
    val_main_v229, val_main_v228, val_main_v171, val_main_v170, val_main_cst_12, val_main_v234, val_main_v233,
    val_main_v232, val_main_v165, val_main_v164, val_main_cst_13, val_main_v238, val_main_v237, val_main_v236,
    val_main_v159, val_main_v158, val_main_cst_14, val_main_v242, val_main_v241, val_main_v240, val_main_v153,
    val_main_v152, val_main_cst_15, val_main_v246, val_main_v245, val_main_v244, val_main_v147, val_main_v146,
    val_main_cst_16, val_main_v250, val_main_v249, val_main_v248, val_main_v141, val_main_v140, val_main_cst_17,
    val_main_v254, val_main_v253, val_main_v252, val_main_v135, val_main_v134, val_main_cst_18, val_main_v258,
    val_main_v257, val_main_v256, val_main_v129, val_main_v128, val_main_cst_19, val_main_v262, val_main_v261,
    val_main_v260, val_main_v123, val_main_v122, val_main_cst_20, val_main_v266, val_main_v265, val_main_v264,
    val_main_v117, val_main_v116, val_main_cst_21, val_main_v270, val_main_v269, val_main_v268, val_main_v111,
    val_main_v110, val_main_cst_22, val_main_v274, val_main_v273, val_main_v272, val_main_v105, val_main_v104,
    val_main_cst_23, val_main_v278, val_main_v277, val_main_v276, val_main_v99, val_main_v98, val_main_cst_24,
    val_main_v282, val_main_v281, val_main_v280, val_main_v93, val_main_v92, val_main_cst_25, val_main_v286,
    val_main_v285, val_main_v284, val_main_v87, val_main_v86, val_main_cst_26, val_main_v290, val_main_v289,
    val_main_v288, val_main_v81, val_main_v80, val_main_cst_27, val_main_v294, val_main_v293, val_main_v292,
    val_main_v75, val_main_v74, val_main_cst_28, val_main_v298, val_main_v297, val_main_v296, val_main_v69,
    val_main_v68, val_main_cst_29, val_main_v302, val_main_v301, val_main_v300, val_main_v63, val_main_v62,
    val_main_cst_30, val_main_v306, val_main_v305, val_main_v304, val_main_v57, val_main_v56, val_main_cst_31,
    val_main_v310, val_main_v309, val_main_v308, val_main_v51, val_main_v50, val_main_cst_32, val_main_v314,
    val_main_v313, val_main_v312, val_main_v45, val_main_v44, val_main_cst_33, val_main_v318, val_main_v317,
    val_main_v316, val_main_v39, val_main_v38, val_main_cst_34, val_main_v322, val_main_v321, val_main_v320,
    val_main_v33, val_main_v32, val_main_cst_35, val_main_v326, val_main_v325, val_main_v324, val_main_v27,
    val_main_v26, val_main_cst_36, val_main_v330, val_main_v329, val_main_v328, val_main_v20, val_main_v19,
    val_main_cst_37]
  simp [Finset.sum_range_succ, tap]

/-- The gradient of the projected row `R` at column `l`: the first half is passed through, the last two quarters are the
    gradient of the gated input times the gate's partial derivatives. -/
def dz (x0 : FVec Ideal S2048x4096 .f32) (x1 : FVec Ideal S2048x2048 .f32) (x2 : FVec Ideal S2048x1024 .f32)
    (x3 : FVec Ideal S31x1x1024 .f32) (R : Fin 2048) (l : Fin 4096) : EReal :=
  if h : l.val < 2048 then x1 (ix2 R ⟨l.val, h⟩)
  else if h : l.val - 2048 < 1024 then
    dh x2 x3 (30 + R.val) ⟨l.val - 2048, h⟩ * Ideal.logistic (x0 (ix2 R ⟨3072 + (l.val - 2048), by omega⟩))
  else
    x0 (ix2 R ⟨2048 + (l.val - 3072), by omega⟩) * dh x2 x3 (30 + R.val) ⟨l.val - 3072, by omega⟩
      * (Ideal.logistic (x0 (ix2 R l)) * (1 - Ideal.logistic (x0 (ix2 R l))))

theorem dz_apply (x0 : FVec Ideal S2048x4096 .f32) (x1 : FVec Ideal S2048x2048 .f32) (x2 : FVec Ideal S2048x1024 .f32)
    (x3 : FVec Ideal S31x1x1024 .f32) (R : Fin 2048) (l : Fin 4096) :
    val_main_v340 (F := Ideal) x0 x1 x2 x3 (ix2 R l) = dz x0 x1 x2 x3 R l := by
  pointwise [val_main_v340, val_main_v338, val_main_v339, val_main_v337, val_main_v336, val_main_v335, val_main_v334, val_main_v333, val_main_v206, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_6, val_main_cst_38, val_main_cst_39]
  simp only [dh_apply]
  unfold dz Ideal.logistic
  rcases lt_or_ge l.val 2048 with h | h
  · have n1 : ¬(3072 ≤ l.val ∧ l.val - 3072 < 1024) := by omega
    have n2 : ¬(2048 ≤ l.val ∧ l.val - 2048 < 1024) := by omega
    rw [dif_pos h, dif_pos h, dif_neg n1, dif_neg n2, add_zero, add_zero]
  have n0 : ¬l.val < 2048 := by omega
  rcases lt_or_ge l.val 3072 with h' | h'
  · have n1 : ¬(3072 ≤ l.val ∧ l.val - 3072 < 1024) := by omega
    have n2 : 2048 ≤ l.val ∧ l.val - 2048 < 1024 := by omega
    rw [dif_neg n0, dif_neg n0, dif_neg n1, dif_pos n2, dif_pos n2.2, add_zero, zero_add]
  · have n1 : 3072 ≤ l.val ∧ l.val - 3072 < 1024 := by omega
    have n2 : ¬(2048 ≤ l.val ∧ l.val - 2048 < 1024) := by omega
    have n3 : ¬l.val - 2048 < 1024 := by omega
    have e : 3072 + (l.val - 3072) = l.val := by omega
    rw [dif_neg n0, dif_neg n0, dif_pos n1, dif_neg n2, dif_neg n3, add_zero, zero_add]
    simp only [e]

/-- The gradient of the projection's offset is the column sum of the gradient of the projected rows. -/
theorem db_apply (x0 : FVec Ideal S2048x4096 .f32) (x1 : FVec Ideal S2048x2048 .f32) (x2 : FVec Ideal S2048x1024 .f32)
    (x3 : FVec Ideal S31x1x1024 .f32) (l : Fin 4096) :
    val_main_v342 (F := Ideal) x0 x1 x2 x3 (ix2 0 l) = ∑ R : Fin 2048, dz x0 x1 x2 x3 R l := by
  pointwise [val_main_v342, val_main_v341, val_main_cst_40]
  exact Finset.sum_congr rfl fun R _ => dz_apply x0 x1 x2 x3 R l

/-- The first result: the gradient of the projection. -/
def rows (x0 : FVec Ideal S2048x4096 .f32) (x1 : FVec Ideal S2048x2048 .f32) (x2 : FVec Ideal S2048x1024 .f32)
    (x3 : FVec Ideal S31x1x1024 .f32) : FVec Ideal S2048x4096 .bf16 := fun i => dz x0 x1 x2 x3 (i 0) (i 1)

/-- The second result: the gradient of the bias. -/
def sums (x0 : FVec Ideal S2048x4096 .f32) (x1 : FVec Ideal S2048x2048 .f32) (x2 : FVec Ideal S2048x1024 .f32)
    (x3 : FVec Ideal S31x1x1024 .f32) : FVec Ideal S1x4096 .f32 := fun i => ∑ R : Fin 2048, dz x0 x1 x2 x3 R (i 1)

theorem rows_eq (x0 : FVec Ideal S2048x4096 .f32) (x1 : FVec Ideal S2048x2048 .f32) (x2 : FVec Ideal S2048x1024 .f32)
    (x3 : FVec Ideal S31x1x1024 .f32) : val_main_v343 (F := Ideal) x0 x1 x2 x3 = rows x0 x1 x2 x3 := by
  funext i
  rw [eq_ix2 i]
  exact dz_apply _ _ _ _ _ _

theorem sums_eq (x0 : FVec Ideal S2048x4096 .f32) (x1 : FVec Ideal S2048x2048 .f32) (x2 : FVec Ideal S2048x1024 .f32)
    (x3 : FVec Ideal S31x1x1024 .f32) : val_main_v342 (F := Ideal) x0 x1 x2 x3 = sums x0 x1 x2 x3 := by
  funext i
  have hi : i = ix2 (0 : Fin 1) (i 1 : Fin 4096) := by
    refine (eq_ix2 _).trans ?_
    have h0 : (⟨(i 0).val, (i 0).isLt⟩ : Fin 1) = 0 := Subsingleton.elim _ _
    exact congrArg (fun q => ix2 q (i 1 : Fin 4096)) h0
  rw [hi]
  exact db_apply _ _ _ _ _

end Cert.ConvRefIdeal.Spec

end
-- ==== Proof.ConvValue.lean ====
module

public import proofs.«01_k».proof.Proof.ConvKernel
public import proofs.«01_k».proof.Proof.ConvReference
public import proofs.«01_k».proof.Proof.Gen.ConvBwdIdeal.Value
public import Idealize.ShloMosaic.Lib.StableHlo.ReadAt

@[expose] public section

set_option maxRecDepth 16384

noncomputable section

namespace Cert.ConvBwdIdeal.Tile

open Cert.ConvBwdIdeal Cert.ConvBwdIdeal.Gen Idealize.ShloMosaic Idealize.ShloMosaic.TcCoe Idealize.SL.Sem
open Idealize.ShloMosaic.Pipeline (Dat)

variable (m : (ℓ : Loc nD τ sig) → Buf (Elt Ideal) ℓ)

theorem index_all : ∀ t : Fin grid0.N, win0_0.index t = ![t.val, 0] ∧ win0_1.index t = ![t.val, 0] ∧ win0_2.index t = ![t.val, 0]
    ∧ win0_3.index t = ![min ((t.val + 1) * 8) 63, 0] ∧ win0_4.index t = ![0, 0] ∧ win0_5.index t = ![t.val, 0] ∧ (grid0.coords t 0).val = t.val := by
  decide +kernel

/-- The gradient of row `r` of tile `t` at column `l`, from the tile's blocks. -/
def dzT (c : Dev nD) (t : Fin cfg0.N) (r : Fin 256) (l : Fin 4096) : EReal :=
  dz (iblk m c 0 t) (iblk m c 1 t) (dh (k0_pay1 (grid0.coords t) (iblk m c 2 t) (iblk m c 3 t)) (iblk m c 4 t) r) r l

/-- What the body leaves in the first output's buffer. -/
theorem outs_rows (c : Dev nD) (t : Fin cfg0.N) (r : Fin 256) (l : Fin 4096) :
    (outsAt0 m c t.val t.isLt).1 (ix2 r l) = dzT m c t r l := by
  have ht : t.val < 8 := t.isLt
  rcases Nat.eq_zero_or_pos t.val with h | h
  · rw [outsAt0_A m c t (by omega) (by omega)]
    frame_out
    exact rows_apply _ _ _ _ _ _ r l
  · rw [outsAt0_B m c t (by omega) (by omega)]
    frame_out
    exact rows_apply _ _ _ _ _ _ r l

/-- The second output's buffer after the first tile: the tile's column sums. -/
theorem outs_sum_first (c : Dev nD) (t : Fin cfg0.N) (h : t.val % 8 = 0) (l : Fin 4096) :
    (outsAt0 m c t.val t.isLt).2 (ix2 0 l) = ∑ r : Fin 256, dzT m c t r l := by
  have ht : t.val < 8 := t.isLt
  rw [outsAt0_A m c t h (by omega)]
  frame_out
  pointwise [k0_pay13]
  exact Finset.sum_congr rfl fun r _ => rows_apply _ _ _ _ _ _ r l

/-- The second output's buffer after a later tile: what it held before, and the tile's column sums. -/
theorem outs_sum_next (c : Dev nD) (t : Fin cfg0.N) (h : ¬t.val % 8 = 0) (l : Fin 4096) :
    (outsAt0 m c t.val t.isLt).2 (ix2 0 l)
      = (outsAt0 m c (t.val - 1) (Nat.lt_of_le_of_lt (Nat.sub_le _ _) t.isLt)).2 (ix2 0 l) + ∑ r : Fin 256, dzT m c t r l := by
  have ht : t.val < 8 := t.isLt
  rw [outsAt0_B m c t h (by omega)]
  frame_out
  pointwise [k0_pay15, k0_pay13]
  exact congrArg _ (Finset.sum_congr rfl fun r _ => rows_apply _ _ _ _ _ _ r l)

theorem blk0 (c : Dev nD) (t : Fin cfg0.N) (r : Fin 256) (l : Fin 4096) :
    iblk m c 0 t (ix2 r l) = m ((c : Thread nD τ).loc main_arg0) (ix2 (⟨t.val * 256 + r.val, by have : t.val < 8 := t.isLt; omega⟩ : Fin 2048) l) := by
  blk_ext [iblk, V, index_all t]

theorem blk1 (c : Dev nD) (t : Fin cfg0.N) (r : Fin 256) (l : Fin 2048) :
    iblk m c 1 t (ix2 r l) = m ((c : Thread nD τ).loc main_arg1) (ix2 (⟨t.val * 256 + r.val, by have : t.val < 8 := t.isLt; omega⟩ : Fin 2048) l) := by
  blk_ext [iblk, V, index_all t]

theorem blk2 (c : Dev nD) (t : Fin cfg0.N) (r : Fin 256) (l : Fin 1024) :
    iblk m c 2 t (ix2 r l) = m ((c : Thread nD τ).loc main_arg2) (ix2 (⟨t.val * 256 + r.val, by have : t.val < 8 := t.isLt; omega⟩ : Fin 2048) l) := by
  blk_ext [iblk, V, index_all t]

theorem blk3 (c : Dev nD) (t : Fin cfg0.N) (r : Fin 32) (l : Fin 1024) (h : (t.val + 1) * 256 + r.val < 2048) :
    iblk m c 3 t (ix2 r l) = m ((c : Thread nD τ).loc main_arg2) (ix2 (⟨(t.val + 1) * 256 + r.val, h⟩ : Fin 2048) l) := by
  blk_ext [iblk, V, index_all t]

/-- The weights that the host pads with one zero row. -/
theorem weights (c : Dev nD) (k : Fin 32) (l : Fin 1024) (h : k.val < 31) :
    V m c main_v1 (ix2 k l) = m ((c : Thread nD τ).loc main_arg3) (ix3 (⟨k.val, h⟩ : Fin 31) 0 l) := by
  unfold V
  after_reads_at
  rw [dif_pos h]

theorem blk4 (c : Dev nD) (t : Fin cfg0.N) (k : Fin 32) (l : Fin 1024) (h : k.val < 31) :
    iblk m c 4 t (ix2 k l) = m ((c : Thread nD τ).loc main_arg3) (ix3 (⟨k.val, h⟩ : Fin 31) 0 l) := by
  rw [← weights m c k l h]
  blk_ext [iblk, index_all t]

/-- The tile's row of the gated input's gradient is the reference's row. -/
theorem dh_eq (c : Dev nD) (t : Fin cfg0.N) (r : Fin 256) (l : Fin 1024) :
    dh (k0_pay1 (grid0.coords t) (iblk m c 2 t) (iblk m c 3 t)) (iblk m c 4 t) r l
      = Cert.ConvRefIdeal.Spec.dh (m ((c : Thread nD τ).loc main_arg2)) (m ((c : Thread nD τ).loc main_arg3)) (30 + (t.val * 256 + r.val)) l := by
  have ht : t.val < 8 := t.isLt
  have hc : (grid0.coords t 0).val = t.val := (index_all t).2.2.2.2.2.2
  refine Finset.sum_congr rfl fun k hk => ?_
  have hk : k < 31 := Finset.mem_range.mp hk
  unfold tap Cert.ConvRefIdeal.Spec.tap
  rw [dif_pos hk, pay1_apply, hc, blk4 m c t ⟨k, by omega⟩ l hk]
  rcases lt_or_ge (r.val + (30 - k)) 256 with h | h
  · have h' : k < 31 ∧ k ≤ 30 + (t.val * 256 + r.val) ∧ 30 + (t.val * 256 + r.val) - k < 2048 := by omega
    rw [dif_pos h, dif_pos h', blk2]
    congr 3
    apply Fin.ext
    show t.val * 256 + (r.val + (30 - k)) = 30 + (t.val * 256 + r.val) - k
    omega
  · have n : ¬ r.val + (30 - k) < 256 := by omega
    rw [dif_neg n]
    rcases lt_or_ge t.val 7 with h7 | h7
    · have h' : k < 31 ∧ k ≤ 30 + (t.val * 256 + r.val) ∧ 30 + (t.val * 256 + r.val) - k < 2048 := by omega
      have hb : (t.val + 1) * 256 + (r.val + (30 - k) - 256) < 2048 := by omega
      rw [if_pos h7, dif_pos h', blk3 m c t _ l hb]
      congr 3
      apply Fin.ext
      show (t.val + 1) * 256 + (r.val + (30 - k) - 256) = 30 + (t.val * 256 + r.val) - k
      omega
    · have h' : ¬(k < 31 ∧ k ≤ 30 + (t.val * 256 + r.val) ∧ 30 + (t.val * 256 + r.val) - k < 2048) := by omega
      have n7 : ¬ t.val < 7 := by omega
      rw [if_neg n7, dif_neg h', zero_mul]

/-- The tile's row of the projection's gradient is the reference's row. -/
theorem dzT_eq (c : Dev nD) (t : Fin cfg0.N) (r : Fin 256) (l : Fin 4096) :
    dzT m c t r l = Cert.ConvRefIdeal.Spec.dz (m ((c : Thread nD τ).loc main_arg0)) (m ((c : Thread nD τ).loc main_arg1))
      (m ((c : Thread nD τ).loc main_arg2)) (m ((c : Thread nD τ).loc main_arg3))
      (⟨t.val * 256 + r.val, by have : t.val < 8 := t.isLt; omega⟩ : Fin 2048) l := by
  unfold dzT dz Cert.ConvRefIdeal.Spec.dz
  simp only [dh_eq, blk0, blk1]
  have e : l.val - 2048 - 1024 = l.val - 3072 := by omega
  simp only [e]
  split
  · rfl
  · split
    · rfl
    · rename_i h1 h2
      have e2 : (⟨3072 + (l.val - 3072), by omega⟩ : Fin 4096) = l := Fin.ext (by show 3072 + (l.val - 3072) = l.val; omega)
      rw [e2]

/-- The array of the first result. -/
theorem final5 (c : Dev nD) : (dats m 0 c).arrAt 5 cfg0.N
    = fun i => Cert.ConvRefIdeal.Spec.dz (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 5 _ (by decide +kernel) fun t hf y => ?_
  blk_simp
  rw [after0_5, eq_ix2 y]
  refine (outs_rows m c t _ _).trans ((dzT_eq m c t _ _).trans ?_)
  have e0 : (⟨t.val * 256 + (y 0).val, by have : t.val < 8 := t.isLt; have : (y 0).val < 256 := (y 0).isLt; omega⟩ : Fin 2048)
      = (win0_5.blk t).view.emb (ix2 (y 0) (y 1)) 0 := by
    apply Fin.ext
    blk_simp [index_all t]
  have e1 : (y 1 : Fin 4096) = (win0_5.blk t).view.emb (ix2 (y 0) (y 1)) 1 := by
    apply Fin.ext
    blk_simp [index_all t]
  exact congrArg₂ (Cert.ConvRefIdeal.Spec.dz _ _ _ _) e0 e1

/-- The grid's last point. -/
def last : Fin cfg0.N := ⟨7, by decide⟩

/-- The array of the second result: the column sums of the first. -/
theorem final6 (c : Dev nD) : (dats m 0 c).arrAt 6 cfg0.N
    = fun i => ∑ R : Fin 2048, Cert.ConvRefIdeal.Spec.dz (m ((c : Thread nD τ).loc main_arg0)) (m ((c : Thread nD τ).loc main_arg1))
      (m ((c : Thread nD τ).loc main_arg2)) (m ((c : Thread nD τ).loc main_arg3)) R (i 1) := by
  refine (dats m 0 c).arrAt_eq_of_after_last 6 last (by decide +kernel) _ fun j => ?_
  blk_simp
  rw [after0_6]
  have hj : (fun a => ⟨(j a).val, (j a).isLt⟩ : S1x4096.Idx) = ix2 (0 : Fin 1) (j 1 : Fin 4096) := by
    refine (eq_ix2 _).trans ?_
    have h0 : (⟨(j 0).val, (j 0).isLt⟩ : Fin 1) = 0 := Subsingleton.elim _ _
    exact congrArg (fun q => ix2 q (j 1 : Fin 4096)) h0
  refine (congrArg (outsAt0 m c last.val last.isLt).2 hj).trans ?_
  refine (Idealize.ShloMosaic.Pipeline.eq_sum_fin_of_reset_step_apply_last (fun n h l => (outsAt0 m c n h).2 (ix2 0 l)) 8 (fun _ => 0)
    (fun t l => ∑ r : Fin 256, dzT m c t r l) (fun t h l => (outs_sum_first m c t h l).trans (zero_add _).symm)
    (fun t h l => outs_sum_next m c t h l) (le_refl _) last rfl (j 1)).trans ?_
  rw [zero_add]
  refine (Finset.sum_congr rfl fun t _ => Finset.sum_congr rfl fun r _ => dzT_eq m c t r (j 1)).trans ?_
  exact Fin.sum_mul_add_fin 8 256 (fun R : Fin 2048 => Cert.ConvRefIdeal.Spec.dz (m ((c : Thread nD τ).loc main_arg0)) (m ((c : Thread nD τ).loc main_arg1))
      (m ((c : Thread nD τ).loc main_arg2)) (m ((c : Thread nD τ).loc main_arg3)) R (j 1)) rfl

end Cert.ConvBwdIdeal.Tile

end
-- ==== Proof.ConvClaim.lean ====
module

public import proofs.«01_k».proof.Defs
public import proofs.«01_k».proof.Proof.ConvValue
public import proofs.«01_k».proof.Proof.Gen.ConvRefIdeal.Run

@[expose] public section

set_option maxRecDepth 16384

noncomputable section

namespace Cert.Proof

open Idealize.ShloMosaic Idealize.ShloMosaic.TcCoe Idealize.SL.Sem

/-- The kernel and the reference, from memories that agree on the arguments, leave the same results. -/
theorem conv_algebraic : Cert.algebraic_ConvBwdIdeal_ConvRefIdeal := by
  intro m g m' g' _ hm
  refine ⟨fun c => ConvRefIdeal.Spec.rows (m (c.tc.loc ConvBwdIdeal.main_arg0)) (m (c.tc.loc ConvBwdIdeal.main_arg1))
      (m (c.tc.loc ConvBwdIdeal.main_arg2)) (m (c.tc.loc ConvBwdIdeal.main_arg3)),
    fun c => ConvRefIdeal.Spec.sums (m (c.tc.loc ConvBwdIdeal.main_arg0)) (m (c.tc.loc ConvBwdIdeal.main_arg1))
      (m (c.tc.loc ConvBwdIdeal.main_arg2)) (m (c.tc.loc ConvBwdIdeal.main_arg3)), ?_, ?_⟩
  · refine (θ_run _ _ _).mono (fun r h c => ?_) (ConvBwdIdeal.Value.run_blocks m g)
    exact ⟨(h c).1.trans (ConvBwdIdeal.Tile.final5 m c), (h c).2.1.trans (ConvBwdIdeal.Tile.final6 m c), (h c).2.2⟩
  · refine (θ_run _ _ _).mono (fun r h c => ?_) (ConvRefIdeal.Value.run m' g')
    obtain ⟨e0, e1, e2, e3⟩ := hm c
    refine ⟨(h c).1.trans ((ConvRefIdeal.Read.val_main_v343_eq _).trans ((ConvRefIdeal.Spec.rows_eq _ _ _ _).trans ?_)),
      (h c).2.1.trans ((ConvRefIdeal.Read.val_main_v342_eq _).trans ((ConvRefIdeal.Spec.sums_eq _ _ _ _).trans ?_)), (h c).2.2⟩
    · exact congr (congr (congr (congrArg ConvRefIdeal.Spec.rows e0) e1) e2) e3
    · exact congr (congr (congr (congrArg ConvRefIdeal.Spec.sums e0) e1) e2) e3

end Cert.Proof

end
-- ==== Proof.Common.lean ====
module

public import Idealize.ShloMosaic.Lib.Pointwise
public import Idealize.ShloMosaic.Lib.Pipeline.ValueKit

@[expose] public section

noncomputable section

namespace Cert.Common

open Idealize.ShloMosaic

/-- The constant one half, as the programs print it. -/
def half : EReal := Ideal.ofBits .f32 0x3F000000#32

theorem half_eq : half = ((1 / 2 : ℝ) : EReal) := by
  unfold half
  simp [Ideal.ofBits, Ideal.ieee, -EReal.coe_mul]
  norm_num

/-- One half goes into a finite sum. -/
theorem half_mul_sum {ι : Type*} (s : Finset ι) (f : ι → EReal) : half * ∑ k ∈ s, f k = ∑ k ∈ s, half * f k := by
  rw [half_eq]
  classical
  induction s using Finset.induction_on with
  | empty => simp
  | insert a s h ih =>
    rw [Finset.sum_insert h, Finset.sum_insert h, ← ih]
    exact EReal.left_distrib_of_nonneg_of_ne_top (by exact_mod_cast (by norm_num : (0 : ℝ) ≤ 1 / 2)) (EReal.coe_ne_top _) _ _

/-- A sum over the 5632 columns, as four slabs of 1408. -/
theorem sum_slabs (y : Fin 5632 → EReal) (w : Fin 4 → Fin 1408 → EReal) :
    ∑ x : Fin 5632, y x * w ⟨x.val / 1408, by omega⟩ ⟨x.val % 1408, by omega⟩
      = ∑ n : Fin 4, ∑ l : Fin 1408, y ⟨n.val * 1408 + l.val, by omega⟩ * w n l := by
  refine Fin.sum_divmod_congr fun x ha hs => ?_
  exact congrArg (fun q => y q * _) (Fin.ext (Nat.div_add_mod' x.val 1408).symm)

theorem half_finite : half ≠ ⊤ ∧ half ≠ ⊥ := by
  rw [half_eq]
  exact ⟨EReal.coe_ne_top _, EReal.coe_ne_bot _⟩

/-- The sigmoid of a real. -/
theorem logistic_coe (a : ℝ) : Ideal.logistic (a : EReal) = ((1 / (1 + Real.exp (-a)) : ℝ) : EReal) := by
  have h : 1 + Real.exp (-a) ≠ 0 := by positivity
  have e : (1 : EReal) + Ideal.exp (-(a : EReal)) = ((1 + Real.exp (-a) : ℝ) : EReal) := by
    rw [← EReal.coe_neg, EReal.coe_add]; rfl
  rw [Ideal.logistic, e, Ideal.div, if_neg (by exact_mod_cast h), ← EReal.coe_inv, one_div, one_mul]

theorem logistic_top : Ideal.logistic ⊤ = 1 := by
  have e : (1 : EReal) + Ideal.exp (-⊤) = 1 := by rw [EReal.neg_top]; exact add_zero _
  rw [Ideal.logistic, e, Ideal.div, if_neg one_ne_zero, one_mul, inv_one]

theorem logistic_bot : Ideal.logistic ⊥ = 0 := by
  have e : (1 : EReal) + Ideal.exp (-⊥) = ⊤ := by rw [EReal.neg_bot]; exact EReal.add_top_of_ne_bot (by decide)
  rw [Ideal.logistic, e, Ideal.div, if_neg (by decide), EReal.inv_top, mul_zero]

/-- What the comparison of a magnitude with infinity says. -/
theorem finite_of_abs_lt (z : EReal) [Decidable (max z (-z) < Ideal.ofBits .f32 0x7F800000#32)]
    (h : BitVec.ofBool (decide (max z (-z) < Ideal.ofBits .f32 0x7F800000#32)) = 1#1) : z ≠ ⊤ ∧ z ≠ ⊥ := by
  have h : max z (-z) < Ideal.ofBits .f32 0x7F800000#32 := by
    by_contra hn
    rw [decide_eq_false hn] at h
    exact absurd h (by decide)
  have e : Ideal.ofBits .f32 0x7F800000#32 = ⊤ := by simp [Ideal.ofBits, Ideal.ieee]
  rw [e] at h
  constructor <;> rintro rfl <;> simp at h

/-- A finite sum of finite values is finite. -/
theorem sum_finite {ι : Type*} (s : Finset ι) (f : ι → EReal) (h : ∀ i, f i ≠ ⊤ ∧ f i ≠ ⊥) : ∑ i ∈ s, f i ≠ ⊤ ∧ ∑ i ∈ s, f i ≠ ⊥ := by
  refine Finset.sum_induction f (fun z => z ≠ ⊤ ∧ z ≠ ⊥) (fun a b ha hb => ?_) ⟨EReal.zero_ne_top, EReal.zero_ne_bot⟩ fun i _ => h i
  lift a to ℝ using ha
  lift b to ℝ using hb
  exact ⟨EReal.coe_ne_top _, EReal.coe_ne_bot _⟩

theorem mul_finite {a b : EReal} (ha : a ≠ ⊤ ∧ a ≠ ⊥) (hb : b ≠ ⊤ ∧ b ≠ ⊥) : a * b ≠ ⊤ ∧ a * b ≠ ⊥ := by
  lift a to ℝ using ha
  lift b to ℝ using hb
  exact ⟨EReal.coe_ne_top _, EReal.coe_ne_bot _⟩

/-- The gradient of `a * logistic a` in its two parts, at a finite cotangent. -/
theorem silu_grad (c a : EReal) (hc : c ≠ ⊤ ∧ c ≠ ⊥) :
    c * Ideal.logistic a + a * c * (Ideal.logistic a * (1 - Ideal.logistic a)) = c * (Ideal.logistic a * (1 + a * (1 - Ideal.logistic a))) := by
  lift c to ℝ using hc
  induction a with
  | bot => simp [logistic_bot]
  | top =>
    have e : (1 : EReal) - 1 = 0 := EReal.sub_self (by decide) (by decide)
    simp [logistic_top, e]
  | coe a =>
    rw [logistic_coe]
    generalize 1 / (1 + Real.exp (-a)) = s
    norm_cast
    ring

/-- Row `k` of slab `j`, counted over the four slabs of 512 rows. -/
def slabRow (j : Fin 4) (k : Fin 512) : Fin 2048 := ⟨j.val * 512 + k.val, by omega⟩

/-- Row `k` of a matrix whose rows come in four slabs. -/
def slab {φ : FTy} (x : FVec Ideal ⟨3, ![4, 512, 2048]⟩ φ) (k n : Fin 2048) : EReal :=
  x (ix3 (⟨k.val / 512, by omega⟩ : Fin 4) (⟨k.val % 512, by omega⟩ : Fin 512) n)

theorem slab_at {φ : FTy} (x : FVec Ideal ⟨3, ![4, 512, 2048]⟩ φ) (j : Fin 4) (l : Fin 512) (n : Fin 2048) (h : j.val * 512 + l.val < 2048) :
    slab x ⟨j.val * 512 + l.val, h⟩ n = x (ix3 j l n) :=
  congrArg₂ (fun p q => x (ix3 p q n)) (Fin.ext (by dsimp only; omega)) (Fin.ext (by dsimp only; omega))

/-- The product of a row with column `l` of a matrix whose rows come in four slabs. -/
def rowDot {φ : FTy} (f : Fin 2048 → EReal) (x : FVec Ideal ⟨3, ![4, 512, 2048]⟩ φ) (l : Fin 2048) : EReal :=
  ∑ k : Fin 2048, f k * slab x k l

/-- Column `l` of a matrix whose columns come in four slabs of 1024. -/
def colSlab {φ : FTy} (x : FVec Ideal ⟨3, ![4, 2048, 1024]⟩ φ) (k : Fin 2048) (l : Fin 4096) : EReal :=
  x (ix3 (⟨l.val / 1024, by omega⟩ : Fin 4) k (⟨l.val % 1024, by omega⟩ : Fin 1024))

theorem colSlab_at {φ : FTy} (x : FVec Ideal ⟨3, ![4, 2048, 1024]⟩ φ) (k : Fin 2048) (n : Fin 4) (l : Fin 1024) (h : n.val * 1024 + l.val < 4096) :
    colSlab x k ⟨n.val * 1024 + l.val, h⟩ = x (ix3 n k l) :=
  congrArg₂ (fun p q => x (ix3 p k q)) (Fin.ext (by dsimp only; omega)) (Fin.ext (by dsimp only; omega))

/-- A sum over the 4096 columns, slab after slab. -/
theorem sum_colSlab {φ : FTy} (y : Fin 4096 → EReal) (x : FVec Ideal ⟨3, ![4, 2048, 1024]⟩ φ) (k : Fin 2048) :
    ∑ l : Fin 4096, y l * colSlab x k l = ∑ n : Fin 4, ∑ l : Fin 1024, y ⟨n.val * 1024 + l.val, by omega⟩ * x (ix3 n k l) := by
  unfold colSlab
  refine Fin.sum_divmod_congr fun z ha hs => ?_
  exact congrArg (fun q => y q * _) (Fin.ext (Nat.div_add_mod' z.val 1024).symm)

end Cert.Common

end
-- ==== Proof.FfnDwd.lean ====
module

public import proofs.«01_k».proof.Defs
public import proofs.«01_k».proof.Proof.Gen.FfnDwdIdeal.Value
public import proofs.«01_k».proof.Proof.Gen.FfnDwdRefIdeal.Run
public import proofs.«01_k».proof.Proof.Gen.FfnDwdRefIdeal.Read
public import proofs.«01_k».proof.Proof.Common
public import Idealize.ShloMosaic.Lib.Pointwise
public import Idealize.ShloMosaic.Lib.Pipeline.ValueKit

@[expose] public section

set_option maxRecDepth 16384

noncomputable section

namespace Cert.FfnDwdRefIdeal.Spec

open Cert.FfnDwdRefIdeal Cert.FfnDwdRefIdeal.Gen Cert.FfnDwdRefIdeal.Read Idealize.ShloMosaic

/-- Half the product of column `l` of the first matrix with column `d` of the second. -/
def entry (x0 : FVec Ideal S2048x5632 .bf16) (x1 : FVec Ideal S2048x2048 .bf16) (l : Fin 5632) (d : Fin 2048) : EReal :=
  Common.half * ∑ k : Fin 2048, x0 (ix2 k l) * x1 (ix2 k d)

/-- The gradient of the last product's weights, in four slabs. -/
def grad (x0 : FVec Ideal S2048x5632 .bf16) (x1 : FVec Ideal S2048x2048 .bf16) : FVec Ideal S4x1408x2048 .bf16 := fun i =>
  entry x0 x1 ⟨(i 0).val * 1408 + (i 1).val, by
    have h0 : (i 0).val < 4 := (i 0).isLt; have h1 : (i 1).val < 1408 := (i 1).isLt; omega⟩ (i 2 : Fin 2048)

theorem grad_eq (x0 : FVec Ideal S2048x5632 .bf16) (x1 : FVec Ideal S2048x2048 .bf16) :
    val_main_v14 (F := Ideal) x0 x1 = grad x0 x1 := by
  funext i
  rw [eq_ix3 i]
  generalize (i 0 : Fin 4) = n
  generalize (i 1 : Fin 1408) = f
  generalize (i 2 : Fin 2048) = d
  unfold grad entry
  rw [Common.half_mul_sum]
  pointwise [val_main_v14, val_main_v13, val_main_v12, val_main_v11, val_main_v10, val_main_v9, val_main_cst_2, val_main_v1, val_main_v0]
  refine Finset.sum_congr rfl fun k _ => ?_
  rw [mul_assoc, mul_comm (x1 _)]
  rfl

end Cert.FfnDwdRefIdeal.Spec

namespace Cert.FfnDwdIdeal.Tile

open Cert.FfnDwdIdeal Cert.FfnDwdIdeal.Gen Idealize.ShloMosaic Idealize.ShloMosaic.TcCoe Idealize.SL.Sem

variable (m : (ℓ : Loc nD τ sig) → Buf (Elt Ideal) ℓ)

theorem index_all : ∀ t : Fin grid0.N, win0_0.index t = ![0, t.val / 2] ∧ win0_1.index t = ![0, t.val % 2] ∧ win0_2.index t = ![t.val / 2, 0, t.val % 2] := by
  decide +kernel

theorem pay_apply (v0 : Vec Ideal S2048x1408 .bf16) (v1 : Vec Ideal S2048x1024 .bf16) (f : Fin 1408) (d : Fin 1024) :
    k0_pay1 v0 v1 (ix3 0 f d) = Common.half * ∑ k : Fin 2048, v0 (ix2 k f) * v1 (ix2 k d) := by
  pointwise [k0_pay1]
  rfl

theorem blk0 (c : Dev nD) (t : Fin cfg0.N) (k : Fin 2048) (l : Fin 1408) :
    iblk m c 0 t (ix2 k l) = m ((c : Thread nD τ).loc main_arg0) (ix2 k (⟨t.val / 2 * 1408 + l.val, by have : t.val < 8 := t.isLt; omega⟩ : Fin 5632)) := by
  blk_ext [iblk, V, index_all t]

theorem blk1 (c : Dev nD) (t : Fin cfg0.N) (k : Fin 2048) (l : Fin 1024) :
    iblk m c 1 t (ix2 k l) = m ((c : Thread nD τ).loc main_arg1) (ix2 k (⟨t.val % 2 * 1024 + l.val, by omega⟩ : Fin 2048)) := by
  blk_ext [iblk, V, index_all t]

/-- Where entry `(0, f, d)` of the result's tile lies in the result. -/
theorem emb_eq (t : Fin cfg0.N) (f : Fin 1408) (d : Fin 1024) : (win0_2.blk t).view.emb (ix3 (0 : Fin 1) f d) = ix3 (⟨t.val / 2, by have : t.val < 8 := t.isLt; omega⟩ : Fin 4) f (⟨t.val % 2 * 1024 + d.val, by omega⟩ : Fin 2048) := by
  funext a
  apply Fin.ext
  fin_cases a
  · blk_simp [index_all t]
    rfl
  · blk_simp [index_all t]
    rfl
  · blk_simp [index_all t]
    rfl

/-- The result's array at the end. -/
theorem final (c : Dev nD) : (dats m 0 c).arrAt 2 cfg0.N
    = Cert.FfnDwdRefIdeal.Spec.grad (m ((c : Thread nD τ).loc main_arg0)) (m ((c : Thread nD τ).loc main_arg1)) := by
  refine (dats m 0 c).arrAt_eq_of_covers 2 _ (by decide +kernel) fun t hf y => ?_
  obtain ⟨f, d, rfl⟩ : ∃ (f : Fin 1408) (d : Fin 1024), y = ix3 (0 : Fin 1) f d :=
    ⟨y 1, y 2, (eq_ix3 y).trans (congrArg (fun q : Fin 1 => ix3 q (y 1 : Fin 1408) (y 2 : Fin 1024)) (Subsingleton.elim (α := Fin 1) (y 0) 0))⟩
  refine Eq.trans ?_ (congrArg (Cert.FfnDwdRefIdeal.Spec.grad _ _) (emb_eq t f d)).symm
  rw [after0_2]
  frame_out
  refine (pay_apply _ _ f d).trans ?_
  simp only [blk0, blk1]
  rfl

end Cert.FfnDwdIdeal.Tile

namespace Cert.Proof

open Idealize.ShloMosaic Idealize.ShloMosaic.TcCoe Idealize.SL.Sem

theorem ffn_dwd_algebraic : Cert.algebraic_FfnDwdIdeal_FfnDwdRefIdeal := by
  intro m g m' g' _ hm
  refine ⟨fun c => FfnDwdRefIdeal.Spec.grad (m (c.tc.loc FfnDwdIdeal.main_arg0)) (m (c.tc.loc FfnDwdIdeal.main_arg1)), ?_, ?_⟩
  · refine (θ_run _ _ _).mono (fun r h c => ?_) (FfnDwdIdeal.Value.run_blocks m g)
    exact ⟨(h c).1.trans (FfnDwdIdeal.Tile.final m c), (h c).2⟩
  · refine (θ_run _ _ _).mono (fun r h c => ?_) (FfnDwdRefIdeal.Value.run m' g')
    obtain ⟨e0, e1⟩ := hm c
    refine ⟨(h c).1.trans ((FfnDwdRefIdeal.Read.val_main_v14_eq _ _).trans ((FfnDwdRefIdeal.Spec.grad_eq _ _).trans ?_)), (h c).2⟩
    exact congr (congrArg FfnDwdRefIdeal.Spec.grad e0) e1

end Cert.Proof

end
-- ==== Proof.FfnDw.lean ====
module

public import proofs.«01_k».proof.Defs
public import proofs.«01_k».proof.Proof.Gen.FfnDwIdeal.Value
public import proofs.«01_k».proof.Proof.Gen.FfnDwRefIdeal.Run
public import proofs.«01_k».proof.Proof.Gen.FfnDwRefIdeal.Read
public import Idealize.ShloMosaic.Lib.Pointwise
public import Idealize.ShloMosaic.Lib.Pipeline.ValueKit

@[expose] public section

set_option maxRecDepth 16384

noncomputable section

namespace Cert.FfnDwRefIdeal.Spec

open Cert.FfnDwRefIdeal Cert.FfnDwRefIdeal.Gen Cert.FfnDwRefIdeal.Read Idealize.ShloMosaic

/-- The product of column `k` of the first matrix with column `l` of the second. -/
def entry (x0 : FVec Ideal S2048x2048 .bf16) (x1 : FVec Ideal S2048x5632 .bf16) (k : Fin 2048) (l : Fin 5632) : EReal :=
  ∑ t : Fin 2048, x0 (ix2 t k) * x1 (ix2 t l)

/-- The gradient of the first product's weights, in four slabs. -/
def grad (x0 : FVec Ideal S2048x2048 .bf16) (x1 : FVec Ideal S2048x5632 .bf16) : FVec Ideal S4x2048x1408 .bf16 := fun i =>
  entry x0 x1 (i 1 : Fin 2048) ⟨(i 0).val * 1408 + (i 2).val, by
    have h0 : (i 0).val < 4 := (i 0).isLt; have h1 : (i 2).val < 1408 := (i 2).isLt; omega⟩

theorem grad_eq (x0 : FVec Ideal S2048x2048 .bf16) (x1 : FVec Ideal S2048x5632 .bf16) :
    val_main_v10 (F := Ideal) x0 x1 = grad x0 x1 := by
  funext i
  rw [eq_ix3 i]
  generalize (i 0 : Fin 4) = n
  generalize (i 1 : Fin 2048) = k
  generalize (i 2 : Fin 1408) = l
  unfold grad entry
  pointwise [val_main_v10, val_main_v9, val_main_v8, val_main_v7, val_main_v6, val_main_v1, val_main_v0]
  refine Finset.sum_congr rfl fun t _ => ?_
  rw [mul_comm]

end Cert.FfnDwRefIdeal.Spec

namespace Cert.FfnDwIdeal.Tile

open Cert.FfnDwIdeal Cert.FfnDwIdeal.Gen Idealize.ShloMosaic Idealize.ShloMosaic.TcCoe Idealize.SL.Sem

variable (m : (ℓ : Loc nD τ sig) → Buf (Elt Ideal) ℓ)

theorem index_all : ∀ t : Fin grid0.N, win0_0.index t = ![0, t.val % 2] ∧ win0_1.index t = ![0, t.val / 2] ∧ win0_2.index t = ![t.val / 2, t.val % 2, 0] := by
  decide +kernel

theorem pay_apply (v0 : Vec Ideal S2048x1024 .bf16) (v1 : Vec Ideal S2048x1408 .bf16) (k : Fin 1024) (l : Fin 1408) :
    k0_pay1 v0 v1 (ix3 0 k l) = ∑ t : Fin 2048, v0 (ix2 t k) * v1 (ix2 t l) := by
  pointwise [k0_pay1]

theorem blk0 (c : Dev nD) (t : Fin cfg0.N) (k : Fin 2048) (l : Fin 1024) :
    iblk m c 0 t (ix2 k l) = m ((c : Thread nD τ).loc main_arg0) (ix2 k (⟨t.val % 2 * 1024 + l.val, by omega⟩ : Fin 2048)) := by
  blk_ext [iblk, V, index_all t]

theorem blk1 (c : Dev nD) (t : Fin cfg0.N) (k : Fin 2048) (l : Fin 1408) :
    iblk m c 1 t (ix2 k l) = m ((c : Thread nD τ).loc main_arg1) (ix2 k (⟨t.val / 2 * 1408 + l.val, by have : t.val < 8 := t.isLt; omega⟩ : Fin 5632)) := by
  blk_ext [iblk, V, index_all t]

/-- Where entry `(0, f, d)` of the result's tile lies in the result. -/
theorem emb_eq (t : Fin cfg0.N) (f : Fin 1024) (d : Fin 1408) : (win0_2.blk t).view.emb (ix3 (0 : Fin 1) f d) = ix3 (⟨t.val / 2, by have : t.val < 8 := t.isLt; omega⟩ : Fin 4) (⟨t.val % 2 * 1024 + f.val, by omega⟩ : Fin 2048) d := by
  funext a
  apply Fin.ext
  fin_cases a
  · blk_simp [index_all t]
    rfl
  · blk_simp [index_all t]
    rfl
  · blk_simp [index_all t]
    rfl

/-- The result's array at the end. -/
theorem final (c : Dev nD) : (dats m 0 c).arrAt 2 cfg0.N
    = Cert.FfnDwRefIdeal.Spec.grad (m ((c : Thread nD τ).loc main_arg0)) (m ((c : Thread nD τ).loc main_arg1)) := by
  refine (dats m 0 c).arrAt_eq_of_covers 2 _ (by decide +kernel) fun t hf y => ?_
  obtain ⟨f, d, rfl⟩ : ∃ (f : Fin 1024) (d : Fin 1408), y = ix3 (0 : Fin 1) f d :=
    ⟨y 1, y 2, (eq_ix3 y).trans (congrArg (fun q : Fin 1 => ix3 q (y 1 : Fin 1024) (y 2 : Fin 1408)) (Subsingleton.elim (α := Fin 1) (y 0) 0))⟩
  refine Eq.trans ?_ (congrArg (Cert.FfnDwRefIdeal.Spec.grad _ _) (emb_eq t f d)).symm
  rw [after0_2]
  frame_out
  refine (pay_apply _ _ f d).trans ?_
  simp only [blk0, blk1]
  rfl

end Cert.FfnDwIdeal.Tile

namespace Cert.Proof

open Idealize.ShloMosaic Idealize.ShloMosaic.TcCoe Idealize.SL.Sem

theorem ffn_dw_algebraic : Cert.algebraic_FfnDwIdeal_FfnDwRefIdeal := by
  intro m g m' g' _ hm
  refine ⟨fun c => FfnDwRefIdeal.Spec.grad (m (c.tc.loc FfnDwIdeal.main_arg0)) (m (c.tc.loc FfnDwIdeal.main_arg1)), ?_, ?_⟩
  · refine (θ_run _ _ _).mono (fun r h c => ?_) (FfnDwIdeal.Value.run_blocks m g)
    exact ⟨(h c).1.trans (FfnDwIdeal.Tile.final m c), (h c).2⟩
  · refine (θ_run _ _ _).mono (fun r h c => ?_) (FfnDwRefIdeal.Value.run m' g')
    obtain ⟨e0, e1⟩ := hm c
    refine ⟨(h c).1.trans ((FfnDwRefIdeal.Read.val_main_v10_eq _ _).trans ((FfnDwRefIdeal.Spec.grad_eq _ _).trans ?_)), (h c).2⟩
    exact congr (congrArg FfnDwRefIdeal.Spec.grad e0) e1

end Cert.Proof

end
-- ==== Proof.FfnDh.lean ====
module

public import proofs.«01_k».proof.Defs
public import proofs.«01_k».proof.Proof.Gen.FfnDhIdeal.Value
public import proofs.«01_k».proof.Proof.Gen.FfnDhRefIdeal.Run
public import proofs.«01_k».proof.Proof.Gen.FfnDhRefIdeal.Read
public import proofs.«01_k».proof.Proof.Common
public import Idealize.ShloMosaic.Lib.Pipeline.ReadBack
public import Idealize.ShloMosaic.Lib.Pointwise
public import Idealize.ShloMosaic.Lib.Pipeline.ValueKit

@[expose] public section

set_option maxRecDepth 16384

noncomputable section

namespace Cert.FfnDhRefIdeal.Spec

open Cert.FfnDhRefIdeal Cert.FfnDhRefIdeal.Gen Cert.FfnDhRefIdeal.Read Idealize.ShloMosaic

/-- What slab `n` of the weights adds to entry `(t, d)` of the gradient. -/
def part (x0 x1 : FVec Ideal S2048x5632 .bf16) (x2 x3 : FVec Ideal S4x2048x1408 .bf16) (t d : Fin 2048) (n : Fin 4) : EReal :=
  (∑ l : Fin 1408, x0 (ix2 t (⟨n.val * 1408 + l.val, by omega⟩ : Fin 5632)) * x2 (ix3 n d l))
    + ∑ l : Fin 1408, x1 (ix2 t (⟨n.val * 1408 + l.val, by omega⟩ : Fin 5632)) * x3 (ix3 n d l)

/-- Entry `(t, d)` of the gradient of the two first products' common input. -/
def entry (x0 x1 : FVec Ideal S2048x5632 .bf16) (x2 x3 : FVec Ideal S4x2048x1408 .bf16) (t d : Fin 2048) : EReal :=
  ∑ n : Fin 4, part x0 x1 x2 x3 t d n

def grad (x0 x1 : FVec Ideal S2048x5632 .bf16) (x2 x3 : FVec Ideal S4x2048x1408 .bf16) : FVec Ideal S2048x2048 .f32 := fun i =>
  entry x0 x1 x2 x3 (i 0 : Fin 2048) (i 1 : Fin 2048)

theorem grad_eq (x0 x1 : FVec Ideal S2048x5632 .bf16) (x2 x3 : FVec Ideal S4x2048x1408 .bf16) :
    val_main_v13 (F := Ideal) x0 x1 x2 x3 = grad x0 x1 x2 x3 := by
  funext i
  rw [eq_ix2 i]
  generalize (i 0 : Fin 2048) = t
  generalize (i 1 : Fin 2048) = d
  unfold grad entry part
  rw [Finset.sum_add_distrib]
  pointwise [val_main_v13, val_main_v11, val_main_v1, val_main_v9, val_main_v8, val_main_v3, val_main_v12, val_main_v0, val_main_v6, val_main_v5, val_main_v2]
  rw [add_comm]
  exact congrArg₂ (· + ·) (Common.sum_slabs (fun x => x0 (ix2 t x)) fun n l => x2 (ix3 n d l))
    (Common.sum_slabs (fun x => x1 (ix2 t x)) fun n l => x3 (ix3 n d l))

end Cert.FfnDhRefIdeal.Spec

namespace Cert.FfnDhIdeal.Tile

open Cert.FfnDhIdeal Cert.FfnDhIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val / 8, t.val % 4] ∧ win0_1.index t = ![t.val % 4, t.val / 4 % 2, 0]
    ∧ win0_2.index t = ![t.val / 8, t.val % 4] ∧ win0_3.index t = ![t.val % 4, t.val / 4 % 2, 0] ∧ win0_4.index t = ![t.val / 8, t.val / 4 % 2] := by
  decide +kernel

theorem pay1_apply (r d : Fin 1024) : k0_pay1 (F := Ideal) (ix2 r d) = 0 := by
  pointwise [k0_pay1]

theorem pay2_apply (v3 : Vec Ideal S1024x1408 .bf16) (v4 : Vec Ideal S1x1024x1408 .bf16) (v6 : Vec Ideal S1024x1024 .f32) (r d : Fin 1024) :
    k0_pay2 v3 v4 v6 (ix2 r d) = v6 (ix2 r d) + ∑ l : Fin 1408, v3 (ix2 r l) * v4 (ix3 0 d l) := by
  pointwise [k0_pay2]

theorem pay3_apply (v3 : Vec Ideal S1024x1408 .bf16) (v4 : Vec Ideal S1x1024x1408 .bf16) (v6 : Vec Ideal S1024x1024 .f32) (r d : Fin 1024) :
    k0_pay3 v3 v4 v6 (ix2 r d) = v6 (ix2 r d) + ∑ l : Fin 1408, v3 (ix2 r l) * v4 (ix3 0 d l) := by
  pointwise [k0_pay3]

theorem blk0 (c : Dev nD) (t : Fin cfg0.N) (r : Fin 1024) (l : Fin 1408) :
    iblk m c 0 t (ix2 r l) = m ((c : Thread nD τ).loc main_arg0) (ix2 (⟨t.val / 8 * 1024 + r.val, by have : t.val < 16 := t.isLt; omega⟩ : Fin 2048) (⟨t.val % 4 * 1408 + l.val, by omega⟩ : Fin 5632)) := by
  blk_ext [iblk, V, index_all t]

theorem blk1 (c : Dev nD) (t : Fin cfg0.N) (d : Fin 1024) (l : Fin 1408) :
    iblk m c 1 t (ix3 0 d l) = m ((c : Thread nD τ).loc main_arg2) (ix3 (⟨t.val % 4, by omega⟩ : Fin 4) (⟨t.val / 4 % 2 * 1024 + d.val, by omega⟩ : Fin 2048) l) := by
  blk_ext [iblk, V, index_all t]

theorem blk2 (c : Dev nD) (t : Fin cfg0.N) (r : Fin 1024) (l : Fin 1408) :
    iblk m c 2 t (ix2 r l) = m ((c : Thread nD τ).loc main_arg1) (ix2 (⟨t.val / 8 * 1024 + r.val, by have : t.val < 16 := t.isLt; omega⟩ : Fin 2048) (⟨t.val % 4 * 1408 + l.val, by omega⟩ : Fin 5632)) := by
  blk_ext [iblk, V, index_all t]

theorem blk3 (c : Dev nD) (t : Fin cfg0.N) (d : Fin 1024) (l : Fin 1408) :
    iblk m c 3 t (ix3 0 d l) = m ((c : Thread nD τ).loc main_arg3) (ix3 (⟨t.val % 4, by omega⟩ : Fin 4) (⟨t.val / 4 % 2 * 1024 + d.val, by omega⟩ : Fin 2048) l) := by
  blk_ext [iblk, V, index_all t]

/-- What grid point `t` adds to its tile. -/
def term (c : Dev nD) (t : Fin cfg0.N) (j : S1024x1024.Idx) : EReal :=
  Cert.FfnDhRefIdeal.Spec.part (m ((c : Thread nD τ).loc main_arg0)) (m ((c : Thread nD τ).loc main_arg1)) (m ((c : Thread nD τ).loc main_arg2)) (m ((c : Thread nD τ).loc main_arg3))
    (⟨t.val / 8 * 1024 + (j 0).val, by have : t.val < 16 := t.isLt; have : (j 0).val < 1024 := (j 0).isLt; omega⟩ : Fin 2048)
    (⟨t.val / 4 % 2 * 1024 + (j 1).val, by have : (j 1).val < 1024 := (j 1).isLt; omega⟩ : Fin 2048) (⟨t.val % 4, by omega⟩ : Fin 4)

/-- The two products of a point, added to what the accumulator held. -/
theorem step (c : Dev nD) (t : Fin cfg0.N) (acc : Vec Ideal S1024x1024 .f32) (j : S1024x1024.Idx) :
    k0_pay3 (iblk m c 2 t) (iblk m c 3 t) (k0_pay2 (iblk m c 0 t) (iblk m c 1 t) acc) j = acc j + term m c t j := by
  obtain ⟨r, d, rfl⟩ : ∃ r d : Fin 1024, j = ix2 r d := ⟨j 0, j 1, eq_ix2 j⟩
  refine (pay3_apply _ _ _ r d).trans ?_
  rw [pay2_apply, add_assoc]
  simp only [blk0, blk1, blk2, blk3]
  rfl

theorem first (c : Dev nD) (t : Fin cfg0.N) (h : t.val % 4 = 0) (j : S1024x1024.Idx) :
    (outsAt0 m c t.val t.isLt).2 j = 0 + term m c t j := by
  rw [outsAt0_A m c t h (by omega)]
  frame_out
  refine (step m c t _ j).trans ?_
  rw [eq_ix2 j]
  exact congrArg (· + _) (pay1_apply _ _)

theorem next (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + term m c t j := by
  by_cases h1 : t.val % 4 = 3
  · rw [outsAt0_C m c t h h1]
    frame_out
    exact (step m c t _ j).trans (congrArg (· + _) (congrFun (read_unread_whole cc0_scratch0 _ _) j))
  · rw [outsAt0_B m c t h h1]
    frame_out
    exact (step m c t _ j).trans (congrArg (· + _) (congrFun (read_unread_whole cc0_scratch0 _ _) j))

/-- At the last point of a run the output's buffer is the accumulator. -/
theorem out_last (c : Dev nD) (t : Fin cfg0.N) (h : t.val % 4 = 3) :
    (outsAt0 m c t.val t.isLt).1 = (outsAt0 m c t.val t.isLt).2 := by
  rw [outsAt0_C m c t (by omega) h]
  frame_out

theorem emb_eq (t : Fin cfg0.N) (r d : Fin 1024) : (win0_4.blk t).view.emb (ix2 r d)
    = ix2 (⟨t.val / 8 * 1024 + r.val, by have : t.val < 16 := t.isLt; omega⟩ : Fin 2048) (⟨t.val / 4 % 2 * 1024 + d.val, by omega⟩ : Fin 2048) := by
  funext a
  apply Fin.ext
  fin_cases a
  · blk_simp [index_all t]
    rfl
  · blk_simp [index_all t]
    rfl

/-- The result's array at the end. -/
theorem final (c : Dev nD) : (dats m 0 c).arrAt 4 cfg0.N
    = Cert.FfnDhRefIdeal.Spec.grad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨r, d, rfl⟩ : ∃ r d : Fin 1024, y = ix2 r d := ⟨y 0, y 1, eq_ix2 y⟩
  refine Eq.trans ?_ (congrArg (Cert.FfnDhRefIdeal.Spec.grad _ _ _ _) (emb_eq t r d)).symm
  have hl : t.val % 4 = 4 - 1 := (by decide +kernel : ∀ t : Fin grid0.N, win0_4.flush t = true → t.val % 4 = 4 - 1) t hf
  rw [after0_4, out_last m c t hl]
  show (outsAt0 m c t.val t.isLt).2 (ix2 r d) = _
  rw [Pipeline.eq_sum_fin_of_reset_step_apply_of_flush (fun n h => (outsAt0 m c n h).2) 4 (fun _ => 0) (term m c)
    (first m c) (next m c) t hl (ix2 r d), zero_add]
  refine Finset.sum_congr rfl fun s _ => ?_
  have ht : t.val < 16 := t.isLt
  have hr : (4 * (t.val / 4) + s.val) / 8 * 1024 + r.val = t.val / 8 * 1024 + r.val := by omega
  have hd : (4 * (t.val / 4) + s.val) / 4 % 2 * 1024 + d.val = t.val / 4 % 2 * 1024 + d.val := by omega
  have hs : (4 * (t.val / 4) + s.val) % 4 = s.val := by omega
  exact congr (congr (congrArg (Cert.FfnDhRefIdeal.Spec.part _ _ _ _) (Fin.ext hr)) (Fin.ext hd)) (Fin.ext hs)

end Cert.FfnDhIdeal.Tile

namespace Cert.Proof

open Idealize.ShloMosaic Idealize.ShloMosaic.TcCoe Idealize.SL.Sem

theorem ffn_dh_algebraic : Cert.algebraic_FfnDhIdeal_FfnDhRefIdeal := by
  intro m g m' g' _ hm
  refine ⟨fun c => FfnDhRefIdeal.Spec.grad (m (c.tc.loc FfnDhIdeal.main_arg0)) (m (c.tc.loc FfnDhIdeal.main_arg1)) (m (c.tc.loc FfnDhIdeal.main_arg2)) (m (c.tc.loc FfnDhIdeal.main_arg3)), ?_, ?_⟩
  · refine (θ_run _ _ _).mono (fun r h c => ?_) (FfnDhIdeal.Value.run_blocks m g)
    exact ⟨(h c).1.trans (FfnDhIdeal.Tile.final m c), (h c).2⟩
  · refine (θ_run _ _ _).mono (fun r h c => ?_) (FfnDhRefIdeal.Value.run m' g')
    obtain ⟨e0, e1, e2, e3⟩ := hm c
    refine ⟨(h c).1.trans ((FfnDhRefIdeal.Read.val_main_v13_eq _ _ _ _).trans ((FfnDhRefIdeal.Spec.grad_eq _ _ _ _).trans ?_)), (h c).2⟩
    exact congr (congr (congr (congrArg FfnDhRefIdeal.Spec.grad e0) e1) e2) e3

end Cert.Proof

end
-- ==== Proof.FfnDsTile.lean ====
module

public import proofs.«01_k».proof.Defs
public import proofs.«01_k».proof.Proof.Gen.FfnDsIdeal.Value
public import proofs.«01_k».proof.Proof.Gen.FfnDsRefIdeal.Run
public import proofs.«01_k».proof.Proof.Gen.FfnDsRefIdeal.Read
public import proofs.«01_k».proof.Proof.Common
public import Idealize.ShloMosaic.Lib.Pointwise
public import Idealize.ShloMosaic.Lib.Pipeline.ValueKit

@[expose] public section

set_option maxRecDepth 16384

noncomputable section

namespace Cert.FfnDsRefIdeal.Spec

open Cert.FfnDsRefIdeal Cert.FfnDsRefIdeal.Gen Cert.FfnDsRefIdeal.Read Idealize.ShloMosaic

/-- The gradient of the gated product, at row `t` and column `l`. -/
def dsAt (x0 : FVec Ideal S2048x2048 .bf16) (x1 : FVec Ideal S4x1408x2048 .bf16) (t : Fin 2048) (l : Fin 5632) : EReal :=
  Common.half * ∑ k : Fin 2048, x0 (ix2 t k) * x1 (ix3 (⟨l.val / 1408, by omega⟩ : Fin 4) (⟨l.val % 1408, by omega⟩ : Fin 1408) k)

/-- The gradient of the gate's argument `a`, from the gradient `d` of the product of `silu a` and `b`. -/
def gateGrad (d a b : EReal) : EReal := d * b * (Ideal.logistic a * (1 + a * (1 - Ideal.logistic a)))

/-- The gradient of `b` in the same product. -/
def siluGrad (d a : EReal) : EReal := d * (a * Ideal.logistic a)

/-- The gradient of the gate's argument. -/
def da (x0 : FVec Ideal S2048x2048 .bf16) (x1 : FVec Ideal S4x1408x2048 .bf16) (x2 x3 : FVec Ideal S2048x5632 .bf16) : FVec Ideal S2048x5632 .bf16 := fun i =>
  gateGrad (dsAt x0 x1 (i 0 : Fin 2048) (i 1 : Fin 5632)) (x2 (ix2 (i 0 : Fin 2048) (i 1 : Fin 5632))) (x3 (ix2 (i 0 : Fin 2048) (i 1 : Fin 5632)))

/-- The gradient of the other factor. -/
def db (x0 : FVec Ideal S2048x2048 .bf16) (x1 : FVec Ideal S4x1408x2048 .bf16) (x2 : FVec Ideal S2048x5632 .bf16) : FVec Ideal S2048x5632 .bf16 := fun i =>
  siluGrad (dsAt x0 x1 (i 0 : Fin 2048) (i 1 : Fin 5632)) (x2 (ix2 (i 0 : Fin 2048) (i 1 : Fin 5632)))

theorem half_inside (f g : Fin 2048 → EReal) :
    ∑ x, Ideal.ofBits .f32 0x3F000000#32 * f x * g x = Common.half * ∑ k : Fin 2048, f k * g k := by
  rw [Common.half_mul_sum]
  exact Finset.sum_congr rfl fun x _ => mul_assoc _ _ _

theorem da_eq (x0 : FVec Ideal S2048x2048 .bf16) (x1 : FVec Ideal S4x1408x2048 .bf16) (x2 x3 : FVec Ideal S2048x5632 .bf16)
    (h0 : ∀ t k, x0 (ix2 t k) ≠ ⊤ ∧ x0 (ix2 t k) ≠ ⊥) (h1 : ∀ n l k, x1 (ix3 n l k) ≠ ⊤ ∧ x1 (ix3 n l k) ≠ ⊥)
    (h3 : ∀ t l, x3 (ix2 t l) ≠ ⊤ ∧ x3 (ix2 t l) ≠ ⊥) : val_main_v18 (F := Ideal) x0 x1 x2 x3 = da x0 x1 x2 x3 := by
  funext i
  obtain ⟨t, l, rfl⟩ : ∃ (t : Fin 2048) (l : Fin 5632), i = ix2 t l := ⟨i 0, i 1, eq_ix2 i⟩
  have hc : dsAt x0 x1 t l * x3 (ix2 t l) ≠ ⊤ ∧ dsAt x0 x1 t l * x3 (ix2 t l) ≠ ⊥ :=
    Common.mul_finite (Common.mul_finite Common.half_finite (Common.sum_finite _ _ fun k => Common.mul_finite (h0 _ _) (h1 _ _ _))) (h3 _ _)
  refine Eq.trans ?_ (Common.silu_grad _ (x2 (ix2 t l)) hc)
  pointwise [val_main_v18, val_main_v17, val_main_call1_v1, val_main_v16, val_main_v14, val_main_v13, val_main_v12, val_main_cst_1, val_main_v0, val_main_v7, val_main_v1, val_main_v3, val_main_v5_2, val_main_call0_v4, val_main_call0_cst_0, val_main_call0_v3, val_main_call0_v2, val_main_call0_cst, val_main_call0_v1, val_main_call0_v0, val_main_v2, val_main_call1_v2, val_main_call1_v0, val_main_v5_1, val_main_call0_v7, val_main_call0_v6, val_main_call0_cst_1]
  rw [half_inside]
  rfl

theorem db_eq (x0 : FVec Ideal S2048x2048 .bf16) (x1 : FVec Ideal S4x1408x2048 .bf16) (x2 : FVec Ideal S2048x5632 .bf16) :
    val_main_v19 (F := Ideal) x0 x1 x2 = db x0 x1 x2 := by
  funext i
  obtain ⟨t, l, rfl⟩ : ∃ (t : Fin 2048) (l : Fin 5632), i = ix2 t l := ⟨i 0, i 1, eq_ix2 i⟩
  pointwise [val_main_v19, val_main_v15, val_main_v5_0, val_main_v18, val_main_v17, val_main_call1_v1, val_main_v16, val_main_v14, val_main_v13, val_main_v12, val_main_cst_1, val_main_v0, val_main_v7, val_main_v1, val_main_v3, val_main_v5_2, val_main_call0_v4, val_main_call0_cst_0, val_main_call0_v3, val_main_call0_v2, val_main_call0_cst, val_main_call0_v1, val_main_call0_v0, val_main_v2, val_main_call1_v2, val_main_call1_v0, val_main_v5_1, val_main_call0_v7, val_main_call0_v6, val_main_call0_cst_1]
  rw [half_inside, mul_comm]
  rfl

end Cert.FfnDsRefIdeal.Spec

namespace Cert.FfnDsIdeal.Tile

open Cert.FfnDsIdeal Cert.FfnDsIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val % 2, 0] ∧ win0_1.index t = ![t.val / 2, 0, 0] ∧ win0_2.index t = ![t.val % 2, t.val / 2]
    ∧ win0_3.index t = ![t.val % 2, t.val / 2] ∧ win0_4.index t = ![t.val % 2, t.val / 2] ∧ win0_5.index t = ![t.val % 2, t.val / 2] := by
  decide +kernel

/-- The tile's gradient of the gated product. -/
def dsT (x0 : Vec Ideal S1024x2048 .bf16) (x1 : Vec Ideal S1x1408x2048 .bf16) (r : Fin 1024) (l : Fin 1408) : EReal :=
  Common.half * ∑ k : Fin 2048, x0 (ix2 r k) * x1 (ix3 0 l k)

theorem out4_apply (x0 : Vec Ideal S1024x2048 .bf16) (x1 : Vec Ideal S1x1408x2048 .bf16) (x2 x3 : Vec Ideal S1024x1408 .bf16) (r : Fin 1024) (l : Fin 1408) :
    out0_4 x0 x1 x2 x3 (ix2 r l) = Cert.FfnDsRefIdeal.Spec.gateGrad (dsT x0 x1 r l) (x2 (ix2 r l)) (x3 (ix2 r l)) := by
  unfold_out out0_4
  canon_tiles x h
  all_goals
    obtain ⟨p, q, rfl⟩ : ∃ (p : Fin 256) (q : Fin 1408), x = ix2 p q := ⟨x 0, x 1, eq_ix2 x⟩
    obtain rfl : l = q := Fin.ext h1
    obtain ⟨r, hr⟩ := r
    have e0 : r = _ := h0
    subst e0
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    rfl

theorem out5_apply (x0 : Vec Ideal S1024x2048 .bf16) (x1 : Vec Ideal S1x1408x2048 .bf16) (x2 x3 : Vec Ideal S1024x1408 .bf16) (r : Fin 1024) (l : Fin 1408) :
    out0_5 x0 x1 x2 x3 (ix2 r l) = Cert.FfnDsRefIdeal.Spec.siluGrad (dsT x0 x1 r l) (x2 (ix2 r l)) := by
  unfold_out out0_5
  canon_tiles x h
  all_goals
    obtain ⟨p, q, rfl⟩ : ∃ (p : Fin 256) (q : Fin 1408), x = ix2 p q := ⟨x 0, x 1, eq_ix2 x⟩
    obtain rfl : l = q := Fin.ext h1
    obtain ⟨r, hr⟩ := r
    have e0 : r = _ := h0
    subst e0
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    rfl

theorem blk0 (c : Dev nD) (t : Fin cfg0.N) (r : Fin 1024) (k : Fin 2048) :
    iblk m c 0 t (ix2 r k) = m ((c : Thread nD τ).loc main_arg0) (ix2 (⟨t.val % 2 * 1024 + r.val, by omega⟩ : Fin 2048) k) := by
  blk_ext [iblk, V, index_all t]

theorem blk1 (c : Dev nD) (t : Fin cfg0.N) (l : Fin 1408) (k : Fin 2048) :
    iblk m c 1 t (ix3 0 l k) = m ((c : Thread nD τ).loc main_arg1) (ix3 (⟨t.val / 2, by have : t.val < 8 := t.isLt; omega⟩ : Fin 4) l k) := by
  blk_ext [iblk, V, index_all t]

/-- The row and the column of the tile's entry `(r, l)`. -/
def row (t : Fin cfg0.N) (r : Fin 1024) : Fin 2048 := ⟨t.val % 2 * 1024 + r.val, by omega⟩
def col (t : Fin cfg0.N) (l : Fin 1408) : Fin 5632 := ⟨t.val / 2 * 1408 + l.val, by have : t.val < 8 := t.isLt; omega⟩

theorem blk2 (c : Dev nD) (t : Fin cfg0.N) (r : Fin 1024) (l : Fin 1408) :
    iblk m c 2 t (ix2 r l) = m ((c : Thread nD τ).loc main_arg2) (ix2 (row t r) (col t l)) := by
  blk_ext [iblk, V, index_all t, row, col]

theorem blk3 (c : Dev nD) (t : Fin cfg0.N) (r : Fin 1024) (l : Fin 1408) :
    iblk m c 3 t (ix2 r l) = m ((c : Thread nD τ).loc main_arg3) (ix2 (row t r) (col t l)) := by
  blk_ext [iblk, V, index_all t, row, col]

theorem dsT_eq (c : Dev nD) (t : Fin cfg0.N) (r : Fin 1024) (l : Fin 1408) :
    dsT (iblk m c 0 t) (iblk m c 1 t) r l = Cert.FfnDsRefIdeal.Spec.dsAt (m ((c : Thread nD τ).loc main_arg0)) (m ((c : Thread nD τ).loc main_arg1)) (row t r) (col t l) := by
  unfold dsT Cert.FfnDsRefIdeal.Spec.dsAt
  refine congrArg _ (Finset.sum_congr rfl fun k _ => ?_)
  rw [blk0, blk1]
  have hn : (⟨t.val / 2, by have : t.val < 8 := t.isLt; omega⟩ : Fin 4) = ⟨(col t l).val / 1408, by omega⟩ := Fin.ext (by unfold col; dsimp only; omega)
  have hl : l = ⟨(col t l).val % 1408, by omega⟩ := Fin.ext (by unfold col; dsimp only; omega)
  exact congrArg (HMul.hMul (α := EReal) _) (congrArg₂ (fun p q => m ((c : Thread nD τ).loc main_arg1) (ix3 p q k)) hn hl)

theorem emb4 (t : Fin cfg0.N) (r : Fin 1024) (l : Fin 1408) : (win0_4.blk t).view.emb (ix2 r l) = ix2 (row t r) (col t l) := by
  funext a
  apply Fin.ext
  fin_cases a
  · blk_simp [index_all t]
    rfl
  · blk_simp [index_all t]
    rfl

theorem emb5 (t : Fin cfg0.N) (r : Fin 1024) (l : Fin 1408) : (win0_5.blk t).view.emb (ix2 r l) = ix2 (row t r) (col t l) := by
  funext a
  apply Fin.ext
  fin_cases a
  · blk_simp [index_all t]
    rfl
  · blk_simp [index_all t]
    rfl

end Cert.FfnDsIdeal.Tile

end
-- ==== Proof.FfnDs.lean ====
module

public import proofs.«01_k».proof.Proof.FfnDsTile

@[expose] public section

set_option maxRecDepth 16384

noncomputable section

namespace Cert.FfnDsIdeal.Tile

open Cert.FfnDsIdeal Cert.FfnDsIdeal.Gen Idealize.ShloMosaic Idealize.ShloMosaic.TcCoe Idealize.SL.Sem

variable (m : (ℓ : Loc nD τ sig) → Buf (Elt Ideal) ℓ)

theorem at4 (c : Dev nD) (t : Fin cfg0.N) (r : Fin 1024) (l : Fin 1408) : out0_4 (iblk m c 0 t) (iblk m c 1 t) (iblk m c 2 t) (iblk m c 3 t) (ix2 r l)
    = Cert.FfnDsRefIdeal.Spec.da (m ((c : Thread nD τ).loc main_arg0)) (m ((c : Thread nD τ).loc main_arg1)) (m ((c : Thread nD τ).loc main_arg2)) (m ((c : Thread nD τ).loc main_arg3)) (ix2 (row t r) (col t l)) := by
  refine (out4_apply _ _ _ _ r l).trans ?_
  rw [dsT_eq, blk2, blk3]
  rfl

theorem at5 (c : Dev nD) (t : Fin cfg0.N) (r : Fin 1024) (l : Fin 1408) : out0_5 (iblk m c 0 t) (iblk m c 1 t) (iblk m c 2 t) (iblk m c 3 t) (ix2 r l)
    = Cert.FfnDsRefIdeal.Spec.db (m ((c : Thread nD τ).loc main_arg0)) (m ((c : Thread nD τ).loc main_arg1)) (m ((c : Thread nD τ).loc main_arg2)) (ix2 (row t r) (col t l)) := by
  refine (out5_apply _ _ _ _ r l).trans ?_
  rw [dsT_eq, blk2]
  rfl

theorem final4 (c : Dev nD) : (dats m 0 c).arrAt 4 cfg0.N
    = Cert.FfnDsRefIdeal.Spec.da (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨r, l, rfl⟩ : ∃ (r : Fin 1024) (l : Fin 1408), y = ix2 r l := ⟨y 0, y 1, eq_ix2 y⟩
  refine Eq.trans ?_ (congrArg (Cert.FfnDsRefIdeal.Spec.da _ _ _ _) (emb4 t r l)).symm
  rw [after0_4]
  have hx : (win0_4).xinj (grid0.coords t) (ix2 r l) = ix2 r l := by
    funext a
    fin_cases a <;> rfl
  exact (cast_eq _ _).trans ((congrArg (out0_4 _ _ _ _) hx).trans (at4 m c t r l))

theorem final5 (c : Dev nD) : (dats m 0 c).arrAt 5 cfg0.N
    = Cert.FfnDsRefIdeal.Spec.db (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨r, l, rfl⟩ : ∃ (r : Fin 1024) (l : Fin 1408), y = ix2 r l := ⟨y 0, y 1, eq_ix2 y⟩
  refine Eq.trans ?_ (congrArg (Cert.FfnDsRefIdeal.Spec.db _ _ _) (emb5 t r l)).symm
  rw [after0_5]
  have hx : (win0_5).xinj (grid0.coords t) (ix2 r l) = ix2 r l := by
    funext a
    fin_cases a <;> rfl
  exact (cast_eq _ _).trans ((congrArg (out0_5 _ _ _ _) hx).trans (at5 m c t r l))

end Cert.FfnDsIdeal.Tile

namespace Cert.Proof

open Idealize.ShloMosaic Idealize.ShloMosaic.TcCoe Idealize.SL.Sem

theorem finite0 [Cert.Pre_finite.Facts] (x0 : FVec Ideal Pre_finite.S2048x2048 .bf16) (x1 : FVec Ideal Pre_finite.S4x1408x2048 .bf16) (x2 x3 : FVec Ideal Pre_finite.S2048x5632 .bf16)
    (h : (Pre_finite.fn (F := Ideal) x0 x1 x2 x3).1 = fun _ => 1#1) (t k : Fin 2048) : x0 (ix2 t k) ≠ ⊤ ∧ x0 (ix2 t k) ≠ ⊥ := by
  have e : (Pre_finite.fn (F := Ideal) x0 x1 x2 x3).1 (ix2 t k) = BitVec.ofBool (decide (FloatOps.absf (x0 (ix2 t k)) < Ideal.ofBits .f32 0x7F800000#32)) := by
    unfold Pre_finite.fn
    dsimp only
    pointwise []
    rfl
  rw [h] at e
  exact Common.finite_of_abs_lt _ e.symm

theorem finite1 [Cert.Pre_finite.Facts] (x0 : FVec Ideal Pre_finite.S2048x2048 .bf16) (x1 : FVec Ideal Pre_finite.S4x1408x2048 .bf16) (x2 x3 : FVec Ideal Pre_finite.S2048x5632 .bf16)
    (h : (Pre_finite.fn (F := Ideal) x0 x1 x2 x3).2.1 = fun _ => 1#1) (n : Fin 4) (l : Fin 1408) (k : Fin 2048) : x1 (ix3 n l k) ≠ ⊤ ∧ x1 (ix3 n l k) ≠ ⊥ := by
  have e : (Pre_finite.fn (F := Ideal) x0 x1 x2 x3).2.1 (ix3 n l k) = BitVec.ofBool (decide (FloatOps.absf (x1 (ix3 n l k)) < Ideal.ofBits .f32 0x7F800000#32)) := by
    unfold Pre_finite.fn
    dsimp only
    pointwise []
    rfl
  rw [h] at e
  exact Common.finite_of_abs_lt _ e.symm

theorem finite3 [Cert.Pre_finite.Facts] (x0 : FVec Ideal Pre_finite.S2048x2048 .bf16) (x1 : FVec Ideal Pre_finite.S4x1408x2048 .bf16) (x2 x3 : FVec Ideal Pre_finite.S2048x5632 .bf16)
    (h : (Pre_finite.fn (F := Ideal) x0 x1 x2 x3).2.2 = fun _ => 1#1) (t : Fin 2048) (l : Fin 5632) : x3 (ix2 t l) ≠ ⊤ ∧ x3 (ix2 t l) ≠ ⊥ := by
  have e : (Pre_finite.fn (F := Ideal) x0 x1 x2 x3).2.2 (ix2 t l) = BitVec.ofBool (decide (FloatOps.absf (x3 (ix2 t l)) < Ideal.ofBits .f32 0x7F800000#32)) := by
    unfold Pre_finite.fn
    dsimp only
    pointwise []
    rfl
  rw [h] at e
  exact Common.finite_of_abs_lt _ e.symm

theorem ffn_ds_algebraic [Cert.Pre_finite.Facts] : Cert.algebraic_FfnDsIdeal_FfnDsRefIdeal_pre_finite := by
  intro m g m' g' hp hm
  refine ⟨fun c => FfnDsRefIdeal.Spec.da (m (c.tc.loc FfnDsIdeal.main_arg0)) (m (c.tc.loc FfnDsIdeal.main_arg1)) (m (c.tc.loc FfnDsIdeal.main_arg2)) (m (c.tc.loc FfnDsIdeal.main_arg3)),
    fun c => FfnDsRefIdeal.Spec.db (m (c.tc.loc FfnDsIdeal.main_arg0)) (m (c.tc.loc FfnDsIdeal.main_arg1)) (m (c.tc.loc FfnDsIdeal.main_arg2)), ?_, ?_⟩
  · refine (θ_run _ _ _).mono (fun r h c => ?_) (FfnDsIdeal.Value.run_blocks m g)
    exact ⟨(h c).1.trans (FfnDsIdeal.Tile.final4 m c), (h c).2.1.trans (FfnDsIdeal.Tile.final5 m c), (h c).2.2⟩
  · refine (θ_run _ _ _).mono (fun r h c => ?_) (FfnDsRefIdeal.Value.run m' g')
    obtain ⟨e0, e1, e2, e3⟩ := hm c
    obtain ⟨p0, p1, p3⟩ := hp c
    refine ⟨(h c).1.trans ?_, (h c).2.1.trans ?_, (h c).2.2⟩
    · refine (FfnDsRefIdeal.Read.val_main_v18_eq _ _ _ _).trans ?_
      refine Eq.trans ?_ (FfnDsRefIdeal.Spec.da_eq _ _ _ _ (finite0 _ _ _ _ p0) (finite1 _ _ _ _ p1) (finite3 _ _ _ _ p3))
      exact congr (congr (congr (congrArg FfnDsRefIdeal.Read.val_main_v18 e0) e1) e2) e3
    · refine (FfnDsRefIdeal.Read.val_main_v19_eq _ _ _).trans ((FfnDsRefIdeal.Spec.db_eq _ _ _).trans ?_)
      exact congr (congr (congrArg FfnDsRefIdeal.Spec.db e0) e1) e2

end Cert.Proof

end
-- ==== Proof.FfnGate.lean ====
module

public import proofs.«01_k».proof.Defs
public import proofs.«01_k».proof.Proof.Gen.FfnGateIdeal.Value
public import proofs.«01_k».proof.Proof.Gen.FfnGateRefIdeal.Run
public import proofs.«01_k».proof.Proof.Gen.FfnGateRefIdeal.Read
public import proofs.«01_k».proof.Proof.Common
public import Idealize.ShloMosaic.Lib.Pointwise
public import Idealize.ShloMosaic.Lib.Pipeline.ValueKit

@[expose] public section

set_option maxRecDepth 16384

noncomputable section

namespace Cert.FfnGateRefIdeal.Spec

open Cert.FfnGateRefIdeal Cert.FfnGateRefIdeal.Gen Cert.FfnGateRefIdeal.Read Idealize.ShloMosaic

/-- Column `l` of the weight whose columns come in four slabs. -/
def slab (x1 : FVec Ideal S4x2048x1408 .bf16) (k : Fin 2048) (l : Fin 5632) : EReal :=
  x1 (ix3 (⟨l.val / 1408, by omega⟩ : Fin 4) k (⟨l.val % 1408, by omega⟩ : Fin 1408))

theorem slab_at (x1 : FVec Ideal S4x2048x1408 .bf16) (k : Fin 2048) (n : Fin 4) (l : Fin 1408) (h : n.val * 1408 + l.val < 5632) :
    slab x1 k ⟨n.val * 1408 + l.val, h⟩ = x1 (ix3 n k l) :=
  congrArg₂ (fun p q => x1 (ix3 p k q)) (Fin.ext (by dsimp only; omega)) (Fin.ext (by dsimp only; omega))

/-- The product with the weight. -/
def grad (x0 : FVec Ideal S2048x2048 .bf16) (x1 : FVec Ideal S4x2048x1408 .bf16) : FVec Ideal S2048x5632 .bf16 := fun i =>
  ∑ k : Fin 2048, x0 (ix2 (i 0 : Fin 2048) k) * slab x1 k (i 1 : Fin 5632)

theorem grad_eq (x0 : FVec Ideal S2048x2048 .bf16) (x1 : FVec Ideal S4x2048x1408 .bf16) : val_main_v5 (F := Ideal) x0 x1 = grad x0 x1 := by
  funext i
  obtain ⟨t, l, rfl⟩ : ∃ (t : Fin 2048) (l : Fin 5632), i = ix2 t l := ⟨i 0, i 1, eq_ix2 i⟩
  pointwise [val_main_v5, val_main_v4, val_main_v3, val_main_v2, val_main_v1, val_main_v0]
  rfl

end Cert.FfnGateRefIdeal.Spec

namespace Cert.FfnGateIdeal.Tile

open Cert.FfnGateIdeal Cert.FfnGateIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val % 2, 0] ∧ win0_1.index t = ![t.val / 2, 0, 0] ∧ win0_2.index t = ![t.val % 2, t.val / 2] := by
  decide +kernel

theorem pay_apply (v0 : Vec Ideal S1024x2048 .bf16) (v1 : Vec Ideal S1x2048x1408 .bf16) (r : Fin 1024) (l : Fin 1408) :
    k0_pay1 v0 v1 (ix2 r l) = ∑ k : Fin 2048, v0 (ix2 r k) * v1 (ix3 0 k l) := by
  pointwise [k0_pay1]

/-- The slab of the point `t`. -/
def sl (t : Fin cfg0.N) : Fin 4 := ⟨t.val / 2, by have : t.val < 8 := t.isLt; omega⟩

theorem blk0 (c : Dev nD) (t : Fin cfg0.N) (r : Fin 1024) (k : Fin 2048) :
    iblk m c 0 t (ix2 r k) = m ((c : Thread nD τ).loc main_arg0) (ix2 (⟨t.val % 2 * 1024 + r.val, by omega⟩ : Fin 2048) k) := by
  blk_ext [iblk, V, index_all t]

theorem blk1 (c : Dev nD) (t : Fin cfg0.N) (k : Fin 2048) (l : Fin 1408) :
    iblk m c 1 t (ix3 0 k l) = m ((c : Thread nD τ).loc main_arg1) (ix3 (sl t) k l) := by
  blk_ext [iblk, V, index_all t, sl]

theorem emb_eq (t : Fin cfg0.N) (r : Fin 1024) (l : Fin 1408) : (win0_2.blk t).view.emb (ix2 r l)
    = ix2 (⟨t.val % 2 * 1024 + r.val, by omega⟩ : Fin 2048) (⟨(sl t).val * 1408 + l.val, by omega⟩ : Fin 5632) := by
  funext a
  apply Fin.ext
  fin_cases a
  · blk_simp [index_all t]
    rfl
  · blk_simp [index_all t]
    rfl

theorem final (c : Dev nD) : (dats m 0 c).arrAt 2 cfg0.N = Cert.FfnGateRefIdeal.Spec.grad (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 1024) (l : Fin 1408), y = ix2 r l := ⟨y 0, y 1, eq_ix2 y⟩
  refine Eq.trans ?_ (congrArg (Cert.FfnGateRefIdeal.Spec.grad _ _) (emb_eq t r l)).symm
  rw [after0_2]
  frame_out
  refine (pay_apply _ _ r l).trans (Finset.sum_congr rfl fun k _ => ?_)
  rw [blk0, blk1]
  exact congrArg (HMul.hMul (α := EReal) _) (Cert.FfnGateRefIdeal.Spec.slab_at _ k (sl t) l _).symm

end Cert.FfnGateIdeal.Tile

namespace Cert.Proof

open Idealize.ShloMosaic Idealize.ShloMosaic.TcCoe Idealize.SL.Sem

theorem ffn_gate_algebraic : Cert.algebraic_FfnGateIdeal_FfnGateRefIdeal := by
  intro m g m' g' _ hm
  refine ⟨fun c => FfnGateRefIdeal.Spec.grad (m (c.tc.loc FfnGateIdeal.main_arg0)) (m (c.tc.loc FfnGateIdeal.main_arg1)), ?_, ?_⟩
  · refine (θ_run _ _ _).mono (fun r h c => ?_) (FfnGateIdeal.Value.run_blocks m g)
    exact ⟨(h c).1.trans (FfnGateIdeal.Tile.final m c), (h c).2⟩
  · refine (θ_run _ _ _).mono (fun r h c => ?_) (FfnGateRefIdeal.Value.run m' g')
    obtain ⟨e0, e1⟩ := hm c
    refine ⟨(h c).1.trans ((FfnGateRefIdeal.Read.val_main_v5_eq _ _).trans ((FfnGateRefIdeal.Spec.grad_eq _ _).trans ?_)), (h c).2⟩
    exact congr (congrArg FfnGateRefIdeal.Spec.grad e0) e1

end Cert.Proof

end
-- ==== Proof.FfnUp.lean ====
module

public import proofs.«01_k».proof.Defs
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Common
public import Idealize.ShloMosaic.Lib.Pointwise
public import Idealize.ShloMosaic.Lib.Pipeline.ValueKit

@[expose] public section

set_option maxRecDepth 16384

noncomputable section

namespace Cert.FfnUpRefIdeal.Spec

open Cert.FfnUpRefIdeal Cert.FfnUpRefIdeal.Gen Cert.FfnUpRefIdeal.Read Idealize.ShloMosaic

/-- Column `l` of the weight whose columns come in four slabs. -/
def slab (x1 : FVec Ideal S4x2048x1408 .bf16) (k : Fin 2048) (l : Fin 5632) : EReal :=
  x1 (ix3 (⟨l.val / 1408, by omega⟩ : Fin 4) k (⟨l.val % 1408, by omega⟩ : Fin 1408))

theorem slab_at (x1 : FVec Ideal S4x2048x1408 .bf16) (k : Fin 2048) (n : Fin 4) (l : Fin 1408) (h : n.val * 1408 + l.val < 5632) :
    slab x1 k ⟨n.val * 1408 + l.val, h⟩ = x1 (ix3 n k l) :=
  congrArg₂ (fun p q => x1 (ix3 p k q)) (Fin.ext (by dsimp only; omega)) (Fin.ext (by dsimp only; omega))

def entry (x0 : FVec Ideal S2048x2048 .bf16) (x1 : FVec Ideal S4x2048x1408 .bf16) (t : Fin 2048) (l : Fin 5632) : EReal :=
  ∑ k : Fin 2048, x0 (ix2 t k) * slab x1 k l

/-- The product with the weight. -/
def b (x0 : FVec Ideal S2048x2048 .bf16) (x1 : FVec Ideal S4x2048x1408 .bf16) : FVec Ideal S2048x5632 .bf16 := fun i =>
  entry x0 x1 (i 0 : Fin 2048) (i 1 : Fin 5632)

/-- The gated product. -/
def s (x0 : FVec Ideal S2048x2048 .bf16) (x1 : FVec Ideal S4x2048x1408 .bf16) (x2 : FVec Ideal S2048x5632 .bf16) : FVec Ideal S2048x5632 .bf16 := fun i =>
  x2 (ix2 (i 0 : Fin 2048) (i 1 : Fin 5632)) * Ideal.logistic (x2 (ix2 (i 0 : Fin 2048) (i 1 : Fin 5632))) * entry x0 x1 (i 0 : Fin 2048) (i 1 : Fin 5632)

theorem b_eq (x0 : FVec Ideal S2048x2048 .bf16) (x1 : FVec Ideal S4x2048x1408 .bf16) : val_main_v6 (F := Ideal) x0 x1 = b x0 x1 := by
  funext i
  obtain ⟨t, l, rfl⟩ : ∃ (t : Fin 2048) (l : Fin 5632), i = ix2 t l := ⟨i 0, i 1, eq_ix2 i⟩
  pointwise [val_main_v6, val_main_v5, val_main_v4, val_main_v3, val_main_v1, val_main_v0]
  rfl

theorem s_eq (x0 : FVec Ideal S2048x2048 .bf16) (x1 : FVec Ideal S4x2048x1408 .bf16) (x2 : FVec Ideal S2048x5632 .bf16) :
    val_main_v9 (F := Ideal) x0 x1 x2 = s x0 x1 x2 := by
  funext i
  obtain ⟨t, l, rfl⟩ : ∃ (t : Fin 2048) (l : Fin 5632), i = ix2 t l := ⟨i 0, i 1, eq_ix2 i⟩
  pointwise [val_main_v9, val_main_v8, val_main_v7, val_main_call0_v5, val_main_call0_v4, val_main_call0_cst_0, val_main_call0_v3, val_main_call0_v2, val_main_call0_cst, val_main_call0_v1, val_main_call0_v0, val_main_v5, val_main_v4, val_main_v3, val_main_v2, val_main_v1, val_main_v0]
  rfl

end Cert.FfnUpRefIdeal.Spec

namespace Cert.FfnUpIdeal.Tile

open Cert.FfnUpIdeal Cert.FfnUpIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val % 2, 0] ∧ win0_1.index t = ![t.val / 2, 0, 0] ∧ win0_2.index t = ![t.val % 2, t.val / 2]
    ∧ win0_3.index t = ![t.val % 2, t.val / 2] ∧ win0_4.index t = ![t.val % 2, t.val / 2] := by
  decide +kernel

/-- The tile's product. -/
def dot (x0 : Vec Ideal S1024x2048 .bf16) (x1 : Vec Ideal S1x2048x1408 .bf16) (r : Fin 1024) (l : Fin 1408) : EReal :=
  ∑ k : Fin 2048, x0 (ix2 r k) * x1 (ix3 0 k l)

theorem out3_apply (x0 : Vec Ideal S1024x2048 .bf16) (x1 : Vec Ideal S1x2048x1408 .bf16) (x2 : Vec Ideal S1024x1408 .bf16) (r : Fin 1024) (l : Fin 1408) :
    out0_3 x0 x1 x2 (ix2 r l) = dot x0 x1 r l := by
  unfold_out out0_3
  canon_tiles x h
  all_goals
    obtain ⟨p, q, rfl⟩ : ∃ (p : Fin 256) (q : Fin 1408), x = ix2 p q := ⟨x 0, x 1, eq_ix2 x⟩
    obtain rfl : l = q := Fin.ext h1
    obtain ⟨r, hr⟩ := r
    have e0 : r = _ := h0
    subst e0
    pointwise [k0_pay1, k0_pay2, k0_pay3, k0_pay4, k0_pay5, k0_pay6, k0_pay7, k0_pay8, k0_pay9, k0_pay10, k0_pay11, k0_pay12, k0_pay13, k0_pay14, k0_pay15]
    rfl

theorem out4_apply (x0 : Vec Ideal S1024x2048 .bf16) (x1 : Vec Ideal S1x2048x1408 .bf16) (x2 : Vec Ideal S1024x1408 .bf16) (r : Fin 1024) (l : Fin 1408) :
    out0_4 x0 x1 x2 (ix2 r l) = x2 (ix2 r l) * Ideal.logistic (x2 (ix2 r l)) * dot x0 x1 r l := by
  unfold_out out0_4
  canon_tiles x h
  all_goals
    obtain ⟨p, q, rfl⟩ : ∃ (p : Fin 256) (q : Fin 1408), x = ix2 p q := ⟨x 0, x 1, eq_ix2 x⟩
    obtain rfl : l = q := Fin.ext h1
    obtain ⟨r, hr⟩ := r
    have e0 : r = _ := h0
    subst e0
    pointwise [k0_pay1, k0_pay2, k0_pay3, k0_pay4, k0_pay5, k0_pay6, k0_pay7, k0_pay8, k0_pay9, k0_pay10, k0_pay11, k0_pay12, k0_pay13, k0_pay14, k0_pay15]
    rfl

/-- The slab of the point `t`, and the row and the column of its tile's entry `(r, l)`. -/
def sl (t : Fin cfg0.N) : Fin 4 := ⟨t.val / 2, by have : t.val < 8 := t.isLt; omega⟩
def row (t : Fin cfg0.N) (r : Fin 1024) : Fin 2048 := ⟨t.val % 2 * 1024 + r.val, by omega⟩
def col (t : Fin cfg0.N) (l : Fin 1408) : Fin 5632 := ⟨(sl t).val * 1408 + l.val, by omega⟩

theorem blk0 (c : Dev nD) (t : Fin cfg0.N) (r : Fin 1024) (k : Fin 2048) :
    iblk m c 0 t (ix2 r k) = m ((c : Thread nD τ).loc main_arg0) (ix2 (row t r) k) := by
  blk_ext [iblk, V, index_all t, row]

theorem blk1 (c : Dev nD) (t : Fin cfg0.N) (k : Fin 2048) (l : Fin 1408) :
    iblk m c 1 t (ix3 0 k l) = m ((c : Thread nD τ).loc main_arg1) (ix3 (sl t) k l) := by
  blk_ext [iblk, V, index_all t, sl]

theorem blk2 (c : Dev nD) (t : Fin cfg0.N) (r : Fin 1024) (l : Fin 1408) :
    iblk m c 2 t (ix2 r l) = m ((c : Thread nD τ).loc main_arg2) (ix2 (row t r) (col t l)) := by
  blk_ext [iblk, V, index_all t, row, col, sl]

theorem dot_eq (c : Dev nD) (t : Fin cfg0.N) (r : Fin 1024) (l : Fin 1408) :
    dot (iblk m c 0 t) (iblk m c 1 t) r l = Cert.FfnUpRefIdeal.Spec.entry (m ((c : Thread nD τ).loc main_arg0)) (m ((c : Thread nD τ).loc main_arg1)) (row t r) (col t l) := by
  refine Finset.sum_congr rfl fun k _ => ?_
  rw [blk0, blk1]
  exact congrArg (HMul.hMul (α := EReal) _) (Cert.FfnUpRefIdeal.Spec.slab_at _ k (sl t) l _).symm

theorem emb3 (t : Fin cfg0.N) (r : Fin 1024) (l : Fin 1408) : (win0_3.blk t).view.emb (ix2 r l) = ix2 (row t r) (col t l) := by
  funext a
  apply Fin.ext
  fin_cases a
  · blk_simp [index_all t]
    rfl
  · blk_simp [index_all t]
    rfl

theorem at3 (c : Dev nD) (t : Fin cfg0.N) (r : Fin 1024) (l : Fin 1408) :
    out0_3 (iblk m c 0 t) (iblk m c 1 t) (iblk m c 2 t) (ix2 r l) = Cert.FfnUpRefIdeal.Spec.b (m ((c : Thread nD τ).loc main_arg0)) (m ((c : Thread nD τ).loc main_arg1)) (ix2 (row t r) (col t l)) := by
  refine (out3_apply _ _ _ r l).trans ?_
  rw [dot_eq]
  rfl

theorem final_b (c : Dev nD) : (dats m 0 c).arrAt 3 cfg0.N = Cert.FfnUpRefIdeal.Spec.b (m ((c : Thread nD τ).loc main_arg0)) (m ((c : Thread nD τ).loc main_arg1)) := by
  refine (dats m 0 c).arrAt_eq_of_covers 3 _ (by decide +kernel) fun t hf y => ?_
  obtain ⟨r, l, rfl⟩ : ∃ (r : Fin 1024) (l : Fin 1408), y = ix2 r l := ⟨y 0, y 1, eq_ix2 y⟩
  refine Eq.trans ?_ (congrArg (Cert.FfnUpRefIdeal.Spec.b _ _) (emb3 t r l)).symm
  rw [after0_3]
  have hx : (win0_3).xinj (grid0.coords t) (ix2 r l) = ix2 r l := by
    funext a
    fin_cases a <;> rfl
  exact (cast_eq _ _).trans ((congrArg (out0_3 _ _ _) hx).trans (at3 m c t r l))

theorem emb4 (t : Fin cfg0.N) (r : Fin 1024) (l : Fin 1408) : (win0_4.blk t).view.emb (ix2 r l) = ix2 (row t r) (col t l) := by
  funext a
  apply Fin.ext
  fin_cases a
  · blk_simp [index_all t]
    rfl
  · blk_simp [index_all t]
    rfl

theorem at4 (c : Dev nD) (t : Fin cfg0.N) (r : Fin 1024) (l : Fin 1408) :
    out0_4 (iblk m c 0 t) (iblk m c 1 t) (iblk m c 2 t) (ix2 r l) = Cert.FfnUpRefIdeal.Spec.s (m ((c : Thread nD τ).loc main_arg0)) (m ((c : Thread nD τ).loc main_arg1)) (m ((c : Thread nD τ).loc main_arg2)) (ix2 (row t r) (col t l)) := by
  refine (out4_apply _ _ _ r l).trans ?_
  rw [dot_eq, blk2]
  rfl

theorem final_s (c : Dev nD) : (dats m 0 c).arrAt 4 cfg0.N = Cert.FfnUpRefIdeal.Spec.s (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨r, l, rfl⟩ : ∃ (r : Fin 1024) (l : Fin 1408), y = ix2 r l := ⟨y 0, y 1, eq_ix2 y⟩
  refine Eq.trans ?_ (congrArg (Cert.FfnUpRefIdeal.Spec.s _ _ _) (emb4 t r l)).symm
  rw [after0_4]
  have hx : (win0_4).xinj (grid0.coords t) (ix2 r l) = ix2 r l := by
    funext a
    fin_cases a <;> rfl
  exact (cast_eq _ _).trans ((congrArg (out0_4 _ _ _) hx).trans (at4 m c t r l))

end Cert.FfnUpIdeal.Tile

namespace Cert.Proof

open Idealize.ShloMosaic Idealize.ShloMosaic.TcCoe Idealize.SL.Sem

theorem ffn_up_algebraic : Cert.algebraic_FfnUpIdeal_FfnUpRefIdeal := by
  intro m g m' g' _ hm
  refine ⟨fun c => FfnUpRefIdeal.Spec.b (m (c.tc.loc FfnUpIdeal.main_arg0)) (m (c.tc.loc FfnUpIdeal.main_arg1)), fun c => FfnUpRefIdeal.Spec.s (m (c.tc.loc FfnUpIdeal.main_arg0)) (m (c.tc.loc FfnUpIdeal.main_arg1)) (m (c.tc.loc FfnUpIdeal.main_arg2)), ?_, ?_⟩
  · refine (θ_run _ _ _).mono (fun r h c => ?_) (FfnUpIdeal.Value.run_blocks m g)
    exact ⟨(h c).1.trans (FfnUpIdeal.Tile.final_b m c), (h c).2.1.trans (FfnUpIdeal.Tile.final_s m c), (h c).2.2⟩
  · refine (θ_run _ _ _).mono (fun r h c => ?_) (FfnUpRefIdeal.Value.run m' g')
    obtain ⟨e0, e1, e2⟩ := hm c
    refine ⟨(h c).1.trans ?_, (h c).2.1.trans ?_, (h c).2.2⟩
    · refine (FfnUpRefIdeal.Read.val_main_v6_eq _ _).trans ((FfnUpRefIdeal.Spec.b_eq _ _).trans ?_)
      exact congr (congrArg FfnUpRefIdeal.Spec.b e0) e1
    · refine (FfnUpRefIdeal.Read.val_main_v9_eq _ _ _).trans ((FfnUpRefIdeal.Spec.s_eq _ _ _).trans ?_)
      exact congr (congr (congrArg FfnUpRefIdeal.Spec.s e0) e1) e2

end Cert.Proof

end
-- ==== Proof.FfnDown.lean ====
module

public import proofs.«01_k».proof.Defs
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Common
public import Idealize.ShloMosaic.Lib.Pointwise
public import Idealize.ShloMosaic.Lib.Pipeline.ValueKit

@[expose] public section

set_option maxRecDepth 16384

noncomputable section

namespace Cert.FfnDownRefIdeal.Spec

open Cert.FfnDownRefIdeal Cert.FfnDownRefIdeal.Gen Cert.FfnDownRefIdeal.Read Idealize.ShloMosaic

/-- The residual plus half the product with the weight, whose rows come in four slabs. -/
def grad (x0 : FVec Ideal S2048x5632 .bf16) (x1 : FVec Ideal S4x1408x2048 .bf16) (x2 : FVec Ideal S2048x2048 .f32) : FVec Ideal S2048x2048 .f32 := fun i =>
  x2 (ix2 (i 0 : Fin 2048) (i 1 : Fin 2048))
    + Common.half * ∑ l : Fin 5632, x0 (ix2 (i 0 : Fin 2048) l) * x1 (ix3 (⟨l.val / 1408, by omega⟩ : Fin 4) (⟨l.val % 1408, by omega⟩ : Fin 1408) (i 1 : Fin 2048))

theorem grad_eq (x0 : FVec Ideal S2048x5632 .bf16) (x1 : FVec Ideal S4x1408x2048 .bf16) (x2 : FVec Ideal S2048x2048 .f32) :
    val_main_v6 (F := Ideal) x0 x1 x2 = grad x0 x1 x2 := by
  funext i
  obtain ⟨t, l, rfl⟩ : ∃ t l : Fin 2048, i = ix2 t l := ⟨i 0, i 1, eq_ix2 i⟩
  pointwise [val_main_v6, val_main_v5, val_main_v4, val_main_cst, val_main_v3, val_main_v2, val_main_v1, val_main_v0]
  rfl

end Cert.FfnDownRefIdeal.Spec

namespace Cert.FfnDownIdeal.Tile

open Cert.FfnDownIdeal Cert.FfnDownIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val / 8, 0] ∧ win0_1.index t = ![0, 0, t.val % 8] ∧ win0_2.index t = ![t.val / 8, t.val % 8] ∧ win0_3.index t = ![t.val / 8, t.val % 8] := by
  decide +kernel

theorem pay_apply (v0 : Vec Ideal S1024x256 .f32) (v1 : Vec Ideal S1024x5632 .bf16) (v2 : Vec Ideal S4x1408x256 .bf16) (r : Fin 1024) (d : Fin 256) :
    k0_pay1 v0 v1 v2 (ix2 r d)
      = v0 (ix2 r d) + Common.half * ∑ l : Fin 5632, v1 (ix2 r l) * v2 (ix3 (⟨l.val / 1408, by omega⟩ : Fin 4) (⟨l.val % 1408, by omega⟩ : Fin 1408) d) := by
  pointwise [k0_pay1]
  rfl

def row (t : Fin cfg0.N) (r : Fin 1024) : Fin 2048 := ⟨t.val / 8 * 1024 + r.val, by have : t.val < 16 := t.isLt; omega⟩
def col (t : Fin cfg0.N) (d : Fin 256) : Fin 2048 := ⟨t.val % 8 * 256 + d.val, by omega⟩

theorem blk0 (c : Dev nD) (t : Fin cfg0.N) (r : Fin 1024) (l : Fin 5632) :
    iblk m c 0 t (ix2 r l) = m ((c : Thread nD τ).loc main_arg0) (ix2 (row t r) l) := by
  blk_ext [iblk, V, index_all t, row]

theorem blk1 (c : Dev nD) (t : Fin cfg0.N) (n : Fin 4) (l : Fin 1408) (d : Fin 256) :
    iblk m c 1 t (ix3 n l d) = m ((c : Thread nD τ).loc main_arg1) (ix3 n l (col t d)) := by
  blk_ext [iblk, V, index_all t, col]

theorem blk2 (c : Dev nD) (t : Fin cfg0.N) (r : Fin 1024) (d : Fin 256) :
    iblk m c 2 t (ix2 r d) = m ((c : Thread nD τ).loc main_arg2) (ix2 (row t r) (col t d)) := by
  blk_ext [iblk, V, index_all t, row, col]

theorem emb_eq (t : Fin cfg0.N) (r : Fin 1024) (d : Fin 256) : (win0_3.blk t).view.emb (ix2 r d) = ix2 (row t r) (col t d) := by
  funext a
  apply Fin.ext
  fin_cases a
  · blk_simp [index_all t]
    rfl
  · blk_simp [index_all t]
    rfl

theorem final (c : Dev nD) : (dats m 0 c).arrAt 3 cfg0.N = Cert.FfnDownRefIdeal.Spec.grad (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, d, rfl⟩ : ∃ (r : Fin 1024) (d : Fin 256), y = ix2 r d := ⟨y 0, y 1, eq_ix2 y⟩
  refine Eq.trans ?_ (congrArg (Cert.FfnDownRefIdeal.Spec.grad _ _ _) (emb_eq t r d)).symm
  rw [after0_3]
  frame_out
  refine (pay_apply _ _ _ r d).trans ?_
  simp only [blk0, blk1, blk2]
  rfl

end Cert.FfnDownIdeal.Tile

namespace Cert.Proof

open Idealize.ShloMosaic Idealize.ShloMosaic.TcCoe Idealize.SL.Sem

theorem ffn_down_algebraic : Cert.algebraic_FfnDownIdeal_FfnDownRefIdeal := by
  intro m g m' g' _ hm
  refine ⟨fun c => FfnDownRefIdeal.Spec.grad (m (c.tc.loc FfnDownIdeal.main_arg0)) (m (c.tc.loc FfnDownIdeal.main_arg1)) (m (c.tc.loc FfnDownIdeal.main_arg2)), ?_, ?_⟩
  · refine (θ_run _ _ _).mono (fun r h c => ?_) (FfnDownIdeal.Value.run_blocks m g)
    exact ⟨(h c).1.trans (FfnDownIdeal.Tile.final m c), (h c).2⟩
  · refine (θ_run _ _ _).mono (fun r h c => ?_) (FfnDownRefIdeal.Value.run m' g')
    obtain ⟨e0, e1, e2⟩ := hm c
    refine ⟨(h c).1.trans ((FfnDownRefIdeal.Read.val_main_v6_eq _ _ _).trans ((FfnDownRefIdeal.Spec.grad_eq _ _ _).trans ?_)), (h c).2⟩
    exact congr (congr (congrArg FfnDownRefIdeal.Spec.grad e0) e1) e2

end Cert.Proof

end
-- ==== Proof.XaDo.lean ====
module

public import proofs.«01_k».proof.Defs
public import proofs.«01_k».proof.Proof.Gen.XaDoIdeal.Value
public import proofs.«01_k».proof.Proof.Gen.XaDoRefIdeal.Run
public import proofs.«01_k».proof.Proof.Gen.XaDoRefIdeal.Read
public import proofs.«01_k».proof.Proof.Common
public import Idealize.ShloMosaic.Lib.Pointwise
public import Idealize.ShloMosaic.Lib.Pipeline.ValueKit

@[expose] public section

set_option maxRecDepth 16384

noncomputable section

namespace Cert.XaDoRefIdeal.Spec

open Cert.XaDoRefIdeal Cert.XaDoRefIdeal.Gen Cert.XaDoRefIdeal.Read Idealize.ShloMosaic

/-- The gradient of the first factor of the product with the weight. -/
def grad (x0 : FVec Ideal S2048x2048 .bf16) (x1 : FVec Ideal S4x512x2048 .bf16) : FVec Ideal S2048x2048 .bf16 := fun i =>
  ∑ n : Fin 2048, x0 (ix2 (i 0 : Fin 2048) n) * Common.slab x1 (i 1 : Fin 2048) n

theorem grad_eq (x0 : FVec Ideal S2048x2048 .bf16) (x1 : FVec Ideal S4x512x2048 .bf16) : val_main_v6 (F := Ideal) x0 x1 = grad x0 x1 := by
  funext i
  obtain ⟨t, k, rfl⟩ : ∃ t k : Fin 2048, i = ix2 t k := ⟨i 0, i 1, eq_ix2 i⟩
  pointwise [val_main_v6, val_main_v5, val_main_v3, val_main_v1, val_main_v0]
  rfl

end Cert.XaDoRefIdeal.Spec

namespace Cert.XaDoIdeal.Tile

open Cert.XaDoIdeal Cert.XaDoIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val / 4, 0] ∧ win0_1.index t = ![t.val % 4, 0, 0] ∧ win0_2.index t = ![t.val / 4, t.val % 4] := by
  decide +kernel

theorem pay_apply (v0 : Vec Ideal S1024x2048 .bf16) (v1 : Vec Ideal S1x512x2048 .bf16) (r : Fin 1024) (l : Fin 512) :
    k0_pay1 v0 v1 (ix2 r l) = ∑ n : Fin 2048, v0 (ix2 r n) * v1 (ix3 0 l n) := by
  pointwise [k0_pay1]

def sl (t : Fin cfg0.N) : Fin 4 := ⟨t.val % 4, by omega⟩
def row (t : Fin cfg0.N) (r : Fin 1024) : Fin 2048 := ⟨t.val / 4 * 1024 + r.val, by have : t.val < 8 := t.isLt; omega⟩

theorem blk0 (c : Dev nD) (t : Fin cfg0.N) (r : Fin 1024) (n : Fin 2048) :
    iblk m c 0 t (ix2 r n) = m ((c : Thread nD τ).loc main_arg0) (ix2 (row t r) n) := by
  blk_ext [iblk, V, index_all t, row]

theorem blk1 (c : Dev nD) (t : Fin cfg0.N) (l : Fin 512) (n : Fin 2048) :
    iblk m c 1 t (ix3 0 l n) = m ((c : Thread nD τ).loc main_arg1) (ix3 (sl t) l n) := by
  blk_ext [iblk, V, index_all t, sl]

theorem emb_eq (t : Fin cfg0.N) (r : Fin 1024) (l : Fin 512) : (win0_2.blk t).view.emb (ix2 r l)
    = ix2 (row t r) (⟨(sl t).val * 512 + l.val, by omega⟩ : Fin 2048) := by
  funext a
  apply Fin.ext
  fin_cases a
  · blk_simp [index_all t]
    rfl
  · blk_simp [index_all t]
    rfl

theorem final (c : Dev nD) : (dats m 0 c).arrAt 2 cfg0.N = Cert.XaDoRefIdeal.Spec.grad (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 1024) (l : Fin 512), y = ix2 r l := ⟨y 0, y 1, eq_ix2 y⟩
  refine Eq.trans ?_ (congrArg (Cert.XaDoRefIdeal.Spec.grad _ _) (emb_eq t r l)).symm
  rw [after0_2]
  frame_out
  refine (pay_apply _ _ r l).trans (Finset.sum_congr rfl fun n _ => ?_)
  rw [blk0, blk1]
  exact congrArg (HMul.hMul (α := EReal) _) (Cert.Common.slab_at _ (sl t) l n _).symm

end Cert.XaDoIdeal.Tile

namespace Cert.Proof

open Idealize.ShloMosaic Idealize.ShloMosaic.TcCoe Idealize.SL.Sem

theorem xa_do_algebraic : Cert.algebraic_XaDoIdeal_XaDoRefIdeal := by
  intro m g m' g' _ hm
  refine ⟨fun c => XaDoRefIdeal.Spec.grad (m (c.tc.loc XaDoIdeal.main_arg0)) (m (c.tc.loc XaDoIdeal.main_arg1)), ?_, ?_⟩
  · refine (θ_run _ _ _).mono (fun r h c => ?_) (XaDoIdeal.Value.run_blocks m g)
    exact ⟨(h c).1.trans (XaDoIdeal.Tile.final m c), (h c).2⟩
  · refine (θ_run _ _ _).mono (fun r h c => ?_) (XaDoRefIdeal.Value.run m' g')
    obtain ⟨e0, e1⟩ := hm c
    refine ⟨(h c).1.trans ((XaDoRefIdeal.Read.val_main_v6_eq _ _).trans ((XaDoRefIdeal.Spec.grad_eq _ _).trans ?_)), (h c).2⟩
    exact congr (congrArg XaDoRefIdeal.Spec.grad e0) e1

end Cert.Proof

end
-- ==== Proof.XaDhq.lean ====
module

public import proofs.«01_k».proof.Defs
public import proofs.«01_k».proof.Proof.Gen.XaDhqIdeal.Value
public import proofs.«01_k».proof.Proof.Gen.XaDhqRefIdeal.Run
public import proofs.«01_k».proof.Proof.Gen.XaDhqRefIdeal.Read
public import proofs.«01_k».proof.Proof.Common
public import Idealize.ShloMosaic.Lib.Pointwise
public import Idealize.ShloMosaic.Lib.Pipeline.ValueKit

@[expose] public section

set_option maxRecDepth 16384

noncomputable section

namespace Cert.XaDhqRefIdeal.Spec

open Cert.XaDhqRefIdeal Cert.XaDhqRefIdeal.Gen Cert.XaDhqRefIdeal.Read Idealize.ShloMosaic

/-- The gradient of the first factor of the product with the weight. -/
def grad (x0 : FVec Ideal S2048x2048 .bf16) (x1 : FVec Ideal S4x512x2048 .bf16) : FVec Ideal S2048x2048 .f32 := fun i =>
  ∑ n : Fin 2048, x0 (ix2 (i 0 : Fin 2048) n) * Common.slab x1 (i 1 : Fin 2048) n

theorem grad_eq (x0 : FVec Ideal S2048x2048 .bf16) (x1 : FVec Ideal S4x512x2048 .bf16) : val_main_v5 (F := Ideal) x0 x1 = grad x0 x1 := by
  funext i
  obtain ⟨t, k, rfl⟩ : ∃ t k : Fin 2048, i = ix2 t k := ⟨i 0, i 1, eq_ix2 i⟩
  pointwise [val_main_v5, val_main_v3, val_main_v1, val_main_v0]
  rfl

end Cert.XaDhqRefIdeal.Spec

namespace Cert.XaDhqIdeal.Tile

open Cert.XaDhqIdeal Cert.XaDhqIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val / 4, 0] ∧ win0_1.index t = ![t.val % 4, 0, 0] ∧ win0_2.index t = ![t.val / 4, t.val % 4] := by
  decide +kernel

theorem pay_apply (v0 : Vec Ideal S1024x2048 .bf16) (v1 : Vec Ideal S1x512x2048 .bf16) (r : Fin 1024) (l : Fin 512) :
    k0_pay1 v0 v1 (ix2 r l) = ∑ n : Fin 2048, v0 (ix2 r n) * v1 (ix3 0 l n) := by
  pointwise [k0_pay1]

def sl (t : Fin cfg0.N) : Fin 4 := ⟨t.val % 4, by omega⟩
def row (t : Fin cfg0.N) (r : Fin 1024) : Fin 2048 := ⟨t.val / 4 * 1024 + r.val, by have : t.val < 8 := t.isLt; omega⟩

theorem blk0 (c : Dev nD) (t : Fin cfg0.N) (r : Fin 1024) (n : Fin 2048) :
    iblk m c 0 t (ix2 r n) = m ((c : Thread nD τ).loc main_arg0) (ix2 (row t r) n) := by
  blk_ext [iblk, V, index_all t, row]

theorem blk1 (c : Dev nD) (t : Fin cfg0.N) (l : Fin 512) (n : Fin 2048) :
    iblk m c 1 t (ix3 0 l n) = m ((c : Thread nD τ).loc main_arg1) (ix3 (sl t) l n) := by
  blk_ext [iblk, V, index_all t, sl]

theorem emb_eq (t : Fin cfg0.N) (r : Fin 1024) (l : Fin 512) : (win0_2.blk t).view.emb (ix2 r l)
    = ix2 (row t r) (⟨(sl t).val * 512 + l.val, by omega⟩ : Fin 2048) := by
  funext a
  apply Fin.ext
  fin_cases a
  · blk_simp [index_all t]
    rfl
  · blk_simp [index_all t]
    rfl

theorem final (c : Dev nD) : (dats m 0 c).arrAt 2 cfg0.N = Cert.XaDhqRefIdeal.Spec.grad (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 1024) (l : Fin 512), y = ix2 r l := ⟨y 0, y 1, eq_ix2 y⟩
  refine Eq.trans ?_ (congrArg (Cert.XaDhqRefIdeal.Spec.grad _ _) (emb_eq t r l)).symm
  rw [after0_2]
  frame_out
  refine (pay_apply _ _ r l).trans (Finset.sum_congr rfl fun n _ => ?_)
  rw [blk0, blk1]
  exact congrArg (HMul.hMul (α := EReal) _) (Cert.Common.slab_at _ (sl t) l n _).symm

end Cert.XaDhqIdeal.Tile

namespace Cert.Proof

open Idealize.ShloMosaic Idealize.ShloMosaic.TcCoe Idealize.SL.Sem

theorem xa_dhq_algebraic : Cert.algebraic_XaDhqIdeal_XaDhqRefIdeal := by
  intro m g m' g' _ hm
  refine ⟨fun c => XaDhqRefIdeal.Spec.grad (m (c.tc.loc XaDhqIdeal.main_arg0)) (m (c.tc.loc XaDhqIdeal.main_arg1)), ?_, ?_⟩
  · refine (θ_run _ _ _).mono (fun r h c => ?_) (XaDhqIdeal.Value.run_blocks m g)
    exact ⟨(h c).1.trans (XaDhqIdeal.Tile.final m c), (h c).2⟩
  · refine (θ_run _ _ _).mono (fun r h c => ?_) (XaDhqRefIdeal.Value.run m' g')
    obtain ⟨e0, e1⟩ := hm c
    refine ⟨(h c).1.trans ((XaDhqRefIdeal.Read.val_main_v5_eq _ _).trans ((XaDhqRefIdeal.Spec.grad_eq _ _).trans ?_)), (h c).2⟩
    exact congr (congrArg XaDhqRefIdeal.Spec.grad e0) e1

end Cert.Proof

end
-- ==== Proof.XaDmn.lean ====
module

public import proofs.«01_k».proof.Defs
public import proofs.«01_k».proof.Proof.Gen.XaDmnIdeal.Value
public import proofs.«01_k».proof.Proof.Gen.XaDmnRefIdeal.Run
public import proofs.«01_k».proof.Proof.Gen.XaDmnRefIdeal.Read
public import proofs.«01_k».proof.Proof.Common
public import Idealize.ShloMosaic.Lib.Pointwise
public import Idealize.ShloMosaic.Lib.Pipeline.ValueKit

@[expose] public section

set_option maxRecDepth 16384

noncomputable section

namespace Cert.XaDmnRefIdeal.Spec

open Cert.XaDmnRefIdeal Cert.XaDmnRefIdeal.Gen Cert.XaDmnRefIdeal.Read Idealize.ShloMosaic

def entry (x0 : FVec Ideal S256x2048 .f32) (x1 : FVec Ideal S4x512x2048 .bf16) (t : Fin 256) (k : Fin 2048) : EReal :=
  ∑ n : Fin 2048, x0 (ix2 t n) * Common.slab x1 k n

/-- The gradient of the common first factor of the two products. -/
def grad (x0 : FVec Ideal S256x2048 .f32) (x1 : FVec Ideal S4x512x2048 .bf16) (x2 : FVec Ideal S256x2048 .f32) (x3 : FVec Ideal S4x512x2048 .bf16) : FVec Ideal S256x2048 .f32 := fun i =>
  entry x0 x1 (i 0 : Fin 256) (i 1 : Fin 2048) + entry x2 x3 (i 0 : Fin 256) (i 1 : Fin 2048)

theorem grad_eq (x0 : FVec Ideal S256x2048 .f32) (x1 : FVec Ideal S4x512x2048 .bf16) (x2 : FVec Ideal S256x2048 .f32) (x3 : FVec Ideal S4x512x2048 .bf16) :
    val_main_v9 (F := Ideal) x0 x1 x2 x3 = grad x0 x1 x2 x3 := by
  funext i
  obtain ⟨t, k, rfl⟩ : ∃ (t : Fin 256) (k : Fin 2048), i = ix2 t k := ⟨i 0, i 1, eq_ix2 i⟩
  pointwise [val_main_v9, val_main_v8, val_main_v7, val_main_v5, val_main_v3, val_main_v1, val_main_v0]
  rw [add_comm]
  rfl

end Cert.XaDmnRefIdeal.Spec

namespace Cert.XaDmnIdeal.Tile

open Cert.XaDmnIdeal Cert.XaDmnIdeal.Gen Idealize.ShloMosaic Idealize.ShloMosaic.TcCoe Idealize.SL.Sem

variable (m : (ℓ : Loc nD τ sig) → Buf (Elt Ideal) ℓ)

theorem index_all : ∀ t : Fin grid0.N, win0_0.index t = ![0, 0] ∧ win0_1.index t = ![t.val, 0, 0] ∧ win0_2.index t = ![0, 0] ∧ win0_3.index t = ![t.val, 0, 0] ∧ win0_4.index t = ![0, t.val] := by
  decide +kernel

theorem pay_apply (v0 : Vec Ideal S256x2048 .f32) (v1 : Vec Ideal S1x512x2048 .bf16) (v2 : Vec Ideal S256x2048 .f32) (v3 : Vec Ideal S1x512x2048 .bf16) (r : Fin 256) (l : Fin 512) :
    k0_pay1 v0 v1 v2 v3 (ix2 r l) = ∑ n : Fin 2048, v0 (ix2 r n) * v1 (ix3 0 l n) + ∑ n : Fin 2048, v2 (ix2 r n) * v3 (ix3 0 l n) := by
  pointwise [k0_pay1]

def sl (t : Fin cfg0.N) : Fin 4 := ⟨t.val, t.isLt⟩

theorem blk0 (c : Dev nD) (t : Fin cfg0.N) (r : Fin 256) (n : Fin 2048) : iblk m c 0 t (ix2 r n) = m ((c : Thread nD τ).loc main_arg0) (ix2 r n) := by
  blk_ext [iblk, V, index_all t]

theorem blk1 (c : Dev nD) (t : Fin cfg0.N) (l : Fin 512) (n : Fin 2048) : iblk m c 1 t (ix3 0 l n) = m ((c : Thread nD τ).loc main_arg1) (ix3 (sl t) l n) := by
  blk_ext [iblk, V, index_all t, sl]

theorem blk2 (c : Dev nD) (t : Fin cfg0.N) (r : Fin 256) (n : Fin 2048) : iblk m c 2 t (ix2 r n) = m ((c : Thread nD τ).loc main_arg2) (ix2 r n) := by
  blk_ext [iblk, V, index_all t]

theorem blk3 (c : Dev nD) (t : Fin cfg0.N) (l : Fin 512) (n : Fin 2048) : iblk m c 3 t (ix3 0 l n) = m ((c : Thread nD τ).loc main_arg3) (ix3 (sl t) l n) := by
  blk_ext [iblk, V, index_all t, sl]

theorem emb_eq (t : Fin cfg0.N) (r : Fin 256) (l : Fin 512) : (win0_4.blk t).view.emb (ix2 r l)
    = ix2 r (⟨(sl t).val * 512 + l.val, by omega⟩ : Fin 2048) := by
  funext a
  apply Fin.ext
  fin_cases a
  · blk_simp [index_all t]
    rfl
  · blk_simp [index_all t]
    rfl

theorem final (c : Dev nD) : (dats m 0 c).arrAt 4 cfg0.N = Cert.XaDmnRefIdeal.Spec.grad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨r, l, rfl⟩ : ∃ (r : Fin 256) (l : Fin 512), y = ix2 r l := ⟨y 0, y 1, eq_ix2 y⟩
  refine Eq.trans ?_ (congrArg (Cert.XaDmnRefIdeal.Spec.grad _ _ _ _) (emb_eq t r l)).symm
  rw [after0_4]
  frame_out
  refine (pay_apply _ _ _ _ r l).trans (congrArg₂ (fun p q : EReal => p + q) (Finset.sum_congr rfl fun n _ => ?_) (Finset.sum_congr rfl fun n _ => ?_))
  · rw [blk0, blk1]
    exact congrArg (HMul.hMul (α := EReal) _) (Cert.Common.slab_at _ (sl t) l n _).symm
  · rw [blk2, blk3]
    exact congrArg (HMul.hMul (α := EReal) _) (Cert.Common.slab_at _ (sl t) l n _).symm

end Cert.XaDmnIdeal.Tile

namespace Cert.Proof

open Idealize.ShloMosaic Idealize.ShloMosaic.TcCoe Idealize.SL.Sem

theorem xa_dmn_algebraic : Cert.algebraic_XaDmnIdeal_XaDmnRefIdeal := by
  intro m g m' g' _ hm
  refine ⟨fun c => XaDmnRefIdeal.Spec.grad (m (c.tc.loc XaDmnIdeal.main_arg0)) (m (c.tc.loc XaDmnIdeal.main_arg1)) (m (c.tc.loc XaDmnIdeal.main_arg2)) (m (c.tc.loc XaDmnIdeal.main_arg3)), ?_, ?_⟩
  · refine (θ_run _ _ _).mono (fun r h c => ?_) (XaDmnIdeal.Value.run_blocks m g)
    exact ⟨(h c).1.trans (XaDmnIdeal.Tile.final m c), (h c).2⟩
  · refine (θ_run _ _ _).mono (fun r h c => ?_) (XaDmnRefIdeal.Value.run m' g')
    obtain ⟨e0, e1, e2, e3⟩ := hm c
    refine ⟨(h c).1.trans ((XaDmnRefIdeal.Read.val_main_v9_eq _ _ _ _).trans ((XaDmnRefIdeal.Spec.grad_eq _ _ _ _).trans ?_)), (h c).2⟩
    exact congr (congr (congr (congrArg XaDmnRefIdeal.Spec.grad e0) e1) e2) e3

end Cert.Proof

end
-- ==== Proof.XaDw.lean ====
module

public import proofs.«01_k».proof.Defs
public import proofs.«01_k».proof.Proof.Gen.XaDwIdeal.Value
public import proofs.«01_k».proof.Proof.Gen.XaDwRefIdeal.Run
public import proofs.«01_k».proof.Proof.Gen.XaDwRefIdeal.Read
public import proofs.«01_k».proof.Proof.Common
public import Idealize.ShloMosaic.Lib.Pointwise
public import Idealize.ShloMosaic.Lib.Pipeline.ValueKit

@[expose] public section

set_option maxRecDepth 16384

noncomputable section

namespace Cert.XaDwRefIdeal.Spec

open Cert.XaDwRefIdeal Cert.XaDwRefIdeal.Gen Cert.XaDwRefIdeal.Read Idealize.ShloMosaic

/-- The product of column `k` of the first matrix with column `l` of the second. -/
def entry (x0 x1 : FVec Ideal S2048x2048 .bf16) (k l : Fin 2048) : EReal := ∑ t : Fin 2048, x0 (ix2 t k) * x1 (ix2 t l)

/-- The gradient of the weight, in four slabs of rows. -/
def grad (x0 x1 : FVec Ideal S2048x2048 .bf16) : FVec Ideal S4x512x2048 .bf16 := fun i =>
  entry x0 x1 (Common.slabRow (i 0) (i 1)) (i 2 : Fin 2048)

theorem grad_eq (x0 x1 : FVec Ideal S2048x2048 .bf16) : val_main_v8 (F := Ideal) x0 x1 = grad x0 x1 := by
  funext i
  obtain ⟨j, k, l, rfl⟩ : ∃ (j : Fin 4) (k : Fin 512) (l : Fin 2048), i = ix3 j k l := ⟨i 0, i 1, i 2, eq_ix3 i⟩
  unfold grad entry
  pointwise [val_main_v8, val_main_v7, val_main_v6, val_main_v5, val_main_v1, val_main_v0]
  refine Finset.sum_congr rfl fun t _ => ?_
  rw [mul_comm]
  rfl

end Cert.XaDwRefIdeal.Spec

namespace Cert.XaDwIdeal.Tile

open Cert.XaDwIdeal Cert.XaDwIdeal.Gen Idealize.ShloMosaic Idealize.ShloMosaic.TcCoe Idealize.SL.Sem

variable (m : (ℓ : Loc nD τ sig) → Buf (Elt Ideal) ℓ)

theorem index_all : ∀ t : Fin grid0.N, win0_0.index t = ![0, t.val / 2] ∧ win0_1.index t = ![0, t.val % 2] ∧ win0_2.index t = ![t.val / 2, 0, t.val % 2] := by
  decide +kernel

theorem pay_apply (v0 : Vec Ideal S2048x512 .bf16) (v1 : Vec Ideal S2048x1024 .bf16) (k : Fin 512) (l : Fin 1024) :
    k0_pay1 v0 v1 (ix3 0 k l) = ∑ t : Fin 2048, v0 (ix2 t k) * v1 (ix2 t l) := by
  pointwise [k0_pay1]

theorem blk0 (c : Dev nD) (t : Fin cfg0.N) (s : Fin 2048) (k : Fin 512) :
    iblk m c 0 t (ix2 s k) = m ((c : Thread nD τ).loc main_arg0) (ix2 s (⟨t.val / 2 * 512 + k.val, by have : t.val < 8 := t.isLt; omega⟩ : Fin 2048)) := by
  blk_ext [iblk, V, index_all t]

theorem blk1 (c : Dev nD) (t : Fin cfg0.N) (s : Fin 2048) (l : Fin 1024) :
    iblk m c 1 t (ix2 s l) = m ((c : Thread nD τ).loc main_arg1) (ix2 s (⟨t.val % 2 * 1024 + l.val, by omega⟩ : Fin 2048)) := by
  blk_ext [iblk, V, index_all t]

theorem emb_eq (t : Fin cfg0.N) (k : Fin 512) (l : Fin 1024) : (win0_2.blk t).view.emb (ix3 (0 : Fin 1) k l)
    = ix3 (⟨t.val / 2, by have : t.val < 8 := t.isLt; omega⟩ : Fin 4) k (⟨t.val % 2 * 1024 + l.val, by omega⟩ : Fin 2048) := by
  funext a
  apply Fin.ext
  fin_cases a
  · blk_simp [index_all t]
    rfl
  · blk_simp [index_all t]
    rfl
  · blk_simp [index_all t]
    rfl

theorem final (c : Dev nD) : (dats m 0 c).arrAt 2 cfg0.N = Cert.XaDwRefIdeal.Spec.grad (m ((c : Thread nD τ).loc main_arg0)) (m ((c : Thread nD τ).loc main_arg1)) := by
  refine (dats m 0 c).arrAt_eq_of_covers 2 _ (by decide +kernel) fun t hf y => ?_
  obtain ⟨k, l, rfl⟩ : ∃ (k : Fin 512) (l : Fin 1024), y = ix3 (0 : Fin 1) k l :=
    ⟨y 1, y 2, (eq_ix3 y).trans (congrArg (fun q : Fin 1 => ix3 q (y 1 : Fin 512) (y 2 : Fin 1024)) (Subsingleton.elim (α := Fin 1) (y 0) 0))⟩
  refine Eq.trans ?_ (congrArg (Cert.XaDwRefIdeal.Spec.grad _ _) (emb_eq t k l)).symm
  rw [after0_2]
  frame_out
  refine (pay_apply _ _ k l).trans ?_
  simp only [blk0, blk1]
  rfl

end Cert.XaDwIdeal.Tile

namespace Cert.Proof

open Idealize.ShloMosaic Idealize.ShloMosaic.TcCoe Idealize.SL.Sem

theorem xa_dw_algebraic : Cert.algebraic_XaDwIdeal_XaDwRefIdeal := by
  intro m g m' g' _ hm
  refine ⟨fun c => XaDwRefIdeal.Spec.grad (m (c.tc.loc XaDwIdeal.main_arg0)) (m (c.tc.loc XaDwIdeal.main_arg1)), ?_, ?_⟩
  · refine (θ_run _ _ _).mono (fun r h c => ?_) (XaDwIdeal.Value.run_blocks m g)
    exact ⟨(h c).1.trans (XaDwIdeal.Tile.final m c), (h c).2⟩
  · refine (θ_run _ _ _).mono (fun r h c => ?_) (XaDwRefIdeal.Value.run m' g')
    obtain ⟨e0, e1⟩ := hm c
    refine ⟨(h c).1.trans ((XaDwRefIdeal.Read.val_main_v8_eq _ _).trans ((XaDwRefIdeal.Spec.grad_eq _ _).trans ?_)), (h c).2⟩
    exact congr (congrArg XaDwRefIdeal.Spec.grad e0) e1

end Cert.Proof

end
-- ==== Proof.XaDwkv.lean ====
module

public import proofs.«01_k».proof.Defs
public import proofs.«01_k».proof.Proof.Gen.XaDwkvIdeal.Value
public import proofs.«01_k».proof.Proof.Gen.XaDwkvRefIdeal.Run
public import proofs.«01_k».proof.Proof.Gen.XaDwkvRefIdeal.Read
public import proofs.«01_k».proof.Proof.Common
public import Idealize.ShloMosaic.Lib.Pointwise
public import Idealize.ShloMosaic.Lib.Pipeline.ValueKit

@[expose] public section

set_option maxRecDepth 16384

noncomputable section

namespace Cert.XaDwkvRefIdeal.Spec

open Cert.XaDwkvRefIdeal Cert.XaDwkvRefIdeal.Gen Cert.XaDwkvRefIdeal.Read Idealize.ShloMosaic

/-- The product of column `k` of the first matrix with column `l` of the second. -/
def entry (x0 : FVec Ideal S256x2048 .bf16) (x1 : FVec Ideal S256x2048 .f32) (k l : Fin 2048) : EReal := ∑ t : Fin 256, x0 (ix2 t k) * x1 (ix2 t l)

/-- The gradient of a weight, in four slabs of rows. -/
def grad (x0 : FVec Ideal S256x2048 .bf16) (x1 : FVec Ideal S256x2048 .f32) : FVec Ideal S4x512x2048 .bf16 := fun i =>
  entry x0 x1 (Common.slabRow (i 0) (i 1)) (i 2 : Fin 2048)

theorem key_eq (x0 : FVec Ideal S256x2048 .bf16) (x1 : FVec Ideal S256x2048 .f32) : val_main_v12 (F := Ideal) x0 x1 = grad x0 x1 := by
  funext i
  obtain ⟨j, k, l, rfl⟩ : ∃ (j : Fin 4) (k : Fin 512) (l : Fin 2048), i = ix3 j k l := ⟨i 0, i 1, i 2, eq_ix3 i⟩
  unfold grad entry
  pointwise [val_main_v12, val_main_v11, val_main_v10, val_main_v9, val_main_v0]
  refine Finset.sum_congr rfl fun t _ => ?_
  rw [mul_comm]
  rfl

theorem value_eq (x0 : FVec Ideal S256x2048 .bf16) (x1 : FVec Ideal S256x2048 .f32) : val_main_v13 (F := Ideal) x0 x1 = grad x0 x1 := by
  funext i
  obtain ⟨j, k, l, rfl⟩ : ∃ (j : Fin 4) (k : Fin 512) (l : Fin 2048), i = ix3 j k l := ⟨i 0, i 1, i 2, eq_ix3 i⟩
  unfold grad entry
  pointwise [val_main_v13, val_main_v8, val_main_v7, val_main_v6, val_main_v0]
  refine Finset.sum_congr rfl fun t _ => ?_
  rw [mul_comm]
  rfl

end Cert.XaDwkvRefIdeal.Spec

namespace Cert.XaDwkvIdeal.Tile

open Cert.XaDwkvIdeal Cert.XaDwkvIdeal.Gen Idealize.ShloMosaic Idealize.ShloMosaic.TcCoe Idealize.SL.Sem

variable (m : (ℓ : Loc nD τ sig) → Buf (Elt Ideal) ℓ)

theorem index_all : ∀ t : Fin grid0.N, win0_0.index t = ![0, t.val / 2] ∧ win0_1.index t = ![0, t.val % 2] ∧ win0_2.index t = ![0, t.val % 2]
    ∧ win0_3.index t = ![t.val / 2, 0, t.val % 2] ∧ win0_4.index t = ![t.val / 2, 0, t.val % 2] := by
  decide +kernel

theorem pay1_apply (v0 : Vec Ideal S256x512 .bf16) (v1 : Vec Ideal S256x1024 .f32) (k : Fin 512) (l : Fin 1024) :
    k0_pay1 v0 v1 (ix3 0 k l) = ∑ t : Fin 256, v0 (ix2 t k) * v1 (ix2 t l) := by
  pointwise [k0_pay1]

theorem pay2_apply (v0 : Vec Ideal S256x512 .bf16) (v1 : Vec Ideal S256x1024 .f32) (k : Fin 512) (l : Fin 1024) :
    k0_pay2 v0 v1 (ix3 0 k l) = ∑ t : Fin 256, v0 (ix2 t k) * v1 (ix2 t l) := by
  pointwise [k0_pay2]

theorem blk0 (c : Dev nD) (t : Fin cfg0.N) (s : Fin 256) (k : Fin 512) :
    iblk m c 0 t (ix2 s k) = m ((c : Thread nD τ).loc main_arg0) (ix2 s (⟨t.val / 2 * 512 + k.val, by have : t.val < 8 := t.isLt; omega⟩ : Fin 2048)) := by
  blk_ext [iblk, V, index_all t]

theorem blk1 (c : Dev nD) (t : Fin cfg0.N) (s : Fin 256) (l : Fin 1024) :
    iblk m c 1 t (ix2 s l) = m ((c : Thread nD τ).loc main_arg1) (ix2 s (⟨t.val % 2 * 1024 + l.val, by omega⟩ : Fin 2048)) := by
  blk_ext [iblk, V, index_all t]

theorem blk2 (c : Dev nD) (t : Fin cfg0.N) (s : Fin 256) (l : Fin 1024) :
    iblk m c 2 t (ix2 s l) = m ((c : Thread nD τ).loc main_arg2) (ix2 s (⟨t.val % 2 * 1024 + l.val, by omega⟩ : Fin 2048)) := by
  blk_ext [iblk, V, index_all t]

theorem emb3 (t : Fin cfg0.N) (k : Fin 512) (l : Fin 1024) : (win0_3.blk t).view.emb (ix3 (0 : Fin 1) k l)
    = ix3 (⟨t.val / 2, by have : t.val < 8 := t.isLt; omega⟩ : Fin 4) k (⟨t.val % 2 * 1024 + l.val, by omega⟩ : Fin 2048) := by
  funext a
  apply Fin.ext
  fin_cases a
  · blk_simp [index_all t]
    rfl
  · blk_simp [index_all t]
    rfl
  · blk_simp [index_all t]
    rfl

theorem final_key (c : Dev nD) : (dats m 0 c).arrAt 3 cfg0.N = Cert.XaDwkvRefIdeal.Spec.grad (m ((c : Thread nD τ).loc main_arg0)) (m ((c : Thread nD τ).loc main_arg1)) := by
  refine (dats m 0 c).arrAt_eq_of_covers 3 _ (by decide +kernel) fun t hf y => ?_
  obtain ⟨k, l, rfl⟩ : ∃ (k : Fin 512) (l : Fin 1024), y = ix3 (0 : Fin 1) k l :=
    ⟨y 1, y 2, (eq_ix3 y).trans (congrArg (fun q : Fin 1 => ix3 q (y 1 : Fin 512) (y 2 : Fin 1024)) (Subsingleton.elim (α := Fin 1) (y 0) 0))⟩
  refine Eq.trans ?_ (congrArg (Cert.XaDwkvRefIdeal.Spec.grad _ _) (emb3 t k l)).symm
  rw [after0_3]
  frame_out
  refine (pay1_apply _ _ k l).trans ?_
  simp only [blk0, blk1]
  rfl

theorem emb4 (t : Fin cfg0.N) (k : Fin 512) (l : Fin 1024) : (win0_4.blk t).view.emb (ix3 (0 : Fin 1) k l)
    = ix3 (⟨t.val / 2, by have : t.val < 8 := t.isLt; omega⟩ : Fin 4) k (⟨t.val % 2 * 1024 + l.val, by omega⟩ : Fin 2048) := by
  funext a
  apply Fin.ext
  fin_cases a
  · blk_simp [index_all t]
    rfl
  · blk_simp [index_all t]
    rfl
  · blk_simp [index_all t]
    rfl

theorem final_value (c : Dev nD) : (dats m 0 c).arrAt 4 cfg0.N = Cert.XaDwkvRefIdeal.Spec.grad (m ((c : Thread nD τ).loc main_arg0)) (m ((c : Thread nD τ).loc main_arg2)) := by
  refine (dats m 0 c).arrAt_eq_of_covers 4 _ (by decide +kernel) fun t hf y => ?_
  obtain ⟨k, l, rfl⟩ : ∃ (k : Fin 512) (l : Fin 1024), y = ix3 (0 : Fin 1) k l :=
    ⟨y 1, y 2, (eq_ix3 y).trans (congrArg (fun q : Fin 1 => ix3 q (y 1 : Fin 512) (y 2 : Fin 1024)) (Subsingleton.elim (α := Fin 1) (y 0) 0))⟩
  refine Eq.trans ?_ (congrArg (Cert.XaDwkvRefIdeal.Spec.grad _ _) (emb4 t k l)).symm
  rw [after0_4]
  frame_out
  refine (pay2_apply _ _ k l).trans ?_
  simp only [blk0, blk2]
  rfl

end Cert.XaDwkvIdeal.Tile

namespace Cert.Proof

open Idealize.ShloMosaic Idealize.ShloMosaic.TcCoe Idealize.SL.Sem

theorem xa_dwkv_algebraic : Cert.algebraic_XaDwkvIdeal_XaDwkvRefIdeal := by
  intro m g m' g' _ hm
  refine ⟨fun c => XaDwkvRefIdeal.Spec.grad (m (c.tc.loc XaDwkvIdeal.main_arg0)) (m (c.tc.loc XaDwkvIdeal.main_arg1)), fun c => XaDwkvRefIdeal.Spec.grad (m (c.tc.loc XaDwkvIdeal.main_arg0)) (m (c.tc.loc XaDwkvIdeal.main_arg2)), ?_, ?_⟩
  · refine (θ_run _ _ _).mono (fun r h c => ?_) (XaDwkvIdeal.Value.run_blocks m g)
    exact ⟨(h c).1.trans (XaDwkvIdeal.Tile.final_key m c), (h c).2.1.trans (XaDwkvIdeal.Tile.final_value m c), (h c).2.2⟩
  · refine (θ_run _ _ _).mono (fun r h c => ?_) (XaDwkvRefIdeal.Value.run m' g')
    obtain ⟨e0, e1, e2⟩ := hm c
    refine ⟨(h c).1.trans ?_, (h c).2.1.trans ?_, (h c).2.2⟩
    · refine (XaDwkvRefIdeal.Read.val_main_v12_eq _ _).trans ((XaDwkvRefIdeal.Spec.key_eq _ _).trans ?_)
      exact congr (congrArg XaDwkvRefIdeal.Spec.grad e0) e1
    · refine (XaDwkvRefIdeal.Read.val_main_v13_eq _ _).trans ((XaDwkvRefIdeal.Spec.value_eq _ _).trans ?_)
      exact congr (congrArg XaDwkvRefIdeal.Spec.grad e0) e2

end Cert.Proof

end
-- ==== Proof.Attend.lean ====
module

public import proofs.«01_k».proof.Proof.Common

@[expose] public section

noncomputable section

/-! A row of softmax attention over 256 memory tokens and its gradient, in the numbers of one head. -/

namespace Cert.Attend

open Idealize.ShloMosaic

/-- The factor of the scores, the inverse square root of the head's width as the programs print it. -/
def scale : EReal := Ideal.ofBits .f32 0x3D3504F3#32

/-- Column `d` of head `h`. -/
def hcol (h : Fin 4) (d : Fin 512) : Fin 2048 := ⟨h.val * 512 + d.val, by omega⟩

/-- The head of a column, and the column's place in it. -/
def head (c : Fin 2048) : Fin 4 := ⟨c.val / 512, by omega⟩

def place (c : Fin 2048) : Fin 512 := ⟨c.val % 512, by omega⟩

theorem hcol_head (c : Fin 2048) : hcol (head c) (place c) = c := Fin.ext (Nat.div_add_mod' c.val 512)

theorem hcol0 (d : Fin 512) : hcol 0 d = ⟨d.val, by omega⟩ := Fin.ext (by show 0 * 512 + d.val = d.val; omega)

theorem hcol1 (d : Fin 512) : hcol 1 d = ⟨512 + d.val, by omega⟩ := rfl

theorem hcol2 (d : Fin 512) : hcol 2 d = ⟨1024 + d.val, by omega⟩ := rfl

theorem hcol3 (d : Fin 512) : hcol 3 d = ⟨1536 + d.val, by omega⟩ := rfl

/-- A column lies in one of the four heads. -/
theorem head_cases (c : Fin 2048) : ∃ (h : Fin 4) (d : Fin 512), c = hcol h d := ⟨head c, place c, (hcol_head c).symm⟩

/-- The function that belongs to a head. -/
def pick {α : Type} (A B C D : Fin 512 → α) (h : Fin 4) : Fin 512 → α := fun d =>
  if h = 0 then A d else if h = 1 then B d else if h = 2 then C d else D d

/-- Four heads side by side, read at a column of one. -/
theorem ladder {α : Type} (A B C D : Fin 512 → α) (h : Fin 4) (d : Fin 512) :
    (if h1 : (hcol h d).val < 512 then A ⟨(hcol h d).val, h1⟩
      else if h2 : (hcol h d).val - 512 < 512 then B ⟨(hcol h d).val - 512, h2⟩
      else if h3 : (hcol h d).val - 512 - 512 < 512 then C ⟨(hcol h d).val - 512 - 512, h3⟩
      else D ⟨(hcol h d).val - 512 - 512 - 512, by omega⟩) = pick A B C D h d := by
  have hd := d.isLt
  rcases (by decide : ∀ h : Fin 4, h = 0 ∨ h = 1 ∨ h = 2 ∨ h = 3) h with rfl | rfl | rfl | rfl
  · have hv : (hcol 0 d).val = d.val := congrArg Fin.val (hcol0 d)
    rw [dif_pos (by omega)]
    exact congrArg A (Fin.ext hv)
  · have hv : (hcol 1 d).val = 512 + d.val := rfl
    rw [dif_neg (by omega), dif_pos (by omega)]
    exact congrArg B (Fin.ext (by show (hcol 1 d).val - 512 = d.val; omega))
  · have hv : (hcol 2 d).val = 1024 + d.val := rfl
    rw [dif_neg (by omega), dif_neg (by omega), dif_pos (by omega)]
    exact congrArg C (Fin.ext (by show (hcol 2 d).val - 512 - 512 = d.val; omega))
  · have hv : (hcol 3 d).val = 1536 + d.val := rfl
    rw [dif_neg (by omega), dif_neg (by omega), dif_neg (by omega)]
    exact congrArg D (Fin.ext (by show (hcol 3 d).val - 512 - 512 - 512 = d.val; omega))

/-- A family over the heads is picked by head. -/
theorem pick_family {α : Type} (G : Fin 4 → Fin 512 → α) (h : Fin 4) : pick (G 0) (G 1) (G 2) (G 3) h = G h := by
  rcases (by decide : ∀ h : Fin 4, h = 0 ∨ h = 1 ∨ h = 2 ∨ h = 3) h with rfl | rfl | rfl | rfl <;> rfl

theorem head_hcol (h : Fin 4) (d : Fin 512) : head (hcol h d) = h := Fin.ext (by show (h.val * 512 + d.val) / 512 = h.val; omega)

theorem place_hcol (h : Fin 4) (d : Fin 512) : place (hcol h d) = d := Fin.ext (by show (h.val * 512 + d.val) % 512 = d.val; omega)

/-- The scores of a query against the keys. -/
def score (q : Fin 512 → EReal) (K : Fin 256 → Fin 512 → EReal) (k : Fin 256) : EReal := (∑ d : Fin 512, q d * K k d) * scale

/-- The greatest score. -/
def peak (s : Fin 256 → EReal) : EReal := Finset.univ.fold max (Ideal.ofBits .f32 0xFF800000#32) s

def weight (s : Fin 256 → EReal) (k : Fin 256) : EReal := Ideal.exp (s k - peak s)

/-- The softmax of the scores. -/
def prob (s : Fin 256 → EReal) (k : Fin 256) : EReal := Ideal.div (weight s k) (∑ j : Fin 256, weight s j)

/-- The scores of a row of queries in head `h`. -/
def rowScore (q : Fin 2048 → EReal) (K : Fin 256 → Fin 2048 → EReal) (h : Fin 4) : Fin 256 → EReal :=
  score (fun d => q (hcol h d)) fun k d => K k (hcol h d)

/-- The attention's row in head `h`. -/
def rowOut (q : Fin 2048 → EReal) (K V : Fin 256 → Fin 2048 → EReal) (h : Fin 4) (d : Fin 512) : EReal :=
  ∑ k : Fin 256, prob (rowScore q K h) k * V k (hcol h d)

/-- The gradient of the softmax's weights: the cotangent against the values. -/
def cot (g : Fin 512 → EReal) (W : Fin 256 → Fin 512 → EReal) (k : Fin 256) : EReal := ∑ d : Fin 512, g d * W k d

/-- The gradient of the unscaled scores. -/
def grad (s p : Fin 256 → EReal) (k : Fin 256) : EReal := prob s k * (p k - ∑ j : Fin 256, p j * prob s j) * scale

/-- The gradient of a row's unscaled scores in head `h`. -/
def rowGrad (q g : Fin 2048 → EReal) (K V : Fin 256 → Fin 2048 → EReal) (h : Fin 4) : Fin 256 → EReal :=
  grad (rowScore q K h) (cot (fun d => g (hcol h d)) fun k d => V k (hcol h d))

theorem bot_eq : Ideal.ofBits .f32 0xFF800000#32 = ⊥ := by
  simp [Ideal.ofBits, Ideal.ieee]

/-- The greatest score is at least the constant it starts from. -/
theorem weight_max (s : Fin 256 → EReal) (k : Fin 256) : Ideal.exp (s k - max (Ideal.ofBits .f32 0xFF800000#32) (peak s)) = weight s k := by
  rw [max_eq_right (bot_eq ▸ bot_le : Ideal.ofBits .f32 0xFF800000#32 ≤ peak s)]
  rfl

theorem scale_finite : scale ≠ ⊤ ∧ scale ≠ ⊥ := by
  unfold scale
  simp [Ideal.ofBits, Ideal.ieee, -EReal.coe_mul]

theorem score_finite (q : Fin 512 → EReal) (K : Fin 256 → Fin 512 → EReal) (hq : ∀ d, q d ≠ ⊤ ∧ q d ≠ ⊥) (hK : ∀ k d, K k d ≠ ⊤ ∧ K k d ≠ ⊥)
    (k : Fin 256) : score q K k ≠ ⊤ ∧ score q K k ≠ ⊥ :=
  Common.mul_finite (Common.sum_finite _ _ fun d => Common.mul_finite (hq d) (hK k d)) scale_finite

/-- With finite scores the greatest is finite. -/
theorem peak_finite (s : Fin 256 → EReal) (h : ∀ k, s k ≠ ⊤ ∧ s k ≠ ⊥) : peak s ≠ ⊤ ∧ peak s ≠ ⊥ := by
  unfold peak
  rw [bot_eq]
  refine ⟨ne_of_lt ((Finset.fold_max_lt _).mpr ⟨bot_lt_top, fun k _ => lt_top_iff_ne_top.mpr (h k).1⟩), ?_⟩
  exact ne_of_gt ((Finset.lt_fold_max _).mpr (.inr ⟨0, Finset.mem_univ _, bot_lt_iff_ne_bot.mpr (h 0).2⟩))

/-- With finite scores every weight is a positive real. -/
theorem weight_real (s : Fin 256 → EReal) (h : ∀ k, s k ≠ ⊤ ∧ s k ≠ ⊥) (k : Fin 256) : ∃ e : ℝ, 0 < e ∧ weight s k = (e : EReal) := by
  have hp := peak_finite s h
  have hk := h k
  unfold weight
  lift peak s to ℝ using hp with p
  lift s k to ℝ using hk with a
  exact ⟨Real.exp (a - p), Real.exp_pos _, rfl⟩

/-- … and so is their sum. -/
theorem total_real (s : Fin 256 → EReal) (h : ∀ k, s k ≠ ⊤ ∧ s k ≠ ⊥) : ∃ l : ℝ, 0 < l ∧ ∑ j : Fin 256, weight s j = (l : EReal) := by
  refine Finset.sum_induction_nonempty (weight s) (fun z => ∃ l : ℝ, 0 < l ∧ z = (l : EReal)) ?_ Finset.univ_nonempty fun k _ => weight_real s h k
  rintro _ _ ⟨a, ha, rfl⟩ ⟨b, hb, rfl⟩
  exact ⟨a + b, add_pos ha hb, (EReal.coe_add a b).symm⟩

/-- A nonnegative real goes into a finite sum. -/
theorem real_mul_sum {ι : Type*} (u : ℝ) (hu : 0 ≤ u) (s : Finset ι) (f : ι → EReal) : (u : EReal) * ∑ k ∈ s, f k = ∑ k ∈ s, (u : EReal) * f k := by
  classical
  induction s using Finset.induction_on with
  | empty => simp
  | insert a s h ih =>
    rw [Finset.sum_insert h, Finset.sum_insert h, ← ih]
    exact EReal.left_distrib_of_nonneg_of_ne_top (by exact_mod_cast hu) (EReal.coe_ne_top _) _ _

theorem div_real (x : EReal) (l : ℝ) (hl : 0 < l) : Ideal.div x (l : EReal) = x * ((l⁻¹ : ℝ) : EReal) := by
  rw [Ideal.div, if_neg (by exact_mod_cast hl.ne'), ← EReal.coe_inv]

/-- The gradient through the quotient of the softmax, in its two parts, is the softmax's gradient. -/
theorem grad_parts (s p : Fin 256 → EReal) (h : ∀ k, s k ≠ ⊤ ∧ s k ≠ ⊥) (k : Fin 256) :
    (Ideal.div (p k) (∑ j, weight s j)
        + -(∑ j : Fin 256, p j * Ideal.div 1 ((∑ j, weight s j) * ∑ j, weight s j) * weight s j)) * weight s k * scale = grad s p k := by
  unfold grad prob
  obtain ⟨l, hl, e⟩ := total_real s h
  have hu : 0 ≤ l⁻¹ := by positivity
  rw [e]
  refine congrArg (· * scale) ?_
  have e2 : ((l : EReal) * (l : EReal)) = ((l * l : ℝ) : EReal) := (EReal.coe_mul l l).symm
  rw [e2]
  simp only [div_real _ _ hl, div_real _ _ (mul_pos hl hl), one_mul]
  rw [mul_inv, EReal.coe_mul]
  have hs : ∑ j : Fin 256, p j * (((l⁻¹ : ℝ) : EReal) * ((l⁻¹ : ℝ) : EReal)) * weight s j
      = ((l⁻¹ : ℝ) : EReal) * ∑ j : Fin 256, p j * (weight s j * ((l⁻¹ : ℝ) : EReal)) := by
    rw [real_mul_sum _ hu]
    refine Finset.sum_congr rfl fun j _ => ?_
    ac_rfl
  rw [hs, ← mul_neg, mul_comm (p k), ← EReal.left_distrib_of_nonneg_of_ne_top (by exact_mod_cast hu) (EReal.coe_ne_top _), ← sub_eq_add_neg]
  ac_rfl

end Cert.Attend

end
-- ==== Proof.XaBwdTile.lean ====
module

public import proofs.«01_k».proof.Defs
public import proofs.«01_k».proof.Proof.Gen.XaBwdIdeal.Value
public import proofs.«01_k».proof.Proof.Attend
public import Idealize.ShloMosaic.Lib.Pointwise
public import Idealize.ShloMosaic.Lib.Pipeline.ValueKit

@[expose] public section

set_option maxRecDepth 16384

noncomputable section

/-! What one tile of the attention's backward call computes, head by head. -/

namespace Cert.XaBwdIdeal.Tile

open Cert.XaBwdIdeal Cert.XaBwdIdeal.Gen Idealize.ShloMosaic Idealize.ShloMosaic.TcCoe Idealize.SL.Sem Cert.Attend

variable (q g k v : Vec Ideal S256x2048 .bf16)

/-- The softmax of row `r` in head `h`. -/
def tileProb (h : Fin 4) (r j : Fin 256) : EReal := prob (rowScore (fun c => q (ix2 r c)) (fun j c => k (ix2 j c)) h) j

/-- The gradient of its scores. -/
def tileGrad (h : Fin 4) (r j : Fin 256) : EReal :=
  rowGrad (fun c => q (ix2 r c)) (fun c => g (ix2 r c)) (fun j c => k (ix2 j c)) (fun j c => v (ix2 j c)) h j

theorem prob0 (r j : Fin 256) : k0_pay6 q k (ix2 r j) = tileProb q k 0 r j := by
  unfold tileProb rowScore
  simp only [hcol0]
  pointwise [k0_pay6, k0_pay3, k0_pay4]
  rfl

theorem prob1 (r j : Fin 256) : k0_pay16 (k0_pay15 q k) (Ideal.ofBits .f32 0x3D3504F3#32) (ix2 r j) = tileProb q k 1 r j := by
  unfold tileProb rowScore
  simp only [hcol1]
  pointwise [k0_pay16, k0_pay15, k0_pay11, k0_pay12]
  rfl

theorem prob2 (r j : Fin 256) : k0_pay24 q k (ix2 r j) = tileProb q k 2 r j := by
  unfold tileProb rowScore
  simp only [hcol2]
  pointwise [k0_pay24, k0_pay21, k0_pay22]
  rfl

theorem prob3 (r j : Fin 256) : k0_pay32 q k (ix2 r j) = tileProb q k 3 r j := by
  unfold tileProb rowScore
  simp only [hcol3]
  pointwise [k0_pay32, k0_pay29, k0_pay30]
  rfl

theorem grad0 (r j : Fin 256) : k0_pay8 q g k v (ix2 r j) = tileGrad q g k v 0 r j := by
  unfold tileGrad rowGrad
  simp only [hcol0]
  pointwise [k0_pay8, k0_pay5]
  simp only [prob0]
  rfl

theorem grad1 (r j : Fin 256) : k0_pay18 (k0_pay13 v) (k0_pay14 g) (k0_pay15 q k) (Ideal.ofBits .f32 0x3D3504F3#32) (ix2 r j) = tileGrad q g k v 1 r j := by
  unfold tileGrad rowGrad
  simp only [hcol1]
  pointwise [k0_pay18, k0_pay13, k0_pay14]
  simp only [prob1]
  rfl

theorem grad2 (r j : Fin 256) : k0_pay28 (k0_pay24 q k) (k0_pay26 g v) (k0_pay27 q g k v) (ix2 r j) = tileGrad q g k v 2 r j := by
  unfold tileGrad rowGrad
  simp only [hcol2]
  pointwise [k0_pay28, k0_pay26, k0_pay27, k0_pay23]
  simp only [prob2]
  rfl

theorem grad3 (r j : Fin 256) : k0_pay33 q g k v (ix2 r j) = tileGrad q g k v 3 r j := by
  unfold tileGrad rowGrad
  simp only [hcol3]
  pointwise [k0_pay33, k0_pay31]
  simp only [prob3]
  rfl

/-- The three results of a tile at column `d` of head `h`. -/
def tileDq (h : Fin 4) (d : Fin 512) (r : Fin 256) : EReal := ∑ j : Fin 256, tileGrad q g k v h r j * k (ix2 j (hcol h d))

def tileDk (h : Fin 4) (d : Fin 512) (j : Fin 256) : EReal := ∑ r : Fin 256, tileGrad q g k v h r j * q (ix2 r (hcol h d))

def tileDv (h : Fin 4) (d : Fin 512) (j : Fin 256) : EReal := ∑ r : Fin 256, tileProb q k h r j * g (ix2 r (hcol h d))

theorem dq0 (r : Fin 256) (d : Fin 512) : k0_pay9 q g k v (ix2 r d) = tileDq q g k v 0 d r := by
  unfold tileDq
  simp only [hcol0]
  pointwise [k0_pay9, k0_pay4]
  simp only [grad0]

theorem dk0 (j : Fin 256) (d : Fin 512) : k0_pay10 q g k v (ix2 j d) = tileDk q g k v 0 d j := by
  unfold tileDk
  simp only [hcol0]
  pointwise [k0_pay10, k0_pay3]
  simp only [grad0]

theorem dv0 (j : Fin 256) (d : Fin 512) : k0_pay7 q g k (ix2 j d) = tileDv q g k 0 d j := by
  unfold tileDv
  simp only [hcol0]
  pointwise [k0_pay7, k0_pay5]
  simp only [prob0]

theorem dq_apply (r : Fin 256) (h : Fin 4) (d : Fin 512) :
    k0_pay36 q g k v (k0_pay9 q g k v) (k0_pay19 (k0_pay12 k) (k0_pay13 v) (k0_pay14 g) (k0_pay15 q k) (Ideal.ofBits .f32 0x3D3504F3#32))
      (k0_pay22 k) (k0_pay24 q k) (k0_pay26 g v) (k0_pay27 q g k v) (ix2 r (hcol h d)) = tileDq q g k v h d r := by
  have e := congrFun (pick_family (fun h d => tileDq q g k v h d r) h) d
  refine Eq.trans ?_ e
  refine Eq.trans ?_ (ladder _ _ _ _ h d)
  pointwise [k0_pay36, k0_pay19, k0_pay12, k0_pay22, k0_pay30]
  simp only [dq0, grad1, grad2, grad3]
  rfl

theorem dk_apply (j : Fin 256) (h : Fin 4) (d : Fin 512) :
    k0_pay34 q g k v (k0_pay10 q g k v) (k0_pay20 (k0_pay11 q) (k0_pay13 v) (k0_pay14 g) (k0_pay15 q k) (Ideal.ofBits .f32 0x3D3504F3#32))
      (k0_pay21 q) (k0_pay24 q k) (k0_pay26 g v) (k0_pay27 q g k v) (ix2 j (hcol h d)) = tileDk q g k v h d j := by
  have e := congrFun (pick_family (fun h d => tileDk q g k v h d j) h) d
  refine Eq.trans ?_ e
  refine Eq.trans ?_ (ladder _ _ _ _ h d)
  pointwise [k0_pay34, k0_pay20, k0_pay11, k0_pay21, k0_pay29]
  simp only [dk0, grad1, grad2, grad3]
  rfl

theorem dv_apply (j : Fin 256) (h : Fin 4) (d : Fin 512) :
    k0_pay35 q g k (k0_pay7 q g k) (k0_pay17 (k0_pay14 g) (k0_pay15 q k) (Ideal.ofBits .f32 0x3D3504F3#32)) (k0_pay25 q g k) (ix2 j (hcol h d))
      = tileDv q g k h d j := by
  have e := congrFun (pick_family (fun h d => tileDv q g k h d j) h) d
  refine Eq.trans ?_ e
  refine Eq.trans ?_ (ladder _ _ _ _ h d)
  pointwise [k0_pay35, k0_pay17, k0_pay14, k0_pay25, k0_pay23, k0_pay31]
  simp only [dv0, prob1, prob2, prob3]
  rfl

end Cert.XaBwdIdeal.Tile

end
-- ==== Proof.XaBwdRef.lean ====
module

public import proofs.«01_k».proof.Defs
public import proofs.«01_k».proof.Proof.Gen.XaRefIdeal.Run
public import proofs.«01_k».proof.Proof.Gen.XaRefIdeal.Read
public import proofs.«01_k».proof.Proof.Attend
public import Idealize.ShloMosaic.Lib.Pointwise

@[expose] public section

set_option maxRecDepth 16384

noncomputable section

/-! The attention's gradient: what the reference's gradient of the softmax is, head by head. -/

namespace Cert.XaRefIdeal.Spec

open Cert.XaRefIdeal Cert.XaRefIdeal.Gen Cert.XaRefIdeal.Read Idealize.ShloMosaic Cert.Attend

/-- The gradient of the scores of row `r` in head `h`. -/
def dScore (q g : FVec Ideal S2048x2048 .bf16) (k v : FVec Ideal S256x2048 .bf16) (h : Fin 4) (r : Fin 2048) (j : Fin 256) : EReal :=
  rowGrad (fun c => q (ix2 r c)) (fun c => g (ix2 r c)) (fun j c => k (ix2 j c)) (fun j c => v (ix2 j c)) h j

def pScore (q : FVec Ideal S2048x2048 .bf16) (k : FVec Ideal S256x2048 .bf16) (h : Fin 4) (r : Fin 2048) (j : Fin 256) : EReal :=
  prob (rowScore (fun c => q (ix2 r c)) (fun j c => k (ix2 j c)) h) j

def dq (q g : FVec Ideal S2048x2048 .bf16) (k v : FVec Ideal S256x2048 .bf16) : FVec Ideal S2048x2048 .bf16 := fun i =>
  ∑ j : Fin 256, dScore q g k v (head (i 1)) (i 0 : Fin 2048) j * k (ix2 j (i 1 : Fin 2048))

/-- One row's term of the keys' and of the values' gradient. -/
def dkTerm (q g : FVec Ideal S2048x2048 .bf16) (k v : FVec Ideal S256x2048 .bf16) (j : Fin 256) (l r : Fin 2048) : EReal :=
  dScore q g k v (head l) r j * q (ix2 r l)

def dvTerm (q g : FVec Ideal S2048x2048 .bf16) (k : FVec Ideal S256x2048 .bf16) (j : Fin 256) (l r : Fin 2048) : EReal :=
  pScore q k (head l) r j * g (ix2 r l)

def dk (q g : FVec Ideal S2048x2048 .bf16) (k v : FVec Ideal S256x2048 .bf16) : FVec Ideal S256x2048 .f32 := fun i =>
  ∑ r : Fin 2048, dkTerm q g k v (i 0 : Fin 256) (i 1 : Fin 2048) r

def dv (q g : FVec Ideal S2048x2048 .bf16) (k : FVec Ideal S256x2048 .bf16) : FVec Ideal S256x2048 .f32 := fun i =>
  ∑ r : Fin 2048, dvTerm q g k (i 0 : Fin 256) (i 1 : Fin 2048) r

variable (q g : FVec Ideal S2048x2048 .bf16) (k v : FVec Ideal S256x2048 .bf16)

theorem scores (h : Fin 4) (r : Fin 2048) (j : Fin 256) :
    val_main_v9 (F := Ideal) q k (ix3 h r j) = rowScore (fun c => q (ix2 r c)) (fun j c => k (ix2 j c)) h j := by
  unfold rowScore score
  pointwise [val_main_v9, val_main_v8, val_main_cst, val_main_v7, val_main_v5, val_main_v4, val_main_v2, val_main_v0]
  rfl

theorem peaks (x : FVec Ideal S4x2048x256 .f32) (h : Fin 4) (r : Fin 2048) :
    Host.reduce FloatOps.maximumf x (val_main_cst_0 (F := Ideal)) reducesTo_S4x2048x256_S4x2048_d2 h_S_ (ix2 h r) = peak fun j => x (ix3 h r j) := by
  rw [Host.reduce_eq_fold, Shape.ReducesTo.fold_fiber_r3_a2]
  rfl

theorem peak_scores (h : Fin 4) (r : Fin 2048) :
    val_main_v10 (F := Ideal) q k (ix2 h r) = peak (rowScore (fun c => q (ix2 r c)) (fun j c => k (ix2 j c)) h) :=
  (peaks (val_main_v9 (F := Ideal) q k) h r).trans (congrArg peak (funext fun j => scores q k h r j))

theorem weights (h : Fin 4) (r : Fin 2048) (j : Fin 256) :
    val_main_v30 (F := Ideal) q k (ix3 h r j) = weight (rowScore (fun c => q (ix2 r c)) (fun j c => k (ix2 j c)) h) j := by
  have e : val_main_v28 (F := Ideal) q k (ix3 h r j) = max (Ideal.ofBits .f32 0xFF800000#32) (val_main_v10 (F := Ideal) q k (ix2 h r)) := by
    rw [val_main_v28_apply, val_main_v27_apply]
    have e2 : idx_main_v27 (idx_main_v28 (ix3 h r j)) = ix2 h r := by
      funext a
      fin_cases a <;> rfl
    have e3 : val_main_cst_2 (F := Ideal) (idx_main_v16 (ix2 h r)) = Ideal.ofBits .f32 0xFF800000#32 := rfl
    rw [e2, val_main_v17_apply, Ideal.maximumf_eq_max, val_main_v16_apply, e3]
  have e' : val_main_v30 (F := Ideal) q k (ix3 h r j) = Ideal.exp (val_main_v9 (F := Ideal) q k (ix3 h r j) - val_main_v28 (F := Ideal) q k (ix3 h r j)) := by
    unfold val_main_v30 val_main_v29
    generalize val_main_v9 (F := Ideal) q k = y
    generalize val_main_v28 (F := Ideal) q k = z
    pointwise
  rw [e', e, scores, peak_scores]
  exact weight_max _ j

theorem totals (h : Fin 4) (r : Fin 2048) (u : Fin 1) :
    val_main_v32 (F := Ideal) q k (ix3 h r u) = ∑ j : Fin 256, weight (rowScore (fun c => q (ix2 r c)) (fun j c => k (ix2 j c)) h) j := by
  pointwise [val_main_v32, val_main_v31, val_main_cst_8]
  simp only [weights]

theorem cots (h : Fin 4) (r : Fin 2048) (j : Fin 256) :
    val_main_v43 (F := Ideal) g v (ix3 h r j) = cot (fun d => g (ix2 r (hcol h d))) (fun j d => v (ix2 j (hcol h d))) j := by
  unfold cot
  pointwise [val_main_v43, val_main_v42, val_main_v41, val_main_v6, val_main_v3, val_main_v1]
  rfl

theorem one_eq : Ideal.ofBits .f32 0x3F800000#32 = 1 := by
  simp [Ideal.ofBits, Ideal.ieee, -EReal.coe_mul]
  norm_num

/-- The two parts of the gradient through the softmax's quotient, before they are joined. -/
theorem parts (h : Fin 4) (r : Fin 2048) (j : Fin 256) (y : FVec Ideal S4x2048x256 .f32) (l : FVec Ideal S4x2048x1 .f32) (p : FVec Ideal S4x2048x256 .f32)
    (hy : val_main_v30 (F := Ideal) q k = y) (hl : val_main_v32 (F := Ideal) q k = l) (hp : val_main_v43 (F := Ideal) g v = p) :
    val_main_v59 (F := Ideal) q g k v (ix3 h r j)
      = (Ideal.div (p (ix3 h r j)) (l (ix3 h r 0))
          + -(∑ n : Fin 256, p (ix3 h r n) * Ideal.div 1 (l (ix3 h r 0) * l (ix3 h r 0)) * y (ix3 h r n))) * y (ix3 h r j) * scale := by
  unfold val_main_v59 val_main_v57 val_main_v56 val_main_v53 val_main_v55 val_main_v54 val_main_v51 val_main_v50 val_main_v49 val_main_v48 val_main_v47 val_main_v46
    val_main_v37 val_main_v35 val_main_v52
  rw [hy, hl, hp]
  pointwise [val_main_v58, val_main_cst_12, val_main_cst_11, val_main_cst_10, val_main_v36, val_main_cst_9]
  simp only [Fin.sum_univ_one, one_eq]
  rfl

variable (hq : ∀ r c : Fin 2048, q (ix2 r c) ≠ ⊤ ∧ q (ix2 r c) ≠ ⊥) (hk : ∀ (j : Fin 256) (c : Fin 2048), k (ix2 j c) ≠ ⊤ ∧ k (ix2 j c) ≠ ⊥)

include hq hk in
theorem grads (h : Fin 4) (r : Fin 2048) (j : Fin 256) : val_main_v59 (F := Ideal) q g k v (ix3 h r j) = dScore q g k v h r j := by
  rw [parts q g k v h r j _ _ _ rfl rfl rfl]
  simp only [weights, totals, cots]
  exact grad_parts _ _ (fun n => score_finite _ _ (fun d => hq r _) (fun n d => hk n _) n) j

include hq hk in
theorem dq_eq : val_main_v67 (F := Ideal) q g k v = dq q g k v := by
  funext i
  obtain ⟨r, l, rfl⟩ : ∃ r l : Fin 2048, i = ix2 r l := ⟨i 0, i 1, eq_ix2 i⟩
  unfold dq
  pointwise [val_main_v67, val_main_v66, val_main_v63, val_main_v62, val_main_v5, val_main_v2]
  simp only [grads q g k v hq hk]
  refine Finset.sum_congr rfl fun j _ => ?_
  rfl

include hq hk in
theorem dk_eq : val_main_v65 (F := Ideal) q g k v = dk q g k v := by
  funext i
  obtain ⟨j, l, rfl⟩ : ∃ (j : Fin 256) (l : Fin 2048), i = ix2 j l := ⟨i 0, i 1, eq_ix2 i⟩
  unfold dk dkTerm
  pointwise [val_main_v65, val_main_v61, val_main_v60, val_main_v4, val_main_v0]
  simp only [grads q g k v hq hk]
  refine Finset.sum_congr rfl fun r _ => ?_
  rfl

theorem probs (h : Fin 4) (r : Fin 2048) (j : Fin 256) : val_main_v34 (F := Ideal) q k (ix3 h r j) = pScore q k h r j := by
  unfold pScore prob
  pointwise [val_main_v34, val_main_v33]
  simp only [weights, totals]

theorem dv_eq : val_main_v64 (F := Ideal) q g k = dv q g k := by
  funext i
  obtain ⟨j, l, rfl⟩ : ∃ (j : Fin 256) (l : Fin 2048), i = ix2 j l := ⟨i 0, i 1, eq_ix2 i⟩
  unfold dv dvTerm
  pointwise [val_main_v64, val_main_v45, val_main_v44, val_main_v42, val_main_v41, val_main_v1]
  simp only [probs]
  refine Finset.sum_congr rfl fun r _ => ?_
  rw [mul_comm]
  rfl

end Cert.XaRefIdeal.Spec

end
-- ==== Proof.XaBwd.lean ====
module

public import proofs.«01_k».proof.Proof.XaBwdTile
public import proofs.«01_k».proof.Proof.XaBwdRef

@[expose] public section

set_option maxRecDepth 16384

noncomputable section

namespace Cert.XaBwdIdeal.Tile

open Cert.XaBwdIdeal Cert.XaBwdIdeal.Gen Idealize.ShloMosaic Idealize.ShloMosaic.TcCoe Idealize.SL.Sem Cert.Attend
open Cert.XaRefIdeal.Spec (dScore pScore dq dk dv dkTerm dvTerm)

variable (m : (ℓ : Loc nD τ sig) → Buf (Elt Ideal) ℓ)

theorem index_all : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0] := by
  decide +kernel

/-- Row `r` of tile `t`. -/
def row (t : Fin cfg0.N) (r : Fin 256) : Fin 2048 := ⟨t.val * 256 + r.val, by have : t.val < 8 := t.isLt; omega⟩

theorem blk0 (c : Dev nD) (t : Fin cfg0.N) (r : Fin 256) (l : Fin 2048) :
    iblk m c 0 t (ix2 r l) = m ((c : Thread nD τ).loc main_arg0) (ix2 (row t r) l) := by
  blk_ext [iblk, V, index_all t, row]

theorem blk1 (c : Dev nD) (t : Fin cfg0.N) (r : Fin 256) (l : Fin 2048) :
    iblk m c 1 t (ix2 r l) = m ((c : Thread nD τ).loc main_arg1) (ix2 (row t r) l) := by
  blk_ext [iblk, V, index_all t, row]

theorem blk2 (c : Dev nD) (t : Fin cfg0.N) (j : Fin 256) (l : Fin 2048) : iblk m c 2 t (ix2 j l) = m ((c : Thread nD τ).loc main_arg2) (ix2 j l) := by
  blk_ext [iblk, V, index_all t]

theorem blk3 (c : Dev nD) (t : Fin cfg0.N) (j : Fin 256) (l : Fin 2048) : iblk m c 3 t (ix2 j l) = m ((c : Thread nD τ).loc main_arg3) (ix2 j l) := by
  blk_ext [iblk, V, index_all t]

theorem grad_blocks (c : Dev nD) (t : Fin cfg0.N) (h : Fin 4) (r j : Fin 256) :
    tileGrad (iblk m c 0 t) (iblk m c 1 t) (iblk m c 2 t) (iblk m c 3 t) h r j = dScore (m ((c : Thread nD τ).loc main_arg0))
      (m ((c : Thread nD τ).loc main_arg1)) (m ((c : Thread nD τ).loc main_arg2)) (m ((c : Thread nD τ).loc main_arg3)) h (row t r) j := by
  unfold tileGrad dScore
  simp only [blk0, blk1, blk2, blk3]

theorem prob_blocks (c : Dev nD) (t : Fin cfg0.N) (h : Fin 4) (r j : Fin 256) :
    tileProb (iblk m c 0 t) (iblk m c 2 t) h r j = pScore (m ((c : Thread nD τ).loc main_arg0)) (m ((c : Thread nD τ).loc main_arg2)) h (row t r) j := by
  unfold tileProb pScore
  simp only [blk0, blk2]

/-- A tile's rows of the queries' gradient, and its terms of the keys' and the values' gradient. -/
def tileRow (c : Dev nD) (t : Fin cfg0.N) (r : Fin 256) (l : Fin 2048) : EReal :=
  dq (m ((c : Thread nD τ).loc main_arg0)) (m ((c : Thread nD τ).loc main_arg1)) (m ((c : Thread nD τ).loc main_arg2)) (m ((c : Thread nD τ).loc main_arg3)) (ix2 (row t r) l)

def sumK (c : Dev nD) (t : Fin cfg0.N) (p : Fin 256 × Fin 2048) : EReal :=
  ∑ r : Fin 256, dkTerm (m ((c : Thread nD τ).loc main_arg0)) (m ((c : Thread nD τ).loc main_arg1)) (m ((c : Thread nD τ).loc main_arg2)) (m ((c : Thread nD τ).loc main_arg3)) p.1 p.2 (row t r)

def sumV (c : Dev nD) (t : Fin cfg0.N) (p : Fin 256 × Fin 2048) : EReal :=
  ∑ r : Fin 256, dvTerm (m ((c : Thread nD τ).loc main_arg0)) (m ((c : Thread nD τ).loc main_arg1)) (m ((c : Thread nD τ).loc main_arg2)) p.1 p.2 (row t r)

theorem dq_blocks (c : Dev nD) (t : Fin cfg0.N) (h : Fin 4) (d : Fin 512) (r : Fin 256) :
    tileDq (iblk m c 0 t) (iblk m c 1 t) (iblk m c 2 t) (iblk m c 3 t) h d r = tileRow m c t r (hcol h d) := by
  unfold tileDq
  simp only [grad_blocks, blk2]
  exact (Finset.sum_congr rfl fun j _ => congrArg (fun n => dScore _ _ _ _ n (row t r) j * _) (head_hcol h d)).symm

theorem dk_blocks (c : Dev nD) (t : Fin cfg0.N) (h : Fin 4) (d : Fin 512) (j : Fin 256) :
    tileDk (iblk m c 0 t) (iblk m c 1 t) (iblk m c 2 t) (iblk m c 3 t) h d j = sumK m c t (j, hcol h d) := by
  unfold tileDk sumK dkTerm
  simp only [grad_blocks, blk0, head_hcol]

theorem dv_blocks (c : Dev nD) (t : Fin cfg0.N) (h : Fin 4) (d : Fin 512) (j : Fin 256) :
    tileDv (iblk m c 0 t) (iblk m c 1 t) (iblk m c 2 t) h d j = sumV m c t (j, hcol h d) := by
  unfold tileDv sumV dvTerm
  simp only [prob_blocks, blk1, head_hcol]

theorem outs_rows (c : Dev nD) (t : Fin cfg0.N) (r : Fin 256) (l : Fin 2048) : (outsAt0 m c t.val t.isLt).1 (ix2 r l) = tileRow m c t r l := by
  have ht : t.val < 8 := t.isLt
  obtain ⟨h, d, rfl⟩ := head_cases l
  refine Eq.trans ?_ (dq_blocks m c t h d r)
  rcases Nat.eq_zero_or_pos t.val with h0 | h0
  · rw [outsAt0_A m c t (by omega) (by omega) (by omega) (by omega)]
    frame_out
    exact dq_apply _ _ _ _ r h d
  · rw [outsAt0_B m c t (by omega) (by omega) (by omega) (by omega)]
    frame_out
    exact dq_apply _ _ _ _ r h d

theorem outs_first (c : Dev nD) (t : Fin cfg0.N) (h0 : t.val % 8 = 0) (p : Fin 256 × Fin 2048) :
    (outsAt0 m c t.val t.isLt).2.1 (ix2 p.1 p.2) = sumK m c t p ∧ (outsAt0 m c t.val t.isLt).2.2 (ix2 p.1 p.2) = sumV m c t p := by
  have ht : t.val < 8 := t.isLt
  obtain ⟨j, l⟩ := p
  obtain ⟨h, d, rfl⟩ := head_cases l
  rw [outsAt0_A m c t (by omega) (by omega) (by omega) (by omega)]
  constructor
  · frame_out
    exact (dk_apply _ _ _ _ j h d).trans (dk_blocks m c t h d j)
  · frame_out
    exact (dv_apply _ _ _ j h d).trans (dv_blocks m c t h d j)

theorem outs_next (c : Dev nD) (t : Fin cfg0.N) (h0 : ¬t.val % 8 = 0) (p : Fin 256 × Fin 2048) :
    (outsAt0 m c t.val t.isLt).2.1 (ix2 p.1 p.2)
        = (outsAt0 m c (t.val - 1) (Nat.lt_of_le_of_lt (Nat.sub_le _ _) t.isLt)).2.1 (ix2 p.1 p.2) + sumK m c t p
      ∧ (outsAt0 m c t.val t.isLt).2.2 (ix2 p.1 p.2)
        = (outsAt0 m c (t.val - 1) (Nat.lt_of_le_of_lt (Nat.sub_le _ _) t.isLt)).2.2 (ix2 p.1 p.2) + sumV m c t p := by
  have ht : t.val < 8 := t.isLt
  obtain ⟨j, l⟩ := p
  obtain ⟨h, d, rfl⟩ := head_cases l
  rw [outsAt0_B m c t (by omega) (by omega) (by omega) (by omega)]
  constructor
  · frame_out
    pointwise [k0_pay1]
    exact congrArg _ ((dk_apply _ _ _ _ j h d).trans (dk_blocks m c t h d j))
  · frame_out
    pointwise [k0_pay2]
    exact congrArg _ ((dv_apply _ _ _ j h d).trans (dv_blocks m c t h d j))

theorem emb4 (t : Fin cfg0.N) (r : Fin 256) (l : Fin 2048) : (win0_4.blk t).view.emb (ix2 r l) = ix2 (row t r) l := by
  funext a
  apply Fin.ext
  fin_cases a
  · blk_simp [index_all t]
    rfl
  · blk_simp [index_all t]
    rfl

/-- The array of the queries' gradient. -/
theorem final4 (c : Dev nD) : (dats m 0 c).arrAt 4 cfg0.N = dq (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  obtain ⟨r, l, rfl⟩ : ∃ (r : Fin 256) (l : Fin 2048), y = ix2 r l := ⟨y 0, y 1, eq_ix2 y⟩
  refine Eq.trans ?_ (congrArg (dq _ _ _ _) (emb4 t r l)).symm
  rw [after0_4]
  have hx : (win0_4).xinj (grid0.coords t) (ix2 r l) = ix2 r l := by
    funext a
    fin_cases a <;> rfl
  exact (cast_eq _ _).trans ((congrArg (outsAt0 m c t.val t.isLt).1 hx).trans (outs_rows m c t r l))

/-- The grid's last point. -/
def last : Fin cfg0.N := ⟨7, by decide⟩

/-- The array of the keys' gradient. -/
theorem final5 (c : Dev nD) : (dats m 0 c).arrAt 5 cfg0.N = dk (m ((c : Thread nD τ).loc main_arg0)) (m ((c : Thread nD τ).loc main_arg1))
    (m ((c : Thread nD τ).loc main_arg2)) (m ((c : Thread nD τ).loc main_arg3)) := by
  refine (dats m 0 c).arrAt_eq_of_after_last 5 last (by decide +kernel) _ fun j => ?_
  blk_simp
  rw [after0_5]
  have hj : (fun a => ⟨(j a).val, (j a).isLt⟩ : S256x2048.Idx) = ix2 (j 0 : Fin 256) (j 1 : Fin 2048) := eq_ix2 _
  refine (congrArg (outsAt0 m c last.val last.isLt).2.1 hj).trans ?_
  refine (Idealize.ShloMosaic.Pipeline.eq_sum_fin_of_reset_step_apply_last (fun n h (p : Fin 256 × Fin 2048) => (outsAt0 m c n h).2.1 (ix2 p.1 p.2)) 8 (fun _ => 0)
    (fun t p => sumK m c t p) (fun t h p => ((outs_first m c t h p).1).trans (zero_add _).symm)
    (fun t h p => (outs_next m c t h p).1) (le_refl _) last rfl ((j 0 : Fin 256), (j 1 : Fin 2048))).trans ?_
  rw [zero_add]
  exact Fin.sum_mul_add_fin 8 256 (dkTerm (m ((c : Thread nD τ).loc main_arg0)) (m ((c : Thread nD τ).loc main_arg1)) (m ((c : Thread nD τ).loc main_arg2))
    (m ((c : Thread nD τ).loc main_arg3)) (j 0) (j 1)) rfl

/-- The array of the values' gradient. -/
theorem final6 (c : Dev nD) : (dats m 0 c).arrAt 6 cfg0.N = dv (m ((c : Thread nD τ).loc main_arg0)) (m ((c : Thread nD τ).loc main_arg1))
    (m ((c : Thread nD τ).loc main_arg2)) := by
  refine (dats m 0 c).arrAt_eq_of_after_last 6 last (by decide +kernel) _ fun j => ?_
  blk_simp
  rw [after0_6]
  have hj : (fun a => ⟨(j a).val, (j a).isLt⟩ : S256x2048.Idx) = ix2 (j 0 : Fin 256) (j 1 : Fin 2048) := eq_ix2 _
  refine (congrArg (outsAt0 m c last.val last.isLt).2.2 hj).trans ?_
  refine (Idealize.ShloMosaic.Pipeline.eq_sum_fin_of_reset_step_apply_last (fun n h (p : Fin 256 × Fin 2048) => (outsAt0 m c n h).2.2 (ix2 p.1 p.2)) 8 (fun _ => 0)
    (fun t p => sumV m c t p) (fun t h p => ((outs_first m c t h p).2).trans (zero_add _).symm)
    (fun t h p => (outs_next m c t h p).2) (le_refl _) last rfl ((j 0 : Fin 256), (j 1 : Fin 2048))).trans ?_
  rw [zero_add]
  exact Fin.sum_mul_add_fin 8 256 (dvTerm (m ((c : Thread nD τ).loc main_arg0)) (m ((c : Thread nD τ).loc main_arg1)) (m ((c : Thread nD τ).loc main_arg2))
    (j 0) (j 1)) rfl

end Cert.XaBwdIdeal.Tile

namespace Cert.Proof

open Idealize.ShloMosaic Idealize.ShloMosaic.TcCoe Idealize.SL.Sem
open Cert.XaRefIdeal.Spec (dq dk dv)

theorem finite_query [Cert.Pre_finite_scores.Facts] (x0 x1 : FVec Ideal Pre_finite_scores.S2048x2048 .bf16) (x2 x3 : FVec Ideal Pre_finite_scores.S256x2048 .bf16)
    (h : (Pre_finite_scores.fn (F := Ideal) x0 x1 x2 x3).1 = fun _ => 1#1) (r c : Fin 2048) : x0 (ix2 r c) ≠ ⊤ ∧ x0 (ix2 r c) ≠ ⊥ := by
  have e : (Pre_finite_scores.fn (F := Ideal) x0 x1 x2 x3).1 (ix2 r c) = BitVec.ofBool (decide (FloatOps.absf (x0 (ix2 r c)) < Ideal.ofBits .f32 0x7F800000#32)) := by
    unfold Pre_finite_scores.fn
    dsimp only
    pointwise []
    rfl
  rw [h] at e
  exact Common.finite_of_abs_lt _ e.symm

theorem finite_key [Cert.Pre_finite_scores.Facts] (x0 x1 : FVec Ideal Pre_finite_scores.S2048x2048 .bf16) (x2 x3 : FVec Ideal Pre_finite_scores.S256x2048 .bf16)
    (h : (Pre_finite_scores.fn (F := Ideal) x0 x1 x2 x3).2 = fun _ => 1#1) (j : Fin 256) (c : Fin 2048) : x2 (ix2 j c) ≠ ⊤ ∧ x2 (ix2 j c) ≠ ⊥ := by
  have e : (Pre_finite_scores.fn (F := Ideal) x0 x1 x2 x3).2 (ix2 j c) = BitVec.ofBool (decide (FloatOps.absf (x2 (ix2 j c)) < Ideal.ofBits .f32 0x7F800000#32)) := by
    unfold Pre_finite_scores.fn
    dsimp only
    pointwise []
    rfl
  rw [h] at e
  exact Common.finite_of_abs_lt _ e.symm

theorem xa_bwd_algebraic [Cert.Pre_finite_scores.Facts] : Cert.algebraic_XaBwdIdeal_XaRefIdeal_pre_finite_scores := by
  intro m g m' g' hp hm
  refine ⟨fun c => dq (m (c.tc.loc XaBwdIdeal.main_arg0)) (m (c.tc.loc XaBwdIdeal.main_arg1)) (m (c.tc.loc XaBwdIdeal.main_arg2)) (m (c.tc.loc XaBwdIdeal.main_arg3)),
    fun c => dk (m (c.tc.loc XaBwdIdeal.main_arg0)) (m (c.tc.loc XaBwdIdeal.main_arg1)) (m (c.tc.loc XaBwdIdeal.main_arg2)) (m (c.tc.loc XaBwdIdeal.main_arg3)),
    fun c => dv (m (c.tc.loc XaBwdIdeal.main_arg0)) (m (c.tc.loc XaBwdIdeal.main_arg1)) (m (c.tc.loc XaBwdIdeal.main_arg2)), ?_, ?_⟩
  · refine (θ_run _ _ _).mono (fun r h c => ?_) (XaBwdIdeal.Value.run_blocks m g)
    exact ⟨(h c).1.trans (XaBwdIdeal.Tile.final4 m c), (h c).2.1.trans (XaBwdIdeal.Tile.final5 m c), (h c).2.2.1.trans (XaBwdIdeal.Tile.final6 m c), (h c).2.2.2⟩
  · refine (θ_run _ _ _).mono (fun r h c => ?_) (XaRefIdeal.Value.run m' g')
    obtain ⟨e0, e1, e2, e3⟩ := hm c
    obtain ⟨p0, p2⟩ := hp c
    have f0 := finite_query _ _ _ _ p0
    have f2 := finite_key _ _ _ _ p2
    refine ⟨(h c).1.trans ?_, (h c).2.1.trans ?_, (h c).2.2.1.trans ?_, (h c).2.2.2⟩
    · refine (XaRefIdeal.Read.val_main_v67_eq _ _).trans ?_
      refine Eq.trans ?_ (XaRefIdeal.Spec.dq_eq _ _ _ _ f0 f2)
      exact congr (congr (congr (congrArg XaRefIdeal.Read.val_main_v67 e0) e1) e2) e3
    · refine (XaRefIdeal.Read.val_main_v65_eq _ _).trans ?_
      refine Eq.trans ?_ (XaRefIdeal.Spec.dk_eq _ _ _ _ f0 f2)
      exact congr (congr (congr (congrArg XaRefIdeal.Read.val_main_v65 e0) e1) e2) e3
    · refine (XaRefIdeal.Read.val_main_v64_eq _ _ _).trans ((XaRefIdeal.Spec.dv_eq _ _ _).trans ?_)
      exact congr (congr (congrArg dv e0) e1) e2

end Cert.Proof

end
-- ==== Proof.MixDwin.lean ====
module

public import proofs.«01_k».proof.Defs
public import proofs.«01_k».proof.Proof.Gen.MixDwinIdeal.Value
public import proofs.«01_k».proof.Proof.Gen.MixDwinRefIdeal.Run
public import proofs.«01_k».proof.Proof.Gen.MixDwinRefIdeal.Read
public import Idealize.ShloMosaic.Lib.Pointwise
public import Idealize.ShloMosaic.Lib.Pipeline.ValueKit

@[expose] public section

set_option maxRecDepth 16384

noncomputable section

namespace Cert.MixDwinRefIdeal.Spec

open Cert.MixDwinRefIdeal Cert.MixDwinRefIdeal.Gen Cert.MixDwinRefIdeal.Read Idealize.ShloMosaic

/-- The product of column `k` of the first matrix with column `l` of the second. -/
def entry (x0 : FVec Ideal S2048x2048 .bf16) (x1 : FVec Ideal S2048x4096 .bf16) (k : Fin 2048) (l : Fin 4096) : EReal :=
  ∑ t : Fin 2048, x0 (ix2 t k) * x1 (ix2 t l)

/-- The gradient of the first product's weights, in four slabs. -/
def grad (x0 : FVec Ideal S2048x2048 .bf16) (x1 : FVec Ideal S2048x4096 .bf16) : FVec Ideal S4x2048x1024 .bf16 := fun i =>
  entry x0 x1 (i 1 : Fin 2048) ⟨(i 0).val * 1024 + (i 2).val, by
    have h0 : (i 0).val < 4 := (i 0).isLt; have h1 : (i 2).val < 1024 := (i 2).isLt; omega⟩

theorem grad_eq (x0 : FVec Ideal S2048x2048 .bf16) (x1 : FVec Ideal S2048x4096 .bf16) :
    val_main_v10 (F := Ideal) x0 x1 = grad x0 x1 := by
  funext i
  rw [eq_ix3 i]
  generalize (i 0 : Fin 4) = n
  generalize (i 1 : Fin 2048) = k
  generalize (i 2 : Fin 1024) = l
  unfold grad entry
  pointwise [val_main_v10, val_main_v9, val_main_v8, val_main_v7, val_main_v6, val_main_v1, val_main_v0]
  refine Finset.sum_congr rfl fun t _ => ?_
  rw [mul_comm]

end Cert.MixDwinRefIdeal.Spec

namespace Cert.MixDwinIdeal.Tile

open Cert.MixDwinIdeal Cert.MixDwinIdeal.Gen Idealize.ShloMosaic Idealize.ShloMosaic.TcCoe Idealize.SL.Sem

variable (m : (ℓ : Loc nD τ sig) → Buf (Elt Ideal) ℓ)

theorem index_all : ∀ t : Fin grid0.N, win0_0.index t = ![0, t.val % 2] ∧ win0_1.index t = ![0, t.val / 2] ∧ win0_2.index t = ![t.val / 2, t.val % 2, 0] := by
  decide +kernel

theorem pay_apply (v0 : Vec Ideal S2048x1024 .bf16) (v1 : Vec Ideal S2048x1024 .bf16) (k : Fin 1024) (l : Fin 1024) :
    k0_pay1 v0 v1 (ix3 0 k l) = ∑ t : Fin 2048, v0 (ix2 t k) * v1 (ix2 t l) := by
  pointwise [k0_pay1]

theorem blk0 (c : Dev nD) (t : Fin cfg0.N) (k : Fin 2048) (l : Fin 1024) :
    iblk m c 0 t (ix2 k l) = m ((c : Thread nD τ).loc main_arg0) (ix2 k (⟨t.val % 2 * 1024 + l.val, by omega⟩ : Fin 2048)) := by
  blk_ext [iblk, V, index_all t]

theorem blk1 (c : Dev nD) (t : Fin cfg0.N) (k : Fin 2048) (l : Fin 1024) :
    iblk m c 1 t (ix2 k l) = m ((c : Thread nD τ).loc main_arg1) (ix2 k (⟨t.val / 2 * 1024 + l.val, by have : t.val < 8 := t.isLt; omega⟩ : Fin 4096)) := by
  blk_ext [iblk, V, index_all t]

/-- Where entry `(0, f, d)` of the result's tile lies in the result. -/
theorem emb_eq (t : Fin cfg0.N) (f : Fin 1024) (d : Fin 1024) : (win0_2.blk t).view.emb (ix3 (0 : Fin 1) f d) = ix3 (⟨t.val / 2, by have : t.val < 8 := t.isLt; omega⟩ : Fin 4) (⟨t.val % 2 * 1024 + f.val, by omega⟩ : Fin 2048) d := by
  funext a
  apply Fin.ext
  fin_cases a
  · blk_simp [index_all t]
    rfl
  · blk_simp [index_all t]
    rfl
  · blk_simp [index_all t]
    rfl

/-- The result's array at the end. -/
theorem final (c : Dev nD) : (dats m 0 c).arrAt 2 cfg0.N
    = Cert.MixDwinRefIdeal.Spec.grad (m ((c : Thread nD τ).loc main_arg0)) (m ((c : Thread nD τ).loc main_arg1)) := by
  refine (dats m 0 c).arrAt_eq_of_covers 2 _ (by decide +kernel) fun t hf y => ?_
  obtain ⟨f, d, rfl⟩ : ∃ (f : Fin 1024) (d : Fin 1024), y = ix3 (0 : Fin 1) f d :=
    ⟨y 1, y 2, (eq_ix3 y).trans (congrArg (fun q : Fin 1 => ix3 q (y 1 : Fin 1024) (y 2 : Fin 1024)) (Subsingleton.elim (α := Fin 1) (y 0) 0))⟩
  refine Eq.trans ?_ (congrArg (Cert.MixDwinRefIdeal.Spec.grad _ _) (emb_eq t f d)).symm
  rw [after0_2]
  frame_out
  refine (pay_apply _ _ f d).trans ?_
  simp only [blk0, blk1]
  rfl

end Cert.MixDwinIdeal.Tile

namespace Cert.Proof

open Idealize.ShloMosaic Idealize.ShloMosaic.TcCoe Idealize.SL.Sem

theorem mix_dwin_algebraic : Cert.algebraic_MixDwinIdeal_MixDwinRefIdeal := by
  intro m g m' g' _ hm
  refine ⟨fun c => MixDwinRefIdeal.Spec.grad (m (c.tc.loc MixDwinIdeal.main_arg0)) (m (c.tc.loc MixDwinIdeal.main_arg1)), ?_, ?_⟩
  · refine (θ_run _ _ _).mono (fun r h c => ?_) (MixDwinIdeal.Value.run_blocks m g)
    exact ⟨(h c).1.trans (MixDwinIdeal.Tile.final m c), (h c).2⟩
  · refine (θ_run _ _ _).mono (fun r h c => ?_) (MixDwinRefIdeal.Value.run m' g')
    obtain ⟨e0, e1⟩ := hm c
    refine ⟨(h c).1.trans ((MixDwinRefIdeal.Read.val_main_v10_eq _ _).trans ((MixDwinRefIdeal.Spec.grad_eq _ _).trans ?_)), (h c).2⟩
    exact congr (congrArg MixDwinRefIdeal.Spec.grad e0) e1

end Cert.Proof

end
-- ==== Proof.MixDh.lean ====
module

public import proofs.«01_k».proof.Defs
public import proofs.«01_k».proof.Proof.Gen.MixDhIdeal.Value
public import proofs.«01_k».proof.Proof.Gen.MixDhRefIdeal.Run
public import proofs.«01_k».proof.Proof.Gen.MixDhRefIdeal.Read
public import proofs.«01_k».proof.Proof.Common
public import Idealize.ShloMosaic.Lib.Pointwise
public import Idealize.ShloMosaic.Lib.Pipeline.ValueKit

@[expose] public section

set_option maxRecDepth 16384

noncomputable section

namespace Cert.MixDhRefIdeal.Spec

open Cert.MixDhRefIdeal Cert.MixDhRefIdeal.Gen Cert.MixDhRefIdeal.Read Idealize.ShloMosaic

/-- The gradient of the first factor of the product with the weight, slab after slab of the weight's columns. -/
def grad (x0 : FVec Ideal S2048x4096 .bf16) (x1 : FVec Ideal S4x2048x1024 .bf16) : FVec Ideal S2048x2048 .f32 := fun i =>
  ∑ n : Fin 4, ∑ l : Fin 1024, x0 (ix2 (i 0 : Fin 2048) (⟨n.val * 1024 + l.val, by omega⟩ : Fin 4096)) * x1 (ix3 n (i 1 : Fin 2048) l)

theorem grad_eq (x0 : FVec Ideal S2048x4096 .bf16) (x1 : FVec Ideal S4x2048x1024 .bf16) : val_main_v6 (F := Ideal) x0 x1 = grad x0 x1 := by
  funext i
  obtain ⟨t, d, rfl⟩ : ∃ t d : Fin 2048, i = ix2 t d := ⟨i 0, i 1, eq_ix2 i⟩
  refine Eq.trans ?_ (Common.sum_colSlab (fun l => x0 (ix2 t l)) x1 d)
  pointwise [val_main_v6, val_main_v4, val_main_v3, val_main_v1, val_main_v0]
  rfl

end Cert.MixDhRefIdeal.Spec

namespace Cert.MixDhIdeal.Tile

open Cert.MixDhIdeal Cert.MixDhIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val / 8, 0] ∧ win0_1.index t = ![0, t.val % 8, 0] ∧ win0_2.index t = ![t.val / 8, t.val % 8] := by
  decide +kernel

theorem out_apply (x0 : Vec Ideal S512x4096 .bf16) (x1 : Vec Ideal S4x256x1024 .bf16) (r : Fin 512) (d : Fin 256) :
    out0_2 x0 x1 (ix2 r d) = ∑ n : Fin 4, ∑ l : Fin 1024, x0 (ix2 r (⟨n.val * 1024 + l.val, by omega⟩ : Fin 4096)) * x1 (ix3 n d l) := by
  rw [Fin.sum_univ_four]
  frame_out
  pointwise [k0_pay1]

def row (t : Fin cfg0.N) (r : Fin 512) : Fin 2048 := ⟨t.val / 8 * 512 + r.val, by have : t.val < 32 := t.isLt; omega⟩
def col (t : Fin cfg0.N) (d : Fin 256) : Fin 2048 := ⟨t.val % 8 * 256 + d.val, by omega⟩

theorem blk0 (c : Dev nD) (t : Fin cfg0.N) (r : Fin 512) (l : Fin 4096) :
    iblk m c 0 t (ix2 r l) = m ((c : Thread nD τ).loc main_arg0) (ix2 (row t r) l) := by
  blk_ext [iblk, V, index_all t, row]

theorem blk1 (c : Dev nD) (t : Fin cfg0.N) (n : Fin 4) (d : Fin 256) (l : Fin 1024) :
    iblk m c 1 t (ix3 n d l) = m ((c : Thread nD τ).loc main_arg1) (ix3 n (col t d) l) := by
  blk_ext [iblk, V, index_all t, col]

theorem emb_eq (t : Fin cfg0.N) (r : Fin 512) (d : Fin 256) : (win0_2.blk t).view.emb (ix2 r d) = ix2 (row t r) (col t d) := by
  funext a
  apply Fin.ext
  fin_cases a
  · blk_simp [index_all t]
    rfl
  · blk_simp [index_all t]
    rfl

theorem final (c : Dev nD) : (dats m 0 c).arrAt 2 cfg0.N = Cert.MixDhRefIdeal.Spec.grad (m ((c : Thread nD τ).loc main_arg0)) (m ((c : Thread nD τ).loc main_arg1)) := by
  refine (dats m 0 c).arrAt_eq_of_covers 2 _ (by decide +kernel) fun t hf y => ?_
  obtain ⟨r, d, rfl⟩ : ∃ (r : Fin 512) (d : Fin 256), y = ix2 r d := ⟨y 0, y 1, eq_ix2 y⟩
  refine Eq.trans ?_ (congrArg (Cert.MixDhRefIdeal.Spec.grad _ _) (emb_eq t r d)).symm
  rw [after0_2]
  have hx : (win0_2).xinj (grid0.coords t) (ix2 r d) = ix2 r d := by funext a; fin_cases a <;> rfl
  refine (cast_eq _ _).trans ((congrArg (out0_2 _ _) hx).trans ((out_apply _ _ r d).trans ?_))
  simp only [blk0, blk1]
  rfl

end Cert.MixDhIdeal.Tile

namespace Cert.Proof

open Idealize.ShloMosaic Idealize.ShloMosaic.TcCoe Idealize.SL.Sem

theorem mix_dh_algebraic : Cert.algebraic_MixDhIdeal_MixDhRefIdeal := by
  intro m g m' g' _ hm
  refine ⟨fun c => MixDhRefIdeal.Spec.grad (m (c.tc.loc MixDhIdeal.main_arg0)) (m (c.tc.loc MixDhIdeal.main_arg1)), ?_, ?_⟩
  · refine (θ_run _ _ _).mono (fun r h c => ?_) (MixDhIdeal.Value.run_blocks m g)
    exact ⟨(h c).1.trans (MixDhIdeal.Tile.final m c), (h c).2⟩
  · refine (θ_run _ _ _).mono (fun r h c => ?_) (MixDhRefIdeal.Value.run m' g')
    obtain ⟨e0, e1⟩ := hm c
    refine ⟨(h c).1.trans ((MixDhRefIdeal.Read.val_main_v6_eq _ _).trans ((MixDhRefIdeal.Spec.grad_eq _ _).trans ?_)), (h c).2⟩
    exact congr (congrArg MixDhRefIdeal.Spec.grad e0) e1

end Cert.Proof

end
-- ==== Proof.NormBwd.lean ====
module

public import proofs.«01_k».proof.Defs
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Common
public import Idealize.ShloMosaic.Lib.Pointwise
public import Idealize.ShloMosaic.Lib.Pipeline.ValueKit

@[expose] public section

set_option maxRecDepth 16384

noncomputable section

namespace Cert.NormBwdRefIdeal.Spec

open Cert.NormBwdRefIdeal Cert.NormBwdRefIdeal.Gen Cert.NormBwdRefIdeal.Read Idealize.ShloMosaic

/-- The mean square of a row, with the norm's small constant added. -/
def ms (f : Fin 2048 → EReal) : EReal := Ideal.div (∑ k : Fin 2048, f k * f k) (Ideal.ofBits .f32 0x45000000#32) + Ideal.ofBits .f32 0x358637BD#32

/-- The part of a row's gradient that comes through its mean square. -/
def through (f h g : Fin 2048 → EReal) : EReal :=
  Ideal.div ((∑ k : Fin 2048, f k * (h k * g k)) * (Ideal.ofBits .f32 0xBF000000#32 * Ideal.div (Ideal.rsqrt (ms f)) (ms f))) (Ideal.ofBits .f32 0x45000000#32)

/-- A row's gradient, from its own cotangent `o` and the cotangent `h` of its norm. -/
def row (f g h o : Fin 2048 → EReal) (l : Fin 2048) : EReal :=
  o l + h l * g l * Ideal.rsqrt (ms f) + f l * through f h g + through f h g * f l

def dx (x : FVec Ideal S2048x2048 .f32) (g : FVec Ideal S1x2048 .f32) (h o : FVec Ideal S2048x2048 .f32) : FVec Ideal S2048x2048 .f32 := fun i =>
  row (fun k => x (ix2 (i 0 : Fin 2048) k)) (fun k => g (ix2 0 k)) (fun k => h (ix2 (i 0 : Fin 2048) k)) (fun k => o (ix2 (i 0 : Fin 2048) k)) (i 1 : Fin 2048)

/-- One row's term of the weight's gradient. -/
def term (x h : FVec Ideal S2048x2048 .f32) (l r : Fin 2048) : EReal := x (ix2 r l) * Ideal.rsqrt (ms fun k => x (ix2 r k)) * h (ix2 r l)

def dg (x h : FVec Ideal S2048x2048 .f32) : FVec Ideal S1x2048 .f32 := fun i => ∑ r : Fin 2048, term x h (i 1 : Fin 2048) r

theorem dx_eq (x : FVec Ideal S2048x2048 .f32) (g : FVec Ideal S1x2048 .f32) (h o : FVec Ideal S2048x2048 .f32) :
    val_main_v34 (F := Ideal) x g h o = dx x g h o := by
  funext i
  obtain ⟨r, l, rfl⟩ : ∃ r l : Fin 2048, i = ix2 r l := ⟨i 0, i 1, eq_ix2 i⟩
  pointwise [val_main_v34, val_main_v33, val_main_v32, val_main_v31, val_main_v30, val_main_v29, val_main_cst_6, val_main_v28, val_main_v27, val_main_cst_5, val_main_v26, val_main_v25, val_main_v24, val_main_v23, val_main_v22, val_main_v21, val_main_cst_4, val_main_v20, val_main_v19, val_main_v18, val_main_v10, val_main_v9, val_main_cst_2, val_main_v8, val_main_v7, val_main_v6, val_main_v5, val_main_cst_1, val_main_v4, val_main_v3, val_main_cst_0, val_main_v2, val_main_v1, val_main_cst, val_main_v0]
  simp only [Fin.sum_univ_one]
  rfl

theorem dg_eq (x h : FVec Ideal S2048x2048 .f32) : val_main_v17 (F := Ideal) x h = dg x h := by
  funext i
  obtain ⟨l, rfl⟩ : ∃ l : Fin 2048, i = ix2 (0 : Fin 1) l :=
    ⟨i 1, (eq_ix2 i).trans (congrArg (fun q : Fin 1 => ix2 q (i 1 : Fin 2048)) (Subsingleton.elim (α := Fin 1) (i 0) 0))⟩
  unfold dg term
  pointwise [val_main_v17, val_main_v16, val_main_cst_3, val_main_v15, val_main_v12, val_main_v11, val_main_v7, val_main_v6, val_main_v5, val_main_cst_1, val_main_v4, val_main_v3, val_main_cst_0, val_main_v2, val_main_v1, val_main_cst, val_main_v0]
  rfl

end Cert.NormBwdRefIdeal.Spec

namespace Cert.NormBwdIdeal.Tile

open Cert.NormBwdIdeal Cert.NormBwdIdeal.Gen Idealize.ShloMosaic Idealize.ShloMosaic.TcCoe Idealize.SL.Sem
open Cert.NormBwdRefIdeal.Spec (ms row through term dx dg)

variable (m : (ℓ : Loc nD τ sig) → Buf (Elt Ideal) ℓ)

theorem index_all : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] := by
  decide +kernel

theorem pay7_apply (x h o : Vec Ideal S256x2048 .f32) (g : Vec Ideal S1x2048 .f32) (r : Fin 256) (l : Fin 2048) :
    k0_pay7 x h o g (ix2 r l) = row (fun k => x (ix2 r k)) (fun k => g (ix2 0 k)) (fun k => h (ix2 r k)) (fun k => o (ix2 r k)) l := by
  unfold row
  rw [add_assoc, add_assoc, ← add_assoc (_ * _) (_ * _) (_ * _)]
  pointwise [k0_pay7, k0_pay6, k0_pay4, k0_pay3]
  simp only [Fin.sum_univ_one]
  rfl

theorem pay18_apply (x h o : Vec Ideal S256x2048 .f32) (g : Vec Ideal S1x2048 .f32) (r : Fin 256) (l : Fin 2048) :
    k0_pay1 (k0_pay8 x h o g) (ix2 r l) = row (fun k => x (ix2 r k)) (fun k => g (ix2 0 k)) (fun k => h (ix2 r k)) (fun k => o (ix2 r k)) l :=
  pay7_apply x h o g r l

theorem pay5_apply (x h : Vec Ideal S256x2048 .f32) (l : Fin 2048) :
    k0_pay5 x h (ix2 0 l) = ∑ r : Fin 256, x (ix2 r l) * Ideal.rsqrt (ms fun k => x (ix2 r k)) * h (ix2 r l) := by
  pointwise [k0_pay5, k0_pay4, k0_pay3]
  rfl

theorem blk0 (c : Dev nD) (t : Fin cfg0.N) (r : Fin 256) (l : Fin 2048) :
    iblk m c 0 t (ix2 r l) = m ((c : Thread nD τ).loc main_arg0) (ix2 (⟨t.val * 256 + r.val, by have : t.val < 8 := t.isLt; omega⟩ : Fin 2048) l) := by
  blk_ext [iblk, V, index_all t]

theorem blk1 (c : Dev nD) (t : Fin cfg0.N) (r : Fin 256) (l : Fin 2048) :
    iblk m c 1 t (ix2 r l) = m ((c : Thread nD τ).loc main_arg2) (ix2 (⟨t.val * 256 + r.val, by have : t.val < 8 := t.isLt; omega⟩ : Fin 2048) l) := by
  blk_ext [iblk, V, index_all t]

theorem blk2 (c : Dev nD) (t : Fin cfg0.N) (r : Fin 256) (l : Fin 2048) :
    iblk m c 2 t (ix2 r l) = m ((c : Thread nD τ).loc main_arg3) (ix2 (⟨t.val * 256 + r.val, by have : t.val < 8 := t.isLt; omega⟩ : Fin 2048) l) := by
  blk_ext [iblk, V, index_all t]

theorem blk3 (c : Dev nD) (t : Fin cfg0.N) (l : Fin 2048) : iblk m c 3 t (ix2 0 l) = m ((c : Thread nD τ).loc main_arg1) (ix2 0 l) := by
  blk_ext [iblk, V, index_all t]

/-- The gradient of the arguments, at row `r` of tile `t`. -/
def tileRow (c : Dev nD) (t : Fin cfg0.N) (r : Fin 256) (l : Fin 2048) : EReal :=
  dx (m ((c : Thread nD τ).loc main_arg0)) (m ((c : Thread nD τ).loc main_arg1)) (m ((c : Thread nD τ).loc main_arg2)) (m ((c : Thread nD τ).loc main_arg3))
    (ix2 (⟨t.val * 256 + r.val, by have : t.val < 8 := t.isLt; omega⟩ : Fin 2048) l)

theorem row_blocks (c : Dev nD) (t : Fin cfg0.N) (r : Fin 256) (l : Fin 2048) :
    row (fun k => iblk m c 0 t (ix2 r k)) (fun k => iblk m c 3 t (ix2 0 k)) (fun k => iblk m c 1 t (ix2 r k)) (fun k => iblk m c 2 t (ix2 r k)) l
      = tileRow m c t r l := by
  simp only [blk0, blk1, blk2, blk3]
  rfl

theorem outs_rows (c : Dev nD) (t : Fin cfg0.N) (r : Fin 256) (l : Fin 2048) : (outsAt0 m c t.val t.isLt).1 (ix2 r l) = tileRow m c t r l := by
  have ht : t.val < 8 := t.isLt
  refine Eq.trans ?_ (row_blocks m c t r l)
  rcases Nat.eq_zero_or_pos t.val with h | h
  · rw [outsAt0_A m c t (by omega) (by omega)]
    frame_out
    exact pay7_apply _ _ _ _ r l
  · rw [outsAt0_B m c t (by omega) (by omega)]
    frame_out
    exact pay7_apply _ _ _ _ r l

theorem outs_low (c : Dev nD) (t : Fin cfg0.N) (r : Fin 256) (l : Fin 2048) : (outsAt0 m c t.val t.isLt).2.1 (ix2 r l) = tileRow m c t r l := by
  have ht : t.val < 8 := t.isLt
  refine Eq.trans ?_ (row_blocks m c t r l)
  rcases Nat.eq_zero_or_pos t.val with h | h
  · rw [outsAt0_A m c t (by omega) (by omega)]
    frame_out
    exact pay18_apply _ _ _ _ r l
  · rw [outsAt0_B m c t (by omega) (by omega)]
    frame_out
    exact pay18_apply _ _ _ _ r l

def tileSum (c : Dev nD) (t : Fin cfg0.N) (l : Fin 2048) : EReal :=
  ∑ r : Fin 256, term (m ((c : Thread nD τ).loc main_arg0)) (m ((c : Thread nD τ).loc main_arg2)) l (⟨t.val * 256 + r.val, by have : t.val < 8 := t.isLt; omega⟩ : Fin 2048)

theorem sum_blocks (c : Dev nD) (t : Fin cfg0.N) (l : Fin 2048) : k0_pay5 (iblk m c 0 t) (iblk m c 1 t) (ix2 0 l) = tileSum m c t l := by
  refine (pay5_apply _ _ l).trans ?_
  simp only [blk0, blk1]
  rfl

theorem outs_sum_first (c : Dev nD) (t : Fin cfg0.N) (h : t.val % 8 = 0) (l : Fin 2048) :
    (outsAt0 m c t.val t.isLt).2.2 (ix2 0 l) = tileSum m c t l := by
  have ht : t.val < 8 := t.isLt
  rw [outsAt0_A m c t h (by omega)]
  frame_out
  exact sum_blocks m c t l

theorem outs_sum_next (c : Dev nD) (t : Fin cfg0.N) (h : ¬t.val % 8 = 0) (l : Fin 2048) :
    (outsAt0 m c t.val t.isLt).2.2 (ix2 0 l)
      = (outsAt0 m c (t.val - 1) (Nat.lt_of_le_of_lt (Nat.sub_le _ _) t.isLt)).2.2 (ix2 0 l) + tileSum m c t l := by
  have ht : t.val < 8 := t.isLt
  rw [outsAt0_B m c t h (by omega)]
  frame_out
  pointwise [k0_pay2]
  exact congrArg _ (sum_blocks m c t l)

theorem emb4 (t : Fin cfg0.N) (r : Fin 256) (l : Fin 2048) : (win0_4.blk t).view.emb (ix2 r l)
    = ix2 (⟨t.val * 256 + r.val, by have : t.val < 8 := t.isLt; omega⟩ : Fin 2048) l := by
  funext a
  apply Fin.ext
  fin_cases a
  · blk_simp [index_all t]
    rfl
  · blk_simp [index_all t]
    rfl

theorem emb5 (t : Fin cfg0.N) (r : Fin 256) (l : Fin 2048) : (win0_5.blk t).view.emb (ix2 r l)
    = ix2 (⟨t.val * 256 + r.val, by have : t.val < 8 := t.isLt; omega⟩ : Fin 2048) l := by
  funext a
  apply Fin.ext
  fin_cases a
  · blk_simp [index_all t]
    rfl
  · blk_simp [index_all t]
    rfl

/-- The array of the gradient. -/
theorem final4 (c : Dev nD) : (dats m 0 c).arrAt 4 cfg0.N = dx (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  obtain ⟨r, l, rfl⟩ : ∃ (r : Fin 256) (l : Fin 2048), y = ix2 r l := ⟨y 0, y 1, eq_ix2 y⟩
  refine Eq.trans ?_ (congrArg (dx _ _ _ _) (emb4 t r l)).symm
  rw [after0_4]
  have hx : (win0_4).xinj (grid0.coords t) (ix2 r l) = ix2 r l := by
    funext a
    fin_cases a <;> rfl
  exact (cast_eq _ _).trans ((congrArg (outsAt0 m c t.val t.isLt).1 hx).trans (outs_rows m c t r l))

/-- The array of the rounded gradient. -/
theorem final5 (c : Dev nD) : (dats m 0 c).arrAt 5 cfg0.N = dx (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 256) (l : Fin 2048), y = ix2 r l := ⟨y 0, y 1, eq_ix2 y⟩
  refine Eq.trans ?_ (congrArg (dx _ _ _ _) (emb5 t r l)).symm
  rw [after0_5]
  have hx : (win0_5).xinj (grid0.coords t) (ix2 r l) = ix2 r l := by
    funext a
    fin_cases a <;> rfl
  exact (cast_eq _ _).trans ((congrArg (outsAt0 m c t.val t.isLt).2.1 hx).trans (outs_low m c t r l))

/-- The grid's last point. -/
def last : Fin cfg0.N := ⟨7, by decide⟩

/-- The array of the weight's gradient. -/
theorem final6 (c : Dev nD) : (dats m 0 c).arrAt 6 cfg0.N = dg (m ((c : Thread nD τ).loc main_arg0)) (m ((c : Thread nD τ).loc main_arg2)) := by
  refine (dats m 0 c).arrAt_eq_of_after_last 6 last (by decide +kernel) _ fun j => ?_
  blk_simp
  rw [after0_6]
  have hj : (fun a => ⟨(j a).val, (j a).isLt⟩ : S1x2048.Idx) = ix2 (0 : Fin 1) (j 1 : Fin 2048) := by
    refine (eq_ix2 _).trans ?_
    have h0 : (⟨(j 0).val, (j 0).isLt⟩ : Fin 1) = 0 := Subsingleton.elim _ _
    exact congrArg (fun q => ix2 q (j 1 : Fin 2048)) h0
  refine (congrArg (outsAt0 m c last.val last.isLt).2.2 hj).trans ?_
  refine (Idealize.ShloMosaic.Pipeline.eq_sum_fin_of_reset_step_apply_last (fun n h l => (outsAt0 m c n h).2.2 (ix2 0 l)) 8 (fun _ => 0)
    (fun t l => tileSum m c t l) (fun t h l => (outs_sum_first m c t h l).trans (zero_add _).symm)
    (fun t h l => outs_sum_next m c t h l) (le_refl _) last rfl (j 1)).trans ?_
  rw [zero_add]
  exact Fin.sum_mul_add_fin 8 256 (term (m ((c : Thread nD τ).loc main_arg0)) (m ((c : Thread nD τ).loc main_arg2)) (j 1)) rfl

end Cert.NormBwdIdeal.Tile

namespace Cert.Proof

open Idealize.ShloMosaic Idealize.ShloMosaic.TcCoe Idealize.SL.Sem
open Cert.NormBwdRefIdeal.Spec (dx dg)

theorem norm_bwd_algebraic : Cert.algebraic_NormBwdIdeal_NormBwdRefIdeal := by
  intro m g m' g' _ hm
  let res := fun c : Dev NormBwdIdeal.nD => dx (m (c.tc.loc NormBwdIdeal.main_arg0)) (m (c.tc.loc NormBwdIdeal.main_arg1)) (m (c.tc.loc NormBwdIdeal.main_arg2)) (m (c.tc.loc NormBwdIdeal.main_arg3))
  refine ⟨res, res, fun c => dg (m (c.tc.loc NormBwdIdeal.main_arg0)) (m (c.tc.loc NormBwdIdeal.main_arg2)), ?_, ?_⟩
  · refine (θ_run _ _ _).mono (fun r h c => ?_) (NormBwdIdeal.Value.run_blocks m g)
    exact ⟨(h c).1.trans (NormBwdIdeal.Tile.final4 m c), (h c).2.1.trans (NormBwdIdeal.Tile.final5 m c), (h c).2.2.1.trans (NormBwdIdeal.Tile.final6 m c), (h c).2.2.2⟩
  · refine (θ_run _ _ _).mono (fun r h c => ?_) (NormBwdRefIdeal.Value.run m' g')
    obtain ⟨e0, e1, e2, e3⟩ := hm c
    have e := congr (congr (congr (congrArg dx e0) e1) e2) e3
    refine ⟨(h c).1.trans ?_, (h c).2.1.trans ?_, (h c).2.2.1.trans ?_, (h c).2.2.2⟩
    · exact (NormBwdRefIdeal.Read.val_main_v34_eq _ _ _ _).trans ((NormBwdRefIdeal.Spec.dx_eq _ _ _ _).trans e)
    · exact (NormBwdRefIdeal.Read.val_main_v35_eq _ _ _ _).trans ((NormBwdRefIdeal.Spec.dx_eq _ _ _ _).trans e)
    · exact (NormBwdRefIdeal.Read.val_main_v17_eq _ _).trans ((NormBwdRefIdeal.Spec.dg_eq _ _).trans (congr (congrArg dg e0) e2))

end Cert.Proof

end
-- ==== Proof.XaQ.lean ====
module

public import proofs.«01_k».proof.Defs
public import proofs.«01_k».proof.Proof.Gen.XaQIdeal.Value
public import proofs.«01_k».proof.Proof.Gen.XaQRefIdeal.Run
public import proofs.«01_k».proof.Proof.Gen.XaQRefIdeal.Read
public import proofs.«01_k».proof.Proof.Common
public import Idealize.ShloMosaic.Lib.Pointwise
public import Idealize.ShloMosaic.Lib.Pipeline.ValueKit

@[expose] public section

set_option maxRecDepth 16384

noncomputable section

namespace Cert.XaQRefIdeal.Spec

open Cert.XaQRefIdeal Cert.XaQRefIdeal.Gen Cert.XaQRefIdeal.Read Idealize.ShloMosaic

/-- The queries: the product with the weight. -/
def grad (x0 : FVec Ideal S2048x2048 .bf16) (x1 : FVec Ideal S4x512x2048 .bf16) : FVec Ideal S2048x2048 .bf16 := fun i =>
  Common.rowDot (fun k => x0 (ix2 (i 0 : Fin 2048) k)) x1 (i 1 : Fin 2048)

theorem grad_eq (x0 : FVec Ideal S2048x2048 .bf16) (x1 : FVec Ideal S4x512x2048 .bf16) : val_main_v4 (F := Ideal) x0 x1 = grad x0 x1 := by
  funext i
  obtain ⟨t, l, rfl⟩ : ∃ (t : Fin 2048) (l : Fin 2048), i = ix2 t l := ⟨i 0, i 1, eq_ix2 i⟩
  pointwise [val_main_v4, val_main_v3, val_main_v2, val_main_v1, val_main_v0]
  rfl

end Cert.XaQRefIdeal.Spec

namespace Cert.XaQIdeal.Tile

open Cert.XaQIdeal Cert.XaQIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val / 4, 0] ∧ win0_1.index t = ![0, 0, t.val % 4] ∧ win0_2.index t = ![t.val / 4, t.val % 4] := by
  decide +kernel

theorem pay_apply (v0 : Vec Ideal S1024x2048 .bf16) (v1 : Vec Ideal S4x512x512 .bf16) (r : Fin 1024) (d : Fin 512) :
    k0_pay1 v0 v1 (ix2 r d) = ∑ k : Fin 2048, v0 (ix2 r k) * v1 (ix3 (⟨k.val / 512, by omega⟩ : Fin 4) (⟨k.val % 512, by omega⟩ : Fin 512) d) := by
  pointwise [k0_pay1]

def row (t : Fin cfg0.N) (r : Fin 1024) : Fin 2048 := ⟨t.val / 4 * 1024 + r.val, by have : t.val < 8 := t.isLt; omega⟩
def col (t : Fin cfg0.N) (d : Fin 512) : Fin 2048 := ⟨t.val % 4 * 512 + d.val, by omega⟩

theorem blk0 (c : Dev nD) (t : Fin cfg0.N) (r : Fin 1024) (k : Fin 2048) :
    iblk m c 0 t (ix2 r k) = m ((c : Thread nD τ).loc main_arg0) (ix2 (row t r) k) := by
  blk_ext [iblk, V, index_all t, row]

theorem blk1 (c : Dev nD) (t : Fin cfg0.N) (n : Fin 4) (k : Fin 512) (d : Fin 512) :
    iblk m c 1 t (ix3 n k d) = m ((c : Thread nD τ).loc main_arg1) (ix3 n k (col t d)) := by
  blk_ext [iblk, V, index_all t, col]

theorem emb_eq (t : Fin cfg0.N) (r : Fin 1024) (d : Fin 512) : (win0_2.blk t).view.emb (ix2 r d) = ix2 (row t r) (col t d) := by
  funext a
  apply Fin.ext
  fin_cases a
  · blk_simp [index_all t]
    rfl
  · blk_simp [index_all t]
    rfl

theorem final (c : Dev nD) : (dats m 0 c).arrAt 2 cfg0.N = Cert.XaQRefIdeal.Spec.grad (m ((c : Thread nD τ).loc main_arg0)) (m ((c : Thread nD τ).loc main_arg1)) := by
  refine (dats m 0 c).arrAt_eq_of_covers 2 _ (by decide +kernel) fun t hf y => ?_
  obtain ⟨r, d, rfl⟩ : ∃ (r : Fin 1024) (d : Fin 512), y = ix2 r d := ⟨y 0, y 1, eq_ix2 y⟩
  refine Eq.trans ?_ (congrArg (Cert.XaQRefIdeal.Spec.grad _ _) (emb_eq t r d)).symm
  rw [after0_2]
  frame_out
  refine (pay_apply _ _ r d).trans ?_
  simp only [blk0, blk1]
  rfl

end Cert.XaQIdeal.Tile

namespace Cert.Proof

open Idealize.ShloMosaic Idealize.ShloMosaic.TcCoe Idealize.SL.Sem

theorem xa_q_algebraic : Cert.algebraic_XaQIdeal_XaQRefIdeal := by
  intro m g m' g' _ hm
  refine ⟨fun c => XaQRefIdeal.Spec.grad (m (c.tc.loc XaQIdeal.main_arg0)) (m (c.tc.loc XaQIdeal.main_arg1)), ?_, ?_⟩
  · refine (θ_run _ _ _).mono (fun r h c => ?_) (XaQIdeal.Value.run_blocks m g)
    exact ⟨(h c).1.trans (XaQIdeal.Tile.final m c), (h c).2⟩
  · refine (θ_run _ _ _).mono (fun r h c => ?_) (XaQRefIdeal.Value.run m' g')
    obtain ⟨e0, e1⟩ := hm c
    refine ⟨(h c).1.trans ((XaQRefIdeal.Read.val_main_v4_eq _ _).trans ((XaQRefIdeal.Spec.grad_eq _ _).trans ?_)), (h c).2⟩
    exact congr (congrArg XaQRefIdeal.Spec.grad e0) e1

end Cert.Proof

end
-- ==== Proof.XaKv.lean ====
module

public import proofs.«01_k».proof.Defs
public import proofs.«01_k».proof.Proof.Gen.XaKvIdeal.Value
public import proofs.«01_k».proof.Proof.Gen.XaKvRefIdeal.Run
public import proofs.«01_k».proof.Proof.Gen.XaKvRefIdeal.Read
public import proofs.«01_k».proof.Proof.Common
public import Idealize.ShloMosaic.Lib.Pointwise
public import Idealize.ShloMosaic.Lib.Pipeline.ValueKit

@[expose] public section

set_option maxRecDepth 16384

noncomputable section

namespace Cert.XaKvRefIdeal.Spec

open Cert.XaKvRefIdeal Cert.XaKvRefIdeal.Gen Cert.XaKvRefIdeal.Read Idealize.ShloMosaic

/-- The keys or the values of the memory: the product with the weight. -/
def grad (x0 : FVec Ideal S256x2048 .bf16) (x1 : FVec Ideal S4x512x2048 .bf16) : FVec Ideal S256x2048 .bf16 := fun i =>
  Common.rowDot (fun k => x0 (ix2 (i 0 : Fin 256) k)) x1 (i 1 : Fin 2048)

theorem grad_eq (x0 : FVec Ideal S256x2048 .bf16) (x1 : FVec Ideal S4x512x2048 .bf16) : val_main_v4 (F := Ideal) x0 x1 = grad x0 x1 := by
  funext i
  obtain ⟨t, l, rfl⟩ : ∃ (t : Fin 256) (l : Fin 2048), i = ix2 t l := ⟨i 0, i 1, eq_ix2 i⟩
  pointwise [val_main_v4, val_main_v3, val_main_v2, val_main_v1, val_main_v0]
  rfl

end Cert.XaKvRefIdeal.Spec

namespace Cert.XaKvIdeal.Tile

open Cert.XaKvIdeal Cert.XaKvIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val / 4, 0] ∧ win0_1.index t = ![0, 0, t.val % 4] ∧ win0_2.index t = ![t.val / 4, t.val % 4] := by
  decide +kernel

theorem pay_apply (v0 : Vec Ideal S256x2048 .bf16) (v1 : Vec Ideal S4x512x512 .bf16) (r : Fin 256) (d : Fin 512) :
    k0_pay1 v0 v1 (ix2 r d) = ∑ k : Fin 2048, v0 (ix2 r k) * v1 (ix3 (⟨k.val / 512, by omega⟩ : Fin 4) (⟨k.val % 512, by omega⟩ : Fin 512) d) := by
  pointwise [k0_pay1]

def row (t : Fin cfg0.N) (r : Fin 256) : Fin 256 := ⟨t.val / 4 * 256 + r.val, by have : t.val < 4 := t.isLt; omega⟩
def col (t : Fin cfg0.N) (d : Fin 512) : Fin 2048 := ⟨t.val % 4 * 512 + d.val, by omega⟩

theorem blk0 (c : Dev nD) (t : Fin cfg0.N) (r : Fin 256) (k : Fin 2048) :
    iblk m c 0 t (ix2 r k) = m ((c : Thread nD τ).loc main_arg0) (ix2 (row t r) k) := by
  blk_ext [iblk, V, index_all t, row]

theorem blk1 (c : Dev nD) (t : Fin cfg0.N) (n : Fin 4) (k : Fin 512) (d : Fin 512) :
    iblk m c 1 t (ix3 n k d) = m ((c : Thread nD τ).loc main_arg1) (ix3 n k (col t d)) := by
  blk_ext [iblk, V, index_all t, col]

theorem emb_eq (t : Fin cfg0.N) (r : Fin 256) (d : Fin 512) : (win0_2.blk t).view.emb (ix2 r d) = ix2 (row t r) (col t d) := by
  funext a
  apply Fin.ext
  fin_cases a
  · blk_simp [index_all t]
    rfl
  · blk_simp [index_all t]
    rfl

theorem final (c : Dev nD) : (dats m 0 c).arrAt 2 cfg0.N = Cert.XaKvRefIdeal.Spec.grad (m ((c : Thread nD τ).loc main_arg0)) (m ((c : Thread nD τ).loc main_arg1)) := by
  refine (dats m 0 c).arrAt_eq_of_covers 2 _ (by decide +kernel) fun t hf y => ?_
  obtain ⟨r, d, rfl⟩ : ∃ (r : Fin 256) (d : Fin 512), y = ix2 r d := ⟨y 0, y 1, eq_ix2 y⟩
  refine Eq.trans ?_ (congrArg (Cert.XaKvRefIdeal.Spec.grad _ _) (emb_eq t r d)).symm
  rw [after0_2]
  frame_out
  refine (pay_apply _ _ r d).trans ?_
  simp only [blk0, blk1]
  rfl

end Cert.XaKvIdeal.Tile

namespace Cert.Proof

open Idealize.ShloMosaic Idealize.ShloMosaic.TcCoe Idealize.SL.Sem

theorem xa_kv_algebraic : Cert.algebraic_XaKvIdeal_XaKvRefIdeal := by
  intro m g m' g' _ hm
  refine ⟨fun c => XaKvRefIdeal.Spec.grad (m (c.tc.loc XaKvIdeal.main_arg0)) (m (c.tc.loc XaKvIdeal.main_arg1)), ?_, ?_⟩
  · refine (θ_run _ _ _).mono (fun r h c => ?_) (XaKvIdeal.Value.run_blocks m g)
    exact ⟨(h c).1.trans (XaKvIdeal.Tile.final m c), (h c).2⟩
  · refine (θ_run _ _ _).mono (fun r h c => ?_) (XaKvRefIdeal.Value.run m' g')
    obtain ⟨e0, e1⟩ := hm c
    refine ⟨(h c).1.trans ((XaKvRefIdeal.Read.val_main_v4_eq _ _).trans ((XaKvRefIdeal.Spec.grad_eq _ _).trans ?_)), (h c).2⟩
    exact congr (congrArg XaKvRefIdeal.Spec.grad e0) e1

end Cert.Proof

end
-- ==== Proof.XaO.lean ====
module

public import proofs.«01_k».proof.Defs
public import proofs.«01_k».proof.Proof.Gen.XaOIdeal.Value
public import proofs.«01_k».proof.Proof.Gen.XaORefIdeal.Run
public import proofs.«01_k».proof.Proof.Gen.XaORefIdeal.Read
public import proofs.«01_k».proof.Proof.Common
public import Idealize.ShloMosaic.Lib.Pointwise
public import Idealize.ShloMosaic.Lib.Pipeline.ValueKit

@[expose] public section

set_option maxRecDepth 16384

noncomputable section

namespace Cert.XaORefIdeal.Spec

open Cert.XaORefIdeal Cert.XaORefIdeal.Gen Cert.XaORefIdeal.Read Idealize.ShloMosaic

/-- The residual plus the projected attention. -/
def grad (x0 : FVec Ideal S2048x2048 .bf16) (x1 : FVec Ideal S4x512x2048 .bf16) (x2 : FVec Ideal S2048x2048 .f32) : FVec Ideal S2048x2048 .f32 := fun i =>
  x2 (ix2 (i 0 : Fin 2048) (i 1 : Fin 2048)) + Common.rowDot (fun k => x0 (ix2 (i 0 : Fin 2048) k)) x1 (i 1 : Fin 2048)

theorem grad_eq (x0 : FVec Ideal S2048x2048 .bf16) (x1 : FVec Ideal S4x512x2048 .bf16) (x2 : FVec Ideal S2048x2048 .f32) : val_main_v4 (F := Ideal) x0 x1 x2 = grad x0 x1 x2 := by
  funext i
  obtain ⟨t, l, rfl⟩ : ∃ (t : Fin 2048) (l : Fin 2048), i = ix2 t l := ⟨i 0, i 1, eq_ix2 i⟩
  pointwise [val_main_v4, val_main_v3, val_main_v2, val_main_v1, val_main_v0]
  rfl

end Cert.XaORefIdeal.Spec

namespace Cert.XaOIdeal.Tile

open Cert.XaOIdeal Cert.XaOIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val / 4, 0] ∧ win0_1.index t = ![0, 0, t.val % 4] ∧ win0_2.index t = ![t.val / 4, t.val % 4] ∧ win0_3.index t = ![t.val / 4, t.val % 4] := by
  decide +kernel

theorem pay_apply (v0 : Vec Ideal S1024x2048 .bf16) (v1 : Vec Ideal S4x512x512 .bf16) (v4 : Vec Ideal S1024x512 .f32) (r : Fin 1024) (d : Fin 512) :
    k0_pay1 v0 v1 v4 (ix2 r d) = v4 (ix2 r d) + ∑ k : Fin 2048, v0 (ix2 r k) * v1 (ix3 (⟨k.val / 512, by omega⟩ : Fin 4) (⟨k.val % 512, by omega⟩ : Fin 512) d) := by
  pointwise [k0_pay1]

def row (t : Fin cfg0.N) (r : Fin 1024) : Fin 2048 := ⟨t.val / 4 * 1024 + r.val, by have : t.val < 8 := t.isLt; omega⟩
def col (t : Fin cfg0.N) (d : Fin 512) : Fin 2048 := ⟨t.val % 4 * 512 + d.val, by omega⟩

theorem blk0 (c : Dev nD) (t : Fin cfg0.N) (r : Fin 1024) (k : Fin 2048) :
    iblk m c 0 t (ix2 r k) = m ((c : Thread nD τ).loc main_arg0) (ix2 (row t r) k) := by
  blk_ext [iblk, V, index_all t, row]

theorem blk1 (c : Dev nD) (t : Fin cfg0.N) (n : Fin 4) (k : Fin 512) (d : Fin 512) :
    iblk m c 1 t (ix3 n k d) = m ((c : Thread nD τ).loc main_arg1) (ix3 n k (col t d)) := by
  blk_ext [iblk, V, index_all t, col]

theorem blk2 (c : Dev nD) (t : Fin cfg0.N) (r : Fin 1024) (d : Fin 512) :
    iblk m c 2 t (ix2 r d) = m ((c : Thread nD τ).loc main_arg2) (ix2 (row t r) (col t d)) := by
  blk_ext [iblk, V, index_all t, row, col]

theorem emb_eq (t : Fin cfg0.N) (r : Fin 1024) (d : Fin 512) : (win0_3.blk t).view.emb (ix2 r d) = ix2 (row t r) (col t d) := by
  funext a
  apply Fin.ext
  fin_cases a
  · blk_simp [index_all t]
    rfl
  · blk_simp [index_all t]
    rfl

theorem final (c : Dev nD) : (dats m 0 c).arrAt 3 cfg0.N = Cert.XaORefIdeal.Spec.grad (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, d, rfl⟩ : ∃ (r : Fin 1024) (d : Fin 512), y = ix2 r d := ⟨y 0, y 1, eq_ix2 y⟩
  refine Eq.trans ?_ (congrArg (Cert.XaORefIdeal.Spec.grad _ _ _) (emb_eq t r d)).symm
  rw [after0_3]
  frame_out
  refine (pay_apply _ _ _ r d).trans ?_
  simp only [blk0, blk1, blk2]
  rfl

end Cert.XaOIdeal.Tile

namespace Cert.Proof

open Idealize.ShloMosaic Idealize.ShloMosaic.TcCoe Idealize.SL.Sem

theorem xa_o_algebraic : Cert.algebraic_XaOIdeal_XaORefIdeal := by
  intro m g m' g' _ hm
  refine ⟨fun c => XaORefIdeal.Spec.grad (m (c.tc.loc XaOIdeal.main_arg0)) (m (c.tc.loc XaOIdeal.main_arg1)) (m (c.tc.loc XaOIdeal.main_arg2)), ?_, ?_⟩
  · refine (θ_run _ _ _).mono (fun r h c => ?_) (XaOIdeal.Value.run_blocks m g)
    exact ⟨(h c).1.trans (XaOIdeal.Tile.final m c), (h c).2⟩
  · refine (θ_run _ _ _).mono (fun r h c => ?_) (XaORefIdeal.Value.run m' g')
    obtain ⟨e0, e1, e2⟩ := hm c
    refine ⟨(h c).1.trans ((XaORefIdeal.Read.val_main_v4_eq _ _ _).trans ((XaORefIdeal.Spec.grad_eq _ _ _).trans ?_)), (h c).2⟩
    exact congr (congr (congrArg XaORefIdeal.Spec.grad e0) e1) e2

end Cert.Proof

end
-- ==== Proof.MixOut.lean ====
module

public import proofs.«01_k».proof.Defs
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Common
public import Idealize.ShloMosaic.Lib.Pointwise
public import Idealize.ShloMosaic.Lib.Pipeline.ValueKit

@[expose] public section

set_option maxRecDepth 16384

noncomputable section

namespace Cert.MixOutRefIdeal.Spec

open Cert.MixOutRefIdeal Cert.MixOutRefIdeal.Gen Cert.MixOutRefIdeal.Read Idealize.ShloMosaic

/-- The residual plus the projected mixture and its bias. -/
def grad (x0 : FVec Ideal S2048x2048 .bf16) (x1 : FVec Ideal S4x512x2048 .bf16) (x2 : FVec Ideal S2048x2048 .f32) (x3 : FVec Ideal S1x2048 .f32) : FVec Ideal S2048x2048 .f32 := fun i =>
  x2 (ix2 (i 0 : Fin 2048) (i 1 : Fin 2048)) + Common.rowDot (fun k => x0 (ix2 (i 0 : Fin 2048) k)) x1 (i 1 : Fin 2048) + x3 (ix2 0 (i 1 : Fin 2048))

theorem grad_eq (x0 : FVec Ideal S2048x2048 .bf16) (x1 : FVec Ideal S4x512x2048 .bf16) (x2 : FVec Ideal S2048x2048 .f32) (x3 : FVec Ideal S1x2048 .f32) : val_main_v6 (F := Ideal) x0 x1 x2 x3 = grad x0 x1 x2 x3 := by
  funext i
  obtain ⟨t, l, rfl⟩ : ∃ (t : Fin 2048) (l : Fin 2048), i = ix2 t l := ⟨i 0, i 1, eq_ix2 i⟩
  pointwise [val_main_v6, val_main_v5, val_main_v4, val_main_v3, val_main_v2, val_main_v1, val_main_v0]
  rw [← add_assoc]
  rfl

end Cert.MixOutRefIdeal.Spec

namespace Cert.MixOutIdeal.Tile

open Cert.MixOutIdeal Cert.MixOutIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val / 4, 0] ∧ win0_1.index t = ![0, 0, t.val % 4] ∧ win0_2.index t = ![t.val / 4, t.val % 4] ∧ win0_3.index t = ![0, t.val % 4] ∧ win0_4.index t = ![t.val / 4, t.val % 4] := by
  decide +kernel

theorem pay_apply (v0 : Vec Ideal S1024x2048 .bf16) (v1 : Vec Ideal S4x512x512 .bf16) (v4 : Vec Ideal S1024x512 .f32) (v5 : Vec Ideal S1x512 .f32) (r : Fin 1024) (d : Fin 512) :
    k0_pay1 v0 v1 v4 v5 (ix2 r d) = v4 (ix2 r d) + (∑ k : Fin 2048, v0 (ix2 r k) * v1 (ix3 (⟨k.val / 512, by omega⟩ : Fin 4) (⟨k.val % 512, by omega⟩ : Fin 512) d)) + v5 (ix2 0 d) := by
  pointwise [k0_pay1]

def row (t : Fin cfg0.N) (r : Fin 1024) : Fin 2048 := ⟨t.val / 4 * 1024 + r.val, by have : t.val < 8 := t.isLt; omega⟩
def col (t : Fin cfg0.N) (d : Fin 512) : Fin 2048 := ⟨t.val % 4 * 512 + d.val, by omega⟩

theorem blk0 (c : Dev nD) (t : Fin cfg0.N) (r : Fin 1024) (k : Fin 2048) :
    iblk m c 0 t (ix2 r k) = m ((c : Thread nD τ).loc main_arg0) (ix2 (row t r) k) := by
  blk_ext [iblk, V, index_all t, row]

theorem blk1 (c : Dev nD) (t : Fin cfg0.N) (n : Fin 4) (k : Fin 512) (d : Fin 512) :
    iblk m c 1 t (ix3 n k d) = m ((c : Thread nD τ).loc main_arg1) (ix3 n k (col t d)) := by
  blk_ext [iblk, V, index_all t, col]

theorem blk2 (c : Dev nD) (t : Fin cfg0.N) (r : Fin 1024) (d : Fin 512) :
    iblk m c 2 t (ix2 r d) = m ((c : Thread nD τ).loc main_arg2) (ix2 (row t r) (col t d)) := by
  blk_ext [iblk, V, index_all t, row, col]

theorem blk3 (c : Dev nD) (t : Fin cfg0.N) (d : Fin 512) :
    iblk m c 3 t (ix2 0 d) = m ((c : Thread nD τ).loc main_arg3) (ix2 0 (col t d)) := by
  blk_ext [iblk, V, index_all t, col]

theorem emb_eq (t : Fin cfg0.N) (r : Fin 1024) (d : Fin 512) : (win0_4.blk t).view.emb (ix2 r d) = ix2 (row t r) (col t d) := by
  funext a
  apply Fin.ext
  fin_cases a
  · blk_simp [index_all t]
    rfl
  · blk_simp [index_all t]
    rfl

theorem final (c : Dev nD) : (dats m 0 c).arrAt 4 cfg0.N = Cert.MixOutRefIdeal.Spec.grad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨r, d, rfl⟩ : ∃ (r : Fin 1024) (d : Fin 512), y = ix2 r d := ⟨y 0, y 1, eq_ix2 y⟩
  refine Eq.trans ?_ (congrArg (Cert.MixOutRefIdeal.Spec.grad _ _ _ _) (emb_eq t r d)).symm
  rw [after0_4]
  frame_out
  refine (pay_apply _ _ _ _ r d).trans ?_
  simp only [blk0, blk1, blk2, blk3]
  rfl

end Cert.MixOutIdeal.Tile

namespace Cert.Proof

open Idealize.ShloMosaic Idealize.ShloMosaic.TcCoe Idealize.SL.Sem

theorem mix_out_algebraic : Cert.algebraic_MixOutIdeal_MixOutRefIdeal := by
  intro m g m' g' _ hm
  refine ⟨fun c => MixOutRefIdeal.Spec.grad (m (c.tc.loc MixOutIdeal.main_arg0)) (m (c.tc.loc MixOutIdeal.main_arg1)) (m (c.tc.loc MixOutIdeal.main_arg2)) (m (c.tc.loc MixOutIdeal.main_arg3)), ?_, ?_⟩
  · refine (θ_run _ _ _).mono (fun r h c => ?_) (MixOutIdeal.Value.run_blocks m g)
    exact ⟨(h c).1.trans (MixOutIdeal.Tile.final m c), (h c).2⟩
  · refine (θ_run _ _ _).mono (fun r h c => ?_) (MixOutRefIdeal.Value.run m' g')
    obtain ⟨e0, e1, e2, e3⟩ := hm c
    refine ⟨(h c).1.trans ((MixOutRefIdeal.Read.val_main_v6_eq _ _ _ _).trans ((MixOutRefIdeal.Spec.grad_eq _ _ _ _).trans ?_)), (h c).2⟩
    exact congr (congr (congr (congrArg MixOutRefIdeal.Spec.grad e0) e1) e2) e3

end Cert.Proof

end
-- ==== Proof.MixIn.lean ====
module

public import proofs.«01_k».proof.Defs
public import proofs.«01_k».proof.Proof.Gen.MixInIdeal.Value
public import proofs.«01_k».proof.Proof.Gen.MixInRefIdeal.Run
public import proofs.«01_k».proof.Proof.Gen.MixInRefIdeal.Read
public import proofs.«01_k».proof.Proof.Common
public import Idealize.ShloMosaic.Lib.Pointwise
public import Idealize.ShloMosaic.Lib.Pipeline.ValueKit

@[expose] public section

set_option maxRecDepth 16384

noncomputable section

namespace Cert.MixInRefIdeal.Spec

open Cert.MixInRefIdeal Cert.MixInRefIdeal.Gen Cert.MixInRefIdeal.Read Idealize.ShloMosaic

/-- The product with the weight, whose columns come in four slabs, plus the bias. -/
def grad (x0 : FVec Ideal S2048x2048 .bf16) (x1 : FVec Ideal S4x2048x1024 .bf16) (x2 : FVec Ideal S1x4096 .f32) : FVec Ideal S2048x4096 .f32 := fun i =>
  (∑ k : Fin 2048, x0 (ix2 (i 0 : Fin 2048) k) * Common.colSlab x1 k (i 1 : Fin 4096)) + x2 (ix2 0 (i 1 : Fin 4096))

theorem grad_eq (x0 : FVec Ideal S2048x2048 .bf16) (x1 : FVec Ideal S4x2048x1024 .bf16) (x2 : FVec Ideal S1x4096 .f32) : val_main_v6 (F := Ideal) x0 x1 x2 = grad x0 x1 x2 := by
  funext i
  obtain ⟨t, l, rfl⟩ : ∃ (t : Fin 2048) (l : Fin 4096), i = ix2 t l := ⟨i 0, i 1, eq_ix2 i⟩
  pointwise [val_main_v6, val_main_v5, val_main_v4, val_main_v3, val_main_v2, val_main_v1, val_main_v0]
  rfl

end Cert.MixInRefIdeal.Spec

namespace Cert.MixInIdeal.Tile

open Cert.MixInIdeal Cert.MixInIdeal.Gen Idealize.ShloMosaic Idealize.ShloMosaic.TcCoe Idealize.SL.Sem

variable (m : (ℓ : Loc nD τ sig) → Buf (Elt Ideal) ℓ)

theorem index_all : ∀ t : Fin grid0.N, win0_0.index t = ![t.val % 2, 0] ∧ win0_1.index t = ![t.val / 2, 0, 0] ∧ win0_2.index t = ![0, t.val / 2] ∧ win0_3.index t = ![t.val % 2, t.val / 2] := by
  decide +kernel

theorem pay_apply (v0 : Vec Ideal S1024x2048 .bf16) (v1 : Vec Ideal S1x2048x1024 .bf16) (v4 : Vec Ideal S1x1024 .f32) (r l : Fin 1024) :
    k0_pay1 v0 v1 v4 (ix2 r l) = (∑ k : Fin 2048, v0 (ix2 r k) * v1 (ix3 0 k l)) + v4 (ix2 0 l) := by
  pointwise [k0_pay1]

/-- The slab of the point `t`, the row and the column of the tile's entry. -/
def sl (t : Fin cfg0.N) : Fin 4 := ⟨t.val / 2, by have : t.val < 8 := t.isLt; omega⟩
def row (t : Fin cfg0.N) (r : Fin 1024) : Fin 2048 := ⟨t.val % 2 * 1024 + r.val, by omega⟩
def col (t : Fin cfg0.N) (l : Fin 1024) : Fin 4096 := ⟨(sl t).val * 1024 + l.val, by omega⟩

theorem blk0 (c : Dev nD) (t : Fin cfg0.N) (r : Fin 1024) (k : Fin 2048) :
    iblk m c 0 t (ix2 r k) = m ((c : Thread nD τ).loc main_arg0) (ix2 (row t r) k) := by
  blk_ext [iblk, V, index_all t, row]

theorem blk1 (c : Dev nD) (t : Fin cfg0.N) (k : Fin 2048) (l : Fin 1024) :
    iblk m c 1 t (ix3 0 k l) = m ((c : Thread nD τ).loc main_arg1) (ix3 (sl t) k l) := by
  blk_ext [iblk, V, index_all t, sl]

theorem blk2 (c : Dev nD) (t : Fin cfg0.N) (l : Fin 1024) :
    iblk m c 2 t (ix2 0 l) = m ((c : Thread nD τ).loc main_arg2) (ix2 0 (col t l)) := by
  blk_ext [iblk, V, index_all t, col, sl]

theorem emb_eq (t : Fin cfg0.N) (r l : Fin 1024) : (win0_3.blk t).view.emb (ix2 r l) = ix2 (row t r) (col t l) := by
  funext a
  apply Fin.ext
  fin_cases a
  · blk_simp [index_all t]
    rfl
  · blk_simp [index_all t]
    rfl

theorem final (c : Dev nD) : (dats m 0 c).arrAt 3 cfg0.N = Cert.MixInRefIdeal.Spec.grad (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ r l : Fin 1024, y = ix2 r l := ⟨y 0, y 1, eq_ix2 y⟩
  refine Eq.trans ?_ (congrArg (Cert.MixInRefIdeal.Spec.grad _ _ _) (emb_eq t r l)).symm
  rw [after0_3]
  frame_out
  refine (pay_apply _ _ _ r l).trans ?_
  simp only [blk0, blk1, blk2]
  exact congrArg (· + _) (Finset.sum_congr rfl fun k _ => congrArg (HMul.hMul (α := EReal) _) (Common.colSlab_at _ k (sl t) l _).symm)

end Cert.MixInIdeal.Tile

namespace Cert.Proof

open Idealize.ShloMosaic Idealize.ShloMosaic.TcCoe Idealize.SL.Sem

theorem mix_in_algebraic : Cert.algebraic_MixInIdeal_MixInRefIdeal := by
  intro m g m' g' _ hm
  refine ⟨fun c => MixInRefIdeal.Spec.grad (m (c.tc.loc MixInIdeal.main_arg0)) (m (c.tc.loc MixInIdeal.main_arg1)) (m (c.tc.loc MixInIdeal.main_arg2)), ?_, ?_⟩
  · refine (θ_run _ _ _).mono (fun r h c => ?_) (MixInIdeal.Value.run_blocks m g)
    exact ⟨(h c).1.trans (MixInIdeal.Tile.final m c), (h c).2⟩
  · refine (θ_run _ _ _).mono (fun r h c => ?_) (MixInRefIdeal.Value.run m' g')
    obtain ⟨e0, e1, e2⟩ := hm c
    refine ⟨(h c).1.trans ((MixInRefIdeal.Read.val_main_v6_eq _ _ _).trans ((MixInRefIdeal.Spec.grad_eq _ _ _).trans ?_)), (h c).2⟩
    exact congr (congr (congrArg MixInRefIdeal.Spec.grad e0) e1) e2

end Cert.Proof

end
-- ==== Proof.XaAttn.lean ====
module

public import proofs.«01_k».proof.Defs
public import proofs.«01_k».proof.Proof.Gen.XaAttnIdeal.Value
public import proofs.«01_k».proof.Proof.Gen.XaAttnRefIdeal.Run
public import proofs.«01_k».proof.Proof.Gen.XaAttnRefIdeal.Read
public import proofs.«01_k».proof.Proof.Attend
public import Idealize.ShloMosaic.Lib.Pointwise
public import Idealize.ShloMosaic.Lib.Pipeline.ValueKit

@[expose] public section

set_option maxRecDepth 16384

noncomputable section

namespace Cert.XaAttnRefIdeal.Spec

open Cert.XaAttnRefIdeal Cert.XaAttnRefIdeal.Gen Cert.XaAttnRefIdeal.Read Idealize.ShloMosaic Cert.Attend

/-- The attention of every row, head by head. -/
def out (q : FVec Ideal S2048x2048 .bf16) (k v : FVec Ideal S256x2048 .bf16) : FVec Ideal S2048x2048 .bf16 := fun i =>
  rowOut (fun c => q (ix2 (i 0 : Fin 2048) c)) (fun j c => k (ix2 j c)) (fun j c => v (ix2 j c)) (head (i 1)) (place (i 1))

theorem scores (q : FVec Ideal S2048x2048 .bf16) (k : FVec Ideal S256x2048 .bf16) (h : Fin 4) (r : Fin 2048) (j : Fin 256) :
    val_main_v8 (F := Ideal) q k (ix3 h r j) = rowScore (fun c => q (ix2 r c)) (fun j c => k (ix2 j c)) h j := by
  unfold rowScore score
  pointwise [val_main_v8, val_main_v7, val_main_cst, val_main_v6, val_main_v4, val_main_v3, val_main_v1, val_main_v0]
  rfl

theorem peaks (x : FVec Ideal S4x2048x256 .f32) (h : Fin 4) (r : Fin 2048) :
    Host.reduce FloatOps.maximumf x (val_main_cst_0 (F := Ideal)) reducesTo_S4x2048x256_S4x2048_d2 h_S_ (ix2 h r) = peak fun j => x (ix3 h r j) := by
  rw [Host.reduce_eq_fold, Shape.ReducesTo.fold_fiber_r3_a2]
  rfl

theorem peak_scores (q : FVec Ideal S2048x2048 .bf16) (k : FVec Ideal S256x2048 .bf16) (h : Fin 4) (r : Fin 2048) :
    val_main_v9 (F := Ideal) q k (ix2 h r) = peak (rowScore (fun c => q (ix2 r c)) (fun j c => k (ix2 j c)) h) :=
  (peaks (val_main_v8 (F := Ideal) q k) h r).trans (congrArg peak (funext fun j => scores q k h r j))

theorem weights (q : FVec Ideal S2048x2048 .bf16) (k : FVec Ideal S256x2048 .bf16) (h : Fin 4) (r : Fin 2048) (j : Fin 256) :
    val_main_v15 (F := Ideal) q k (ix3 h r j) = weight (rowScore (fun c => q (ix2 r c)) (fun j c => k (ix2 j c)) h) j := by
  have e : val_main_v13 (F := Ideal) q k (ix3 h r j) = max (Ideal.ofBits .f32 0xFF800000#32) (val_main_v9 (F := Ideal) q k (ix2 h r)) := by
    rw [val_main_v13_apply, val_main_v12_apply]
    have e2 : idx_main_v12 (idx_main_v13 (ix3 h r j)) = ix2 h r := by
      funext a
      fin_cases a <;> rfl
    have e3 : val_main_cst_1 (F := Ideal) (idx_main_v10 (ix2 h r)) = Ideal.ofBits .f32 0xFF800000#32 := rfl
    rw [e2, val_main_v11_apply, Ideal.maximumf_eq_max, val_main_v10_apply, e3]
  have e' : val_main_v15 (F := Ideal) q k (ix3 h r j) = Ideal.exp (val_main_v8 (F := Ideal) q k (ix3 h r j) - val_main_v13 (F := Ideal) q k (ix3 h r j)) := by
    unfold val_main_v15 val_main_v14
    generalize val_main_v8 (F := Ideal) q k = y
    generalize val_main_v13 (F := Ideal) q k = z
    pointwise
  rw [e', e, scores, peak_scores]
  exact weight_max _ j

theorem out_eq (q : FVec Ideal S2048x2048 .bf16) (k v : FVec Ideal S256x2048 .bf16) : val_main_v23 (F := Ideal) q k v = out q k v := by
  funext i
  obtain ⟨r, l, rfl⟩ : ∃ r l : Fin 2048, i = ix2 r l := ⟨i 0, i 1, eq_ix2 i⟩
  obtain ⟨h, d, rfl⟩ := head_cases l
  unfold out rowOut prob
  pointwise [val_main_v23, val_main_v22, val_main_v21, val_main_v20, val_main_v5, val_main_v2, val_main_v19, val_main_v18, val_main_v17, val_main_v16, val_main_cst_2]
  simp only [weights]
  refine Finset.sum_congr rfl fun x _ => ?_
  rw [mul_comm, hcol_head]
  rfl

end Cert.XaAttnRefIdeal.Spec

namespace Cert.XaAttnIdeal.Tile

open Cert.XaAttnIdeal Cert.XaAttnIdeal.Gen Idealize.ShloMosaic Idealize.ShloMosaic.TcCoe Idealize.SL.Sem Cert.Attend

theorem pay2_apply (q k v : Vec Ideal S256x2048 .bf16) (r : Fin 256) (d : Fin 512) :
    k0_pay2 q k v (ix2 r d) = rowOut (fun c => q (ix2 r c)) (fun j c => k (ix2 j c)) (fun j c => v (ix2 j c)) 0 d := by
  unfold rowOut rowScore
  simp only [hcol0]
  pointwise [k0_pay2]
  rfl

theorem pay3_apply (q k v : Vec Ideal S256x2048 .bf16) (r : Fin 256) (d : Fin 512) :
    k0_pay3 q k v (ix2 r d) = rowOut (fun c => q (ix2 r c)) (fun j c => k (ix2 j c)) (fun j c => v (ix2 j c)) 1 d := by
  unfold rowOut rowScore
  simp only [hcol1]
  pointwise [k0_pay3]
  rfl

theorem pay1_apply (q k v : Vec Ideal S256x2048 .bf16) (r : Fin 256) (h : Fin 4) (d : Fin 512) :
    k0_pay1 q k v (k0_pay2 q k v) (k0_pay3 q k v) (k0_pay4 q k) k0_pay5 (ix2 r (hcol h d))
      = rowOut (fun c => q (ix2 r c)) (fun j c => k (ix2 j c)) (fun j c => v (ix2 j c)) h d := by
  have e := pick_family (rowOut (fun c => q (ix2 r c)) (fun j c => k (ix2 j c)) fun j c => v (ix2 j c)) h
  rw [← e]
  refine Eq.trans ?_ (ladder _ _ _ _ h d)
  pointwise [k0_pay1, k0_pay4, k0_pay5]
  simp only [pay2_apply, pay3_apply]
  rfl

variable (m : (ℓ : Loc nD τ sig) → Buf (Elt Ideal) ℓ)

theorem index_all : ∀ t : Fin grid0.N, win0_0.index t = ![t.val, 0] ∧ win0_1.index t = ![0, 0] ∧ win0_2.index t = ![0, 0] ∧ win0_3.index t = ![t.val, 0] := by
  decide +kernel

theorem blk0 (c : Dev nD) (t : Fin cfg0.N) (r : Fin 256) (l : Fin 2048) :
    iblk m c 0 t (ix2 r l) = m ((c : Thread nD τ).loc main_arg0) (ix2 (⟨t.val * 256 + r.val, by have : t.val < 8 := t.isLt; omega⟩ : Fin 2048) l) := by
  blk_ext [iblk, V, index_all t]

theorem blk1 (c : Dev nD) (t : Fin cfg0.N) (j : Fin 256) (l : Fin 2048) : iblk m c 1 t (ix2 j l) = m ((c : Thread nD τ).loc main_arg1) (ix2 j l) := by
  blk_ext [iblk, V, index_all t]

theorem blk2 (c : Dev nD) (t : Fin cfg0.N) (j : Fin 256) (l : Fin 2048) : iblk m c 2 t (ix2 j l) = m ((c : Thread nD τ).loc main_arg2) (ix2 j l) := by
  blk_ext [iblk, V, index_all t]

theorem emb_eq (t : Fin cfg0.N) (r : Fin 256) (l : Fin 2048) : (win0_3.blk t).view.emb (ix2 r l)
    = ix2 (⟨t.val * 256 + r.val, by have : t.val < 8 := t.isLt; omega⟩ : Fin 2048) l := by
  funext a
  apply Fin.ext
  fin_cases a
  · blk_simp [index_all t]
    rfl
  · blk_simp [index_all t]
    rfl

theorem final (c : Dev nD) : (dats m 0 c).arrAt 3 cfg0.N = Cert.XaAttnRefIdeal.Spec.out (m ((c : Thread nD τ).loc main_arg0)) (m ((c : Thread nD τ).loc main_arg1))
    (m ((c : Thread nD τ).loc main_arg2)) := by
  refine (dats m 0 c).arrAt_eq_of_covers 3 _ (by decide +kernel) fun t hf y => ?_
  obtain ⟨r, l, rfl⟩ : ∃ (r : Fin 256) (l : Fin 2048), y = ix2 r l := ⟨y 0, y 1, eq_ix2 y⟩
  obtain ⟨h, d, rfl⟩ := head_cases l
  refine Eq.trans ?_ (congrArg (Cert.XaAttnRefIdeal.Spec.out _ _ _) (emb_eq t r (hcol h d))).symm
  rw [after0_3]
  frame_out
  refine (pay1_apply _ _ _ r h d).trans ?_
  simp only [blk0, blk1, blk2]
  exact (congrArg₂ (rowOut _ _ _) (head_hcol h d) (place_hcol h d)).symm

end Cert.XaAttnIdeal.Tile

namespace Cert.Proof

open Idealize.ShloMosaic Idealize.ShloMosaic.TcCoe Idealize.SL.Sem

theorem xa_attn_algebraic : Cert.algebraic_XaAttnIdeal_XaAttnRefIdeal := by
  intro m g m' g' _ hm
  refine ⟨fun c => XaAttnRefIdeal.Spec.out (m (c.tc.loc XaAttnIdeal.main_arg0)) (m (c.tc.loc XaAttnIdeal.main_arg1)) (m (c.tc.loc XaAttnIdeal.main_arg2)), ?_, ?_⟩
  · refine (θ_run _ _ _).mono (fun r h c => ?_) (XaAttnIdeal.Value.run_blocks m g)
    exact ⟨(h c).1.trans (XaAttnIdeal.Tile.final m c), (h c).2⟩
  · refine (θ_run _ _ _).mono (fun r h c => ?_) (XaAttnRefIdeal.Value.run m' g')
    obtain ⟨e0, e1, e2⟩ := hm c
    refine ⟨(h c).1.trans ?_, (h c).2⟩
    refine (XaAttnRefIdeal.Read.val_main_v23_eq _ _ _).trans ((XaAttnRefIdeal.Spec.out_eq _ _ _).trans ?_)
    exact congr (congr (congrArg XaAttnRefIdeal.Spec.out e0) e1) e2

end Cert.Proof

end
-- ==== Proof.NormFwd.lean ====
module

public import proofs.«01_k».proof.Defs
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.NormBwd
public import Idealize.ShloMosaic.Lib.Pointwise
public import Idealize.ShloMosaic.Lib.Pipeline.ValueKit

@[expose] public section

set_option maxRecDepth 16384

noncomputable section

namespace Cert.NormFwdRefIdeal.Spec

open Cert.NormFwdRefIdeal Cert.NormFwdRefIdeal.Gen Cert.NormFwdRefIdeal.Read Idealize.ShloMosaic
open Cert.NormBwdRefIdeal.Spec (ms)

/-- The norm of the rows. -/
def norm (x : FVec Ideal S2048x2048 .f32) (g : FVec Ideal S1x2048 .f32) : FVec Ideal S2048x2048 .bf16 := fun i =>
  x (ix2 (i 0 : Fin 2048) (i 1 : Fin 2048)) * Ideal.rsqrt (ms fun k => x (ix2 (i 0 : Fin 2048) k)) * g (ix2 0 (i 1 : Fin 2048))

theorem norm_eq (x : FVec Ideal S2048x2048 .f32) (g : FVec Ideal S1x2048 .f32) : val_main_v12 (F := Ideal) x g = norm x g := by
  funext i
  obtain ⟨r, l, rfl⟩ : ∃ r l : Fin 2048, i = ix2 r l := ⟨i 0, i 1, eq_ix2 i⟩
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

end Cert.NormFwdRefIdeal.Spec

namespace Cert.NormFwdIdeal.Tile

open Cert.NormFwdIdeal Cert.NormFwdIdeal.Gen Idealize.ShloMosaic Idealize.ShloMosaic.TcCoe Idealize.SL.Sem
open Cert.NormBwdRefIdeal.Spec (ms)
open Cert.NormFwdRefIdeal.Spec (norm)

variable (m : (ℓ : Loc nD τ sig) → Buf (Elt Ideal) ℓ)

theorem index_all : ∀ t : Fin grid0.N, win0_0.index t = ![t.val, 0] ∧ win0_1.index t = ![0, 0] ∧ win0_2.index t = ![t.val, 0] := by
  decide +kernel

theorem pay_apply (x : Vec Ideal S256x2048 .f32) (g : Vec Ideal S1x2048 .f32) (r : Fin 256) (l : Fin 2048) :
    k0_pay1 x g (ix2 r l) = x (ix2 r l) * Ideal.rsqrt (ms fun k => x (ix2 r k)) * g (ix2 0 l) := by
  pointwise [k0_pay1]
  rfl

def row (t : Fin cfg0.N) (r : Fin 256) : Fin 2048 := ⟨t.val * 256 + r.val, by have : t.val < 8 := t.isLt; omega⟩

theorem blk0 (c : Dev nD) (t : Fin cfg0.N) (r : Fin 256) (l : Fin 2048) :
    iblk m c 0 t (ix2 r l) = m ((c : Thread nD τ).loc main_arg0) (ix2 (row t r) l) := by
  blk_ext [iblk, V, index_all t, row]

theorem blk1 (c : Dev nD) (t : Fin cfg0.N) (l : Fin 2048) : iblk m c 1 t (ix2 0 l) = m ((c : Thread nD τ).loc main_arg1) (ix2 0 l) := by
  blk_ext [iblk, V, index_all t]

theorem emb_eq (t : Fin cfg0.N) (r : Fin 256) (l : Fin 2048) : (win0_2.blk t).view.emb (ix2 r l) = ix2 (row t r) l := by
  funext a
  apply Fin.ext
  fin_cases a
  · blk_simp [index_all t]
    rfl
  · blk_simp [index_all t]
    rfl

theorem final (c : Dev nD) : (dats m 0 c).arrAt 2 cfg0.N = norm (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 256) (l : Fin 2048), y = ix2 r l := ⟨y 0, y 1, eq_ix2 y⟩
  refine Eq.trans ?_ (congrArg (norm _ _) (emb_eq t r l)).symm
  rw [after0_2]
  frame_out
  refine (pay_apply _ _ r l).trans ?_
  simp only [blk0, blk1]
  rfl

end Cert.NormFwdIdeal.Tile

namespace Cert.Proof

open Idealize.ShloMosaic Idealize.ShloMosaic.TcCoe Idealize.SL.Sem

theorem norm_fwd_algebraic : Cert.algebraic_NormFwdIdeal_NormFwdRefIdeal := by
  intro m g m' g' _ hm
  refine ⟨fun c => NormFwdRefIdeal.Spec.norm (m (c.tc.loc NormFwdIdeal.main_arg0)) (m (c.tc.loc NormFwdIdeal.main_arg1)), ?_, ?_⟩
  · refine (θ_run _ _ _).mono (fun r h c => ?_) (NormFwdIdeal.Value.run_blocks m g)
    exact ⟨(h c).1.trans (NormFwdIdeal.Tile.final m c), (h c).2⟩
  · refine (θ_run _ _ _).mono (fun r h c => ?_) (NormFwdRefIdeal.Value.run m' g')
    obtain ⟨e0, e1⟩ := hm c
    refine ⟨(h c).1.trans ((NormFwdRefIdeal.Read.val_main_v12_eq _ _).trans ((NormFwdRefIdeal.Spec.norm_eq _ _).trans ?_)), (h c).2⟩
    exact congr (congrArg NormFwdRefIdeal.Spec.norm e0) e1

end Cert.Proof

end
-- ==== Proof.NormKv.lean ====
module

public import proofs.«01_k».proof.Defs
public import proofs.«01_k».proof.Proof.Gen.NormKvIdeal.Value
public import proofs.«01_k».proof.Proof.Gen.NormKvRefIdeal.Run
public import proofs.«01_k».proof.Proof.Gen.NormKvRefIdeal.Read
public import proofs.«01_k».proof.Proof.NormBwd
public import Idealize.ShloMosaic.Lib.Pointwise
public import Idealize.ShloMosaic.Lib.Pipeline.ValueKit

@[expose] public section

set_option maxRecDepth 16384

noncomputable section

namespace Cert.NormKvRefIdeal.Spec

open Cert.NormKvRefIdeal Cert.NormKvRefIdeal.Gen Cert.NormKvRefIdeal.Read Idealize.ShloMosaic
open Cert.NormBwdRefIdeal.Spec (ms)

/-- The gradient of the memory norm's weight. -/
def dg (x h : FVec Ideal S256x2048 .f32) : FVec Ideal S1x2048 .f32 := fun i =>
  ∑ r : Fin 256, x (ix2 r (i 1 : Fin 2048)) * Ideal.rsqrt (ms fun k => x (ix2 r k)) * h (ix2 r (i 1 : Fin 2048))

theorem dg_eq (x h : FVec Ideal S256x2048 .f32) : val_main_v14 (F := Ideal) x h = dg x h := by
  funext i
  obtain ⟨l, rfl⟩ : ∃ l : Fin 2048, i = ix2 (0 : Fin 1) l :=
    ⟨i 1, (eq_ix2 i).trans (congrArg (fun q : Fin 1 => ix2 q (i 1 : Fin 2048)) (Subsingleton.elim (α := Fin 1) (i 0) 0))⟩
  pointwise [val_main_v14, val_main_v13, val_main_cst_2, val_main_v12, val_main_v9, val_main_v8, val_main_v7, val_main_v6, val_main_v5, val_main_cst_1, val_main_v4, val_main_v3, val_main_cst_0, val_main_v2, val_main_v1, val_main_cst, val_main_v0]
  rfl

end Cert.NormKvRefIdeal.Spec

namespace Cert.NormKvIdeal.Tile

open Cert.NormKvIdeal Cert.NormKvIdeal.Gen Idealize.ShloMosaic Idealize.ShloMosaic.TcCoe Idealize.SL.Sem
open Cert.NormBwdRefIdeal.Spec (ms)
open Cert.NormKvRefIdeal.Spec (dg)

variable (m : (ℓ : Loc nD τ sig) → Buf (Elt Ideal) ℓ)

theorem index_all : ∀ t : Fin grid0.N, win0_0.index t = ![0, 0] ∧ win0_1.index t = ![0, 0] ∧ win0_3.index t = ![0, 0] := by
  decide +kernel

theorem pay_apply (x h : Vec Ideal S256x2048 .f32) (l : Fin 2048) :
    k0_pay1 x h (ix2 0 l) = ∑ r : Fin 256, x (ix2 r l) * Ideal.rsqrt (ms fun k => x (ix2 r k)) * h (ix2 r l) := by
  pointwise [k0_pay1]
  rfl

theorem blk0 (c : Dev nD) (t : Fin cfg0.N) (r : Fin 256) (l : Fin 2048) :
    iblk m c 0 t (ix2 r l) = m ((c : Thread nD τ).loc main_arg0) (ix2 r l) := by
  blk_ext [iblk, V, index_all t]

theorem blk1 (c : Dev nD) (t : Fin cfg0.N) (r : Fin 256) (l : Fin 2048) :
    iblk m c 1 t (ix2 r l) = m ((c : Thread nD τ).loc main_arg2) (ix2 r l) := by
  blk_ext [iblk, V, index_all t]

theorem emb_eq (t : Fin cfg0.N) (l : Fin 2048) : (win0_3.blk t).view.emb (ix2 0 l) = ix2 (0 : Fin 1) l := by
  funext a
  apply Fin.ext
  fin_cases a <;> blk_simp [index_all t]

theorem final (c : Dev nD) : (dats m 0 c).arrAt 3 cfg0.N = dg (m ((c : Thread nD τ).loc main_arg0)) (m ((c : Thread nD τ).loc main_arg2)) := by
  refine (dats m 0 c).arrAt_eq_of_covers 3 _ (by decide +kernel) fun t hf y => ?_
  obtain ⟨l, rfl⟩ : ∃ l : Fin 2048, y = ix2 (0 : Fin 1) l :=
    ⟨y 1, (eq_ix2 y).trans (congrArg (fun q : Fin 1 => ix2 q (y 1 : Fin 2048)) (Subsingleton.elim (α := Fin 1) (y 0) 0))⟩
  refine Eq.trans ?_ (congrArg (dg _ _) (emb_eq t l)).symm
  rw [after0_3]
  unfold outsAt0
  frame_out
  refine (pay_apply _ _ l).trans ?_
  simp only [blk0, blk1]
  rfl

end Cert.NormKvIdeal.Tile

namespace Cert.Proof

open Idealize.ShloMosaic Idealize.ShloMosaic.TcCoe Idealize.SL.Sem

theorem norm_kv_algebraic : Cert.algebraic_NormKvIdeal_NormKvRefIdeal := by
  intro m g m' g' _ hm
  refine ⟨fun c => NormKvRefIdeal.Spec.dg (m (c.tc.loc NormKvIdeal.main_arg0)) (m (c.tc.loc NormKvIdeal.main_arg2)), ?_, ?_⟩
  · refine (θ_run _ _ _).mono (fun r h c => ?_) (NormKvIdeal.Value.run_blocks m g)
    exact ⟨(h c).1.trans (NormKvIdeal.Tile.final m c), (h c).2⟩
  · refine (θ_run _ _ _).mono (fun r h c => ?_) (NormKvRefIdeal.Value.run m' g')
    obtain ⟨e0, e1, e2⟩ := hm c
    refine ⟨(h c).1.trans ((NormKvRefIdeal.Read.val_main_v14_eq _ _).trans ((NormKvRefIdeal.Spec.dg_eq _ _).trans ?_)), (h c).2⟩
    exact congr (congrArg NormKvRefIdeal.Spec.dg e0) e2

end Cert.Proof

end
-- ==== Proof.Final.lean ====
module

public import proofs.«01_k».proof.Defs
public import proofs.«01_k».proof.Proof.Gen.FinalIdeal.Value
public import proofs.«01_k».proof.Proof.Gen.FinalRefIdeal.Run
public import proofs.«01_k».proof.Proof.Gen.FinalRefIdeal.Read
public import proofs.«01_k».proof.Proof.NormBwd
public import proofs.«01_k».proof.Proof.Common
public import Idealize.ShloMosaic.Lib.Pointwise
public import Idealize.ShloMosaic.Lib.Pipeline.ValueKit

@[expose] public section

set_option maxRecDepth 16384

noncomputable section

namespace Cert.FinalRefIdeal.Spec

open Cert.FinalRefIdeal Cert.FinalRefIdeal.Gen Cert.FinalRefIdeal.Read Idealize.ShloMosaic
open Cert.NormBwdRefIdeal.Spec (ms through)

/-- A row's error: its norm less its target. -/
def err (f g t : Fin 2048 → EReal) (l : Fin 2048) : EReal := f l * Ideal.rsqrt (ms f) * g l - t l

/-- The cotangent of the norm: the error over the number of columns. -/
def cot (f g t : Fin 2048 → EReal) (l : Fin 2048) : EReal := Ideal.div (err f g t l) (Ideal.ofBits .f32 0x45000000#32)

/-- A row's gradient, from the cotangent `h` of its norm. -/
def inner (f g h : Fin 2048 → EReal) (l : Fin 2048) : EReal := h l * g l * Ideal.rsqrt (ms f) + f l * through f h g + through f h g * f l

def dx (x : FVec Ideal S2048x2048 .f32) (g : FVec Ideal S1x2048 .f32) (t : FVec Ideal S2048x2048 .f32) : FVec Ideal S2048x2048 .f32 := fun i =>
  inner (fun k => x (ix2 (i 0 : Fin 2048) k)) (fun k => g (ix2 0 k))
    (cot (fun k => x (ix2 (i 0 : Fin 2048) k)) (fun k => g (ix2 0 k)) fun k => t (ix2 (i 0 : Fin 2048) k)) (i 1 : Fin 2048)

/-- One row's term of the weight's gradient. -/
def weightTerm (x : FVec Ideal S2048x2048 .f32) (g : FVec Ideal S1x2048 .f32) (t : FVec Ideal S2048x2048 .f32) (l r : Fin 2048) : EReal :=
  x (ix2 r l) * Ideal.rsqrt (ms fun k => x (ix2 r k)) * cot (fun k => x (ix2 r k)) (fun k => g (ix2 0 k)) (fun k => t (ix2 r k)) l

def dg (x : FVec Ideal S2048x2048 .f32) (g : FVec Ideal S1x2048 .f32) (t : FVec Ideal S2048x2048 .f32) : FVec Ideal S1x2048 .f32 := fun i =>
  ∑ r : Fin 2048, weightTerm x g t (i 1 : Fin 2048) r

/-- The mean of a row's squared errors. -/
def meanSquare (f g t : Fin 2048 → EReal) : EReal := Ideal.div (∑ l : Fin 2048, err f g t l * err f g t l) (Ideal.ofBits .f32 0x45000000#32)

/-- One row's part of the loss. -/
def lossTerm (x : FVec Ideal S2048x2048 .f32) (g : FVec Ideal S1x2048 .f32) (t : FVec Ideal S2048x2048 .f32) (r : Fin 2048) : EReal :=
  Common.half * meanSquare (fun k => x (ix2 r k)) (fun k => g (ix2 0 k)) fun k => t (ix2 r k)

def loss (x : FVec Ideal S2048x2048 .f32) (g : FVec Ideal S1x2048 .f32) (t : FVec Ideal S2048x2048 .f32) : FVec Ideal S1x128 .f32 := fun _ =>
  ∑ r : Fin 2048, lossTerm x g t r

/-- Half of twice the error, over the number of columns, is the error over it. -/
theorem half_twice (e : EReal) : Ideal.div (Ideal.ofBits .f32 0x3F000000#32) (Ideal.ofBits .f32 0x45000000#32) * (Ideal.ofBits .f32 0x40000000#32 * e)
    = Ideal.div e (Ideal.ofBits .f32 0x45000000#32) := by
  have h1 : Ideal.ofBits .f32 0x3F000000#32 = ((1 / 2 : ℝ) : EReal) := Common.half_eq
  have h3 : Ideal.ofBits .f32 0x45000000#32 = ((2048 : ℝ) : EReal) := by
    simp [Ideal.ofBits, Ideal.ieee, -EReal.coe_mul]
    norm_num
  have h4 : Ideal.ofBits .f32 0x40000000#32 = ((2 : ℝ) : EReal) := by
    simp [Ideal.ofBits, Ideal.ieee, -EReal.coe_mul]
    norm_num
  have h0 : ((2048 : ℝ) : EReal) ≠ 0 := by exact_mod_cast (by norm_num : (2048 : ℝ) ≠ 0)
  rw [h1, h3, h4, Ideal.div, Ideal.div, if_neg h0, if_neg h0, ← mul_assoc, mul_comm e, ← EReal.coe_inv, ← EReal.coe_mul, ← EReal.coe_mul]
  norm_num

theorem only_row (i : S1x2048.Idx) : ∃ l : Fin 2048, i = ix2 (0 : Fin 1) l :=
  ⟨i 1, (eq_ix2 i).trans (congrArg (fun q : Fin 1 => ix2 q (i 1 : Fin 2048)) (Subsingleton.elim (α := Fin 1) (i 0) 0))⟩

theorem dx_eq (x : FVec Ideal S2048x2048 .f32) (g : FVec Ideal S1x2048 .f32) (t : FVec Ideal S2048x2048 .f32) : val_main_v48 (F := Ideal) x g t = dx x g t := by
  funext i
  obtain ⟨r, l, rfl⟩ : ∃ r l : Fin 2048, i = ix2 r l := ⟨i 0, i 1, eq_ix2 i⟩
  pointwise [val_main_v48, val_main_v47, val_main_v46, val_main_v45, val_main_v44, val_main_v43, val_main_cst_14, val_main_v42, val_main_v41, val_main_cst_13, val_main_v40, val_main_v39, val_main_v38, val_main_v37, val_main_v36, val_main_cst_12, val_main_v35, val_main_v34, val_main_v33, val_main_v29, val_main_v28, val_main_v27, val_main_v26, val_main_cst_10, val_main_v25, val_main_v24, val_main_cst_9, val_main_cst_8, val_main_v18, val_main_v17, val_main_cst_3, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [Fin.sum_univ_one, half_twice]
  rfl

theorem dg_eq (x : FVec Ideal S2048x2048 .f32) (g : FVec Ideal S1x2048 .f32) (t : FVec Ideal S2048x2048 .f32) : val_main_v32 (F := Ideal) x g t = dg x g t := by
  funext i
  obtain ⟨l, rfl⟩ := only_row i
  pointwise [val_main_v32, val_main_v31, val_main_cst_11, val_main_v30, val_main_v29, val_main_v28, val_main_v27, val_main_v26, val_main_cst_10, val_main_v25, val_main_v24, val_main_cst_9, val_main_cst_8, val_main_v18, val_main_v17, val_main_cst_3, val_main_v15, val_main_v14, val_main_v13, val_main_v12, val_main_v11, val_main_v7, val_main_v6, val_main_v5, val_main_cst_1, val_main_v4, val_main_v3, val_main_cst_0, val_main_v2, val_main_v1, val_main_cst, val_main_v0]
  simp only [half_twice]
  rfl

theorem loss_eq (x : FVec Ideal S2048x2048 .f32) (g : FVec Ideal S1x2048 .f32) (t : FVec Ideal S2048x2048 .f32) : val_main_v50 (F := Ideal) x g t = loss x g t := by
  funext i
  obtain ⟨q, n, rfl⟩ : ∃ (q : Fin 1) (n : Fin 128), i = ix2 q n := ⟨i 0, i 1, eq_ix2 i⟩
  unfold loss lossTerm
  rw [← Common.half_mul_sum]
  pointwise [val_main_v50, val_main_v23, val_main_cst_7, val_main_v22, val_main_cst_6, val_main_v21, val_main_v20, val_main_cst_5, val_main_v19, val_main_cst_4, val_main_v16, val_main_v15, val_main_v14, val_main_v13, val_main_v12, val_main_v11, val_main_v7, val_main_v6, val_main_v5, val_main_cst_1, val_main_v4, val_main_v3, val_main_cst_0, val_main_v2, val_main_v1, val_main_cst, val_main_v0]
  rfl

end Cert.FinalRefIdeal.Spec

namespace Cert.FinalIdeal.Tile

open Cert.FinalIdeal Cert.FinalIdeal.Gen Idealize.ShloMosaic Idealize.ShloMosaic.TcCoe Idealize.SL.Sem
open Cert.NormBwdRefIdeal.Spec (ms through)
open Cert.FinalRefIdeal.Spec (err cot inner dx dg weightTerm meanSquare lossTerm loss)

variable (m : (ℓ : Loc nD τ sig) → Buf (Elt Ideal) ℓ)

theorem index_all : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] := by
  decide +kernel

theorem pay11_apply (x t : Vec Ideal S256x2048 .f32) (g : Vec Ideal S1x2048 .f32) (r : Fin 256) (l : Fin 2048) :
    k0_pay11 x t g (ix2 r l) = inner (fun k => x (ix2 r k)) (fun k => g (ix2 0 k)) (cot (fun k => x (ix2 r k)) (fun k => g (ix2 0 k)) fun k => t (ix2 r k)) l := by
  pointwise [k0_pay11, k0_pay9, k0_pay8, k0_pay7, k0_pay6, k0_pay5]
  simp only [Fin.sum_univ_one]
  rfl

theorem pay10_apply (x t : Vec Ideal S256x2048 .f32) (g : Vec Ideal S1x2048 .f32) (l : Fin 2048) :
    k0_pay10 x t g (ix2 0 l) = ∑ r : Fin 256, x (ix2 r l) * Ideal.rsqrt (ms fun k => x (ix2 r k))
      * cot (fun k => x (ix2 r k)) (fun k => g (ix2 0 k)) (fun k => t (ix2 r k)) l := by
  pointwise [k0_pay10, k0_pay9, k0_pay8, k0_pay7, k0_pay6, k0_pay5]
  rfl

theorem pay1_apply (x t : Vec Ideal S256x2048 .f32) (g : Vec Ideal S1x2048 .f32) (n : Fin 128) :
    k0_pay1 (k0_pay12 x t g) (ix2 0 n) = ∑ r : Fin 256, Common.half * meanSquare (fun k => x (ix2 r k)) (fun k => g (ix2 0 k)) fun k => t (ix2 r k) := by
  rw [← Common.half_mul_sum]
  pointwise [k0_pay1, k0_pay12, k0_pay8, k0_pay7, k0_pay6, k0_pay5]
  rfl

def row (t : Fin cfg0.N) (r : Fin 256) : Fin 2048 := ⟨t.val * 256 + r.val, by have : t.val < 8 := t.isLt; omega⟩

theorem blk0 (c : Dev nD) (t : Fin cfg0.N) (r : Fin 256) (l : Fin 2048) : iblk m c 0 t (ix2 r l) = m ((c : Thread nD τ).loc main_arg0) (ix2 (row t r) l) := by
  blk_ext [iblk, V, index_all t, row]

theorem blk1 (c : Dev nD) (t : Fin cfg0.N) (r : Fin 256) (l : Fin 2048) : iblk m c 1 t (ix2 r l) = m ((c : Thread nD τ).loc main_arg2) (ix2 (row t r) l) := by
  blk_ext [iblk, V, index_all t, row]

theorem blk2 (c : Dev nD) (t : Fin cfg0.N) (l : Fin 2048) : iblk m c 2 t (ix2 0 l) = m ((c : Thread nD τ).loc main_arg1) (ix2 0 l) := by
  blk_ext [iblk, V, index_all t]

/-- The gradient of the stream at row `r` of tile `t`, and the tile's parts of the two sums. -/
def tileRow (c : Dev nD) (t : Fin cfg0.N) (r : Fin 256) (l : Fin 2048) : EReal :=
  dx (m ((c : Thread nD τ).loc main_arg0)) (m ((c : Thread nD τ).loc main_arg1)) (m ((c : Thread nD τ).loc main_arg2)) (ix2 (row t r) l)

def tileWeight (c : Dev nD) (t : Fin cfg0.N) (l : Fin 2048) : EReal :=
  ∑ r : Fin 256, weightTerm (m ((c : Thread nD τ).loc main_arg0)) (m ((c : Thread nD τ).loc main_arg1)) (m ((c : Thread nD τ).loc main_arg2)) l (row t r)

def tileLoss (c : Dev nD) (t : Fin cfg0.N) : EReal :=
  ∑ r : Fin 256, lossTerm (m ((c : Thread nD τ).loc main_arg0)) (m ((c : Thread nD τ).loc main_arg1)) (m ((c : Thread nD τ).loc main_arg2)) (row t r)

theorem row_blocks (c : Dev nD) (t : Fin cfg0.N) (r : Fin 256) (l : Fin 2048) : k0_pay11 (iblk m c 0 t) (iblk m c 1 t) (iblk m c 2 t) (ix2 r l) = tileRow m c t r l := by
  refine (pay11_apply _ _ _ r l).trans ?_
  simp only [blk0, blk1, blk2]
  rfl

theorem weight_blocks (c : Dev nD) (t : Fin cfg0.N) (l : Fin 2048) : k0_pay10 (iblk m c 0 t) (iblk m c 1 t) (iblk m c 2 t) (ix2 0 l) = tileWeight m c t l := by
  refine (pay10_apply _ _ _ l).trans ?_
  simp only [blk0, blk1, blk2]
  rfl

theorem loss_blocks (c : Dev nD) (t : Fin cfg0.N) (n : Fin 128) : k0_pay1 (k0_pay12 (iblk m c 0 t) (iblk m c 1 t) (iblk m c 2 t)) (ix2 0 n) = tileLoss m c t := by
  refine (pay1_apply _ _ _ n).trans ?_
  simp only [blk0, blk1, blk2]
  rfl

theorem outs_rows (c : Dev nD) (t : Fin cfg0.N) (r : Fin 256) (l : Fin 2048) :
    (outsAt0 m c t.val t.isLt).1 (ix2 r l) = tileRow m c t r l ∧ (outsAt0 m c t.val t.isLt).2.1 (ix2 r l) = tileRow m c t r l := by
  have ht : t.val < 8 := t.isLt
  rcases Nat.eq_zero_or_pos t.val with h | h
  · rw [outsAt0_A m c t (by omega) (by omega) (by omega) (by omega)]
    constructor
    · frame_out
      exact row_blocks m c t r l
    · frame_out
      exact row_blocks m c t r l
  · rw [outsAt0_B m c t (by omega) (by omega) (by omega) (by omega)]
    constructor
    · frame_out
      exact row_blocks m c t r l
    · frame_out
      exact row_blocks m c t r l

theorem outs_sum_first (c : Dev nD) (t : Fin cfg0.N) (h : t.val % 8 = 0) : (∀ l : Fin 2048, (outsAt0 m c t.val t.isLt).2.2.1 (ix2 0 l) = tileWeight m c t l)
    ∧ ∀ n : Fin 128, (outsAt0 m c t.val t.isLt).2.2.2 (ix2 0 n) = tileLoss m c t := by
  have ht : t.val < 8 := t.isLt
  rw [outsAt0_A m c t (by omega) (by omega) (by omega) (by omega)]
  constructor
  · intro l
    frame_out
    exact weight_blocks m c t l
  · intro n
    frame_out
    exact loss_blocks m c t n

theorem outs_sum_next (c : Dev nD) (t : Fin cfg0.N) (h : ¬t.val % 8 = 0) : (∀ l : Fin 2048, (outsAt0 m c t.val t.isLt).2.2.1 (ix2 0 l)
      = (outsAt0 m c (t.val - 1) (Nat.lt_of_le_of_lt (Nat.sub_le _ _) t.isLt)).2.2.1 (ix2 0 l) + tileWeight m c t l)
    ∧ ∀ n : Fin 128, (outsAt0 m c t.val t.isLt).2.2.2 (ix2 0 n)
      = (outsAt0 m c (t.val - 1) (Nat.lt_of_le_of_lt (Nat.sub_le _ _) t.isLt)).2.2.2 (ix2 0 n) + tileLoss m c t := by
  have ht : t.val < 8 := t.isLt
  rw [outsAt0_B m c t (by omega) (by omega) (by omega) (by omega)]
  constructor
  · intro l
    frame_out
    pointwise [k0_pay3]
    exact congrArg _ (weight_blocks m c t l)
  · intro n
    frame_out
    pointwise [k0_pay4]
    exact congrArg _ (loss_blocks m c t n)

/-- The two row results' blocks lie alike. -/
theorem emb_eq (t : Fin cfg0.N) (r : Fin 256) (l : Fin 2048) : (win0_3.blk t).view.emb (ix2 r l) = ix2 (row t r) l
    ∧ (win0_4.blk t).view.emb (ix2 r l) = ix2 (row t r) l := by
  refine ⟨?_, ?_⟩ <;>
  · funext a
    apply Fin.ext
    fin_cases a
    · blk_simp [index_all t]
      rfl
    · blk_simp [index_all t]
      rfl

theorem final3 (c : Dev nD) : (dats m 0 c).arrAt 3 cfg0.N = dx (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ (r : Fin 256) (l : Fin 2048), y = ix2 r l := ⟨y 0, y 1, eq_ix2 y⟩
  refine Eq.trans ?_ (congrArg (dx _ _ _) (emb_eq t r l).1).symm
  rw [after0_3]
  have hx : (win0_3).xinj (grid0.coords t) (ix2 r l) = ix2 r l := by
    funext a
    fin_cases a <;> rfl
  exact (cast_eq _ _).trans ((congrArg (outsAt0 m c t.val t.isLt).1 hx).trans (outs_rows m c t r l).1)

theorem final4 (c : Dev nD) : (dats m 0 c).arrAt 4 cfg0.N = dx (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨r, l, rfl⟩ : ∃ (r : Fin 256) (l : Fin 2048), y = ix2 r l := ⟨y 0, y 1, eq_ix2 y⟩
  refine Eq.trans ?_ (congrArg (dx _ _ _) (emb_eq t r l).2).symm
  rw [after0_4]
  have hx : (win0_4).xinj (grid0.coords t) (ix2 r l) = ix2 r l := by
    funext a
    fin_cases a <;> rfl
  exact (cast_eq _ _).trans ((congrArg (outsAt0 m c t.val t.isLt).2.1 hx).trans (outs_rows m c t r l).2)

/-- The grid's last point. -/
def last : Fin cfg0.N := ⟨7, by decide⟩

theorem final5 (c : Dev nD) : (dats m 0 c).arrAt 5 cfg0.N = dg (m ((c : Thread nD τ).loc main_arg0)) (m ((c : Thread nD τ).loc main_arg1)) (m ((c : Thread nD τ).loc main_arg2)) := by
  refine (dats m 0 c).arrAt_eq_of_after_last 5 last (by decide +kernel) _ fun j => ?_
  blk_simp
  rw [after0_5]
  have hj : (fun a => ⟨(j a).val, (j a).isLt⟩ : S1x2048.Idx) = ix2 (0 : Fin 1) (j 1 : Fin 2048) := by
    refine (eq_ix2 _).trans ?_
    have h0 : (⟨(j 0).val, (j 0).isLt⟩ : Fin 1) = 0 := Subsingleton.elim _ _
    exact congrArg (fun q => ix2 q (j 1 : Fin 2048)) h0
  refine (congrArg (outsAt0 m c last.val last.isLt).2.2.1 hj).trans ?_
  refine (Idealize.ShloMosaic.Pipeline.eq_sum_fin_of_reset_step_apply_last (fun n h l => (outsAt0 m c n h).2.2.1 (ix2 0 l)) 8 (fun _ => 0)
    (fun t l => tileWeight m c t l) (fun t h l => ((outs_sum_first m c t h).1 l).trans (zero_add _).symm)
    (fun t h l => (outs_sum_next m c t h).1 l) (le_refl _) last rfl (j 1)).trans ?_
  rw [zero_add]
  exact Fin.sum_mul_add_fin 8 256 (weightTerm (m ((c : Thread nD τ).loc main_arg0)) (m ((c : Thread nD τ).loc main_arg1)) (m ((c : Thread nD τ).loc main_arg2)) (j 1)) rfl

theorem final6 (c : Dev nD) : (dats m 0 c).arrAt 6 cfg0.N = loss (m ((c : Thread nD τ).loc main_arg0)) (m ((c : Thread nD τ).loc main_arg1)) (m ((c : Thread nD τ).loc main_arg2)) := by
  refine (dats m 0 c).arrAt_eq_of_after_last 6 last (by decide +kernel) _ fun j => ?_
  blk_simp
  rw [after0_6]
  have hj : (fun a => ⟨(j a).val, (j a).isLt⟩ : S1x128.Idx) = ix2 (0 : Fin 1) (j 1 : Fin 128) := by
    refine (eq_ix2 _).trans ?_
    have h0 : (⟨(j 0).val, (j 0).isLt⟩ : Fin 1) = 0 := Subsingleton.elim _ _
    exact congrArg (fun q => ix2 q (j 1 : Fin 128)) h0
  refine (congrArg (outsAt0 m c last.val last.isLt).2.2.2 hj).trans ?_
  refine (Idealize.ShloMosaic.Pipeline.eq_sum_fin_of_reset_step_apply_last (fun n h l => (outsAt0 m c n h).2.2.2 (ix2 0 l)) 8 (fun _ => 0)
    (fun t _ => tileLoss m c t) (fun t h l => ((outs_sum_first m c t h).2 l).trans (zero_add _).symm)
    (fun t h l => (outs_sum_next m c t h).2 l) (le_refl _) last rfl (j 1)).trans ?_
  rw [zero_add]
  exact Fin.sum_mul_add_fin 8 256 (lossTerm (m ((c : Thread nD τ).loc main_arg0)) (m ((c : Thread nD τ).loc main_arg1)) (m ((c : Thread nD τ).loc main_arg2))) rfl

end Cert.FinalIdeal.Tile

namespace Cert.Proof

open Idealize.ShloMosaic Idealize.ShloMosaic.TcCoe Idealize.SL.Sem
open Cert.FinalRefIdeal.Spec (dx dg loss)

theorem final_algebraic : Cert.algebraic_FinalIdeal_FinalRefIdeal := by
  intro m g m' g' _ hm
  refine ⟨_, _, _, _, (θ_run _ _ _).mono (fun r h c => ⟨(h c).1.trans (FinalIdeal.Tile.final3 m c), (h c).2.1.trans (FinalIdeal.Tile.final4 m c),
    (h c).2.2.1.trans (FinalIdeal.Tile.final5 m c), (h c).2.2.2.1.trans (FinalIdeal.Tile.final6 m c), (h c).2.2.2.2⟩) (FinalIdeal.Value.run_blocks m g), ?_⟩
  refine (θ_run _ _ _).mono (fun r h c => ?_) (FinalRefIdeal.Value.run m' g')
  obtain ⟨e0, e1, e2⟩ := hm c
  have e := congr (congr (congrArg dx e0) e1) e2
  refine ⟨(h c).1.trans ?_, (h c).2.1.trans ?_, (h c).2.2.1.trans ?_, (h c).2.2.2.1.trans ?_, (h c).2.2.2.2⟩
  · exact (FinalRefIdeal.Read.val_main_v48_eq _ _).trans ((FinalRefIdeal.Spec.dx_eq _ _ _).trans e)
  · exact (FinalRefIdeal.Read.val_main_v49_eq _ _).trans ((FinalRefIdeal.Spec.dx_eq _ _ _).trans e)
  · exact (FinalRefIdeal.Read.val_main_v32_eq _ _ _).trans ((FinalRefIdeal.Spec.dg_eq _ _ _).trans (congr (congr (congrArg dg e0) e1) e2))
  · exact (FinalRefIdeal.Read.val_main_v50_eq _ _ _).trans ((FinalRefIdeal.Spec.loss_eq _ _ _).trans (congr (congr (congrArg loss e0) e1) e2))

end Cert.Proof

end
-- ==== Proof.AdamSmall.lean ====
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pointwise
public import Idealize.ShloMosaic.Lib.Pipeline.ValueKit

@[expose] public section

set_option maxRecDepth 16384

noncomputable section

namespace Cert.Proof

open Idealize.ShloMosaic Idealize.ShloMosaic.TcCoe Idealize.SL.Sem

/-- Both sides are the same scalar steps at every entry. -/
theorem adam_small_algebraic : Cert.algebraic_AdamSmallIdeal_AdamSmallRefIdeal := by
  intro m g m' g' _ hm
  refine ⟨_, _, _, (θ_run _ _ _).mono (fun r h c => h c) (AdamSmallIdeal.Value.run m g), ?_⟩
  refine (θ_run _ _ _).mono (fun r h c => ?_) (AdamSmallRefIdeal.Value.run m' g')
  obtain ⟨e0, e1, e2, e3⟩ := hm c
  refine ⟨(h c).1.trans ((AdamSmallRefIdeal.Read.val_main_v23_eq _ _ _ _).trans ?_), (h c).2.1.trans ((AdamSmallRefIdeal.Read.val_main_v4_eq _ _).trans ?_),
    (h c).2.2.1.trans ((AdamSmallRefIdeal.Read.val_main_v10_eq _ _).trans ?_), (h c).2.2.2⟩
  · exact congr (congr (congr (congrArg (AdamSmallIdeal.Value.G4 (F := Ideal)) e0) e1) e2) e3
  · exact congr (congrArg (AdamSmallIdeal.Value.G5 (F := Ideal)) e1) e2
  · exact congr (congrArg (AdamSmallIdeal.Value.G6 (F := Ideal)) e1) e3

end Cert.Proof

end
-- ==== Proof.AdamPool.lean ====
module

public import proofs.«01_k».proof.Defs
public import proofs.«01_k».proof.Proof.Gen.AdamPoolIdeal.Value
public import proofs.«01_k».proof.Proof.Gen.AdamPoolRefIdeal.Run
public import proofs.«01_k».proof.Proof.Gen.AdamPoolRefIdeal.Read
public import Idealize.ShloMosaic.Lib.Pointwise
public import Idealize.ShloMosaic.Lib.Pipeline.ValueKit

@[expose] public section

set_option maxRecDepth 16384

noncomputable section

namespace Cert.AdamPoolIdeal.Tile

open Cert.AdamPoolIdeal Cert.AdamPoolIdeal.Gen Idealize.ShloMosaic Idealize.ShloMosaic.TcCoe Idealize.SL.Sem
open Cert.AdamPoolRefIdeal.Read (val_main_v4 val_main_v10 val_main_v23)

variable (m : (ℓ : Loc nD τ sig) → Buf (Elt Ideal) ℓ)

theorem index_all : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

def row (t : Fin cfg0.N) (r : Fin 256) : Fin 1024 := ⟨t.val * 256 + r.val, by have : t.val < 4 := t.isLt; omega⟩

theorem blk0 (c : Dev nD) (t : Fin cfg0.N) (r : Fin 256) (l : Fin 512) : iblk m c 0 t (ix2 r l) = m ((c : Thread nD τ).loc main_arg0) (ix2 (row t r) l) := by
  blk_ext [iblk, V, index_all t, row]

theorem blk1 (c : Dev nD) (t : Fin cfg0.N) (r : Fin 256) (l : Fin 512) : iblk m c 1 t (ix2 r l) = m ((c : Thread nD τ).loc main_arg1) (ix2 (row t r) l) := by
  blk_ext [iblk, V, index_all t, row]

theorem blk2 (c : Dev nD) (t : Fin cfg0.N) (r : Fin 256) (l : Fin 512) : iblk m c 2 t (ix2 r l) = m ((c : Thread nD τ).loc main_arg2) (ix2 (row t r) l) := by
  blk_ext [iblk, V, index_all t, row]

theorem blk3 (c : Dev nD) (t : Fin cfg0.N) (r : Fin 256) (l : Fin 512) : iblk m c 3 t (ix2 r l) = m ((c : Thread nD τ).loc main_arg3) (ix2 (row t r) l) := by
  blk_ext [iblk, V, index_all t, row]

/-- The four results' blocks lie alike. -/
theorem emb_eq (t : Fin cfg0.N) (r : Fin 256) (l : Fin 512) : (win0_4.blk t).view.emb (ix2 r l) = ix2 (row t r) l
    ∧ (win0_5.blk t).view.emb (ix2 r l) = ix2 (row t r) l ∧ (win0_6.blk t).view.emb (ix2 r l) = ix2 (row t r) l
    ∧ (win0_7.blk t).view.emb (ix2 r l) = ix2 (row t r) l := by
  refine ⟨?_, ?_, ?_, ?_⟩ <;>
  · funext a
    apply Fin.ext
    fin_cases a
    · blk_simp [index_all t]
      rfl
    · blk_simp [index_all t]
      rfl

theorem pay1_apply (v1 v2 : Vec Ideal S256x512 .f32) (g p : FVec Ideal S1024x512 .f32) (i : S1024x512.Idx) (j : S256x512.Idx)
    (h1 : v1 j = g i) (h2 : v2 j = p i) : k0_pay1 v1 v2 j = val_main_v4 (F := Ideal) g p i := by
  show k0_pay1 (fun _ => v1 j) (fun _ => v2 j) j = _
  rw [h1, h2]
  rfl

theorem pay2_apply (v1 v3 : Vec Ideal S256x512 .f32) (g q : FVec Ideal S1024x512 .f32) (i : S1024x512.Idx) (j : S256x512.Idx)
    (h1 : v1 j = g i) (h3 : v3 j = q i) : k0_pay2 v1 v3 j = val_main_v10 (F := Ideal) g q i := by
  show k0_pay2 (fun _ => v1 j) (fun _ => v3 j) j = _
  rw [h1, h3]
  rfl

theorem pay3_apply (v0 v1 v2 v3 : Vec Ideal S256x512 .f32) (w g p q : FVec Ideal S1024x512 .f32) (i : S1024x512.Idx) (j : S256x512.Idx)
    (h0 : v0 j = w i) (h1 : v1 j = g i) (h2 : v2 j = p i) (h3 : v3 j = q i) : k0_pay3 v0 v1 v2 v3 j = val_main_v23 (F := Ideal) w g p q i := by
  show k0_pay3 (fun _ => v0 j) (fun _ => v1 j) (fun _ => v2 j) (fun _ => v3 j) j = _
  rw [h0, h1, h2, h3]
  rfl

theorem final4 (c : Dev nD) : (dats m 0 c).arrAt 4 cfg0.N = m ((c : Thread nD τ).loc main_arg1) := by
  refine (dats m 0 c).arrAt_eq_of_covers 4 _ (by decide +kernel) fun t hf y => ?_
  obtain ⟨r, l, rfl⟩ : ∃ (r : Fin 256) (l : Fin 512), y = ix2 r l := ⟨y 0, y 1, eq_ix2 y⟩
  refine Eq.trans ?_ (congrArg (m ((c : Thread nD τ).loc main_arg1)) (emb_eq t r l).1).symm
  rw [after0_4]
  unfold outsAt0
  frame_out
  exact blk1 m c t r l

theorem final5 (c : Dev nD) : (dats m 0 c).arrAt 5 cfg0.N = val_main_v23 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 256) (l : Fin 512), y = ix2 r l := ⟨y 0, y 1, eq_ix2 y⟩
  refine Eq.trans ?_ (congrArg (val_main_v23 (F := Ideal) _ _ _ _) (emb_eq t r l).2.1).symm
  rw [after0_5]
  unfold outsAt0
  frame_out
  exact pay3_apply _ _ _ _ _ _ _ _ _ _ (blk0 m c t r l) (blk1 m c t r l) (blk2 m c t r l) (blk3 m c t r l)

theorem final6 (c : Dev nD) : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t hf y => ?_
  obtain ⟨r, l, rfl⟩ : ∃ (r : Fin 256) (l : Fin 512), y = ix2 r l := ⟨y 0, y 1, eq_ix2 y⟩
  refine Eq.trans ?_ (congrArg (val_main_v4 (F := Ideal) _ _) (emb_eq t r l).2.2.1).symm
  rw [after0_6]
  unfold outsAt0
  frame_out
  exact pay1_apply _ _ _ _ _ _ (blk1 m c t r l) (blk2 m c t r l)

theorem final7 (c : Dev nD) : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t hf y => ?_
  obtain ⟨r, l, rfl⟩ : ∃ (r : Fin 256) (l : Fin 512), y = ix2 r l := ⟨y 0, y 1, eq_ix2 y⟩
  refine Eq.trans ?_ (congrArg (val_main_v10 (F := Ideal) _ _) (emb_eq t r l).2.2.2).symm
  rw [after0_7]
  unfold outsAt0
  frame_out
  exact pay2_apply _ _ _ _ _ _ (blk1 m c t r l) (blk3 m c t r l)

end Cert.AdamPoolIdeal.Tile

namespace Cert.Proof

open Idealize.ShloMosaic Idealize.ShloMosaic.TcCoe Idealize.SL.Sem

theorem adam_pool_algebraic : Cert.algebraic_AdamPoolIdeal_AdamPoolRefIdeal := by
  intro m g m' g' _ hm
  refine ⟨_, _, _, _, (θ_run _ _ _).mono (fun r h c => ⟨(h c).1.trans (AdamPoolIdeal.Tile.final4 m c), (h c).2.1.trans (AdamPoolIdeal.Tile.final5 m c),
    (h c).2.2.1.trans (AdamPoolIdeal.Tile.final6 m c), (h c).2.2.2.1.trans (AdamPoolIdeal.Tile.final7 m c), (h c).2.2.2.2⟩) (AdamPoolIdeal.Value.run_blocks m g), ?_⟩
  refine (θ_run _ _ _).mono (fun r h c => ?_) (AdamPoolRefIdeal.Value.run m' g')
  obtain ⟨e0, e1, e2, e3, e4⟩ := hm c
  refine ⟨(h c).1.trans e1, (h c).2.1.trans ((AdamPoolRefIdeal.Read.val_main_v23_eq _ _ _ _).trans ?_),
    (h c).2.2.1.trans ((AdamPoolRefIdeal.Read.val_main_v4_eq _ _).trans ?_), (h c).2.2.2.1.trans ((AdamPoolRefIdeal.Read.val_main_v10_eq _ _).trans ?_), (h c).2.2.2.2⟩
  · exact congr (congr (congr (congrArg (AdamPoolRefIdeal.Read.val_main_v23 (F := Ideal)) e0) e1) e2) e3
  · exact congr (congrArg (AdamPoolRefIdeal.Read.val_main_v4 (F := Ideal)) e1) e2
  · exact congr (congrArg (AdamPoolRefIdeal.Read.val_main_v10 (F := Ideal)) e1) e3

end Cert.Proof

end
-- ==== Proof.PoolBwd1.lean ====
module

public import proofs.«01_k».proof.Defs
public import proofs.«01_k».proof.Proof.Gen.PoolBwd1Ideal.Value
public import proofs.«01_k».proof.Proof.Gen.PoolBwd1RefIdeal.Run
public import proofs.«01_k».proof.Proof.Gen.PoolBwd1RefIdeal.Read
public import Idealize.ShloMosaic.Lib.Pointwise
public import Idealize.ShloMosaic.Lib.Pipeline.ValueKit

@[expose] public section

set_option maxRecDepth 16384

noncomputable section

namespace Cert.PoolBwd1RefIdeal.Spec

open Cert.PoolBwd1RefIdeal Cert.PoolBwd1RefIdeal.Gen Cert.PoolBwd1RefIdeal.Read Idealize.ShloMosaic

def rows (h : FVec Ideal S2048x2048 .f32) (s : FVec Ideal S1x2048 .f32) : FVec Ideal S2048x2048 .bf16 := fun i =>
  h (ix2 (i 0 : Fin 2048) (i 1 : Fin 2048)) * s (ix2 0 (i 1 : Fin 2048))

/-- One row's terms of the gradients of the scale and of the bias. -/
def scaleTerm (h p : FVec Ideal S2048x2048 .f32) (l r : Fin 2048) : EReal := h (ix2 r l) * p (ix2 r l)
def biasTerm (h : FVec Ideal S2048x2048 .f32) (s : FVec Ideal S1x2048 .f32) (l r : Fin 2048) : EReal := h (ix2 r l) * s (ix2 0 l)

def dscale (h p : FVec Ideal S2048x2048 .f32) : FVec Ideal S1x2048 .f32 := fun i => ∑ r : Fin 2048, scaleTerm h p (i 1 : Fin 2048) r
def dbias (h : FVec Ideal S2048x2048 .f32) (s : FVec Ideal S1x2048 .f32) : FVec Ideal S1x2048 .f32 := fun i => ∑ r : Fin 2048, biasTerm h s (i 1 : Fin 2048) r

theorem only_row (i : S1x2048.Idx) : ∃ l : Fin 2048, i = ix2 (0 : Fin 1) l :=
  ⟨i 1, (eq_ix2 i).trans (congrArg (fun q : Fin 1 => ix2 q (i 1 : Fin 2048)) (Subsingleton.elim (α := Fin 1) (i 0) 0))⟩

theorem rows_eq (h : FVec Ideal S2048x2048 .f32) (s : FVec Ideal S1x2048 .f32) : val_main_v12 (F := Ideal) h s = rows h s := by
  funext i
  obtain ⟨r, l, rfl⟩ : ∃ r l : Fin 2048, i = ix2 r l := ⟨i 0, i 1, eq_ix2 i⟩
  pointwise [val_main_v12, val_main_v9, val_main_v8]
  rfl

theorem dscale_eq (h p : FVec Ideal S2048x2048 .f32) : val_main_v7 (F := Ideal) h p = dscale h p := by
  funext i
  obtain ⟨l, rfl⟩ := only_row i
  unfold dscale scaleTerm
  pointwise [val_main_v7, val_main_v6, val_main_cst_0, val_main_v5, val_main_v2, val_main_v1, val_main_v0, val_main_cst]
  simp only [add_zero, mul_comm]

theorem dbias_eq (h : FVec Ideal S2048x2048 .f32) (s : FVec Ideal S1x2048 .f32) : val_main_v11 (F := Ideal) h s = dbias h s := by
  funext i
  obtain ⟨l, rfl⟩ := only_row i
  unfold dbias biasTerm
  pointwise [val_main_v11, val_main_v10, val_main_cst_1, val_main_v9, val_main_v8]

end Cert.PoolBwd1RefIdeal.Spec

namespace Cert.PoolBwd1Ideal.Tile

open Cert.PoolBwd1Ideal Cert.PoolBwd1Ideal.Gen Idealize.ShloMosaic Idealize.ShloMosaic.TcCoe Idealize.SL.Sem
open Cert.PoolBwd1RefIdeal.Spec (rows dscale dbias scaleTerm biasTerm)

variable (m : (ℓ : Loc nD τ sig) → Buf (Elt Ideal) ℓ)

theorem index_all : ∀ t : Fin grid0.N, win0_0.index t = ![t.val, 0] ∧ win0_1.index t = ![t.val, 0] ∧ win0_2.index t = ![0, 0]
    ∧ win0_3.index t = ![t.val, 0] ∧ win0_4.index t = ![0, 0] ∧ win0_5.index t = ![0, 0] := by
  decide +kernel

theorem pay1_apply (h p : Vec Ideal S256x2048 .f32) (l : Fin 2048) : k0_pay1 h p (ix2 0 l) = ∑ r : Fin 256, h (ix2 r l) * p (ix2 r l) := by
  pointwise [k0_pay1]

theorem pay2_apply (h : Vec Ideal S256x2048 .f32) (s : Vec Ideal S1x2048 .f32) (l : Fin 2048) : k0_pay2 h s (ix2 0 l) = ∑ r : Fin 256, h (ix2 r l) * s (ix2 0 l) := by
  pointwise [k0_pay2]

theorem pay3_apply (h : Vec Ideal S256x2048 .f32) (s : Vec Ideal S1x2048 .f32) (r : Fin 256) (l : Fin 2048) : k0_pay3 h s (ix2 r l) = h (ix2 r l) * s (ix2 0 l) := by
  pointwise [k0_pay3]

def row (t : Fin cfg0.N) (r : Fin 256) : Fin 2048 := ⟨t.val * 256 + r.val, by have : t.val < 8 := t.isLt; omega⟩

theorem blk0 (c : Dev nD) (t : Fin cfg0.N) (r : Fin 256) (l : Fin 2048) : iblk m c 0 t (ix2 r l) = m ((c : Thread nD τ).loc main_arg0) (ix2 (row t r) l) := by
  blk_ext [iblk, V, index_all t, row]

theorem blk1 (c : Dev nD) (t : Fin cfg0.N) (r : Fin 256) (l : Fin 2048) : iblk m c 1 t (ix2 r l) = m ((c : Thread nD τ).loc main_arg1) (ix2 (row t r) l) := by
  blk_ext [iblk, V, index_all t, row]

theorem blk2 (c : Dev nD) (t : Fin cfg0.N) (l : Fin 2048) : iblk m c 2 t (ix2 0 l) = m ((c : Thread nD τ).loc main_arg2) (ix2 0 l) := by
  blk_ext [iblk, V, index_all t]

def tileScale (c : Dev nD) (t : Fin cfg0.N) (l : Fin 2048) : EReal :=
  ∑ r : Fin 256, scaleTerm (m ((c : Thread nD τ).loc main_arg0)) (m ((c : Thread nD τ).loc main_arg1)) l (row t r)

def tileBias (c : Dev nD) (t : Fin cfg0.N) (l : Fin 2048) : EReal :=
  ∑ r : Fin 256, biasTerm (m ((c : Thread nD τ).loc main_arg0)) (m ((c : Thread nD τ).loc main_arg2)) l (row t r)

theorem scale_blocks (c : Dev nD) (t : Fin cfg0.N) (l : Fin 2048) : k0_pay1 (iblk m c 0 t) (iblk m c 1 t) (ix2 0 l) = tileScale m c t l := by
  refine (pay1_apply _ _ l).trans ?_
  simp only [blk0, blk1]
  rfl

theorem bias_blocks (c : Dev nD) (t : Fin cfg0.N) (l : Fin 2048) : k0_pay2 (iblk m c 0 t) (iblk m c 2 t) (ix2 0 l) = tileBias m c t l := by
  refine (pay2_apply _ _ l).trans ?_
  simp only [blk0, blk2]
  rfl

theorem outs_rows (c : Dev nD) (t : Fin cfg0.N) (r : Fin 256) (l : Fin 2048) : (outsAt0 m c t.val t.isLt).1 (ix2 r l)
    = rows (m ((c : Thread nD τ).loc main_arg0)) (m ((c : Thread nD τ).loc main_arg2)) (ix2 (row t r) l) := by
  have ht : t.val < 8 := t.isLt
  have e : k0_pay3 (iblk m c 0 t) (iblk m c 2 t) (ix2 r l) = rows (m ((c : Thread nD τ).loc main_arg0)) (m ((c : Thread nD τ).loc main_arg2)) (ix2 (row t r) l) := by
    refine (pay3_apply _ _ r l).trans ?_
    simp only [blk0, blk2]
    rfl
  rcases Nat.eq_zero_or_pos t.val with h | h
  · rw [outsAt0_A m c t (by omega) (by omega) (by omega) (by omega)]
    frame_out
    exact e
  · rw [outsAt0_B m c t (by omega) (by omega) (by omega) (by omega)]
    frame_out
    exact e

theorem outs_sum_first (c : Dev nD) (t : Fin cfg0.N) (h : t.val % 8 = 0) (l : Fin 2048) :
    (outsAt0 m c t.val t.isLt).2.1 (ix2 0 l) = tileScale m c t l ∧ (outsAt0 m c t.val t.isLt).2.2 (ix2 0 l) = tileBias m c t l := by
  have ht : t.val < 8 := t.isLt
  rw [outsAt0_A m c t (by omega) (by omega) (by omega) (by omega)]
  constructor
  · frame_out
    exact scale_blocks m c t l
  · frame_out
    exact bias_blocks m c t l

theorem outs_sum_next (c : Dev nD) (t : Fin cfg0.N) (h : ¬t.val % 8 = 0) (l : Fin 2048) :
    (outsAt0 m c t.val t.isLt).2.1 (ix2 0 l)
        = (outsAt0 m c (t.val - 1) (Nat.lt_of_le_of_lt (Nat.sub_le _ _) t.isLt)).2.1 (ix2 0 l) + tileScale m c t l
      ∧ (outsAt0 m c t.val t.isLt).2.2 (ix2 0 l)
        = (outsAt0 m c (t.val - 1) (Nat.lt_of_le_of_lt (Nat.sub_le _ _) t.isLt)).2.2 (ix2 0 l) + tileBias m c t l := by
  have ht : t.val < 8 := t.isLt
  rw [outsAt0_B m c t (by omega) (by omega) (by omega) (by omega)]
  constructor
  · frame_out
    pointwise [k0_pay4]
    exact congrArg _ (scale_blocks m c t l)
  · frame_out
    pointwise [k0_pay5]
    exact congrArg _ (bias_blocks m c t l)

theorem emb3 (t : Fin cfg0.N) (r : Fin 256) (l : Fin 2048) : (win0_3.blk t).view.emb (ix2 r l) = ix2 (row t r) l := by
  funext a
  apply Fin.ext
  fin_cases a
  · blk_simp [index_all t]
    rfl
  · blk_simp [index_all t]
    rfl

theorem final3 (c : Dev nD) : (dats m 0 c).arrAt 3 cfg0.N = rows (m ((c : Thread nD τ).loc main_arg0)) (m ((c : Thread nD τ).loc main_arg2)) := by
  refine (dats m 0 c).arrAt_eq_of_covers 3 _ (by decide +kernel) fun t hf y => ?_
  obtain ⟨r, l, rfl⟩ : ∃ (r : Fin 256) (l : Fin 2048), y = ix2 r l := ⟨y 0, y 1, eq_ix2 y⟩
  refine Eq.trans ?_ (congrArg (rows _ _) (emb3 t r l)).symm
  rw [after0_3]
  have hx : (win0_3).xinj (grid0.coords t) (ix2 r l) = ix2 r l := by
    funext a
    fin_cases a <;> rfl
  exact (cast_eq _ _).trans ((congrArg (outsAt0 m c t.val t.isLt).1 hx).trans (outs_rows m c t r l))

/-- The grid's last point. -/
def last : Fin cfg0.N := ⟨7, by decide⟩

theorem at_row (j : S1x2048.Idx) : (fun a => ⟨(j a).val, (j a).isLt⟩ : S1x2048.Idx) = ix2 (0 : Fin 1) (j 1 : Fin 2048) := by
  refine (eq_ix2 _).trans ?_
  have h0 : (⟨(j 0).val, (j 0).isLt⟩ : Fin 1) = 0 := Subsingleton.elim _ _
  exact congrArg (fun q => ix2 q (j 1 : Fin 2048)) h0

theorem final4 (c : Dev nD) : (dats m 0 c).arrAt 4 cfg0.N = dscale (m ((c : Thread nD τ).loc main_arg0)) (m ((c : Thread nD τ).loc main_arg1)) := by
  refine (dats m 0 c).arrAt_eq_of_after_last 4 last (by decide +kernel) _ fun j => ?_
  blk_simp
  rw [after0_4]
  refine (congrArg (outsAt0 m c last.val last.isLt).2.1 (at_row j)).trans ?_
  refine (Idealize.ShloMosaic.Pipeline.eq_sum_fin_of_reset_step_apply_last (fun n h l => (outsAt0 m c n h).2.1 (ix2 0 l)) 8 (fun _ => 0)
    (fun t l => tileScale m c t l) (fun t h l => (outs_sum_first m c t h l).1.trans (zero_add _).symm)
    (fun t h l => (outs_sum_next m c t h l).1) (le_refl _) last rfl (j 1)).trans ?_
  rw [zero_add]
  exact Fin.sum_mul_add_fin 8 256 (scaleTerm (m ((c : Thread nD τ).loc main_arg0)) (m ((c : Thread nD τ).loc main_arg1)) (j 1)) rfl

theorem final5 (c : Dev nD) : (dats m 0 c).arrAt 5 cfg0.N = dbias (m ((c : Thread nD τ).loc main_arg0)) (m ((c : Thread nD τ).loc main_arg2)) := by
  refine (dats m 0 c).arrAt_eq_of_after_last 5 last (by decide +kernel) _ fun j => ?_
  blk_simp
  rw [after0_5]
  refine (congrArg (outsAt0 m c last.val last.isLt).2.2 (at_row j)).trans ?_
  refine (Idealize.ShloMosaic.Pipeline.eq_sum_fin_of_reset_step_apply_last (fun n h l => (outsAt0 m c n h).2.2 (ix2 0 l)) 8 (fun _ => 0)
    (fun t l => tileBias m c t l) (fun t h l => (outs_sum_first m c t h l).2.trans (zero_add _).symm)
    (fun t h l => (outs_sum_next m c t h l).2) (le_refl _) last rfl (j 1)).trans ?_
  rw [zero_add]
  exact Fin.sum_mul_add_fin 8 256 (biasTerm (m ((c : Thread nD τ).loc main_arg0)) (m ((c : Thread nD τ).loc main_arg2)) (j 1)) rfl

end Cert.PoolBwd1Ideal.Tile

namespace Cert.Proof

open Idealize.ShloMosaic Idealize.ShloMosaic.TcCoe Idealize.SL.Sem
open Cert.PoolBwd1RefIdeal.Spec (rows dscale dbias)

theorem pool_bwd1_algebraic : Cert.algebraic_PoolBwd1Ideal_PoolBwd1RefIdeal := by
  intro m g m' g' _ hm
  refine ⟨_, _, _, (θ_run _ _ _).mono (fun r h c => ⟨(h c).1.trans (PoolBwd1Ideal.Tile.final3 m c), (h c).2.1.trans (PoolBwd1Ideal.Tile.final4 m c),
    (h c).2.2.1.trans (PoolBwd1Ideal.Tile.final5 m c), (h c).2.2.2⟩) (PoolBwd1Ideal.Value.run_blocks m g), ?_⟩
  refine (θ_run _ _ _).mono (fun r h c => ?_) (PoolBwd1RefIdeal.Value.run m' g')
  obtain ⟨e0, e1, e2⟩ := hm c
  refine ⟨(h c).1.trans ?_, (h c).2.1.trans ?_, (h c).2.2.1.trans ?_, (h c).2.2.2⟩
  · exact (PoolBwd1RefIdeal.Read.val_main_v12_eq _ _).trans ((PoolBwd1RefIdeal.Spec.rows_eq _ _).trans (congr (congrArg rows e0) e2))
  · exact (PoolBwd1RefIdeal.Read.val_main_v7_eq _ _).trans ((PoolBwd1RefIdeal.Spec.dscale_eq _ _).trans (congr (congrArg dscale e0) e1))
  · exact (PoolBwd1RefIdeal.Read.val_main_v11_eq _ _).trans ((PoolBwd1RefIdeal.Spec.dbias_eq _ _).trans (congr (congrArg dbias e0) e2))

end Cert.Proof

end
-- ==== Proof.PoolDd.lean ====
module

public import proofs.«01_k».proof.Defs
public import proofs.«01_k».proof.Proof.Gen.PoolDdIdeal.Value
public import proofs.«01_k».proof.Proof.Gen.PoolDdRefIdeal.Run
public import proofs.«01_k».proof.Proof.Gen.PoolDdRefIdeal.Read
public import Idealize.ShloMosaic.Lib.Pointwise
public import Idealize.ShloMosaic.Lib.Pipeline.ValueKit

@[expose] public section

set_option maxRecDepth 16384

noncomputable section

namespace Cert.PoolDdRefIdeal.Spec

open Cert.PoolDdRefIdeal Cert.PoolDdRefIdeal.Gen Cert.PoolDdRefIdeal.Read Idealize.ShloMosaic

/-- Row `l` of the four groups' matrices, one under another, whose rows come in four slabs. -/
def weight (w : FVec Ideal S4x512x512 .bf16) (l : Fin 2048) (n : Fin 512) : EReal :=
  w (ix3 (⟨l.val / 128 % 4, by omega⟩ : Fin 4) (⟨l.val / 512 * 128 + l.val % 128, by omega⟩ : Fin 512) n)

theorem weight_at (w : FVec Ideal S4x512x512 .bf16) (j : Fin 16) (q : Fin 128) (n : Fin 512) (h : j.val * 128 + q.val < 2048) :
    weight w ⟨j.val * 128 + q.val, h⟩ n = w (ix3 (⟨j.val % 4, by omega⟩ : Fin 4) (⟨j.val / 4 * 128 + q.val, by omega⟩ : Fin 512) n) :=
  congrArg₂ (fun a b => w (ix3 a b n)) (Fin.ext (by dsimp only; omega)) (Fin.ext (by dsimp only; omega))

/-- Column `n` of the group of column `l`. -/
def inGroup (l : Fin 2048) (n : Fin 512) : Fin 2048 := ⟨l.val / 512 * 512 + n.val, by omega⟩

def grad (h : FVec Ideal S2048x2048 .bf16) (w : FVec Ideal S4x512x512 .bf16) : FVec Ideal S2048x2048 .f32 := fun i =>
  ∑ n : Fin 512, h (ix2 (i 0 : Fin 2048) (inGroup (i 1 : Fin 2048) n)) * weight w (i 1 : Fin 2048) n

theorem grad_eq (h : FVec Ideal S2048x2048 .bf16) (w : FVec Ideal S4x512x512 .bf16) : val_main_v14 (F := Ideal) h w = grad h w := by
  funext i
  obtain ⟨r, l, rfl⟩ : ∃ r l : Fin 2048, i = ix2 r l := ⟨i 0, i 1, eq_ix2 i⟩
  unfold grad weight inGroup
  pointwise [val_main_v14, val_main_v13, val_main_v12, val_main_v11, val_main_v10, val_main_v0, val_main_v5, val_main_v4, val_main_v3, val_main_v1]
  refine Finset.sum_congr rfl fun n _ => congrArg (_ * ·) (congrArg₂ (fun a b => w (ix3 a b n)) (Fin.ext ?_) (Fin.ext ?_))
  · show l.val % 512 / 128 = l.val / 128 % 4
    omega
  · show l.val / 512 * 128 + l.val % 512 % 128 = l.val / 512 * 128 + l.val % 128
    omega

end Cert.PoolDdRefIdeal.Spec

namespace Cert.PoolDdIdeal.Tile

open Cert.PoolDdIdeal Cert.PoolDdIdeal.Gen Idealize.ShloMosaic Idealize.ShloMosaic.TcCoe Idealize.SL.Sem
open Cert.PoolDdRefIdeal.Spec (grad weight weight_at inGroup)

variable (m : (ℓ : Loc nD τ sig) → Buf (Elt Ideal) ℓ)

theorem index_all : ∀ t : Fin grid0.N, win0_0.index t = ![t.val / 16, t.val % 16 / 4] ∧ win0_1.index t = ![t.val % 4, t.val % 16 / 4, 0]
    ∧ win0_2.index t = ![t.val / 16, t.val % 16] := by
  decide +kernel

theorem pay_apply (h : Vec Ideal S512x512 .bf16) (w : Vec Ideal S1x128x512 .bf16) (r : Fin 512) (q : Fin 128) :
    k0_pay2 h w (k0_pay1 (F := Ideal)) (ix2 r q) = ∑ n : Fin 512, h (ix2 r n) * w (ix3 0 q n) := by
  pointwise [k0_pay2, k0_pay1]

def row (t : Fin cfg0.N) (r : Fin 512) : Fin 2048 := ⟨t.val / 16 * 512 + r.val, by have : t.val < 64 := t.isLt; omega⟩
def col (t : Fin cfg0.N) (q : Fin 128) : Fin 2048 := ⟨t.val % 16 * 128 + q.val, by omega⟩

theorem blk0 (c : Dev nD) (t : Fin cfg0.N) (r n : Fin 512) (q : Fin 128) :
    iblk m c 0 t (ix2 r n) = m ((c : Thread nD τ).loc main_arg0) (ix2 (row t r) (inGroup (col t q) n)) := by
  have e : inGroup (col t q) n = ⟨t.val % 16 / 4 * 512 + n.val, by omega⟩ := Fin.ext (by dsimp only [inGroup, col]; omega)
  rw [e]
  blk_ext [iblk, V, index_all t, row]

theorem blk1 (c : Dev nD) (t : Fin cfg0.N) (q : Fin 128) (n : Fin 512) :
    iblk m c 1 t (ix3 0 q n) = weight (m ((c : Thread nD τ).loc main_arg1)) (col t q) n := by
  refine Eq.trans ?_ (weight_at (m ((c : Thread nD τ).loc main_arg1)) ⟨t.val % 16, by omega⟩ q n (col t q).isLt).symm
  have e : t.val % 4 = t.val % 16 % 4 := by omega
  blk_ext [iblk, V, index_all t, e]

theorem emb_eq (t : Fin cfg0.N) (r : Fin 512) (q : Fin 128) : (win0_2.blk t).view.emb (ix2 r q) = ix2 (row t r) (col t q) := by
  funext a
  apply Fin.ext
  fin_cases a
  · blk_simp [index_all t]
    rfl
  · blk_simp [index_all t]
    rfl

theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  obtain ⟨r, q, rfl⟩ : ∃ (r : Fin 512) (q : Fin 128), y = ix2 r q := ⟨y 0, y 1, eq_ix2 y⟩
  refine Eq.trans ?_ (congrArg (grad _ _) (emb_eq t r q)).symm
  rw [after0_2]
  unfold outsAt0
  frame_out
  refine (pay_apply _ _ r q).trans ?_
  exact Finset.sum_congr rfl fun n _ => congrArg₂ (· * ·) (blk0 m c t r n q) (blk1 m c t q n)

end Cert.PoolDdIdeal.Tile

namespace Cert.Proof

open Idealize.ShloMosaic Idealize.ShloMosaic.TcCoe Idealize.SL.Sem

theorem pool_dd_algebraic : Cert.algebraic_PoolDdIdeal_PoolDdRefIdeal := by
  intro m g m' g' _ hm
  refine ⟨_, (θ_run _ _ _).mono (fun r h c => ⟨(h c).1.trans (PoolDdIdeal.Tile.final m c), (h c).2⟩) (PoolDdIdeal.Value.run_blocks m g), ?_⟩
  refine (θ_run _ _ _).mono (fun r h c => ?_) (PoolDdRefIdeal.Value.run m' g')
  obtain ⟨e0, e1⟩ := hm c
  refine ⟨(h c).1.trans ((PoolDdRefIdeal.Read.val_main_v14_eq _ _).trans ((PoolDdRefIdeal.Spec.grad_eq _ _).trans ?_)), (h c).2⟩
  exact congr (congrArg PoolDdRefIdeal.Spec.grad e0) e1

end Cert.Proof

end
-- ==== Proof.PoolDw.lean ====
module

public import proofs.«01_k».proof.Defs
public import proofs.«01_k».proof.Proof.Gen.PoolDwIdeal.Value
public import proofs.«01_k».proof.Proof.Gen.PoolDwRefIdeal.Run
public import proofs.«01_k».proof.Proof.Gen.PoolDwRefIdeal.Read
public import Idealize.ShloMosaic.Lib.Pipeline.ReadBack
public import Idealize.ShloMosaic.Lib.Pointwise
public import Idealize.ShloMosaic.Lib.Pipeline.ValueKit

@[expose] public section

set_option maxRecDepth 16384

noncomputable section

namespace Cert.PoolDwRefIdeal.Spec

open Cert.PoolDwRefIdeal Cert.PoolDwRefIdeal.Gen Cert.PoolDwRefIdeal.Read Idealize.ShloMosaic

/-- What token `t` adds to entry `(a, n)` of slab `s`: the slab holds 128 rows of each of the four groups' matrices. -/
def term (d h : FVec Ideal S2048x2048 .bf16) (s : Fin 4) (a n : Fin 512) (t : Fin 2048) : EReal :=
  d (ix2 t (⟨a.val / 128 * 512 + (s.val * 128 + a.val % 128), by omega⟩ : Fin 2048)) * h (ix2 t (⟨a.val / 128 * 512 + n.val, by omega⟩ : Fin 2048))

def grad (d h : FVec Ideal S2048x2048 .bf16) : FVec Ideal S4x512x512 .bf16 := fun i =>
  ∑ t : Fin 2048, term d h (i 0 : Fin 4) (i 1 : Fin 512) (i 2 : Fin 512) t

theorem term_of (d h : FVec Ideal S2048x2048 .bf16) (s : Fin 4) (a n : Fin 512) (t p q : Fin 2048) (hp : p.val = a.val / 128 * 512 + (s.val * 128 + a.val % 128))
    (hq : q.val = a.val / 128 * 512 + n.val) : d (ix2 t p) * h (ix2 t q) = term d h s a n t :=
  congrArg₂ (fun p q => d (ix2 t p) * h (ix2 t q)) (Fin.ext hp) (Fin.ext hq)

theorem grad_eq (d h : FVec Ideal S2048x2048 .bf16) : val_main_v17 (F := Ideal) d h = grad d h := by
  funext i
  obtain ⟨s, a, n, rfl⟩ : ∃ (s : Fin 4) (a n : Fin 512), i = ix3 s a n := ⟨i 0, i 1, i 2, eq_ix3 i⟩
  unfold grad term
  pointwise [val_main_v17, val_main_v16, val_main_v15, val_main_v14, val_main_v13, val_main_v12, val_main_v11, val_main_v10, val_main_v1, val_main_v6, val_main_v0]
  exact Finset.sum_congr rfl fun t _ => mul_comm _ _

end Cert.PoolDwRefIdeal.Spec

namespace Cert.PoolDwIdeal.Tile

open Cert.PoolDwIdeal Cert.PoolDwIdeal.Gen Idealize.ShloMosaic Idealize.ShloMosaic.TcCoe Idealize.SL.Sem
open Cert.PoolDwRefIdeal.Spec (grad)

variable (m : (ℓ : Loc nD τ sig) → Buf (Elt Ideal) ℓ)

theorem index_all : ∀ t : Fin grid0.N, win0_0.index t = ![t.val % 4, t.val / 4] ∧ win0_1.index t = ![t.val % 4, t.val / 16]
    ∧ win0_2.index t = ![t.val / 4 % 4, t.val / 16, 0] := by
  decide +kernel

theorem pay1_apply (a : Fin 128) (n : Fin 512) : k0_pay1 (F := Ideal) (ix2 a n) = 0 := by
  pointwise [k0_pay1]

theorem pay2_apply (d : Vec Ideal S512x128 .bf16) (h : Vec Ideal S512x512 .bf16) (acc : Vec Ideal S128x512 .f32) (a : Fin 128) (n : Fin 512) :
    k0_pay2 d h acc (ix2 a n) = acc (ix2 a n) + ∑ t : Fin 512, d (ix2 t a) * h (ix2 t n) := by
  pointwise [k0_pay2]

theorem pay3_apply (acc : Vec Ideal S128x512 .f32) (a : Fin 128) (n : Fin 512) : k0_pay3 acc (ix3 0 a n) = acc (ix2 a n) := by
  pointwise [k0_pay3]

def slab (t : Fin cfg0.N) : Fin 4 := ⟨t.val / 4 % 4, by omega⟩
def row (t : Fin cfg0.N) (a : Fin 128) : Fin 512 := ⟨t.val / 16 * 128 + a.val, by have : t.val < 64 := t.isLt; omega⟩
def tok (t : Fin cfg0.N) (k : Fin 512) : Fin 2048 := ⟨t.val % 4 * 512 + k.val, by omega⟩

theorem blk0 (c : Dev nD) (t : Fin cfg0.N) (k : Fin 512) (a : Fin 128) : iblk m c 0 t (ix2 k a)
    = m ((c : Thread nD τ).loc main_arg0) (ix2 (tok t k) (⟨t.val / 4 * 128 + a.val, by have : t.val < 64 := t.isLt; omega⟩ : Fin 2048)) := by
  blk_ext [iblk, V, index_all t, tok]

theorem blk1 (c : Dev nD) (t : Fin cfg0.N) (k n : Fin 512) : iblk m c 1 t (ix2 k n)
    = m ((c : Thread nD τ).loc main_arg1) (ix2 (tok t k) (⟨t.val / 16 * 512 + n.val, by have : t.val < 64 := t.isLt; omega⟩ : Fin 2048)) := by
  blk_ext [iblk, V, index_all t, tok]

/-- What grid point `t` adds to its tile. -/
def term (c : Dev nD) (t : Fin cfg0.N) (j : S128x512.Idx) : EReal :=
  ∑ k : Fin 512, Cert.PoolDwRefIdeal.Spec.term (m ((c : Thread nD τ).loc main_arg0)) (m ((c : Thread nD τ).loc main_arg1)) (slab t) (row t (j 0 : Fin 128)) (j 1 : Fin 512) (tok t k)

theorem step (c : Dev nD) (t : Fin cfg0.N) (acc : Vec Ideal S128x512 .f32) (j : S128x512.Idx) :
    k0_pay2 (iblk m c 0 t) (iblk m c 1 t) acc j = acc j + term m c t j := by
  obtain ⟨a, n, rfl⟩ : ∃ (a : Fin 128) (n : Fin 512), j = ix2 a n := ⟨j 0, j 1, eq_ix2 j⟩
  refine (pay2_apply _ _ _ a n).trans (congrArg _ (Finset.sum_congr rfl fun k _ => ?_))
  rw [blk0, blk1]
  have ht : t.val < 64 := t.isLt
  refine Cert.PoolDwRefIdeal.Spec.term_of _ _ _ _ _ _ _ _ ?_ ?_
  · show t.val / 4 * 128 + a.val = (t.val / 16 * 128 + a.val) / 128 * 512 + (t.val / 4 % 4 * 128 + (t.val / 16 * 128 + a.val) % 128)
    omega
  · show t.val / 16 * 512 + n.val = (t.val / 16 * 128 + a.val) / 128 * 512 + n.val
    omega

theorem first (c : Dev nD) (t : Fin cfg0.N) (h : t.val % 4 = 0) (j : S128x512.Idx) : (outsAt0 m c t.val t.isLt).2 j = 0 + term m c t j := by
  rw [outsAt0_A m c t h (by omega)]
  frame_out
  refine (step m c t _ j).trans ?_
  rw [eq_ix2 j]
  exact congrArg (· + _) (pay1_apply _ _)

theorem next (c : Dev nD) (t : Fin cfg0.N) (h : ¬t.val % 4 = 0) (j : S128x512.Idx) :
    (outsAt0 m c t.val t.isLt).2 j = (outsAt0 m c (t.val - 1) (Nat.lt_of_le_of_lt (Nat.sub_le _ _) t.isLt)).2 j + term m c t j := by
  by_cases h1 : t.val % 4 = 3
  · rw [outsAt0_C m c t h h1]
    frame_out
    exact (step m c t _ j).trans (congrArg (· + _) (congrFun (read_unread_whole cc0_scratch0 _ _) j))
  · rw [outsAt0_B m c t h h1]
    frame_out
    exact (step m c t _ j).trans (congrArg (· + _) (congrFun (read_unread_whole cc0_scratch0 _ _) j))

theorem out_last (c : Dev nD) (t : Fin cfg0.N) (h : t.val % 4 = 3) : (outsAt0 m c t.val t.isLt).1 = k0_pay3 (outsAt0 m c t.val t.isLt).2 := by
  rw [outsAt0_C m c t (by omega) h]
  frame_out

theorem emb_eq (t : Fin cfg0.N) (a : Fin 128) (n : Fin 512) : (win0_2.blk t).view.emb (ix3 0 a n) = ix3 (slab t) (row t a) n := by
  funext x
  apply Fin.ext
  fin_cases x
  · blk_simp [index_all t]
    rfl
  · blk_simp [index_all t]
    rfl
  · blk_simp [index_all t]
    rfl

theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  obtain ⟨a, n, rfl⟩ : ∃ (a : Fin 128) (n : Fin 512), y = ix3 (0 : Fin 1) a n :=
    ⟨y 1, y 2, (eq_ix3 y).trans (congrArg (fun q : Fin 1 => ix3 q (y 1 : Fin 128) (y 2 : Fin 512)) (Subsingleton.elim (α := Fin 1) (y 0) 0))⟩
  refine Eq.trans ?_ (congrArg (grad _ _) (emb_eq t a n)).symm
  have hl : t.val % 4 = 4 - 1 := (by decide +kernel : ∀ t : Fin grid0.N, win0_2.flush t = true → t.val % 4 = 4 - 1) t hf
  rw [after0_2, out_last m c t hl]
  refine (pay3_apply _ a n).trans ?_
  rw [Pipeline.eq_sum_fin_of_reset_step_apply_of_flush (fun n h => (outsAt0 m c n h).2) 4 (fun _ => 0) (term m c)
    (first m c) (next m c) t hl (ix2 a n), zero_add]
  refine Eq.trans (Finset.sum_congr rfl fun s _ => ?_) (Fin.sum_mul_add_fin 4 512
    (Cert.PoolDwRefIdeal.Spec.term (m ((c : Thread nD τ).loc main_arg0)) (m ((c : Thread nD τ).loc main_arg1)) (slab t) (row t a) n) rfl)
  have ht : t.val < 64 := t.isLt
  refine Finset.sum_congr rfl fun k _ => ?_
  refine congr (congr (congr (congrArg (Cert.PoolDwRefIdeal.Spec.term _ _) (Fin.ext ?_)) (Fin.ext ?_)) rfl) (Fin.ext ?_)
  · show (4 * (t.val / 4) + s.val) / 4 % 4 = t.val / 4 % 4
    omega
  · show (4 * (t.val / 4) + s.val) / 16 * 128 + a.val = t.val / 16 * 128 + a.val
    omega
  · show (4 * (t.val / 4) + s.val) % 4 * 512 + k.val = s.val * 512 + k.val
    omega

end Cert.PoolDwIdeal.Tile

namespace Cert.Proof

open Idealize.ShloMosaic Idealize.ShloMosaic.TcCoe Idealize.SL.Sem

theorem pool_dw_algebraic : Cert.algebraic_PoolDwIdeal_PoolDwRefIdeal := by
  intro m g m' g' _ hm
  refine ⟨_, (θ_run _ _ _).mono (fun r h c => ⟨(h c).1.trans (PoolDwIdeal.Tile.final m c), (h c).2⟩) (PoolDwIdeal.Value.run_blocks m g), ?_⟩
  refine (θ_run _ _ _).mono (fun r h c => ?_) (PoolDwRefIdeal.Value.run m' g')
  obtain ⟨e0, e1⟩ := hm c
  refine ⟨(h c).1.trans ((PoolDwRefIdeal.Read.val_main_v17_eq _ _).trans ((PoolDwRefIdeal.Spec.grad_eq _ _).trans ?_)), (h c).2⟩
  exact congr (congrArg PoolDwRefIdeal.Spec.grad e0) e1

end Cert.Proof

end
-- ==== Proof.PoolMm.lean ====
module

public import proofs.«01_k».proof.Defs
public import proofs.«01_k».proof.Proof.Gen.PoolMmIdeal.Value
public import proofs.«01_k».proof.Proof.Gen.PoolMmRefIdeal.Run
public import proofs.«01_k».proof.Proof.Gen.PoolMmRefIdeal.Read
public import proofs.«01_k».proof.Proof.PoolDd
public import Idealize.ShloMosaic.Lib.Pipeline.ReadBack
public import Idealize.ShloMosaic.Lib.Pointwise
public import Idealize.ShloMosaic.Lib.Pipeline.ValueKit

@[expose] public section

set_option maxRecDepth 16384

noncomputable section

namespace Cert.PoolMmRefIdeal.Spec

open Cert.PoolMmRefIdeal Cert.PoolMmRefIdeal.Gen Cert.PoolMmRefIdeal.Read Idealize.ShloMosaic
open Cert.PoolDdRefIdeal.Spec (weight inGroup)

/-- Row `c` of the matrix of column `l`'s group, at that column, times entry `c` of row `t`'s group. -/
def term (d : FVec Ideal S2048x2048 .bf16) (w : FVec Ideal S4x512x512 .bf16) (t l : Fin 2048) (c : Fin 512) : EReal :=
  d (ix2 t (inGroup l c)) * weight w (inGroup l c) (⟨l.val % 512, by omega⟩ : Fin 512)

/-- The grouped product with its bias. -/
def pre (d : FVec Ideal S2048x2048 .bf16) (w : FVec Ideal S4x512x512 .bf16) (b : FVec Ideal S1x2048 .f32) : FVec Ideal S2048x2048 .f32 := fun i =>
  (∑ c : Fin 512, term d w (i 0 : Fin 2048) (i 1 : Fin 2048) c) + b (ix2 0 (i 1 : Fin 2048))

/-- The scaled product, added to the stream. -/
def out (d : FVec Ideal S2048x2048 .bf16) (w : FVec Ideal S4x512x512 .bf16) (b s : FVec Ideal S1x2048 .f32) (x : FVec Ideal S2048x2048 .f32) : FVec Ideal S2048x2048 .f32 := fun i =>
  x (ix2 (i 0 : Fin 2048) (i 1 : Fin 2048)) + pre d w b (ix2 (i 0 : Fin 2048) (i 1 : Fin 2048)) * s (ix2 0 (i 1 : Fin 2048))

theorem pre_apply (d : FVec Ideal S2048x2048 .bf16) (w : FVec Ideal S4x512x512 .bf16) (b : FVec Ideal S1x2048 .f32) (t l : Fin 2048) :
    val_main_v10 (F := Ideal) d w b (ix2 t l) = pre d w b (ix2 t l) := by
  unfold pre term weight inGroup
  pointwise [val_main_v10, val_main_v9, val_main_v8, val_main_v7, val_main_v6, val_main_v5, val_main_v0, val_main_v4, val_main_v3, val_main_v2, val_main_v1]
  refine congrArg (· + _) (Finset.sum_congr rfl fun c _ => (mul_comm _ _).trans (congrArg (_ * ·)
    (congrArg₂ (fun p q => w (ix3 p q (⟨l.val % 512, by omega⟩ : Fin 512))) (Fin.ext ?_) (Fin.ext ?_))))
  · show c.val / 128 = (l.val / 512 * 512 + c.val) / 128 % 4
    omega
  · show l.val / 512 * 128 + c.val % 128 = (l.val / 512 * 512 + c.val) / 512 * 128 + (l.val / 512 * 512 + c.val) % 128
    omega

theorem pre_eq (d : FVec Ideal S2048x2048 .bf16) (w : FVec Ideal S4x512x512 .bf16) (b : FVec Ideal S1x2048 .f32) :
    val_main_v10 (F := Ideal) d w b = pre d w b := by
  funext i
  obtain ⟨t, l, rfl⟩ : ∃ t l : Fin 2048, i = ix2 t l := ⟨i 0, i 1, eq_ix2 i⟩
  exact pre_apply d w b t l

theorem out_eq (d : FVec Ideal S2048x2048 .bf16) (w : FVec Ideal S4x512x512 .bf16) (b s : FVec Ideal S1x2048 .f32) (x : FVec Ideal S2048x2048 .f32) :
    val_main_v13 (F := Ideal) d w b s x = out d w b s x := by
  funext i
  obtain ⟨t, l, rfl⟩ : ∃ t l : Fin 2048, i = ix2 t l := ⟨i 0, i 1, eq_ix2 i⟩
  unfold val_main_v13 val_main_v12
  rw [pre_eq]
  unfold out
  generalize pre d w b = p
  pointwise [val_main_v11]

end Cert.PoolMmRefIdeal.Spec

namespace Cert.PoolMmIdeal.Tile

open Cert.PoolMmIdeal Cert.PoolMmIdeal.Gen Idealize.ShloMosaic Idealize.ShloMosaic.TcCoe Idealize.SL.Sem
open Cert.PoolDdRefIdeal.Spec (weight weight_at inGroup)
open Cert.PoolMmRefIdeal.Spec (pre out)

variable (m : (ℓ : Loc nD τ sig) → Buf (Elt Ideal) ℓ)

theorem index_all : ∀ t : Fin grid0.N, win0_0.index t = ![t.val / 16, t.val % 16] ∧ win0_1.index t = ![t.val % 4, t.val / 4 % 4, 0]
    ∧ win0_2.index t = ![0, t.val / 4 % 4] ∧ win0_3.index t = ![0, t.val / 4 % 4] ∧ win0_4.index t = ![t.val / 16, t.val / 4 % 4]
    ∧ win0_5.index t = ![t.val / 16, t.val / 4 % 4] ∧ win0_6.index t = ![t.val / 16, t.val / 4 % 4] := by
  decide +kernel

theorem pay1_apply (r n : Fin 512) : k0_pay1 (F := Ideal) (ix2 r n) = 0 := by
  pointwise [k0_pay1]

theorem pay2_apply (d : Vec Ideal S512x128 .bf16) (w : Vec Ideal S1x128x512 .bf16) (acc : Vec Ideal S512x512 .f32) (r n : Fin 512) :
    k0_pay2 d w acc (ix2 r n) = acc (ix2 r n) + ∑ q : Fin 128, d (ix2 r q) * w (ix3 0 q n) := by
  pointwise [k0_pay2]

theorem pay3_apply (acc : Vec Ideal S512x512 .f32) (b : Vec Ideal S1x512 .f32) (r n : Fin 512) : k0_pay3 acc b (ix2 r n) = acc (ix2 r n) + b (ix2 0 n) := by
  pointwise [k0_pay3]

theorem pay4_apply (acc x : Vec Ideal S512x512 .f32) (b s : Vec Ideal S1x512 .f32) (r n : Fin 512) :
    k0_pay4 acc b s x (ix2 r n) = x (ix2 r n) + (acc (ix2 r n) + b (ix2 0 n)) * s (ix2 0 n) := by
  pointwise [k0_pay4, k0_pay3]

def row (t : Fin cfg0.N) (r : Fin 512) : Fin 2048 := ⟨t.val / 16 * 512 + r.val, by have : t.val < 64 := t.isLt; omega⟩
def col (t : Fin cfg0.N) (n : Fin 512) : Fin 2048 := ⟨t.val / 4 % 4 * 512 + n.val, by omega⟩
/-- The column that step `t` of a run reads for its row `q`. -/
def mid (t : Fin cfg0.N) (q : Fin 128) : Fin 512 := ⟨t.val % 4 * 128 + q.val, by omega⟩

theorem blk0 (c : Dev nD) (t : Fin cfg0.N) (r n : Fin 512) (q : Fin 128) :
    iblk m c 0 t (ix2 r q) = m ((c : Thread nD τ).loc main_arg0) (ix2 (row t r) (inGroup (col t n) (mid t q))) := by
  have e : inGroup (col t n) (mid t q) = ⟨t.val % 16 * 128 + q.val, by omega⟩ := Fin.ext (by dsimp only [inGroup, col, mid]; omega)
  rw [e]
  blk_ext [iblk, V, index_all t, row]

theorem blk1 (c : Dev nD) (t : Fin cfg0.N) (q : Fin 128) (n n' : Fin 512) :
    iblk m c 1 t (ix3 0 q n) = weight (m ((c : Thread nD τ).loc main_arg1)) (inGroup (col t n') (mid t q)) n := by
  have e : inGroup (col t n') (mid t q) = ⟨t.val % 16 * 128 + q.val, by omega⟩ := Fin.ext (by dsimp only [inGroup, col, mid]; omega)
  rw [e]
  refine Eq.trans ?_ (weight_at (m ((c : Thread nD τ).loc main_arg1)) ⟨t.val % 16, by omega⟩ q n (by dsimp only; omega)).symm
  have e0 : t.val % 4 = t.val % 16 % 4 := by omega
  have e1 : t.val / 4 % 4 = t.val % 16 / 4 := by omega
  blk_ext [iblk, V, index_all t, e0, e1]

theorem blk2 (c : Dev nD) (t : Fin cfg0.N) (n : Fin 512) : iblk m c 2 t (ix2 0 n) = m ((c : Thread nD τ).loc main_arg2) (ix2 0 (col t n)) := by
  blk_ext [iblk, V, index_all t, col]

theorem blk3 (c : Dev nD) (t : Fin cfg0.N) (n : Fin 512) : iblk m c 3 t (ix2 0 n) = m ((c : Thread nD τ).loc main_arg3) (ix2 0 (col t n)) := by
  blk_ext [iblk, V, index_all t, col]

theorem blk4 (c : Dev nD) (t : Fin cfg0.N) (r n : Fin 512) : iblk m c 4 t (ix2 r n) = m ((c : Thread nD τ).loc main_arg4) (ix2 (row t r) (col t n)) := by
  blk_ext [iblk, V, index_all t, row, col]

/-- What grid point `t` adds to its tile. -/
def term (c : Dev nD) (t : Fin cfg0.N) (j : S512x512.Idx) : EReal :=
  ∑ q : Fin 128, Cert.PoolMmRefIdeal.Spec.term (m ((c : Thread nD τ).loc main_arg0)) (m ((c : Thread nD τ).loc main_arg1)) (row t (j 0 : Fin 512)) (col t (j 1 : Fin 512)) (mid t q)

theorem step (c : Dev nD) (t : Fin cfg0.N) (acc : Vec Ideal S512x512 .f32) (j : S512x512.Idx) :
    k0_pay2 (iblk m c 0 t) (iblk m c 1 t) acc j = acc j + term m c t j := by
  obtain ⟨r, n, rfl⟩ : ∃ r n : Fin 512, j = ix2 r n := ⟨j 0, j 1, eq_ix2 j⟩
  refine (pay2_apply _ _ _ r n).trans (congrArg _ (Finset.sum_congr rfl fun q _ => ?_))
  refine congrArg₂ (· * ·) (blk0 m c t r n q) ((blk1 m c t q n n).trans ?_)
  exact congrArg (weight _ _) (Fin.ext (show n.val = (t.val / 4 % 4 * 512 + n.val) % 512 by omega))

theorem first (c : Dev nD) (t : Fin cfg0.N) (h : t.val % 4 = 0) (j : S512x512.Idx) : (outsAt0 m c t.val t.isLt).2.2 j = 0 + term m c t j := by
  rw [outsAt0_A m c t h (by omega)]
  frame_out
  refine (step m c t _ j).trans ?_
  rw [eq_ix2 j]
  exact congrArg (· + _) (pay1_apply _ _)

theorem next (c : Dev nD) (t : Fin cfg0.N) (h : ¬t.val % 4 = 0) (j : S512x512.Idx) :
    (outsAt0 m c t.val t.isLt).2.2 j = (outsAt0 m c (t.val - 1) (Nat.lt_of_le_of_lt (Nat.sub_le _ _) t.isLt)).2.2 j + term m c t j := by
  by_cases h1 : t.val % 4 = 3
  · rw [outsAt0_C m c t h h1]
    frame_out
    exact (step m c t _ j).trans (congrArg (· + _) (congrFun (read_unread_whole cc0_scratch0 _ _) j))
  · rw [outsAt0_B m c t h h1]
    frame_out
    exact (step m c t _ j).trans (congrArg (· + _) (congrFun (read_unread_whole cc0_scratch0 _ _) j))

theorem out_last (c : Dev nD) (t : Fin cfg0.N) (h : t.val % 4 = 3) :
    (outsAt0 m c t.val t.isLt).1 = k0_pay4 (outsAt0 m c t.val t.isLt).2.2 (iblk m c 2 t) (iblk m c 3 t) (iblk m c 4 t)
      ∧ (outsAt0 m c t.val t.isLt).2.1 = k0_pay3 (outsAt0 m c t.val t.isLt).2.2 (iblk m c 2 t) := by
  rw [outsAt0_C m c t (by omega) h]
  constructor
  · frame_out
  · frame_out

/-- At a run's last point the accumulator holds the whole product. -/
theorem acc_last (c : Dev nD) (t : Fin cfg0.N) (hl : t.val % 4 = 3) (r n : Fin 512) : (outsAt0 m c t.val t.isLt).2.2 (ix2 r n)
    = ∑ s : Fin 512, Cert.PoolMmRefIdeal.Spec.term (m ((c : Thread nD τ).loc main_arg0)) (m ((c : Thread nD τ).loc main_arg1)) (row t r) (col t n) s := by
  rw [Pipeline.eq_sum_fin_of_reset_step_apply_of_flush (fun n h => (outsAt0 m c n h).2.2) 4 (fun _ => 0) (term m c)
    (first m c) (next m c) t hl (ix2 r n), zero_add]
  refine Eq.trans (Finset.sum_congr rfl fun s _ => ?_) (Fin.sum_mul_add_fin 4 128
    (Cert.PoolMmRefIdeal.Spec.term (m ((c : Thread nD τ).loc main_arg0)) (m ((c : Thread nD τ).loc main_arg1)) (row t r) (col t n)) rfl)
  have ht : t.val < 64 := t.isLt
  refine Finset.sum_congr rfl fun k _ => ?_
  refine congr (congr (congrArg (Cert.PoolMmRefIdeal.Spec.term _ _) (Fin.ext ?_)) (Fin.ext ?_)) (Fin.ext ?_)
  · show (4 * (t.val / 4) + s.val) / 16 * 512 + r.val = t.val / 16 * 512 + r.val
    omega
  · show (4 * (t.val / 4) + s.val) / 4 % 4 * 512 + n.val = t.val / 4 % 4 * 512 + n.val
    omega
  · show (4 * (t.val / 4) + s.val) % 4 * 128 + k.val = s.val * 128 + k.val
    omega

/-- The two results' blocks lie alike. -/
theorem emb_eq (t : Fin cfg0.N) (r n : Fin 512) : (win0_5.blk t).view.emb (ix2 r n) = ix2 (row t r) (col t n)
    ∧ (win0_6.blk t).view.emb (ix2 r n) = ix2 (row t r) (col t n) := by
  refine ⟨?_, ?_⟩ <;>
  · funext a
    apply Fin.ext
    fin_cases a
    · blk_simp [index_all t]
      rfl
    · blk_simp [index_all t]
      rfl

theorem final5 (c : Dev nD) : (dats m 0 c).arrAt 5 cfg0.N = out (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, n, rfl⟩ : ∃ r n : Fin 512, y = ix2 r n := ⟨y 0, y 1, eq_ix2 y⟩
  refine Eq.trans ?_ (congrArg (out _ _ _ _ _) (emb_eq t r n).1).symm
  have hl : t.val % 4 = 3 := (by decide +kernel : ∀ t : Fin grid0.N, win0_5.flush t = true → t.val % 4 = 3) t hf
  rw [after0_5, (out_last m c t hl).1]
  refine (pay4_apply _ _ _ _ r n).trans ?_
  rw [acc_last m c t hl, blk2, blk3, blk4]
  rfl

theorem final6 (c : Dev nD) : (dats m 0 c).arrAt 6 cfg0.N = pre (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨r, n, rfl⟩ : ∃ r n : Fin 512, y = ix2 r n := ⟨y 0, y 1, eq_ix2 y⟩
  refine Eq.trans ?_ (congrArg (pre _ _ _) (emb_eq t r n).2).symm
  have hl : t.val % 4 = 3 := (by decide +kernel : ∀ t : Fin grid0.N, win0_6.flush t = true → t.val % 4 = 3) t hf
  rw [after0_6, (out_last m c t hl).2]
  refine (pay3_apply _ _ r n).trans ?_
  rw [acc_last m c t hl, blk2]
  rfl

end Cert.PoolMmIdeal.Tile

namespace Cert.Proof

open Idealize.ShloMosaic Idealize.ShloMosaic.TcCoe Idealize.SL.Sem

theorem pool_mm_algebraic : Cert.algebraic_PoolMmIdeal_PoolMmRefIdeal := by
  intro m g m' g' _ hm
  refine ⟨_, _, (θ_run _ _ _).mono (fun r h c => ⟨(h c).1.trans (PoolMmIdeal.Tile.final5 m c), (h c).2.1.trans (PoolMmIdeal.Tile.final6 m c), (h c).2.2⟩)
    (PoolMmIdeal.Value.run_blocks m g), ?_⟩
  refine (θ_run _ _ _).mono (fun r h c => ?_) (PoolMmRefIdeal.Value.run m' g')
  obtain ⟨e0, e1, e2, e3, e4⟩ := hm c
  refine ⟨(h c).1.trans ((PoolMmRefIdeal.Read.val_main_v13_eq _ _ _ _ _).trans ((PoolMmRefIdeal.Spec.out_eq _ _ _ _ _).trans ?_)),
    (h c).2.1.trans ((PoolMmRefIdeal.Read.val_main_v10_eq _ _ _).trans ((PoolMmRefIdeal.Spec.pre_eq _ _ _).trans ?_)), (h c).2.2⟩
  · exact congr (congr (congr (congr (congrArg PoolMmRefIdeal.Spec.out e0) e1) e2) e3) e4
  · exact congr (congr (congrArg PoolMmRefIdeal.Spec.pre e0) e1) e2

end Cert.Proof

end
-- ==== Proof.AdamRows.lean ====
module

public import proofs.«01_k».proof.Defs
public import proofs.«01_k».proof.Proof.Gen.AdamPoolRefIdeal.Run
public import proofs.«01_k».proof.Proof.Gen.AdamPoolRefIdeal.Read
public import Idealize.ShloMosaic.Lib.Pointwise
public import Idealize.ShloMosaic.Lib.Pipeline.ValueKit

@[expose] public section

set_option maxRecDepth 16384

noncomputable section

namespace Cert.AdamRows

open Idealize.ShloMosaic

/-- One entry of the optimiser's first moment, second moment and step. -/
def first (g p : EReal) : EReal := Cert.AdamPoolRefIdeal.Read.val_main_v4 (F := Ideal) (fun _ => g) (fun _ => p) (ix2 0 0)
def second (g q : EReal) : EReal := Cert.AdamPoolRefIdeal.Read.val_main_v10 (F := Ideal) (fun _ => g) (fun _ => q) (ix2 0 0)
def step (w g p q : EReal) : EReal := Cert.AdamPoolRefIdeal.Read.val_main_v23 (F := Ideal) (fun _ => w) (fun _ => g) (fun _ => p) (fun _ => q) (ix2 0 0)

end Cert.AdamRows

end
-- ==== Proof.AdamEarly.lean ====
module

public import proofs.«01_k».proof.Defs
public import proofs.«01_k».proof.Proof.Gen.AdamEarlyIdeal.Frame
public import proofs.«01_k».proof.Proof.Gen.AdamEarlyRefIdeal.Run
public import proofs.«01_k».proof.Proof.Gen.AdamEarlyRefIdeal.Read
public import proofs.«01_k».proof.Proof.AdamRows
public import Idealize.ShloMosaic.Lib.Claim
public import Idealize.ShloMosaic.Lib.Pointwise
public import Idealize.ShloMosaic.Lib.Pipeline.ValueKit

@[expose] public section

set_option maxRecDepth 16384

noncomputable section

namespace Cert.AdamEarlyIdeal.Tile

open Cert.AdamEarlyIdeal Cert.AdamEarlyIdeal.Gen Idealize.ShloMosaic Idealize.ShloMosaic.TcCoe Idealize.SL.Sem
open Cert.AdamRows (first second step)

variable (m : (ℓ : Loc nD τ sig) → Buf (Elt Ideal) ℓ)

theorem index_all : ∀ t : Fin grid0.N, win0_0.index t = ![t.val + 2, 0] ∧ win0_1.index t = ![t.val + 2, 0] ∧ win0_2.index t = ![t.val + 2, 0]
    ∧ win0_3.index t = ![t.val + 2, 0] ∧ win0_4.index t = ![t.val + 2, 0] ∧ win0_5.index t = ![t.val + 2, 0] ∧ win0_6.index t = ![t.val + 2, 0]
    ∧ win0_7.index t = ![t.val + 2, 0] := by
  decide +kernel

def row (t : Fin cfg0.N) (r : Fin 256) : Fin 2048 := ⟨(t.val + 2) * 256 + r.val, by have : t.val < 6 := t.isLt; omega⟩

theorem blk0 (c : Dev nD) (t : Fin cfg0.N) (r : Fin 256) (l : Fin 2048) : iblk m c 0 t (ix2 r l) = m ((c : Thread nD τ).loc main_arg0) (ix2 (row t r) l) := by
  blk_ext [iblk, V, index_all t, row]

theorem blk1 (c : Dev nD) (t : Fin cfg0.N) (r : Fin 256) (l : Fin 2048) : iblk m c 1 t (ix2 r l) = m ((c : Thread nD τ).loc main_arg1) (ix2 (row t r) l) := by
  blk_ext [iblk, V, index_all t, row]

theorem blk2 (c : Dev nD) (t : Fin cfg0.N) (r : Fin 256) (l : Fin 2048) : iblk m c 2 t (ix2 r l) = m ((c : Thread nD τ).loc main_arg2) (ix2 (row t r) l) := by
  blk_ext [iblk, V, index_all t, row]

theorem blk3 (c : Dev nD) (t : Fin cfg0.N) (r : Fin 256) (l : Fin 2048) : iblk m c 3 t (ix2 r l) = m ((c : Thread nD τ).loc main_arg3) (ix2 (row t r) l) := by
  blk_ext [iblk, V, index_all t, row]

/-- The four results' blocks lie alike. -/
theorem emb_eq (t : Fin cfg0.N) (r : Fin 256) (l : Fin 2048) : (win0_4.blk t).view.emb (ix2 r l) = ix2 (row t r) l
    ∧ (win0_5.blk t).view.emb (ix2 r l) = ix2 (row t r) l ∧ (win0_6.blk t).view.emb (ix2 r l) = ix2 (row t r) l
    ∧ (win0_7.blk t).view.emb (ix2 r l) = ix2 (row t r) l := by
  refine ⟨?_, ?_, ?_, ?_⟩ <;>
  · funext a
    apply Fin.ext
    fin_cases a
    · blk_simp [index_all t]
      rfl
    · blk_simp [index_all t]
      rfl

theorem pay1_apply (g p : Vec Ideal S256x2048 .f32) (j : S256x2048.Idx) : k0_pay1 g p j = first (g j) (p j) := rfl
theorem pay2_apply (g q : Vec Ideal S256x2048 .f32) (j : S256x2048.Idx) : k0_pay2 g q j = second (g j) (q j) := rfl
theorem pay3_apply (w g p q : Vec Ideal S256x2048 .f32) (j : S256x2048.Idx) : k0_pay3 w g p q j = step (w j) (g j) (p j) (q j) := rfl

theorem final4 (c : Dev nD) (t : Fin cfg0.N) (r : Fin 256) (l : Fin 2048) : (dats m 0 c).arrAt 4 cfg0.N (ix2 (row t r) l)
    = m ((c : Thread nD τ).loc main_arg1) (ix2 (row t r) l) := by
  have h := (dats m 0 c).arrAt_emb_eq_flushed 4 (win0_4.hdisj_of_index_inj (by decide +kernel)) t
    ((by decide +kernel : ∀ t : Fin grid0.N, win0_4.flush t = true) t) (ix2 r l)
  refine ((congrArg ((dats m 0 c).arrAt 4 cfg0.N) (emb_eq t r l).1).symm.trans h).trans ?_
  blk_simp
  rw [after0_4]
  unfold outsAt0
  frame_out
  exact blk1 m c t r l

theorem final5 (c : Dev nD) (t : Fin cfg0.N) (r : Fin 256) (l : Fin 2048) : (dats m 0 c).arrAt 5 cfg0.N (ix2 (row t r) l)
    = step (m ((c : Thread nD τ).loc main_arg0) (ix2 (row t r) l)) (m ((c : Thread nD τ).loc main_arg1) (ix2 (row t r) l))
        (m ((c : Thread nD τ).loc main_arg2) (ix2 (row t r) l)) (m ((c : Thread nD τ).loc main_arg3) (ix2 (row t r) l)) := by
  have h := (dats m 0 c).arrAt_emb_eq_flushed 5 (win0_5.hdisj_of_index_inj (by decide +kernel)) t
    ((by decide +kernel : ∀ t : Fin grid0.N, win0_5.flush t = true) t) (ix2 r l)
  refine ((congrArg ((dats m 0 c).arrAt 5 cfg0.N) (emb_eq t r l).2.1).symm.trans h).trans ?_
  blk_simp
  rw [after0_5]
  unfold outsAt0
  frame_out
  refine (pay3_apply _ _ _ _ _).trans ?_
  exact congr (congr (congr (congrArg step (blk0 m c t r l)) (blk1 m c t r l)) (blk2 m c t r l)) (blk3 m c t r l)

theorem final6 (c : Dev nD) (t : Fin cfg0.N) (r : Fin 256) (l : Fin 2048) : (dats m 0 c).arrAt 6 cfg0.N (ix2 (row t r) l)
    = first (m ((c : Thread nD τ).loc main_arg1) (ix2 (row t r) l)) (m ((c : Thread nD τ).loc main_arg2) (ix2 (row t r) l)) := by
  have h := (dats m 0 c).arrAt_emb_eq_flushed 6 (win0_6.hdisj_of_index_inj (by decide +kernel)) t
    ((by decide +kernel : ∀ t : Fin grid0.N, win0_6.flush t = true) t) (ix2 r l)
  refine ((congrArg ((dats m 0 c).arrAt 6 cfg0.N) (emb_eq t r l).2.2.1).symm.trans h).trans ?_
  blk_simp
  rw [after0_6]
  unfold outsAt0
  frame_out
  exact (pay1_apply _ _ _).trans (congrArg₂ first (blk1 m c t r l) (blk2 m c t r l))

theorem final7 (c : Dev nD) (t : Fin cfg0.N) (r : Fin 256) (l : Fin 2048) : (dats m 0 c).arrAt 7 cfg0.N (ix2 (row t r) l)
    = second (m ((c : Thread nD τ).loc main_arg1) (ix2 (row t r) l)) (m ((c : Thread nD τ).loc main_arg3) (ix2 (row t r) l)) := by
  have h := (dats m 0 c).arrAt_emb_eq_flushed 7 (win0_7.hdisj_of_index_inj (by decide +kernel)) t
    ((by decide +kernel : ∀ t : Fin grid0.N, win0_7.flush t = true) t) (ix2 r l)
  refine ((congrArg ((dats m 0 c).arrAt 7 cfg0.N) (emb_eq t r l).2.2.2).symm.trans h).trans ?_
  blk_simp
  rw [after0_7]
  unfold outsAt0
  frame_out
  exact (pay2_apply _ _ _).trans (congrArg₂ second (blk1 m c t r l) (blk3 m c t r l))

/-- Row `r` of the rows past the first layer, as a row of a block. -/
theorem row_of (r : Fin 1536) : ∃ (t : Fin cfg0.N) (q : Fin 256), (⟨512 + r.val, by omega⟩ : Fin 2048) = row t q :=
  ⟨⟨r.val / 256, by show r.val / 256 < 6; omega⟩, ⟨r.val % 256, by omega⟩, Fin.ext (by show 512 + r.val = (r.val / 256 + 2) * 256 + r.val % 256; omega)⟩

/-- A slice past the first layer's rows is any array that agrees with the whole one there. -/
theorem slice_eq (a : FVec Ideal S2048x2048 .f32) (b : FVec Ideal S1536x2048 .f32)
    (h : ∀ (t : Fin cfg0.N) (q : Fin 256) (r : Fin 1536) (l : Fin 2048), (⟨512 + r.val, by omega⟩ : Fin 2048) = row t q → a (ix2 (row t q) l) = b (ix2 r l)) :
    extractStridedSlice S1536x2048 ![512, 0] a slices_S2048x2048_S1536x2048_512_0 = b := by
  funext i
  obtain ⟨r, l, rfl⟩ : ∃ (r : Fin 1536) (l : Fin 2048), i = ix2 r l := ⟨i 0, i 1, eq_ix2 i⟩
  obtain ⟨t, q, e⟩ := row_of r
  refine (Eq.trans ?_ (congrArg (fun p => a (ix2 p l)) e)).trans (h t q r l e)
  pointwise []

end Cert.AdamEarlyIdeal.Tile

namespace Cert.AdamEarlyRefIdeal.Spec

open Cert.AdamEarlyRefIdeal Cert.AdamEarlyRefIdeal.Gen Cert.AdamEarlyRefIdeal.Read Idealize.ShloMosaic
open Cert.AdamRows (first second step)

variable (w g p q : FVec Ideal S2048x2048 .f32) (r : Fin 1536) (l : Fin 2048)

theorem v1_apply : val_main_v1 (F := Ideal) g (ix2 r l) = g (ix2 ⟨512 + r.val, by omega⟩ l) := by
  pointwise [val_main_v1]

theorem v0_apply : val_main_v0 (F := Ideal) w (ix2 r l) = w (ix2 ⟨512 + r.val, by omega⟩ l) := by
  pointwise [val_main_v0]

theorem v2_apply : val_main_v2 (F := Ideal) p (ix2 r l) = p (ix2 ⟨512 + r.val, by omega⟩ l) := by
  pointwise [val_main_v2]

theorem v3_apply : val_main_v3 (F := Ideal) q (ix2 r l) = q (ix2 ⟨512 + r.val, by omega⟩ l) := by
  pointwise [val_main_v3]

theorem v8_apply : val_main_v8 (F := Ideal) g p (ix2 r l) = first (g (ix2 ⟨512 + r.val, by omega⟩ l)) (p (ix2 ⟨512 + r.val, by omega⟩ l)) :=
  Eq.trans (b := first (val_main_v1 (F := Ideal) g (ix2 r l)) (val_main_v2 (F := Ideal) p (ix2 r l))) rfl
    (congrArg₂ first (v1_apply g r l) (v2_apply p r l))

theorem v14_apply : val_main_v14 (F := Ideal) g q (ix2 r l) = second (g (ix2 ⟨512 + r.val, by omega⟩ l)) (q (ix2 ⟨512 + r.val, by omega⟩ l)) :=
  Eq.trans (b := second (val_main_v1 (F := Ideal) g (ix2 r l)) (val_main_v3 (F := Ideal) q (ix2 r l))) rfl
    (congrArg₂ second (v1_apply g r l) (v3_apply q r l))

theorem v27_apply : val_main_v27 (F := Ideal) w g p q (ix2 r l) = step (w (ix2 ⟨512 + r.val, by omega⟩ l)) (g (ix2 ⟨512 + r.val, by omega⟩ l))
    (p (ix2 ⟨512 + r.val, by omega⟩ l)) (q (ix2 ⟨512 + r.val, by omega⟩ l)) :=
  Eq.trans (b := step (val_main_v0 (F := Ideal) w (ix2 r l)) (val_main_v1 (F := Ideal) g (ix2 r l)) (val_main_v2 (F := Ideal) p (ix2 r l))
    (val_main_v3 (F := Ideal) q (ix2 r l))) rfl
    (congr (congr (congr (congrArg step (v0_apply w r l)) (v1_apply g r l)) (v2_apply p r l)) (v3_apply q r l))

end Cert.AdamEarlyRefIdeal.Spec

namespace Cert.Proof

open Idealize.ShloMosaic Idealize.ShloMosaic.TcCoe Idealize.SL.Sem
open Cert.AdamEarlyRefIdeal.Read (val_main_v1 val_main_v27 val_main_v8 val_main_v14)
open Cert.AdamEarlyIdeal.Tile Cert.AdamEarlyRefIdeal.Spec

theorem adam_early_algebraic : Cert.algebraic_AdamEarlyIdeal_AdamEarlyRefIdeal := by
  intro m g m' g' _ hm
  refine ⟨fun c => val_main_v1 (F := Ideal) (m ((c.tc : Thread AdamEarlyIdeal.nD AdamEarlyIdeal.τ).loc AdamEarlyIdeal.main_arg1)),
    fun c => val_main_v27 (F := Ideal) (m ((c.tc : Thread AdamEarlyIdeal.nD AdamEarlyIdeal.τ).loc AdamEarlyIdeal.main_arg0)) (m ((c.tc : Thread AdamEarlyIdeal.nD AdamEarlyIdeal.τ).loc AdamEarlyIdeal.main_arg1))
      (m ((c.tc : Thread AdamEarlyIdeal.nD AdamEarlyIdeal.τ).loc AdamEarlyIdeal.main_arg2)) (m ((c.tc : Thread AdamEarlyIdeal.nD AdamEarlyIdeal.τ).loc AdamEarlyIdeal.main_arg3)),
    fun c => val_main_v8 (F := Ideal) (m ((c.tc : Thread AdamEarlyIdeal.nD AdamEarlyIdeal.τ).loc AdamEarlyIdeal.main_arg1)) (m ((c.tc : Thread AdamEarlyIdeal.nD AdamEarlyIdeal.τ).loc AdamEarlyIdeal.main_arg2)),
    fun c => val_main_v14 (F := Ideal) (m ((c.tc : Thread AdamEarlyIdeal.nD AdamEarlyIdeal.τ).loc AdamEarlyIdeal.main_arg1)) (m ((c.tc : Thread AdamEarlyIdeal.nD AdamEarlyIdeal.τ).loc AdamEarlyIdeal.main_arg3)), ?_, ?_⟩
  · run_from (AdamEarlyIdeal.Gen.run_main m g)
    on_goal 5 => exact AdamEarlyIdeal.Gen.W_main_arg4 m (AdamEarlyIdeal.Gen.dats m) c
    all_goals
      unfold Pipeline.afterTail₀
      simp only [AdamEarlyIdeal.Gen.hostOps1, List.flatten_cons, List.flatten_nil, List.append_nil]
      after_results
    · erw [Pipeline.withArrays_arr AdamEarlyIdeal.spec0 (by decide) c (AdamEarlyIdeal.Gen.V0 m c) _ 4]
      exact slice_eq _ _ fun t q r l e => (final4 m c t q l).trans (e ▸ (v1_apply _ r l).symm)
    · erw [Pipeline.withArrays_arr AdamEarlyIdeal.spec0 (by decide) c (AdamEarlyIdeal.Gen.V0 m c) _ 5]
      exact slice_eq _ _ fun t q r l e => (final5 m c t q l).trans (e ▸ (v27_apply _ _ _ _ r l).symm)
    · erw [Pipeline.withArrays_arr AdamEarlyIdeal.spec0 (by decide) c (AdamEarlyIdeal.Gen.V0 m c) _ 6]
      exact slice_eq _ _ fun t q r l e => (final6 m c t q l).trans (e ▸ (v8_apply _ _ r l).symm)
    · erw [Pipeline.withArrays_arr AdamEarlyIdeal.spec0 (by decide) c (AdamEarlyIdeal.Gen.V0 m c) _ 7]
      exact slice_eq _ _ fun t q r l e => (final7 m c t q l).trans (e ▸ (v14_apply _ _ r l).symm)
  · refine (θ_run _ _ _).mono (fun r h c => ?_) (AdamEarlyRefIdeal.Value.run m' g')
    obtain ⟨e0, e1, e2, e3, e4⟩ := hm c
    refine ⟨(h c).1.trans ((AdamEarlyRefIdeal.Read.val_main_v1_eq _).trans ?_), (h c).2.1.trans ((AdamEarlyRefIdeal.Read.val_main_v27_eq _ _ _ _).trans ?_),
      (h c).2.2.1.trans ((AdamEarlyRefIdeal.Read.val_main_v8_eq _ _).trans ?_), (h c).2.2.2.1.trans ((AdamEarlyRefIdeal.Read.val_main_v14_eq _ _).trans ?_), (h c).2.2.2.2⟩
    · exact congrArg (val_main_v1 (F := Ideal)) e1
    · exact congr (congr (congr (congrArg (val_main_v27 (F := Ideal)) e0) e1) e2) e3
    · exact congr (congrArg (val_main_v8 (F := Ideal)) e1) e2
    · exact congr (congrArg (val_main_v14 (F := Ideal)) e1) e3

end Cert.Proof

end
-- ==== Proof.AdamLate.lean ====
module

public import proofs.«01_k».proof.Defs
public import proofs.«01_k».proof.Proof.Gen.AdamLateIdeal.Value
public import proofs.«01_k».proof.Proof.Gen.AdamLateRefIdeal.Run
public import proofs.«01_k».proof.Proof.Gen.AdamLateRefIdeal.Read
public import proofs.«01_k».proof.Proof.AdamRows
public import Idealize.ShloMosaic.Lib.Claim
public import Idealize.ShloMosaic.Lib.Pointwise
public import Idealize.ShloMosaic.Lib.Pipeline.ValueKit

@[expose] public section

set_option maxRecDepth 16384

noncomputable section

namespace Cert.AdamLateIdeal.Tile

open Cert.AdamLateIdeal Cert.AdamLateIdeal.Gen Idealize.ShloMosaic Idealize.ShloMosaic.TcCoe Idealize.SL.Sem
open Cert.AdamRows (first second step)

variable (m : (ℓ : Loc nD τ sig) → Buf (Elt Ideal) ℓ)

theorem index_all : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

def row (t : Fin cfg0.N) (r : Fin 256) : Fin 2048 := ⟨t.val * 256 + r.val, by have : t.val < 2 := t.isLt; omega⟩

theorem blk0 (c : Dev nD) (t : Fin cfg0.N) (r : Fin 256) (l : Fin 2048) : iblk m c 0 t (ix2 r l) = m ((c : Thread nD τ).loc main_arg0) (ix2 (row t r) l) := by
  blk_ext [iblk, V_main_arg0, index_all t, row]

theorem blk1 (c : Dev nD) (t : Fin cfg0.N) (r : Fin 256) (l : Fin 2048) : iblk m c 1 t (ix2 r l) = m ((c : Thread nD τ).loc main_arg1) (ix2 (row t r) l) := by
  blk_ext [iblk, V_main_arg1, index_all t, row]

theorem blk2 (c : Dev nD) (t : Fin cfg0.N) (r : Fin 256) (l : Fin 2048) : iblk m c 2 t (ix2 r l) = m ((c : Thread nD τ).loc main_arg2) (ix2 (row t r) l) := by
  blk_ext [iblk, V_main_arg2, index_all t, row]

theorem blk3 (c : Dev nD) (t : Fin cfg0.N) (r : Fin 256) (l : Fin 2048) : iblk m c 3 t (ix2 r l) = m ((c : Thread nD τ).loc main_arg3) (ix2 (row t r) l) := by
  blk_ext [iblk, V_main_arg3, index_all t, row]

/-- The four results' blocks lie alike. -/
theorem emb_eq (t : Fin cfg0.N) (r : Fin 256) (l : Fin 2048) : (win0_4.blk t).view.emb (ix2 r l) = ix2 (row t r) l
    ∧ (win0_5.blk t).view.emb (ix2 r l) = ix2 (row t r) l ∧ (win0_6.blk t).view.emb (ix2 r l) = ix2 (row t r) l
    ∧ (win0_7.blk t).view.emb (ix2 r l) = ix2 (row t r) l := by
  refine ⟨?_, ?_, ?_, ?_⟩ <;>
  · funext a
    apply Fin.ext
    fin_cases a
    · blk_simp [index_all t]
      rfl
    · blk_simp [index_all t]
      rfl

theorem pay1_apply (g p : Vec Ideal S256x2048 .f32) (j : S256x2048.Idx) : k0_pay1 g p j = first (g j) (p j) := rfl
theorem pay2_apply (g q : Vec Ideal S256x2048 .f32) (j : S256x2048.Idx) : k0_pay2 g q j = second (g j) (q j) := rfl
theorem pay3_apply (w g p q : Vec Ideal S256x2048 .f32) (j : S256x2048.Idx) : k0_pay3 w g p q j = step (w j) (g j) (p j) (q j) := rfl

theorem final4 (c : Dev nD) (t : Fin cfg0.N) (r : Fin 256) (l : Fin 2048) : (dats m 0 c).arrAt 4 cfg0.N (ix2 (row t r) l)
    = m ((c : Thread nD τ).loc main_arg1) (ix2 (row t r) l) := by
  have h := (dats m 0 c).arrAt_emb_eq_flushed 4 (win0_4.hdisj_of_index_inj (by decide +kernel)) t
    ((by decide +kernel : ∀ t : Fin grid0.N, win0_4.flush t = true) t) (ix2 r l)
  refine ((congrArg ((dats m 0 c).arrAt 4 cfg0.N) (emb_eq t r l).1).symm.trans h).trans ?_
  blk_simp
  rw [after0_4]
  unfold outsAt0
  frame_out
  exact blk1 m c t r l

theorem final5 (c : Dev nD) (t : Fin cfg0.N) (r : Fin 256) (l : Fin 2048) : (dats m 0 c).arrAt 5 cfg0.N (ix2 (row t r) l)
    = step (m ((c : Thread nD τ).loc main_arg0) (ix2 (row t r) l)) (m ((c : Thread nD τ).loc main_arg1) (ix2 (row t r) l))
        (m ((c : Thread nD τ).loc main_arg2) (ix2 (row t r) l)) (m ((c : Thread nD τ).loc main_arg3) (ix2 (row t r) l)) := by
  have h := (dats m 0 c).arrAt_emb_eq_flushed 5 (win0_5.hdisj_of_index_inj (by decide +kernel)) t
    ((by decide +kernel : ∀ t : Fin grid0.N, win0_5.flush t = true) t) (ix2 r l)
  refine ((congrArg ((dats m 0 c).arrAt 5 cfg0.N) (emb_eq t r l).2.1).symm.trans h).trans ?_
  blk_simp
  rw [after0_5]
  unfold outsAt0
  frame_out
  refine (pay3_apply _ _ _ _ _).trans ?_
  exact congr (congr (congr (congrArg step (blk0 m c t r l)) (blk1 m c t r l)) (blk2 m c t r l)) (blk3 m c t r l)

theorem final6 (c : Dev nD) (t : Fin cfg0.N) (r : Fin 256) (l : Fin 2048) : (dats m 0 c).arrAt 6 cfg0.N (ix2 (row t r) l)
    = first (m ((c : Thread nD τ).loc main_arg1) (ix2 (row t r) l)) (m ((c : Thread nD τ).loc main_arg2) (ix2 (row t r) l)) := by
  have h := (dats m 0 c).arrAt_emb_eq_flushed 6 (win0_6.hdisj_of_index_inj (by decide +kernel)) t
    ((by decide +kernel : ∀ t : Fin grid0.N, win0_6.flush t = true) t) (ix2 r l)
  refine ((congrArg ((dats m 0 c).arrAt 6 cfg0.N) (emb_eq t r l).2.2.1).symm.trans h).trans ?_
  blk_simp
  rw [after0_6]
  unfold outsAt0
  frame_out
  exact (pay1_apply _ _ _).trans (congrArg₂ first (blk1 m c t r l) (blk2 m c t r l))

theorem final7 (c : Dev nD) (t : Fin cfg0.N) (r : Fin 256) (l : Fin 2048) : (dats m 0 c).arrAt 7 cfg0.N (ix2 (row t r) l)
    = second (m ((c : Thread nD τ).loc main_arg1) (ix2 (row t r) l)) (m ((c : Thread nD τ).loc main_arg3) (ix2 (row t r) l)) := by
  have h := (dats m 0 c).arrAt_emb_eq_flushed 7 (win0_7.hdisj_of_index_inj (by decide +kernel)) t
    ((by decide +kernel : ∀ t : Fin grid0.N, win0_7.flush t = true) t) (ix2 r l)
  refine ((congrArg ((dats m 0 c).arrAt 7 cfg0.N) (emb_eq t r l).2.2.2).symm.trans h).trans ?_
  blk_simp
  rw [after0_7]
  unfold outsAt0
  frame_out
  exact (pay2_apply _ _ _).trans (congrArg₂ second (blk1 m c t r l) (blk3 m c t r l))

theorem given4 (c : Dev nD) : V m c (Pipeline.arrRef spec0 4) = m ((c : Thread nD τ).loc main_arg4) := by
  show V m c main_v0_0 = _
  entry_read
  rfl

theorem given5 (c : Dev nD) : V m c (Pipeline.arrRef spec0 5) = m ((c : Thread nD τ).loc main_arg5) := by
  show V m c main_v0_1 = _
  entry_read
  rfl

theorem given6 (c : Dev nD) : V m c (Pipeline.arrRef spec0 6) = m ((c : Thread nD τ).loc main_arg6) := by
  show V m c main_v0_2 = _
  entry_read
  rfl

theorem given7 (c : Dev nD) : V m c (Pipeline.arrRef spec0 7) = m ((c : Thread nD τ).loc main_arg7) := by
  show V m c main_v0_3 = _
  entry_read
  rfl

/-- A row past the first layer's lies in no block, so it is what the call was given there. -/
theorem kept4 (c : Dev nD) (r : Fin 2048) (hr : 512 ≤ r.val) (l : Fin 2048) : (dats m 0 c).arrAt 4 cfg0.N (ix2 r l)
    = m ((c : Thread nD τ).loc main_arg4) (ix2 r l) := by
  refine (Cert.AdamLateIdeal.Value.entry4 m c (ix2 r l) fun t _ hi => ?_).trans (congrFun (given4 m c) (ix2 r l))
  have ht : t.val < 2 := t.isLt
  mem_blk [index_all t] at hi
  have hd : r.val < t.val * 256 + 256 := hi.1.2
  omega

theorem kept5 (c : Dev nD) (r : Fin 2048) (hr : 512 ≤ r.val) (l : Fin 2048) : (dats m 0 c).arrAt 5 cfg0.N (ix2 r l)
    = m ((c : Thread nD τ).loc main_arg5) (ix2 r l) := by
  refine (Cert.AdamLateIdeal.Value.entry5 m c (ix2 r l) fun t _ hi => ?_).trans (congrFun (given5 m c) (ix2 r l))
  have ht : t.val < 2 := t.isLt
  mem_blk [index_all t] at hi
  have hd : r.val < t.val * 256 + 256 := hi.1.2
  omega

theorem kept6 (c : Dev nD) (r : Fin 2048) (hr : 512 ≤ r.val) (l : Fin 2048) : (dats m 0 c).arrAt 6 cfg0.N (ix2 r l)
    = m ((c : Thread nD τ).loc main_arg6) (ix2 r l) := by
  refine (Cert.AdamLateIdeal.Value.entry6 m c (ix2 r l) fun t _ hi => ?_).trans (congrFun (given6 m c) (ix2 r l))
  have ht : t.val < 2 := t.isLt
  mem_blk [index_all t] at hi
  have hd : r.val < t.val * 256 + 256 := hi.1.2
  omega

theorem kept7 (c : Dev nD) (r : Fin 2048) (hr : 512 ≤ r.val) (l : Fin 2048) : (dats m 0 c).arrAt 7 cfg0.N (ix2 r l)
    = m ((c : Thread nD τ).loc main_arg7) (ix2 r l) := by
  refine (Cert.AdamLateIdeal.Value.entry7 m c (ix2 r l) fun t _ hi => ?_).trans (congrFun (given7 m c) (ix2 r l))
  have ht : t.val < 2 := t.isLt
  mem_blk [index_all t] at hi
  have hd : r.val < t.val * 256 + 256 := hi.1.2
  omega

/-- A row of the first layer, as a row of a block. -/
theorem row_of (r : Fin 512) : ∃ (t : Fin cfg0.N) (q : Fin 256), (⟨r.val, by omega⟩ : Fin 2048) = row t q :=
  ⟨⟨r.val / 256, by show r.val / 256 < 2; omega⟩, ⟨r.val % 256, by omega⟩, Fin.ext (by show r.val = r.val / 256 * 256 + r.val % 256; omega)⟩

end Cert.AdamLateIdeal.Tile

namespace Cert.AdamLateRefIdeal.Spec

open Cert.AdamLateRefIdeal Cert.AdamLateRefIdeal.Gen Cert.AdamLateRefIdeal.Read Idealize.ShloMosaic
open Cert.AdamRows (first second step)

variable (w g p q z : FVec Ideal S2048x2048 .f32) (r : Fin 512) (l : Fin 2048)

theorem v0_apply : val_main_v0 (F := Ideal) w (ix2 r l) = w (ix2 ⟨r.val, by omega⟩ l) := by
  pointwise [val_main_v0]

theorem v1_apply : val_main_v1 (F := Ideal) g (ix2 r l) = g (ix2 ⟨r.val, by omega⟩ l) := by
  pointwise [val_main_v1]

theorem v2_apply : val_main_v2 (F := Ideal) p (ix2 r l) = p (ix2 ⟨r.val, by omega⟩ l) := by
  pointwise [val_main_v2]

theorem v3_apply : val_main_v3 (F := Ideal) q (ix2 r l) = q (ix2 ⟨r.val, by omega⟩ l) := by
  pointwise [val_main_v3]

theorem v8_apply : val_main_v8 (F := Ideal) g p (ix2 r l) = first (g (ix2 ⟨r.val, by omega⟩ l)) (p (ix2 ⟨r.val, by omega⟩ l)) :=
  Eq.trans (b := first (val_main_v1 (F := Ideal) g (ix2 r l)) (val_main_v2 (F := Ideal) p (ix2 r l))) rfl
    (congrArg₂ first (v1_apply g r l) (v2_apply p r l))

theorem v14_apply : val_main_v14 (F := Ideal) g q (ix2 r l) = second (g (ix2 ⟨r.val, by omega⟩ l)) (q (ix2 ⟨r.val, by omega⟩ l)) :=
  Eq.trans (b := second (val_main_v1 (F := Ideal) g (ix2 r l)) (val_main_v3 (F := Ideal) q (ix2 r l))) rfl
    (congrArg₂ second (v1_apply g r l) (v3_apply q r l))

theorem v27_apply : val_main_v27 (F := Ideal) w g p q (ix2 r l) = step (w (ix2 ⟨r.val, by omega⟩ l)) (g (ix2 ⟨r.val, by omega⟩ l)) (p (ix2 ⟨r.val, by omega⟩ l)) (q (ix2 ⟨r.val, by omega⟩ l)) :=
  Eq.trans (b := step (val_main_v0 (F := Ideal) w (ix2 r l)) (val_main_v1 (F := Ideal) g (ix2 r l)) (val_main_v2 (F := Ideal) p (ix2 r l))
    (val_main_v3 (F := Ideal) q (ix2 r l))) rfl
    (congr (congr (congr (congrArg step (v0_apply w r l)) (v1_apply g r l)) (v2_apply p r l)) (v3_apply q r l))

/-- An array that has new first rows and keeps the others is the two laid end to end. -/
theorem joined (a : FVec Ideal S512x2048 .f32) (b : FVec Ideal S2048x2048 .f32)
    (h : ∀ (r : Fin 512) (l : Fin 2048), b (ix2 ⟨r.val, by omega⟩ l) = a (ix2 r l))
    (k : ∀ (r : Fin 2048), 512 ≤ r.val → ∀ l : Fin 2048, b (ix2 r l) = z (ix2 r l)) :
    b = concatenate S2048x2048 0 [⟨S512x2048, a⟩, ⟨S1536x2048, val_main_v28 (F := Ideal) z⟩] concatenates_S512x2048_S1536x2048_S2048x2048_d0 := by
  funext i
  obtain ⟨r, l, rfl⟩ : ∃ (r l : Fin 2048), i = ix2 r l := ⟨i 0, i 1, eq_ix2 i⟩
  by_cases hr : r.val < 512
  · refine (h ⟨r.val, hr⟩ l).trans ?_
    refine (concatenate_pair_apply_left (s₁ := S512x2048) (s₂ := S1536x2048) 0 a _ concatenates_S512x2048_S1536x2048_S2048x2048_d0 (ix2 r l) rfl (ix2 ⟨r.val, hr⟩ l) fun b => ?_).symm
    fin_cases b <;> rfl
  · refine (k r (by omega) l).trans ?_
    refine Eq.trans ?_ (concatenate_pair_apply_right (s₁ := S512x2048) (s₂ := S1536x2048) 0 a _ concatenates_S512x2048_S1536x2048_S2048x2048_d0 (ix2 r l) rfl rfl (ix2 ⟨r.val - 512, by omega⟩ l) (fun b hb => ?_) ?_).symm
    · refine Eq.trans (congrArg z ?_) (val_main_v28_apply (F := Ideal) z _).symm
      funext a
      apply Fin.ext
      fin_cases a
      · show r.val = 512 + (r.val - 512)
        omega
      · rfl
    · fin_cases b
      · exact absurd rfl hb
      · rfl
    · show r.val - 512 + 512 = r.val
      omega

end Cert.AdamLateRefIdeal.Spec

namespace Cert.Proof

open Idealize.ShloMosaic Idealize.ShloMosaic.TcCoe Idealize.SL.Sem
open Cert.AdamLateRefIdeal.Read (val_main_v29 val_main_v31 val_main_v33 val_main_v35)
open Cert.AdamLateIdeal.Tile Cert.AdamLateRefIdeal.Spec

theorem adam_late_algebraic : Cert.algebraic_AdamLateIdeal_AdamLateRefIdeal := by
  intro m g m' g' _ hm
  refine ⟨fun c => val_main_v29 (F := Ideal) (m ((c.tc : Thread AdamLateIdeal.nD AdamLateIdeal.τ).loc AdamLateIdeal.main_arg1)) (m ((c.tc : Thread AdamLateIdeal.nD AdamLateIdeal.τ).loc AdamLateIdeal.main_arg4)),
    fun c => val_main_v31 (F := Ideal) (m ((c.tc : Thread AdamLateIdeal.nD AdamLateIdeal.τ).loc AdamLateIdeal.main_arg0)) (m ((c.tc : Thread AdamLateIdeal.nD AdamLateIdeal.τ).loc AdamLateIdeal.main_arg1)) (m ((c.tc : Thread AdamLateIdeal.nD AdamLateIdeal.τ).loc AdamLateIdeal.main_arg2)) (m ((c.tc : Thread AdamLateIdeal.nD AdamLateIdeal.τ).loc AdamLateIdeal.main_arg3)) (m ((c.tc : Thread AdamLateIdeal.nD AdamLateIdeal.τ).loc AdamLateIdeal.main_arg5)),
    fun c => val_main_v33 (F := Ideal) (m ((c.tc : Thread AdamLateIdeal.nD AdamLateIdeal.τ).loc AdamLateIdeal.main_arg1)) (m ((c.tc : Thread AdamLateIdeal.nD AdamLateIdeal.τ).loc AdamLateIdeal.main_arg2)) (m ((c.tc : Thread AdamLateIdeal.nD AdamLateIdeal.τ).loc AdamLateIdeal.main_arg6)),
    fun c => val_main_v35 (F := Ideal) (m ((c.tc : Thread AdamLateIdeal.nD AdamLateIdeal.τ).loc AdamLateIdeal.main_arg1)) (m ((c.tc : Thread AdamLateIdeal.nD AdamLateIdeal.τ).loc AdamLateIdeal.main_arg3)) (m ((c.tc : Thread AdamLateIdeal.nD AdamLateIdeal.τ).loc AdamLateIdeal.main_arg7)), ?_, ?_⟩
  · refine (θ_run _ _ _).mono (fun r h c => ?_) (AdamLateIdeal.Value.run_blocks m g)
    refine ⟨(h c).1.trans ?_, (h c).2.1.trans ?_, (h c).2.2.1.trans ?_, (h c).2.2.2.1.trans ?_, (h c).2.2.2.2⟩
    · exact joined _ _ _ (fun r l => by
        obtain ⟨t, q, e⟩ := row_of r
        exact e ▸ (final4 m c t q l).trans (e ▸ (v1_apply _ r l).symm)) (kept4 m c)
    · exact joined _ _ _ (fun r l => by
        obtain ⟨t, q, e⟩ := row_of r
        exact e ▸ (final5 m c t q l).trans (e ▸ (v27_apply _ _ _ _ r l).symm)) (kept5 m c)
    · exact joined _ _ _ (fun r l => by
        obtain ⟨t, q, e⟩ := row_of r
        exact e ▸ (final6 m c t q l).trans (e ▸ (v8_apply _ _ r l).symm)) (kept6 m c)
    · exact joined _ _ _ (fun r l => by
        obtain ⟨t, q, e⟩ := row_of r
        exact e ▸ (final7 m c t q l).trans (e ▸ (v14_apply _ _ r l).symm)) (kept7 m c)
  · refine (θ_run _ _ _).mono (fun r h c => ?_) (AdamLateRefIdeal.Value.run m' g')
    obtain ⟨e0, e1, e2, e3, e4, e5, e6, e7⟩ := hm c
    refine ⟨(h c).1.trans ((AdamLateRefIdeal.Read.val_main_v29_eq _ _).trans ?_),
      (h c).2.1.trans ((AdamLateRefIdeal.Read.val_main_v31_eq _ _ _ _ _).trans ?_),
      (h c).2.2.1.trans ((AdamLateRefIdeal.Read.val_main_v33_eq _ _ _).trans ?_),
      (h c).2.2.2.1.trans ((AdamLateRefIdeal.Read.val_main_v35_eq _ _ _).trans ?_), (h c).2.2.2.2⟩
    · exact congr (congrArg (val_main_v29 (F := Ideal)) e1) e4
    · exact congr (congr (congr (congr (congrArg (val_main_v31 (F := Ideal)) e0) e1) e2) e3) e5
    · exact congr (congr (congrArg (val_main_v33 (F := Ideal)) e1) e2) e6
    · exact congr (congr (congrArg (val_main_v35 (F := Ideal)) e1) e3) e7

end Cert.Proof

end
-- ==== Proof.lean ====
/- The claims of the training step's calls: one frame per program, and each idealized call against its reference. -/
module

public import proofs.«01_k».proof.Defs
public import proofs.«01_k».proof.Proof.Gen.ConvBwd.Frame
public import proofs.«01_k».proof.Proof.Gen.ConvBwdIdeal.Frame
public import proofs.«01_k».proof.Proof.Gen.ConvBwdIdeal.Value
public import proofs.«01_k».proof.Proof.Gen.ConvRefIdeal.Run
public import proofs.«01_k».proof.Proof.Gen.ConvRefIdeal.Read
public import proofs.«01_k».proof.Proof.Gen.FfnDwd.Frame
public import proofs.«01_k».proof.Proof.Gen.FfnDwdIdeal.Frame
public import proofs.«01_k».proof.Proof.Gen.FfnDwdIdeal.Value
public import proofs.«01_k».proof.Proof.Gen.FfnDwdRefIdeal.Run
public import proofs.«01_k».proof.Proof.Gen.FfnDwdRefIdeal.Read
public import proofs.«01_k».proof.Proof.Gen.FfnDw.Frame
public import proofs.«01_k».proof.Proof.Gen.FfnDwIdeal.Frame
public import proofs.«01_k».proof.Proof.Gen.FfnDwIdeal.Value
public import proofs.«01_k».proof.Proof.Gen.FfnDwRefIdeal.Run
public import proofs.«01_k».proof.Proof.Gen.FfnDwRefIdeal.Read
public import proofs.«01_k».proof.Proof.Gen.FfnDh.Frame
public import proofs.«01_k».proof.Proof.Gen.FfnDhIdeal.Frame
public import proofs.«01_k».proof.Proof.Gen.FfnDhIdeal.Value
public import proofs.«01_k».proof.Proof.Gen.FfnDhRefIdeal.Run
public import proofs.«01_k».proof.Proof.Gen.FfnDhRefIdeal.Read
public import proofs.«01_k».proof.Proof.Gen.FfnDs.Frame
public import proofs.«01_k».proof.Proof.Gen.FfnDsIdeal.Frame
public import proofs.«01_k».proof.Proof.Gen.FfnDsIdeal.Value
public import proofs.«01_k».proof.Proof.Gen.FfnDsRefIdeal.Run
public import proofs.«01_k».proof.Proof.Gen.FfnDsRefIdeal.Read
public import proofs.«01_k».proof.Proof.Gen.FfnGate.Frame
public import proofs.«01_k».proof.Proof.Gen.FfnGateIdeal.Frame
public import proofs.«01_k».proof.Proof.Gen.FfnGateIdeal.Value
public import proofs.«01_k».proof.Proof.Gen.FfnGateRefIdeal.Run
public import proofs.«01_k».proof.Proof.Gen.FfnGateRefIdeal.Read
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.XaDo.Frame
public import proofs.«01_k».proof.Proof.Gen.XaDoIdeal.Frame
public import proofs.«01_k».proof.Proof.Gen.XaDoIdeal.Value
public import proofs.«01_k».proof.Proof.Gen.XaDoRefIdeal.Run
public import proofs.«01_k».proof.Proof.Gen.XaDoRefIdeal.Read
public import proofs.«01_k».proof.Proof.Gen.XaDhq.Frame
public import proofs.«01_k».proof.Proof.Gen.XaDhqIdeal.Frame
public import proofs.«01_k».proof.Proof.Gen.XaDhqIdeal.Value
public import proofs.«01_k».proof.Proof.Gen.XaDhqRefIdeal.Run
public import proofs.«01_k».proof.Proof.Gen.XaDhqRefIdeal.Read
public import proofs.«01_k».proof.Proof.Gen.XaDmn.Frame
public import proofs.«01_k».proof.Proof.Gen.XaDmnIdeal.Frame
public import proofs.«01_k».proof.Proof.Gen.XaDmnIdeal.Value
public import proofs.«01_k».proof.Proof.Gen.XaDmnRefIdeal.Run
public import proofs.«01_k».proof.Proof.Gen.XaDmnRefIdeal.Read
public import proofs.«01_k».proof.Proof.Gen.XaDw.Frame
public import proofs.«01_k».proof.Proof.Gen.XaDwIdeal.Frame
public import proofs.«01_k».proof.Proof.Gen.XaDwIdeal.Value
public import proofs.«01_k».proof.Proof.Gen.XaDwRefIdeal.Run
public import proofs.«01_k».proof.Proof.Gen.XaDwRefIdeal.Read
public import proofs.«01_k».proof.Proof.Gen.XaDwkv.Frame
public import proofs.«01_k».proof.Proof.Gen.XaDwkvIdeal.Frame
public import proofs.«01_k».proof.Proof.Gen.XaDwkvIdeal.Value
public import proofs.«01_k».proof.Proof.Gen.XaDwkvRefIdeal.Run
public import proofs.«01_k».proof.Proof.Gen.XaDwkvRefIdeal.Read
public import proofs.«01_k».proof.Proof.Gen.XaBwd.Frame
public import proofs.«01_k».proof.Proof.Gen.XaBwdIdeal.Frame
public import proofs.«01_k».proof.Proof.Gen.XaBwdIdeal.Value
public import proofs.«01_k».proof.Proof.Gen.XaRefIdeal.Run
public import proofs.«01_k».proof.Proof.Gen.XaRefIdeal.Read
public import proofs.«01_k».proof.Proof.Gen.MixDwin.Frame
public import proofs.«01_k».proof.Proof.Gen.MixDwinIdeal.Frame
public import proofs.«01_k».proof.Proof.Gen.MixDwinIdeal.Value
public import proofs.«01_k».proof.Proof.Gen.MixDwinRefIdeal.Run
public import proofs.«01_k».proof.Proof.Gen.MixDwinRefIdeal.Read
public import proofs.«01_k».proof.Proof.Gen.MixDh.Frame
public import proofs.«01_k».proof.Proof.Gen.MixDhIdeal.Frame
public import proofs.«01_k».proof.Proof.Gen.MixDhIdeal.Value
public import proofs.«01_k».proof.Proof.Gen.MixDhRefIdeal.Run
public import proofs.«01_k».proof.Proof.Gen.MixDhRefIdeal.Read
public import proofs.«01_k».proof.Proof.Gen.NormBwd.Frame
public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.XaQ.Frame
public import proofs.«01_k».proof.Proof.Gen.XaQIdeal.Frame
public import proofs.«01_k».proof.Proof.Gen.XaQIdeal.Value
public import proofs.«01_k».proof.Proof.Gen.XaQRefIdeal.Run
public import proofs.«01_k».proof.Proof.Gen.XaQRefIdeal.Read
public import proofs.«01_k».proof.Proof.Gen.XaKv.Frame
public import proofs.«01_k».proof.Proof.Gen.XaKvIdeal.Frame
public import proofs.«01_k».proof.Proof.Gen.XaKvIdeal.Value
public import proofs.«01_k».proof.Proof.Gen.XaKvRefIdeal.Run
public import proofs.«01_k».proof.Proof.Gen.XaKvRefIdeal.Read
public import proofs.«01_k».proof.Proof.Gen.XaO.Frame
public import proofs.«01_k».proof.Proof.Gen.XaOIdeal.Frame
public import proofs.«01_k».proof.Proof.Gen.XaOIdeal.Value
public import proofs.«01_k».proof.Proof.Gen.XaORefIdeal.Run
public import proofs.«01_k».proof.Proof.Gen.XaORefIdeal.Read
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.MixIn.Frame
public import proofs.«01_k».proof.Proof.Gen.MixInIdeal.Frame
public import proofs.«01_k».proof.Proof.Gen.MixInIdeal.Value
public import proofs.«01_k».proof.Proof.Gen.MixInRefIdeal.Run
public import proofs.«01_k».proof.Proof.Gen.MixInRefIdeal.Read
public import proofs.«01_k».proof.Proof.Gen.XaAttn.Frame
public import proofs.«01_k».proof.Proof.Gen.XaAttnIdeal.Frame
public import proofs.«01_k».proof.Proof.Gen.XaAttnIdeal.Value
public import proofs.«01_k».proof.Proof.Gen.XaAttnRefIdeal.Run
public import proofs.«01_k».proof.Proof.Gen.XaAttnRefIdeal.Read
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.NormKv.Frame
public import proofs.«01_k».proof.Proof.Gen.NormKvIdeal.Frame
public import proofs.«01_k».proof.Proof.Gen.NormKvIdeal.Value
public import proofs.«01_k».proof.Proof.Gen.NormKvRefIdeal.Run
public import proofs.«01_k».proof.Proof.Gen.NormKvRefIdeal.Read
public import proofs.«01_k».proof.Proof.Gen.Final.Frame
public import proofs.«01_k».proof.Proof.Gen.FinalIdeal.Frame
public import proofs.«01_k».proof.Proof.Gen.FinalIdeal.Value
public import proofs.«01_k».proof.Proof.Gen.FinalRefIdeal.Run
public import proofs.«01_k».proof.Proof.Gen.FinalRefIdeal.Read
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.AdamPool.Frame
public import proofs.«01_k».proof.Proof.Gen.AdamPoolIdeal.Frame
public import proofs.«01_k».proof.Proof.Gen.AdamPoolIdeal.Value
public import proofs.«01_k».proof.Proof.Gen.AdamPoolRefIdeal.Run
public import proofs.«01_k».proof.Proof.Gen.AdamPoolRefIdeal.Read
public import proofs.«01_k».proof.Proof.Gen.PoolBwd1.Frame
public import proofs.«01_k».proof.Proof.Gen.PoolBwd1Ideal.Frame
public import proofs.«01_k».proof.Proof.Gen.PoolBwd1Ideal.Value
public import proofs.«01_k».proof.Proof.Gen.PoolBwd1RefIdeal.Run
public import proofs.«01_k».proof.Proof.Gen.PoolBwd1RefIdeal.Read
public import proofs.«01_k».proof.Proof.Gen.PoolDd.Frame
public import proofs.«01_k».proof.Proof.Gen.PoolDdIdeal.Frame
public import proofs.«01_k».proof.Proof.Gen.PoolDdIdeal.Value
public import proofs.«01_k».proof.Proof.Gen.PoolDdRefIdeal.Run
public import proofs.«01_k».proof.Proof.Gen.PoolDdRefIdeal.Read
public import proofs.«01_k».proof.Proof.Gen.PoolDw.Frame
public import proofs.«01_k».proof.Proof.Gen.PoolDwIdeal.Frame
public import proofs.«01_k».proof.Proof.Gen.PoolDwIdeal.Value
public import proofs.«01_k».proof.Proof.Gen.PoolDwRefIdeal.Run
public import proofs.«01_k».proof.Proof.Gen.PoolDwRefIdeal.Read
public import proofs.«01_k».proof.Proof.Gen.PoolMm.Frame
public import proofs.«01_k».proof.Proof.Gen.PoolMmIdeal.Frame
public import proofs.«01_k».proof.Proof.Gen.PoolMmIdeal.Value
public import proofs.«01_k».proof.Proof.Gen.PoolMmRefIdeal.Run
public import proofs.«01_k».proof.Proof.Gen.PoolMmRefIdeal.Read
public import proofs.«01_k».proof.Proof.Gen.AdamEarly.Frame
public import proofs.«01_k».proof.Proof.Gen.AdamEarlyIdeal.Frame
public import proofs.«01_k».proof.Proof.Gen.AdamEarlyRefIdeal.Run
public import proofs.«01_k».proof.Proof.Gen.AdamEarlyRefIdeal.Read
public import proofs.«01_k».proof.Proof.Gen.AdamLate.Frame
public import proofs.«01_k».proof.Proof.Gen.AdamLateIdeal.Frame
public import proofs.«01_k».proof.Proof.Gen.AdamLateIdeal.Value
public import proofs.«01_k».proof.Proof.Gen.AdamLateRefIdeal.Run
public import proofs.«01_k».proof.Proof.Gen.AdamLateRefIdeal.Read
public import proofs.«01_k».proof.Proof.ConvClaim
public import proofs.«01_k».proof.Proof.FfnDwd
public import proofs.«01_k».proof.Proof.FfnDw
public import proofs.«01_k».proof.Proof.FfnDh
public import proofs.«01_k».proof.Proof.FfnDs
public import proofs.«01_k».proof.Proof.FfnGate
public import proofs.«01_k».proof.Proof.FfnUp
public import proofs.«01_k».proof.Proof.FfnDown
public import proofs.«01_k».proof.Proof.XaDo
public import proofs.«01_k».proof.Proof.XaDhq
public import proofs.«01_k».proof.Proof.XaDmn
public import proofs.«01_k».proof.Proof.XaDw
public import proofs.«01_k».proof.Proof.XaDwkv
public import proofs.«01_k».proof.Proof.XaBwd
public import proofs.«01_k».proof.Proof.MixDwin
public import proofs.«01_k».proof.Proof.MixDh
public import proofs.«01_k».proof.Proof.NormBwd
public import proofs.«01_k».proof.Proof.XaQ
public import proofs.«01_k».proof.Proof.XaKv
public import proofs.«01_k».proof.Proof.XaO
public import proofs.«01_k».proof.Proof.MixOut
public import proofs.«01_k».proof.Proof.MixIn
public import proofs.«01_k».proof.Proof.XaAttn
public import proofs.«01_k».proof.Proof.NormFwd
public import proofs.«01_k».proof.Proof.NormKv
public import proofs.«01_k».proof.Proof.Final
public import proofs.«01_k».proof.Proof.AdamSmall
public import proofs.«01_k».proof.Proof.AdamPool
public import proofs.«01_k».proof.Proof.PoolBwd1
public import proofs.«01_k».proof.Proof.PoolDd
public import proofs.«01_k».proof.Proof.PoolDw
public import proofs.«01_k».proof.Proof.PoolMm
public import proofs.«01_k».proof.Proof.AdamEarly
public import proofs.«01_k».proof.Proof.AdamLate
public import Idealize.ShloMosaic.Lib.Quiescent
public import Idealize.ShloMosaic.Adequacy
public import Idealize.ShloMosaic.Init

@[expose] public section

noncomputable section

namespace Cert.Proof

open Idealize.ShloMosaic Idealize.SL.Sem

theorem finite_facts : Cert.Pre_finite.Facts := ⟨by decide, by decide, by decide, by decide⟩

theorem finite_scores_facts : Cert.Pre_finite_scores.Facts := ⟨by decide, by decide, by decide⟩

theorem claim : Cert.Claim :=
  ⟨Cert.ConvBwd.Gen.facts, Cert.ConvBwdIdeal.Gen.facts, Cert.ConvRefIdeal.Gen.facts, Cert.FfnDwd.Gen.facts, Cert.FfnDwdIdeal.Gen.facts, Cert.FfnDwdRefIdeal.Gen.facts, Cert.FfnDw.Gen.facts, Cert.FfnDwIdeal.Gen.facts, Cert.FfnDwRefIdeal.Gen.facts, Cert.FfnDh.Gen.facts, Cert.FfnDhIdeal.Gen.facts, Cert.FfnDhRefIdeal.Gen.facts, Cert.FfnDs.Gen.facts, Cert.FfnDsIdeal.Gen.facts, Cert.FfnDsRefIdeal.Gen.facts, Cert.FfnGate.Gen.facts, Cert.FfnGateIdeal.Gen.facts, Cert.FfnGateRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.XaDo.Gen.facts, Cert.XaDoIdeal.Gen.facts, Cert.XaDoRefIdeal.Gen.facts, Cert.XaDhq.Gen.facts, Cert.XaDhqIdeal.Gen.facts, Cert.XaDhqRefIdeal.Gen.facts, Cert.XaDmn.Gen.facts, Cert.XaDmnIdeal.Gen.facts, Cert.XaDmnRefIdeal.Gen.facts, Cert.XaDw.Gen.facts, Cert.XaDwIdeal.Gen.facts, Cert.XaDwRefIdeal.Gen.facts, Cert.XaDwkv.Gen.facts, Cert.XaDwkvIdeal.Gen.facts, Cert.XaDwkvRefIdeal.Gen.facts, Cert.XaBwd.Gen.facts, Cert.XaBwdIdeal.Gen.facts, Cert.XaRefIdeal.Gen.facts, Cert.MixDwin.Gen.facts, Cert.MixDwinIdeal.Gen.facts, Cert.MixDwinRefIdeal.Gen.facts, Cert.MixDh.Gen.facts, Cert.MixDhIdeal.Gen.facts, Cert.MixDhRefIdeal.Gen.facts, Cert.NormBwd.Gen.facts, Cert.NormBwdIdeal.Gen.facts, Cert.NormBwdRefIdeal.Gen.facts, Cert.XaQ.Gen.facts, Cert.XaQIdeal.Gen.facts, Cert.XaQRefIdeal.Gen.facts, Cert.XaKv.Gen.facts, Cert.XaKvIdeal.Gen.facts, Cert.XaKvRefIdeal.Gen.facts, Cert.XaO.Gen.facts, Cert.XaOIdeal.Gen.facts, Cert.XaORefIdeal.Gen.facts, Cert.MixOut.Gen.facts, Cert.MixOutIdeal.Gen.facts, Cert.MixOutRefIdeal.Gen.facts, Cert.MixIn.Gen.facts, Cert.MixInIdeal.Gen.facts, Cert.MixInRefIdeal.Gen.facts, Cert.XaAttn.Gen.facts, Cert.XaAttnIdeal.Gen.facts, Cert.XaAttnRefIdeal.Gen.facts, Cert.NormFwd.Gen.facts, Cert.NormFwdIdeal.Gen.facts, Cert.NormFwdRefIdeal.Gen.facts, Cert.NormKv.Gen.facts, Cert.NormKvIdeal.Gen.facts, Cert.NormKvRefIdeal.Gen.facts, Cert.Final.Gen.facts, Cert.FinalIdeal.Gen.facts, Cert.FinalRefIdeal.Gen.facts, Cert.AdamSmall.Gen.facts, Cert.AdamSmallIdeal.Gen.facts, Cert.AdamSmallRefIdeal.Gen.facts, Cert.AdamPool.Gen.facts, Cert.AdamPoolIdeal.Gen.facts, Cert.AdamPoolRefIdeal.Gen.facts, Cert.PoolBwd1.Gen.facts, Cert.PoolBwd1Ideal.Gen.facts, Cert.PoolBwd1RefIdeal.Gen.facts, Cert.PoolDd.Gen.facts, Cert.PoolDdIdeal.Gen.facts, Cert.PoolDdRefIdeal.Gen.facts, Cert.PoolDw.Gen.facts, Cert.PoolDwIdeal.Gen.facts, Cert.PoolDwRefIdeal.Gen.facts, Cert.PoolMm.Gen.facts, Cert.PoolMmIdeal.Gen.facts, Cert.PoolMmRefIdeal.Gen.facts, Cert.AdamEarly.Gen.facts, Cert.AdamEarlyIdeal.Gen.facts, Cert.AdamEarlyRefIdeal.Gen.facts, Cert.AdamLate.Gen.facts, Cert.AdamLateIdeal.Gen.facts, Cert.AdamLateRefIdeal.Gen.facts, finite_facts, finite_scores_facts,
    fun m ρ _ => Cert.ConvBwd.Gen.frame m ρ,
    fun m ρ _ => Cert.ConvBwdIdeal.Gen.frame m ρ,
    fun m ρ _ => (θ_run _ _ _).mono (fun _ h => ⟨fun c => (h c).2.2, sem_eq_zero_of_no_sems rfl _⟩) (Cert.ConvRefIdeal.Value.run m ρ),
    fun m ρ _ => Cert.FfnDwd.Gen.frame m ρ,
    fun m ρ _ => Cert.FfnDwdIdeal.Gen.frame m ρ,
    fun m ρ _ => (θ_run _ _ _).mono (fun _ h => ⟨fun c => (h c).2, sem_eq_zero_of_no_sems rfl _⟩) (Cert.FfnDwdRefIdeal.Value.run m ρ),
    fun m ρ _ => Cert.FfnDw.Gen.frame m ρ,
    fun m ρ _ => Cert.FfnDwIdeal.Gen.frame m ρ,
    fun m ρ _ => (θ_run _ _ _).mono (fun _ h => ⟨fun c => (h c).2, sem_eq_zero_of_no_sems rfl _⟩) (Cert.FfnDwRefIdeal.Value.run m ρ),
    fun m ρ _ => Cert.FfnDh.Gen.frame m ρ,
    fun m ρ _ => Cert.FfnDhIdeal.Gen.frame m ρ,
    fun m ρ _ => (θ_run _ _ _).mono (fun _ h => ⟨fun c => (h c).2, sem_eq_zero_of_no_sems rfl _⟩) (Cert.FfnDhRefIdeal.Value.run m ρ),
    fun m ρ _ => Cert.FfnDs.Gen.frame m ρ,
    fun m ρ _ => Cert.FfnDsIdeal.Gen.frame m ρ,
    fun m ρ _ => Cert.FfnDsIdeal.Gen.frame m ρ,
    fun m ρ _ => (θ_run _ _ _).mono (fun _ h => ⟨fun c => (h c).2.2, sem_eq_zero_of_no_sems rfl _⟩) (Cert.FfnDsRefIdeal.Value.run m ρ),
    fun m ρ _ => (θ_run _ _ _).mono (fun _ h => ⟨fun c => (h c).2.2, sem_eq_zero_of_no_sems rfl _⟩) (Cert.FfnDsRefIdeal.Value.run m ρ),
    fun m ρ _ => Cert.FfnGate.Gen.frame m ρ,
    fun m ρ _ => Cert.FfnGateIdeal.Gen.frame m ρ,
    fun m ρ _ => (θ_run _ _ _).mono (fun _ h => ⟨fun c => (h c).2, sem_eq_zero_of_no_sems rfl _⟩) (Cert.FfnGateRefIdeal.Value.run m ρ),
    fun m ρ _ => Cert.FfnUp.Gen.frame m ρ,
    fun m ρ _ => Cert.FfnUpIdeal.Gen.frame m ρ,
    fun m ρ _ => (θ_run _ _ _).mono (fun _ h => ⟨fun c => (h c).2.2, sem_eq_zero_of_no_sems rfl _⟩) (Cert.FfnUpRefIdeal.Value.run m ρ),
    fun m ρ _ => Cert.FfnDown.Gen.frame m ρ,
    fun m ρ _ => Cert.FfnDownIdeal.Gen.frame m ρ,
    fun m ρ _ => (θ_run _ _ _).mono (fun _ h => ⟨fun c => (h c).2, sem_eq_zero_of_no_sems rfl _⟩) (Cert.FfnDownRefIdeal.Value.run m ρ),
    fun m ρ _ => Cert.XaDo.Gen.frame m ρ,
    fun m ρ _ => Cert.XaDoIdeal.Gen.frame m ρ,
    fun m ρ _ => (θ_run _ _ _).mono (fun _ h => ⟨fun c => (h c).2, sem_eq_zero_of_no_sems rfl _⟩) (Cert.XaDoRefIdeal.Value.run m ρ),
    fun m ρ _ => Cert.XaDhq.Gen.frame m ρ,
    fun m ρ _ => Cert.XaDhqIdeal.Gen.frame m ρ,
    fun m ρ _ => (θ_run _ _ _).mono (fun _ h => ⟨fun c => (h c).2, sem_eq_zero_of_no_sems rfl _⟩) (Cert.XaDhqRefIdeal.Value.run m ρ),
    fun m ρ _ => Cert.XaDmn.Gen.frame m ρ,
    fun m ρ _ => Cert.XaDmnIdeal.Gen.frame m ρ,
    fun m ρ _ => (θ_run _ _ _).mono (fun _ h => ⟨fun c => (h c).2, sem_eq_zero_of_no_sems rfl _⟩) (Cert.XaDmnRefIdeal.Value.run m ρ),
    fun m ρ _ => Cert.XaDw.Gen.frame m ρ,
    fun m ρ _ => Cert.XaDwIdeal.Gen.frame m ρ,
    fun m ρ _ => (θ_run _ _ _).mono (fun _ h => ⟨fun c => (h c).2, sem_eq_zero_of_no_sems rfl _⟩) (Cert.XaDwRefIdeal.Value.run m ρ),
    fun m ρ _ => Cert.XaDwkv.Gen.frame m ρ,
    fun m ρ _ => Cert.XaDwkvIdeal.Gen.frame m ρ,
    fun m ρ _ => (θ_run _ _ _).mono (fun _ h => ⟨fun c => (h c).2.2, sem_eq_zero_of_no_sems rfl _⟩) (Cert.XaDwkvRefIdeal.Value.run m ρ),
    fun m ρ _ => Cert.XaBwd.Gen.frame m ρ,
    fun m ρ _ => Cert.XaBwdIdeal.Gen.frame m ρ,
    fun m ρ _ => Cert.XaBwdIdeal.Gen.frame m ρ,
    fun m ρ _ => (θ_run _ _ _).mono (fun _ h => ⟨fun c => (h c).2.2.2, sem_eq_zero_of_no_sems rfl _⟩) (Cert.XaRefIdeal.Value.run m ρ),
    fun m ρ _ => (θ_run _ _ _).mono (fun _ h => ⟨fun c => (h c).2.2.2, sem_eq_zero_of_no_sems rfl _⟩) (Cert.XaRefIdeal.Value.run m ρ),
    fun m ρ _ => Cert.MixDwin.Gen.frame m ρ,
    fun m ρ _ => Cert.MixDwinIdeal.Gen.frame m ρ,
    fun m ρ _ => (θ_run _ _ _).mono (fun _ h => ⟨fun c => (h c).2, sem_eq_zero_of_no_sems rfl _⟩) (Cert.MixDwinRefIdeal.Value.run m ρ),
    fun m ρ _ => Cert.MixDh.Gen.frame m ρ,
    fun m ρ _ => Cert.MixDhIdeal.Gen.frame m ρ,
    fun m ρ _ => (θ_run _ _ _).mono (fun _ h => ⟨fun c => (h c).2, sem_eq_zero_of_no_sems rfl _⟩) (Cert.MixDhRefIdeal.Value.run m ρ),
    fun m ρ _ => Cert.NormBwd.Gen.frame m ρ,
    fun m ρ _ => Cert.NormBwdIdeal.Gen.frame m ρ,
    fun m ρ _ => (θ_run _ _ _).mono (fun _ h => ⟨fun c => (h c).2.2.2, sem_eq_zero_of_no_sems rfl _⟩) (Cert.NormBwdRefIdeal.Value.run m ρ),
    fun m ρ _ => Cert.XaQ.Gen.frame m ρ,
    fun m ρ _ => Cert.XaQIdeal.Gen.frame m ρ,
    fun m ρ _ => (θ_run _ _ _).mono (fun _ h => ⟨fun c => (h c).2, sem_eq_zero_of_no_sems rfl _⟩) (Cert.XaQRefIdeal.Value.run m ρ),
    fun m ρ _ => Cert.XaKv.Gen.frame m ρ,
    fun m ρ _ => Cert.XaKvIdeal.Gen.frame m ρ,
    fun m ρ _ => (θ_run _ _ _).mono (fun _ h => ⟨fun c => (h c).2, sem_eq_zero_of_no_sems rfl _⟩) (Cert.XaKvRefIdeal.Value.run m ρ),
    fun m ρ _ => Cert.XaO.Gen.frame m ρ,
    fun m ρ _ => Cert.XaOIdeal.Gen.frame m ρ,
    fun m ρ _ => (θ_run _ _ _).mono (fun _ h => ⟨fun c => (h c).2, sem_eq_zero_of_no_sems rfl _⟩) (Cert.XaORefIdeal.Value.run m ρ),
    fun m ρ _ => Cert.MixOut.Gen.frame m ρ,
    fun m ρ _ => Cert.MixOutIdeal.Gen.frame m ρ,
    fun m ρ _ => (θ_run _ _ _).mono (fun _ h => ⟨fun c => (h c).2, sem_eq_zero_of_no_sems rfl _⟩) (Cert.MixOutRefIdeal.Value.run m ρ),
    fun m ρ _ => Cert.MixIn.Gen.frame m ρ,
    fun m ρ _ => Cert.MixInIdeal.Gen.frame m ρ,
    fun m ρ _ => (θ_run _ _ _).mono (fun _ h => ⟨fun c => (h c).2, sem_eq_zero_of_no_sems rfl _⟩) (Cert.MixInRefIdeal.Value.run m ρ),
    fun m ρ _ => Cert.XaAttn.Gen.frame m ρ,
    fun m ρ _ => Cert.XaAttnIdeal.Gen.frame m ρ,
    fun m ρ _ => (θ_run _ _ _).mono (fun _ h => ⟨fun c => (h c).2, sem_eq_zero_of_no_sems rfl _⟩) (Cert.XaAttnRefIdeal.Value.run m ρ),
    fun m ρ _ => Cert.NormFwd.Gen.frame m ρ,
    fun m ρ _ => Cert.NormFwdIdeal.Gen.frame m ρ,
    fun m ρ _ => (θ_run _ _ _).mono (fun _ h => ⟨fun c => (h c).2, sem_eq_zero_of_no_sems rfl _⟩) (Cert.NormFwdRefIdeal.Value.run m ρ),
    fun m ρ _ => Cert.NormKv.Gen.frame m ρ,
    fun m ρ _ => Cert.NormKvIdeal.Gen.frame m ρ,
    fun m ρ _ => (θ_run _ _ _).mono (fun _ h => ⟨fun c => (h c).2, sem_eq_zero_of_no_sems rfl _⟩) (Cert.NormKvRefIdeal.Value.run m ρ),
    fun m ρ _ => Cert.Final.Gen.frame m ρ,
    fun m ρ _ => Cert.FinalIdeal.Gen.frame m ρ,
    fun m ρ _ => (θ_run _ _ _).mono (fun _ h => ⟨fun c => (h c).2.2.2.2, sem_eq_zero_of_no_sems rfl _⟩) (Cert.FinalRefIdeal.Value.run m ρ),
    fun m ρ _ => Cert.AdamSmall.Gen.frame m ρ,
    fun m ρ _ => Cert.AdamSmallIdeal.Gen.frame m ρ,
    fun m ρ _ => (θ_run _ _ _).mono (fun _ h => ⟨fun c => (h c).2.2.2, sem_eq_zero_of_no_sems rfl _⟩) (Cert.AdamSmallRefIdeal.Value.run m ρ),
    fun m ρ _ => Cert.AdamPool.Gen.frame m ρ,
    fun m ρ _ => Cert.AdamPoolIdeal.Gen.frame m ρ,
    fun m ρ _ => (θ_run _ _ _).mono (fun _ h => ⟨fun c => (h c).2.2.2.2, sem_eq_zero_of_no_sems rfl _⟩) (Cert.AdamPoolRefIdeal.Value.run m ρ),
    fun m ρ _ => Cert.PoolBwd1.Gen.frame m ρ,
    fun m ρ _ => Cert.PoolBwd1Ideal.Gen.frame m ρ,
    fun m ρ _ => (θ_run _ _ _).mono (fun _ h => ⟨fun c => (h c).2.2.2, sem_eq_zero_of_no_sems rfl _⟩) (Cert.PoolBwd1RefIdeal.Value.run m ρ),
    fun m ρ _ => Cert.PoolDd.Gen.frame m ρ,
    fun m ρ _ => Cert.PoolDdIdeal.Gen.frame m ρ,
    fun m ρ _ => (θ_run _ _ _).mono (fun _ h => ⟨fun c => (h c).2, sem_eq_zero_of_no_sems rfl _⟩) (Cert.PoolDdRefIdeal.Value.run m ρ),
    fun m ρ _ => Cert.PoolDw.Gen.frame m ρ,
    fun m ρ _ => Cert.PoolDwIdeal.Gen.frame m ρ,
    fun m ρ _ => (θ_run _ _ _).mono (fun _ h => ⟨fun c => (h c).2, sem_eq_zero_of_no_sems rfl _⟩) (Cert.PoolDwRefIdeal.Value.run m ρ),
    fun m ρ _ => Cert.PoolMm.Gen.frame m ρ,
    fun m ρ _ => Cert.PoolMmIdeal.Gen.frame m ρ,
    fun m ρ _ => (θ_run _ _ _).mono (fun _ h => ⟨fun c => (h c).2.2, sem_eq_zero_of_no_sems rfl _⟩) (Cert.PoolMmRefIdeal.Value.run m ρ),
    fun m ρ _ => Cert.AdamEarly.Gen.frame m ρ,
    fun m ρ _ => Cert.AdamEarlyIdeal.Gen.frame m ρ,
    fun m ρ _ => (θ_run _ _ _).mono (fun _ h => ⟨fun c => (h c).2.2.2.2, sem_eq_zero_of_no_sems rfl _⟩) (Cert.AdamEarlyRefIdeal.Value.run m ρ),
    fun m ρ _ => Cert.AdamLate.Gen.frame m ρ,
    fun m ρ _ => Cert.AdamLateIdeal.Gen.frame m ρ,
    fun m ρ _ => (θ_run _ _ _).mono (fun _ h => ⟨fun c => (h c).2.2.2.2, sem_eq_zero_of_no_sems rfl _⟩) (Cert.AdamLateRefIdeal.Value.run m ρ),
    trivial, conv_algebraic, trivial, ffn_dwd_algebraic, trivial, ffn_dw_algebraic, trivial, ffn_dh_algebraic, trivial, @ffn_ds_algebraic finite_facts, trivial, ffn_gate_algebraic, trivial, ffn_up_algebraic, trivial, ffn_down_algebraic, trivial, xa_do_algebraic, trivial, xa_dhq_algebraic, trivial, xa_dmn_algebraic, trivial, xa_dw_algebraic, trivial, xa_dwkv_algebraic, trivial, @xa_bwd_algebraic finite_scores_facts, trivial, mix_dwin_algebraic, trivial, mix_dh_algebraic, trivial, norm_bwd_algebraic, trivial, xa_q_algebraic, trivial, xa_kv_algebraic, trivial, xa_o_algebraic, trivial, mix_out_algebraic, trivial, mix_in_algebraic, trivial, xa_attn_algebraic, trivial, norm_fwd_algebraic, trivial, norm_kv_algebraic, trivial, final_algebraic, trivial, adam_small_algebraic, trivial, adam_pool_algebraic, trivial, pool_bwd1_algebraic, trivial, pool_dd_algebraic, trivial, pool_dw_algebraic, trivial, pool_mm_algebraic, trivial, adam_early_algebraic, trivial, adam_late_algebraic⟩

end Cert.Proof

end
